-- ==== Defs.lean ====
def Pre_CtxBwd (m : (ℓ : Loc Cert.CtxBwd.nD Cert.CtxBwd.τ Cert.CtxBwd.sig) → Buf (Elt Bits) ℓ) : Prop :=
  True

def Pre_CtxBwdIdeal (m : (ℓ : Loc Cert.CtxBwdIdeal.nD Cert.CtxBwdIdeal.τ Cert.CtxBwdIdeal.sig) → Buf (Elt Ideal) ℓ) : Prop :=
  True

def Pre_CtxRefIdeal (m : (ℓ : Loc Cert.CtxRefIdeal.nD Cert.CtxRefIdeal.τ Cert.CtxRefIdeal.sig) → Buf (Elt Ideal) ℓ) : Prop :=
  True

def Pre_DhBwd (m : (ℓ : Loc Cert.DhBwd.nD Cert.DhBwd.τ Cert.DhBwd.sig) → Buf (Elt Bits) ℓ) : Prop :=
  True

def Pre_DhBwdIdeal (m : (ℓ : Loc Cert.DhBwdIdeal.nD Cert.DhBwdIdeal.τ Cert.DhBwdIdeal.sig) → Buf (Elt Ideal) ℓ) : Prop :=
  True

def Pre_DhRefIdeal (m : (ℓ : Loc Cert.DhRefIdeal.nD Cert.DhRefIdeal.τ Cert.DhRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_DwBwd (m : (ℓ : Loc Cert.DwBwd.nD Cert.DwBwd.τ Cert.DwBwd.sig) → Buf (Elt Bits) ℓ) : Prop :=
  True

def Pre_DwBwdIdeal (m : (ℓ : Loc Cert.DwBwdIdeal.nD Cert.DwBwdIdeal.τ Cert.DwBwdIdeal.sig) → Buf (Elt Ideal) ℓ) : Prop :=
  True

def Pre_DwRefIdeal (m : (ℓ : Loc Cert.DwRefIdeal.nD Cert.DwRefIdeal.τ Cert.DwRefIdeal.sig) → Buf (Elt Ideal) ℓ) : Prop :=
  True

def Pre_CtxFwd (m : (ℓ : Loc Cert.CtxFwd.nD Cert.CtxFwd.τ Cert.CtxFwd.sig) → Buf (Elt Bits) ℓ) : Prop :=
  True

def Pre_CtxFwdIdeal (m : (ℓ : Loc Cert.CtxFwdIdeal.nD Cert.CtxFwdIdeal.τ Cert.CtxFwdIdeal.sig) → Buf (Elt Ideal) ℓ) : Prop :=
  True

def Pre_CtxFwdRefIdeal (m : (ℓ : Loc Cert.CtxFwdRefIdeal.nD Cert.CtxFwdRefIdeal.τ Cert.CtxFwdRefIdeal.sig) → Buf (Elt Ideal) ℓ) : Prop :=
  True

def Pre_Reduce (m : (ℓ : Loc Cert.Reduce.nD Cert.Reduce.τ Cert.Reduce.sig) → Buf (Elt Bits) ℓ) : Prop :=
  True

def Pre_ReduceIdeal (m : (ℓ : Loc Cert.ReduceIdeal.nD Cert.ReduceIdeal.τ Cert.ReduceIdeal.sig) → Buf (Elt Ideal) ℓ) : Prop :=
  True

def Pre_ReduceRefIdeal (m : (ℓ : Loc Cert.ReduceRefIdeal.nD Cert.ReduceRefIdeal.τ Cert.ReduceRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamAda (m : (ℓ : Loc Cert.AdamAda.nD Cert.AdamAda.τ Cert.AdamAda.sig) → Buf (Elt Bits) ℓ) : Prop :=
  True

def Pre_AdamAdaIdeal (m : (ℓ : Loc Cert.AdamAdaIdeal.nD Cert.AdamAdaIdeal.τ Cert.AdamAdaIdeal.sig) → Buf (Elt Ideal) ℓ) : Prop :=
  True

def Pre_AdamAdaRefIdeal (m : (ℓ : Loc Cert.AdamAdaRefIdeal.nD Cert.AdamAdaRefIdeal.τ Cert.AdamAdaRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def quiescent_CtxBwd [hCtxBwd : Cert.CtxBwd.Facts] : Prop :=
  ∀ (m : (ℓ : Loc Cert.CtxBwd.nD Cert.CtxBwd.τ Cert.CtxBwd.sig) → Buf (Elt Bits) ℓ) (g : Dev Cert.CtxBwd.nD → PrngReg), Pre_CtxBwd m →
    θ_run (Cert.CtxBwd.defs (F := Bits)) (onTc (τ := Cert.CtxBwd.τ) (Cert.CtxBwd.main (F := Bits))) ⟨m, fun _ => 0, g⟩ (fun r => (∀ c : Dev Cert.CtxBwd.nD,
      r.2.mem ((c.tc : Thread Cert.CtxBwd.nD Cert.CtxBwd.τ).loc Cert.CtxBwd.main_arg0) = m ((c.tc : Thread Cert.CtxBwd.nD Cert.CtxBwd.τ).loc Cert.CtxBwd.main_arg0)
      ∧ r.2.mem ((c.tc : Thread Cert.CtxBwd.nD Cert.CtxBwd.τ).loc Cert.CtxBwd.main_arg1) = m ((c.tc : Thread Cert.CtxBwd.nD Cert.CtxBwd.τ).loc Cert.CtxBwd.main_arg1)
      ∧ r.2.mem ((c.tc : Thread Cert.CtxBwd.nD Cert.CtxBwd.τ).loc Cert.CtxBwd.main_arg2) = m ((c.tc : Thread Cert.CtxBwd.nD Cert.CtxBwd.τ).loc Cert.CtxBwd.main_arg2)
      ∧ r.2.mem ((c.tc : Thread Cert.CtxBwd.nD Cert.CtxBwd.τ).loc Cert.CtxBwd.main_arg3) = m ((c.tc : Thread Cert.CtxBwd.nD Cert.CtxBwd.τ).loc Cert.CtxBwd.main_arg3)
      ∧ r.2.mem ((c.tc : Thread Cert.CtxBwd.nD Cert.CtxBwd.τ).loc Cert.CtxBwd.main_arg4) = m ((c.tc : Thread Cert.CtxBwd.nD Cert.CtxBwd.τ).loc Cert.CtxBwd.main_arg4)
      ∧ r.2.mem ((c.tc : Thread Cert.CtxBwd.nD Cert.CtxBwd.τ).loc Cert.CtxBwd.main_arg5) = m ((c.tc : Thread Cert.CtxBwd.nD Cert.CtxBwd.τ).loc Cert.CtxBwd.main_arg5)
      ∧ r.2.mem ((c.tc : Thread Cert.CtxBwd.nD Cert.CtxBwd.τ).loc Cert.CtxBwd.main_arg6) = m ((c.tc : Thread Cert.CtxBwd.nD Cert.CtxBwd.τ).loc Cert.CtxBwd.main_arg6))
      ∧ r.2.sem = fun _ => 0)

def quiescent_CtxBwdIdeal [hCtxBwdIdeal : Cert.CtxBwdIdeal.Facts] : Prop :=
  ∀ (m : (ℓ : Loc Cert.CtxBwdIdeal.nD Cert.CtxBwdIdeal.τ Cert.CtxBwdIdeal.sig) → Buf (Elt Ideal) ℓ) (g : Dev Cert.CtxBwdIdeal.nD → PrngReg), Pre_CtxBwdIdeal m →
    θ_run (Cert.CtxBwdIdeal.defs (F := Ideal)) (onTc (τ := Cert.CtxBwdIdeal.τ) (Cert.CtxBwdIdeal.main (F := Ideal))) ⟨m, fun _ => 0, g⟩ (fun r => (∀ c : Dev Cert.CtxBwdIdeal.nD,
      r.2.mem ((c.tc : Thread Cert.CtxBwdIdeal.nD Cert.CtxBwdIdeal.τ).loc Cert.CtxBwdIdeal.main_arg0) = m ((c.tc : Thread Cert.CtxBwdIdeal.nD Cert.CtxBwdIdeal.τ).loc Cert.CtxBwdIdeal.main_arg0)
      ∧ r.2.mem ((c.tc : Thread Cert.CtxBwdIdeal.nD Cert.CtxBwdIdeal.τ).loc Cert.CtxBwdIdeal.main_arg1) = m ((c.tc : Thread Cert.CtxBwdIdeal.nD Cert.CtxBwdIdeal.τ).loc Cert.CtxBwdIdeal.main_arg1)
      ∧ r.2.mem ((c.tc : Thread Cert.CtxBwdIdeal.nD Cert.CtxBwdIdeal.τ).loc Cert.CtxBwdIdeal.main_arg2) = m ((c.tc : Thread Cert.CtxBwdIdeal.nD Cert.CtxBwdIdeal.τ).loc Cert.CtxBwdIdeal.main_arg2)
      ∧ r.2.mem ((c.tc : Thread Cert.CtxBwdIdeal.nD Cert.CtxBwdIdeal.τ).loc Cert.CtxBwdIdeal.main_arg3) = m ((c.tc : Thread Cert.CtxBwdIdeal.nD Cert.CtxBwdIdeal.τ).loc Cert.CtxBwdIdeal.main_arg3)
      ∧ r.2.mem ((c.tc : Thread Cert.CtxBwdIdeal.nD Cert.CtxBwdIdeal.τ).loc Cert.CtxBwdIdeal.main_arg4) = m ((c.tc : Thread Cert.CtxBwdIdeal.nD Cert.CtxBwdIdeal.τ).loc Cert.CtxBwdIdeal.main_arg4)
      ∧ r.2.mem ((c.tc : Thread Cert.CtxBwdIdeal.nD Cert.CtxBwdIdeal.τ).loc Cert.CtxBwdIdeal.main_arg5) = m ((c.tc : Thread Cert.CtxBwdIdeal.nD Cert.CtxBwdIdeal.τ).loc Cert.CtxBwdIdeal.main_arg5)
      ∧ r.2.mem ((c.tc : Thread Cert.CtxBwdIdeal.nD Cert.CtxBwdIdeal.τ).loc Cert.CtxBwdIdeal.main_arg6) = m ((c.tc : Thread Cert.CtxBwdIdeal.nD Cert.CtxBwdIdeal.τ).loc Cert.CtxBwdIdeal.main_arg6))
      ∧ r.2.sem = fun _ => 0)

def quiescent_CtxRefIdeal [hCtxRefIdeal : Cert.CtxRefIdeal.Facts] : Prop :=
  ∀ (m : (ℓ : Loc Cert.CtxRefIdeal.nD Cert.CtxRefIdeal.τ Cert.CtxRefIdeal.sig) → Buf (Elt Ideal) ℓ) (g : Dev Cert.CtxRefIdeal.nD → PrngReg), Pre_CtxRefIdeal m →
    θ_run (Cert.CtxRefIdeal.defs (F := Ideal)) (onTc (τ := Cert.CtxRefIdeal.τ) (Cert.CtxRefIdeal.main (F := Ideal))) ⟨m, fun _ => 0, g⟩ (fun r => (∀ c : Dev Cert.CtxRefIdeal.nD,
      r.2.mem ((c.tc : Thread Cert.CtxRefIdeal.nD Cert.CtxRefIdeal.τ).loc Cert.CtxRefIdeal.main_arg0) = m ((c.tc : Thread Cert.CtxRefIdeal.nD Cert.CtxRefIdeal.τ).loc Cert.CtxRefIdeal.main_arg0)
      ∧ r.2.mem ((c.tc : Thread Cert.CtxRefIdeal.nD Cert.CtxRefIdeal.τ).loc Cert.CtxRefIdeal.main_arg1) = m ((c.tc : Thread Cert.CtxRefIdeal.nD Cert.CtxRefIdeal.τ).loc Cert.CtxRefIdeal.main_arg1)
      ∧ r.2.mem ((c.tc : Thread Cert.CtxRefIdeal.nD Cert.CtxRefIdeal.τ).loc Cert.CtxRefIdeal.main_arg2) = m ((c.tc : Thread Cert.CtxRefIdeal.nD Cert.CtxRefIdeal.τ).loc Cert.CtxRefIdeal.main_arg2)
      ∧ r.2.mem ((c.tc : Thread Cert.CtxRefIdeal.nD Cert.CtxRefIdeal.τ).loc Cert.CtxRefIdeal.main_arg3) = m ((c.tc : Thread Cert.CtxRefIdeal.nD Cert.CtxRefIdeal.τ).loc Cert.CtxRefIdeal.main_arg3)
      ∧ r.2.mem ((c.tc : Thread Cert.CtxRefIdeal.nD Cert.CtxRefIdeal.τ).loc Cert.CtxRefIdeal.main_arg4) = m ((c.tc : Thread Cert.CtxRefIdeal.nD Cert.CtxRefIdeal.τ).loc Cert.CtxRefIdeal.main_arg4)
      ∧ r.2.mem ((c.tc : Thread Cert.CtxRefIdeal.nD Cert.CtxRefIdeal.τ).loc Cert.CtxRefIdeal.main_arg5) = m ((c.tc : Thread Cert.CtxRefIdeal.nD Cert.CtxRefIdeal.τ).loc Cert.CtxRefIdeal.main_arg5)
      ∧ r.2.mem ((c.tc : Thread Cert.CtxRefIdeal.nD Cert.CtxRefIdeal.τ).loc Cert.CtxRefIdeal.main_arg6) = m ((c.tc : Thread Cert.CtxRefIdeal.nD Cert.CtxRefIdeal.τ).loc Cert.CtxRefIdeal.main_arg6))
      ∧ r.2.sem = fun _ => 0)

def quiescent_DhBwd [hDhBwd : Cert.DhBwd.Facts] : Prop :=
  ∀ (m : (ℓ : Loc Cert.DhBwd.nD Cert.DhBwd.τ Cert.DhBwd.sig) → Buf (Elt Bits) ℓ) (g : Dev Cert.DhBwd.nD → PrngReg), Pre_DhBwd m →
    θ_run (Cert.DhBwd.defs (F := Bits)) (onTc (τ := Cert.DhBwd.τ) (Cert.DhBwd.main (F := Bits))) ⟨m, fun _ => 0, g⟩ (fun r => (∀ c : Dev Cert.DhBwd.nD,
      r.2.mem ((c.tc : Thread Cert.DhBwd.nD Cert.DhBwd.τ).loc Cert.DhBwd.main_arg0) = m ((c.tc : Thread Cert.DhBwd.nD Cert.DhBwd.τ).loc Cert.DhBwd.main_arg0)
      ∧ r.2.mem ((c.tc : Thread Cert.DhBwd.nD Cert.DhBwd.τ).loc Cert.DhBwd.main_arg1) = m ((c.tc : Thread Cert.DhBwd.nD Cert.DhBwd.τ).loc Cert.DhBwd.main_arg1)
      ∧ r.2.mem ((c.tc : Thread Cert.DhBwd.nD Cert.DhBwd.τ).loc Cert.DhBwd.main_arg2) = m ((c.tc : Thread Cert.DhBwd.nD Cert.DhBwd.τ).loc Cert.DhBwd.main_arg2)
      ∧ r.2.mem ((c.tc : Thread Cert.DhBwd.nD Cert.DhBwd.τ).loc Cert.DhBwd.main_arg3) = m ((c.tc : Thread Cert.DhBwd.nD Cert.DhBwd.τ).loc Cert.DhBwd.main_arg3)
      ∧ r.2.mem ((c.tc : Thread Cert.DhBwd.nD Cert.DhBwd.τ).loc Cert.DhBwd.main_arg4) = m ((c.tc : Thread Cert.DhBwd.nD Cert.DhBwd.τ).loc Cert.DhBwd.main_arg4)
      ∧ r.2.mem ((c.tc : Thread Cert.DhBwd.nD Cert.DhBwd.τ).loc Cert.DhBwd.main_arg5) = m ((c.tc : Thread Cert.DhBwd.nD Cert.DhBwd.τ).loc Cert.DhBwd.main_arg5)
      ∧ r.2.mem ((c.tc : Thread Cert.DhBwd.nD Cert.DhBwd.τ).loc Cert.DhBwd.main_arg6) = m ((c.tc : Thread Cert.DhBwd.nD Cert.DhBwd.τ).loc Cert.DhBwd.main_arg6)
      ∧ r.2.mem ((c.tc : Thread Cert.DhBwd.nD Cert.DhBwd.τ).loc Cert.DhBwd.main_arg7) = m ((c.tc : Thread Cert.DhBwd.nD Cert.DhBwd.τ).loc Cert.DhBwd.main_arg7)
      ∧ r.2.mem ((c.tc : Thread Cert.DhBwd.nD Cert.DhBwd.τ).loc Cert.DhBwd.main_arg8) = m ((c.tc : Thread Cert.DhBwd.nD Cert.DhBwd.τ).loc Cert.DhBwd.main_arg8)
      ∧ r.2.mem ((c.tc : Thread Cert.DhBwd.nD Cert.DhBwd.τ).loc Cert.DhBwd.main_arg9) = m ((c.tc : Thread Cert.DhBwd.nD Cert.DhBwd.τ).loc Cert.DhBwd.main_arg9)
      ∧ r.2.mem ((c.tc : Thread Cert.DhBwd.nD Cert.DhBwd.τ).loc Cert.DhBwd.main_arg10) = m ((c.tc : Thread Cert.DhBwd.nD Cert.DhBwd.τ).loc Cert.DhBwd.main_arg10)
      ∧ r.2.mem ((c.tc : Thread Cert.DhBwd.nD Cert.DhBwd.τ).loc Cert.DhBwd.main_arg11) = m ((c.tc : Thread Cert.DhBwd.nD Cert.DhBwd.τ).loc Cert.DhBwd.main_arg11))
      ∧ r.2.sem = fun _ => 0)

def quiescent_DhBwdIdeal [hDhBwdIdeal : Cert.DhBwdIdeal.Facts] : Prop :=
  ∀ (m : (ℓ : Loc Cert.DhBwdIdeal.nD Cert.DhBwdIdeal.τ Cert.DhBwdIdeal.sig) → Buf (Elt Ideal) ℓ) (g : Dev Cert.DhBwdIdeal.nD → PrngReg), Pre_DhBwdIdeal m →
    θ_run (Cert.DhBwdIdeal.defs (F := Ideal)) (onTc (τ := Cert.DhBwdIdeal.τ) (Cert.DhBwdIdeal.main (F := Ideal))) ⟨m, fun _ => 0, g⟩ (fun r => (∀ c : Dev Cert.DhBwdIdeal.nD,
      r.2.mem ((c.tc : Thread Cert.DhBwdIdeal.nD Cert.DhBwdIdeal.τ).loc Cert.DhBwdIdeal.main_arg0) = m ((c.tc : Thread Cert.DhBwdIdeal.nD Cert.DhBwdIdeal.τ).loc Cert.DhBwdIdeal.main_arg0)
      ∧ r.2.mem ((c.tc : Thread Cert.DhBwdIdeal.nD Cert.DhBwdIdeal.τ).loc Cert.DhBwdIdeal.main_arg1) = m ((c.tc : Thread Cert.DhBwdIdeal.nD Cert.DhBwdIdeal.τ).loc Cert.DhBwdIdeal.main_arg1)
      ∧ r.2.mem ((c.tc : Thread Cert.DhBwdIdeal.nD Cert.DhBwdIdeal.τ).loc Cert.DhBwdIdeal.main_arg2) = m ((c.tc : Thread Cert.DhBwdIdeal.nD Cert.DhBwdIdeal.τ).loc Cert.DhBwdIdeal.main_arg2)
      ∧ r.2.mem ((c.tc : Thread Cert.DhBwdIdeal.nD Cert.DhBwdIdeal.τ).loc Cert.DhBwdIdeal.main_arg3) = m ((c.tc : Thread Cert.DhBwdIdeal.nD Cert.DhBwdIdeal.τ).loc Cert.DhBwdIdeal.main_arg3)
      ∧ r.2.mem ((c.tc : Thread Cert.DhBwdIdeal.nD Cert.DhBwdIdeal.τ).loc Cert.DhBwdIdeal.main_arg4) = m ((c.tc : Thread Cert.DhBwdIdeal.nD Cert.DhBwdIdeal.τ).loc Cert.DhBwdIdeal.main_arg4)
      ∧ r.2.mem ((c.tc : Thread Cert.DhBwdIdeal.nD Cert.DhBwdIdeal.τ).loc Cert.DhBwdIdeal.main_arg5) = m ((c.tc : Thread Cert.DhBwdIdeal.nD Cert.DhBwdIdeal.τ).loc Cert.DhBwdIdeal.main_arg5)
      ∧ r.2.mem ((c.tc : Thread Cert.DhBwdIdeal.nD Cert.DhBwdIdeal.τ).loc Cert.DhBwdIdeal.main_arg6) = m ((c.tc : Thread Cert.DhBwdIdeal.nD Cert.DhBwdIdeal.τ).loc Cert.DhBwdIdeal.main_arg6)
      ∧ r.2.mem ((c.tc : Thread Cert.DhBwdIdeal.nD Cert.DhBwdIdeal.τ).loc Cert.DhBwdIdeal.main_arg7) = m ((c.tc : Thread Cert.DhBwdIdeal.nD Cert.DhBwdIdeal.τ).loc Cert.DhBwdIdeal.main_arg7)
      ∧ r.2.mem ((c.tc : Thread Cert.DhBwdIdeal.nD Cert.DhBwdIdeal.τ).loc Cert.DhBwdIdeal.main_arg8) = m ((c.tc : Thread Cert.DhBwdIdeal.nD Cert.DhBwdIdeal.τ).loc Cert.DhBwdIdeal.main_arg8)
      ∧ r.2.mem ((c.tc : Thread Cert.DhBwdIdeal.nD Cert.DhBwdIdeal.τ).loc Cert.DhBwdIdeal.main_arg9) = m ((c.tc : Thread Cert.DhBwdIdeal.nD Cert.DhBwdIdeal.τ).loc Cert.DhBwdIdeal.main_arg9)
      ∧ r.2.mem ((c.tc : Thread Cert.DhBwdIdeal.nD Cert.DhBwdIdeal.τ).loc Cert.DhBwdIdeal.main_arg10) = m ((c.tc : Thread Cert.DhBwdIdeal.nD Cert.DhBwdIdeal.τ).loc Cert.DhBwdIdeal.main_arg10)
      ∧ r.2.mem ((c.tc : Thread Cert.DhBwdIdeal.nD Cert.DhBwdIdeal.τ).loc Cert.DhBwdIdeal.main_arg11) = m ((c.tc : Thread Cert.DhBwdIdeal.nD Cert.DhBwdIdeal.τ).loc Cert.DhBwdIdeal.main_arg11))
      ∧ r.2.sem = fun _ => 0)

def quiescent_DhRefIdeal [hDhRefIdeal : Cert.DhRefIdeal.Facts] : Prop :=
  ∀ (m : (ℓ : Loc Cert.DhRefIdeal.nD Cert.DhRefIdeal.τ Cert.DhRefIdeal.sig) → Buf (Elt Ideal) ℓ) (g : Dev Cert.DhRefIdeal.nD → PrngReg), Pre_DhRefIdeal m →
    θ_run (Cert.DhRefIdeal.defs (F := Ideal)) (onTc (τ := Cert.DhRefIdeal.τ) (Cert.DhRefIdeal.main (F := Ideal))) ⟨m, fun _ => 0, g⟩ (fun r => (∀ c : Dev Cert.DhRefIdeal.nD,
      r.2.mem ((c.tc : Thread Cert.DhRefIdeal.nD Cert.DhRefIdeal.τ).loc Cert.DhRefIdeal.main_arg0) = m ((c.tc : Thread Cert.DhRefIdeal.nD Cert.DhRefIdeal.τ).loc Cert.DhRefIdeal.main_arg0)
      ∧ r.2.mem ((c.tc : Thread Cert.DhRefIdeal.nD Cert.DhRefIdeal.τ).loc Cert.DhRefIdeal.main_arg1) = m ((c.tc : Thread Cert.DhRefIdeal.nD Cert.DhRefIdeal.τ).loc Cert.DhRefIdeal.main_arg1)
      ∧ r.2.mem ((c.tc : Thread Cert.DhRefIdeal.nD Cert.DhRefIdeal.τ).loc Cert.DhRefIdeal.main_arg2) = m ((c.tc : Thread Cert.DhRefIdeal.nD Cert.DhRefIdeal.τ).loc Cert.DhRefIdeal.main_arg2)
      ∧ r.2.mem ((c.tc : Thread Cert.DhRefIdeal.nD Cert.DhRefIdeal.τ).loc Cert.DhRefIdeal.main_arg3) = m ((c.tc : Thread Cert.DhRefIdeal.nD Cert.DhRefIdeal.τ).loc Cert.DhRefIdeal.main_arg3)
      ∧ r.2.mem ((c.tc : Thread Cert.DhRefIdeal.nD Cert.DhRefIdeal.τ).loc Cert.DhRefIdeal.main_arg4) = m ((c.tc : Thread Cert.DhRefIdeal.nD Cert.DhRefIdeal.τ).loc Cert.DhRefIdeal.main_arg4)
      ∧ r.2.mem ((c.tc : Thread Cert.DhRefIdeal.nD Cert.DhRefIdeal.τ).loc Cert.DhRefIdeal.main_arg5) = m ((c.tc : Thread Cert.DhRefIdeal.nD Cert.DhRefIdeal.τ).loc Cert.DhRefIdeal.main_arg5)
      ∧ r.2.mem ((c.tc : Thread Cert.DhRefIdeal.nD Cert.DhRefIdeal.τ).loc Cert.DhRefIdeal.main_arg6) = m ((c.tc : Thread Cert.DhRefIdeal.nD Cert.DhRefIdeal.τ).loc Cert.DhRefIdeal.main_arg6)
      ∧ r.2.mem ((c.tc : Thread Cert.DhRefIdeal.nD Cert.DhRefIdeal.τ).loc Cert.DhRefIdeal.main_arg7) = m ((c.tc : Thread Cert.DhRefIdeal.nD Cert.DhRefIdeal.τ).loc Cert.DhRefIdeal.main_arg7)
      ∧ r.2.mem ((c.tc : Thread Cert.DhRefIdeal.nD Cert.DhRefIdeal.τ).loc Cert.DhRefIdeal.main_arg8) = m ((c.tc : Thread Cert.DhRefIdeal.nD Cert.DhRefIdeal.τ).loc Cert.DhRefIdeal.main_arg8)
      ∧ r.2.mem ((c.tc : Thread Cert.DhRefIdeal.nD Cert.DhRefIdeal.τ).loc Cert.DhRefIdeal.main_arg9) = m ((c.tc : Thread Cert.DhRefIdeal.nD Cert.DhRefIdeal.τ).loc Cert.DhRefIdeal.main_arg9)
      ∧ r.2.mem ((c.tc : Thread Cert.DhRefIdeal.nD Cert.DhRefIdeal.τ).loc Cert.DhRefIdeal.main_arg10) = m ((c.tc : Thread Cert.DhRefIdeal.nD Cert.DhRefIdeal.τ).loc Cert.DhRefIdeal.main_arg10)
      ∧ r.2.mem ((c.tc : Thread Cert.DhRefIdeal.nD Cert.DhRefIdeal.τ).loc Cert.DhRefIdeal.main_arg11) = m ((c.tc : Thread Cert.DhRefIdeal.nD Cert.DhRefIdeal.τ).loc Cert.DhRefIdeal.main_arg11))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5)
      ∧ r.2.mem ((c.tc : Thread Cert.OutProj.nD Cert.OutProj.τ).loc Cert.OutProj.main_arg6) = m ((c.tc : Thread Cert.OutProj.nD Cert.OutProj.τ).loc Cert.OutProj.main_arg6)
      ∧ r.2.mem ((c.tc : Thread Cert.OutProj.nD Cert.OutProj.τ).loc Cert.OutProj.main_arg7) = m ((c.tc : Thread Cert.OutProj.nD Cert.OutProj.τ).loc Cert.OutProj.main_arg7)
      ∧ r.2.mem ((c.tc : Thread Cert.OutProj.nD Cert.OutProj.τ).loc Cert.OutProj.main_arg8) = m ((c.tc : Thread Cert.OutProj.nD Cert.OutProj.τ).loc Cert.OutProj.main_arg8))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
      ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
      ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7)
      ∧ r.2.mem ((c.tc : Thread Cert.OutProjIdeal.nD Cert.OutProjIdeal.τ).loc Cert.OutProjIdeal.main_arg8) = m ((c.tc : Thread Cert.OutProjIdeal.nD Cert.OutProjIdeal.τ).loc Cert.OutProjIdeal.main_arg8))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5)
      ∧ r.2.mem ((c.tc : Thread Cert.OutRefIdeal.nD Cert.OutRefIdeal.τ).loc Cert.OutRefIdeal.main_arg6) = m ((c.tc : Thread Cert.OutRefIdeal.nD Cert.OutRefIdeal.τ).loc Cert.OutRefIdeal.main_arg6)
      ∧ r.2.mem ((c.tc : Thread Cert.OutRefIdeal.nD Cert.OutRefIdeal.τ).loc Cert.OutRefIdeal.main_arg7) = m ((c.tc : Thread Cert.OutRefIdeal.nD Cert.OutRefIdeal.τ).loc Cert.OutRefIdeal.main_arg7)
      ∧ r.2.mem ((c.tc : Thread Cert.OutRefIdeal.nD Cert.OutRefIdeal.τ).loc Cert.OutRefIdeal.main_arg8) = m ((c.tc : Thread Cert.OutRefIdeal.nD Cert.OutRefIdeal.τ).loc Cert.OutRefIdeal.main_arg8))
      ∧ r.2.sem = fun _ => 0)

def quiescent_DwBwd [hDwBwd : Cert.DwBwd.Facts] : Prop :=
  ∀ (m : (ℓ : Loc Cert.DwBwd.nD Cert.DwBwd.τ Cert.DwBwd.sig) → Buf (Elt Bits) ℓ) (g : Dev Cert.DwBwd.nD → PrngReg), Pre_DwBwd m →
    θ_run (Cert.DwBwd.defs (F := Bits)) (onTc (τ := Cert.DwBwd.τ) (Cert.DwBwd.main (F := Bits))) ⟨m, fun _ => 0, g⟩ (fun r => (∀ c : Dev Cert.DwBwd.nD,
      r.2.mem ((c.tc : Thread Cert.DwBwd.nD Cert.DwBwd.τ).loc Cert.DwBwd.main_arg0) = m ((c.tc : Thread Cert.DwBwd.nD Cert.DwBwd.τ).loc Cert.DwBwd.main_arg0)
      ∧ r.2.mem ((c.tc : Thread Cert.DwBwd.nD Cert.DwBwd.τ).loc Cert.DwBwd.main_arg1) = m ((c.tc : Thread Cert.DwBwd.nD Cert.DwBwd.τ).loc Cert.DwBwd.main_arg1)
      ∧ r.2.mem ((c.tc : Thread Cert.DwBwd.nD Cert.DwBwd.τ).loc Cert.DwBwd.main_arg2) = m ((c.tc : Thread Cert.DwBwd.nD Cert.DwBwd.τ).loc Cert.DwBwd.main_arg2)
      ∧ r.2.mem ((c.tc : Thread Cert.DwBwd.nD Cert.DwBwd.τ).loc Cert.DwBwd.main_arg3) = m ((c.tc : Thread Cert.DwBwd.nD Cert.DwBwd.τ).loc Cert.DwBwd.main_arg3)
      ∧ r.2.mem ((c.tc : Thread Cert.DwBwd.nD Cert.DwBwd.τ).loc Cert.DwBwd.main_arg4) = m ((c.tc : Thread Cert.DwBwd.nD Cert.DwBwd.τ).loc Cert.DwBwd.main_arg4)
      ∧ r.2.mem ((c.tc : Thread Cert.DwBwd.nD Cert.DwBwd.τ).loc Cert.DwBwd.main_arg5) = m ((c.tc : Thread Cert.DwBwd.nD Cert.DwBwd.τ).loc Cert.DwBwd.main_arg5)
      ∧ r.2.mem ((c.tc : Thread Cert.DwBwd.nD Cert.DwBwd.τ).loc Cert.DwBwd.main_arg6) = m ((c.tc : Thread Cert.DwBwd.nD Cert.DwBwd.τ).loc Cert.DwBwd.main_arg6)
      ∧ r.2.mem ((c.tc : Thread Cert.DwBwd.nD Cert.DwBwd.τ).loc Cert.DwBwd.main_arg7) = m ((c.tc : Thread Cert.DwBwd.nD Cert.DwBwd.τ).loc Cert.DwBwd.main_arg7)
      ∧ r.2.mem ((c.tc : Thread Cert.DwBwd.nD Cert.DwBwd.τ).loc Cert.DwBwd.main_arg8) = m ((c.tc : Thread Cert.DwBwd.nD Cert.DwBwd.τ).loc Cert.DwBwd.main_arg8)
      ∧ r.2.mem ((c.tc : Thread Cert.DwBwd.nD Cert.DwBwd.τ).loc Cert.DwBwd.main_arg9) = m ((c.tc : Thread Cert.DwBwd.nD Cert.DwBwd.τ).loc Cert.DwBwd.main_arg9)
      ∧ r.2.mem ((c.tc : Thread Cert.DwBwd.nD Cert.DwBwd.τ).loc Cert.DwBwd.main_arg10) = m ((c.tc : Thread Cert.DwBwd.nD Cert.DwBwd.τ).loc Cert.DwBwd.main_arg10)
      ∧ r.2.mem ((c.tc : Thread Cert.DwBwd.nD Cert.DwBwd.τ).loc Cert.DwBwd.main_arg11) = m ((c.tc : Thread Cert.DwBwd.nD Cert.DwBwd.τ).loc Cert.DwBwd.main_arg11)
      ∧ r.2.mem ((c.tc : Thread Cert.DwBwd.nD Cert.DwBwd.τ).loc Cert.DwBwd.main_arg12) = m ((c.tc : Thread Cert.DwBwd.nD Cert.DwBwd.τ).loc Cert.DwBwd.main_arg12)
      ∧ r.2.mem ((c.tc : Thread Cert.DwBwd.nD Cert.DwBwd.τ).loc Cert.DwBwd.main_arg13) = m ((c.tc : Thread Cert.DwBwd.nD Cert.DwBwd.τ).loc Cert.DwBwd.main_arg13)
      ∧ r.2.mem ((c.tc : Thread Cert.DwBwd.nD Cert.DwBwd.τ).loc Cert.DwBwd.main_arg14) = m ((c.tc : Thread Cert.DwBwd.nD Cert.DwBwd.τ).loc Cert.DwBwd.main_arg14)
      ∧ r.2.mem ((c.tc : Thread Cert.DwBwd.nD Cert.DwBwd.τ).loc Cert.DwBwd.main_arg15) = m ((c.tc : Thread Cert.DwBwd.nD Cert.DwBwd.τ).loc Cert.DwBwd.main_arg15)
      ∧ r.2.mem ((c.tc : Thread Cert.DwBwd.nD Cert.DwBwd.τ).loc Cert.DwBwd.main_arg16) = m ((c.tc : Thread Cert.DwBwd.nD Cert.DwBwd.τ).loc Cert.DwBwd.main_arg16)
      ∧ r.2.mem ((c.tc : Thread Cert.DwBwd.nD Cert.DwBwd.τ).loc Cert.DwBwd.main_arg17) = m ((c.tc : Thread Cert.DwBwd.nD Cert.DwBwd.τ).loc Cert.DwBwd.main_arg17))
      ∧ r.2.sem = fun _ => 0)

def quiescent_DwBwdIdeal [hDwBwdIdeal : Cert.DwBwdIdeal.Facts] : Prop :=
  ∀ (m : (ℓ : Loc Cert.DwBwdIdeal.nD Cert.DwBwdIdeal.τ Cert.DwBwdIdeal.sig) → Buf (Elt Ideal) ℓ) (g : Dev Cert.DwBwdIdeal.nD → PrngReg), Pre_DwBwdIdeal m →
    θ_run (Cert.DwBwdIdeal.defs (F := Ideal)) (onTc (τ := Cert.DwBwdIdeal.τ) (Cert.DwBwdIdeal.main (F := Ideal))) ⟨m, fun _ => 0, g⟩ (fun r => (∀ c : Dev Cert.DwBwdIdeal.nD,
      r.2.mem ((c.tc : Thread Cert.DwBwdIdeal.nD Cert.DwBwdIdeal.τ).loc Cert.DwBwdIdeal.main_arg0) = m ((c.tc : Thread Cert.DwBwdIdeal.nD Cert.DwBwdIdeal.τ).loc Cert.DwBwdIdeal.main_arg0)
      ∧ r.2.mem ((c.tc : Thread Cert.DwBwdIdeal.nD Cert.DwBwdIdeal.τ).loc Cert.DwBwdIdeal.main_arg1) = m ((c.tc : Thread Cert.DwBwdIdeal.nD Cert.DwBwdIdeal.τ).loc Cert.DwBwdIdeal.main_arg1)
      ∧ r.2.mem ((c.tc : Thread Cert.DwBwdIdeal.nD Cert.DwBwdIdeal.τ).loc Cert.DwBwdIdeal.main_arg2) = m ((c.tc : Thread Cert.DwBwdIdeal.nD Cert.DwBwdIdeal.τ).loc Cert.DwBwdIdeal.main_arg2)
      ∧ r.2.mem ((c.tc : Thread Cert.DwBwdIdeal.nD Cert.DwBwdIdeal.τ).loc Cert.DwBwdIdeal.main_arg3) = m ((c.tc : Thread Cert.DwBwdIdeal.nD Cert.DwBwdIdeal.τ).loc Cert.DwBwdIdeal.main_arg3)
      ∧ r.2.mem ((c.tc : Thread Cert.DwBwdIdeal.nD Cert.DwBwdIdeal.τ).loc Cert.DwBwdIdeal.main_arg4) = m ((c.tc : Thread Cert.DwBwdIdeal.nD Cert.DwBwdIdeal.τ).loc Cert.DwBwdIdeal.main_arg4)
      ∧ r.2.mem ((c.tc : Thread Cert.DwBwdIdeal.nD Cert.DwBwdIdeal.τ).loc Cert.DwBwdIdeal.main_arg5) = m ((c.tc : Thread Cert.DwBwdIdeal.nD Cert.DwBwdIdeal.τ).loc Cert.DwBwdIdeal.main_arg5)
      ∧ r.2.mem ((c.tc : Thread Cert.DwBwdIdeal.nD Cert.DwBwdIdeal.τ).loc Cert.DwBwdIdeal.main_arg6) = m ((c.tc : Thread Cert.DwBwdIdeal.nD Cert.DwBwdIdeal.τ).loc Cert.DwBwdIdeal.main_arg6)
      ∧ r.2.mem ((c.tc : Thread Cert.DwBwdIdeal.nD Cert.DwBwdIdeal.τ).loc Cert.DwBwdIdeal.main_arg7) = m ((c.tc : Thread Cert.DwBwdIdeal.nD Cert.DwBwdIdeal.τ).loc Cert.DwBwdIdeal.main_arg7)
      ∧ r.2.mem ((c.tc : Thread Cert.DwBwdIdeal.nD Cert.DwBwdIdeal.τ).loc Cert.DwBwdIdeal.main_arg8) = m ((c.tc : Thread Cert.DwBwdIdeal.nD Cert.DwBwdIdeal.τ).loc Cert.DwBwdIdeal.main_arg8)
      ∧ r.2.mem ((c.tc : Thread Cert.DwBwdIdeal.nD Cert.DwBwdIdeal.τ).loc Cert.DwBwdIdeal.main_arg9) = m ((c.tc : Thread Cert.DwBwdIdeal.nD Cert.DwBwdIdeal.τ).loc Cert.DwBwdIdeal.main_arg9)
      ∧ r.2.mem ((c.tc : Thread Cert.DwBwdIdeal.nD Cert.DwBwdIdeal.τ).loc Cert.DwBwdIdeal.main_arg10) = m ((c.tc : Thread Cert.DwBwdIdeal.nD Cert.DwBwdIdeal.τ).loc Cert.DwBwdIdeal.main_arg10)
      ∧ r.2.mem ((c.tc : Thread Cert.DwBwdIdeal.nD Cert.DwBwdIdeal.τ).loc Cert.DwBwdIdeal.main_arg11) = m ((c.tc : Thread Cert.DwBwdIdeal.nD Cert.DwBwdIdeal.τ).loc Cert.DwBwdIdeal.main_arg11)
      ∧ r.2.mem ((c.tc : Thread Cert.DwBwdIdeal.nD Cert.DwBwdIdeal.τ).loc Cert.DwBwdIdeal.main_arg12) = m ((c.tc : Thread Cert.DwBwdIdeal.nD Cert.DwBwdIdeal.τ).loc Cert.DwBwdIdeal.main_arg12)
      ∧ r.2.mem ((c.tc : Thread Cert.DwBwdIdeal.nD Cert.DwBwdIdeal.τ).loc Cert.DwBwdIdeal.main_arg13) = m ((c.tc : Thread Cert.DwBwdIdeal.nD Cert.DwBwdIdeal.τ).loc Cert.DwBwdIdeal.main_arg13)
      ∧ r.2.mem ((c.tc : Thread Cert.DwBwdIdeal.nD Cert.DwBwdIdeal.τ).loc Cert.DwBwdIdeal.main_arg14) = m ((c.tc : Thread Cert.DwBwdIdeal.nD Cert.DwBwdIdeal.τ).loc Cert.DwBwdIdeal.main_arg14)
      ∧ r.2.mem ((c.tc : Thread Cert.DwBwdIdeal.nD Cert.DwBwdIdeal.τ).loc Cert.DwBwdIdeal.main_arg15) = m ((c.tc : Thread Cert.DwBwdIdeal.nD Cert.DwBwdIdeal.τ).loc Cert.DwBwdIdeal.main_arg15)
      ∧ r.2.mem ((c.tc : Thread Cert.DwBwdIdeal.nD Cert.DwBwdIdeal.τ).loc Cert.DwBwdIdeal.main_arg16) = m ((c.tc : Thread Cert.DwBwdIdeal.nD Cert.DwBwdIdeal.τ).loc Cert.DwBwdIdeal.main_arg16)
      ∧ r.2.mem ((c.tc : Thread Cert.DwBwdIdeal.nD Cert.DwBwdIdeal.τ).loc Cert.DwBwdIdeal.main_arg17) = m ((c.tc : Thread Cert.DwBwdIdeal.nD Cert.DwBwdIdeal.τ).loc Cert.DwBwdIdeal.main_arg17))
      ∧ r.2.sem = fun _ => 0)

def quiescent_DwRefIdeal [hDwRefIdeal : Cert.DwRefIdeal.Facts] : Prop :=
  ∀ (m : (ℓ : Loc Cert.DwRefIdeal.nD Cert.DwRefIdeal.τ Cert.DwRefIdeal.sig) → Buf (Elt Ideal) ℓ) (g : Dev Cert.DwRefIdeal.nD → PrngReg), Pre_DwRefIdeal m →
    θ_run (Cert.DwRefIdeal.defs (F := Ideal)) (onTc (τ := Cert.DwRefIdeal.τ) (Cert.DwRefIdeal.main (F := Ideal))) ⟨m, fun _ => 0, g⟩ (fun r => (∀ c : Dev Cert.DwRefIdeal.nD,
      r.2.mem ((c.tc : Thread Cert.DwRefIdeal.nD Cert.DwRefIdeal.τ).loc Cert.DwRefIdeal.main_arg0) = m ((c.tc : Thread Cert.DwRefIdeal.nD Cert.DwRefIdeal.τ).loc Cert.DwRefIdeal.main_arg0)
      ∧ r.2.mem ((c.tc : Thread Cert.DwRefIdeal.nD Cert.DwRefIdeal.τ).loc Cert.DwRefIdeal.main_arg1) = m ((c.tc : Thread Cert.DwRefIdeal.nD Cert.DwRefIdeal.τ).loc Cert.DwRefIdeal.main_arg1)
      ∧ r.2.mem ((c.tc : Thread Cert.DwRefIdeal.nD Cert.DwRefIdeal.τ).loc Cert.DwRefIdeal.main_arg2) = m ((c.tc : Thread Cert.DwRefIdeal.nD Cert.DwRefIdeal.τ).loc Cert.DwRefIdeal.main_arg2)
      ∧ r.2.mem ((c.tc : Thread Cert.DwRefIdeal.nD Cert.DwRefIdeal.τ).loc Cert.DwRefIdeal.main_arg3) = m ((c.tc : Thread Cert.DwRefIdeal.nD Cert.DwRefIdeal.τ).loc Cert.DwRefIdeal.main_arg3)
      ∧ r.2.mem ((c.tc : Thread Cert.DwRefIdeal.nD Cert.DwRefIdeal.τ).loc Cert.DwRefIdeal.main_arg4) = m ((c.tc : Thread Cert.DwRefIdeal.nD Cert.DwRefIdeal.τ).loc Cert.DwRefIdeal.main_arg4)
      ∧ r.2.mem ((c.tc : Thread Cert.DwRefIdeal.nD Cert.DwRefIdeal.τ).loc Cert.DwRefIdeal.main_arg5) = m ((c.tc : Thread Cert.DwRefIdeal.nD Cert.DwRefIdeal.τ).loc Cert.DwRefIdeal.main_arg5)
      ∧ r.2.mem ((c.tc : Thread Cert.DwRefIdeal.nD Cert.DwRefIdeal.τ).loc Cert.DwRefIdeal.main_arg6) = m ((c.tc : Thread Cert.DwRefIdeal.nD Cert.DwRefIdeal.τ).loc Cert.DwRefIdeal.main_arg6)
      ∧ r.2.mem ((c.tc : Thread Cert.DwRefIdeal.nD Cert.DwRefIdeal.τ).loc Cert.DwRefIdeal.main_arg7) = m ((c.tc : Thread Cert.DwRefIdeal.nD Cert.DwRefIdeal.τ).loc Cert.DwRefIdeal.main_arg7)
      ∧ r.2.mem ((c.tc : Thread Cert.DwRefIdeal.nD Cert.DwRefIdeal.τ).loc Cert.DwRefIdeal.main_arg8) = m ((c.tc : Thread Cert.DwRefIdeal.nD Cert.DwRefIdeal.τ).loc Cert.DwRefIdeal.main_arg8)
      ∧ r.2.mem ((c.tc : Thread Cert.DwRefIdeal.nD Cert.DwRefIdeal.τ).loc Cert.DwRefIdeal.main_arg9) = m ((c.tc : Thread Cert.DwRefIdeal.nD Cert.DwRefIdeal.τ).loc Cert.DwRefIdeal.main_arg9)
      ∧ r.2.mem ((c.tc : Thread Cert.DwRefIdeal.nD Cert.DwRefIdeal.τ).loc Cert.DwRefIdeal.main_arg10) = m ((c.tc : Thread Cert.DwRefIdeal.nD Cert.DwRefIdeal.τ).loc Cert.DwRefIdeal.main_arg10)
      ∧ r.2.mem ((c.tc : Thread Cert.DwRefIdeal.nD Cert.DwRefIdeal.τ).loc Cert.DwRefIdeal.main_arg11) = m ((c.tc : Thread Cert.DwRefIdeal.nD Cert.DwRefIdeal.τ).loc Cert.DwRefIdeal.main_arg11)
      ∧ r.2.mem ((c.tc : Thread Cert.DwRefIdeal.nD Cert.DwRefIdeal.τ).loc Cert.DwRefIdeal.main_arg12) = m ((c.tc : Thread Cert.DwRefIdeal.nD Cert.DwRefIdeal.τ).loc Cert.DwRefIdeal.main_arg12)
      ∧ r.2.mem ((c.tc : Thread Cert.DwRefIdeal.nD Cert.DwRefIdeal.τ).loc Cert.DwRefIdeal.main_arg13) = m ((c.tc : Thread Cert.DwRefIdeal.nD Cert.DwRefIdeal.τ).loc Cert.DwRefIdeal.main_arg13)
      ∧ r.2.mem ((c.tc : Thread Cert.DwRefIdeal.nD Cert.DwRefIdeal.τ).loc Cert.DwRefIdeal.main_arg14) = m ((c.tc : Thread Cert.DwRefIdeal.nD Cert.DwRefIdeal.τ).loc Cert.DwRefIdeal.main_arg14)
      ∧ r.2.mem ((c.tc : Thread Cert.DwRefIdeal.nD Cert.DwRefIdeal.τ).loc Cert.DwRefIdeal.main_arg15) = m ((c.tc : Thread Cert.DwRefIdeal.nD Cert.DwRefIdeal.τ).loc Cert.DwRefIdeal.main_arg15)
      ∧ r.2.mem ((c.tc : Thread Cert.DwRefIdeal.nD Cert.DwRefIdeal.τ).loc Cert.DwRefIdeal.main_arg16) = m ((c.tc : Thread Cert.DwRefIdeal.nD Cert.DwRefIdeal.τ).loc Cert.DwRefIdeal.main_arg16)
      ∧ r.2.mem ((c.tc : Thread Cert.DwRefIdeal.nD Cert.DwRefIdeal.τ).loc Cert.DwRefIdeal.main_arg17) = m ((c.tc : Thread Cert.DwRefIdeal.nD Cert.DwRefIdeal.τ).loc Cert.DwRefIdeal.main_arg17))
      ∧ r.2.sem = fun _ => 0)

def quiescent_CtxFwd [hCtxFwd : Cert.CtxFwd.Facts] : Prop :=
  ∀ (m : (ℓ : Loc Cert.CtxFwd.nD Cert.CtxFwd.τ Cert.CtxFwd.sig) → Buf (Elt Bits) ℓ) (g : Dev Cert.CtxFwd.nD → PrngReg), Pre_CtxFwd m →
    θ_run (Cert.CtxFwd.defs (F := Bits)) (onTc (τ := Cert.CtxFwd.τ) (Cert.CtxFwd.main (F := Bits))) ⟨m, fun _ => 0, g⟩ (fun r => (∀ c : Dev Cert.CtxFwd.nD,
      r.2.mem ((c.tc : Thread Cert.CtxFwd.nD Cert.CtxFwd.τ).loc Cert.CtxFwd.main_arg0) = m ((c.tc : Thread Cert.CtxFwd.nD Cert.CtxFwd.τ).loc Cert.CtxFwd.main_arg0)
      ∧ r.2.mem ((c.tc : Thread Cert.CtxFwd.nD Cert.CtxFwd.τ).loc Cert.CtxFwd.main_arg1) = m ((c.tc : Thread Cert.CtxFwd.nD Cert.CtxFwd.τ).loc Cert.CtxFwd.main_arg1)
      ∧ r.2.mem ((c.tc : Thread Cert.CtxFwd.nD Cert.CtxFwd.τ).loc Cert.CtxFwd.main_arg2) = m ((c.tc : Thread Cert.CtxFwd.nD Cert.CtxFwd.τ).loc Cert.CtxFwd.main_arg2)
      ∧ r.2.mem ((c.tc : Thread Cert.CtxFwd.nD Cert.CtxFwd.τ).loc Cert.CtxFwd.main_arg3) = m ((c.tc : Thread Cert.CtxFwd.nD Cert.CtxFwd.τ).loc Cert.CtxFwd.main_arg3)
      ∧ r.2.mem ((c.tc : Thread Cert.CtxFwd.nD Cert.CtxFwd.τ).loc Cert.CtxFwd.main_arg4) = m ((c.tc : Thread Cert.CtxFwd.nD Cert.CtxFwd.τ).loc Cert.CtxFwd.main_arg4))
      ∧ r.2.sem = fun _ => 0)

def quiescent_CtxFwdIdeal [hCtxFwdIdeal : Cert.CtxFwdIdeal.Facts] : Prop :=
  ∀ (m : (ℓ : Loc Cert.CtxFwdIdeal.nD Cert.CtxFwdIdeal.τ Cert.CtxFwdIdeal.sig) → Buf (Elt Ideal) ℓ) (g : Dev Cert.CtxFwdIdeal.nD → PrngReg), Pre_CtxFwdIdeal m →
    θ_run (Cert.CtxFwdIdeal.defs (F := Ideal)) (onTc (τ := Cert.CtxFwdIdeal.τ) (Cert.CtxFwdIdeal.main (F := Ideal))) ⟨m, fun _ => 0, g⟩ (fun r => (∀ c : Dev Cert.CtxFwdIdeal.nD,
      r.2.mem ((c.tc : Thread Cert.CtxFwdIdeal.nD Cert.CtxFwdIdeal.τ).loc Cert.CtxFwdIdeal.main_arg0) = m ((c.tc : Thread Cert.CtxFwdIdeal.nD Cert.CtxFwdIdeal.τ).loc Cert.CtxFwdIdeal.main_arg0)
      ∧ r.2.mem ((c.tc : Thread Cert.CtxFwdIdeal.nD Cert.CtxFwdIdeal.τ).loc Cert.CtxFwdIdeal.main_arg1) = m ((c.tc : Thread Cert.CtxFwdIdeal.nD Cert.CtxFwdIdeal.τ).loc Cert.CtxFwdIdeal.main_arg1)
      ∧ r.2.mem ((c.tc : Thread Cert.CtxFwdIdeal.nD Cert.CtxFwdIdeal.τ).loc Cert.CtxFwdIdeal.main_arg2) = m ((c.tc : Thread Cert.CtxFwdIdeal.nD Cert.CtxFwdIdeal.τ).loc Cert.CtxFwdIdeal.main_arg2)
      ∧ r.2.mem ((c.tc : Thread Cert.CtxFwdIdeal.nD Cert.CtxFwdIdeal.τ).loc Cert.CtxFwdIdeal.main_arg3) = m ((c.tc : Thread Cert.CtxFwdIdeal.nD Cert.CtxFwdIdeal.τ).loc Cert.CtxFwdIdeal.main_arg3)
      ∧ r.2.mem ((c.tc : Thread Cert.CtxFwdIdeal.nD Cert.CtxFwdIdeal.τ).loc Cert.CtxFwdIdeal.main_arg4) = m ((c.tc : Thread Cert.CtxFwdIdeal.nD Cert.CtxFwdIdeal.τ).loc Cert.CtxFwdIdeal.main_arg4))
      ∧ r.2.sem = fun _ => 0)

def quiescent_CtxFwdRefIdeal [hCtxFwdRefIdeal : Cert.CtxFwdRefIdeal.Facts] : Prop :=
  ∀ (m : (ℓ : Loc Cert.CtxFwdRefIdeal.nD Cert.CtxFwdRefIdeal.τ Cert.CtxFwdRefIdeal.sig) → Buf (Elt Ideal) ℓ) (g : Dev Cert.CtxFwdRefIdeal.nD → PrngReg), Pre_CtxFwdRefIdeal m →
    θ_run (Cert.CtxFwdRefIdeal.defs (F := Ideal)) (onTc (τ := Cert.CtxFwdRefIdeal.τ) (Cert.CtxFwdRefIdeal.main (F := Ideal))) ⟨m, fun _ => 0, g⟩ (fun r => (∀ c : Dev Cert.CtxFwdRefIdeal.nD,
      r.2.mem ((c.tc : Thread Cert.CtxFwdRefIdeal.nD Cert.CtxFwdRefIdeal.τ).loc Cert.CtxFwdRefIdeal.main_arg0) = m ((c.tc : Thread Cert.CtxFwdRefIdeal.nD Cert.CtxFwdRefIdeal.τ).loc Cert.CtxFwdRefIdeal.main_arg0)
      ∧ r.2.mem ((c.tc : Thread Cert.CtxFwdRefIdeal.nD Cert.CtxFwdRefIdeal.τ).loc Cert.CtxFwdRefIdeal.main_arg1) = m ((c.tc : Thread Cert.CtxFwdRefIdeal.nD Cert.CtxFwdRefIdeal.τ).loc Cert.CtxFwdRefIdeal.main_arg1)
      ∧ r.2.mem ((c.tc : Thread Cert.CtxFwdRefIdeal.nD Cert.CtxFwdRefIdeal.τ).loc Cert.CtxFwdRefIdeal.main_arg2) = m ((c.tc : Thread Cert.CtxFwdRefIdeal.nD Cert.CtxFwdRefIdeal.τ).loc Cert.CtxFwdRefIdeal.main_arg2)
      ∧ r.2.mem ((c.tc : Thread Cert.CtxFwdRefIdeal.nD Cert.CtxFwdRefIdeal.τ).loc Cert.CtxFwdRefIdeal.main_arg3) = m ((c.tc : Thread Cert.CtxFwdRefIdeal.nD Cert.CtxFwdRefIdeal.τ).loc Cert.CtxFwdRefIdeal.main_arg3)
      ∧ r.2.mem ((c.tc : Thread Cert.CtxFwdRefIdeal.nD Cert.CtxFwdRefIdeal.τ).loc Cert.CtxFwdRefIdeal.main_arg4) = m ((c.tc : Thread Cert.CtxFwdRefIdeal.nD Cert.CtxFwdRefIdeal.τ).loc Cert.CtxFwdRefIdeal.main_arg4))
      ∧ r.2.sem = fun _ => 0)

def quiescent_Reduce [hReduce : Cert.Reduce.Facts] : Prop :=
  ∀ (m : (ℓ : Loc Cert.Reduce.nD Cert.Reduce.τ Cert.Reduce.sig) → Buf (Elt Bits) ℓ) (g : Dev Cert.Reduce.nD → PrngReg), Pre_Reduce m →
    θ_run (Cert.Reduce.defs (F := Bits)) (onTc (τ := Cert.Reduce.τ) (Cert.Reduce.main (F := Bits))) ⟨m, fun _ => 0, g⟩ (fun r => (∀ c : Dev Cert.Reduce.nD,
      r.2.mem ((c.tc : Thread Cert.Reduce.nD Cert.Reduce.τ).loc Cert.Reduce.main_arg0) = m ((c.tc : Thread Cert.Reduce.nD Cert.Reduce.τ).loc Cert.Reduce.main_arg0)
      ∧ r.2.mem ((c.tc : Thread Cert.Reduce.nD Cert.Reduce.τ).loc Cert.Reduce.main_arg1) = m ((c.tc : Thread Cert.Reduce.nD Cert.Reduce.τ).loc Cert.Reduce.main_arg1)
      ∧ r.2.mem ((c.tc : Thread Cert.Reduce.nD Cert.Reduce.τ).loc Cert.Reduce.main_arg2) = m ((c.tc : Thread Cert.Reduce.nD Cert.Reduce.τ).loc Cert.Reduce.main_arg2)
      ∧ r.2.mem ((c.tc : Thread Cert.Reduce.nD Cert.Reduce.τ).loc Cert.Reduce.main_arg3) = m ((c.tc : Thread Cert.Reduce.nD Cert.Reduce.τ).loc Cert.Reduce.main_arg3)
      ∧ r.2.mem ((c.tc : Thread Cert.Reduce.nD Cert.Reduce.τ).loc Cert.Reduce.main_arg4) = m ((c.tc : Thread Cert.Reduce.nD Cert.Reduce.τ).loc Cert.Reduce.main_arg4)
      ∧ r.2.mem ((c.tc : Thread Cert.Reduce.nD Cert.Reduce.τ).loc Cert.Reduce.main_arg5) = m ((c.tc : Thread Cert.Reduce.nD Cert.Reduce.τ).loc Cert.Reduce.main_arg5)
      ∧ r.2.mem ((c.tc : Thread Cert.Reduce.nD Cert.Reduce.τ).loc Cert.Reduce.main_arg6) = m ((c.tc : Thread Cert.Reduce.nD Cert.Reduce.τ).loc Cert.Reduce.main_arg6)
      ∧ r.2.mem ((c.tc : Thread Cert.Reduce.nD Cert.Reduce.τ).loc Cert.Reduce.main_arg7) = m ((c.tc : Thread Cert.Reduce.nD Cert.Reduce.τ).loc Cert.Reduce.main_arg7)
      ∧ r.2.mem ((c.tc : Thread Cert.Reduce.nD Cert.Reduce.τ).loc Cert.Reduce.main_arg8) = m ((c.tc : Thread Cert.Reduce.nD Cert.Reduce.τ).loc Cert.Reduce.main_arg8))
      ∧ r.2.sem = fun _ => 0)

def quiescent_ReduceIdeal [hReduceIdeal : Cert.ReduceIdeal.Facts] : Prop :=
  ∀ (m : (ℓ : Loc Cert.ReduceIdeal.nD Cert.ReduceIdeal.τ Cert.ReduceIdeal.sig) → Buf (Elt Ideal) ℓ) (g : Dev Cert.ReduceIdeal.nD → PrngReg), Pre_ReduceIdeal m →
    θ_run (Cert.ReduceIdeal.defs (F := Ideal)) (onTc (τ := Cert.ReduceIdeal.τ) (Cert.ReduceIdeal.main (F := Ideal))) ⟨m, fun _ => 0, g⟩ (fun r => (∀ c : Dev Cert.ReduceIdeal.nD,
      r.2.mem ((c.tc : Thread Cert.ReduceIdeal.nD Cert.ReduceIdeal.τ).loc Cert.ReduceIdeal.main_arg0) = m ((c.tc : Thread Cert.ReduceIdeal.nD Cert.ReduceIdeal.τ).loc Cert.ReduceIdeal.main_arg0)
      ∧ r.2.mem ((c.tc : Thread Cert.ReduceIdeal.nD Cert.ReduceIdeal.τ).loc Cert.ReduceIdeal.main_arg1) = m ((c.tc : Thread Cert.ReduceIdeal.nD Cert.ReduceIdeal.τ).loc Cert.ReduceIdeal.main_arg1)
      ∧ r.2.mem ((c.tc : Thread Cert.ReduceIdeal.nD Cert.ReduceIdeal.τ).loc Cert.ReduceIdeal.main_arg2) = m ((c.tc : Thread Cert.ReduceIdeal.nD Cert.ReduceIdeal.τ).loc Cert.ReduceIdeal.main_arg2)
      ∧ r.2.mem ((c.tc : Thread Cert.ReduceIdeal.nD Cert.ReduceIdeal.τ).loc Cert.ReduceIdeal.main_arg3) = m ((c.tc : Thread Cert.ReduceIdeal.nD Cert.ReduceIdeal.τ).loc Cert.ReduceIdeal.main_arg3)
      ∧ r.2.mem ((c.tc : Thread Cert.ReduceIdeal.nD Cert.ReduceIdeal.τ).loc Cert.ReduceIdeal.main_arg4) = m ((c.tc : Thread Cert.ReduceIdeal.nD Cert.ReduceIdeal.τ).loc Cert.ReduceIdeal.main_arg4)
      ∧ r.2.mem ((c.tc : Thread Cert.ReduceIdeal.nD Cert.ReduceIdeal.τ).loc Cert.ReduceIdeal.main_arg5) = m ((c.tc : Thread Cert.ReduceIdeal.nD Cert.ReduceIdeal.τ).loc Cert.ReduceIdeal.main_arg5)
      ∧ r.2.mem ((c.tc : Thread Cert.ReduceIdeal.nD Cert.ReduceIdeal.τ).loc Cert.ReduceIdeal.main_arg6) = m ((c.tc : Thread Cert.ReduceIdeal.nD Cert.ReduceIdeal.τ).loc Cert.ReduceIdeal.main_arg6)
      ∧ r.2.mem ((c.tc : Thread Cert.ReduceIdeal.nD Cert.ReduceIdeal.τ).loc Cert.ReduceIdeal.main_arg7) = m ((c.tc : Thread Cert.ReduceIdeal.nD Cert.ReduceIdeal.τ).loc Cert.ReduceIdeal.main_arg7)
      ∧ r.2.mem ((c.tc : Thread Cert.ReduceIdeal.nD Cert.ReduceIdeal.τ).loc Cert.ReduceIdeal.main_arg8) = m ((c.tc : Thread Cert.ReduceIdeal.nD Cert.ReduceIdeal.τ).loc Cert.ReduceIdeal.main_arg8))
      ∧ r.2.sem = fun _ => 0)

def quiescent_ReduceRefIdeal [hReduceRefIdeal : Cert.ReduceRefIdeal.Facts] : Prop :=
  ∀ (m : (ℓ : Loc Cert.ReduceRefIdeal.nD Cert.ReduceRefIdeal.τ Cert.ReduceRefIdeal.sig) → Buf (Elt Ideal) ℓ) (g : Dev Cert.ReduceRefIdeal.nD → PrngReg), Pre_ReduceRefIdeal m →
    θ_run (Cert.ReduceRefIdeal.defs (F := Ideal)) (onTc (τ := Cert.ReduceRefIdeal.τ) (Cert.ReduceRefIdeal.main (F := Ideal))) ⟨m, fun _ => 0, g⟩ (fun r => (∀ c : Dev Cert.ReduceRefIdeal.nD,
      r.2.mem ((c.tc : Thread Cert.ReduceRefIdeal.nD Cert.ReduceRefIdeal.τ).loc Cert.ReduceRefIdeal.main_arg0) = m ((c.tc : Thread Cert.ReduceRefIdeal.nD Cert.ReduceRefIdeal.τ).loc Cert.ReduceRefIdeal.main_arg0)
      ∧ r.2.mem ((c.tc : Thread Cert.ReduceRefIdeal.nD Cert.ReduceRefIdeal.τ).loc Cert.ReduceRefIdeal.main_arg1) = m ((c.tc : Thread Cert.ReduceRefIdeal.nD Cert.ReduceRefIdeal.τ).loc Cert.ReduceRefIdeal.main_arg1)
      ∧ r.2.mem ((c.tc : Thread Cert.ReduceRefIdeal.nD Cert.ReduceRefIdeal.τ).loc Cert.ReduceRefIdeal.main_arg2) = m ((c.tc : Thread Cert.ReduceRefIdeal.nD Cert.ReduceRefIdeal.τ).loc Cert.ReduceRefIdeal.main_arg2)
      ∧ r.2.mem ((c.tc : Thread Cert.ReduceRefIdeal.nD Cert.ReduceRefIdeal.τ).loc Cert.ReduceRefIdeal.main_arg3) = m ((c.tc : Thread Cert.ReduceRefIdeal.nD Cert.ReduceRefIdeal.τ).loc Cert.ReduceRefIdeal.main_arg3)
      ∧ r.2.mem ((c.tc : Thread Cert.ReduceRefIdeal.nD Cert.ReduceRefIdeal.τ).loc Cert.ReduceRefIdeal.main_arg4) = m ((c.tc : Thread Cert.ReduceRefIdeal.nD Cert.ReduceRefIdeal.τ).loc Cert.ReduceRefIdeal.main_arg4)
      ∧ r.2.mem ((c.tc : Thread Cert.ReduceRefIdeal.nD Cert.ReduceRefIdeal.τ).loc Cert.ReduceRefIdeal.main_arg5) = m ((c.tc : Thread Cert.ReduceRefIdeal.nD Cert.ReduceRefIdeal.τ).loc Cert.ReduceRefIdeal.main_arg5)
      ∧ r.2.mem ((c.tc : Thread Cert.ReduceRefIdeal.nD Cert.ReduceRefIdeal.τ).loc Cert.ReduceRefIdeal.main_arg6) = m ((c.tc : Thread Cert.ReduceRefIdeal.nD Cert.ReduceRefIdeal.τ).loc Cert.ReduceRefIdeal.main_arg6)
      ∧ r.2.mem ((c.tc : Thread Cert.ReduceRefIdeal.nD Cert.ReduceRefIdeal.τ).loc Cert.ReduceRefIdeal.main_arg7) = m ((c.tc : Thread Cert.ReduceRefIdeal.nD Cert.ReduceRefIdeal.τ).loc Cert.ReduceRefIdeal.main_arg7)
      ∧ r.2.mem ((c.tc : Thread Cert.ReduceRefIdeal.nD Cert.ReduceRefIdeal.τ).loc Cert.ReduceRefIdeal.main_arg8) = m ((c.tc : Thread Cert.ReduceRefIdeal.nD Cert.ReduceRefIdeal.τ).loc Cert.ReduceRefIdeal.main_arg8))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamAda [hAdamAda : Cert.AdamAda.Facts] : Prop :=
  ∀ (m : (ℓ : Loc Cert.AdamAda.nD Cert.AdamAda.τ Cert.AdamAda.sig) → Buf (Elt Bits) ℓ) (g : Dev Cert.AdamAda.nD → PrngReg), Pre_AdamAda m →
    θ_run (Cert.AdamAda.defs (F := Bits)) (onTc (τ := Cert.AdamAda.τ) (Cert.AdamAda.main (F := Bits))) ⟨m, fun _ => 0, g⟩ (fun r => (∀ c : Dev Cert.AdamAda.nD,
      r.2.mem ((c.tc : Thread Cert.AdamAda.nD Cert.AdamAda.τ).loc Cert.AdamAda.main_arg0) = m ((c.tc : Thread Cert.AdamAda.nD Cert.AdamAda.τ).loc Cert.AdamAda.main_arg0)
      ∧ r.2.mem ((c.tc : Thread Cert.AdamAda.nD Cert.AdamAda.τ).loc Cert.AdamAda.main_arg1) = m ((c.tc : Thread Cert.AdamAda.nD Cert.AdamAda.τ).loc Cert.AdamAda.main_arg1)
      ∧ r.2.mem ((c.tc : Thread Cert.AdamAda.nD Cert.AdamAda.τ).loc Cert.AdamAda.main_arg2) = m ((c.tc : Thread Cert.AdamAda.nD Cert.AdamAda.τ).loc Cert.AdamAda.main_arg2)
      ∧ r.2.mem ((c.tc : Thread Cert.AdamAda.nD Cert.AdamAda.τ).loc Cert.AdamAda.main_arg3) = m ((c.tc : Thread Cert.AdamAda.nD Cert.AdamAda.τ).loc Cert.AdamAda.main_arg3))
      ∧ r.2.sem = fun _ => 0)

def quiescent_AdamAdaIdeal [hAdamAdaIdeal : Cert.AdamAdaIdeal.Facts] : Prop :=
  ∀ (m : (ℓ : Loc Cert.AdamAdaIdeal.nD Cert.AdamAdaIdeal.τ Cert.AdamAdaIdeal.sig) → Buf (Elt Ideal) ℓ) (g : Dev Cert.AdamAdaIdeal.nD → PrngReg), Pre_AdamAdaIdeal m →
    θ_run (Cert.AdamAdaIdeal.defs (F := Ideal)) (onTc (τ := Cert.AdamAdaIdeal.τ) (Cert.AdamAdaIdeal.main (F := Ideal))) ⟨m, fun _ => 0, g⟩ (fun r => (∀ c : Dev Cert.AdamAdaIdeal.nD,
      r.2.mem ((c.tc : Thread Cert.AdamAdaIdeal.nD Cert.AdamAdaIdeal.τ).loc Cert.AdamAdaIdeal.main_arg0) = m ((c.tc : Thread Cert.AdamAdaIdeal.nD Cert.AdamAdaIdeal.τ).loc Cert.AdamAdaIdeal.main_arg0)
      ∧ r.2.mem ((c.tc : Thread Cert.AdamAdaIdeal.nD Cert.AdamAdaIdeal.τ).loc Cert.AdamAdaIdeal.main_arg1) = m ((c.tc : Thread Cert.AdamAdaIdeal.nD Cert.AdamAdaIdeal.τ).loc Cert.AdamAdaIdeal.main_arg1)
      ∧ r.2.mem ((c.tc : Thread Cert.AdamAdaIdeal.nD Cert.AdamAdaIdeal.τ).loc Cert.AdamAdaIdeal.main_arg2) = m ((c.tc : Thread Cert.AdamAdaIdeal.nD Cert.AdamAdaIdeal.τ).loc Cert.AdamAdaIdeal.main_arg2)
      ∧ r.2.mem ((c.tc : Thread Cert.AdamAdaIdeal.nD Cert.AdamAdaIdeal.τ).loc Cert.AdamAdaIdeal.main_arg3) = m ((c.tc : Thread Cert.AdamAdaIdeal.nD Cert.AdamAdaIdeal.τ).loc Cert.AdamAdaIdeal.main_arg3))
      ∧ r.2.sem = fun _ => 0)

def quiescent_AdamAdaRefIdeal [hAdamAdaRefIdeal : Cert.AdamAdaRefIdeal.Facts] : Prop :=
  ∀ (m : (ℓ : Loc Cert.AdamAdaRefIdeal.nD Cert.AdamAdaRefIdeal.τ Cert.AdamAdaRefIdeal.sig) → Buf (Elt Ideal) ℓ) (g : Dev Cert.AdamAdaRefIdeal.nD → PrngReg), Pre_AdamAdaRefIdeal m →
    θ_run (Cert.AdamAdaRefIdeal.defs (F := Ideal)) (onTc (τ := Cert.AdamAdaRefIdeal.τ) (Cert.AdamAdaRefIdeal.main (F := Ideal))) ⟨m, fun _ => 0, g⟩ (fun r => (∀ c : Dev Cert.AdamAdaRefIdeal.nD,
      r.2.mem ((c.tc : Thread Cert.AdamAdaRefIdeal.nD Cert.AdamAdaRefIdeal.τ).loc Cert.AdamAdaRefIdeal.main_arg0) = m ((c.tc : Thread Cert.AdamAdaRefIdeal.nD Cert.AdamAdaRefIdeal.τ).loc Cert.AdamAdaRefIdeal.main_arg0)
      ∧ r.2.mem ((c.tc : Thread Cert.AdamAdaRefIdeal.nD Cert.AdamAdaRefIdeal.τ).loc Cert.AdamAdaRefIdeal.main_arg1) = m ((c.tc : Thread Cert.AdamAdaRefIdeal.nD Cert.AdamAdaRefIdeal.τ).loc Cert.AdamAdaRefIdeal.main_arg1)
      ∧ r.2.mem ((c.tc : Thread Cert.AdamAdaRefIdeal.nD Cert.AdamAdaRefIdeal.τ).loc Cert.AdamAdaRefIdeal.main_arg2) = m ((c.tc : Thread Cert.AdamAdaRefIdeal.nD Cert.AdamAdaRefIdeal.τ).loc Cert.AdamAdaRefIdeal.main_arg2)
      ∧ r.2.mem ((c.tc : Thread Cert.AdamAdaRefIdeal.nD Cert.AdamAdaRefIdeal.τ).loc Cert.AdamAdaRefIdeal.main_arg3) = m ((c.tc : Thread Cert.AdamAdaRefIdeal.nD Cert.AdamAdaRefIdeal.τ).loc Cert.AdamAdaRefIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3)
      ∧ r.2.mem ((c.tc : Thread Cert.AdamSmall.nD Cert.AdamSmall.τ).loc Cert.AdamSmall.main_arg4) = m ((c.tc : Thread Cert.AdamSmall.nD Cert.AdamSmall.τ).loc Cert.AdamSmall.main_arg4)
      ∧ r.2.mem ((c.tc : Thread Cert.AdamSmall.nD Cert.AdamSmall.τ).loc Cert.AdamSmall.main_arg5) = m ((c.tc : Thread Cert.AdamSmall.nD Cert.AdamSmall.τ).loc Cert.AdamSmall.main_arg5)
      ∧ r.2.mem ((c.tc : Thread Cert.AdamSmall.nD Cert.AdamSmall.τ).loc Cert.AdamSmall.main_arg6) = m ((c.tc : Thread Cert.AdamSmall.nD Cert.AdamSmall.τ).loc Cert.AdamSmall.main_arg6)
      ∧ r.2.mem ((c.tc : Thread Cert.AdamSmall.nD Cert.AdamSmall.τ).loc Cert.AdamSmall.main_arg7) = m ((c.tc : Thread Cert.AdamSmall.nD Cert.AdamSmall.τ).loc Cert.AdamSmall.main_arg7)
      ∧ r.2.mem ((c.tc : Thread Cert.AdamSmall.nD Cert.AdamSmall.τ).loc Cert.AdamSmall.main_arg8) = m ((c.tc : Thread Cert.AdamSmall.nD Cert.AdamSmall.τ).loc Cert.AdamSmall.main_arg8)
      ∧ r.2.mem ((c.tc : Thread Cert.AdamSmall.nD Cert.AdamSmall.τ).loc Cert.AdamSmall.main_arg9) = m ((c.tc : Thread Cert.AdamSmall.nD Cert.AdamSmall.τ).loc Cert.AdamSmall.main_arg9)
      ∧ r.2.mem ((c.tc : Thread Cert.AdamSmall.nD Cert.AdamSmall.τ).loc Cert.AdamSmall.main_arg10) = m ((c.tc : Thread Cert.AdamSmall.nD Cert.AdamSmall.τ).loc Cert.AdamSmall.main_arg10)
      ∧ r.2.mem ((c.tc : Thread Cert.AdamSmall.nD Cert.AdamSmall.τ).loc Cert.AdamSmall.main_arg11) = m ((c.tc : Thread Cert.AdamSmall.nD Cert.AdamSmall.τ).loc Cert.AdamSmall.main_arg11)
      ∧ r.2.mem ((c.tc : Thread Cert.AdamSmall.nD Cert.AdamSmall.τ).loc Cert.AdamSmall.main_arg12) = m ((c.tc : Thread Cert.AdamSmall.nD Cert.AdamSmall.τ).loc Cert.AdamSmall.main_arg12)
      ∧ r.2.mem ((c.tc : Thread Cert.AdamSmall.nD Cert.AdamSmall.τ).loc Cert.AdamSmall.main_arg13) = m ((c.tc : Thread Cert.AdamSmall.nD Cert.AdamSmall.τ).loc Cert.AdamSmall.main_arg13)
      ∧ r.2.mem ((c.tc : Thread Cert.AdamSmall.nD Cert.AdamSmall.τ).loc Cert.AdamSmall.main_arg14) = m ((c.tc : Thread Cert.AdamSmall.nD Cert.AdamSmall.τ).loc Cert.AdamSmall.main_arg14)
      ∧ r.2.mem ((c.tc : Thread Cert.AdamSmall.nD Cert.AdamSmall.τ).loc Cert.AdamSmall.main_arg15) = m ((c.tc : Thread Cert.AdamSmall.nD Cert.AdamSmall.τ).loc Cert.AdamSmall.main_arg15)
      ∧ r.2.mem ((c.tc : Thread Cert.AdamSmall.nD Cert.AdamSmall.τ).loc Cert.AdamSmall.main_arg16) = m ((c.tc : Thread Cert.AdamSmall.nD Cert.AdamSmall.τ).loc Cert.AdamSmall.main_arg16)
      ∧ r.2.mem ((c.tc : Thread Cert.AdamSmall.nD Cert.AdamSmall.τ).loc Cert.AdamSmall.main_arg17) = m ((c.tc : Thread Cert.AdamSmall.nD Cert.AdamSmall.τ).loc Cert.AdamSmall.main_arg17)
      ∧ r.2.mem ((c.tc : Thread Cert.AdamSmall.nD Cert.AdamSmall.τ).loc Cert.AdamSmall.main_arg18) = m ((c.tc : Thread Cert.AdamSmall.nD Cert.AdamSmall.τ).loc Cert.AdamSmall.main_arg18)
      ∧ r.2.mem ((c.tc : Thread Cert.AdamSmall.nD Cert.AdamSmall.τ).loc Cert.AdamSmall.main_arg19) = m ((c.tc : Thread Cert.AdamSmall.nD Cert.AdamSmall.τ).loc Cert.AdamSmall.main_arg19)
      ∧ r.2.mem ((c.tc : Thread Cert.AdamSmall.nD Cert.AdamSmall.τ).loc Cert.AdamSmall.main_arg20) = m ((c.tc : Thread Cert.AdamSmall.nD Cert.AdamSmall.τ).loc Cert.AdamSmall.main_arg20)
      ∧ r.2.mem ((c.tc : Thread Cert.AdamSmall.nD Cert.AdamSmall.τ).loc Cert.AdamSmall.main_arg21) = m ((c.tc : Thread Cert.AdamSmall.nD Cert.AdamSmall.τ).loc Cert.AdamSmall.main_arg21)
      ∧ r.2.mem ((c.tc : Thread Cert.AdamSmall.nD Cert.AdamSmall.τ).loc Cert.AdamSmall.main_arg22) = m ((c.tc : Thread Cert.AdamSmall.nD Cert.AdamSmall.τ).loc Cert.AdamSmall.main_arg22)
      ∧ r.2.mem ((c.tc : Thread Cert.AdamSmall.nD Cert.AdamSmall.τ).loc Cert.AdamSmall.main_arg23) = m ((c.tc : Thread Cert.AdamSmall.nD Cert.AdamSmall.τ).loc Cert.AdamSmall.main_arg23)
      ∧ r.2.mem ((c.tc : Thread Cert.AdamSmall.nD Cert.AdamSmall.τ).loc Cert.AdamSmall.main_arg24) = m ((c.tc : Thread Cert.AdamSmall.nD Cert.AdamSmall.τ).loc Cert.AdamSmall.main_arg24)
      ∧ r.2.mem ((c.tc : Thread Cert.AdamSmall.nD Cert.AdamSmall.τ).loc Cert.AdamSmall.main_arg25) = m ((c.tc : Thread Cert.AdamSmall.nD Cert.AdamSmall.τ).loc Cert.AdamSmall.main_arg25)
      ∧ r.2.mem ((c.tc : Thread Cert.AdamSmall.nD Cert.AdamSmall.τ).loc Cert.AdamSmall.main_arg26) = m ((c.tc : Thread Cert.AdamSmall.nD Cert.AdamSmall.τ).loc Cert.AdamSmall.main_arg26)
      ∧ r.2.mem ((c.tc : Thread Cert.AdamSmall.nD Cert.AdamSmall.τ).loc Cert.AdamSmall.main_arg27) = m ((c.tc : Thread Cert.AdamSmall.nD Cert.AdamSmall.τ).loc Cert.AdamSmall.main_arg27)
      ∧ r.2.mem ((c.tc : Thread Cert.AdamSmall.nD Cert.AdamSmall.τ).loc Cert.AdamSmall.main_arg28) = m ((c.tc : Thread Cert.AdamSmall.nD Cert.AdamSmall.τ).loc Cert.AdamSmall.main_arg28)
      ∧ r.2.mem ((c.tc : Thread Cert.AdamSmall.nD Cert.AdamSmall.τ).loc Cert.AdamSmall.main_arg29) = m ((c.tc : Thread Cert.AdamSmall.nD Cert.AdamSmall.τ).loc Cert.AdamSmall.main_arg29)
      ∧ r.2.mem ((c.tc : Thread Cert.AdamSmall.nD Cert.AdamSmall.τ).loc Cert.AdamSmall.main_arg30) = m ((c.tc : Thread Cert.AdamSmall.nD Cert.AdamSmall.τ).loc Cert.AdamSmall.main_arg30)
      ∧ r.2.mem ((c.tc : Thread Cert.AdamSmall.nD Cert.AdamSmall.τ).loc Cert.AdamSmall.main_arg31) = m ((c.tc : Thread Cert.AdamSmall.nD Cert.AdamSmall.τ).loc Cert.AdamSmall.main_arg31)
      ∧ r.2.mem ((c.tc : Thread Cert.AdamSmall.nD Cert.AdamSmall.τ).loc Cert.AdamSmall.main_arg32) = m ((c.tc : Thread Cert.AdamSmall.nD Cert.AdamSmall.τ).loc Cert.AdamSmall.main_arg32)
      ∧ r.2.mem ((c.tc : Thread Cert.AdamSmall.nD Cert.AdamSmall.τ).loc Cert.AdamSmall.main_arg33) = m ((c.tc : Thread Cert.AdamSmall.nD Cert.AdamSmall.τ).loc Cert.AdamSmall.main_arg33)
      ∧ r.2.mem ((c.tc : Thread Cert.AdamSmall.nD Cert.AdamSmall.τ).loc Cert.AdamSmall.main_arg34) = m ((c.tc : Thread Cert.AdamSmall.nD Cert.AdamSmall.τ).loc Cert.AdamSmall.main_arg34)
      ∧ r.2.mem ((c.tc : Thread Cert.AdamSmall.nD Cert.AdamSmall.τ).loc Cert.AdamSmall.main_arg35) = m ((c.tc : Thread Cert.AdamSmall.nD Cert.AdamSmall.τ).loc Cert.AdamSmall.main_arg35))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3)
      ∧ r.2.mem ((c.tc : Thread Cert.AdamSmallIdeal.nD Cert.AdamSmallIdeal.τ).loc Cert.AdamSmallIdeal.main_arg4) = m ((c.tc : Thread Cert.AdamSmallIdeal.nD Cert.AdamSmallIdeal.τ).loc Cert.AdamSmallIdeal.main_arg4)
      ∧ r.2.mem ((c.tc : Thread Cert.AdamSmallIdeal.nD Cert.AdamSmallIdeal.τ).loc Cert.AdamSmallIdeal.main_arg5) = m ((c.tc : Thread Cert.AdamSmallIdeal.nD Cert.AdamSmallIdeal.τ).loc Cert.AdamSmallIdeal.main_arg5)
      ∧ r.2.mem ((c.tc : Thread Cert.AdamSmallIdeal.nD Cert.AdamSmallIdeal.τ).loc Cert.AdamSmallIdeal.main_arg6) = m ((c.tc : Thread Cert.AdamSmallIdeal.nD Cert.AdamSmallIdeal.τ).loc Cert.AdamSmallIdeal.main_arg6)
      ∧ r.2.mem ((c.tc : Thread Cert.AdamSmallIdeal.nD Cert.AdamSmallIdeal.τ).loc Cert.AdamSmallIdeal.main_arg7) = m ((c.tc : Thread Cert.AdamSmallIdeal.nD Cert.AdamSmallIdeal.τ).loc Cert.AdamSmallIdeal.main_arg7)
      ∧ r.2.mem ((c.tc : Thread Cert.AdamSmallIdeal.nD Cert.AdamSmallIdeal.τ).loc Cert.AdamSmallIdeal.main_arg8) = m ((c.tc : Thread Cert.AdamSmallIdeal.nD Cert.AdamSmallIdeal.τ).loc Cert.AdamSmallIdeal.main_arg8)
      ∧ r.2.mem ((c.tc : Thread Cert.AdamSmallIdeal.nD Cert.AdamSmallIdeal.τ).loc Cert.AdamSmallIdeal.main_arg9) = m ((c.tc : Thread Cert.AdamSmallIdeal.nD Cert.AdamSmallIdeal.τ).loc Cert.AdamSmallIdeal.main_arg9)
      ∧ r.2.mem ((c.tc : Thread Cert.AdamSmallIdeal.nD Cert.AdamSmallIdeal.τ).loc Cert.AdamSmallIdeal.main_arg10) = m ((c.tc : Thread Cert.AdamSmallIdeal.nD Cert.AdamSmallIdeal.τ).loc Cert.AdamSmallIdeal.main_arg10)
      ∧ r.2.mem ((c.tc : Thread Cert.AdamSmallIdeal.nD Cert.AdamSmallIdeal.τ).loc Cert.AdamSmallIdeal.main_arg11) = m ((c.tc : Thread Cert.AdamSmallIdeal.nD Cert.AdamSmallIdeal.τ).loc Cert.AdamSmallIdeal.main_arg11)
      ∧ r.2.mem ((c.tc : Thread Cert.AdamSmallIdeal.nD Cert.AdamSmallIdeal.τ).loc Cert.AdamSmallIdeal.main_arg12) = m ((c.tc : Thread Cert.AdamSmallIdeal.nD Cert.AdamSmallIdeal.τ).loc Cert.AdamSmallIdeal.main_arg12)
      ∧ r.2.mem ((c.tc : Thread Cert.AdamSmallIdeal.nD Cert.AdamSmallIdeal.τ).loc Cert.AdamSmallIdeal.main_arg13) = m ((c.tc : Thread Cert.AdamSmallIdeal.nD Cert.AdamSmallIdeal.τ).loc Cert.AdamSmallIdeal.main_arg13)
      ∧ r.2.mem ((c.tc : Thread Cert.AdamSmallIdeal.nD Cert.AdamSmallIdeal.τ).loc Cert.AdamSmallIdeal.main_arg14) = m ((c.tc : Thread Cert.AdamSmallIdeal.nD Cert.AdamSmallIdeal.τ).loc Cert.AdamSmallIdeal.main_arg14)
      ∧ r.2.mem ((c.tc : Thread Cert.AdamSmallIdeal.nD Cert.AdamSmallIdeal.τ).loc Cert.AdamSmallIdeal.main_arg15) = m ((c.tc : Thread Cert.AdamSmallIdeal.nD Cert.AdamSmallIdeal.τ).loc Cert.AdamSmallIdeal.main_arg15)
      ∧ r.2.mem ((c.tc : Thread Cert.AdamSmallIdeal.nD Cert.AdamSmallIdeal.τ).loc Cert.AdamSmallIdeal.main_arg16) = m ((c.tc : Thread Cert.AdamSmallIdeal.nD Cert.AdamSmallIdeal.τ).loc Cert.AdamSmallIdeal.main_arg16)
      ∧ r.2.mem ((c.tc : Thread Cert.AdamSmallIdeal.nD Cert.AdamSmallIdeal.τ).loc Cert.AdamSmallIdeal.main_arg17) = m ((c.tc : Thread Cert.AdamSmallIdeal.nD Cert.AdamSmallIdeal.τ).loc Cert.AdamSmallIdeal.main_arg17)
      ∧ r.2.mem ((c.tc : Thread Cert.AdamSmallIdeal.nD Cert.AdamSmallIdeal.τ).loc Cert.AdamSmallIdeal.main_arg18) = m ((c.tc : Thread Cert.AdamSmallIdeal.nD Cert.AdamSmallIdeal.τ).loc Cert.AdamSmallIdeal.main_arg18)
      ∧ r.2.mem ((c.tc : Thread Cert.AdamSmallIdeal.nD Cert.AdamSmallIdeal.τ).loc Cert.AdamSmallIdeal.main_arg19) = m ((c.tc : Thread Cert.AdamSmallIdeal.nD Cert.AdamSmallIdeal.τ).loc Cert.AdamSmallIdeal.main_arg19)
      ∧ r.2.mem ((c.tc : Thread Cert.AdamSmallIdeal.nD Cert.AdamSmallIdeal.τ).loc Cert.AdamSmallIdeal.main_arg20) = m ((c.tc : Thread Cert.AdamSmallIdeal.nD Cert.AdamSmallIdeal.τ).loc Cert.AdamSmallIdeal.main_arg20)
      ∧ r.2.mem ((c.tc : Thread Cert.AdamSmallIdeal.nD Cert.AdamSmallIdeal.τ).loc Cert.AdamSmallIdeal.main_arg21) = m ((c.tc : Thread Cert.AdamSmallIdeal.nD Cert.AdamSmallIdeal.τ).loc Cert.AdamSmallIdeal.main_arg21)
      ∧ r.2.mem ((c.tc : Thread Cert.AdamSmallIdeal.nD Cert.AdamSmallIdeal.τ).loc Cert.AdamSmallIdeal.main_arg22) = m ((c.tc : Thread Cert.AdamSmallIdeal.nD Cert.AdamSmallIdeal.τ).loc Cert.AdamSmallIdeal.main_arg22)
      ∧ r.2.mem ((c.tc : Thread Cert.AdamSmallIdeal.nD Cert.AdamSmallIdeal.τ).loc Cert.AdamSmallIdeal.main_arg23) = m ((c.tc : Thread Cert.AdamSmallIdeal.nD Cert.AdamSmallIdeal.τ).loc Cert.AdamSmallIdeal.main_arg23)
      ∧ r.2.mem ((c.tc : Thread Cert.AdamSmallIdeal.nD Cert.AdamSmallIdeal.τ).loc Cert.AdamSmallIdeal.main_arg24) = m ((c.tc : Thread Cert.AdamSmallIdeal.nD Cert.AdamSmallIdeal.τ).loc Cert.AdamSmallIdeal.main_arg24)
      ∧ r.2.mem ((c.tc : Thread Cert.AdamSmallIdeal.nD Cert.AdamSmallIdeal.τ).loc Cert.AdamSmallIdeal.main_arg25) = m ((c.tc : Thread Cert.AdamSmallIdeal.nD Cert.AdamSmallIdeal.τ).loc Cert.AdamSmallIdeal.main_arg25)
      ∧ r.2.mem ((c.tc : Thread Cert.AdamSmallIdeal.nD Cert.AdamSmallIdeal.τ).loc Cert.AdamSmallIdeal.main_arg26) = m ((c.tc : Thread Cert.AdamSmallIdeal.nD Cert.AdamSmallIdeal.τ).loc Cert.AdamSmallIdeal.main_arg26)
      ∧ r.2.mem ((c.tc : Thread Cert.AdamSmallIdeal.nD Cert.AdamSmallIdeal.τ).loc Cert.AdamSmallIdeal.main_arg27) = m ((c.tc : Thread Cert.AdamSmallIdeal.nD Cert.AdamSmallIdeal.τ).loc Cert.AdamSmallIdeal.main_arg27)
      ∧ r.2.mem ((c.tc : Thread Cert.AdamSmallIdeal.nD Cert.AdamSmallIdeal.τ).loc Cert.AdamSmallIdeal.main_arg28) = m ((c.tc : Thread Cert.AdamSmallIdeal.nD Cert.AdamSmallIdeal.τ).loc Cert.AdamSmallIdeal.main_arg28)
      ∧ r.2.mem ((c.tc : Thread Cert.AdamSmallIdeal.nD Cert.AdamSmallIdeal.τ).loc Cert.AdamSmallIdeal.main_arg29) = m ((c.tc : Thread Cert.AdamSmallIdeal.nD Cert.AdamSmallIdeal.τ).loc Cert.AdamSmallIdeal.main_arg29)
      ∧ r.2.mem ((c.tc : Thread Cert.AdamSmallIdeal.nD Cert.AdamSmallIdeal.τ).loc Cert.AdamSmallIdeal.main_arg30) = m ((c.tc : Thread Cert.AdamSmallIdeal.nD Cert.AdamSmallIdeal.τ).loc Cert.AdamSmallIdeal.main_arg30)
      ∧ r.2.mem ((c.tc : Thread Cert.AdamSmallIdeal.nD Cert.AdamSmallIdeal.τ).loc Cert.AdamSmallIdeal.main_arg31) = m ((c.tc : Thread Cert.AdamSmallIdeal.nD Cert.AdamSmallIdeal.τ).loc Cert.AdamSmallIdeal.main_arg31)
      ∧ r.2.mem ((c.tc : Thread Cert.AdamSmallIdeal.nD Cert.AdamSmallIdeal.τ).loc Cert.AdamSmallIdeal.main_arg32) = m ((c.tc : Thread Cert.AdamSmallIdeal.nD Cert.AdamSmallIdeal.τ).loc Cert.AdamSmallIdeal.main_arg32)
      ∧ r.2.mem ((c.tc : Thread Cert.AdamSmallIdeal.nD Cert.AdamSmallIdeal.τ).loc Cert.AdamSmallIdeal.main_arg33) = m ((c.tc : Thread Cert.AdamSmallIdeal.nD Cert.AdamSmallIdeal.τ).loc Cert.AdamSmallIdeal.main_arg33)
      ∧ r.2.mem ((c.tc : Thread Cert.AdamSmallIdeal.nD Cert.AdamSmallIdeal.τ).loc Cert.AdamSmallIdeal.main_arg34) = m ((c.tc : Thread Cert.AdamSmallIdeal.nD Cert.AdamSmallIdeal.τ).loc Cert.AdamSmallIdeal.main_arg34)
      ∧ r.2.mem ((c.tc : Thread Cert.AdamSmallIdeal.nD Cert.AdamSmallIdeal.τ).loc Cert.AdamSmallIdeal.main_arg35) = m ((c.tc : Thread Cert.AdamSmallIdeal.nD Cert.AdamSmallIdeal.τ).loc Cert.AdamSmallIdeal.main_arg35))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3)
      ∧ r.2.mem ((c.tc : Thread Cert.AdamSmallRefIdeal.nD Cert.AdamSmallRefIdeal.τ).loc Cert.AdamSmallRefIdeal.main_arg4) = m ((c.tc : Thread Cert.AdamSmallRefIdeal.nD Cert.AdamSmallRefIdeal.τ).loc Cert.AdamSmallRefIdeal.main_arg4)
      ∧ r.2.mem ((c.tc : Thread Cert.AdamSmallRefIdeal.nD Cert.AdamSmallRefIdeal.τ).loc Cert.AdamSmallRefIdeal.main_arg5) = m ((c.tc : Thread Cert.AdamSmallRefIdeal.nD Cert.AdamSmallRefIdeal.τ).loc Cert.AdamSmallRefIdeal.main_arg5)
      ∧ r.2.mem ((c.tc : Thread Cert.AdamSmallRefIdeal.nD Cert.AdamSmallRefIdeal.τ).loc Cert.AdamSmallRefIdeal.main_arg6) = m ((c.tc : Thread Cert.AdamSmallRefIdeal.nD Cert.AdamSmallRefIdeal.τ).loc Cert.AdamSmallRefIdeal.main_arg6)
      ∧ r.2.mem ((c.tc : Thread Cert.AdamSmallRefIdeal.nD Cert.AdamSmallRefIdeal.τ).loc Cert.AdamSmallRefIdeal.main_arg7) = m ((c.tc : Thread Cert.AdamSmallRefIdeal.nD Cert.AdamSmallRefIdeal.τ).loc Cert.AdamSmallRefIdeal.main_arg7)
      ∧ r.2.mem ((c.tc : Thread Cert.AdamSmallRefIdeal.nD Cert.AdamSmallRefIdeal.τ).loc Cert.AdamSmallRefIdeal.main_arg8) = m ((c.tc : Thread Cert.AdamSmallRefIdeal.nD Cert.AdamSmallRefIdeal.τ).loc Cert.AdamSmallRefIdeal.main_arg8)
      ∧ r.2.mem ((c.tc : Thread Cert.AdamSmallRefIdeal.nD Cert.AdamSmallRefIdeal.τ).loc Cert.AdamSmallRefIdeal.main_arg9) = m ((c.tc : Thread Cert.AdamSmallRefIdeal.nD Cert.AdamSmallRefIdeal.τ).loc Cert.AdamSmallRefIdeal.main_arg9)
      ∧ r.2.mem ((c.tc : Thread Cert.AdamSmallRefIdeal.nD Cert.AdamSmallRefIdeal.τ).loc Cert.AdamSmallRefIdeal.main_arg10) = m ((c.tc : Thread Cert.AdamSmallRefIdeal.nD Cert.AdamSmallRefIdeal.τ).loc Cert.AdamSmallRefIdeal.main_arg10)
      ∧ r.2.mem ((c.tc : Thread Cert.AdamSmallRefIdeal.nD Cert.AdamSmallRefIdeal.τ).loc Cert.AdamSmallRefIdeal.main_arg11) = m ((c.tc : Thread Cert.AdamSmallRefIdeal.nD Cert.AdamSmallRefIdeal.τ).loc Cert.AdamSmallRefIdeal.main_arg11)
      ∧ r.2.mem ((c.tc : Thread Cert.AdamSmallRefIdeal.nD Cert.AdamSmallRefIdeal.τ).loc Cert.AdamSmallRefIdeal.main_arg12) = m ((c.tc : Thread Cert.AdamSmallRefIdeal.nD Cert.AdamSmallRefIdeal.τ).loc Cert.AdamSmallRefIdeal.main_arg12)
      ∧ r.2.mem ((c.tc : Thread Cert.AdamSmallRefIdeal.nD Cert.AdamSmallRefIdeal.τ).loc Cert.AdamSmallRefIdeal.main_arg13) = m ((c.tc : Thread Cert.AdamSmallRefIdeal.nD Cert.AdamSmallRefIdeal.τ).loc Cert.AdamSmallRefIdeal.main_arg13)
      ∧ r.2.mem ((c.tc : Thread Cert.AdamSmallRefIdeal.nD Cert.AdamSmallRefIdeal.τ).loc Cert.AdamSmallRefIdeal.main_arg14) = m ((c.tc : Thread Cert.AdamSmallRefIdeal.nD Cert.AdamSmallRefIdeal.τ).loc Cert.AdamSmallRefIdeal.main_arg14)
      ∧ r.2.mem ((c.tc : Thread Cert.AdamSmallRefIdeal.nD Cert.AdamSmallRefIdeal.τ).loc Cert.AdamSmallRefIdeal.main_arg15) = m ((c.tc : Thread Cert.AdamSmallRefIdeal.nD Cert.AdamSmallRefIdeal.τ).loc Cert.AdamSmallRefIdeal.main_arg15)
      ∧ r.2.mem ((c.tc : Thread Cert.AdamSmallRefIdeal.nD Cert.AdamSmallRefIdeal.τ).loc Cert.AdamSmallRefIdeal.main_arg16) = m ((c.tc : Thread Cert.AdamSmallRefIdeal.nD Cert.AdamSmallRefIdeal.τ).loc Cert.AdamSmallRefIdeal.main_arg16)
      ∧ r.2.mem ((c.tc : Thread Cert.AdamSmallRefIdeal.nD Cert.AdamSmallRefIdeal.τ).loc Cert.AdamSmallRefIdeal.main_arg17) = m ((c.tc : Thread Cert.AdamSmallRefIdeal.nD Cert.AdamSmallRefIdeal.τ).loc Cert.AdamSmallRefIdeal.main_arg17)
      ∧ r.2.mem ((c.tc : Thread Cert.AdamSmallRefIdeal.nD Cert.AdamSmallRefIdeal.τ).loc Cert.AdamSmallRefIdeal.main_arg18) = m ((c.tc : Thread Cert.AdamSmallRefIdeal.nD Cert.AdamSmallRefIdeal.τ).loc Cert.AdamSmallRefIdeal.main_arg18)
      ∧ r.2.mem ((c.tc : Thread Cert.AdamSmallRefIdeal.nD Cert.AdamSmallRefIdeal.τ).loc Cert.AdamSmallRefIdeal.main_arg19) = m ((c.tc : Thread Cert.AdamSmallRefIdeal.nD Cert.AdamSmallRefIdeal.τ).loc Cert.AdamSmallRefIdeal.main_arg19)
      ∧ r.2.mem ((c.tc : Thread Cert.AdamSmallRefIdeal.nD Cert.AdamSmallRefIdeal.τ).loc Cert.AdamSmallRefIdeal.main_arg20) = m ((c.tc : Thread Cert.AdamSmallRefIdeal.nD Cert.AdamSmallRefIdeal.τ).loc Cert.AdamSmallRefIdeal.main_arg20)
      ∧ r.2.mem ((c.tc : Thread Cert.AdamSmallRefIdeal.nD Cert.AdamSmallRefIdeal.τ).loc Cert.AdamSmallRefIdeal.main_arg21) = m ((c.tc : Thread Cert.AdamSmallRefIdeal.nD Cert.AdamSmallRefIdeal.τ).loc Cert.AdamSmallRefIdeal.main_arg21)
      ∧ r.2.mem ((c.tc : Thread Cert.AdamSmallRefIdeal.nD Cert.AdamSmallRefIdeal.τ).loc Cert.AdamSmallRefIdeal.main_arg22) = m ((c.tc : Thread Cert.AdamSmallRefIdeal.nD Cert.AdamSmallRefIdeal.τ).loc Cert.AdamSmallRefIdeal.main_arg22)
      ∧ r.2.mem ((c.tc : Thread Cert.AdamSmallRefIdeal.nD Cert.AdamSmallRefIdeal.τ).loc Cert.AdamSmallRefIdeal.main_arg23) = m ((c.tc : Thread Cert.AdamSmallRefIdeal.nD Cert.AdamSmallRefIdeal.τ).loc Cert.AdamSmallRefIdeal.main_arg23)
      ∧ r.2.mem ((c.tc : Thread Cert.AdamSmallRefIdeal.nD Cert.AdamSmallRefIdeal.τ).loc Cert.AdamSmallRefIdeal.main_arg24) = m ((c.tc : Thread Cert.AdamSmallRefIdeal.nD Cert.AdamSmallRefIdeal.τ).loc Cert.AdamSmallRefIdeal.main_arg24)
      ∧ r.2.mem ((c.tc : Thread Cert.AdamSmallRefIdeal.nD Cert.AdamSmallRefIdeal.τ).loc Cert.AdamSmallRefIdeal.main_arg25) = m ((c.tc : Thread Cert.AdamSmallRefIdeal.nD Cert.AdamSmallRefIdeal.τ).loc Cert.AdamSmallRefIdeal.main_arg25)
      ∧ r.2.mem ((c.tc : Thread Cert.AdamSmallRefIdeal.nD Cert.AdamSmallRefIdeal.τ).loc Cert.AdamSmallRefIdeal.main_arg26) = m ((c.tc : Thread Cert.AdamSmallRefIdeal.nD Cert.AdamSmallRefIdeal.τ).loc Cert.AdamSmallRefIdeal.main_arg26)
      ∧ r.2.mem ((c.tc : Thread Cert.AdamSmallRefIdeal.nD Cert.AdamSmallRefIdeal.τ).loc Cert.AdamSmallRefIdeal.main_arg27) = m ((c.tc : Thread Cert.AdamSmallRefIdeal.nD Cert.AdamSmallRefIdeal.τ).loc Cert.AdamSmallRefIdeal.main_arg27)
      ∧ r.2.mem ((c.tc : Thread Cert.AdamSmallRefIdeal.nD Cert.AdamSmallRefIdeal.τ).loc Cert.AdamSmallRefIdeal.main_arg28) = m ((c.tc : Thread Cert.AdamSmallRefIdeal.nD Cert.AdamSmallRefIdeal.τ).loc Cert.AdamSmallRefIdeal.main_arg28)
      ∧ r.2.mem ((c.tc : Thread Cert.AdamSmallRefIdeal.nD Cert.AdamSmallRefIdeal.τ).loc Cert.AdamSmallRefIdeal.main_arg29) = m ((c.tc : Thread Cert.AdamSmallRefIdeal.nD Cert.AdamSmallRefIdeal.τ).loc Cert.AdamSmallRefIdeal.main_arg29)
      ∧ r.2.mem ((c.tc : Thread Cert.AdamSmallRefIdeal.nD Cert.AdamSmallRefIdeal.τ).loc Cert.AdamSmallRefIdeal.main_arg30) = m ((c.tc : Thread Cert.AdamSmallRefIdeal.nD Cert.AdamSmallRefIdeal.τ).loc Cert.AdamSmallRefIdeal.main_arg30)
      ∧ r.2.mem ((c.tc : Thread Cert.AdamSmallRefIdeal.nD Cert.AdamSmallRefIdeal.τ).loc Cert.AdamSmallRefIdeal.main_arg31) = m ((c.tc : Thread Cert.AdamSmallRefIdeal.nD Cert.AdamSmallRefIdeal.τ).loc Cert.AdamSmallRefIdeal.main_arg31)
      ∧ r.2.mem ((c.tc : Thread Cert.AdamSmallRefIdeal.nD Cert.AdamSmallRefIdeal.τ).loc Cert.AdamSmallRefIdeal.main_arg32) = m ((c.tc : Thread Cert.AdamSmallRefIdeal.nD Cert.AdamSmallRefIdeal.τ).loc Cert.AdamSmallRefIdeal.main_arg32)
      ∧ r.2.mem ((c.tc : Thread Cert.AdamSmallRefIdeal.nD Cert.AdamSmallRefIdeal.τ).loc Cert.AdamSmallRefIdeal.main_arg33) = m ((c.tc : Thread Cert.AdamSmallRefIdeal.nD Cert.AdamSmallRefIdeal.τ).loc Cert.AdamSmallRefIdeal.main_arg33)
      ∧ r.2.mem ((c.tc : Thread Cert.AdamSmallRefIdeal.nD Cert.AdamSmallRefIdeal.τ).loc Cert.AdamSmallRefIdeal.main_arg34) = m ((c.tc : Thread Cert.AdamSmallRefIdeal.nD Cert.AdamSmallRefIdeal.τ).loc Cert.AdamSmallRefIdeal.main_arg34)
      ∧ r.2.mem ((c.tc : Thread Cert.AdamSmallRefIdeal.nD Cert.AdamSmallRefIdeal.τ).loc Cert.AdamSmallRefIdeal.main_arg35) = m ((c.tc : Thread Cert.AdamSmallRefIdeal.nD Cert.AdamSmallRefIdeal.τ).loc Cert.AdamSmallRefIdeal.main_arg35))
      ∧ r.2.sem = fun _ => 0)

def preserves_CtxBwd_CtxBwdIdeal : Prop :=
  True

def algebraic_CtxBwdIdeal_CtxRefIdeal [hCtxBwdIdeal : Cert.CtxBwdIdeal.Facts] [hCtxRefIdeal : Cert.CtxRefIdeal.Facts] : Prop :=
  ∀ (m : (ℓ : Loc Cert.CtxBwdIdeal.nD Cert.CtxBwdIdeal.τ Cert.CtxBwdIdeal.sig) → Buf (Elt Ideal) ℓ) (g : Dev Cert.CtxBwdIdeal.nD → PrngReg)
    (m' : (ℓ : Loc Cert.CtxRefIdeal.nD Cert.CtxRefIdeal.τ Cert.CtxRefIdeal.sig) → Buf (Elt Ideal) ℓ) (g' : Dev Cert.CtxRefIdeal.nD → PrngReg), Pre_CtxBwdIdeal m →
    (∀ c : Dev Cert.CtxBwdIdeal.nD,
      m' ((c.tc : Thread Cert.CtxRefIdeal.nD Cert.CtxRefIdeal.τ).loc Cert.CtxRefIdeal.main_arg0) = m ((c.tc : Thread Cert.CtxBwdIdeal.nD Cert.CtxBwdIdeal.τ).loc Cert.CtxBwdIdeal.main_arg0)
      ∧ m' ((c.tc : Thread Cert.CtxRefIdeal.nD Cert.CtxRefIdeal.τ).loc Cert.CtxRefIdeal.main_arg1) = m ((c.tc : Thread Cert.CtxBwdIdeal.nD Cert.CtxBwdIdeal.τ).loc Cert.CtxBwdIdeal.main_arg1)
      ∧ m' ((c.tc : Thread Cert.CtxRefIdeal.nD Cert.CtxRefIdeal.τ).loc Cert.CtxRefIdeal.main_arg2) = m ((c.tc : Thread Cert.CtxBwdIdeal.nD Cert.CtxBwdIdeal.τ).loc Cert.CtxBwdIdeal.main_arg2)
      ∧ m' ((c.tc : Thread Cert.CtxRefIdeal.nD Cert.CtxRefIdeal.τ).loc Cert.CtxRefIdeal.main_arg3) = m ((c.tc : Thread Cert.CtxBwdIdeal.nD Cert.CtxBwdIdeal.τ).loc Cert.CtxBwdIdeal.main_arg3)
      ∧ m' ((c.tc : Thread Cert.CtxRefIdeal.nD Cert.CtxRefIdeal.τ).loc Cert.CtxRefIdeal.main_arg4) = m ((c.tc : Thread Cert.CtxBwdIdeal.nD Cert.CtxBwdIdeal.τ).loc Cert.CtxBwdIdeal.main_arg4)
      ∧ m' ((c.tc : Thread Cert.CtxRefIdeal.nD Cert.CtxRefIdeal.τ).loc Cert.CtxRefIdeal.main_arg5) = m ((c.tc : Thread Cert.CtxBwdIdeal.nD Cert.CtxBwdIdeal.τ).loc Cert.CtxBwdIdeal.main_arg5)
      ∧ m' ((c.tc : Thread Cert.CtxRefIdeal.nD Cert.CtxRefIdeal.τ).loc Cert.CtxRefIdeal.main_arg6) = m ((c.tc : Thread Cert.CtxBwdIdeal.nD Cert.CtxBwdIdeal.τ).loc Cert.CtxBwdIdeal.main_arg6)) →
    ∃ (v0 : (c : Dev Cert.CtxBwdIdeal.nD) → Buf (Elt Ideal) ((c.tc : Thread Cert.CtxBwdIdeal.nD Cert.CtxBwdIdeal.τ).loc Cert.CtxBwdIdeal.main_v1_0)) (v1 : (c : Dev Cert.CtxBwdIdeal.nD) → Buf (Elt Ideal) ((c.tc : Thread Cert.CtxBwdIdeal.nD Cert.CtxBwdIdeal.τ).loc Cert.CtxBwdIdeal.main_v1_1)) (v2 : (c : Dev Cert.CtxBwdIdeal.nD) → Buf (Elt Ideal) ((c.tc : Thread Cert.CtxBwdIdeal.nD Cert.CtxBwdIdeal.τ).loc Cert.CtxBwdIdeal.main_v1_2)),
      θ_run (Cert.CtxBwdIdeal.defs (F := Ideal)) (onTc (τ := Cert.CtxBwdIdeal.τ) (Cert.CtxBwdIdeal.main (F := Ideal))) ⟨m, fun _ => 0, g⟩ (fun r => ∀ c : Dev Cert.CtxBwdIdeal.nD,
          r.2.mem ((c.tc : Thread Cert.CtxBwdIdeal.nD Cert.CtxBwdIdeal.τ).loc Cert.CtxBwdIdeal.main_v1_0) = v0 c
          ∧ r.2.mem ((c.tc : Thread Cert.CtxBwdIdeal.nD Cert.CtxBwdIdeal.τ).loc Cert.CtxBwdIdeal.main_v1_1) = v1 c
          ∧ r.2.mem ((c.tc : Thread Cert.CtxBwdIdeal.nD Cert.CtxBwdIdeal.τ).loc Cert.CtxBwdIdeal.main_v1_2) = v2 c
          ∧ r.2.mem ((c.tc : Thread Cert.CtxBwdIdeal.nD Cert.CtxBwdIdeal.τ).loc Cert.CtxBwdIdeal.main_arg0) = m ((c.tc : Thread Cert.CtxBwdIdeal.nD Cert.CtxBwdIdeal.τ).loc Cert.CtxBwdIdeal.main_arg0)
          ∧ r.2.mem ((c.tc : Thread Cert.CtxBwdIdeal.nD Cert.CtxBwdIdeal.τ).loc Cert.CtxBwdIdeal.main_arg1) = m ((c.tc : Thread Cert.CtxBwdIdeal.nD Cert.CtxBwdIdeal.τ).loc Cert.CtxBwdIdeal.main_arg1)
          ∧ r.2.mem ((c.tc : Thread Cert.CtxBwdIdeal.nD Cert.CtxBwdIdeal.τ).loc Cert.CtxBwdIdeal.main_arg2) = m ((c.tc : Thread Cert.CtxBwdIdeal.nD Cert.CtxBwdIdeal.τ).loc Cert.CtxBwdIdeal.main_arg2)
          ∧ r.2.mem ((c.tc : Thread Cert.CtxBwdIdeal.nD Cert.CtxBwdIdeal.τ).loc Cert.CtxBwdIdeal.main_arg3) = m ((c.tc : Thread Cert.CtxBwdIdeal.nD Cert.CtxBwdIdeal.τ).loc Cert.CtxBwdIdeal.main_arg3)
          ∧ r.2.mem ((c.tc : Thread Cert.CtxBwdIdeal.nD Cert.CtxBwdIdeal.τ).loc Cert.CtxBwdIdeal.main_arg4) = m ((c.tc : Thread Cert.CtxBwdIdeal.nD Cert.CtxBwdIdeal.τ).loc Cert.CtxBwdIdeal.main_arg4)
          ∧ r.2.mem ((c.tc : Thread Cert.CtxBwdIdeal.nD Cert.CtxBwdIdeal.τ).loc Cert.CtxBwdIdeal.main_arg5) = m ((c.tc : Thread Cert.CtxBwdIdeal.nD Cert.CtxBwdIdeal.τ).loc Cert.CtxBwdIdeal.main_arg5)
          ∧ r.2.mem ((c.tc : Thread Cert.CtxBwdIdeal.nD Cert.CtxBwdIdeal.τ).loc Cert.CtxBwdIdeal.main_arg6) = m ((c.tc : Thread Cert.CtxBwdIdeal.nD Cert.CtxBwdIdeal.τ).loc Cert.CtxBwdIdeal.main_arg6))
      ∧ θ_run (Cert.CtxRefIdeal.defs (F := Ideal)) (onTc (τ := Cert.CtxRefIdeal.τ) (Cert.CtxRefIdeal.main (F := Ideal))) ⟨m', fun _ => 0, g'⟩ (fun r => ∀ c : Dev Cert.CtxRefIdeal.nD,
          r.2.mem ((c.tc : Thread Cert.CtxRefIdeal.nD Cert.CtxRefIdeal.τ).loc Cert.CtxRefIdeal.main_v27) = v0 c
          ∧ r.2.mem ((c.tc : Thread Cert.CtxRefIdeal.nD Cert.CtxRefIdeal.τ).loc Cert.CtxRefIdeal.main_v30) = v1 c
          ∧ r.2.mem ((c.tc : Thread Cert.CtxRefIdeal.nD Cert.CtxRefIdeal.τ).loc Cert.CtxRefIdeal.main_v37) = v2 c
          ∧ r.2.mem ((c.tc : Thread Cert.CtxRefIdeal.nD Cert.CtxRefIdeal.τ).loc Cert.CtxRefIdeal.main_arg0) = m' ((c.tc : Thread Cert.CtxRefIdeal.nD Cert.CtxRefIdeal.τ).loc Cert.CtxRefIdeal.main_arg0)
          ∧ r.2.mem ((c.tc : Thread Cert.CtxRefIdeal.nD Cert.CtxRefIdeal.τ).loc Cert.CtxRefIdeal.main_arg1) = m' ((c.tc : Thread Cert.CtxRefIdeal.nD Cert.CtxRefIdeal.τ).loc Cert.CtxRefIdeal.main_arg1)
          ∧ r.2.mem ((c.tc : Thread Cert.CtxRefIdeal.nD Cert.CtxRefIdeal.τ).loc Cert.CtxRefIdeal.main_arg2) = m' ((c.tc : Thread Cert.CtxRefIdeal.nD Cert.CtxRefIdeal.τ).loc Cert.CtxRefIdeal.main_arg2)
          ∧ r.2.mem ((c.tc : Thread Cert.CtxRefIdeal.nD Cert.CtxRefIdeal.τ).loc Cert.CtxRefIdeal.main_arg3) = m' ((c.tc : Thread Cert.CtxRefIdeal.nD Cert.CtxRefIdeal.τ).loc Cert.CtxRefIdeal.main_arg3)
          ∧ r.2.mem ((c.tc : Thread Cert.CtxRefIdeal.nD Cert.CtxRefIdeal.τ).loc Cert.CtxRefIdeal.main_arg4) = m' ((c.tc : Thread Cert.CtxRefIdeal.nD Cert.CtxRefIdeal.τ).loc Cert.CtxRefIdeal.main_arg4)
          ∧ r.2.mem ((c.tc : Thread Cert.CtxRefIdeal.nD Cert.CtxRefIdeal.τ).loc Cert.CtxRefIdeal.main_arg5) = m' ((c.tc : Thread Cert.CtxRefIdeal.nD Cert.CtxRefIdeal.τ).loc Cert.CtxRefIdeal.main_arg5)
          ∧ r.2.mem ((c.tc : Thread Cert.CtxRefIdeal.nD Cert.CtxRefIdeal.τ).loc Cert.CtxRefIdeal.main_arg6) = m' ((c.tc : Thread Cert.CtxRefIdeal.nD Cert.CtxRefIdeal.τ).loc Cert.CtxRefIdeal.main_arg6))

def preserves_DhBwd_DhBwdIdeal : Prop :=
  True

def algebraic_DhBwdIdeal_DhRefIdeal [hDhBwdIdeal : Cert.DhBwdIdeal.Facts] [hDhRefIdeal : Cert.DhRefIdeal.Facts] : Prop :=
  ∀ (m : (ℓ : Loc Cert.DhBwdIdeal.nD Cert.DhBwdIdeal.τ Cert.DhBwdIdeal.sig) → Buf (Elt Ideal) ℓ) (g : Dev Cert.DhBwdIdeal.nD → PrngReg)
    (m' : (ℓ : Loc Cert.DhRefIdeal.nD Cert.DhRefIdeal.τ Cert.DhRefIdeal.sig) → Buf (Elt Ideal) ℓ) (g' : Dev Cert.DhRefIdeal.nD → PrngReg), Pre_DhBwdIdeal m →
    (∀ c : Dev Cert.DhBwdIdeal.nD,
      m' ((c.tc : Thread Cert.DhRefIdeal.nD Cert.DhRefIdeal.τ).loc Cert.DhRefIdeal.main_arg0) = m ((c.tc : Thread Cert.DhBwdIdeal.nD Cert.DhBwdIdeal.τ).loc Cert.DhBwdIdeal.main_arg0)
      ∧ m' ((c.tc : Thread Cert.DhRefIdeal.nD Cert.DhRefIdeal.τ).loc Cert.DhRefIdeal.main_arg1) = m ((c.tc : Thread Cert.DhBwdIdeal.nD Cert.DhBwdIdeal.τ).loc Cert.DhBwdIdeal.main_arg1)
      ∧ m' ((c.tc : Thread Cert.DhRefIdeal.nD Cert.DhRefIdeal.τ).loc Cert.DhRefIdeal.main_arg2) = m ((c.tc : Thread Cert.DhBwdIdeal.nD Cert.DhBwdIdeal.τ).loc Cert.DhBwdIdeal.main_arg2)
      ∧ m' ((c.tc : Thread Cert.DhRefIdeal.nD Cert.DhRefIdeal.τ).loc Cert.DhRefIdeal.main_arg3) = m ((c.tc : Thread Cert.DhBwdIdeal.nD Cert.DhBwdIdeal.τ).loc Cert.DhBwdIdeal.main_arg3)
      ∧ m' ((c.tc : Thread Cert.DhRefIdeal.nD Cert.DhRefIdeal.τ).loc Cert.DhRefIdeal.main_arg4) = m ((c.tc : Thread Cert.DhBwdIdeal.nD Cert.DhBwdIdeal.τ).loc Cert.DhBwdIdeal.main_arg4)
      ∧ m' ((c.tc : Thread Cert.DhRefIdeal.nD Cert.DhRefIdeal.τ).loc Cert.DhRefIdeal.main_arg5) = m ((c.tc : Thread Cert.DhBwdIdeal.nD Cert.DhBwdIdeal.τ).loc Cert.DhBwdIdeal.main_arg5)
      ∧ m' ((c.tc : Thread Cert.DhRefIdeal.nD Cert.DhRefIdeal.τ).loc Cert.DhRefIdeal.main_arg6) = m ((c.tc : Thread Cert.DhBwdIdeal.nD Cert.DhBwdIdeal.τ).loc Cert.DhBwdIdeal.main_arg6)
      ∧ m' ((c.tc : Thread Cert.DhRefIdeal.nD Cert.DhRefIdeal.τ).loc Cert.DhRefIdeal.main_arg7) = m ((c.tc : Thread Cert.DhBwdIdeal.nD Cert.DhBwdIdeal.τ).loc Cert.DhBwdIdeal.main_arg7)
      ∧ m' ((c.tc : Thread Cert.DhRefIdeal.nD Cert.DhRefIdeal.τ).loc Cert.DhRefIdeal.main_arg8) = m ((c.tc : Thread Cert.DhBwdIdeal.nD Cert.DhBwdIdeal.τ).loc Cert.DhBwdIdeal.main_arg8)
      ∧ m' ((c.tc : Thread Cert.DhRefIdeal.nD Cert.DhRefIdeal.τ).loc Cert.DhRefIdeal.main_arg9) = m ((c.tc : Thread Cert.DhBwdIdeal.nD Cert.DhBwdIdeal.τ).loc Cert.DhBwdIdeal.main_arg9)
      ∧ m' ((c.tc : Thread Cert.DhRefIdeal.nD Cert.DhRefIdeal.τ).loc Cert.DhRefIdeal.main_arg10) = m ((c.tc : Thread Cert.DhBwdIdeal.nD Cert.DhBwdIdeal.τ).loc Cert.DhBwdIdeal.main_arg10)
      ∧ m' ((c.tc : Thread Cert.DhRefIdeal.nD Cert.DhRefIdeal.τ).loc Cert.DhRefIdeal.main_arg11) = m ((c.tc : Thread Cert.DhBwdIdeal.nD Cert.DhBwdIdeal.τ).loc Cert.DhBwdIdeal.main_arg11)) →
    ∃ (v0 : (c : Dev Cert.DhBwdIdeal.nD) → Buf (Elt Ideal) ((c.tc : Thread Cert.DhBwdIdeal.nD Cert.DhBwdIdeal.τ).loc Cert.DhBwdIdeal.main_v1_0)) (v1 : (c : Dev Cert.DhBwdIdeal.nD) → Buf (Elt Ideal) ((c.tc : Thread Cert.DhBwdIdeal.nD Cert.DhBwdIdeal.τ).loc Cert.DhBwdIdeal.main_v1_1)) (v2 : (c : Dev Cert.DhBwdIdeal.nD) → Buf (Elt Ideal) ((c.tc : Thread Cert.DhBwdIdeal.nD Cert.DhBwdIdeal.τ).loc Cert.DhBwdIdeal.main_v1_2)) (v3 : (c : Dev Cert.DhBwdIdeal.nD) → Buf (Elt Ideal) ((c.tc : Thread Cert.DhBwdIdeal.nD Cert.DhBwdIdeal.τ).loc Cert.DhBwdIdeal.main_v1_3)),
      θ_run (Cert.DhBwdIdeal.defs (F := Ideal)) (onTc (τ := Cert.DhBwdIdeal.τ) (Cert.DhBwdIdeal.main (F := Ideal))) ⟨m, fun _ => 0, g⟩ (fun r => ∀ c : Dev Cert.DhBwdIdeal.nD,
          r.2.mem ((c.tc : Thread Cert.DhBwdIdeal.nD Cert.DhBwdIdeal.τ).loc Cert.DhBwdIdeal.main_v1_0) = v0 c
          ∧ r.2.mem ((c.tc : Thread Cert.DhBwdIdeal.nD Cert.DhBwdIdeal.τ).loc Cert.DhBwdIdeal.main_v1_1) = v1 c
          ∧ r.2.mem ((c.tc : Thread Cert.DhBwdIdeal.nD Cert.DhBwdIdeal.τ).loc Cert.DhBwdIdeal.main_v1_2) = v2 c
          ∧ r.2.mem ((c.tc : Thread Cert.DhBwdIdeal.nD Cert.DhBwdIdeal.τ).loc Cert.DhBwdIdeal.main_v1_3) = v3 c
          ∧ r.2.mem ((c.tc : Thread Cert.DhBwdIdeal.nD Cert.DhBwdIdeal.τ).loc Cert.DhBwdIdeal.main_arg0) = m ((c.tc : Thread Cert.DhBwdIdeal.nD Cert.DhBwdIdeal.τ).loc Cert.DhBwdIdeal.main_arg0)
          ∧ r.2.mem ((c.tc : Thread Cert.DhBwdIdeal.nD Cert.DhBwdIdeal.τ).loc Cert.DhBwdIdeal.main_arg1) = m ((c.tc : Thread Cert.DhBwdIdeal.nD Cert.DhBwdIdeal.τ).loc Cert.DhBwdIdeal.main_arg1)
          ∧ r.2.mem ((c.tc : Thread Cert.DhBwdIdeal.nD Cert.DhBwdIdeal.τ).loc Cert.DhBwdIdeal.main_arg2) = m ((c.tc : Thread Cert.DhBwdIdeal.nD Cert.DhBwdIdeal.τ).loc Cert.DhBwdIdeal.main_arg2)
          ∧ r.2.mem ((c.tc : Thread Cert.DhBwdIdeal.nD Cert.DhBwdIdeal.τ).loc Cert.DhBwdIdeal.main_arg3) = m ((c.tc : Thread Cert.DhBwdIdeal.nD Cert.DhBwdIdeal.τ).loc Cert.DhBwdIdeal.main_arg3)
          ∧ r.2.mem ((c.tc : Thread Cert.DhBwdIdeal.nD Cert.DhBwdIdeal.τ).loc Cert.DhBwdIdeal.main_arg4) = m ((c.tc : Thread Cert.DhBwdIdeal.nD Cert.DhBwdIdeal.τ).loc Cert.DhBwdIdeal.main_arg4)
          ∧ r.2.mem ((c.tc : Thread Cert.DhBwdIdeal.nD Cert.DhBwdIdeal.τ).loc Cert.DhBwdIdeal.main_arg5) = m ((c.tc : Thread Cert.DhBwdIdeal.nD Cert.DhBwdIdeal.τ).loc Cert.DhBwdIdeal.main_arg5)
          ∧ r.2.mem ((c.tc : Thread Cert.DhBwdIdeal.nD Cert.DhBwdIdeal.τ).loc Cert.DhBwdIdeal.main_arg6) = m ((c.tc : Thread Cert.DhBwdIdeal.nD Cert.DhBwdIdeal.τ).loc Cert.DhBwdIdeal.main_arg6)
          ∧ r.2.mem ((c.tc : Thread Cert.DhBwdIdeal.nD Cert.DhBwdIdeal.τ).loc Cert.DhBwdIdeal.main_arg7) = m ((c.tc : Thread Cert.DhBwdIdeal.nD Cert.DhBwdIdeal.τ).loc Cert.DhBwdIdeal.main_arg7)
          ∧ r.2.mem ((c.tc : Thread Cert.DhBwdIdeal.nD Cert.DhBwdIdeal.τ).loc Cert.DhBwdIdeal.main_arg8) = m ((c.tc : Thread Cert.DhBwdIdeal.nD Cert.DhBwdIdeal.τ).loc Cert.DhBwdIdeal.main_arg8)
          ∧ r.2.mem ((c.tc : Thread Cert.DhBwdIdeal.nD Cert.DhBwdIdeal.τ).loc Cert.DhBwdIdeal.main_arg9) = m ((c.tc : Thread Cert.DhBwdIdeal.nD Cert.DhBwdIdeal.τ).loc Cert.DhBwdIdeal.main_arg9)
          ∧ r.2.mem ((c.tc : Thread Cert.DhBwdIdeal.nD Cert.DhBwdIdeal.τ).loc Cert.DhBwdIdeal.main_arg10) = m ((c.tc : Thread Cert.DhBwdIdeal.nD Cert.DhBwdIdeal.τ).loc Cert.DhBwdIdeal.main_arg10)
          ∧ r.2.mem ((c.tc : Thread Cert.DhBwdIdeal.nD Cert.DhBwdIdeal.τ).loc Cert.DhBwdIdeal.main_arg11) = m ((c.tc : Thread Cert.DhBwdIdeal.nD Cert.DhBwdIdeal.τ).loc Cert.DhBwdIdeal.main_arg11))
      ∧ θ_run (Cert.DhRefIdeal.defs (F := Ideal)) (onTc (τ := Cert.DhRefIdeal.τ) (Cert.DhRefIdeal.main (F := Ideal))) ⟨m', fun _ => 0, g'⟩ (fun r => ∀ c : Dev Cert.DhRefIdeal.nD,
          r.2.mem ((c.tc : Thread Cert.DhRefIdeal.nD Cert.DhRefIdeal.τ).loc Cert.DhRefIdeal.main_v58) = v0 c
          ∧ r.2.mem ((c.tc : Thread Cert.DhRefIdeal.nD Cert.DhRefIdeal.τ).loc Cert.DhRefIdeal.main_v32) = v1 c
          ∧ r.2.mem ((c.tc : Thread Cert.DhRefIdeal.nD Cert.DhRefIdeal.τ).loc Cert.DhRefIdeal.main_v35) = v2 c
          ∧ r.2.mem ((c.tc : Thread Cert.DhRefIdeal.nD Cert.DhRefIdeal.τ).loc Cert.DhRefIdeal.main_v60) = v3 c
          ∧ r.2.mem ((c.tc : Thread Cert.DhRefIdeal.nD Cert.DhRefIdeal.τ).loc Cert.DhRefIdeal.main_arg0) = m' ((c.tc : Thread Cert.DhRefIdeal.nD Cert.DhRefIdeal.τ).loc Cert.DhRefIdeal.main_arg0)
          ∧ r.2.mem ((c.tc : Thread Cert.DhRefIdeal.nD Cert.DhRefIdeal.τ).loc Cert.DhRefIdeal.main_arg1) = m' ((c.tc : Thread Cert.DhRefIdeal.nD Cert.DhRefIdeal.τ).loc Cert.DhRefIdeal.main_arg1)
          ∧ r.2.mem ((c.tc : Thread Cert.DhRefIdeal.nD Cert.DhRefIdeal.τ).loc Cert.DhRefIdeal.main_arg2) = m' ((c.tc : Thread Cert.DhRefIdeal.nD Cert.DhRefIdeal.τ).loc Cert.DhRefIdeal.main_arg2)
          ∧ r.2.mem ((c.tc : Thread Cert.DhRefIdeal.nD Cert.DhRefIdeal.τ).loc Cert.DhRefIdeal.main_arg3) = m' ((c.tc : Thread Cert.DhRefIdeal.nD Cert.DhRefIdeal.τ).loc Cert.DhRefIdeal.main_arg3)
          ∧ r.2.mem ((c.tc : Thread Cert.DhRefIdeal.nD Cert.DhRefIdeal.τ).loc Cert.DhRefIdeal.main_arg4) = m' ((c.tc : Thread Cert.DhRefIdeal.nD Cert.DhRefIdeal.τ).loc Cert.DhRefIdeal.main_arg4)
          ∧ r.2.mem ((c.tc : Thread Cert.DhRefIdeal.nD Cert.DhRefIdeal.τ).loc Cert.DhRefIdeal.main_arg5) = m' ((c.tc : Thread Cert.DhRefIdeal.nD Cert.DhRefIdeal.τ).loc Cert.DhRefIdeal.main_arg5)
          ∧ r.2.mem ((c.tc : Thread Cert.DhRefIdeal.nD Cert.DhRefIdeal.τ).loc Cert.DhRefIdeal.main_arg6) = m' ((c.tc : Thread Cert.DhRefIdeal.nD Cert.DhRefIdeal.τ).loc Cert.DhRefIdeal.main_arg6)
          ∧ r.2.mem ((c.tc : Thread Cert.DhRefIdeal.nD Cert.DhRefIdeal.τ).loc Cert.DhRefIdeal.main_arg7) = m' ((c.tc : Thread Cert.DhRefIdeal.nD Cert.DhRefIdeal.τ).loc Cert.DhRefIdeal.main_arg7)
          ∧ r.2.mem ((c.tc : Thread Cert.DhRefIdeal.nD Cert.DhRefIdeal.τ).loc Cert.DhRefIdeal.main_arg8) = m' ((c.tc : Thread Cert.DhRefIdeal.nD Cert.DhRefIdeal.τ).loc Cert.DhRefIdeal.main_arg8)
          ∧ r.2.mem ((c.tc : Thread Cert.DhRefIdeal.nD Cert.DhRefIdeal.τ).loc Cert.DhRefIdeal.main_arg9) = m' ((c.tc : Thread Cert.DhRefIdeal.nD Cert.DhRefIdeal.τ).loc Cert.DhRefIdeal.main_arg9)
          ∧ r.2.mem ((c.tc : Thread Cert.DhRefIdeal.nD Cert.DhRefIdeal.τ).loc Cert.DhRefIdeal.main_arg10) = m' ((c.tc : Thread Cert.DhRefIdeal.nD Cert.DhRefIdeal.τ).loc Cert.DhRefIdeal.main_arg10)
          ∧ r.2.mem ((c.tc : Thread Cert.DhRefIdeal.nD Cert.DhRefIdeal.τ).loc Cert.DhRefIdeal.main_arg11) = m' ((c.tc : Thread Cert.DhRefIdeal.nD Cert.DhRefIdeal.τ).loc Cert.DhRefIdeal.main_arg11))

def preserves_OutProj_OutProjIdeal : Prop :=
  True

def algebraic_OutProjIdeal_OutRefIdeal [hOutProjIdeal : Cert.OutProjIdeal.Facts] [hOutRefIdeal : Cert.OutRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutProjIdeal m →
    (∀ c : Dev Cert.OutProjIdeal.nD,
      m' ((c.tc : Thread Cert.OutRefIdeal.nD Cert.OutRefIdeal.τ).loc Cert.OutRefIdeal.main_arg0) = m ((c.tc : Thread Cert.OutProjIdeal.nD Cert.OutProjIdeal.τ).loc Cert.OutProjIdeal.main_arg0)
      ∧ m' ((c.tc : Thread Cert.OutRefIdeal.nD Cert.OutRefIdeal.τ).loc Cert.OutRefIdeal.main_arg1) = m ((c.tc : Thread Cert.OutProjIdeal.nD Cert.OutProjIdeal.τ).loc Cert.OutProjIdeal.main_arg1)
      ∧ m' ((c.tc : Thread Cert.OutRefIdeal.nD Cert.OutRefIdeal.τ).loc Cert.OutRefIdeal.main_arg2) = m ((c.tc : Thread Cert.OutProjIdeal.nD Cert.OutProjIdeal.τ).loc Cert.OutProjIdeal.main_arg2)
      ∧ m' ((c.tc : Thread Cert.OutRefIdeal.nD Cert.OutRefIdeal.τ).loc Cert.OutRefIdeal.main_arg3) = m ((c.tc : Thread Cert.OutProjIdeal.nD Cert.OutProjIdeal.τ).loc Cert.OutProjIdeal.main_arg3)
      ∧ m' ((c.tc : Thread Cert.OutRefIdeal.nD Cert.OutRefIdeal.τ).loc Cert.OutRefIdeal.main_arg4) = m ((c.tc : Thread Cert.OutProjIdeal.nD Cert.OutProjIdeal.τ).loc Cert.OutProjIdeal.main_arg4)
      ∧ m' ((c.tc : Thread Cert.OutRefIdeal.nD Cert.OutRefIdeal.τ).loc Cert.OutRefIdeal.main_arg5) = m ((c.tc : Thread Cert.OutProjIdeal.nD Cert.OutProjIdeal.τ).loc Cert.OutProjIdeal.main_arg5)
      ∧ m' ((c.tc : Thread Cert.OutRefIdeal.nD Cert.OutRefIdeal.τ).loc Cert.OutRefIdeal.main_arg6) = m ((c.tc : Thread Cert.OutProjIdeal.nD Cert.OutProjIdeal.τ).loc Cert.OutProjIdeal.main_arg6)
      ∧ m' ((c.tc : Thread Cert.OutRefIdeal.nD Cert.OutRefIdeal.τ).loc Cert.OutRefIdeal.main_arg7) = m ((c.tc : Thread Cert.OutProjIdeal.nD Cert.OutProjIdeal.τ).loc Cert.OutProjIdeal.main_arg7)
      ∧ m' ((c.tc : Thread Cert.OutRefIdeal.nD Cert.OutRefIdeal.τ).loc Cert.OutRefIdeal.main_arg8) = m ((c.tc : Thread Cert.OutProjIdeal.nD Cert.OutProjIdeal.τ).loc Cert.OutProjIdeal.main_arg8)) →
    ∃ (v0 : (c : Dev Cert.OutProjIdeal.nD) → Buf (Elt Ideal) ((c.tc : Thread Cert.OutProjIdeal.nD Cert.OutProjIdeal.τ).loc Cert.OutProjIdeal.main_v3_0)) (v1 : (c : Dev Cert.OutProjIdeal.nD) → Buf (Elt Ideal) ((c.tc : Thread Cert.OutProjIdeal.nD Cert.OutProjIdeal.τ).loc Cert.OutProjIdeal.main_v3_1)) (v2 : (c : Dev Cert.OutProjIdeal.nD) → Buf (Elt Ideal) ((c.tc : Thread Cert.OutProjIdeal.nD Cert.OutProjIdeal.τ).loc Cert.OutProjIdeal.main_v3_2)) (v3 : (c : Dev Cert.OutProjIdeal.nD) → Buf (Elt Ideal) ((c.tc : Thread Cert.OutProjIdeal.nD Cert.OutProjIdeal.τ).loc Cert.OutProjIdeal.main_v3_3)) (v4 : (c : Dev Cert.OutProjIdeal.nD) → Buf (Elt Ideal) ((c.tc : Thread Cert.OutProjIdeal.nD Cert.OutProjIdeal.τ).loc Cert.OutProjIdeal.main_v3_4)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v3_0) = v0 c
          ∧ r.2.mem ((c.tc : Thread Cert.OutProjIdeal.nD Cert.OutProjIdeal.τ).loc Cert.OutProjIdeal.main_v3_1) = v1 c
          ∧ r.2.mem ((c.tc : Thread Cert.OutProjIdeal.nD Cert.OutProjIdeal.τ).loc Cert.OutProjIdeal.main_v3_2) = v2 c
          ∧ r.2.mem ((c.tc : Thread Cert.OutProjIdeal.nD Cert.OutProjIdeal.τ).loc Cert.OutProjIdeal.main_v3_3) = v3 c
          ∧ r.2.mem ((c.tc : Thread Cert.OutProjIdeal.nD Cert.OutProjIdeal.τ).loc Cert.OutProjIdeal.main_v3_4) = v4 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
          ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
          ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7)
          ∧ r.2.mem ((c.tc : Thread Cert.OutProjIdeal.nD Cert.OutProjIdeal.τ).loc Cert.OutProjIdeal.main_arg8) = m ((c.tc : Thread Cert.OutProjIdeal.nD Cert.OutProjIdeal.τ).loc Cert.OutProjIdeal.main_arg8))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v76) = v0 c
          ∧ r.2.mem ((c.tc : Thread Cert.OutRefIdeal.nD Cert.OutRefIdeal.τ).loc Cert.OutRefIdeal.main_v67) = v1 c
          ∧ r.2.mem ((c.tc : Thread Cert.OutRefIdeal.nD Cert.OutRefIdeal.τ).loc Cert.OutRefIdeal.main_v75) = v2 c
          ∧ r.2.mem ((c.tc : Thread Cert.OutRefIdeal.nD Cert.OutRefIdeal.τ).loc Cert.OutRefIdeal.main_v72) = v3 c
          ∧ r.2.mem ((c.tc : Thread Cert.OutRefIdeal.nD Cert.OutRefIdeal.τ).loc Cert.OutRefIdeal.main_v74) = v4 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5)
          ∧ r.2.mem ((c.tc : Thread Cert.OutRefIdeal.nD Cert.OutRefIdeal.τ).loc Cert.OutRefIdeal.main_arg6) = m' ((c.tc : Thread Cert.OutRefIdeal.nD Cert.OutRefIdeal.τ).loc Cert.OutRefIdeal.main_arg6)
          ∧ r.2.mem ((c.tc : Thread Cert.OutRefIdeal.nD Cert.OutRefIdeal.τ).loc Cert.OutRefIdeal.main_arg7) = m' ((c.tc : Thread Cert.OutRefIdeal.nD Cert.OutRefIdeal.τ).loc Cert.OutRefIdeal.main_arg7)
          ∧ r.2.mem ((c.tc : Thread Cert.OutRefIdeal.nD Cert.OutRefIdeal.τ).loc Cert.OutRefIdeal.main_arg8) = m' ((c.tc : Thread Cert.OutRefIdeal.nD Cert.OutRefIdeal.τ).loc Cert.OutRefIdeal.main_arg8))

def preserves_DwBwd_DwBwdIdeal : Prop :=
  True

def algebraic_DwBwdIdeal_DwRefIdeal [hDwBwdIdeal : Cert.DwBwdIdeal.Facts] [hDwRefIdeal : Cert.DwRefIdeal.Facts] : Prop :=
  ∀ (m : (ℓ : Loc Cert.DwBwdIdeal.nD Cert.DwBwdIdeal.τ Cert.DwBwdIdeal.sig) → Buf (Elt Ideal) ℓ) (g : Dev Cert.DwBwdIdeal.nD → PrngReg)
    (m' : (ℓ : Loc Cert.DwRefIdeal.nD Cert.DwRefIdeal.τ Cert.DwRefIdeal.sig) → Buf (Elt Ideal) ℓ) (g' : Dev Cert.DwRefIdeal.nD → PrngReg), Pre_DwBwdIdeal m →
    (∀ c : Dev Cert.DwBwdIdeal.nD,
      m' ((c.tc : Thread Cert.DwRefIdeal.nD Cert.DwRefIdeal.τ).loc Cert.DwRefIdeal.main_arg0) = m ((c.tc : Thread Cert.DwBwdIdeal.nD Cert.DwBwdIdeal.τ).loc Cert.DwBwdIdeal.main_arg0)
      ∧ m' ((c.tc : Thread Cert.DwRefIdeal.nD Cert.DwRefIdeal.τ).loc Cert.DwRefIdeal.main_arg1) = m ((c.tc : Thread Cert.DwBwdIdeal.nD Cert.DwBwdIdeal.τ).loc Cert.DwBwdIdeal.main_arg1)
      ∧ m' ((c.tc : Thread Cert.DwRefIdeal.nD Cert.DwRefIdeal.τ).loc Cert.DwRefIdeal.main_arg2) = m ((c.tc : Thread Cert.DwBwdIdeal.nD Cert.DwBwdIdeal.τ).loc Cert.DwBwdIdeal.main_arg2)
      ∧ m' ((c.tc : Thread Cert.DwRefIdeal.nD Cert.DwRefIdeal.τ).loc Cert.DwRefIdeal.main_arg3) = m ((c.tc : Thread Cert.DwBwdIdeal.nD Cert.DwBwdIdeal.τ).loc Cert.DwBwdIdeal.main_arg3)
      ∧ m' ((c.tc : Thread Cert.DwRefIdeal.nD Cert.DwRefIdeal.τ).loc Cert.DwRefIdeal.main_arg4) = m ((c.tc : Thread Cert.DwBwdIdeal.nD Cert.DwBwdIdeal.τ).loc Cert.DwBwdIdeal.main_arg4)
      ∧ m' ((c.tc : Thread Cert.DwRefIdeal.nD Cert.DwRefIdeal.τ).loc Cert.DwRefIdeal.main_arg5) = m ((c.tc : Thread Cert.DwBwdIdeal.nD Cert.DwBwdIdeal.τ).loc Cert.DwBwdIdeal.main_arg5)
      ∧ m' ((c.tc : Thread Cert.DwRefIdeal.nD Cert.DwRefIdeal.τ).loc Cert.DwRefIdeal.main_arg6) = m ((c.tc : Thread Cert.DwBwdIdeal.nD Cert.DwBwdIdeal.τ).loc Cert.DwBwdIdeal.main_arg6)
      ∧ m' ((c.tc : Thread Cert.DwRefIdeal.nD Cert.DwRefIdeal.τ).loc Cert.DwRefIdeal.main_arg7) = m ((c.tc : Thread Cert.DwBwdIdeal.nD Cert.DwBwdIdeal.τ).loc Cert.DwBwdIdeal.main_arg7)
      ∧ m' ((c.tc : Thread Cert.DwRefIdeal.nD Cert.DwRefIdeal.τ).loc Cert.DwRefIdeal.main_arg8) = m ((c.tc : Thread Cert.DwBwdIdeal.nD Cert.DwBwdIdeal.τ).loc Cert.DwBwdIdeal.main_arg8)
      ∧ m' ((c.tc : Thread Cert.DwRefIdeal.nD Cert.DwRefIdeal.τ).loc Cert.DwRefIdeal.main_arg9) = m ((c.tc : Thread Cert.DwBwdIdeal.nD Cert.DwBwdIdeal.τ).loc Cert.DwBwdIdeal.main_arg9)
      ∧ m' ((c.tc : Thread Cert.DwRefIdeal.nD Cert.DwRefIdeal.τ).loc Cert.DwRefIdeal.main_arg10) = m ((c.tc : Thread Cert.DwBwdIdeal.nD Cert.DwBwdIdeal.τ).loc Cert.DwBwdIdeal.main_arg10)
      ∧ m' ((c.tc : Thread Cert.DwRefIdeal.nD Cert.DwRefIdeal.τ).loc Cert.DwRefIdeal.main_arg11) = m ((c.tc : Thread Cert.DwBwdIdeal.nD Cert.DwBwdIdeal.τ).loc Cert.DwBwdIdeal.main_arg11)
      ∧ m' ((c.tc : Thread Cert.DwRefIdeal.nD Cert.DwRefIdeal.τ).loc Cert.DwRefIdeal.main_arg12) = m ((c.tc : Thread Cert.DwBwdIdeal.nD Cert.DwBwdIdeal.τ).loc Cert.DwBwdIdeal.main_arg12)
      ∧ m' ((c.tc : Thread Cert.DwRefIdeal.nD Cert.DwRefIdeal.τ).loc Cert.DwRefIdeal.main_arg13) = m ((c.tc : Thread Cert.DwBwdIdeal.nD Cert.DwBwdIdeal.τ).loc Cert.DwBwdIdeal.main_arg13)
      ∧ m' ((c.tc : Thread Cert.DwRefIdeal.nD Cert.DwRefIdeal.τ).loc Cert.DwRefIdeal.main_arg14) = m ((c.tc : Thread Cert.DwBwdIdeal.nD Cert.DwBwdIdeal.τ).loc Cert.DwBwdIdeal.main_arg14)
      ∧ m' ((c.tc : Thread Cert.DwRefIdeal.nD Cert.DwRefIdeal.τ).loc Cert.DwRefIdeal.main_arg15) = m ((c.tc : Thread Cert.DwBwdIdeal.nD Cert.DwBwdIdeal.τ).loc Cert.DwBwdIdeal.main_arg15)
      ∧ m' ((c.tc : Thread Cert.DwRefIdeal.nD Cert.DwRefIdeal.τ).loc Cert.DwRefIdeal.main_arg16) = m ((c.tc : Thread Cert.DwBwdIdeal.nD Cert.DwBwdIdeal.τ).loc Cert.DwBwdIdeal.main_arg16)
      ∧ m' ((c.tc : Thread Cert.DwRefIdeal.nD Cert.DwRefIdeal.τ).loc Cert.DwRefIdeal.main_arg17) = m ((c.tc : Thread Cert.DwBwdIdeal.nD Cert.DwBwdIdeal.τ).loc Cert.DwBwdIdeal.main_arg17)) →
    ∃ (v0 : (c : Dev Cert.DwBwdIdeal.nD) → Buf (Elt Ideal) ((c.tc : Thread Cert.DwBwdIdeal.nD Cert.DwBwdIdeal.τ).loc Cert.DwBwdIdeal.main_v40_0)) (v1 : (c : Dev Cert.DwBwdIdeal.nD) → Buf (Elt Ideal) ((c.tc : Thread Cert.DwBwdIdeal.nD Cert.DwBwdIdeal.τ).loc Cert.DwBwdIdeal.main_v40_1)) (v2 : (c : Dev Cert.DwBwdIdeal.nD) → Buf (Elt Ideal) ((c.tc : Thread Cert.DwBwdIdeal.nD Cert.DwBwdIdeal.τ).loc Cert.DwBwdIdeal.main_v40_2)) (v3 : (c : Dev Cert.DwBwdIdeal.nD) → Buf (Elt Ideal) ((c.tc : Thread Cert.DwBwdIdeal.nD Cert.DwBwdIdeal.τ).loc Cert.DwBwdIdeal.main_v40_3)) (v4 : (c : Dev Cert.DwBwdIdeal.nD) → Buf (Elt Ideal) ((c.tc : Thread Cert.DwBwdIdeal.nD Cert.DwBwdIdeal.τ).loc Cert.DwBwdIdeal.main_v40_4)),
      θ_run (Cert.DwBwdIdeal.defs (F := Ideal)) (onTc (τ := Cert.DwBwdIdeal.τ) (Cert.DwBwdIdeal.main (F := Ideal))) ⟨m, fun _ => 0, g⟩ (fun r => ∀ c : Dev Cert.DwBwdIdeal.nD,
          r.2.mem ((c.tc : Thread Cert.DwBwdIdeal.nD Cert.DwBwdIdeal.τ).loc Cert.DwBwdIdeal.main_v40_0) = v0 c
          ∧ r.2.mem ((c.tc : Thread Cert.DwBwdIdeal.nD Cert.DwBwdIdeal.τ).loc Cert.DwBwdIdeal.main_v40_1) = v1 c
          ∧ r.2.mem ((c.tc : Thread Cert.DwBwdIdeal.nD Cert.DwBwdIdeal.τ).loc Cert.DwBwdIdeal.main_v40_2) = v2 c
          ∧ r.2.mem ((c.tc : Thread Cert.DwBwdIdeal.nD Cert.DwBwdIdeal.τ).loc Cert.DwBwdIdeal.main_v40_3) = v3 c
          ∧ r.2.mem ((c.tc : Thread Cert.DwBwdIdeal.nD Cert.DwBwdIdeal.τ).loc Cert.DwBwdIdeal.main_v40_4) = v4 c
          ∧ r.2.mem ((c.tc : Thread Cert.DwBwdIdeal.nD Cert.DwBwdIdeal.τ).loc Cert.DwBwdIdeal.main_arg0) = m ((c.tc : Thread Cert.DwBwdIdeal.nD Cert.DwBwdIdeal.τ).loc Cert.DwBwdIdeal.main_arg0)
          ∧ r.2.mem ((c.tc : Thread Cert.DwBwdIdeal.nD Cert.DwBwdIdeal.τ).loc Cert.DwBwdIdeal.main_arg1) = m ((c.tc : Thread Cert.DwBwdIdeal.nD Cert.DwBwdIdeal.τ).loc Cert.DwBwdIdeal.main_arg1)
          ∧ r.2.mem ((c.tc : Thread Cert.DwBwdIdeal.nD Cert.DwBwdIdeal.τ).loc Cert.DwBwdIdeal.main_arg2) = m ((c.tc : Thread Cert.DwBwdIdeal.nD Cert.DwBwdIdeal.τ).loc Cert.DwBwdIdeal.main_arg2)
          ∧ r.2.mem ((c.tc : Thread Cert.DwBwdIdeal.nD Cert.DwBwdIdeal.τ).loc Cert.DwBwdIdeal.main_arg3) = m ((c.tc : Thread Cert.DwBwdIdeal.nD Cert.DwBwdIdeal.τ).loc Cert.DwBwdIdeal.main_arg3)
          ∧ r.2.mem ((c.tc : Thread Cert.DwBwdIdeal.nD Cert.DwBwdIdeal.τ).loc Cert.DwBwdIdeal.main_arg4) = m ((c.tc : Thread Cert.DwBwdIdeal.nD Cert.DwBwdIdeal.τ).loc Cert.DwBwdIdeal.main_arg4)
          ∧ r.2.mem ((c.tc : Thread Cert.DwBwdIdeal.nD Cert.DwBwdIdeal.τ).loc Cert.DwBwdIdeal.main_arg5) = m ((c.tc : Thread Cert.DwBwdIdeal.nD Cert.DwBwdIdeal.τ).loc Cert.DwBwdIdeal.main_arg5)
          ∧ r.2.mem ((c.tc : Thread Cert.DwBwdIdeal.nD Cert.DwBwdIdeal.τ).loc Cert.DwBwdIdeal.main_arg6) = m ((c.tc : Thread Cert.DwBwdIdeal.nD Cert.DwBwdIdeal.τ).loc Cert.DwBwdIdeal.main_arg6)
          ∧ r.2.mem ((c.tc : Thread Cert.DwBwdIdeal.nD Cert.DwBwdIdeal.τ).loc Cert.DwBwdIdeal.main_arg7) = m ((c.tc : Thread Cert.DwBwdIdeal.nD Cert.DwBwdIdeal.τ).loc Cert.DwBwdIdeal.main_arg7)
          ∧ r.2.mem ((c.tc : Thread Cert.DwBwdIdeal.nD Cert.DwBwdIdeal.τ).loc Cert.DwBwdIdeal.main_arg8) = m ((c.tc : Thread Cert.DwBwdIdeal.nD Cert.DwBwdIdeal.τ).loc Cert.DwBwdIdeal.main_arg8)
          ∧ r.2.mem ((c.tc : Thread Cert.DwBwdIdeal.nD Cert.DwBwdIdeal.τ).loc Cert.DwBwdIdeal.main_arg9) = m ((c.tc : Thread Cert.DwBwdIdeal.nD Cert.DwBwdIdeal.τ).loc Cert.DwBwdIdeal.main_arg9)
          ∧ r.2.mem ((c.tc : Thread Cert.DwBwdIdeal.nD Cert.DwBwdIdeal.τ).loc Cert.DwBwdIdeal.main_arg10) = m ((c.tc : Thread Cert.DwBwdIdeal.nD Cert.DwBwdIdeal.τ).loc Cert.DwBwdIdeal.main_arg10)
          ∧ r.2.mem ((c.tc : Thread Cert.DwBwdIdeal.nD Cert.DwBwdIdeal.τ).loc Cert.DwBwdIdeal.main_arg11) = m ((c.tc : Thread Cert.DwBwdIdeal.nD Cert.DwBwdIdeal.τ).loc Cert.DwBwdIdeal.main_arg11)
          ∧ r.2.mem ((c.tc : Thread Cert.DwBwdIdeal.nD Cert.DwBwdIdeal.τ).loc Cert.DwBwdIdeal.main_arg12) = m ((c.tc : Thread Cert.DwBwdIdeal.nD Cert.DwBwdIdeal.τ).loc Cert.DwBwdIdeal.main_arg12)
          ∧ r.2.mem ((c.tc : Thread Cert.DwBwdIdeal.nD Cert.DwBwdIdeal.τ).loc Cert.DwBwdIdeal.main_arg13) = m ((c.tc : Thread Cert.DwBwdIdeal.nD Cert.DwBwdIdeal.τ).loc Cert.DwBwdIdeal.main_arg13)
          ∧ r.2.mem ((c.tc : Thread Cert.DwBwdIdeal.nD Cert.DwBwdIdeal.τ).loc Cert.DwBwdIdeal.main_arg14) = m ((c.tc : Thread Cert.DwBwdIdeal.nD Cert.DwBwdIdeal.τ).loc Cert.DwBwdIdeal.main_arg14)
          ∧ r.2.mem ((c.tc : Thread Cert.DwBwdIdeal.nD Cert.DwBwdIdeal.τ).loc Cert.DwBwdIdeal.main_arg15) = m ((c.tc : Thread Cert.DwBwdIdeal.nD Cert.DwBwdIdeal.τ).loc Cert.DwBwdIdeal.main_arg15)
          ∧ r.2.mem ((c.tc : Thread Cert.DwBwdIdeal.nD Cert.DwBwdIdeal.τ).loc Cert.DwBwdIdeal.main_arg16) = m ((c.tc : Thread Cert.DwBwdIdeal.nD Cert.DwBwdIdeal.τ).loc Cert.DwBwdIdeal.main_arg16)
          ∧ r.2.mem ((c.tc : Thread Cert.DwBwdIdeal.nD Cert.DwBwdIdeal.τ).loc Cert.DwBwdIdeal.main_arg17) = m ((c.tc : Thread Cert.DwBwdIdeal.nD Cert.DwBwdIdeal.τ).loc Cert.DwBwdIdeal.main_arg17))
      ∧ θ_run (Cert.DwRefIdeal.defs (F := Ideal)) (onTc (τ := Cert.DwRefIdeal.τ) (Cert.DwRefIdeal.main (F := Ideal))) ⟨m', fun _ => 0, g'⟩ (fun r => ∀ c : Dev Cert.DwRefIdeal.nD,
          r.2.mem ((c.tc : Thread Cert.DwRefIdeal.nD Cert.DwRefIdeal.τ).loc Cert.DwRefIdeal.main_v179) = v0 c
          ∧ r.2.mem ((c.tc : Thread Cert.DwRefIdeal.nD Cert.DwRefIdeal.τ).loc Cert.DwRefIdeal.main_v180) = v1 c
          ∧ r.2.mem ((c.tc : Thread Cert.DwRefIdeal.nD Cert.DwRefIdeal.τ).loc Cert.DwRefIdeal.main_v119) = v2 c
          ∧ r.2.mem ((c.tc : Thread Cert.DwRefIdeal.nD Cert.DwRefIdeal.τ).loc Cert.DwRefIdeal.main_v71) = v3 c
          ∧ r.2.mem ((c.tc : Thread Cert.DwRefIdeal.nD Cert.DwRefIdeal.τ).loc Cert.DwRefIdeal.main_v182) = v4 c
          ∧ r.2.mem ((c.tc : Thread Cert.DwRefIdeal.nD Cert.DwRefIdeal.τ).loc Cert.DwRefIdeal.main_arg0) = m' ((c.tc : Thread Cert.DwRefIdeal.nD Cert.DwRefIdeal.τ).loc Cert.DwRefIdeal.main_arg0)
          ∧ r.2.mem ((c.tc : Thread Cert.DwRefIdeal.nD Cert.DwRefIdeal.τ).loc Cert.DwRefIdeal.main_arg1) = m' ((c.tc : Thread Cert.DwRefIdeal.nD Cert.DwRefIdeal.τ).loc Cert.DwRefIdeal.main_arg1)
          ∧ r.2.mem ((c.tc : Thread Cert.DwRefIdeal.nD Cert.DwRefIdeal.τ).loc Cert.DwRefIdeal.main_arg2) = m' ((c.tc : Thread Cert.DwRefIdeal.nD Cert.DwRefIdeal.τ).loc Cert.DwRefIdeal.main_arg2)
          ∧ r.2.mem ((c.tc : Thread Cert.DwRefIdeal.nD Cert.DwRefIdeal.τ).loc Cert.DwRefIdeal.main_arg3) = m' ((c.tc : Thread Cert.DwRefIdeal.nD Cert.DwRefIdeal.τ).loc Cert.DwRefIdeal.main_arg3)
          ∧ r.2.mem ((c.tc : Thread Cert.DwRefIdeal.nD Cert.DwRefIdeal.τ).loc Cert.DwRefIdeal.main_arg4) = m' ((c.tc : Thread Cert.DwRefIdeal.nD Cert.DwRefIdeal.τ).loc Cert.DwRefIdeal.main_arg4)
          ∧ r.2.mem ((c.tc : Thread Cert.DwRefIdeal.nD Cert.DwRefIdeal.τ).loc Cert.DwRefIdeal.main_arg5) = m' ((c.tc : Thread Cert.DwRefIdeal.nD Cert.DwRefIdeal.τ).loc Cert.DwRefIdeal.main_arg5)
          ∧ r.2.mem ((c.tc : Thread Cert.DwRefIdeal.nD Cert.DwRefIdeal.τ).loc Cert.DwRefIdeal.main_arg6) = m' ((c.tc : Thread Cert.DwRefIdeal.nD Cert.DwRefIdeal.τ).loc Cert.DwRefIdeal.main_arg6)
          ∧ r.2.mem ((c.tc : Thread Cert.DwRefIdeal.nD Cert.DwRefIdeal.τ).loc Cert.DwRefIdeal.main_arg7) = m' ((c.tc : Thread Cert.DwRefIdeal.nD Cert.DwRefIdeal.τ).loc Cert.DwRefIdeal.main_arg7)
          ∧ r.2.mem ((c.tc : Thread Cert.DwRefIdeal.nD Cert.DwRefIdeal.τ).loc Cert.DwRefIdeal.main_arg8) = m' ((c.tc : Thread Cert.DwRefIdeal.nD Cert.DwRefIdeal.τ).loc Cert.DwRefIdeal.main_arg8)
          ∧ r.2.mem ((c.tc : Thread Cert.DwRefIdeal.nD Cert.DwRefIdeal.τ).loc Cert.DwRefIdeal.main_arg9) = m' ((c.tc : Thread Cert.DwRefIdeal.nD Cert.DwRefIdeal.τ).loc Cert.DwRefIdeal.main_arg9)
          ∧ r.2.mem ((c.tc : Thread Cert.DwRefIdeal.nD Cert.DwRefIdeal.τ).loc Cert.DwRefIdeal.main_arg10) = m' ((c.tc : Thread Cert.DwRefIdeal.nD Cert.DwRefIdeal.τ).loc Cert.DwRefIdeal.main_arg10)
          ∧ r.2.mem ((c.tc : Thread Cert.DwRefIdeal.nD Cert.DwRefIdeal.τ).loc Cert.DwRefIdeal.main_arg11) = m' ((c.tc : Thread Cert.DwRefIdeal.nD Cert.DwRefIdeal.τ).loc Cert.DwRefIdeal.main_arg11)
          ∧ r.2.mem ((c.tc : Thread Cert.DwRefIdeal.nD Cert.DwRefIdeal.τ).loc Cert.DwRefIdeal.main_arg12) = m' ((c.tc : Thread Cert.DwRefIdeal.nD Cert.DwRefIdeal.τ).loc Cert.DwRefIdeal.main_arg12)
          ∧ r.2.mem ((c.tc : Thread Cert.DwRefIdeal.nD Cert.DwRefIdeal.τ).loc Cert.DwRefIdeal.main_arg13) = m' ((c.tc : Thread Cert.DwRefIdeal.nD Cert.DwRefIdeal.τ).loc Cert.DwRefIdeal.main_arg13)
          ∧ r.2.mem ((c.tc : Thread Cert.DwRefIdeal.nD Cert.DwRefIdeal.τ).loc Cert.DwRefIdeal.main_arg14) = m' ((c.tc : Thread Cert.DwRefIdeal.nD Cert.DwRefIdeal.τ).loc Cert.DwRefIdeal.main_arg14)
          ∧ r.2.mem ((c.tc : Thread Cert.DwRefIdeal.nD Cert.DwRefIdeal.τ).loc Cert.DwRefIdeal.main_arg15) = m' ((c.tc : Thread Cert.DwRefIdeal.nD Cert.DwRefIdeal.τ).loc Cert.DwRefIdeal.main_arg15)
          ∧ r.2.mem ((c.tc : Thread Cert.DwRefIdeal.nD Cert.DwRefIdeal.τ).loc Cert.DwRefIdeal.main_arg16) = m' ((c.tc : Thread Cert.DwRefIdeal.nD Cert.DwRefIdeal.τ).loc Cert.DwRefIdeal.main_arg16)
          ∧ r.2.mem ((c.tc : Thread Cert.DwRefIdeal.nD Cert.DwRefIdeal.τ).loc Cert.DwRefIdeal.main_arg17) = m' ((c.tc : Thread Cert.DwRefIdeal.nD Cert.DwRefIdeal.τ).loc Cert.DwRefIdeal.main_arg17))

def preserves_CtxFwd_CtxFwdIdeal : Prop :=
  True

def algebraic_CtxFwdIdeal_CtxFwdRefIdeal [hCtxFwdIdeal : Cert.CtxFwdIdeal.Facts] [hCtxFwdRefIdeal : Cert.CtxFwdRefIdeal.Facts] : Prop :=
  ∀ (m : (ℓ : Loc Cert.CtxFwdIdeal.nD Cert.CtxFwdIdeal.τ Cert.CtxFwdIdeal.sig) → Buf (Elt Ideal) ℓ) (g : Dev Cert.CtxFwdIdeal.nD → PrngReg)
    (m' : (ℓ : Loc Cert.CtxFwdRefIdeal.nD Cert.CtxFwdRefIdeal.τ Cert.CtxFwdRefIdeal.sig) → Buf (Elt Ideal) ℓ) (g' : Dev Cert.CtxFwdRefIdeal.nD → PrngReg), Pre_CtxFwdIdeal m →
    (∀ c : Dev Cert.CtxFwdIdeal.nD,
      m' ((c.tc : Thread Cert.CtxFwdRefIdeal.nD Cert.CtxFwdRefIdeal.τ).loc Cert.CtxFwdRefIdeal.main_arg0) = m ((c.tc : Thread Cert.CtxFwdIdeal.nD Cert.CtxFwdIdeal.τ).loc Cert.CtxFwdIdeal.main_arg0)
      ∧ m' ((c.tc : Thread Cert.CtxFwdRefIdeal.nD Cert.CtxFwdRefIdeal.τ).loc Cert.CtxFwdRefIdeal.main_arg1) = m ((c.tc : Thread Cert.CtxFwdIdeal.nD Cert.CtxFwdIdeal.τ).loc Cert.CtxFwdIdeal.main_arg1)
      ∧ m' ((c.tc : Thread Cert.CtxFwdRefIdeal.nD Cert.CtxFwdRefIdeal.τ).loc Cert.CtxFwdRefIdeal.main_arg2) = m ((c.tc : Thread Cert.CtxFwdIdeal.nD Cert.CtxFwdIdeal.τ).loc Cert.CtxFwdIdeal.main_arg2)
      ∧ m' ((c.tc : Thread Cert.CtxFwdRefIdeal.nD Cert.CtxFwdRefIdeal.τ).loc Cert.CtxFwdRefIdeal.main_arg3) = m ((c.tc : Thread Cert.CtxFwdIdeal.nD Cert.CtxFwdIdeal.τ).loc Cert.CtxFwdIdeal.main_arg3)
      ∧ m' ((c.tc : Thread Cert.CtxFwdRefIdeal.nD Cert.CtxFwdRefIdeal.τ).loc Cert.CtxFwdRefIdeal.main_arg4) = m ((c.tc : Thread Cert.CtxFwdIdeal.nD Cert.CtxFwdIdeal.τ).loc Cert.CtxFwdIdeal.main_arg4)) →
    ∃ (v0 : (c : Dev Cert.CtxFwdIdeal.nD) → Buf (Elt Ideal) ((c.tc : Thread Cert.CtxFwdIdeal.nD Cert.CtxFwdIdeal.τ).loc Cert.CtxFwdIdeal.main_v1_0)) (v1 : (c : Dev Cert.CtxFwdIdeal.nD) → Buf (Elt Ideal) ((c.tc : Thread Cert.CtxFwdIdeal.nD Cert.CtxFwdIdeal.τ).loc Cert.CtxFwdIdeal.main_v1_1)),
      θ_run (Cert.CtxFwdIdeal.defs (F := Ideal)) (onTc (τ := Cert.CtxFwdIdeal.τ) (Cert.CtxFwdIdeal.main (F := Ideal))) ⟨m, fun _ => 0, g⟩ (fun r => ∀ c : Dev Cert.CtxFwdIdeal.nD,
          r.2.mem ((c.tc : Thread Cert.CtxFwdIdeal.nD Cert.CtxFwdIdeal.τ).loc Cert.CtxFwdIdeal.main_v1_0) = v0 c
          ∧ r.2.mem ((c.tc : Thread Cert.CtxFwdIdeal.nD Cert.CtxFwdIdeal.τ).loc Cert.CtxFwdIdeal.main_v1_1) = v1 c
          ∧ r.2.mem ((c.tc : Thread Cert.CtxFwdIdeal.nD Cert.CtxFwdIdeal.τ).loc Cert.CtxFwdIdeal.main_arg0) = m ((c.tc : Thread Cert.CtxFwdIdeal.nD Cert.CtxFwdIdeal.τ).loc Cert.CtxFwdIdeal.main_arg0)
          ∧ r.2.mem ((c.tc : Thread Cert.CtxFwdIdeal.nD Cert.CtxFwdIdeal.τ).loc Cert.CtxFwdIdeal.main_arg1) = m ((c.tc : Thread Cert.CtxFwdIdeal.nD Cert.CtxFwdIdeal.τ).loc Cert.CtxFwdIdeal.main_arg1)
          ∧ r.2.mem ((c.tc : Thread Cert.CtxFwdIdeal.nD Cert.CtxFwdIdeal.τ).loc Cert.CtxFwdIdeal.main_arg2) = m ((c.tc : Thread Cert.CtxFwdIdeal.nD Cert.CtxFwdIdeal.τ).loc Cert.CtxFwdIdeal.main_arg2)
          ∧ r.2.mem ((c.tc : Thread Cert.CtxFwdIdeal.nD Cert.CtxFwdIdeal.τ).loc Cert.CtxFwdIdeal.main_arg3) = m ((c.tc : Thread Cert.CtxFwdIdeal.nD Cert.CtxFwdIdeal.τ).loc Cert.CtxFwdIdeal.main_arg3)
          ∧ r.2.mem ((c.tc : Thread Cert.CtxFwdIdeal.nD Cert.CtxFwdIdeal.τ).loc Cert.CtxFwdIdeal.main_arg4) = m ((c.tc : Thread Cert.CtxFwdIdeal.nD Cert.CtxFwdIdeal.τ).loc Cert.CtxFwdIdeal.main_arg4))
      ∧ θ_run (Cert.CtxFwdRefIdeal.defs (F := Ideal)) (onTc (τ := Cert.CtxFwdRefIdeal.τ) (Cert.CtxFwdRefIdeal.main (F := Ideal))) ⟨m', fun _ => 0, g'⟩ (fun r => ∀ c : Dev Cert.CtxFwdRefIdeal.nD,
          r.2.mem ((c.tc : Thread Cert.CtxFwdRefIdeal.nD Cert.CtxFwdRefIdeal.τ).loc Cert.CtxFwdRefIdeal.main_v21) = v0 c
          ∧ r.2.mem ((c.tc : Thread Cert.CtxFwdRefIdeal.nD Cert.CtxFwdRefIdeal.τ).loc Cert.CtxFwdRefIdeal.main_v22) = v1 c
          ∧ r.2.mem ((c.tc : Thread Cert.CtxFwdRefIdeal.nD Cert.CtxFwdRefIdeal.τ).loc Cert.CtxFwdRefIdeal.main_arg0) = m' ((c.tc : Thread Cert.CtxFwdRefIdeal.nD Cert.CtxFwdRefIdeal.τ).loc Cert.CtxFwdRefIdeal.main_arg0)
          ∧ r.2.mem ((c.tc : Thread Cert.CtxFwdRefIdeal.nD Cert.CtxFwdRefIdeal.τ).loc Cert.CtxFwdRefIdeal.main_arg1) = m' ((c.tc : Thread Cert.CtxFwdRefIdeal.nD Cert.CtxFwdRefIdeal.τ).loc Cert.CtxFwdRefIdeal.main_arg1)
          ∧ r.2.mem ((c.tc : Thread Cert.CtxFwdRefIdeal.nD Cert.CtxFwdRefIdeal.τ).loc Cert.CtxFwdRefIdeal.main_arg2) = m' ((c.tc : Thread Cert.CtxFwdRefIdeal.nD Cert.CtxFwdRefIdeal.τ).loc Cert.CtxFwdRefIdeal.main_arg2)
          ∧ r.2.mem ((c.tc : Thread Cert.CtxFwdRefIdeal.nD Cert.CtxFwdRefIdeal.τ).loc Cert.CtxFwdRefIdeal.main_arg3) = m' ((c.tc : Thread Cert.CtxFwdRefIdeal.nD Cert.CtxFwdRefIdeal.τ).loc Cert.CtxFwdRefIdeal.main_arg3)
          ∧ r.2.mem ((c.tc : Thread Cert.CtxFwdRefIdeal.nD Cert.CtxFwdRefIdeal.τ).loc Cert.CtxFwdRefIdeal.main_arg4) = m' ((c.tc : Thread Cert.CtxFwdRefIdeal.nD Cert.CtxFwdRefIdeal.τ).loc Cert.CtxFwdRefIdeal.main_arg4))

def preserves_Reduce_ReduceIdeal : Prop :=
  True

def algebraic_ReduceIdeal_ReduceRefIdeal [hReduceIdeal : Cert.ReduceIdeal.Facts] [hReduceRefIdeal : Cert.ReduceRefIdeal.Facts] : Prop :=
  ∀ (m : (ℓ : Loc Cert.ReduceIdeal.nD Cert.ReduceIdeal.τ Cert.ReduceIdeal.sig) → Buf (Elt Ideal) ℓ) (g : Dev Cert.ReduceIdeal.nD → PrngReg)
    (m' : (ℓ : Loc Cert.ReduceRefIdeal.nD Cert.ReduceRefIdeal.τ Cert.ReduceRefIdeal.sig) → Buf (Elt Ideal) ℓ) (g' : Dev Cert.ReduceRefIdeal.nD → PrngReg), Pre_ReduceIdeal m →
    (∀ c : Dev Cert.ReduceIdeal.nD,
      m' ((c.tc : Thread Cert.ReduceRefIdeal.nD Cert.ReduceRefIdeal.τ).loc Cert.ReduceRefIdeal.main_arg0) = m ((c.tc : Thread Cert.ReduceIdeal.nD Cert.ReduceIdeal.τ).loc Cert.ReduceIdeal.main_arg0)
      ∧ m' ((c.tc : Thread Cert.ReduceRefIdeal.nD Cert.ReduceRefIdeal.τ).loc Cert.ReduceRefIdeal.main_arg1) = m ((c.tc : Thread Cert.ReduceIdeal.nD Cert.ReduceIdeal.τ).loc Cert.ReduceIdeal.main_arg1)
      ∧ m' ((c.tc : Thread Cert.ReduceRefIdeal.nD Cert.ReduceRefIdeal.τ).loc Cert.ReduceRefIdeal.main_arg2) = m ((c.tc : Thread Cert.ReduceIdeal.nD Cert.ReduceIdeal.τ).loc Cert.ReduceIdeal.main_arg2)
      ∧ m' ((c.tc : Thread Cert.ReduceRefIdeal.nD Cert.ReduceRefIdeal.τ).loc Cert.ReduceRefIdeal.main_arg3) = m ((c.tc : Thread Cert.ReduceIdeal.nD Cert.ReduceIdeal.τ).loc Cert.ReduceIdeal.main_arg3)
      ∧ m' ((c.tc : Thread Cert.ReduceRefIdeal.nD Cert.ReduceRefIdeal.τ).loc Cert.ReduceRefIdeal.main_arg4) = m ((c.tc : Thread Cert.ReduceIdeal.nD Cert.ReduceIdeal.τ).loc Cert.ReduceIdeal.main_arg4)
      ∧ m' ((c.tc : Thread Cert.ReduceRefIdeal.nD Cert.ReduceRefIdeal.τ).loc Cert.ReduceRefIdeal.main_arg5) = m ((c.tc : Thread Cert.ReduceIdeal.nD Cert.ReduceIdeal.τ).loc Cert.ReduceIdeal.main_arg5)
      ∧ m' ((c.tc : Thread Cert.ReduceRefIdeal.nD Cert.ReduceRefIdeal.τ).loc Cert.ReduceRefIdeal.main_arg6) = m ((c.tc : Thread Cert.ReduceIdeal.nD Cert.ReduceIdeal.τ).loc Cert.ReduceIdeal.main_arg6)
      ∧ m' ((c.tc : Thread Cert.ReduceRefIdeal.nD Cert.ReduceRefIdeal.τ).loc Cert.ReduceRefIdeal.main_arg7) = m ((c.tc : Thread Cert.ReduceIdeal.nD Cert.ReduceIdeal.τ).loc Cert.ReduceIdeal.main_arg7)
      ∧ m' ((c.tc : Thread Cert.ReduceRefIdeal.nD Cert.ReduceRefIdeal.τ).loc Cert.ReduceRefIdeal.main_arg8) = m ((c.tc : Thread Cert.ReduceIdeal.nD Cert.ReduceIdeal.τ).loc Cert.ReduceIdeal.main_arg8)) →
    ∃ (v0 : (c : Dev Cert.ReduceIdeal.nD) → Buf (Elt Ideal) ((c.tc : Thread Cert.ReduceIdeal.nD Cert.ReduceIdeal.τ).loc Cert.ReduceIdeal.main_v0_0)) (v1 : (c : Dev Cert.ReduceIdeal.nD) → Buf (Elt Ideal) ((c.tc : Thread Cert.ReduceIdeal.nD Cert.ReduceIdeal.τ).loc Cert.ReduceIdeal.main_v0_1)) (v2 : (c : Dev Cert.ReduceIdeal.nD) → Buf (Elt Ideal) ((c.tc : Thread Cert.ReduceIdeal.nD Cert.ReduceIdeal.τ).loc Cert.ReduceIdeal.main_v0_2)) (v3 : (c : Dev Cert.ReduceIdeal.nD) → Buf (Elt Ideal) ((c.tc : Thread Cert.ReduceIdeal.nD Cert.ReduceIdeal.τ).loc Cert.ReduceIdeal.main_v0_3)) (v4 : (c : Dev Cert.ReduceIdeal.nD) → Buf (Elt Ideal) ((c.tc : Thread Cert.ReduceIdeal.nD Cert.ReduceIdeal.τ).loc Cert.ReduceIdeal.main_v0_4)) (v5 : (c : Dev Cert.ReduceIdeal.nD) → Buf (Elt Ideal) ((c.tc : Thread Cert.ReduceIdeal.nD Cert.ReduceIdeal.τ).loc Cert.ReduceIdeal.main_v0_5)),
      θ_run (Cert.ReduceIdeal.defs (F := Ideal)) (onTc (τ := Cert.ReduceIdeal.τ) (Cert.ReduceIdeal.main (F := Ideal))) ⟨m, fun _ => 0, g⟩ (fun r => ∀ c : Dev Cert.ReduceIdeal.nD,
          r.2.mem ((c.tc : Thread Cert.ReduceIdeal.nD Cert.ReduceIdeal.τ).loc Cert.ReduceIdeal.main_v0_0) = v0 c
          ∧ r.2.mem ((c.tc : Thread Cert.ReduceIdeal.nD Cert.ReduceIdeal.τ).loc Cert.ReduceIdeal.main_v0_1) = v1 c
          ∧ r.2.mem ((c.tc : Thread Cert.ReduceIdeal.nD Cert.ReduceIdeal.τ).loc Cert.ReduceIdeal.main_v0_2) = v2 c
          ∧ r.2.mem ((c.tc : Thread Cert.ReduceIdeal.nD Cert.ReduceIdeal.τ).loc Cert.ReduceIdeal.main_v0_3) = v3 c
          ∧ r.2.mem ((c.tc : Thread Cert.ReduceIdeal.nD Cert.ReduceIdeal.τ).loc Cert.ReduceIdeal.main_v0_4) = v4 c
          ∧ r.2.mem ((c.tc : Thread Cert.ReduceIdeal.nD Cert.ReduceIdeal.τ).loc Cert.ReduceIdeal.main_v0_5) = v5 c
          ∧ r.2.mem ((c.tc : Thread Cert.ReduceIdeal.nD Cert.ReduceIdeal.τ).loc Cert.ReduceIdeal.main_arg0) = m ((c.tc : Thread Cert.ReduceIdeal.nD Cert.ReduceIdeal.τ).loc Cert.ReduceIdeal.main_arg0)
          ∧ r.2.mem ((c.tc : Thread Cert.ReduceIdeal.nD Cert.ReduceIdeal.τ).loc Cert.ReduceIdeal.main_arg1) = m ((c.tc : Thread Cert.ReduceIdeal.nD Cert.ReduceIdeal.τ).loc Cert.ReduceIdeal.main_arg1)
          ∧ r.2.mem ((c.tc : Thread Cert.ReduceIdeal.nD Cert.ReduceIdeal.τ).loc Cert.ReduceIdeal.main_arg2) = m ((c.tc : Thread Cert.ReduceIdeal.nD Cert.ReduceIdeal.τ).loc Cert.ReduceIdeal.main_arg2)
          ∧ r.2.mem ((c.tc : Thread Cert.ReduceIdeal.nD Cert.ReduceIdeal.τ).loc Cert.ReduceIdeal.main_arg3) = m ((c.tc : Thread Cert.ReduceIdeal.nD Cert.ReduceIdeal.τ).loc Cert.ReduceIdeal.main_arg3)
          ∧ r.2.mem ((c.tc : Thread Cert.ReduceIdeal.nD Cert.ReduceIdeal.τ).loc Cert.ReduceIdeal.main_arg4) = m ((c.tc : Thread Cert.ReduceIdeal.nD Cert.ReduceIdeal.τ).loc Cert.ReduceIdeal.main_arg4)
          ∧ r.2.mem ((c.tc : Thread Cert.ReduceIdeal.nD Cert.ReduceIdeal.τ).loc Cert.ReduceIdeal.main_arg5) = m ((c.tc : Thread Cert.ReduceIdeal.nD Cert.ReduceIdeal.τ).loc Cert.ReduceIdeal.main_arg5)
          ∧ r.2.mem ((c.tc : Thread Cert.ReduceIdeal.nD Cert.ReduceIdeal.τ).loc Cert.ReduceIdeal.main_arg6) = m ((c.tc : Thread Cert.ReduceIdeal.nD Cert.ReduceIdeal.τ).loc Cert.ReduceIdeal.main_arg6)
          ∧ r.2.mem ((c.tc : Thread Cert.ReduceIdeal.nD Cert.ReduceIdeal.τ).loc Cert.ReduceIdeal.main_arg7) = m ((c.tc : Thread Cert.ReduceIdeal.nD Cert.ReduceIdeal.τ).loc Cert.ReduceIdeal.main_arg7)
          ∧ r.2.mem ((c.tc : Thread Cert.ReduceIdeal.nD Cert.ReduceIdeal.τ).loc Cert.ReduceIdeal.main_arg8) = m ((c.tc : Thread Cert.ReduceIdeal.nD Cert.ReduceIdeal.τ).loc Cert.ReduceIdeal.main_arg8))
      ∧ θ_run (Cert.ReduceRefIdeal.defs (F := Ideal)) (onTc (τ := Cert.ReduceRefIdeal.τ) (Cert.ReduceRefIdeal.main (F := Ideal))) ⟨m', fun _ => 0, g'⟩ (fun r => ∀ c : Dev Cert.ReduceRefIdeal.nD,
          r.2.mem ((c.tc : Thread Cert.ReduceRefIdeal.nD Cert.ReduceRefIdeal.τ).loc Cert.ReduceRefIdeal.main_v30) = v0 c
          ∧ r.2.mem ((c.tc : Thread Cert.ReduceRefIdeal.nD Cert.ReduceRefIdeal.τ).loc Cert.ReduceRefIdeal.main_v33) = v1 c
          ∧ r.2.mem ((c.tc : Thread Cert.ReduceRefIdeal.nD Cert.ReduceRefIdeal.τ).loc Cert.ReduceRefIdeal.main_v1) = v2 c
          ∧ r.2.mem ((c.tc : Thread Cert.ReduceRefIdeal.nD Cert.ReduceRefIdeal.τ).loc Cert.ReduceRefIdeal.main_v16) = v3 c
          ∧ r.2.mem ((c.tc : Thread Cert.ReduceRefIdeal.nD Cert.ReduceRefIdeal.τ).loc Cert.ReduceRefIdeal.main_v34) = v4 c
          ∧ r.2.mem ((c.tc : Thread Cert.ReduceRefIdeal.nD Cert.ReduceRefIdeal.τ).loc Cert.ReduceRefIdeal.main_v27) = v5 c
          ∧ r.2.mem ((c.tc : Thread Cert.ReduceRefIdeal.nD Cert.ReduceRefIdeal.τ).loc Cert.ReduceRefIdeal.main_arg0) = m' ((c.tc : Thread Cert.ReduceRefIdeal.nD Cert.ReduceRefIdeal.τ).loc Cert.ReduceRefIdeal.main_arg0)
          ∧ r.2.mem ((c.tc : Thread Cert.ReduceRefIdeal.nD Cert.ReduceRefIdeal.τ).loc Cert.ReduceRefIdeal.main_arg1) = m' ((c.tc : Thread Cert.ReduceRefIdeal.nD Cert.ReduceRefIdeal.τ).loc Cert.ReduceRefIdeal.main_arg1)
          ∧ r.2.mem ((c.tc : Thread Cert.ReduceRefIdeal.nD Cert.ReduceRefIdeal.τ).loc Cert.ReduceRefIdeal.main_arg2) = m' ((c.tc : Thread Cert.ReduceRefIdeal.nD Cert.ReduceRefIdeal.τ).loc Cert.ReduceRefIdeal.main_arg2)
          ∧ r.2.mem ((c.tc : Thread Cert.ReduceRefIdeal.nD Cert.ReduceRefIdeal.τ).loc Cert.ReduceRefIdeal.main_arg3) = m' ((c.tc : Thread Cert.ReduceRefIdeal.nD Cert.ReduceRefIdeal.τ).loc Cert.ReduceRefIdeal.main_arg3)
          ∧ r.2.mem ((c.tc : Thread Cert.ReduceRefIdeal.nD Cert.ReduceRefIdeal.τ).loc Cert.ReduceRefIdeal.main_arg4) = m' ((c.tc : Thread Cert.ReduceRefIdeal.nD Cert.ReduceRefIdeal.τ).loc Cert.ReduceRefIdeal.main_arg4)
          ∧ r.2.mem ((c.tc : Thread Cert.ReduceRefIdeal.nD Cert.ReduceRefIdeal.τ).loc Cert.ReduceRefIdeal.main_arg5) = m' ((c.tc : Thread Cert.ReduceRefIdeal.nD Cert.ReduceRefIdeal.τ).loc Cert.ReduceRefIdeal.main_arg5)
          ∧ r.2.mem ((c.tc : Thread Cert.ReduceRefIdeal.nD Cert.ReduceRefIdeal.τ).loc Cert.ReduceRefIdeal.main_arg6) = m' ((c.tc : Thread Cert.ReduceRefIdeal.nD Cert.ReduceRefIdeal.τ).loc Cert.ReduceRefIdeal.main_arg6)
          ∧ r.2.mem ((c.tc : Thread Cert.ReduceRefIdeal.nD Cert.ReduceRefIdeal.τ).loc Cert.ReduceRefIdeal.main_arg7) = m' ((c.tc : Thread Cert.ReduceRefIdeal.nD Cert.ReduceRefIdeal.τ).loc Cert.ReduceRefIdeal.main_arg7)
          ∧ r.2.mem ((c.tc : Thread Cert.ReduceRefIdeal.nD Cert.ReduceRefIdeal.τ).loc Cert.ReduceRefIdeal.main_arg8) = m' ((c.tc : Thread Cert.ReduceRefIdeal.nD Cert.ReduceRefIdeal.τ).loc Cert.ReduceRefIdeal.main_arg8))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v4_0)) (v1 : (c : Dev Cert.AdamInIdeal.nD) → Buf (Elt Ideal) ((c.tc : Thread Cert.AdamInIdeal.nD Cert.AdamInIdeal.τ).loc Cert.AdamInIdeal.main_v4_1)) (v2 : (c : Dev Cert.AdamInIdeal.nD) → Buf (Elt Ideal) ((c.tc : Thread Cert.AdamInIdeal.nD Cert.AdamInIdeal.τ).loc Cert.AdamInIdeal.main_v4_2)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v4_0) = v0 c
          ∧ r.2.mem ((c.tc : Thread Cert.AdamInIdeal.nD Cert.AdamInIdeal.τ).loc Cert.AdamInIdeal.main_v4_1) = v1 c
          ∧ r.2.mem ((c.tc : Thread Cert.AdamInIdeal.nD Cert.AdamInIdeal.τ).loc Cert.AdamInIdeal.main_v4_2) = v2 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v24) = v0 c
          ∧ r.2.mem ((c.tc : Thread Cert.AdamInRefIdeal.nD Cert.AdamInRefIdeal.τ).loc Cert.AdamInRefIdeal.main_v25) = v1 c
          ∧ r.2.mem ((c.tc : Thread Cert.AdamInRefIdeal.nD Cert.AdamInRefIdeal.τ).loc Cert.AdamInRefIdeal.main_v26) = v2 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamAda_AdamAdaIdeal : Prop :=
  True

def algebraic_AdamAdaIdeal_AdamAdaRefIdeal [hAdamAdaIdeal : Cert.AdamAdaIdeal.Facts] [hAdamAdaRefIdeal : Cert.AdamAdaRefIdeal.Facts] : Prop :=
  ∀ (m : (ℓ : Loc Cert.AdamAdaIdeal.nD Cert.AdamAdaIdeal.τ Cert.AdamAdaIdeal.sig) → Buf (Elt Ideal) ℓ) (g : Dev Cert.AdamAdaIdeal.nD → PrngReg)
    (m' : (ℓ : Loc Cert.AdamAdaRefIdeal.nD Cert.AdamAdaRefIdeal.τ Cert.AdamAdaRefIdeal.sig) → Buf (Elt Ideal) ℓ) (g' : Dev Cert.AdamAdaRefIdeal.nD → PrngReg), Pre_AdamAdaIdeal m →
    (∀ c : Dev Cert.AdamAdaIdeal.nD,
      m' ((c.tc : Thread Cert.AdamAdaRefIdeal.nD Cert.AdamAdaRefIdeal.τ).loc Cert.AdamAdaRefIdeal.main_arg0) = m ((c.tc : Thread Cert.AdamAdaIdeal.nD Cert.AdamAdaIdeal.τ).loc Cert.AdamAdaIdeal.main_arg0)
      ∧ m' ((c.tc : Thread Cert.AdamAdaRefIdeal.nD Cert.AdamAdaRefIdeal.τ).loc Cert.AdamAdaRefIdeal.main_arg1) = m ((c.tc : Thread Cert.AdamAdaIdeal.nD Cert.AdamAdaIdeal.τ).loc Cert.AdamAdaIdeal.main_arg1)
      ∧ m' ((c.tc : Thread Cert.AdamAdaRefIdeal.nD Cert.AdamAdaRefIdeal.τ).loc Cert.AdamAdaRefIdeal.main_arg2) = m ((c.tc : Thread Cert.AdamAdaIdeal.nD Cert.AdamAdaIdeal.τ).loc Cert.AdamAdaIdeal.main_arg2)
      ∧ m' ((c.tc : Thread Cert.AdamAdaRefIdeal.nD Cert.AdamAdaRefIdeal.τ).loc Cert.AdamAdaRefIdeal.main_arg3) = m ((c.tc : Thread Cert.AdamAdaIdeal.nD Cert.AdamAdaIdeal.τ).loc Cert.AdamAdaIdeal.main_arg3)) →
    ∃ (v0 : (c : Dev Cert.AdamAdaIdeal.nD) → Buf (Elt Ideal) ((c.tc : Thread Cert.AdamAdaIdeal.nD Cert.AdamAdaIdeal.τ).loc Cert.AdamAdaIdeal.main_v4_0)) (v1 : (c : Dev Cert.AdamAdaIdeal.nD) → Buf (Elt Ideal) ((c.tc : Thread Cert.AdamAdaIdeal.nD Cert.AdamAdaIdeal.τ).loc Cert.AdamAdaIdeal.main_v4_1)) (v2 : (c : Dev Cert.AdamAdaIdeal.nD) → Buf (Elt Ideal) ((c.tc : Thread Cert.AdamAdaIdeal.nD Cert.AdamAdaIdeal.τ).loc Cert.AdamAdaIdeal.main_v4_2)),
      θ_run (Cert.AdamAdaIdeal.defs (F := Ideal)) (onTc (τ := Cert.AdamAdaIdeal.τ) (Cert.AdamAdaIdeal.main (F := Ideal))) ⟨m, fun _ => 0, g⟩ (fun r => ∀ c : Dev Cert.AdamAdaIdeal.nD,
          r.2.mem ((c.tc : Thread Cert.AdamAdaIdeal.nD Cert.AdamAdaIdeal.τ).loc Cert.AdamAdaIdeal.main_v4_0) = v0 c
          ∧ r.2.mem ((c.tc : Thread Cert.AdamAdaIdeal.nD Cert.AdamAdaIdeal.τ).loc Cert.AdamAdaIdeal.main_v4_1) = v1 c
          ∧ r.2.mem ((c.tc : Thread Cert.AdamAdaIdeal.nD Cert.AdamAdaIdeal.τ).loc Cert.AdamAdaIdeal.main_v4_2) = v2 c
          ∧ r.2.mem ((c.tc : Thread Cert.AdamAdaIdeal.nD Cert.AdamAdaIdeal.τ).loc Cert.AdamAdaIdeal.main_arg0) = m ((c.tc : Thread Cert.AdamAdaIdeal.nD Cert.AdamAdaIdeal.τ).loc Cert.AdamAdaIdeal.main_arg0)
          ∧ r.2.mem ((c.tc : Thread Cert.AdamAdaIdeal.nD Cert.AdamAdaIdeal.τ).loc Cert.AdamAdaIdeal.main_arg1) = m ((c.tc : Thread Cert.AdamAdaIdeal.nD Cert.AdamAdaIdeal.τ).loc Cert.AdamAdaIdeal.main_arg1)
          ∧ r.2.mem ((c.tc : Thread Cert.AdamAdaIdeal.nD Cert.AdamAdaIdeal.τ).loc Cert.AdamAdaIdeal.main_arg2) = m ((c.tc : Thread Cert.AdamAdaIdeal.nD Cert.AdamAdaIdeal.τ).loc Cert.AdamAdaIdeal.main_arg2)
          ∧ r.2.mem ((c.tc : Thread Cert.AdamAdaIdeal.nD Cert.AdamAdaIdeal.τ).loc Cert.AdamAdaIdeal.main_arg3) = m ((c.tc : Thread Cert.AdamAdaIdeal.nD Cert.AdamAdaIdeal.τ).loc Cert.AdamAdaIdeal.main_arg3))
      ∧ θ_run (Cert.AdamAdaRefIdeal.defs (F := Ideal)) (onTc (τ := Cert.AdamAdaRefIdeal.τ) (Cert.AdamAdaRefIdeal.main (F := Ideal))) ⟨m', fun _ => 0, g'⟩ (fun r => ∀ c : Dev Cert.AdamAdaRefIdeal.nD,
          r.2.mem ((c.tc : Thread Cert.AdamAdaRefIdeal.nD Cert.AdamAdaRefIdeal.τ).loc Cert.AdamAdaRefIdeal.main_v24) = v0 c
          ∧ r.2.mem ((c.tc : Thread Cert.AdamAdaRefIdeal.nD Cert.AdamAdaRefIdeal.τ).loc Cert.AdamAdaRefIdeal.main_v25) = v1 c
          ∧ r.2.mem ((c.tc : Thread Cert.AdamAdaRefIdeal.nD Cert.AdamAdaRefIdeal.τ).loc Cert.AdamAdaRefIdeal.main_v26) = v2 c
          ∧ r.2.mem ((c.tc : Thread Cert.AdamAdaRefIdeal.nD Cert.AdamAdaRefIdeal.τ).loc Cert.AdamAdaRefIdeal.main_arg0) = m' ((c.tc : Thread Cert.AdamAdaRefIdeal.nD Cert.AdamAdaRefIdeal.τ).loc Cert.AdamAdaRefIdeal.main_arg0)
          ∧ r.2.mem ((c.tc : Thread Cert.AdamAdaRefIdeal.nD Cert.AdamAdaRefIdeal.τ).loc Cert.AdamAdaRefIdeal.main_arg1) = m' ((c.tc : Thread Cert.AdamAdaRefIdeal.nD Cert.AdamAdaRefIdeal.τ).loc Cert.AdamAdaRefIdeal.main_arg1)
          ∧ r.2.mem ((c.tc : Thread Cert.AdamAdaRefIdeal.nD Cert.AdamAdaRefIdeal.τ).loc Cert.AdamAdaRefIdeal.main_arg2) = m' ((c.tc : Thread Cert.AdamAdaRefIdeal.nD Cert.AdamAdaRefIdeal.τ).loc Cert.AdamAdaRefIdeal.main_arg2)
          ∧ r.2.mem ((c.tc : Thread Cert.AdamAdaRefIdeal.nD Cert.AdamAdaRefIdeal.τ).loc Cert.AdamAdaRefIdeal.main_arg3) = m' ((c.tc : Thread Cert.AdamAdaRefIdeal.nD Cert.AdamAdaRefIdeal.τ).loc Cert.AdamAdaRefIdeal.main_arg3))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v4_0)) (v1 : (c : Dev Cert.AdamOutIdeal.nD) → Buf (Elt Ideal) ((c.tc : Thread Cert.AdamOutIdeal.nD Cert.AdamOutIdeal.τ).loc Cert.AdamOutIdeal.main_v4_1)) (v2 : (c : Dev Cert.AdamOutIdeal.nD) → Buf (Elt Ideal) ((c.tc : Thread Cert.AdamOutIdeal.nD Cert.AdamOutIdeal.τ).loc Cert.AdamOutIdeal.main_v4_2)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v4_0) = v0 c
          ∧ r.2.mem ((c.tc : Thread Cert.AdamOutIdeal.nD Cert.AdamOutIdeal.τ).loc Cert.AdamOutIdeal.main_v4_1) = v1 c
          ∧ r.2.mem ((c.tc : Thread Cert.AdamOutIdeal.nD Cert.AdamOutIdeal.τ).loc Cert.AdamOutIdeal.main_v4_2) = v2 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v24) = v0 c
          ∧ r.2.mem ((c.tc : Thread Cert.AdamOutRefIdeal.nD Cert.AdamOutRefIdeal.τ).loc Cert.AdamOutRefIdeal.main_v25) = v1 c
          ∧ r.2.mem ((c.tc : Thread Cert.AdamOutRefIdeal.nD Cert.AdamOutRefIdeal.τ).loc Cert.AdamOutRefIdeal.main_v26) = v2 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)
      ∧ m' ((c.tc : Thread Cert.AdamSmallRefIdeal.nD Cert.AdamSmallRefIdeal.τ).loc Cert.AdamSmallRefIdeal.main_arg4) = m ((c.tc : Thread Cert.AdamSmallIdeal.nD Cert.AdamSmallIdeal.τ).loc Cert.AdamSmallIdeal.main_arg4)
      ∧ m' ((c.tc : Thread Cert.AdamSmallRefIdeal.nD Cert.AdamSmallRefIdeal.τ).loc Cert.AdamSmallRefIdeal.main_arg5) = m ((c.tc : Thread Cert.AdamSmallIdeal.nD Cert.AdamSmallIdeal.τ).loc Cert.AdamSmallIdeal.main_arg5)
      ∧ m' ((c.tc : Thread Cert.AdamSmallRefIdeal.nD Cert.AdamSmallRefIdeal.τ).loc Cert.AdamSmallRefIdeal.main_arg6) = m ((c.tc : Thread Cert.AdamSmallIdeal.nD Cert.AdamSmallIdeal.τ).loc Cert.AdamSmallIdeal.main_arg6)
      ∧ m' ((c.tc : Thread Cert.AdamSmallRefIdeal.nD Cert.AdamSmallRefIdeal.τ).loc Cert.AdamSmallRefIdeal.main_arg7) = m ((c.tc : Thread Cert.AdamSmallIdeal.nD Cert.AdamSmallIdeal.τ).loc Cert.AdamSmallIdeal.main_arg7)
      ∧ m' ((c.tc : Thread Cert.AdamSmallRefIdeal.nD Cert.AdamSmallRefIdeal.τ).loc Cert.AdamSmallRefIdeal.main_arg8) = m ((c.tc : Thread Cert.AdamSmallIdeal.nD Cert.AdamSmallIdeal.τ).loc Cert.AdamSmallIdeal.main_arg8)
      ∧ m' ((c.tc : Thread Cert.AdamSmallRefIdeal.nD Cert.AdamSmallRefIdeal.τ).loc Cert.AdamSmallRefIdeal.main_arg9) = m ((c.tc : Thread Cert.AdamSmallIdeal.nD Cert.AdamSmallIdeal.τ).loc Cert.AdamSmallIdeal.main_arg9)
      ∧ m' ((c.tc : Thread Cert.AdamSmallRefIdeal.nD Cert.AdamSmallRefIdeal.τ).loc Cert.AdamSmallRefIdeal.main_arg10) = m ((c.tc : Thread Cert.AdamSmallIdeal.nD Cert.AdamSmallIdeal.τ).loc Cert.AdamSmallIdeal.main_arg10)
      ∧ m' ((c.tc : Thread Cert.AdamSmallRefIdeal.nD Cert.AdamSmallRefIdeal.τ).loc Cert.AdamSmallRefIdeal.main_arg11) = m ((c.tc : Thread Cert.AdamSmallIdeal.nD Cert.AdamSmallIdeal.τ).loc Cert.AdamSmallIdeal.main_arg11)
      ∧ m' ((c.tc : Thread Cert.AdamSmallRefIdeal.nD Cert.AdamSmallRefIdeal.τ).loc Cert.AdamSmallRefIdeal.main_arg12) = m ((c.tc : Thread Cert.AdamSmallIdeal.nD Cert.AdamSmallIdeal.τ).loc Cert.AdamSmallIdeal.main_arg12)
      ∧ m' ((c.tc : Thread Cert.AdamSmallRefIdeal.nD Cert.AdamSmallRefIdeal.τ).loc Cert.AdamSmallRefIdeal.main_arg13) = m ((c.tc : Thread Cert.AdamSmallIdeal.nD Cert.AdamSmallIdeal.τ).loc Cert.AdamSmallIdeal.main_arg13)
      ∧ m' ((c.tc : Thread Cert.AdamSmallRefIdeal.nD Cert.AdamSmallRefIdeal.τ).loc Cert.AdamSmallRefIdeal.main_arg14) = m ((c.tc : Thread Cert.AdamSmallIdeal.nD Cert.AdamSmallIdeal.τ).loc Cert.AdamSmallIdeal.main_arg14)
      ∧ m' ((c.tc : Thread Cert.AdamSmallRefIdeal.nD Cert.AdamSmallRefIdeal.τ).loc Cert.AdamSmallRefIdeal.main_arg15) = m ((c.tc : Thread Cert.AdamSmallIdeal.nD Cert.AdamSmallIdeal.τ).loc Cert.AdamSmallIdeal.main_arg15)
      ∧ m' ((c.tc : Thread Cert.AdamSmallRefIdeal.nD Cert.AdamSmallRefIdeal.τ).loc Cert.AdamSmallRefIdeal.main_arg16) = m ((c.tc : Thread Cert.AdamSmallIdeal.nD Cert.AdamSmallIdeal.τ).loc Cert.AdamSmallIdeal.main_arg16)
      ∧ m' ((c.tc : Thread Cert.AdamSmallRefIdeal.nD Cert.AdamSmallRefIdeal.τ).loc Cert.AdamSmallRefIdeal.main_arg17) = m ((c.tc : Thread Cert.AdamSmallIdeal.nD Cert.AdamSmallIdeal.τ).loc Cert.AdamSmallIdeal.main_arg17)
      ∧ m' ((c.tc : Thread Cert.AdamSmallRefIdeal.nD Cert.AdamSmallRefIdeal.τ).loc Cert.AdamSmallRefIdeal.main_arg18) = m ((c.tc : Thread Cert.AdamSmallIdeal.nD Cert.AdamSmallIdeal.τ).loc Cert.AdamSmallIdeal.main_arg18)
      ∧ m' ((c.tc : Thread Cert.AdamSmallRefIdeal.nD Cert.AdamSmallRefIdeal.τ).loc Cert.AdamSmallRefIdeal.main_arg19) = m ((c.tc : Thread Cert.AdamSmallIdeal.nD Cert.AdamSmallIdeal.τ).loc Cert.AdamSmallIdeal.main_arg19)
      ∧ m' ((c.tc : Thread Cert.AdamSmallRefIdeal.nD Cert.AdamSmallRefIdeal.τ).loc Cert.AdamSmallRefIdeal.main_arg20) = m ((c.tc : Thread Cert.AdamSmallIdeal.nD Cert.AdamSmallIdeal.τ).loc Cert.AdamSmallIdeal.main_arg20)
      ∧ m' ((c.tc : Thread Cert.AdamSmallRefIdeal.nD Cert.AdamSmallRefIdeal.τ).loc Cert.AdamSmallRefIdeal.main_arg21) = m ((c.tc : Thread Cert.AdamSmallIdeal.nD Cert.AdamSmallIdeal.τ).loc Cert.AdamSmallIdeal.main_arg21)
      ∧ m' ((c.tc : Thread Cert.AdamSmallRefIdeal.nD Cert.AdamSmallRefIdeal.τ).loc Cert.AdamSmallRefIdeal.main_arg22) = m ((c.tc : Thread Cert.AdamSmallIdeal.nD Cert.AdamSmallIdeal.τ).loc Cert.AdamSmallIdeal.main_arg22)
      ∧ m' ((c.tc : Thread Cert.AdamSmallRefIdeal.nD Cert.AdamSmallRefIdeal.τ).loc Cert.AdamSmallRefIdeal.main_arg23) = m ((c.tc : Thread Cert.AdamSmallIdeal.nD Cert.AdamSmallIdeal.τ).loc Cert.AdamSmallIdeal.main_arg23)
      ∧ m' ((c.tc : Thread Cert.AdamSmallRefIdeal.nD Cert.AdamSmallRefIdeal.τ).loc Cert.AdamSmallRefIdeal.main_arg24) = m ((c.tc : Thread Cert.AdamSmallIdeal.nD Cert.AdamSmallIdeal.τ).loc Cert.AdamSmallIdeal.main_arg24)
      ∧ m' ((c.tc : Thread Cert.AdamSmallRefIdeal.nD Cert.AdamSmallRefIdeal.τ).loc Cert.AdamSmallRefIdeal.main_arg25) = m ((c.tc : Thread Cert.AdamSmallIdeal.nD Cert.AdamSmallIdeal.τ).loc Cert.AdamSmallIdeal.main_arg25)
      ∧ m' ((c.tc : Thread Cert.AdamSmallRefIdeal.nD Cert.AdamSmallRefIdeal.τ).loc Cert.AdamSmallRefIdeal.main_arg26) = m ((c.tc : Thread Cert.AdamSmallIdeal.nD Cert.AdamSmallIdeal.τ).loc Cert.AdamSmallIdeal.main_arg26)
      ∧ m' ((c.tc : Thread Cert.AdamSmallRefIdeal.nD Cert.AdamSmallRefIdeal.τ).loc Cert.AdamSmallRefIdeal.main_arg27) = m ((c.tc : Thread Cert.AdamSmallIdeal.nD Cert.AdamSmallIdeal.τ).loc Cert.AdamSmallIdeal.main_arg27)
      ∧ m' ((c.tc : Thread Cert.AdamSmallRefIdeal.nD Cert.AdamSmallRefIdeal.τ).loc Cert.AdamSmallRefIdeal.main_arg28) = m ((c.tc : Thread Cert.AdamSmallIdeal.nD Cert.AdamSmallIdeal.τ).loc Cert.AdamSmallIdeal.main_arg28)
      ∧ m' ((c.tc : Thread Cert.AdamSmallRefIdeal.nD Cert.AdamSmallRefIdeal.τ).loc Cert.AdamSmallRefIdeal.main_arg29) = m ((c.tc : Thread Cert.AdamSmallIdeal.nD Cert.AdamSmallIdeal.τ).loc Cert.AdamSmallIdeal.main_arg29)
      ∧ m' ((c.tc : Thread Cert.AdamSmallRefIdeal.nD Cert.AdamSmallRefIdeal.τ).loc Cert.AdamSmallRefIdeal.main_arg30) = m ((c.tc : Thread Cert.AdamSmallIdeal.nD Cert.AdamSmallIdeal.τ).loc Cert.AdamSmallIdeal.main_arg30)
      ∧ m' ((c.tc : Thread Cert.AdamSmallRefIdeal.nD Cert.AdamSmallRefIdeal.τ).loc Cert.AdamSmallRefIdeal.main_arg31) = m ((c.tc : Thread Cert.AdamSmallIdeal.nD Cert.AdamSmallIdeal.τ).loc Cert.AdamSmallIdeal.main_arg31)
      ∧ m' ((c.tc : Thread Cert.AdamSmallRefIdeal.nD Cert.AdamSmallRefIdeal.τ).loc Cert.AdamSmallRefIdeal.main_arg32) = m ((c.tc : Thread Cert.AdamSmallIdeal.nD Cert.AdamSmallIdeal.τ).loc Cert.AdamSmallIdeal.main_arg32)
      ∧ m' ((c.tc : Thread Cert.AdamSmallRefIdeal.nD Cert.AdamSmallRefIdeal.τ).loc Cert.AdamSmallRefIdeal.main_arg33) = m ((c.tc : Thread Cert.AdamSmallIdeal.nD Cert.AdamSmallIdeal.τ).loc Cert.AdamSmallIdeal.main_arg33)
      ∧ m' ((c.tc : Thread Cert.AdamSmallRefIdeal.nD Cert.AdamSmallRefIdeal.τ).loc Cert.AdamSmallRefIdeal.main_arg34) = m ((c.tc : Thread Cert.AdamSmallIdeal.nD Cert.AdamSmallIdeal.τ).loc Cert.AdamSmallIdeal.main_arg34)
      ∧ m' ((c.tc : Thread Cert.AdamSmallRefIdeal.nD Cert.AdamSmallRefIdeal.τ).loc Cert.AdamSmallRefIdeal.main_arg35) = m ((c.tc : Thread Cert.AdamSmallIdeal.nD Cert.AdamSmallIdeal.τ).loc Cert.AdamSmallIdeal.main_arg35)) →
    ∃ (v0 : (c : Dev Cert.AdamSmallIdeal.nD) → Buf (Elt Ideal) ((c.tc : Thread Cert.AdamSmallIdeal.nD Cert.AdamSmallIdeal.τ).loc Cert.AdamSmallIdeal.main_v16_0)) (v1 : (c : Dev Cert.AdamSmallIdeal.nD) → Buf (Elt Ideal) ((c.tc : Thread Cert.AdamSmallIdeal.nD Cert.AdamSmallIdeal.τ).loc Cert.AdamSmallIdeal.main_v16_1)) (v2 : (c : Dev Cert.AdamSmallIdeal.nD) → Buf (Elt Ideal) ((c.tc : Thread Cert.AdamSmallIdeal.nD Cert.AdamSmallIdeal.τ).loc Cert.AdamSmallIdeal.main_v16_2)) (v3 : (c : Dev Cert.AdamSmallIdeal.nD) → Buf (Elt Ideal) ((c.tc : Thread Cert.AdamSmallIdeal.nD Cert.AdamSmallIdeal.τ).loc Cert.AdamSmallIdeal.main_v16_3)) (v4 : (c : Dev Cert.AdamSmallIdeal.nD) → Buf (Elt Ideal) ((c.tc : Thread Cert.AdamSmallIdeal.nD Cert.AdamSmallIdeal.τ).loc Cert.AdamSmallIdeal.main_v16_4)) (v5 : (c : Dev Cert.AdamSmallIdeal.nD) → Buf (Elt Ideal) ((c.tc : Thread Cert.AdamSmallIdeal.nD Cert.AdamSmallIdeal.τ).loc Cert.AdamSmallIdeal.main_v16_5)) (v6 : (c : Dev Cert.AdamSmallIdeal.nD) → Buf (Elt Ideal) ((c.tc : Thread Cert.AdamSmallIdeal.nD Cert.AdamSmallIdeal.τ).loc Cert.AdamSmallIdeal.main_v16_6)) (v7 : (c : Dev Cert.AdamSmallIdeal.nD) → Buf (Elt Ideal) ((c.tc : Thread Cert.AdamSmallIdeal.nD Cert.AdamSmallIdeal.τ).loc Cert.AdamSmallIdeal.main_v16_7)) (v8 : (c : Dev Cert.AdamSmallIdeal.nD) → Buf (Elt Ideal) ((c.tc : Thread Cert.AdamSmallIdeal.nD Cert.AdamSmallIdeal.τ).loc Cert.AdamSmallIdeal.main_v16_8)) (v9 : (c : Dev Cert.AdamSmallIdeal.nD) → Buf (Elt Ideal) ((c.tc : Thread Cert.AdamSmallIdeal.nD Cert.AdamSmallIdeal.τ).loc Cert.AdamSmallIdeal.main_v16_9)) (v10 : (c : Dev Cert.AdamSmallIdeal.nD) → Buf (Elt Ideal) ((c.tc : Thread Cert.AdamSmallIdeal.nD Cert.AdamSmallIdeal.τ).loc Cert.AdamSmallIdeal.main_v16_10)) (v11 : (c : Dev Cert.AdamSmallIdeal.nD) → Buf (Elt Ideal) ((c.tc : Thread Cert.AdamSmallIdeal.nD Cert.AdamSmallIdeal.τ).loc Cert.AdamSmallIdeal.main_v16_11)) (v12 : (c : Dev Cert.AdamSmallIdeal.nD) → Buf (Elt Ideal) ((c.tc : Thread Cert.AdamSmallIdeal.nD Cert.AdamSmallIdeal.τ).loc Cert.AdamSmallIdeal.main_v16_12)) (v13 : (c : Dev Cert.AdamSmallIdeal.nD) → Buf (Elt Ideal) ((c.tc : Thread Cert.AdamSmallIdeal.nD Cert.AdamSmallIdeal.τ).loc Cert.AdamSmallIdeal.main_v16_13)) (v14 : (c : Dev Cert.AdamSmallIdeal.nD) → Buf (Elt Ideal) ((c.tc : Thread Cert.AdamSmallIdeal.nD Cert.AdamSmallIdeal.τ).loc Cert.AdamSmallIdeal.main_v16_14)) (v15 : (c : Dev Cert.AdamSmallIdeal.nD) → Buf (Elt Ideal) ((c.tc : Thread Cert.AdamSmallIdeal.nD Cert.AdamSmallIdeal.τ).loc Cert.AdamSmallIdeal.main_v16_15)) (v16 : (c : Dev Cert.AdamSmallIdeal.nD) → Buf (Elt Ideal) ((c.tc : Thread Cert.AdamSmallIdeal.nD Cert.AdamSmallIdeal.τ).loc Cert.AdamSmallIdeal.main_v16_16)) (v17 : (c : Dev Cert.AdamSmallIdeal.nD) → Buf (Elt Ideal) ((c.tc : Thread Cert.AdamSmallIdeal.nD Cert.AdamSmallIdeal.τ).loc Cert.AdamSmallIdeal.main_v16_17)) (v18 : (c : Dev Cert.AdamSmallIdeal.nD) → Buf (Elt Ideal) ((c.tc : Thread Cert.AdamSmallIdeal.nD Cert.AdamSmallIdeal.τ).loc Cert.AdamSmallIdeal.main_v16_18)) (v19 : (c : Dev Cert.AdamSmallIdeal.nD) → Buf (Elt Ideal) ((c.tc : Thread Cert.AdamSmallIdeal.nD Cert.AdamSmallIdeal.τ).loc Cert.AdamSmallIdeal.main_v16_19)) (v20 : (c : Dev Cert.AdamSmallIdeal.nD) → Buf (Elt Ideal) ((c.tc : Thread Cert.AdamSmallIdeal.nD Cert.AdamSmallIdeal.τ).loc Cert.AdamSmallIdeal.main_v16_20)) (v21 : (c : Dev Cert.AdamSmallIdeal.nD) → Buf (Elt Ideal) ((c.tc : Thread Cert.AdamSmallIdeal.nD Cert.AdamSmallIdeal.τ).loc Cert.AdamSmallIdeal.main_v16_21)) (v22 : (c : Dev Cert.AdamSmallIdeal.nD) → Buf (Elt Ideal) ((c.tc : Thread Cert.AdamSmallIdeal.nD Cert.AdamSmallIdeal.τ).loc Cert.AdamSmallIdeal.main_v16_22)) (v23 : (c : Dev Cert.AdamSmallIdeal.nD) → Buf (Elt Ideal) ((c.tc : Thread Cert.AdamSmallIdeal.nD Cert.AdamSmallIdeal.τ).loc Cert.AdamSmallIdeal.main_v16_23)) (v24 : (c : Dev Cert.AdamSmallIdeal.nD) → Buf (Elt Ideal) ((c.tc : Thread Cert.AdamSmallIdeal.nD Cert.AdamSmallIdeal.τ).loc Cert.AdamSmallIdeal.main_v16_24)) (v25 : (c : Dev Cert.AdamSmallIdeal.nD) → Buf (Elt Ideal) ((c.tc : Thread Cert.AdamSmallIdeal.nD Cert.AdamSmallIdeal.τ).loc Cert.AdamSmallIdeal.main_v16_25)) (v26 : (c : Dev Cert.AdamSmallIdeal.nD) → Buf (Elt Ideal) ((c.tc : Thread Cert.AdamSmallIdeal.nD Cert.AdamSmallIdeal.τ).loc Cert.AdamSmallIdeal.main_v16_26)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v16_0) = v0 c
          ∧ r.2.mem ((c.tc : Thread Cert.AdamSmallIdeal.nD Cert.AdamSmallIdeal.τ).loc Cert.AdamSmallIdeal.main_v16_1) = v1 c
          ∧ r.2.mem ((c.tc : Thread Cert.AdamSmallIdeal.nD Cert.AdamSmallIdeal.τ).loc Cert.AdamSmallIdeal.main_v16_2) = v2 c
          ∧ r.2.mem ((c.tc : Thread Cert.AdamSmallIdeal.nD Cert.AdamSmallIdeal.τ).loc Cert.AdamSmallIdeal.main_v16_3) = v3 c
          ∧ r.2.mem ((c.tc : Thread Cert.AdamSmallIdeal.nD Cert.AdamSmallIdeal.τ).loc Cert.AdamSmallIdeal.main_v16_4) = v4 c
          ∧ r.2.mem ((c.tc : Thread Cert.AdamSmallIdeal.nD Cert.AdamSmallIdeal.τ).loc Cert.AdamSmallIdeal.main_v16_5) = v5 c
          ∧ r.2.mem ((c.tc : Thread Cert.AdamSmallIdeal.nD Cert.AdamSmallIdeal.τ).loc Cert.AdamSmallIdeal.main_v16_6) = v6 c
          ∧ r.2.mem ((c.tc : Thread Cert.AdamSmallIdeal.nD Cert.AdamSmallIdeal.τ).loc Cert.AdamSmallIdeal.main_v16_7) = v7 c
          ∧ r.2.mem ((c.tc : Thread Cert.AdamSmallIdeal.nD Cert.AdamSmallIdeal.τ).loc Cert.AdamSmallIdeal.main_v16_8) = v8 c
          ∧ r.2.mem ((c.tc : Thread Cert.AdamSmallIdeal.nD Cert.AdamSmallIdeal.τ).loc Cert.AdamSmallIdeal.main_v16_9) = v9 c
          ∧ r.2.mem ((c.tc : Thread Cert.AdamSmallIdeal.nD Cert.AdamSmallIdeal.τ).loc Cert.AdamSmallIdeal.main_v16_10) = v10 c
          ∧ r.2.mem ((c.tc : Thread Cert.AdamSmallIdeal.nD Cert.AdamSmallIdeal.τ).loc Cert.AdamSmallIdeal.main_v16_11) = v11 c
          ∧ r.2.mem ((c.tc : Thread Cert.AdamSmallIdeal.nD Cert.AdamSmallIdeal.τ).loc Cert.AdamSmallIdeal.main_v16_12) = v12 c
          ∧ r.2.mem ((c.tc : Thread Cert.AdamSmallIdeal.nD Cert.AdamSmallIdeal.τ).loc Cert.AdamSmallIdeal.main_v16_13) = v13 c
          ∧ r.2.mem ((c.tc : Thread Cert.AdamSmallIdeal.nD Cert.AdamSmallIdeal.τ).loc Cert.AdamSmallIdeal.main_v16_14) = v14 c
          ∧ r.2.mem ((c.tc : Thread Cert.AdamSmallIdeal.nD Cert.AdamSmallIdeal.τ).loc Cert.AdamSmallIdeal.main_v16_15) = v15 c
          ∧ r.2.mem ((c.tc : Thread Cert.AdamSmallIdeal.nD Cert.AdamSmallIdeal.τ).loc Cert.AdamSmallIdeal.main_v16_16) = v16 c
          ∧ r.2.mem ((c.tc : Thread Cert.AdamSmallIdeal.nD Cert.AdamSmallIdeal.τ).loc Cert.AdamSmallIdeal.main_v16_17) = v17 c
          ∧ r.2.mem ((c.tc : Thread Cert.AdamSmallIdeal.nD Cert.AdamSmallIdeal.τ).loc Cert.AdamSmallIdeal.main_v16_18) = v18 c
          ∧ r.2.mem ((c.tc : Thread Cert.AdamSmallIdeal.nD Cert.AdamSmallIdeal.τ).loc Cert.AdamSmallIdeal.main_v16_19) = v19 c
          ∧ r.2.mem ((c.tc : Thread Cert.AdamSmallIdeal.nD Cert.AdamSmallIdeal.τ).loc Cert.AdamSmallIdeal.main_v16_20) = v20 c
          ∧ r.2.mem ((c.tc : Thread Cert.AdamSmallIdeal.nD Cert.AdamSmallIdeal.τ).loc Cert.AdamSmallIdeal.main_v16_21) = v21 c
          ∧ r.2.mem ((c.tc : Thread Cert.AdamSmallIdeal.nD Cert.AdamSmallIdeal.τ).loc Cert.AdamSmallIdeal.main_v16_22) = v22 c
          ∧ r.2.mem ((c.tc : Thread Cert.AdamSmallIdeal.nD Cert.AdamSmallIdeal.τ).loc Cert.AdamSmallIdeal.main_v16_23) = v23 c
          ∧ r.2.mem ((c.tc : Thread Cert.AdamSmallIdeal.nD Cert.AdamSmallIdeal.τ).loc Cert.AdamSmallIdeal.main_v16_24) = v24 c
          ∧ r.2.mem ((c.tc : Thread Cert.AdamSmallIdeal.nD Cert.AdamSmallIdeal.τ).loc Cert.AdamSmallIdeal.main_v16_25) = v25 c
          ∧ r.2.mem ((c.tc : Thread Cert.AdamSmallIdeal.nD Cert.AdamSmallIdeal.τ).loc Cert.AdamSmallIdeal.main_v16_26) = v26 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3)
          ∧ r.2.mem ((c.tc : Thread Cert.AdamSmallIdeal.nD Cert.AdamSmallIdeal.τ).loc Cert.AdamSmallIdeal.main_arg4) = m ((c.tc : Thread Cert.AdamSmallIdeal.nD Cert.AdamSmallIdeal.τ).loc Cert.AdamSmallIdeal.main_arg4)
          ∧ r.2.mem ((c.tc : Thread Cert.AdamSmallIdeal.nD Cert.AdamSmallIdeal.τ).loc Cert.AdamSmallIdeal.main_arg5) = m ((c.tc : Thread Cert.AdamSmallIdeal.nD Cert.AdamSmallIdeal.τ).loc Cert.AdamSmallIdeal.main_arg5)
          ∧ r.2.mem ((c.tc : Thread Cert.AdamSmallIdeal.nD Cert.AdamSmallIdeal.τ).loc Cert.AdamSmallIdeal.main_arg6) = m ((c.tc : Thread Cert.AdamSmallIdeal.nD Cert.AdamSmallIdeal.τ).loc Cert.AdamSmallIdeal.main_arg6)
          ∧ r.2.mem ((c.tc : Thread Cert.AdamSmallIdeal.nD Cert.AdamSmallIdeal.τ).loc Cert.AdamSmallIdeal.main_arg7) = m ((c.tc : Thread Cert.AdamSmallIdeal.nD Cert.AdamSmallIdeal.τ).loc Cert.AdamSmallIdeal.main_arg7)
          ∧ r.2.mem ((c.tc : Thread Cert.AdamSmallIdeal.nD Cert.AdamSmallIdeal.τ).loc Cert.AdamSmallIdeal.main_arg8) = m ((c.tc : Thread Cert.AdamSmallIdeal.nD Cert.AdamSmallIdeal.τ).loc Cert.AdamSmallIdeal.main_arg8)
          ∧ r.2.mem ((c.tc : Thread Cert.AdamSmallIdeal.nD Cert.AdamSmallIdeal.τ).loc Cert.AdamSmallIdeal.main_arg9) = m ((c.tc : Thread Cert.AdamSmallIdeal.nD Cert.AdamSmallIdeal.τ).loc Cert.AdamSmallIdeal.main_arg9)
          ∧ r.2.mem ((c.tc : Thread Cert.AdamSmallIdeal.nD Cert.AdamSmallIdeal.τ).loc Cert.AdamSmallIdeal.main_arg10) = m ((c.tc : Thread Cert.AdamSmallIdeal.nD Cert.AdamSmallIdeal.τ).loc Cert.AdamSmallIdeal.main_arg10)
          ∧ r.2.mem ((c.tc : Thread Cert.AdamSmallIdeal.nD Cert.AdamSmallIdeal.τ).loc Cert.AdamSmallIdeal.main_arg11) = m ((c.tc : Thread Cert.AdamSmallIdeal.nD Cert.AdamSmallIdeal.τ).loc Cert.AdamSmallIdeal.main_arg11)
          ∧ r.2.mem ((c.tc : Thread Cert.AdamSmallIdeal.nD Cert.AdamSmallIdeal.τ).loc Cert.AdamSmallIdeal.main_arg12) = m ((c.tc : Thread Cert.AdamSmallIdeal.nD Cert.AdamSmallIdeal.τ).loc Cert.AdamSmallIdeal.main_arg12)
          ∧ r.2.mem ((c.tc : Thread Cert.AdamSmallIdeal.nD Cert.AdamSmallIdeal.τ).loc Cert.AdamSmallIdeal.main_arg13) = m ((c.tc : Thread Cert.AdamSmallIdeal.nD Cert.AdamSmallIdeal.τ).loc Cert.AdamSmallIdeal.main_arg13)
          ∧ r.2.mem ((c.tc : Thread Cert.AdamSmallIdeal.nD Cert.AdamSmallIdeal.τ).loc Cert.AdamSmallIdeal.main_arg14) = m ((c.tc : Thread Cert.AdamSmallIdeal.nD Cert.AdamSmallIdeal.τ).loc Cert.AdamSmallIdeal.main_arg14)
          ∧ r.2.mem ((c.tc : Thread Cert.AdamSmallIdeal.nD Cert.AdamSmallIdeal.τ).loc Cert.AdamSmallIdeal.main_arg15) = m ((c.tc : Thread Cert.AdamSmallIdeal.nD Cert.AdamSmallIdeal.τ).loc Cert.AdamSmallIdeal.main_arg15)
          ∧ r.2.mem ((c.tc : Thread Cert.AdamSmallIdeal.nD Cert.AdamSmallIdeal.τ).loc Cert.AdamSmallIdeal.main_arg16) = m ((c.tc : Thread Cert.AdamSmallIdeal.nD Cert.AdamSmallIdeal.τ).loc Cert.AdamSmallIdeal.main_arg16)
          ∧ r.2.mem ((c.tc : Thread Cert.AdamSmallIdeal.nD Cert.AdamSmallIdeal.τ).loc Cert.AdamSmallIdeal.main_arg17) = m ((c.tc : Thread Cert.AdamSmallIdeal.nD Cert.AdamSmallIdeal.τ).loc Cert.AdamSmallIdeal.main_arg17)
          ∧ r.2.mem ((c.tc : Thread Cert.AdamSmallIdeal.nD Cert.AdamSmallIdeal.τ).loc Cert.AdamSmallIdeal.main_arg18) = m ((c.tc : Thread Cert.AdamSmallIdeal.nD Cert.AdamSmallIdeal.τ).loc Cert.AdamSmallIdeal.main_arg18)
          ∧ r.2.mem ((c.tc : Thread Cert.AdamSmallIdeal.nD Cert.AdamSmallIdeal.τ).loc Cert.AdamSmallIdeal.main_arg19) = m ((c.tc : Thread Cert.AdamSmallIdeal.nD Cert.AdamSmallIdeal.τ).loc Cert.AdamSmallIdeal.main_arg19)
          ∧ r.2.mem ((c.tc : Thread Cert.AdamSmallIdeal.nD Cert.AdamSmallIdeal.τ).loc Cert.AdamSmallIdeal.main_arg20) = m ((c.tc : Thread Cert.AdamSmallIdeal.nD Cert.AdamSmallIdeal.τ).loc Cert.AdamSmallIdeal.main_arg20)
          ∧ r.2.mem ((c.tc : Thread Cert.AdamSmallIdeal.nD Cert.AdamSmallIdeal.τ).loc Cert.AdamSmallIdeal.main_arg21) = m ((c.tc : Thread Cert.AdamSmallIdeal.nD Cert.AdamSmallIdeal.τ).loc Cert.AdamSmallIdeal.main_arg21)
          ∧ r.2.mem ((c.tc : Thread Cert.AdamSmallIdeal.nD Cert.AdamSmallIdeal.τ).loc Cert.AdamSmallIdeal.main_arg22) = m ((c.tc : Thread Cert.AdamSmallIdeal.nD Cert.AdamSmallIdeal.τ).loc Cert.AdamSmallIdeal.main_arg22)
          ∧ r.2.mem ((c.tc : Thread Cert.AdamSmallIdeal.nD Cert.AdamSmallIdeal.τ).loc Cert.AdamSmallIdeal.main_arg23) = m ((c.tc : Thread Cert.AdamSmallIdeal.nD Cert.AdamSmallIdeal.τ).loc Cert.AdamSmallIdeal.main_arg23)
          ∧ r.2.mem ((c.tc : Thread Cert.AdamSmallIdeal.nD Cert.AdamSmallIdeal.τ).loc Cert.AdamSmallIdeal.main_arg24) = m ((c.tc : Thread Cert.AdamSmallIdeal.nD Cert.AdamSmallIdeal.τ).loc Cert.AdamSmallIdeal.main_arg24)
          ∧ r.2.mem ((c.tc : Thread Cert.AdamSmallIdeal.nD Cert.AdamSmallIdeal.τ).loc Cert.AdamSmallIdeal.main_arg25) = m ((c.tc : Thread Cert.AdamSmallIdeal.nD Cert.AdamSmallIdeal.τ).loc Cert.AdamSmallIdeal.main_arg25)
          ∧ r.2.mem ((c.tc : Thread Cert.AdamSmallIdeal.nD Cert.AdamSmallIdeal.τ).loc Cert.AdamSmallIdeal.main_arg26) = m ((c.tc : Thread Cert.AdamSmallIdeal.nD Cert.AdamSmallIdeal.τ).loc Cert.AdamSmallIdeal.main_arg26)
          ∧ r.2.mem ((c.tc : Thread Cert.AdamSmallIdeal.nD Cert.AdamSmallIdeal.τ).loc Cert.AdamSmallIdeal.main_arg27) = m ((c.tc : Thread Cert.AdamSmallIdeal.nD Cert.AdamSmallIdeal.τ).loc Cert.AdamSmallIdeal.main_arg27)
          ∧ r.2.mem ((c.tc : Thread Cert.AdamSmallIdeal.nD Cert.AdamSmallIdeal.τ).loc Cert.AdamSmallIdeal.main_arg28) = m ((c.tc : Thread Cert.AdamSmallIdeal.nD Cert.AdamSmallIdeal.τ).loc Cert.AdamSmallIdeal.main_arg28)
          ∧ r.2.mem ((c.tc : Thread Cert.AdamSmallIdeal.nD Cert.AdamSmallIdeal.τ).loc Cert.AdamSmallIdeal.main_arg29) = m ((c.tc : Thread Cert.AdamSmallIdeal.nD Cert.AdamSmallIdeal.τ).loc Cert.AdamSmallIdeal.main_arg29)
          ∧ r.2.mem ((c.tc : Thread Cert.AdamSmallIdeal.nD Cert.AdamSmallIdeal.τ).loc Cert.AdamSmallIdeal.main_arg30) = m ((c.tc : Thread Cert.AdamSmallIdeal.nD Cert.AdamSmallIdeal.τ).loc Cert.AdamSmallIdeal.main_arg30)
          ∧ r.2.mem ((c.tc : Thread Cert.AdamSmallIdeal.nD Cert.AdamSmallIdeal.τ).loc Cert.AdamSmallIdeal.main_arg31) = m ((c.tc : Thread Cert.AdamSmallIdeal.nD Cert.AdamSmallIdeal.τ).loc Cert.AdamSmallIdeal.main_arg31)
          ∧ r.2.mem ((c.tc : Thread Cert.AdamSmallIdeal.nD Cert.AdamSmallIdeal.τ).loc Cert.AdamSmallIdeal.main_arg32) = m ((c.tc : Thread Cert.AdamSmallIdeal.nD Cert.AdamSmallIdeal.τ).loc Cert.AdamSmallIdeal.main_arg32)
          ∧ r.2.mem ((c.tc : Thread Cert.AdamSmallIdeal.nD Cert.AdamSmallIdeal.τ).loc Cert.AdamSmallIdeal.main_arg33) = m ((c.tc : Thread Cert.AdamSmallIdeal.nD Cert.AdamSmallIdeal.τ).loc Cert.AdamSmallIdeal.main_arg33)
          ∧ r.2.mem ((c.tc : Thread Cert.AdamSmallIdeal.nD Cert.AdamSmallIdeal.τ).loc Cert.AdamSmallIdeal.main_arg34) = m ((c.tc : Thread Cert.AdamSmallIdeal.nD Cert.AdamSmallIdeal.τ).loc Cert.AdamSmallIdeal.main_arg34)
          ∧ r.2.mem ((c.tc : Thread Cert.AdamSmallIdeal.nD Cert.AdamSmallIdeal.τ).loc Cert.AdamSmallIdeal.main_arg35) = m ((c.tc : Thread Cert.AdamSmallIdeal.nD Cert.AdamSmallIdeal.τ).loc Cert.AdamSmallIdeal.main_arg35))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v24) = v0 c
          ∧ r.2.mem ((c.tc : Thread Cert.AdamSmallRefIdeal.nD Cert.AdamSmallRefIdeal.τ).loc Cert.AdamSmallRefIdeal.main_v25) = v1 c
          ∧ r.2.mem ((c.tc : Thread Cert.AdamSmallRefIdeal.nD Cert.AdamSmallRefIdeal.τ).loc Cert.AdamSmallRefIdeal.main_v26) = v2 c
          ∧ r.2.mem ((c.tc : Thread Cert.AdamSmallRefIdeal.nD Cert.AdamSmallRefIdeal.τ).loc Cert.AdamSmallRefIdeal.main_v50) = v3 c
          ∧ r.2.mem ((c.tc : Thread Cert.AdamSmallRefIdeal.nD Cert.AdamSmallRefIdeal.τ).loc Cert.AdamSmallRefIdeal.main_v31) = v4 c
          ∧ r.2.mem ((c.tc : Thread Cert.AdamSmallRefIdeal.nD Cert.AdamSmallRefIdeal.τ).loc Cert.AdamSmallRefIdeal.main_v37) = v5 c
          ∧ r.2.mem ((c.tc : Thread Cert.AdamSmallRefIdeal.nD Cert.AdamSmallRefIdeal.τ).loc Cert.AdamSmallRefIdeal.main_v74) = v6 c
          ∧ r.2.mem ((c.tc : Thread Cert.AdamSmallRefIdeal.nD Cert.AdamSmallRefIdeal.τ).loc Cert.AdamSmallRefIdeal.main_v55) = v7 c
          ∧ r.2.mem ((c.tc : Thread Cert.AdamSmallRefIdeal.nD Cert.AdamSmallRefIdeal.τ).loc Cert.AdamSmallRefIdeal.main_v61) = v8 c
          ∧ r.2.mem ((c.tc : Thread Cert.AdamSmallRefIdeal.nD Cert.AdamSmallRefIdeal.τ).loc Cert.AdamSmallRefIdeal.main_v98) = v9 c
          ∧ r.2.mem ((c.tc : Thread Cert.AdamSmallRefIdeal.nD Cert.AdamSmallRefIdeal.τ).loc Cert.AdamSmallRefIdeal.main_v79) = v10 c
          ∧ r.2.mem ((c.tc : Thread Cert.AdamSmallRefIdeal.nD Cert.AdamSmallRefIdeal.τ).loc Cert.AdamSmallRefIdeal.main_v85) = v11 c
          ∧ r.2.mem ((c.tc : Thread Cert.AdamSmallRefIdeal.nD Cert.AdamSmallRefIdeal.τ).loc Cert.AdamSmallRefIdeal.main_v123) = v12 c
          ∧ r.2.mem ((c.tc : Thread Cert.AdamSmallRefIdeal.nD Cert.AdamSmallRefIdeal.τ).loc Cert.AdamSmallRefIdeal.main_v124) = v13 c
          ∧ r.2.mem ((c.tc : Thread Cert.AdamSmallRefIdeal.nD Cert.AdamSmallRefIdeal.τ).loc Cert.AdamSmallRefIdeal.main_v125) = v14 c
          ∧ r.2.mem ((c.tc : Thread Cert.AdamSmallRefIdeal.nD Cert.AdamSmallRefIdeal.τ).loc Cert.AdamSmallRefIdeal.main_v150) = v15 c
          ∧ r.2.mem ((c.tc : Thread Cert.AdamSmallRefIdeal.nD Cert.AdamSmallRefIdeal.τ).loc Cert.AdamSmallRefIdeal.main_v151) = v16 c
          ∧ r.2.mem ((c.tc : Thread Cert.AdamSmallRefIdeal.nD Cert.AdamSmallRefIdeal.τ).loc Cert.AdamSmallRefIdeal.main_v152) = v17 c
          ∧ r.2.mem ((c.tc : Thread Cert.AdamSmallRefIdeal.nD Cert.AdamSmallRefIdeal.τ).loc Cert.AdamSmallRefIdeal.main_v176) = v18 c
          ∧ r.2.mem ((c.tc : Thread Cert.AdamSmallRefIdeal.nD Cert.AdamSmallRefIdeal.τ).loc Cert.AdamSmallRefIdeal.main_v157) = v19 c
          ∧ r.2.mem ((c.tc : Thread Cert.AdamSmallRefIdeal.nD Cert.AdamSmallRefIdeal.τ).loc Cert.AdamSmallRefIdeal.main_v163) = v20 c
          ∧ r.2.mem ((c.tc : Thread Cert.AdamSmallRefIdeal.nD Cert.AdamSmallRefIdeal.τ).loc Cert.AdamSmallRefIdeal.main_v200) = v21 c
          ∧ r.2.mem ((c.tc : Thread Cert.AdamSmallRefIdeal.nD Cert.AdamSmallRefIdeal.τ).loc Cert.AdamSmallRefIdeal.main_v181) = v22 c
          ∧ r.2.mem ((c.tc : Thread Cert.AdamSmallRefIdeal.nD Cert.AdamSmallRefIdeal.τ).loc Cert.AdamSmallRefIdeal.main_v187) = v23 c
          ∧ r.2.mem ((c.tc : Thread Cert.AdamSmallRefIdeal.nD Cert.AdamSmallRefIdeal.τ).loc Cert.AdamSmallRefIdeal.main_v225) = v24 c
          ∧ r.2.mem ((c.tc : Thread Cert.AdamSmallRefIdeal.nD Cert.AdamSmallRefIdeal.τ).loc Cert.AdamSmallRefIdeal.main_v226) = v25 c
          ∧ r.2.mem ((c.tc : Thread Cert.AdamSmallRefIdeal.nD Cert.AdamSmallRefIdeal.τ).loc Cert.AdamSmallRefIdeal.main_v227) = v26 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3)
          ∧ r.2.mem ((c.tc : Thread Cert.AdamSmallRefIdeal.nD Cert.AdamSmallRefIdeal.τ).loc Cert.AdamSmallRefIdeal.main_arg4) = m' ((c.tc : Thread Cert.AdamSmallRefIdeal.nD Cert.AdamSmallRefIdeal.τ).loc Cert.AdamSmallRefIdeal.main_arg4)
          ∧ r.2.mem ((c.tc : Thread Cert.AdamSmallRefIdeal.nD Cert.AdamSmallRefIdeal.τ).loc Cert.AdamSmallRefIdeal.main_arg5) = m' ((c.tc : Thread Cert.AdamSmallRefIdeal.nD Cert.AdamSmallRefIdeal.τ).loc Cert.AdamSmallRefIdeal.main_arg5)
          ∧ r.2.mem ((c.tc : Thread Cert.AdamSmallRefIdeal.nD Cert.AdamSmallRefIdeal.τ).loc Cert.AdamSmallRefIdeal.main_arg6) = m' ((c.tc : Thread Cert.AdamSmallRefIdeal.nD Cert.AdamSmallRefIdeal.τ).loc Cert.AdamSmallRefIdeal.main_arg6)
          ∧ r.2.mem ((c.tc : Thread Cert.AdamSmallRefIdeal.nD Cert.AdamSmallRefIdeal.τ).loc Cert.AdamSmallRefIdeal.main_arg7) = m' ((c.tc : Thread Cert.AdamSmallRefIdeal.nD Cert.AdamSmallRefIdeal.τ).loc Cert.AdamSmallRefIdeal.main_arg7)
          ∧ r.2.mem ((c.tc : Thread Cert.AdamSmallRefIdeal.nD Cert.AdamSmallRefIdeal.τ).loc Cert.AdamSmallRefIdeal.main_arg8) = m' ((c.tc : Thread Cert.AdamSmallRefIdeal.nD Cert.AdamSmallRefIdeal.τ).loc Cert.AdamSmallRefIdeal.main_arg8)
          ∧ r.2.mem ((c.tc : Thread Cert.AdamSmallRefIdeal.nD Cert.AdamSmallRefIdeal.τ).loc Cert.AdamSmallRefIdeal.main_arg9) = m' ((c.tc : Thread Cert.AdamSmallRefIdeal.nD Cert.AdamSmallRefIdeal.τ).loc Cert.AdamSmallRefIdeal.main_arg9)
          ∧ r.2.mem ((c.tc : Thread Cert.AdamSmallRefIdeal.nD Cert.AdamSmallRefIdeal.τ).loc Cert.AdamSmallRefIdeal.main_arg10) = m' ((c.tc : Thread Cert.AdamSmallRefIdeal.nD Cert.AdamSmallRefIdeal.τ).loc Cert.AdamSmallRefIdeal.main_arg10)
          ∧ r.2.mem ((c.tc : Thread Cert.AdamSmallRefIdeal.nD Cert.AdamSmallRefIdeal.τ).loc Cert.AdamSmallRefIdeal.main_arg11) = m' ((c.tc : Thread Cert.AdamSmallRefIdeal.nD Cert.AdamSmallRefIdeal.τ).loc Cert.AdamSmallRefIdeal.main_arg11)
          ∧ r.2.mem ((c.tc : Thread Cert.AdamSmallRefIdeal.nD Cert.AdamSmallRefIdeal.τ).loc Cert.AdamSmallRefIdeal.main_arg12) = m' ((c.tc : Thread Cert.AdamSmallRefIdeal.nD Cert.AdamSmallRefIdeal.τ).loc Cert.AdamSmallRefIdeal.main_arg12)
          ∧ r.2.mem ((c.tc : Thread Cert.AdamSmallRefIdeal.nD Cert.AdamSmallRefIdeal.τ).loc Cert.AdamSmallRefIdeal.main_arg13) = m' ((c.tc : Thread Cert.AdamSmallRefIdeal.nD Cert.AdamSmallRefIdeal.τ).loc Cert.AdamSmallRefIdeal.main_arg13)
          ∧ r.2.mem ((c.tc : Thread Cert.AdamSmallRefIdeal.nD Cert.AdamSmallRefIdeal.τ).loc Cert.AdamSmallRefIdeal.main_arg14) = m' ((c.tc : Thread Cert.AdamSmallRefIdeal.nD Cert.AdamSmallRefIdeal.τ).loc Cert.AdamSmallRefIdeal.main_arg14)
          ∧ r.2.mem ((c.tc : Thread Cert.AdamSmallRefIdeal.nD Cert.AdamSmallRefIdeal.τ).loc Cert.AdamSmallRefIdeal.main_arg15) = m' ((c.tc : Thread Cert.AdamSmallRefIdeal.nD Cert.AdamSmallRefIdeal.τ).loc Cert.AdamSmallRefIdeal.main_arg15)
          ∧ r.2.mem ((c.tc : Thread Cert.AdamSmallRefIdeal.nD Cert.AdamSmallRefIdeal.τ).loc Cert.AdamSmallRefIdeal.main_arg16) = m' ((c.tc : Thread Cert.AdamSmallRefIdeal.nD Cert.AdamSmallRefIdeal.τ).loc Cert.AdamSmallRefIdeal.main_arg16)
          ∧ r.2.mem ((c.tc : Thread Cert.AdamSmallRefIdeal.nD Cert.AdamSmallRefIdeal.τ).loc Cert.AdamSmallRefIdeal.main_arg17) = m' ((c.tc : Thread Cert.AdamSmallRefIdeal.nD Cert.AdamSmallRefIdeal.τ).loc Cert.AdamSmallRefIdeal.main_arg17)
          ∧ r.2.mem ((c.tc : Thread Cert.AdamSmallRefIdeal.nD Cert.AdamSmallRefIdeal.τ).loc Cert.AdamSmallRefIdeal.main_arg18) = m' ((c.tc : Thread Cert.AdamSmallRefIdeal.nD Cert.AdamSmallRefIdeal.τ).loc Cert.AdamSmallRefIdeal.main_arg18)
          ∧ r.2.mem ((c.tc : Thread Cert.AdamSmallRefIdeal.nD Cert.AdamSmallRefIdeal.τ).loc Cert.AdamSmallRefIdeal.main_arg19) = m' ((c.tc : Thread Cert.AdamSmallRefIdeal.nD Cert.AdamSmallRefIdeal.τ).loc Cert.AdamSmallRefIdeal.main_arg19)
          ∧ r.2.mem ((c.tc : Thread Cert.AdamSmallRefIdeal.nD Cert.AdamSmallRefIdeal.τ).loc Cert.AdamSmallRefIdeal.main_arg20) = m' ((c.tc : Thread Cert.AdamSmallRefIdeal.nD Cert.AdamSmallRefIdeal.τ).loc Cert.AdamSmallRefIdeal.main_arg20)
          ∧ r.2.mem ((c.tc : Thread Cert.AdamSmallRefIdeal.nD Cert.AdamSmallRefIdeal.τ).loc Cert.AdamSmallRefIdeal.main_arg21) = m' ((c.tc : Thread Cert.AdamSmallRefIdeal.nD Cert.AdamSmallRefIdeal.τ).loc Cert.AdamSmallRefIdeal.main_arg21)
          ∧ r.2.mem ((c.tc : Thread Cert.AdamSmallRefIdeal.nD Cert.AdamSmallRefIdeal.τ).loc Cert.AdamSmallRefIdeal.main_arg22) = m' ((c.tc : Thread Cert.AdamSmallRefIdeal.nD Cert.AdamSmallRefIdeal.τ).loc Cert.AdamSmallRefIdeal.main_arg22)
          ∧ r.2.mem ((c.tc : Thread Cert.AdamSmallRefIdeal.nD Cert.AdamSmallRefIdeal.τ).loc Cert.AdamSmallRefIdeal.main_arg23) = m' ((c.tc : Thread Cert.AdamSmallRefIdeal.nD Cert.AdamSmallRefIdeal.τ).loc Cert.AdamSmallRefIdeal.main_arg23)
          ∧ r.2.mem ((c.tc : Thread Cert.AdamSmallRefIdeal.nD Cert.AdamSmallRefIdeal.τ).loc Cert.AdamSmallRefIdeal.main_arg24) = m' ((c.tc : Thread Cert.AdamSmallRefIdeal.nD Cert.AdamSmallRefIdeal.τ).loc Cert.AdamSmallRefIdeal.main_arg24)
          ∧ r.2.mem ((c.tc : Thread Cert.AdamSmallRefIdeal.nD Cert.AdamSmallRefIdeal.τ).loc Cert.AdamSmallRefIdeal.main_arg25) = m' ((c.tc : Thread Cert.AdamSmallRefIdeal.nD Cert.AdamSmallRefIdeal.τ).loc Cert.AdamSmallRefIdeal.main_arg25)
          ∧ r.2.mem ((c.tc : Thread Cert.AdamSmallRefIdeal.nD Cert.AdamSmallRefIdeal.τ).loc Cert.AdamSmallRefIdeal.main_arg26) = m' ((c.tc : Thread Cert.AdamSmallRefIdeal.nD Cert.AdamSmallRefIdeal.τ).loc Cert.AdamSmallRefIdeal.main_arg26)
          ∧ r.2.mem ((c.tc : Thread Cert.AdamSmallRefIdeal.nD Cert.AdamSmallRefIdeal.τ).loc Cert.AdamSmallRefIdeal.main_arg27) = m' ((c.tc : Thread Cert.AdamSmallRefIdeal.nD Cert.AdamSmallRefIdeal.τ).loc Cert.AdamSmallRefIdeal.main_arg27)
          ∧ r.2.mem ((c.tc : Thread Cert.AdamSmallRefIdeal.nD Cert.AdamSmallRefIdeal.τ).loc Cert.AdamSmallRefIdeal.main_arg28) = m' ((c.tc : Thread Cert.AdamSmallRefIdeal.nD Cert.AdamSmallRefIdeal.τ).loc Cert.AdamSmallRefIdeal.main_arg28)
          ∧ r.2.mem ((c.tc : Thread Cert.AdamSmallRefIdeal.nD Cert.AdamSmallRefIdeal.τ).loc Cert.AdamSmallRefIdeal.main_arg29) = m' ((c.tc : Thread Cert.AdamSmallRefIdeal.nD Cert.AdamSmallRefIdeal.τ).loc Cert.AdamSmallRefIdeal.main_arg29)
          ∧ r.2.mem ((c.tc : Thread Cert.AdamSmallRefIdeal.nD Cert.AdamSmallRefIdeal.τ).loc Cert.AdamSmallRefIdeal.main_arg30) = m' ((c.tc : Thread Cert.AdamSmallRefIdeal.nD Cert.AdamSmallRefIdeal.τ).loc Cert.AdamSmallRefIdeal.main_arg30)
          ∧ r.2.mem ((c.tc : Thread Cert.AdamSmallRefIdeal.nD Cert.AdamSmallRefIdeal.τ).loc Cert.AdamSmallRefIdeal.main_arg31) = m' ((c.tc : Thread Cert.AdamSmallRefIdeal.nD Cert.AdamSmallRefIdeal.τ).loc Cert.AdamSmallRefIdeal.main_arg31)
          ∧ r.2.mem ((c.tc : Thread Cert.AdamSmallRefIdeal.nD Cert.AdamSmallRefIdeal.τ).loc Cert.AdamSmallRefIdeal.main_arg32) = m' ((c.tc : Thread Cert.AdamSmallRefIdeal.nD Cert.AdamSmallRefIdeal.τ).loc Cert.AdamSmallRefIdeal.main_arg32)
          ∧ r.2.mem ((c.tc : Thread Cert.AdamSmallRefIdeal.nD Cert.AdamSmallRefIdeal.τ).loc Cert.AdamSmallRefIdeal.main_arg33) = m' ((c.tc : Thread Cert.AdamSmallRefIdeal.nD Cert.AdamSmallRefIdeal.τ).loc Cert.AdamSmallRefIdeal.main_arg33)
          ∧ r.2.mem ((c.tc : Thread Cert.AdamSmallRefIdeal.nD Cert.AdamSmallRefIdeal.τ).loc Cert.AdamSmallRefIdeal.main_arg34) = m' ((c.tc : Thread Cert.AdamSmallRefIdeal.nD Cert.AdamSmallRefIdeal.τ).loc Cert.AdamSmallRefIdeal.main_arg34)
          ∧ r.2.mem ((c.tc : Thread Cert.AdamSmallRefIdeal.nD Cert.AdamSmallRefIdeal.τ).loc Cert.AdamSmallRefIdeal.main_arg35) = m' ((c.tc : Thread Cert.AdamSmallRefIdeal.nD Cert.AdamSmallRefIdeal.τ).loc Cert.AdamSmallRefIdeal.main_arg35))

def Claim : Prop :=
  ∃ (hCtxBwd : Cert.CtxBwd.Facts) (hCtxBwdIdeal : Cert.CtxBwdIdeal.Facts) (hCtxRefIdeal : Cert.CtxRefIdeal.Facts) (hDhBwd : Cert.DhBwd.Facts) (hDhBwdIdeal : Cert.DhBwdIdeal.Facts) (hDhRefIdeal : Cert.DhRefIdeal.Facts) (hOutProj : Cert.OutProj.Facts) (hOutProjIdeal : Cert.OutProjIdeal.Facts) (hOutRefIdeal : Cert.OutRefIdeal.Facts) (hDwBwd : Cert.DwBwd.Facts) (hDwBwdIdeal : Cert.DwBwdIdeal.Facts) (hDwRefIdeal : Cert.DwRefIdeal.Facts) (hCtxFwd : Cert.CtxFwd.Facts) (hCtxFwdIdeal : Cert.CtxFwdIdeal.Facts) (hCtxFwdRefIdeal : Cert.CtxFwdRefIdeal.Facts) (hReduce : Cert.Reduce.Facts) (hReduceIdeal : Cert.ReduceIdeal.Facts) (hReduceRefIdeal : Cert.ReduceRefIdeal.Facts) (hAdamIn : Cert.AdamIn.Facts) (hAdamInIdeal : Cert.AdamInIdeal.Facts) (hAdamInRefIdeal : Cert.AdamInRefIdeal.Facts) (hAdamAda : Cert.AdamAda.Facts) (hAdamAdaIdeal : Cert.AdamAdaIdeal.Facts) (hAdamAdaRefIdeal : Cert.AdamAdaRefIdeal.Facts) (hAdamOut : Cert.AdamOut.Facts) (hAdamOutIdeal : Cert.AdamOutIdeal.Facts) (hAdamOutRefIdeal : Cert.AdamOutRefIdeal.Facts) (hAdamSmall : Cert.AdamSmall.Facts) (hAdamSmallIdeal : Cert.AdamSmallIdeal.Facts) (hAdamSmallRefIdeal : Cert.AdamSmallRefIdeal.Facts),
    quiescent_CtxBwd (hCtxBwd := hCtxBwd)
    ∧ quiescent_CtxBwdIdeal (hCtxBwdIdeal := hCtxBwdIdeal)
    ∧ quiescent_CtxRefIdeal (hCtxRefIdeal := hCtxRefIdeal)
    ∧ quiescent_DhBwd (hDhBwd := hDhBwd)
    ∧ quiescent_DhBwdIdeal (hDhBwdIdeal := hDhBwdIdeal)
    ∧ quiescent_DhRefIdeal (hDhRefIdeal := hDhRefIdeal)
    ∧ quiescent_OutProj (hOutProj := hOutProj)
    ∧ quiescent_OutProjIdeal (hOutProjIdeal := hOutProjIdeal)
    ∧ quiescent_OutRefIdeal (hOutRefIdeal := hOutRefIdeal)
    ∧ quiescent_DwBwd (hDwBwd := hDwBwd)
    ∧ quiescent_DwBwdIdeal (hDwBwdIdeal := hDwBwdIdeal)
    ∧ quiescent_DwRefIdeal (hDwRefIdeal := hDwRefIdeal)
    ∧ quiescent_CtxFwd (hCtxFwd := hCtxFwd)
    ∧ quiescent_CtxFwdIdeal (hCtxFwdIdeal := hCtxFwdIdeal)
    ∧ quiescent_CtxFwdRefIdeal (hCtxFwdRefIdeal := hCtxFwdRefIdeal)
    ∧ quiescent_Reduce (hReduce := hReduce)
    ∧ quiescent_ReduceIdeal (hReduceIdeal := hReduceIdeal)
    ∧ quiescent_ReduceRefIdeal (hReduceRefIdeal := hReduceRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamAda (hAdamAda := hAdamAda)
    ∧ quiescent_AdamAdaIdeal (hAdamAdaIdeal := hAdamAdaIdeal)
    ∧ quiescent_AdamAdaRefIdeal (hAdamAdaRefIdeal := hAdamAdaRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ preserves_CtxBwd_CtxBwdIdeal
    ∧ algebraic_CtxBwdIdeal_CtxRefIdeal (hCtxBwdIdeal := hCtxBwdIdeal) (hCtxRefIdeal := hCtxRefIdeal)
    ∧ preserves_DhBwd_DhBwdIdeal
    ∧ algebraic_DhBwdIdeal_DhRefIdeal (hDhBwdIdeal := hDhBwdIdeal) (hDhRefIdeal := hDhRefIdeal)
    ∧ preserves_OutProj_OutProjIdeal
    ∧ algebraic_OutProjIdeal_OutRefIdeal (hOutProjIdeal := hOutProjIdeal) (hOutRefIdeal := hOutRefIdeal)
    ∧ preserves_DwBwd_DwBwdIdeal
    ∧ algebraic_DwBwdIdeal_DwRefIdeal (hDwBwdIdeal := hDwBwdIdeal) (hDwRefIdeal := hDwRefIdeal)
    ∧ preserves_CtxFwd_CtxFwdIdeal
    ∧ algebraic_CtxFwdIdeal_CtxFwdRefIdeal (hCtxFwdIdeal := hCtxFwdIdeal) (hCtxFwdRefIdeal := hCtxFwdRefIdeal)
    ∧ preserves_Reduce_ReduceIdeal
    ∧ algebraic_ReduceIdeal_ReduceRefIdeal (hReduceIdeal := hReduceIdeal) (hReduceRefIdeal := hReduceRefIdeal)
    ∧ preserves_AdamIn_AdamInIdeal
    ∧ algebraic_AdamInIdeal_AdamInRefIdeal (hAdamInIdeal := hAdamInIdeal) (hAdamInRefIdeal := hAdamInRefIdeal)
    ∧ preserves_AdamAda_AdamAdaIdeal
    ∧ algebraic_AdamAdaIdeal_AdamAdaRefIdeal (hAdamAdaIdeal := hAdamAdaIdeal) (hAdamAdaRefIdeal := hAdamAdaRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamSmall_AdamSmallIdeal
    ∧ algebraic_AdamSmallIdeal_AdamSmallRefIdeal (hAdamSmallIdeal := hAdamSmallIdeal) (hAdamSmallRefIdeal := hAdamSmallRefIdeal)
-- ==== CtxBwd.lean ====
abbrev S256x512 : Shape := ⟨2, ![256, 512]⟩
abbrev S1024x3584 : Shape := ⟨2, ![1024, 3584]⟩
abbrev S256x1024 : Shape := ⟨2, ![256, 1024]⟩
abbrev S1x1024 : Shape := ⟨2, ![1, 1024]⟩
abbrev S1024x1024 : Shape := ⟨2, ![1024, 1024]⟩
abbrev S1024x512 : Shape := ⟨2, ![1024, 512]⟩
abbrev S256 : Shape := ⟨1, ![256]⟩
abbrev S256x1 : Shape := ⟨2, ![256, 1]⟩
abbrev S1024 : Shape := ⟨1, ![1024]⟩

abbrev nBuf : Space → Nat
  | .hbm => 11
  | .vmem => 10
  | .smem => 0
  | _ => 0

abbrev bufTy : (tb : Table) → Fin (tcTables nBuf tb) → BufTy
  | .hbm, ⟨0, _⟩ => ⟨S256x512, .f32⟩
  | .hbm, ⟨1, _⟩ => ⟨S256x512, .f32⟩
  | .hbm, ⟨2, _⟩ => ⟨S1024x3584, .f32⟩
  | .hbm, ⟨3, _⟩ => ⟨S256x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1024x3584, .bf16⟩
  | .hbm, ⟨8, _⟩ => ⟨S1x1024, .f32⟩
  | .hbm, ⟨9, _⟩ => ⟨S1x1024, .f32⟩
  | .hbm, ⟨10, _⟩ => ⟨S1x1024, .f32⟩
  | .local _ .vmem, ⟨0, _⟩ => ⟨S256x512, .f32⟩
  | .local _ .vmem, ⟨1, _⟩ => ⟨S256x512, .f32⟩
  | .local _ .vmem, ⟨2, _⟩ => ⟨S1024x1024, .bf16⟩
  | .local _ .vmem, ⟨3, _⟩ => ⟨S256x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== CtxRefIdeal.lean ====
abbrev S256x512 : Shape := ⟨2, ![256, 512]⟩
abbrev S1024x3584 : Shape := ⟨2, ![1024, 3584]⟩
abbrev S256x1024 : Shape := ⟨2, ![256, 1024]⟩
abbrev S1x1024 : Shape := ⟨2, ![1, 1024]⟩
abbrev S1024 : Shape := ⟨1, ![1024]⟩
abbrev S_ : Shape := ⟨0, ![]⟩
abbrev S256 : Shape := ⟨1, ![256]⟩
abbrev S256x1 : Shape := ⟨2, ![256, 1]⟩
abbrev S1024x1024 : Shape := ⟨2, ![1024, 1024]⟩

abbrev nBuf : Space → Nat
  | .hbm => 53
  | .vmem => 0
  | .smem => 0
  | _ => 0

abbrev bufTy : (tb : Table) → Fin (tcTables nBuf tb) → BufTy
  | .hbm, ⟨0, _⟩ => ⟨S256x512, .f32⟩
  | .hbm, ⟨1, _⟩ => ⟨S256x512, .f32⟩
  | .hbm, ⟨2, _⟩ => ⟨S1024x3584, .f32⟩
  | .hbm, ⟨3, _⟩ => ⟨S256x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1024, .f32⟩
  | .hbm, ⟨8, _⟩ => ⟨S256x1024, .f32⟩
  | .hbm, ⟨9, _⟩ => ⟨S_, .f32⟩
  | .hbm, ⟨10, _⟩ => ⟨S256, .f32⟩
  | .hbm, ⟨11, _⟩ => ⟨S256x1, .f32⟩
  | .hbm, ⟨12, _⟩ => ⟨S_, .f32⟩
  | .hbm, ⟨13, _⟩ => ⟨S256x1, .f32⟩
  | .hbm, ⟨14, _⟩ => ⟨S256x1, .f32⟩
  | .hbm, ⟨15, _⟩ => ⟨S_, .f32⟩
  | .hbm, ⟨16, _⟩ => ⟨S256x1, .f32⟩
  | .hbm, ⟨17, _⟩ => ⟨S256x1, .f32⟩
  | .hbm, ⟨18, _⟩ => ⟨S256x1, .f32⟩
  | .hbm, ⟨19, _⟩ => ⟨S256x1024, .f32⟩
  | .hbm, ⟨20, _⟩ => ⟨S256x1024, .f32⟩
  | .hbm, ⟨21, _⟩ => ⟨S1x1024, .f32⟩
  | .hbm, ⟨22, _⟩ => ⟨S256x1024, .f32⟩
  | .hbm, ⟨23, _⟩ => ⟨S256x1024, .f32⟩
  | .hbm, ⟨24, _⟩ => ⟨S_, .f32⟩
  | .hbm, ⟨25, _⟩ => ⟨S1x1024, .f32⟩
  | .hbm, ⟨26, _⟩ => ⟨S1x1024, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S256x1024, .f32⟩
  | .hbm, ⟨31, _⟩ => ⟨S1024x1024, .f32⟩
  | .hbm, ⟨32, _⟩ => ⟨S256x1024, .f32⟩
  | .hbm, ⟨33, _⟩ => ⟨S256x512, .f32⟩
  | .hbm, ⟨34, _⟩ => ⟨S256x512, .f32⟩
  | .hbm, ⟨35, _⟩ => ⟨S256x1024, .f32⟩
  | .hbm, ⟨36, _⟩ => ⟨S256x1024, .f32⟩
  | .hbm, ⟨37, _⟩ => ⟨S_, .f32⟩
  | .hbm, ⟨38, _⟩ => ⟨S1024, .f32⟩
  | .hbm, ⟨39, _⟩ => ⟨S1x1024, .f32⟩
  | .hbm, ⟨40, _⟩ => ⟨S256x1024, .f32⟩
  | .hbm, ⟨41, _⟩ => ⟨S_, .f32⟩
  | .hbm, ⟨42, _⟩ => ⟨S1024, .f32⟩
  | .hbm, ⟨43, _⟩ => ⟨S1x1024, .f32⟩
  | .hbm, ⟨44, _⟩ => ⟨S256x1024, .f32⟩
  | .hbm, ⟨45, _⟩ => ⟨S256x1024, .f32⟩
  | .hbm, ⟨46, _⟩ => ⟨S256x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S_, .f32⟩
  | .hbm, ⟨51, _⟩ => ⟨S1024, .f32⟩
  | .hbm, ⟨52, _⟩ => ⟨S1x1024, .f32⟩
  | _, _ => ⟨S256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_5 : Ref sig .tc := ⟨.hbm, 47, rfl⟩
abbrev main_v34 : Ref sig .tc := ⟨.hbm, 48, rfl⟩
abbrev main_v35 : Ref sig .tc := ⟨.hbm, 49, rfl⟩
abbrev main_cst_6 : Ref sig .tc := ⟨.hbm, 50, rfl⟩
abbrev main_v36 : Ref sig .tc := ⟨.hbm, 51, rfl⟩
abbrev main_v37 : Ref sig .tc := ⟨.hbm, 52, rfl⟩

abbrev nD : Nat := 1
abbrev τ : Topo := Topo.v7x

variable {F : FTy → Type} [FloatOps F]
-- ==== DhBwd.lean ====
abbrev S4096x1536 : Shape := ⟨2, ![4096, 1536]⟩
abbrev S4096x512 : Shape := ⟨2, ![4096, 512]⟩
abbrev S1024x3584 : Shape := ⟨2, ![1024, 3584]⟩
abbrev S4096x1024 : Shape := ⟨2, ![4096, 1024]⟩
abbrev S1x1024 : Shape := ⟨2, ![1, 1024]⟩
abbrev S512x1536 : Shape := ⟨2, ![512, 1536]⟩
abbrev S512x512 : Shape := ⟨2, ![512, 512]⟩
abbrev S512x1024 : Shape := ⟨2, ![512, 1024]⟩
abbrev S256x1536 : Shape := ⟨2, ![256, 1536]⟩
abbrev S1024x1536 : Shape := ⟨2, ![1024, 1536]⟩
abbrev S256x1024 : Shape := ⟨2, ![256, 1024]⟩
abbrev S256x512 : Shape := ⟨2, ![256, 512]⟩
abbrev S1024x512 : Shape := ⟨2, ![1024, 512]⟩
abbrev S256 : Shape := ⟨1, ![256]⟩
abbrev S256x1 : Shape := ⟨2, ![256, 1]⟩
abbrev S1024 : Shape := ⟨1, ![1024]⟩

abbrev nBuf : Space → Nat
  | .hbm => 17
  | .vmem => 24
  | .smem => 0
  | _ => 0

abbrev bufTy : (tb : Table) → Fin (tcTables nBuf tb) → BufTy
  | .hbm, ⟨0, _⟩ => ⟨S4096x1536, .bf16⟩
  | .hbm, ⟨1, _⟩ => ⟨S4096x512, .bf16⟩
  | .hbm, ⟨2, _⟩ => ⟨S4096x512, .bf16⟩
  | .hbm, ⟨3, _⟩ => ⟨S4096x512, .bf16⟩
  | .hbm, ⟨4, _⟩ => ⟨S4096x512, .bf16⟩
  | .hbm, ⟨5, _⟩ => ⟨S1024x3584, .f32⟩
  | .hbm, ⟨6, _⟩ => ⟨S4096x1024, .f32⟩
  | .hbm, ⟨7, _⟩ => ⟨S4096x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1024x3584, .bf16⟩
  | .hbm, ⟨13, _⟩ => ⟨S4096x1024, .f32⟩
  | .hbm, ⟨14, _⟩ => ⟨S1x1024, .f32⟩
  | .hbm, ⟨15, _⟩ => ⟨S1x1024, .f32⟩
  | .hbm, ⟨16, _⟩ => ⟨S1x1024, .f32⟩
  | .local _ .vmem, ⟨0, _⟩ => ⟨S512x1536, .bf16⟩
  | .local _ .vmem, ⟨1, _⟩ => ⟨S512x1536, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S1024x3584, .bf16⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S512x1024, .f32⟩
  | .local _ .vmem, ⟨20, _⟩ => ⟨S512x1024, .f32⟩
  | .local _ .vmem, ⟨21, _⟩ => ⟨S1x1024, .f32⟩
  | .local _ .vmem, ⟨22, _⟩ => ⟨S1x1024, .f32⟩
  | .local _ .vmem, ⟨23, _⟩ => ⟨S1x1024, .f32⟩
  | _, _ => ⟨S4096x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1_0 : Ref sig .tc := ⟨.hbm, 13, rfl⟩
abbrev main_v1_1 : Ref sig .tc := ⟨.hbm, 14, rfl⟩
abbrev main_v1_2 : Ref sig .tc := ⟨.hbm, 15, rfl⟩
abbrev main_v1_3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem12_1 : DmaSem sig := 20
abbrev cc0_sem13_0 : DmaSem sig := 21
abbrev cc0_sem14_0 : DmaSem sig := 22
abbrev cc0_sem15_0 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x3584 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== DhRefIdeal.lean ====
abbrev S4096x1536 : Shape := ⟨2, ![4096, 1536]⟩
abbrev S4096x512 : Shape := ⟨2, ![4096, 512]⟩
abbrev S1024x3584 : Shape := ⟨2, ![1024, 3584]⟩
abbrev S4096x1024 : Shape := ⟨2, ![4096, 1024]⟩
abbrev S1x1024 : Shape := ⟨2, ![1, 1024]⟩
abbrev S4096x3584 : Shape := ⟨2, ![4096, 3584]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 85
  | .vmem => 0
  | .smem => 0
  | _ => 0

abbrev bufTy : (tb : Table) → Fin (tcTables nBuf tb) → BufTy
  | .hbm, ⟨0, _⟩ => ⟨S4096x1536, .bf16⟩
  | .hbm, ⟨1, _⟩ => ⟨S4096x512, .bf16⟩
  | .hbm, ⟨2, _⟩ => ⟨S4096x512, .bf16⟩
  | .hbm, ⟨3, _⟩ => ⟨S4096x512, .bf16⟩
  | .hbm, ⟨4, _⟩ => ⟨S4096x512, .bf16⟩
  | .hbm, ⟨5, _⟩ => ⟨S1024x3584, .f32⟩
  | .hbm, ⟨6, _⟩ => ⟨S4096x1024, .f32⟩
  | .hbm, ⟨7, _⟩ => ⟨S4096x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S4096x1536, .f32⟩
  | .hbm, ⟨13, _⟩ => ⟨S4096x512, .f32⟩
  | .hbm, ⟨14, _⟩ => ⟨S4096x512, .f32⟩
  | .hbm, ⟨15, _⟩ => ⟨S4096x512, .f32⟩
  | .hbm, ⟨16, _⟩ => ⟨S4096x512, .f32⟩
  | .hbm, ⟨17, _⟩ => ⟨S4096x3584, .f32⟩
  | .hbm, ⟨18, _⟩ => ⟨S1024, .f32⟩
  | .hbm, ⟨19, _⟩ => ⟨S4096x1024, .f32⟩
  | .hbm, ⟨20, _⟩ => ⟨S_, .f32⟩
  | .hbm, ⟨21, _⟩ => ⟨S4096, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S4096x1, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S4096x1024, .f32⟩
  | .hbm, ⟨35, _⟩ => ⟨S4096x1024, .f32⟩
  | .hbm, ⟨36, _⟩ => ⟨S1x1024, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S1x1024, .f32⟩
  | .hbm, ⟨41, _⟩ => ⟨S1x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x3584, .f32⟩
  | .hbm, ⟨47, _⟩ => ⟨S4096x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S_, .f32⟩
  | .hbm, ⟨59, _⟩ => ⟨S1024, .f32⟩
  | .hbm, ⟨60, _⟩ => ⟨S1x1024, .f32⟩
  | .hbm, ⟨61, _⟩ => ⟨S4096x1024, .f32⟩
  | .hbm, ⟨62, _⟩ => ⟨S4096x1024, .f32⟩
  | .hbm, ⟨63, _⟩ => ⟨S_, .f32⟩
  | .hbm, ⟨64, _⟩ => ⟨S1024, .f32⟩
  | .hbm, ⟨65, _⟩ => ⟨S4096x1024, .f32⟩
  | .hbm, ⟨66, _⟩ => ⟨S_, .f32⟩
  | .hbm, ⟨67, _⟩ => ⟨S4096, .f32⟩
  | .hbm, ⟨68, _⟩ => ⟨S4096x1, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1, .f32⟩
  | .hbm, ⟨73, _⟩ => ⟨S_, .f32⟩
  | .hbm, ⟨74, _⟩ => ⟨S4096x1, .f32⟩
  | .hbm, ⟨75, _⟩ => ⟨S4096x1, .f32⟩
  | .hbm, ⟨76, _⟩ => ⟨S_, .f32⟩
  | .hbm, ⟨77, _⟩ => ⟨S4096, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S4096x1024, .f32⟩
  | .hbm, ⟨83, _⟩ => ⟨S1x1024, .f32⟩
  | .hbm, ⟨84, _⟩ => ⟨S1x1024, .f32⟩
  | _, _ => ⟨S4096x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_v9 : Ref sig .tc := ⟨.hbm, 22, rfl⟩
abbrev main_cst_0 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_3 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_4 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_5 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_6 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_7 : Ref sig .tc := ⟨.hbm, 63, rfl⟩
abbrev main_v43 : Ref sig .tc := ⟨.hbm, 64, rfl⟩
abbrev main_v44 : Ref sig .tc := ⟨.hbm, 65, rfl⟩
abbrev main_cst_8 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_9 : Ref sig .tc := ⟨.hbm, 73, rfl⟩
abbrev main_v51 : Ref sig .tc := ⟨.hbm, 74, rfl⟩
abbrev main_v52 : Ref sig .tc := ⟨.hbm, 75, rfl⟩
abbrev main_cst_10 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩

abbrev nD : Nat := 1
abbrev τ : Topo := Topo.v7x

variable {F : FTy → Type} [FloatOps F]
-- ==== OutProj.lean ====
abbrev S4096x3584 : Shape := ⟨2, ![4096, 3584]⟩
abbrev S1x512 : Shape := ⟨2, ![1, 512]⟩
abbrev S4x128x128 : Shape := ⟨3, ![4, 128, 128]⟩
abbrev S4x128 : Shape := ⟨2, ![4, 128]⟩
abbrev S4096x512 : Shape := ⟨2, ![4096, 512]⟩
abbrev S4096x1024 : Shape := ⟨2, ![4096, 1024]⟩
abbrev S1x1024 : Shape := ⟨2, ![1, 1024]⟩
abbrev S1024x1024 : Shape := ⟨2, ![1024, 1024]⟩
abbrev S4x128x1 : Shape := ⟨3, ![4, 128, 1]⟩
abbrev S8x128 : Shape := ⟨2, ![8, 128]⟩
abbrev S512x512 : Shape := ⟨2, ![512, 512]⟩
abbrev S512x1024 : Shape := ⟨2, ![512, 1024]⟩
abbrev S2x512x512 : Shape := ⟨3, ![2, 512, 512]⟩
abbrev S128x512 : Shape := ⟨2, ![128, 512]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S128x1 : Shape := ⟨2, ![128, 1]⟩
abbrev S1x128x512 : Shape := ⟨3, ![1, 128, 512]⟩
abbrev S1x512x512 : Shape := ⟨3, ![1, 512, 512]⟩
abbrev S512 : Shape := ⟨1, ![512]⟩
abbrev S1 : Shape := ⟨1, ![1]⟩
abbrev S1x1 : Shape := ⟨2, ![1, 1]⟩
abbrev S1024 : Shape := ⟨1, ![1024]⟩

abbrev nBuf : Space → Nat
  | .hbm => 17
  | .vmem => 28
  | .smem => 0
  | _ => 0

abbrev bufTy : (tb : Table) → Fin (tcTables nBuf tb) → BufTy
  | .hbm, ⟨0, _⟩ => ⟨S4096x3584, .f32⟩
  | .hbm, ⟨1, _⟩ => ⟨S1x512, .f32⟩
  | .hbm, ⟨2, _⟩ => ⟨S4x128x128, .f32⟩
  | .hbm, ⟨3, _⟩ => ⟨S4x128, .f32⟩
  | .hbm, ⟨4, _⟩ => ⟨S4096x512, .f32⟩
  | .hbm, ⟨5, _⟩ => ⟨S4096x1024, .f32⟩
  | .hbm, ⟨6, _⟩ => ⟨S4096x1024, .f32⟩
  | .hbm, ⟨7, _⟩ => ⟨S1x1024, .f32⟩
  | .hbm, ⟨8, _⟩ => ⟨S1024x1024, .f32⟩
  | .hbm, ⟨9, _⟩ => ⟨S4x128x1, .f32⟩
  | .hbm, ⟨10, _⟩ => ⟨S4x128x128, .f32⟩
  | .hbm, ⟨11, _⟩ => ⟨S1024x1024, .bf16⟩
  | .hbm, ⟨12, _⟩ => ⟨S8x128, .f32⟩
  | .hbm, ⟨13, _⟩ => ⟨S4096x1024, .f32⟩
  | .hbm, ⟨14, _⟩ => ⟨S4096x1024, .f32⟩
  | .hbm, ⟨15, _⟩ => ⟨S1x1024, .f32⟩
  | .hbm, ⟨16, _⟩ => ⟨S1024x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S1x512, .f32⟩
  | .local _ .vmem, ⟨10, _⟩ => ⟨S4x128x128, .f32⟩
  | .local _ .vmem, ⟨11, _⟩ => ⟨S4x128x128, .f32⟩
  | .local _ .vmem, ⟨12, _⟩ => ⟨S512x512, .f32⟩
  | .local _ .vmem, ⟨13, _⟩ => ⟨S512x512, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S1x1024, .f32⟩
  | .local _ .vmem, ⟨19, _⟩ => ⟨S1024x1024, .bf16⟩
  | .local _ .vmem, ⟨20, _⟩ => ⟨S8x128, .f32⟩
  | .local _ .vmem, ⟨21, _⟩ => ⟨S512x1024, .f32⟩
  | .local _ .vmem, ⟨22, _⟩ => ⟨S512x1024, .f32⟩
  | .local _ .vmem, ⟨23, _⟩ => ⟨S512x1024, .f32⟩
  | .local _ .vmem, ⟨24, _⟩ => ⟨S512x1024, .f32⟩
  | .local _ .vmem, ⟨25, _⟩ => ⟨S1x1024, .f32⟩
  | .local _ .vmem, ⟨26, _⟩ => ⟨S1024x1024, .f32⟩
  | .local _ .vmem, ⟨27, _⟩ => ⟨S2x512x512, .bf16⟩
  | _, _ => ⟨S4096x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3_0 : Ref sig .tc := ⟨.hbm, 12, rfl⟩
abbrev main_v3_1 : Ref sig .tc := ⟨.hbm, 13, rfl⟩
abbrev main_v3_2 : Ref sig .tc := ⟨.hbm, 14, rfl⟩
abbrev main_v3_3 : Ref sig .tc := ⟨.hbm, 15, rfl⟩
abbrev main_v3_4 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg18_0 : Ref sig .tc := ⟨.vmem, 26, rfl⟩
abbrev cc0_scratch0 : Ref sig .tc := ⟨.vmem, 27, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem18_0 : DmaSem sig := 26

abbrev nD : Nat := 1
abbrev τ : Topo := Topo.v7x

variable {F : FTy → Type} [FloatOps F]

abbrev grid0 : Pipeline.Grid := ⟨1, ![8], ![false]⟩

def k0_off1 (i : grid0.Coords) : Fin 3 → Nat :=
  let arg0 : BitVec 32 := BitVec.ofNat 32 (i 0).val
  let c2_i32 : BitVec 32 := 2#32
  let v0 : BitVec 32 := Scalar.remsi arg0 c2_i32
  let v6 : Index := Scalar.indexCast v0
  let c0 : Index := 0#32
  let c0_2 : Index := 0#32
  ![v6.toNat, 0, 0]
def k0_off2 (i : grid0.Coords) : Fin 3 → Nat :=
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let v190 : Index := Scalar.indexCast v2
  let c0_69 : Index := 0#32
  let c0_70 : Index := 0#32
  ![v190.toNat, 0, 0]
def k0_off3 (i : grid0.Coords) : Fin 3 → Nat :=
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let v335 : Index := Scalar.indexCast v2
  let c128_111 : Index := 128#32
  let c0_112 : Index := 0#32
  ![v335.toNat, 128, 0]
def k0_off4 (i : grid0.Coords) : Fin 3 → Nat :=
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let v480 : Index := Scalar.indexCast v2
  let c256_153 : Index := 256#32
  let c0_154 : Index := 0#32
  ![v480.toNat, 256, 0]
def k0_off5 (i : grid0.Coords) : Fin 3 → Nat :=
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let v626 : Index := Scalar.indexCast v2
  let c384_195 : Index := 384#32
  let c0_196 : Index := 0#32
  ![v626.toNat, 384, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_2 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c7_i32 : BitVec 32 := 7#32
  let v1 : BitVec 32 := Scalar.minsi v0 c7_i32
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c7_i32 : BitVec 32 := 7#32
  let v1 : BitVec 32 := Scalar.minsi v0 c7_i32
  let c1_i32_0 : BitVec 32 := 1#32
  let c0_i32 : BitVec 32 := 0#32
  ![v1.toNat, c1_i32_0.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c7_i32 : BitVec 32 := 7#32
  let v1 : BitVec 32 := Scalar.minsi v0 c7_i32
  let c2_i32 : BitVec 32 := 2#32
  let c0_i32 : BitVec 32 := 0#32
  ![v1.toNat, c2_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S8x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1024x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== OutRefIdeal.lean ====
abbrev S4096x3584 : Shape := ⟨2, ![4096, 3584]⟩
abbrev S1x512 : Shape := ⟨2, ![1, 512]⟩
abbrev S4x128x128 : Shape := ⟨3, ![4, 128, 128]⟩
abbrev S4x128 : Shape := ⟨2, ![4, 128]⟩
abbrev S4096x512 : Shape := ⟨2, ![4096, 512]⟩
abbrev S4096x1024 : Shape := ⟨2, ![4096, 1024]⟩
abbrev S1x1024 : Shape := ⟨2, ![1, 1024]⟩
abbrev S1024x1024 : Shape := ⟨2, ![1024, 1024]⟩
abbrev S1x4096x512 : Shape := ⟨3, ![1, 4096, 512]⟩
abbrev S512 : Shape := ⟨1, ![512]⟩
abbrev S_ : Shape := ⟨0, ![]⟩
abbrev S1x32x128x4x128 : Shape := ⟨5, ![1, 32, 128, 4, 128]⟩
abbrev S1x32x128x4 : Shape := ⟨4, ![1, 32, 128, 4]⟩
abbrev S1x32x128x4x1 : Shape := ⟨5, ![1, 32, 128, 4, 1]⟩
abbrev S1x1x1x4x128 : Shape := ⟨5, ![1, 1, 1, 4, 128]⟩
abbrev S4x1x32x128x128 : Shape := ⟨5, ![4, 1, 32, 128, 128]⟩
abbrev S128x4 : Shape := ⟨2, ![128, 4]⟩
abbrev S128x4x1 : Shape := ⟨3, ![128, 4, 1]⟩
abbrev S1x1x128x4x1 : Shape := ⟨5, ![1, 1, 128, 4, 1]⟩
abbrev S4096 : Shape := ⟨1, ![4096]⟩
abbrev S1024 : Shape := ⟨1, ![1024]⟩
abbrev S8x128 : Shape := ⟨2, ![8, 128]⟩

abbrev nBuf : Space → Nat
  | .hbm => 110
  | .vmem => 0
  | .smem => 0
  | _ => 0

abbrev bufTy : (tb : Table) → Fin (tcTables nBuf tb) → BufTy
  | .hbm, ⟨0, _⟩ => ⟨S4096x3584, .f32⟩
  | .hbm, ⟨1, _⟩ => ⟨S1x512, .f32⟩
  | .hbm, ⟨2, _⟩ => ⟨S4x128x128, .f32⟩
  | .hbm, ⟨3, _⟩ => ⟨S4x128, .f32⟩
  | .hbm, ⟨4, _⟩ => ⟨S4096x512, .f32⟩
  | .hbm, ⟨5, _⟩ => ⟨S4096x1024, .f32⟩
  | .hbm, ⟨6, _⟩ => ⟨S4096x1024, .f32⟩
  | .hbm, ⟨7, _⟩ => ⟨S1x1024, .f32⟩
  | .hbm, ⟨8, _⟩ => ⟨S1024x1024, .f32⟩
  | .hbm, ⟨9, _⟩ => ⟨S4096x512, .f32⟩
  | .hbm, ⟨10, _⟩ => ⟨S1x4096x512, .f32⟩
  | .hbm, ⟨11, _⟩ => ⟨S4096x512, .f32⟩
  | .hbm, ⟨12, _⟩ => ⟨S1x4096x512, .f32⟩
  | .hbm, ⟨13, _⟩ => ⟨S4096x512, .f32⟩
  | .hbm, ⟨14, _⟩ => ⟨S1x4096x512, .f32⟩
  | .hbm, ⟨15, _⟩ => ⟨S512, .f32⟩
  | .hbm, ⟨16, _⟩ => ⟨S_, .f32⟩
  | .hbm, ⟨17, _⟩ => ⟨S1x4096x512, .f32⟩
  | .hbm, ⟨18, _⟩ => ⟨S1x4096x512, .f32⟩
  | .hbm, ⟨19, _⟩ => ⟨S1x4096x512, .f32⟩
  | .hbm, ⟨20, _⟩ => ⟨S_, .f32⟩
  | .hbm, ⟨21, _⟩ => ⟨S1x4096x512, .f32⟩
  | .hbm, ⟨22, _⟩ => ⟨S1x4096x512, .f32⟩
  | .hbm, ⟨23, _⟩ => ⟨S1x4096x512, .f32⟩
  | .hbm, ⟨24, _⟩ => ⟨S1x4096x512, .f32⟩
  | .hbm, ⟨25, _⟩ => ⟨S_, .f32⟩
  | .hbm, ⟨26, _⟩ => ⟨S1x4096x512, .f32⟩
  | .hbm, ⟨27, _⟩ => ⟨S1x4096x512, .f32⟩
  | .hbm, ⟨28, _⟩ => ⟨S1x4096x512, .f32⟩
  | .hbm, ⟨29, _⟩ => ⟨S_, .f32⟩
  | .hbm, ⟨30, _⟩ => ⟨S1x4096x512, .f32⟩
  | .hbm, ⟨31, _⟩ => ⟨S1x4096x512, .f32⟩
  | .hbm, ⟨32, _⟩ => ⟨S1x4096x512, .f32⟩
  | .hbm, ⟨33, _⟩ => ⟨S1x4096x512, .f32⟩
  | .hbm, ⟨34, _⟩ => ⟨S1x32x128x4x128, .f32⟩
  | .hbm, ⟨35, _⟩ => ⟨S4x128, .f32⟩
  | .hbm, ⟨36, _⟩ => ⟨S1x32x128x4x128, .f32⟩
  | .hbm, ⟨37, _⟩ => ⟨S_, .f32⟩
  | .hbm, ⟨38, _⟩ => ⟨S1x32x128x4, .f32⟩
  | .hbm, ⟨39, _⟩ => ⟨S1x32x128x4x1, .f32⟩
  | .hbm, ⟨40, _⟩ => ⟨S_, .f32⟩
  | .hbm, ⟨41, _⟩ => ⟨S1x32x128x4x1, .f32⟩
  | .hbm, ⟨42, _⟩ => ⟨S1x32x128x4x1, .f32⟩
  | .hbm, ⟨43, _⟩ => ⟨S_, .f32⟩
  | .hbm, ⟨44, _⟩ => ⟨S1x32x128x4x1, .f32⟩
  | .hbm, ⟨45, _⟩ => ⟨S1x32x128x4x1, .f32⟩
  | .hbm, ⟨46, _⟩ => ⟨S1x32x128x4x1, .f32⟩
  | .hbm, ⟨47, _⟩ => ⟨S1x32x128x4x128, .f32⟩
  | .hbm, ⟨48, _⟩ => ⟨S1x32x128x4x128, .f32⟩
  | .hbm, ⟨49, _⟩ => ⟨S1x1x1x4x128, .f32⟩
  | .hbm, ⟨50, _⟩ => ⟨S1x32x128x4x128, .f32⟩
  | .hbm, ⟨51, _⟩ => ⟨S1x32x128x4x128, .f32⟩
  | .hbm, ⟨52, _⟩ => ⟨S4x1x32x128x128, .f32⟩
  | .hbm, ⟨53, _⟩ => ⟨S1x32x128x4x128, .f32⟩
  | .hbm, ⟨54, _⟩ => ⟨S128x4, .f32⟩
  | .hbm, ⟨55, _⟩ => ⟨S128x4x1, .f32⟩
  | .hbm, ⟨56, _⟩ => ⟨S1x1x128x4x1, .f32⟩
  | .hbm, ⟨57, _⟩ => ⟨S1x32x128x4x128, .f32⟩
  | .hbm, ⟨58, _⟩ => ⟨S1x32x128x4x128, .f32⟩
  | .hbm, ⟨59, _⟩ => ⟨S1x4096x512, .f32⟩
  | .hbm, ⟨60, _⟩ => ⟨S1x4096x512, .f32⟩
  | .hbm, ⟨61, _⟩ => ⟨S1x4096x512, .f32⟩
  | .hbm, ⟨62, _⟩ => ⟨S1x4096x512, .f32⟩
  | .hbm, ⟨63, _⟩ => ⟨S_, .f32⟩
  | .hbm, ⟨64, _⟩ => ⟨S1x4096x512, .f32⟩
  | .hbm, ⟨65, _⟩ => ⟨S1x4096x512, .f32⟩
  | .hbm, ⟨66, _⟩ => ⟨S_, .f32⟩
  | .hbm, ⟨67, _⟩ => ⟨S1x4096x512, .f32⟩
  | .hbm, ⟨68, _⟩ => ⟨S1x4096x512, .f32⟩
  | .hbm, ⟨69, _⟩ => ⟨S1x4096x512, .f32⟩
  | .hbm, ⟨70, _⟩ => ⟨S1x4096x512, .f32⟩
  | .hbm, ⟨71, _⟩ => ⟨S4096x512, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S_, .f32⟩
  | .hbm, ⟨80, _⟩ => ⟨S4096x1024, .f32⟩
  | .hbm, ⟨81, _⟩ => ⟨S4096x1024, .f32⟩
  | .hbm, ⟨82, _⟩ => ⟨S_, .f32⟩
  | .hbm, ⟨83, _⟩ => ⟨S4096, .f32⟩
  | .hbm, ⟨84, _⟩ => ⟨S_, .f32⟩
  | .hbm, ⟨85, _⟩ => ⟨S4096, .f32⟩
  | .hbm, ⟨86, _⟩ => ⟨S4096, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S4096, .f32⟩
  | .hbm, ⟨95, _⟩ => ⟨S_, .f32⟩
  | .hbm, ⟨96, _⟩ => ⟨S4096, .f32⟩
  | .hbm, ⟨97, _⟩ => ⟨S4096, .f32⟩
  | .hbm, ⟨98, _⟩ => ⟨S4096x1024, .f32⟩
  | .hbm, ⟨99, _⟩ => ⟨S4096x1024, .f32⟩
  | .hbm, ⟨100, _⟩ => ⟨S4096x1024, .f32⟩
  | .hbm, ⟨101, _⟩ => ⟨S4096x1024, .f32⟩
  | .hbm, ⟨102, _⟩ => ⟨S4096x1024, .f32⟩
  | .hbm, ⟨103, _⟩ => ⟨S_, .f32⟩
  | .hbm, ⟨104, _⟩ => ⟨S1024, .f32⟩
  | .hbm, ⟨105, _⟩ => ⟨S1x1024, .f32⟩
  | .hbm, ⟨106, _⟩ => ⟨S1024x1024, .f32⟩
  | .hbm, ⟨107, _⟩ => ⟨S1024x1024, .f32⟩
  | .hbm, ⟨108, _⟩ => ⟨S4096x1024, .f32⟩
  | .hbm, ⟨109, _⟩ => ⟨S8x128, .f32⟩
  | _, _ => ⟨S4096x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_cst_5 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_call0_v0 : Ref sig .tc := ⟨.hbm, 61, rfl⟩
abbrev main_call0_v1 : Ref sig .tc := ⟨.hbm, 62, rfl⟩
abbrev main_call0_cst : Ref sig .tc := ⟨.hbm, 63, rfl⟩
abbrev main_call0_v2 : Ref sig .tc := ⟨.hbm, 64, rfl⟩
abbrev main_call0_v3 : Ref sig .tc := ⟨.hbm, 65, rfl⟩
abbrev main_call0_cst_0 : Ref sig .tc := ⟨.hbm, 66, rfl⟩
abbrev main_call0_v4 : Ref sig .tc := ⟨.hbm, 67, rfl⟩
abbrev main_call0_v5 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_6 : Ref sig .tc := ⟨.hbm, 79, rfl⟩
abbrev main_v55 : Ref sig .tc := ⟨.hbm, 80, rfl⟩
abbrev main_v56 : Ref sig .tc := ⟨.hbm, 81, rfl⟩
abbrev main_cst_7 : Ref sig .tc := ⟨.hbm, 82, rfl⟩
abbrev main_v57 : Ref sig .tc := ⟨.hbm, 83, rfl⟩
abbrev main_cst_8 : Ref sig .tc := ⟨.hbm, 84, rfl⟩
abbrev main_v58 : Ref sig .tc := ⟨.hbm, 85, rfl⟩
abbrev main_v59 : Ref sig .tc := ⟨.hbm, 86, rfl⟩
abbrev main_cst_9 : Ref sig .tc := ⟨.hbm, 87, rfl⟩
abbrev main_v60 : Ref sig .tc := ⟨.hbm, 88, rfl⟩
abbrev main_cst_10 : Ref sig .tc := ⟨.hbm, 89, rfl⟩
abbrev main_v61 : Ref sig .tc := ⟨.hbm, 90, rfl⟩
abbrev main_cst_11 : Ref sig .tc := ⟨.hbm, 91, rfl⟩
abbrev main_cst_12 : Ref sig .tc := ⟨.hbm, 92, rfl⟩
abbrev main_v62 : Ref sig .tc := ⟨.hbm, 93, rfl⟩
abbrev main_v63 : Ref sig .tc := ⟨.hbm, 94, rfl⟩
abbrev main_cst_13 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_cst_14 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩

abbrev nD : Nat := 1
abbrev τ : Topo := Topo.v7x

variable {F : FTy → Type} [FloatOps F]
-- ==== DwBwd.lean ====
abbrev S4096x1024 : Shape := ⟨2, ![4096, 1024]⟩
abbrev S1x1024 : Shape := ⟨2, ![1, 1024]⟩
abbrev S256x1024 : Shape := ⟨2, ![256, 1024]⟩
abbrev S4096x3584 : Shape := ⟨2, ![4096, 3584]⟩
abbrev S1x512 : Shape := ⟨2, ![1, 512]⟩
abbrev S4x128x128 : Shape := ⟨3, ![4, 128, 128]⟩
abbrev S4x128 : Shape := ⟨2, ![4, 128]⟩
abbrev S4096x512 : Shape := ⟨2, ![4096, 512]⟩
abbrev S256x512 : Shape := ⟨2, ![256, 512]⟩
abbrev S_ : Shape := ⟨0, ![]⟩
abbrev S4096 : Shape := ⟨1, ![4096]⟩
abbrev S4096x1 : Shape := ⟨2, ![4096, 1]⟩
abbrev S256 : Shape := ⟨1, ![256]⟩
abbrev S256x1 : Shape := ⟨2, ![256, 1]⟩
abbrev S4x128x1 : Shape := ⟨3, ![4, 128, 1]⟩
abbrev S1024x3584 : Shape := ⟨2, ![1024, 3584]⟩
abbrev S4096x1536 : Shape := ⟨2, ![4096, 1536]⟩
abbrev S512x1024 : Shape := ⟨2, ![512, 1024]⟩
abbrev S512x512 : Shape := ⟨2, ![512, 512]⟩
abbrev S512x1536 : Shape := ⟨2, ![512, 1536]⟩
abbrev S1024x256 : Shape := ⟨2, ![1024, 256]⟩
abbrev S1024x512 : Shape := ⟨2, ![1024, 512]⟩
abbrev S128x128 : Shape := ⟨2, ![128, 128]⟩
abbrev S1x128 : Shape := ⟨2, ![1, 128]⟩
abbrev S1x128x128 : Shape := ⟨3, ![1, 128, 128]⟩
abbrev S128 : Shape := ⟨1, ![128]⟩
abbrev S128x1 : Shape := ⟨2, ![128, 1]⟩
abbrev S1024x1536 : Shape := ⟨2, ![1024, 1536]⟩

abbrev nBuf : Space → Nat
  | .hbm => 71
  | .vmem => 30
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S256x1024, .f32⟩
  | .hbm, ⟨5, _⟩ => ⟨S1x1024, .f32⟩
  | .hbm, ⟨6, _⟩ => ⟨S1x1024, .f32⟩
  | .hbm, ⟨7, _⟩ => ⟨S4096x3584, .f32⟩
  | .hbm, ⟨8, _⟩ => ⟨S1x512, .f32⟩
  | .hbm, ⟨9, _⟩ => ⟨S4x128x128, .f32⟩
  | .hbm, ⟨10, _⟩ => ⟨S4x128, .f32⟩
  | .hbm, ⟨11, _⟩ => ⟨S4096x1024, .f32⟩
  | .hbm, ⟨12, _⟩ => ⟨S4096x512, .bf16⟩
  | .hbm, ⟨13, _⟩ => ⟨S4096x512, .bf16⟩
  | .hbm, ⟨14, _⟩ => ⟨S4096x512, .bf16⟩
  | .hbm, ⟨15, _⟩ => ⟨S4096x512, .bf16⟩
  | .hbm, ⟨16, _⟩ => ⟨S256x512, .f32⟩
  | .hbm, ⟨17, _⟩ => ⟨S256x512, .f32⟩
  | .hbm, ⟨18, _⟩ => ⟨S4096x1024, .f32⟩
  | .hbm, ⟨19, _⟩ => ⟨S_, .f32⟩
  | .hbm, ⟨20, _⟩ => ⟨S4096, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1x1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .bf16⟩
  | .hbm, ⟨41, _⟩ => ⟨S256x1024, .f32⟩
  | .hbm, ⟨42, _⟩ => ⟨S_, .f32⟩
  | .hbm, ⟨43, _⟩ => ⟨S256, .f32⟩
  | .hbm, ⟨44, _⟩ => ⟨S256x1, .f32⟩
  | .hbm, ⟨45, _⟩ => ⟨S_, .f32⟩
  | .hbm, ⟨46, _⟩ => ⟨S256x1, .f32⟩
  | .hbm, ⟨47, _⟩ => ⟨S256x1, .f32⟩
  | .hbm, ⟨48, _⟩ => ⟨S_, .f32⟩
  | .hbm, ⟨49, _⟩ => ⟨S256x1, .f32⟩
  | .hbm, ⟨50, _⟩ => ⟨S256x1, .f32⟩
  | .hbm, ⟨51, _⟩ => ⟨S256x1, .f32⟩
  | .hbm, ⟨52, _⟩ => ⟨S256x1024, .f32⟩
  | .hbm, ⟨53, _⟩ => ⟨S256x1024, .f32⟩
  | .hbm, ⟨54, _⟩ => ⟨S256x1024, .f32⟩
  | .hbm, ⟨55, _⟩ => ⟨S256x1024, .f32⟩
  | .hbm, ⟨56, _⟩ => ⟨S_, .f32⟩
  | .hbm, ⟨57, _⟩ => ⟨S1x1024, .f32⟩
  | .hbm, ⟨58, _⟩ => ⟨S1x1024, .f32⟩
  | .hbm, ⟨59, _⟩ => ⟨S256x1024, .f32⟩
  | .hbm, ⟨60, _⟩ => ⟨S256x1024, .f32⟩
  | .hbm, ⟨61, _⟩ => ⟨S256x1024, .f32⟩
  | .hbm, ⟨62, _⟩ => ⟨S256x1024, .f32⟩
  | .hbm, ⟨63, _⟩ => ⟨S256x1024, .bf16⟩
  | .hbm, ⟨64, _⟩ => ⟨S4x128x1, .f32⟩
  | .hbm, ⟨65, _⟩ => ⟨S4x128x128, .f32⟩
  | .hbm, ⟨66, _⟩ => ⟨S1024x3584, .f32⟩
  | .hbm, ⟨67, _⟩ => ⟨S4096x1536, .bf16⟩
  | .hbm, ⟨68, _⟩ => ⟨S1x512, .f32⟩
  | .hbm, ⟨69, _⟩ => ⟨S4x128x128, .f32⟩
  | .hbm, ⟨70, _⟩ => ⟨S4x128x128, .f32⟩
  | .local _ .vmem, ⟨0, _⟩ => ⟨S512x1024, .bf16⟩
  | .local _ .vmem, ⟨1, _⟩ => ⟨S512x1024, .bf16⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S1x512, .f32⟩
  | .local _ .vmem, ⟨9, _⟩ => ⟨S4x128x128, .f32⟩
  | .local _ .vmem, ⟨10, _⟩ => ⟨S4x128x128, .f32⟩
  | .local _ .vmem, ⟨11, _⟩ => ⟨S512x512, .f32⟩
  | .local _ .vmem, ⟨12, _⟩ => ⟨S512x512, .f32⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S256x1024, .bf16⟩
  | .local _ .vmem, ⟨22, _⟩ => ⟨S256x512, .f32⟩
  | .local _ .vmem, ⟨23, _⟩ => ⟨S256x512, .f32⟩
  | .local _ .vmem, ⟨24, _⟩ => ⟨S1024x3584, .f32⟩
  | .local _ .vmem, ⟨25, _⟩ => ⟨S512x1536, .bf16⟩
  | .local _ .vmem, ⟨26, _⟩ => ⟨S512x1536, .bf16⟩
  | .local _ .vmem, ⟨27, _⟩ => ⟨S1x512, .f32⟩
  | .local _ .vmem, ⟨28, _⟩ => ⟨S4x128x128, .f32⟩
  | .local _ .vmem, ⟨29, _⟩ => ⟨S4x128x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_cst : Ref sig .tc := ⟨.hbm, 19, rfl⟩
abbrev main_v1 : Ref sig .tc := ⟨.hbm, 20, rfl⟩
abbrev main_v2 : Ref sig .tc := ⟨.hbm, 21, rfl⟩
abbrev main_cst_0 : Ref sig .tc := ⟨.hbm, 22, rfl⟩
abbrev main_v3 : Ref sig .tc := ⟨.hbm, 23, rfl⟩
abbrev main_v4 : Ref sig .tc := ⟨.hbm, 24, rfl⟩
abbrev main_cst_1 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_cst_2 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_cst_3 : Ref sig .tc := ⟨.hbm, 42, rfl⟩
abbrev main_v20 : Ref sig .tc := ⟨.hbm, 43, rfl⟩
abbrev main_v21 : Ref sig .tc := ⟨.hbm, 44, rfl⟩
abbrev main_cst_4 : Ref sig .tc := ⟨.hbm, 45, rfl⟩
abbrev main_v22 : Ref sig .tc := ⟨.hbm, 46, rfl⟩
abbrev main_v23 : Ref sig .tc := ⟨.hbm, 47, rfl⟩
abbrev main_cst_5 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_cst_6 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40_0 : Ref sig .tc := ⟨.hbm, 66, rfl⟩
abbrev main_v40_1 : Ref sig .tc := ⟨.hbm, 67, rfl⟩
abbrev main_v40_2 : Ref sig .tc := ⟨.hbm, 68, rfl⟩
abbrev main_v40_3 : Ref sig .tc := ⟨.hbm, 69, rfl⟩
abbrev main_v40_4 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg18_0 : Ref sig .tc := ⟨.vmem, 28, rfl⟩
abbrev cc0_stg19_0 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem16_0 : DmaSem sig := 25
abbrev cc0_sem16_1 : DmaSem sig := 26
abbrev cc0_sem17_0 : DmaSem sig := 27
abbrev cc0_sem18_0 : DmaSem sig := 28
abbrev cc0_sem19_0 : DmaSem sig := 29

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S256x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1024x3584 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S512x1536 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S1x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S4x128x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S4x128x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]
-- ==== DwRefIdeal.lean ====
abbrev S4096x1024 : Shape := ⟨2, ![4096, 1024]⟩
abbrev S1x1024 : Shape := ⟨2, ![1, 1024]⟩
abbrev S256x1024 : Shape := ⟨2, ![256, 1024]⟩
abbrev S4096x3584 : Shape := ⟨2, ![4096, 3584]⟩
abbrev S1x512 : Shape := ⟨2, ![1, 512]⟩
abbrev S4x128x128 : Shape := ⟨3, ![4, 128, 128]⟩
abbrev S4x128 : Shape := ⟨2, ![4, 128]⟩
abbrev S4096x512 : Shape := ⟨2, ![4096, 512]⟩
abbrev S256x512 : Shape := ⟨2, ![256, 512]⟩
abbrev S4096x1536 : Shape := ⟨2, ![4096, 1536]⟩
abbrev S1x4096x1536 : Shape := ⟨3, ![1, 4096, 1536]⟩
abbrev S1x4096x512 : Shape := ⟨3, ![1, 4096, 512]⟩
abbrev S512 : Shape := ⟨1, ![512]⟩
abbrev S_ : Shape := ⟨0, ![]⟩
abbrev S1x32x128x4x128 : Shape := ⟨5, ![1, 32, 128, 4, 128]⟩
abbrev S1x32x128x4 : Shape := ⟨4, ![1, 32, 128, 4]⟩
abbrev S1x32x128x4x1 : Shape := ⟨5, ![1, 32, 128, 4, 1]⟩
abbrev S1x1x1x4x128 : Shape := ⟨5, ![1, 1, 1, 4, 128]⟩
abbrev S4x1x32x128x128 : Shape := ⟨5, ![4, 1, 32, 128, 128]⟩
abbrev S128x4 : Shape := ⟨2, ![128, 4]⟩
abbrev S128x4x1 : Shape := ⟨3, ![128, 4, 1]⟩
abbrev S1x1x128x4x1 : Shape := ⟨5, ![1, 1, 128, 4, 1]⟩
abbrev S1x128x4 : Shape := ⟨3, ![1, 128, 4]⟩
abbrev S1x4x128 : Shape := ⟨3, ![1, 4, 128]⟩
abbrev S32x128x4 : Shape := ⟨3, ![32, 128, 4]⟩
abbrev S1024x3584 : Shape := ⟨2, ![1024, 3584]⟩
abbrev S1024 : Shape := ⟨1, ![1024]⟩
abbrev S4096 : Shape := ⟨1, ![4096]⟩
abbrev S4096x1 : Shape := ⟨2, ![4096, 1]⟩
abbrev S256 : Shape := ⟨1, ![256]⟩
abbrev S256x1 : Shape := ⟨2, ![256, 1]⟩
abbrev S1024x1024 : Shape := ⟨2, ![1024, 1024]⟩
abbrev S3584x1024 : Shape := ⟨2, ![3584, 1024]⟩
abbrev S4x128x1 : Shape := ⟨3, ![4, 128, 1]⟩

abbrev nBuf : Space → Nat
  | .hbm => 249
  | .vmem => 0
  | .smem => 0
  | _ => 0

abbrev hbmTy0_0 (i : Nat) : BufTy := match i % 128 with
  | 0 => ⟨S4096x1024, .f32⟩
  | 1 => ⟨S1x1024, .f32⟩
  | 2 => ⟨S1x1024, .f32⟩
  | 3 => ⟨S1x1024, .f32⟩
  | 4 => ⟨S256x1024, .f32⟩
  | 5 => ⟨S1x1024, .f32⟩
  | 6 => ⟨S1x1024, .f32⟩
  | 7 => ⟨S4096x3584, .f32⟩
  | 8 => ⟨S1x512, .f32⟩
  | 9 => ⟨S4x128x128, .f32⟩
  | 10 => ⟨S4x128, .f32⟩
  | 11 => ⟨S4096x1024, .f32⟩
  | 12 => ⟨S4096x512, .bf16⟩
  | 13 => ⟨S4096x512, .bf16⟩
  | 14 => ⟨S4096x512, .bf16⟩
  | 15 => ⟨S4096x512, .bf16⟩
  | 16 => ⟨S256x512, .f32⟩
  | 17 => ⟨S256x512, .f32⟩
  | 18 => ⟨S4096x1536, .f32⟩
  | 19 => ⟨S1x4096x1536, .f32⟩
  | 20 => ⟨S1x4096x512, .f32⟩
  | 21 => ⟨S1x4096x512, .f32⟩
  | 22 => ⟨S1x4096x512, .f32⟩
  | 23 => ⟨S512, .f32⟩
  | 24 => ⟨S_, .f32⟩
  | 25 => ⟨S1x4096x512, .f32⟩
  | 26 => ⟨S1x4096x512, .f32⟩
  | 27 => ⟨S1x4096x512, .f32⟩
  | 28 => ⟨S_, .f32⟩
  | 29 => ⟨S1x4096x512, .f32⟩
  | 30 => ⟨S1x4096x512, .f32⟩
  | 31 => ⟨S1x4096x512, .f32⟩
  | 32 => ⟨S1x4096x512, .f32⟩
  | 33 => ⟨S1x4096x512, .f32⟩
  | 34 => ⟨S1x4096x512, .f32⟩
  | 35 => ⟨S1x4096x512, .f32⟩
  | 36 => ⟨S_, .f32⟩
  | 37 => ⟨S1x4096x512, .f32⟩
  | 38 => ⟨S1x4096x512, .f32⟩
  | 39 => ⟨S1x4096x512, .f32⟩
  | 40 => ⟨S_, .f32⟩
  | 41 => ⟨S1x4096x512, .f32⟩
  | 42 => ⟨S1x4096x512, .f32⟩
  | 43 => ⟨S1x4096x512, .f32⟩
  | 44 => ⟨S1x4096x512, .f32⟩
  | 45 => ⟨S1x4096x512, .f32⟩
  | 46 => ⟨S1x4096x512, .f32⟩
  | 47 => ⟨S1x4096x512, .f32⟩
  | 48 => ⟨S1x32x128x4x128, .f32⟩
  | 49 => ⟨S4x128, .f32⟩
  | 50 => ⟨S1x32x128x4x128, .f32⟩
  | 51 => ⟨S_, .f32⟩
  | 52 => ⟨S1x32x128x4, .f32⟩
  | 53 => ⟨S1x32x128x4x1, .f32⟩
  | 54 => ⟨S_, .f32⟩
  | 55 => ⟨S1x32x128x4x1, .f32⟩
  | 56 => ⟨S1x32x128x4x1, .f32⟩
  | 57 => ⟨S_, .f32⟩
  | 58 => ⟨S1x32x128x4x1, .f32⟩
  | 59 => ⟨S1x32x128x4x1, .f32⟩
  | 60 => ⟨S1x32x128x4x1, .f32⟩
  | 61 => ⟨S1x32x128x4x1, .f32⟩
  | 62 => ⟨S_, .f32⟩
  | 63 => ⟨S1x32x128x4x1, .f32⟩
  | 64 => ⟨S1x32x128x4x1, .f32⟩
  | 65 => ⟨S1x32x128x4x128, .f32⟩
  | 66 => ⟨S1x32x128x4x128, .f32⟩
  | 67 => ⟨S1x1x1x4x128, .f32⟩
  | 68 => ⟨S1x32x128x4x128, .f32⟩
  | 69 => ⟨S1x32x128x4x128, .f32⟩
  | 70 => ⟨S4x1x32x128x128, .f32⟩
  | 71 => ⟨S1x32x128x4x128, .f32⟩
  | 72 => ⟨S128x4, .f32⟩
  | 73 => ⟨S128x4x1, .f32⟩
  | 74 => ⟨S1x1x128x4x1, .f32⟩
  | 75 => ⟨S1x32x128x4x128, .f32⟩
  | 76 => ⟨S1x32x128x4x128, .f32⟩
  | 77 => ⟨S1x4096x512, .f32⟩
  | 78 => ⟨S1x4096x512, .f32⟩
  | 79 => ⟨S1x4096x512, .f32⟩
  | 80 => ⟨S1x4096x512, .f32⟩
  | 81 => ⟨S_, .f32⟩
  | 82 => ⟨S1x4096x512, .f32⟩
  | 83 => ⟨S1x4096x512, .f32⟩
  | 84 => ⟨S_, .f32⟩
  | 85 => ⟨S1x4096x512, .f32⟩
  | 86 => ⟨S1x4096x512, .f32⟩
  | 87 => ⟨S_, .f32⟩
  | 88 => ⟨S1x4096x512, .f32⟩
  | 89 => ⟨S1x4096x512, .f32⟩
  | 90 => ⟨S1x4096x512, .f32⟩
  | 91 => ⟨S1x4096x512, .f32⟩
  | 92 => ⟨S1x4096x512, .f32⟩
  | 93 => ⟨S4096x512, .f32⟩
  | 94 => ⟨S4096x512, .f32⟩
  | 95 => ⟨S1x4096x512, .f32⟩
  | 96 => ⟨S1x4096x512, .f32⟩
  | 97 => ⟨S1x4096x512, .f32⟩
  | 98 => ⟨S1x4096x512, .f32⟩
  | 99 => ⟨S1x4096x512, .f32⟩
  | 100 => ⟨S1x4096x512, .f32⟩
  | 101 => ⟨S1x4096x512, .f32⟩
  | 102 => ⟨S1x4096x512, .f32⟩
  | 103 => ⟨S1x4096x512, .f32⟩
  | 104 => ⟨S1x32x128x4x128, .f32⟩
  | 105 => ⟨S_, .f32⟩
  | 106 => ⟨S1x128x4, .f32⟩
  | 107 => ⟨S1x1x128x4x1, .f32⟩
  | 108 => ⟨S_, .f32⟩
  | 109 => ⟨S128x4, .f32⟩
  | 110 => ⟨S128x4x1, .f32⟩
  | 111 => ⟨S_, .f32⟩
  | 112 => ⟨S128x4, .f32⟩
  | 113 => ⟨S4x128, .f32⟩
  | 114 => ⟨S4x1x32x128x128, .f32⟩
  | 115 => ⟨S4x128x128, .f32⟩
  | 116 => ⟨S4x1x32x128x128, .f32⟩
  | 117 => ⟨S1x32x128x4x128, .f32⟩
  | 118 => ⟨S1x32x128x4x128, .f32⟩
  | 119 => ⟨S_, .f32⟩
  | 120 => ⟨S1x4x128, .f32⟩
  | 121 => ⟨S1x1x1x4x128, .f32⟩
  | 122 => ⟨S1x32x128x4x128, .f32⟩
  | 123 => ⟨S1x32x128x4x128, .f32⟩
  | 124 => ⟨S_, .f32⟩
  | 125 => ⟨S4x128, .f32⟩
  | 126 => ⟨S1x32x128x4x128, .f32⟩
  | 127 => ⟨S_, .f32⟩
  | _ => ⟨S4096x1024, .f32⟩

abbrev hbmTy0_1 (i : Nat) : BufTy := match i % 128 with
  | 0 => ⟨S1x32x128x4, .f32⟩
  | 1 => ⟨S1x32x128x4x1, .f32⟩
  | 2 => ⟨S1x32x128x4x128, .f32⟩
  | 3 => ⟨S1x32x128x4x128, .f32⟩
  | 4 => ⟨S1x32x128x4x1, .f32⟩
  | 5 => ⟨S_, .f32⟩
  | 6 => ⟨S1x32x128x4x1, .f32⟩
  | 7 => ⟨S1x32x128x4x1, .f32⟩
  | 8 => ⟨S_, .f32⟩
  | 9 => ⟨S32x128x4, .f32⟩
  | 10 => ⟨S1x32x128x4, .f32⟩
  | 11 => ⟨S1x32x128x4x128, .f32⟩
  | 12 => ⟨S1x32x128x4x128, .f32⟩
  | 13 => ⟨S1x32x128x4x128, .f32⟩
  | 14 => ⟨S1x32x128x4x128, .f32⟩
  | 15 => ⟨S1x32x128x4x128, .f32⟩
  | 16 => ⟨S512, .f32⟩
  | 17 => ⟨S1x4096x512, .f32⟩
  | 18 => ⟨S1x4096x512, .f32⟩
  | 19 => ⟨S1x4096x512, .f32⟩
  | 20 => ⟨S_, .f32⟩
  | 21 => ⟨S1x4096x512, .f32⟩
  | 22 => ⟨S1x4096x512, .f32⟩
  | 23 => ⟨S1x4096x512, .f32⟩
  | 24 => ⟨S_, .f32⟩
  | 25 => ⟨S1x4096x512, .f32⟩
  | 26 => ⟨S1x4096x512, .f32⟩
  | 27 => ⟨S1x4096x512, .f32⟩
  | 28 => ⟨S_, .f32⟩
  | 29 => ⟨S1x4096x512, .f32⟩
  | 30 => ⟨S1x4096x512, .f32⟩
  | 31 => ⟨S1x4096x512, .f32⟩
  | 32 => ⟨S1x4096x512, .f32⟩
  | 33 => ⟨S1x4096x512, .f32⟩
  | 34 => ⟨S_, .f32⟩
  | 35 => ⟨S1x4096x512, .f32⟩
  | 36 => ⟨S1x4096x512, .f32⟩
  | 37 => ⟨S1x4096x512, .f32⟩
  | 38 => ⟨S_, .f32⟩
  | 39 => ⟨S1x4096x512, .f32⟩
  | 40 => ⟨S1x4096x512, .f32⟩
  | 41 => ⟨S1x4096x512, .f32⟩
  | 42 => ⟨S_, .f32⟩
  | 43 => ⟨S1x4096x512, .f32⟩
  | 44 => ⟨S1x4096x512, .f32⟩
  | 45 => ⟨S1x4096x512, .f32⟩
  | 46 => ⟨S1x512, .f32⟩
  | 47 => ⟨S1x4096x1536, .f32⟩
  | 48 => ⟨S_, .f32⟩
  | 49 => ⟨S4096x1536, .f32⟩
  | 50 => ⟨S4096x512, .f32⟩
  | 51 => ⟨S4096x512, .f32⟩
  | 52 => ⟨S4096x512, .f32⟩
  | 53 => ⟨S4096x512, .f32⟩
  | 54 => ⟨S4096x3584, .f32⟩
  | 55 => ⟨S_, .f32⟩
  | 56 => ⟨S1024x3584, .f32⟩
  | 57 => ⟨S1024, .f32⟩
  | 58 => ⟨S4096x1024, .f32⟩
  | 59 => ⟨S_, .f32⟩
  | 60 => ⟨S4096, .f32⟩
  | 61 => ⟨S4096x1, .f32⟩
  | 62 => ⟨S_, .f32⟩
  | 63 => ⟨S4096x1, .f32⟩
  | 64 => ⟨S4096x1, .f32⟩
  | 65 => ⟨S_, .f32⟩
  | 66 => ⟨S4096x1, .f32⟩
  | 67 => ⟨S4096x1, .f32⟩
  | 68 => ⟨S4096x1, .f32⟩
  | 69 => ⟨S4096x1024, .f32⟩
  | 70 => ⟨S4096x1024, .f32⟩
  | 71 => ⟨S1x1024, .f32⟩
  | 72 => ⟨S4096x1024, .f32⟩
  | 73 => ⟨S4096x1024, .f32⟩
  | 74 => ⟨S_, .f32⟩
  | 75 => ⟨S1x1024, .f32⟩
  | 76 => ⟨S1x1024, .f32⟩
  | 77 => ⟨S4096x1024, .f32⟩
  | 78 => ⟨S4096x1024, .f32⟩
  | 79 => ⟨S4096x1024, .f32⟩
  | 80 => ⟨S4096x1024, .f32⟩
  | 81 => ⟨S1024, .f32⟩
  | 82 => ⟨S256x1024, .f32⟩
  | 83 => ⟨S_, .f32⟩
  | 84 => ⟨S256, .f32⟩
  | 85 => ⟨S256x1, .f32⟩
  | 86 => ⟨S_, .f32⟩
  | 87 => ⟨S256x1, .f32⟩
  | 88 => ⟨S256x1, .f32⟩
  | 89 => ⟨S_, .f32⟩
  | 90 => ⟨S256x1, .f32⟩
  | 91 => ⟨S256x1, .f32⟩
  | 92 => ⟨S256x1, .f32⟩
  | 93 => ⟨S256x1024, .f32⟩
  | 94 => ⟨S256x1024, .f32⟩
  | 95 => ⟨S1x1024, .f32⟩
  | 96 => ⟨S256x1024, .f32⟩
  | 97 => ⟨S256x1024, .f32⟩
  | 98 => ⟨S_, .f32⟩
  | 99 => ⟨S1x1024, .f32⟩
  | 100 => ⟨S1x1024, .f32⟩
  | 101 => ⟨S256x1024, .f32⟩
  | 102 => ⟨S256x1024, .f32⟩
  | 103 => ⟨S256x1024, .f32⟩
  | 104 => ⟨S256x1024, .f32⟩
  | 105 => ⟨S4096x3584, .f32⟩
  | 106 => ⟨S1024x1024, .f32⟩
  | 107 => ⟨S256x1024, .f32⟩
  | 108 => ⟨S256x512, .f32⟩
  | 109 => ⟨S256x512, .f32⟩
  | 110 => ⟨S256x1024, .f32⟩
  | 111 => ⟨S1024x1024, .f32⟩
  | 112 => ⟨S1024x1024, .f32⟩
  | 113 => ⟨S_, .f32⟩
  | 114 => ⟨S1024x3584, .f32⟩
  | 115 => ⟨S3584x1024, .f32⟩
  | 116 => ⟨S1024x3584, .f32⟩
  | 117 => ⟨S1024x3584, .f32⟩
  | 118 => ⟨S4096x1536, .bf16⟩
  | 119 => ⟨S4x128x1, .f32⟩
  | 120 => ⟨S4x128x128, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_cst : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_cst_0 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst_1 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_cst_2 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_3 : Ref sig .tc := ⟨.hbm, 51, rfl⟩
abbrev main_v29 : Ref sig .tc := ⟨.hbm, 52, rfl⟩
abbrev main_v30 : Ref sig .tc := ⟨.hbm, 53, rfl⟩
abbrev main_cst_4 : Ref sig .tc := ⟨.hbm, 54, rfl⟩
abbrev main_v31 : Ref sig .tc := ⟨.hbm, 55, rfl⟩
abbrev main_v32 : Ref sig .tc := ⟨.hbm, 56, rfl⟩
abbrev main_cst_5 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_cst_6 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_call0_v0 : Ref sig .tc := ⟨.hbm, 79, rfl⟩
abbrev main_call0_v1 : Ref sig .tc := ⟨.hbm, 80, rfl⟩
abbrev main_call0_cst : Ref sig .tc := ⟨.hbm, 81, rfl⟩
abbrev main_call0_v2 : Ref sig .tc := ⟨.hbm, 82, rfl⟩
abbrev main_call0_v3 : Ref sig .tc := ⟨.hbm, 83, rfl⟩
abbrev main_call0_cst_0 : Ref sig .tc := ⟨.hbm, 84, rfl⟩
abbrev main_call0_v4 : Ref sig .tc := ⟨.hbm, 85, rfl⟩
abbrev main_v53_2 : Ref sig .tc := ⟨.hbm, 86, rfl⟩
abbrev main_call0_cst_1 : Ref sig .tc := ⟨.hbm, 87, rfl⟩
abbrev main_call0_v6 : Ref sig .tc := ⟨.hbm, 88, rfl⟩
abbrev main_call0_v7 : Ref sig .tc := ⟨.hbm, 89, rfl⟩
abbrev main_v53_1 : Ref sig .tc := ⟨.hbm, 90, rfl⟩
abbrev main_v53_0 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_call1_v0 : Ref sig .tc := ⟨.hbm, 98, rfl⟩
abbrev main_call1_v1 : Ref sig .tc := ⟨.hbm, 99, rfl⟩
abbrev main_call1_v2 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_cst_7 : Ref sig .tc := ⟨.hbm, 105, rfl⟩
abbrev main_v64 : Ref sig .tc := ⟨.hbm, 106, rfl⟩
abbrev main_v65 : Ref sig .tc := ⟨.hbm, 107, rfl⟩
abbrev main_cst_8 : Ref sig .tc := ⟨.hbm, 108, rfl⟩
abbrev main_v66 : Ref sig .tc := ⟨.hbm, 109, rfl⟩
abbrev main_v67 : Ref sig .tc := ⟨.hbm, 110, rfl⟩
abbrev main_cst_9 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_cst_10 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_cst_11 : Ref sig .tc := ⟨.hbm, 124, rfl⟩
abbrev main_v79 : Ref sig .tc := ⟨.hbm, 125, rfl⟩
abbrev main_v80 : Ref sig .tc := ⟨.hbm, 126, rfl⟩
abbrev main_cst_12 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_cst_13 : Ref sig .tc := ⟨.hbm, 133, rfl⟩
abbrev main_v86 : Ref sig .tc := ⟨.hbm, 134, rfl⟩
abbrev main_v87 : Ref sig .tc := ⟨.hbm, 135, rfl⟩
abbrev main_cst_14 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_cst_15 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_cst_16 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_cst_17 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev main_v109 : Ref sig .tc := ⟨.hbm, 161, rfl⟩
abbrev main_cst_18 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_cst_19 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_cst_20 : Ref sig .tc := ⟨.hbm, 170, rfl⟩
abbrev main_v116 : Ref sig .tc := ⟨.hbm, 171, rfl⟩
abbrev main_v117 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_cst_21 : Ref sig .tc := ⟨.hbm, 176, rfl⟩
abbrev main_v121 : Ref sig .tc := ⟨.hbm, 177, rfl⟩
abbrev main_v122 : Ref sig .tc := ⟨.hbm, 178, rfl⟩
abbrev main_v123 : Ref sig .tc := ⟨.hbm, 179, rfl⟩
abbrev main_v124 : Ref sig .tc := ⟨.hbm, 180, rfl⟩
abbrev main_v125 : Ref sig .tc := ⟨.hbm, 181, rfl⟩
abbrev main_v126 : Ref sig .tc := ⟨.hbm, 182, rfl⟩
abbrev main_cst_22 : Ref sig .tc := ⟨.hbm, 183, rfl⟩
abbrev main_v127 : Ref sig .tc := ⟨.hbm, 184, rfl⟩
abbrev main_v128 : Ref sig .tc := ⟨.hbm, 185, rfl⟩
abbrev main_v129 : Ref sig .tc := ⟨.hbm, 186, rfl⟩
abbrev main_cst_23 : Ref sig .tc := ⟨.hbm, 187, rfl⟩
abbrev main_v130 : Ref sig .tc := ⟨.hbm, 188, rfl⟩
abbrev main_v131 : Ref sig .tc := ⟨.hbm, 189, rfl⟩
abbrev main_cst_24 : Ref sig .tc := ⟨.hbm, 190, rfl⟩
abbrev main_v132 : Ref sig .tc := ⟨.hbm, 191, rfl⟩
abbrev main_v133 : Ref sig .tc := ⟨.hbm, 192, rfl⟩
abbrev main_cst_25 : Ref sig .tc := ⟨.hbm, 193, rfl⟩
abbrev main_v134 : Ref sig .tc := ⟨.hbm, 194, rfl⟩
abbrev main_v135 : Ref sig .tc := ⟨.hbm, 195, rfl⟩
abbrev main_v136 : Ref sig .tc := ⟨.hbm, 196, rfl⟩
abbrev main_v137 : Ref sig .tc := ⟨.hbm, 197, rfl⟩
abbrev main_v138 : Ref sig .tc := ⟨.hbm, 198, rfl⟩
abbrev main_v139 : Ref sig .tc := ⟨.hbm, 199, rfl⟩
abbrev main_v140 : Ref sig .tc := ⟨.hbm, 200, rfl⟩
abbrev main_v141 : Ref sig .tc := ⟨.hbm, 201, rfl⟩
abbrev main_cst_26 : Ref sig .tc := ⟨.hbm, 202, rfl⟩
abbrev main_v142 : Ref sig .tc := ⟨.hbm, 203, rfl⟩
abbrev main_v143 : Ref sig .tc := ⟨.hbm, 204, rfl⟩
abbrev main_v144 : Ref sig .tc := ⟨.hbm, 205, rfl⟩
abbrev main_v145 : Ref sig .tc := ⟨.hbm, 206, rfl⟩
abbrev main_v146 : Ref sig .tc := ⟨.hbm, 207, rfl⟩
abbrev main_v147 : Ref sig .tc := ⟨.hbm, 208, rfl⟩
abbrev main_v148 : Ref sig .tc := ⟨.hbm, 209, rfl⟩
abbrev main_v149 : Ref sig .tc := ⟨.hbm, 210, rfl⟩
abbrev main_cst_27 : Ref sig .tc := ⟨.hbm, 211, rfl⟩
abbrev main_v150 : Ref sig .tc := ⟨.hbm, 212, rfl⟩
abbrev main_v151 : Ref sig .tc := ⟨.hbm, 213, rfl⟩
abbrev main_cst_28 : Ref sig .tc := ⟨.hbm, 214, rfl⟩
abbrev main_v152 : Ref sig .tc := ⟨.hbm, 215, rfl⟩
abbrev main_v153 : Ref sig .tc := ⟨.hbm, 216, rfl⟩
abbrev main_cst_29 : Ref sig .tc := ⟨.hbm, 217, rfl⟩
abbrev main_v154 : Ref sig .tc := ⟨.hbm, 218, rfl⟩
abbrev main_v155 : Ref sig .tc := ⟨.hbm, 219, rfl⟩
abbrev main_v156 : Ref sig .tc := ⟨.hbm, 220, rfl⟩
abbrev main_v157 : Ref sig .tc := ⟨.hbm, 221, rfl⟩
abbrev main_v158 : Ref sig .tc := ⟨.hbm, 222, rfl⟩
abbrev main_v159 : Ref sig .tc := ⟨.hbm, 223, rfl⟩
abbrev main_v160 : Ref sig .tc := ⟨.hbm, 224, rfl⟩
abbrev main_v161 : Ref sig .tc := ⟨.hbm, 225, rfl⟩
abbrev main_cst_30 : Ref sig .tc := ⟨.hbm, 226, rfl⟩
abbrev main_v162 : Ref sig .tc := ⟨.hbm, 227, rfl⟩
abbrev main_v163 : Ref sig .tc := ⟨.hbm, 228, rfl⟩
abbrev main_v164 : Ref sig .tc := ⟨.hbm, 229, rfl⟩
abbrev main_v165 : Ref sig .tc := ⟨.hbm, 230, rfl⟩
abbrev main_v166 : Ref sig .tc := ⟨.hbm, 231, rfl⟩
abbrev main_v167 : Ref sig .tc := ⟨.hbm, 232, rfl⟩
abbrev main_v168 : Ref sig .tc := ⟨.hbm, 233, rfl⟩
abbrev main_v169 : Ref sig .tc := ⟨.hbm, 234, rfl⟩
abbrev main_v170 : Ref sig .tc := ⟨.hbm, 235, rfl⟩
abbrev main_v171 : Ref sig .tc := ⟨.hbm, 236, rfl⟩
abbrev main_v172 : Ref sig .tc := ⟨.hbm, 237, rfl⟩
abbrev main_v173 : Ref sig .tc := ⟨.hbm, 238, rfl⟩
abbrev main_v174 : Ref sig .tc := ⟨.hbm, 239, rfl⟩
abbrev main_v175 : Ref sig .tc := ⟨.hbm, 240, rfl⟩
abbrev main_cst_31 : Ref sig .tc := ⟨.hbm, 241, rfl⟩
abbrev main_v176 : Ref sig .tc := ⟨.hbm, 242, rfl⟩
abbrev main_v177 : Ref sig .tc := ⟨.hbm, 243, rfl⟩
abbrev main_v178 : Ref sig .tc := ⟨.hbm, 244, rfl⟩
abbrev main_v179 : Ref sig .tc := ⟨.hbm, 245, rfl⟩
abbrev main_v180 : Ref sig .tc := ⟨.hbm, 246, rfl⟩
abbrev main_v181 : Ref sig .tc := ⟨.hbm, 247, rfl⟩
abbrev main_v182 : Ref sig .tc := ⟨.hbm, 248, rfl⟩

abbrev nD : Nat := 1
abbrev τ : Topo := Topo.v7x

variable {F : FTy → Type} [FloatOps F]
-- ==== CtxFwd.lean ====
abbrev S256x1024 : Shape := ⟨2, ![256, 1024]⟩
abbrev S1x1024 : Shape := ⟨2, ![1, 1024]⟩
abbrev S1024x3584 : Shape := ⟨2, ![1024, 3584]⟩
abbrev S256x1792 : Shape := ⟨2, ![256, 1792]⟩
abbrev S1024x1792 : Shape := ⟨2, ![1024, 1792]⟩
abbrev S256 : Shape := ⟨1, ![256]⟩
abbrev S256x1 : Shape := ⟨2, ![256, 1]⟩

abbrev nBuf : Space → Nat
  | .hbm => 8
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x3584, .f32⟩
  | .hbm, ⟨5, _⟩ => ⟨S1024x3584, .bf16⟩
  | .hbm, ⟨6, _⟩ => ⟨S256x1792, .f32⟩
  | .hbm, ⟨7, _⟩ => ⟨S256x1024, .bf16⟩
  | .local _ .vmem, ⟨0, _⟩ => ⟨S256x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1024x1792, .bf16⟩
  | .local _ .vmem, ⟨5, _⟩ => ⟨S256x1792, .f32⟩
  | .local _ .vmem, ⟨6, _⟩ => ⟨S256x1024, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1792 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1792 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== CtxFwdRefIdeal.lean ====
abbrev S256x1024 : Shape := ⟨2, ![256, 1024]⟩
abbrev S1x1024 : Shape := ⟨2, ![1, 1024]⟩
abbrev S1024x3584 : Shape := ⟨2, ![1024, 3584]⟩
abbrev S1024 : Shape := ⟨1, ![1024]⟩
abbrev S_ : Shape := ⟨0, ![]⟩
abbrev S256 : Shape := ⟨1, ![256]⟩
abbrev S256x1 : Shape := ⟨2, ![256, 1]⟩
abbrev S1024x1792 : Shape := ⟨2, ![1024, 1792]⟩
abbrev S256x1792 : Shape := ⟨2, ![256, 1792]⟩

abbrev nBuf : Space → Nat
  | .hbm => 32
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x3584, .f32⟩
  | .hbm, ⟨5, _⟩ => ⟨S1024, .f32⟩
  | .hbm, ⟨6, _⟩ => ⟨S256x1024, .f32⟩
  | .hbm, ⟨7, _⟩ => ⟨S_, .f32⟩
  | .hbm, ⟨8, _⟩ => ⟨S256, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S_, .f32⟩
  | .hbm, ⟨14, _⟩ => ⟨S256x1, .f32⟩
  | .hbm, ⟨15, _⟩ => ⟨S256x1, .f32⟩
  | .hbm, ⟨16, _⟩ => ⟨S256x1, .f32⟩
  | .hbm, ⟨17, _⟩ => ⟨S256x1024, .f32⟩
  | .hbm, ⟨18, _⟩ => ⟨S256x1024, .f32⟩
  | .hbm, ⟨19, _⟩ => ⟨S1x1024, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S1x1024, .f32⟩
  | .hbm, ⟨24, _⟩ => ⟨S1x1024, .f32⟩
  | .hbm, ⟨25, _⟩ => ⟨S256x1024, .f32⟩
  | .hbm, ⟨26, _⟩ => ⟨S256x1024, .f32⟩
  | .hbm, ⟨27, _⟩ => ⟨S256x1024, .f32⟩
  | .hbm, ⟨28, _⟩ => ⟨S256x1024, .f32⟩
  | .hbm, ⟨29, _⟩ => ⟨S1024x1792, .f32⟩
  | .hbm, ⟨30, _⟩ => ⟨S256x1792, .f32⟩
  | .hbm, ⟨31, _⟩ => ⟨S256x1024, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]
-- ==== Reduce.lean ====
abbrev S512x896 : Shape := ⟨2, ![512, 896]⟩
abbrev S3x512x896 : Shape := ⟨3, ![3, 512, 896]⟩
abbrev S128x1024 : Shape := ⟨2, ![128, 1024]⟩
abbrev S3x128x1024 : Shape := ⟨3, ![3, 128, 1024]⟩
abbrev S8x80x1024 : Shape := ⟨3, ![8, 80, 1024]⟩
abbrev S4x16x1024 : Shape := ⟨3, ![4, 16, 1024]⟩
abbrev S72x1024 : Shape := ⟨2, ![72, 1024]⟩
abbrev S1024x768 : Shape := ⟨2, ![1024, 768]⟩
abbrev S1x1024 : Shape := ⟨2, ![1, 1024]⟩
abbrev S80x1024 : Shape := ⟨2, ![80, 1024]⟩
abbrev S3x1024 : Shape := ⟨2, ![3, 1024]⟩
abbrev S16x768 : Shape := ⟨2, ![16, 768]⟩
abbrev S5 : Shape := ⟨1, ![5]⟩
abbrev S1 : Shape := ⟨1, ![1]⟩
abbrev S_ : Shape := ⟨0, ![]⟩
abbrev S1x512x896 : Shape := ⟨3, ![1, 512, 896]⟩
abbrev S1x128x1024 : Shape := ⟨3, ![1, 128, 1024]⟩
abbrev S1x80x1024 : Shape := ⟨3, ![1, 80, 1024]⟩
abbrev S7x1024 : Shape := ⟨2, ![7, 1024]⟩
abbrev S1x1x1024 : Shape := ⟨3, ![1, 1, 1024]⟩
abbrev S16x1024 : Shape := ⟨2, ![16, 1024]⟩
abbrev S1024 : Shape := ⟨1, ![1024]⟩
abbrev S16x3072 : Shape := ⟨2, ![16, 3072]⟩
abbrev S1x16x1024 : Shape := ⟨3, ![1, 16, 1024]⟩

abbrev nBuf : Space → Nat
  | .hbm => 15
  | .vmem => 17
  | .smem => 0
  | _ => 0

abbrev bufTy : (tb : Table) → Fin (tcTables nBuf tb) → BufTy
  | .hbm, ⟨0, _⟩ => ⟨S512x896, .f32⟩
  | .hbm, ⟨1, _⟩ => ⟨S3x512x896, .bf16⟩
  | .hbm, ⟨2, _⟩ => ⟨S128x1024, .f32⟩
  | .hbm, ⟨3, _⟩ => ⟨S3x128x1024, .bf16⟩
  | .hbm, ⟨4, _⟩ => ⟨S8x80x1024, .f32⟩
  | .hbm, ⟨5, _⟩ => ⟨S4x16x1024, .f32⟩
  | .hbm, ⟨6, _⟩ => ⟨S72x1024, .f32⟩
  | .hbm, ⟨7, _⟩ => ⟨S1024x768, .f32⟩
  | .hbm, ⟨8, _⟩ => ⟨S1x1024, .f32⟩
  | .hbm, ⟨9, _⟩ => ⟨S512x896, .f32⟩
  | .hbm, ⟨10, _⟩ => ⟨S128x1024, .f32⟩
  | .hbm, ⟨11, _⟩ => ⟨S80x1024, .f32⟩
  | .hbm, ⟨12, _⟩ => ⟨S1024x768, .f32⟩
  | .hbm, ⟨13, _⟩ => ⟨S3x1024, .f32⟩
  | .hbm, ⟨14, _⟩ => ⟨S1x1024, .f32⟩
  | .local _ .vmem, ⟨0, _⟩ => ⟨S8x80x1024, .f32⟩
  | .local _ .vmem, ⟨1, _⟩ => ⟨S4x16x1024, .f32⟩
  | .local _ .vmem, ⟨2, _⟩ => ⟨S72x1024, .f32⟩
  | .local _ .vmem, ⟨3, _⟩ => ⟨S1x1024, .f32⟩
  | .local _ .vmem, ⟨4, _⟩ => ⟨S512x896, .f32⟩
  | .local _ .vmem, ⟨5, _⟩ => ⟨S128x1024, .f32⟩
  | .local _ .vmem, ⟨6, _⟩ => ⟨S80x1024, .f32⟩
  | .local _ .vmem, ⟨7, _⟩ => ⟨S1024x768, .f32⟩
  | .local _ .vmem, ⟨8, _⟩ => ⟨S3x1024, .f32⟩
  | .local _ .vmem, ⟨9, _⟩ => ⟨S1x1024, .f32⟩
  | .local _ .vmem, ⟨10, _⟩ => ⟨S512x896, .f32⟩
  | .local _ .vmem, ⟨11, _⟩ => ⟨S3x512x896, .bf16⟩
  | .local _ .vmem, ⟨12, _⟩ => ⟨S128x1024, .f32⟩
  | .local _ .vmem, ⟨13, _⟩ => ⟨S3x128x1024, .bf16⟩
  | .local _ .vmem, ⟨14, _⟩ => ⟨S1024x768, .f32⟩
  | .local _ .vmem, ⟨15, _⟩ => ⟨S16x768, .bf16⟩
  | .local _ .vmem, ⟨16, _⟩ => ⟨S4x16x1024, .f32⟩
  | _, _ => ⟨S512x896, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev main_v0_5 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_scratch6 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S8x80x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S72x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x896 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S80x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1024x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S3x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== ReduceRefIdeal.lean ====
abbrev S512x896 : Shape := ⟨2, ![512, 896]⟩
abbrev S3x512x896 : Shape := ⟨3, ![3, 512, 896]⟩
abbrev S128x1024 : Shape := ⟨2, ![128, 1024]⟩
abbrev S3x128x1024 : Shape := ⟨3, ![3, 128, 1024]⟩
abbrev S8x80x1024 : Shape := ⟨3, ![8, 80, 1024]⟩
abbrev S4x16x1024 : Shape := ⟨3, ![4, 16, 1024]⟩
abbrev S72x1024 : Shape := ⟨2, ![72, 1024]⟩
abbrev S1024x768 : Shape := ⟨2, ![1024, 768]⟩
abbrev S1x1024 : Shape := ⟨2, ![1, 1024]⟩
abbrev S_ : Shape := ⟨0, ![]⟩
abbrev S1x768 : Shape := ⟨2, ![1, 768]⟩
abbrev S80x1024 : Shape := ⟨2, ![80, 1024]⟩
abbrev S8x1024 : Shape := ⟨2, ![8, 1024]⟩
abbrev S9x1024 : Shape := ⟨2, ![9, 1024]⟩
abbrev S8x3x1024 : Shape := ⟨3, ![8, 3, 1024]⟩
abbrev S3x1024 : Shape := ⟨2, ![3, 1024]⟩
abbrev S1x3x1024 : Shape := ⟨3, ![1, 3, 1024]⟩
abbrev S9x3x1024 : Shape := ⟨3, ![9, 3, 1024]⟩
abbrev S9x3072 : Shape := ⟨2, ![9, 3072]⟩
abbrev S9x768 : Shape := ⟨2, ![9, 768]⟩
abbrev S768x1024 : Shape := ⟨2, ![768, 1024]⟩
abbrev S3x1x1024 : Shape := ⟨3, ![3, 1, 1024]⟩
abbrev S1024 : Shape := ⟨1, ![1024]⟩

abbrev nBuf : Space → Nat
  | .hbm => 73
  | .vmem => 0
  | .smem => 0
  | _ => 0

abbrev bufTy : (tb : Table) → Fin (tcTables nBuf tb) → BufTy
  | .hbm, ⟨0, _⟩ => ⟨S512x896, .f32⟩
  | .hbm, ⟨1, _⟩ => ⟨S3x512x896, .bf16⟩
  | .hbm, ⟨2, _⟩ => ⟨S128x1024, .f32⟩
  | .hbm, ⟨3, _⟩ => ⟨S3x128x1024, .bf16⟩
  | .hbm, ⟨4, _⟩ => ⟨S8x80x1024, .f32⟩
  | .hbm, ⟨5, _⟩ => ⟨S4x16x1024, .f32⟩
  | .hbm, ⟨6, _⟩ => ⟨S72x1024, .f32⟩
  | .hbm, ⟨7, _⟩ => ⟨S1024x768, .f32⟩
  | .hbm, ⟨8, _⟩ => ⟨S1x1024, .f32⟩
  | .hbm, ⟨9, _⟩ => ⟨S_, .f32⟩
  | .hbm, ⟨10, _⟩ => ⟨S1x768, .f32⟩
  | .hbm, ⟨11, _⟩ => ⟨S_, .f32⟩
  | .hbm, ⟨12, _⟩ => ⟨S80x1024, .f32⟩
  | .hbm, ⟨13, _⟩ => ⟨S8x1024, .f32⟩
  | .hbm, ⟨14, _⟩ => ⟨S1x1024, .f32⟩
  | .hbm, ⟨15, _⟩ => ⟨S9x1024, .f32⟩
  | .hbm, ⟨16, _⟩ => ⟨S8x3x1024, .f32⟩
  | .hbm, ⟨17, _⟩ => ⟨S3x1024, .f32⟩
  | .hbm, ⟨18, _⟩ => ⟨S1x3x1024, .f32⟩
  | .hbm, ⟨19, _⟩ => ⟨S9x3x1024, .f32⟩
  | .hbm, ⟨20, _⟩ => ⟨S9x3072, .f32⟩
  | .hbm, ⟨21, _⟩ => ⟨S9x768, .f32⟩
  | .hbm, ⟨22, _⟩ => ⟨S9x1024, .f32⟩
  | .hbm, ⟨23, _⟩ => ⟨S9x1024, .f32⟩
  | .hbm, ⟨24, _⟩ => ⟨S_, .f32⟩
  | .hbm, ⟨25, _⟩ => ⟨S9x1024, .f32⟩
  | .hbm, ⟨26, _⟩ => ⟨S9x1024, .f32⟩
  | .hbm, ⟨27, _⟩ => ⟨S_, .f32⟩
  | .hbm, ⟨28, _⟩ => ⟨S9x1024, .f32⟩
  | .hbm, ⟨29, _⟩ => ⟨S9x1024, .f32⟩
  | .hbm, ⟨30, _⟩ => ⟨S9x1024, .f32⟩
  | .hbm, ⟨31, _⟩ => ⟨S9x768, .f32⟩
  | .hbm, ⟨32, _⟩ => ⟨S9x768, .f32⟩
  | .hbm, ⟨33, _⟩ => ⟨S9x768, .f32⟩
  | .hbm, ⟨34, _⟩ => ⟨S768x1024, .f32⟩
  | .hbm, ⟨35, _⟩ => ⟨S1024x768, .f32⟩
  | .hbm, ⟨36, _⟩ => ⟨S3x1x1024, .f32⟩
  | .hbm, ⟨37, _⟩ => ⟨S3x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S1x1024, .f32⟩
  | .hbm, ⟨42, _⟩ => ⟨S1x1024, .f32⟩
  | .hbm, ⟨43, _⟩ => ⟨S_, .f32⟩
  | .hbm, ⟨44, _⟩ => ⟨S1x1024, .f32⟩
  | .hbm, ⟨45, _⟩ => ⟨S1x1024, .f32⟩
  | .hbm, ⟨46, _⟩ => ⟨S_, .f32⟩
  | .hbm, ⟨47, _⟩ => ⟨S1x1024, .f32⟩
  | .hbm, ⟨48, _⟩ => ⟨S1x1024, .f32⟩
  | .hbm, ⟨49, _⟩ => ⟨S_, .f32⟩
  | .hbm, ⟨50, _⟩ => ⟨S1x1024, .f32⟩
  | .hbm, ⟨51, _⟩ => ⟨S1x1024, .f32⟩
  | .hbm, ⟨52, _⟩ => ⟨S1x1024, .f32⟩
  | .hbm, ⟨53, _⟩ => ⟨S1x1024, .f32⟩
  | .hbm, ⟨54, _⟩ => ⟨S1x768, .f32⟩
  | .hbm, ⟨55, _⟩ => ⟨S1x768, .f32⟩
  | .hbm, ⟨56, _⟩ => ⟨S1x768, .f32⟩
  | .hbm, ⟨57, _⟩ => ⟨S1x1024, .f32⟩
  | .hbm, ⟨58, _⟩ => ⟨S1x1024, .f32⟩
  | .hbm, ⟨59, _⟩ => ⟨S1x1024, .f32⟩
  | .hbm, ⟨60, _⟩ => ⟨S1x1024, .f32⟩
  | .hbm, ⟨61, _⟩ => ⟨S1x1024, .f32⟩
  | .hbm, ⟨62, _⟩ => ⟨S1x1024, .f32⟩
  | .hbm, ⟨63, _⟩ => ⟨S3x512x896, .f32⟩
  | .hbm, ⟨64, _⟩ => ⟨S_, .f32⟩
  | .hbm, ⟨65, _⟩ => ⟨S512x896, .f32⟩
  | .hbm, ⟨66, _⟩ => ⟨S512x896, .f32⟩
  | .hbm, ⟨67, _⟩ => ⟨S3x128x1024, .f32⟩
  | .hbm, ⟨68, _⟩ => ⟨S_, .f32⟩
  | .hbm, ⟨69, _⟩ => ⟨S128x1024, .f32⟩
  | .hbm, ⟨70, _⟩ => ⟨S128x1024, .f32⟩
  | .hbm, ⟨71, _⟩ => ⟨S_, .f32⟩
  | .hbm, ⟨72, _⟩ => ⟨S3x1024, .f32⟩
  | _, _ => ⟨S512x896, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_1 : Ref sig .tc := ⟨.hbm, 38, rfl⟩
abbrev main_v19 : Ref sig .tc := ⟨.hbm, 39, rfl⟩
abbrev main_v20 : Ref sig .tc := ⟨.hbm, 40, rfl⟩
abbrev main_call1_v0 : Ref sig .tc := ⟨.hbm, 41, rfl⟩
abbrev main_call1_v1 : Ref sig .tc := ⟨.hbm, 42, rfl⟩
abbrev main_call1_cst : Ref sig .tc := ⟨.hbm, 43, rfl⟩
abbrev main_call1_v2 : Ref sig .tc := ⟨.hbm, 44, rfl⟩
abbrev main_call1_v3 : Ref sig .tc := ⟨.hbm, 45, rfl⟩
abbrev main_call1_cst_0 : Ref sig .tc := ⟨.hbm, 46, rfl⟩
abbrev main_call1_v4 : Ref sig .tc := ⟨.hbm, 47, rfl⟩
abbrev main_v21_2 : Ref sig .tc := ⟨.hbm, 48, rfl⟩
abbrev main_call1_cst_1 : Ref sig .tc := ⟨.hbm, 49, rfl⟩
abbrev main_call1_v6 : Ref sig .tc := ⟨.hbm, 50, rfl⟩
abbrev main_call1_v7 : Ref sig .tc := ⟨.hbm, 51, rfl⟩
abbrev main_v21_1 : Ref sig .tc := ⟨.hbm, 52, rfl⟩
abbrev main_v21_0 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_v27 : Ref sig .tc := ⟨.hbm, 62, rfl⟩
abbrev main_v28 : Ref sig .tc := ⟨.hbm, 63, rfl⟩
abbrev main_cst_2 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_cst_3 : Ref sig .tc := ⟨.hbm, 68, rfl⟩
abbrev main_v32 : Ref sig .tc := ⟨.hbm, 69, rfl⟩
abbrev main_v33 : Ref sig .tc := ⟨.hbm, 70, rfl⟩
abbrev main_cst_4 : Ref sig .tc := ⟨.hbm, 71, rfl⟩
abbrev main_v34 : Ref sig .tc := ⟨.hbm, 72, rfl⟩

abbrev nD : Nat := 1
abbrev τ : Topo := Topo.v7x

variable {F : FTy → Type} [FloatOps F]
-- ==== AdamIn.lean ====
abbrev S1x1024x896 : Shape := ⟨3, ![1, 1024, 896]⟩
abbrev S1024x896 : Shape := ⟨2, ![1024, 896]⟩
abbrev S256x896 : Shape := ⟨2, ![256, 896]⟩

abbrev nBuf : Space → Nat
  | .hbm => 11
  | .vmem => 14
  | .smem => 0
  | _ => 0

abbrev bufTy : (tb : Table) → Fin (tcTables nBuf tb) → BufTy
  | .hbm, ⟨0, _⟩ => ⟨S1x1024x896, .f32⟩
  | .hbm, ⟨1, _⟩ => ⟨S1x1024x896, .f32⟩
  | .hbm, ⟨2, _⟩ => ⟨S1x1024x896, .f32⟩
  | .hbm, ⟨3, _⟩ => ⟨S1x1024x896, .f32⟩
  | .hbm, ⟨4, _⟩ => ⟨S1024x896, .f32⟩
  | .hbm, ⟨5, _⟩ => ⟨S1024x896, .f32⟩
  | .hbm, ⟨6, _⟩ => ⟨S1024x896, .f32⟩
  | .hbm, ⟨7, _⟩ => ⟨S1024x896, .f32⟩
  | .hbm, ⟨8, _⟩ => ⟨S1024x896, .f32⟩
  | .hbm, ⟨9, _⟩ => ⟨S1024x896, .f32⟩
  | .hbm, ⟨10, _⟩ => ⟨S1024x896, .f32⟩
  | .local _ .vmem, ⟨0, _⟩ => ⟨S256x896, .f32⟩
  | .local _ .vmem, ⟨1, _⟩ => ⟨S256x896, .f32⟩
  | .local _ .vmem, ⟨2, _⟩ => ⟨S256x896, .f32⟩
  | .local _ .vmem, ⟨3, _⟩ => ⟨S256x896, .f32⟩
  | .local _ .vmem, ⟨4, _⟩ => ⟨S256x896, .f32⟩
  | .local _ .vmem, ⟨5, _⟩ => ⟨S256x896, .f32⟩
  | .local _ .vmem, ⟨6, _⟩ => ⟨S256x896, .f32⟩
  | .local _ .vmem, ⟨7, _⟩ => ⟨S256x896, .f32⟩
  | .local _ .vmem, ⟨8, _⟩ => ⟨S256x896, .f32⟩
  | .local _ .vmem, ⟨9, _⟩ => ⟨S256x896, .f32⟩
  | .local _ .vmem, ⟨10, _⟩ => ⟨S256x896, .f32⟩
  | .local _ .vmem, ⟨11, _⟩ => ⟨S256x896, .f32⟩
  | .local _ .vmem, ⟨12, _⟩ => ⟨S256x896, .f32⟩
  | .local _ .vmem, ⟨13, _⟩ => ⟨S256x896, .f32⟩
  | _, _ => ⟨S1x1024x896, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x896 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x896 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x896 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x896 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x896 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x896 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInRefIdeal.lean ====
abbrev S1x1024x896 : Shape := ⟨3, ![1, 1024, 896]⟩
abbrev S_ : Shape := ⟨0, ![]⟩
abbrev S1024x896 : Shape := ⟨2, ![1024, 896]⟩

abbrev nBuf : Space → Nat
  | .hbm => 40
  | .vmem => 0
  | .smem => 0
  | _ => 0

abbrev bufTy : (tb : Table) → Fin (tcTables nBuf tb) → BufTy
  | .hbm, ⟨0, _⟩ => ⟨S1x1024x896, .f32⟩
  | .hbm, ⟨1, _⟩ => ⟨S1x1024x896, .f32⟩
  | .hbm, ⟨2, _⟩ => ⟨S1x1024x896, .f32⟩
  | .hbm, ⟨3, _⟩ => ⟨S1x1024x896, .f32⟩
  | .hbm, ⟨4, _⟩ => ⟨S_, .f32⟩
  | .hbm, ⟨5, _⟩ => ⟨S1x1024x896, .f32⟩
  | .hbm, ⟨6, _⟩ => ⟨S1x1024x896, .f32⟩
  | .hbm, ⟨7, _⟩ => ⟨S_, .f32⟩
  | .hbm, ⟨8, _⟩ => ⟨S1x1024x896, .f32⟩
  | .hbm, ⟨9, _⟩ => ⟨S1x1024x896, .f32⟩
  | .hbm, ⟨10, _⟩ => ⟨S1x1024x896, .f32⟩
  | .hbm, ⟨11, _⟩ => ⟨S_, .f32⟩
  | .hbm, ⟨12, _⟩ => ⟨S1x1024x896, .f32⟩
  | .hbm, ⟨13, _⟩ => ⟨S1x1024x896, .f32⟩
  | .hbm, ⟨14, _⟩ => ⟨S1x1024x896, .f32⟩
  | .hbm, ⟨15, _⟩ => ⟨S_, .f32⟩
  | .hbm, ⟨16, _⟩ => ⟨S1x1024x896, .f32⟩
  | .hbm, ⟨17, _⟩ => ⟨S1x1024x896, .f32⟩
  | .hbm, ⟨18, _⟩ => ⟨S1x1024x896, .f32⟩
  | .hbm, ⟨19, _⟩ => ⟨S_, .f32⟩
  | .hbm, ⟨20, _⟩ => ⟨S1x1024x896, .f32⟩
  | .hbm, ⟨21, _⟩ => ⟨S1x1024x896, .f32⟩
  | .hbm, ⟨22, _⟩ => ⟨S_, .f32⟩
  | .hbm, ⟨23, _⟩ => ⟨S1x1024x896, .f32⟩
  | .hbm, ⟨24, _⟩ => ⟨S1x1024x896, .f32⟩
  | .hbm, ⟨25, _⟩ => ⟨S1x1024x896, .f32⟩
  | .hbm, ⟨26, _⟩ => ⟨S_, .f32⟩
  | .hbm, ⟨27, _⟩ => ⟨S1x1024x896, .f32⟩
  | .hbm, ⟨28, _⟩ => ⟨S1x1024x896, .f32⟩
  | .hbm, ⟨29, _⟩ => ⟨S1x1024x896, .f32⟩
  | .hbm, ⟨30, _⟩ => ⟨S_, .f32⟩
  | .hbm, ⟨31, _⟩ => ⟨S1x1024x896, .f32⟩
  | .hbm, ⟨32, _⟩ => ⟨S1x1024x896, .f32⟩
  | .hbm, ⟨33, _⟩ => ⟨S1x1024x896, .f32⟩
  | .hbm, ⟨34, _⟩ => ⟨S_, .f32⟩
  | .hbm, ⟨35, _⟩ => ⟨S1x1024x896, .f32⟩
  | .hbm, ⟨36, _⟩ => ⟨S1x1024x896, .f32⟩
  | .hbm, ⟨37, _⟩ => ⟨S1024x896, .f32⟩
  | .hbm, ⟨38, _⟩ => ⟨S1024x896, .f32⟩
  | .hbm, ⟨39, _⟩ => ⟨S1024x896, .f32⟩
  | _, _ => ⟨S1x1024x896, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamAda.lean ====
abbrev S1x1024x768 : Shape := ⟨3, ![1, 1024, 768]⟩
abbrev S1024x768 : Shape := ⟨2, ![1024, 768]⟩
abbrev S256x768 : Shape := ⟨2, ![256, 768]⟩

abbrev nBuf : Space → Nat
  | .hbm => 11
  | .vmem => 14
  | .smem => 0
  | _ => 0

abbrev bufTy : (tb : Table) → Fin (tcTables nBuf tb) → BufTy
  | .hbm, ⟨0, _⟩ => ⟨S1x1024x768, .f32⟩
  | .hbm, ⟨1, _⟩ => ⟨S1x1024x768, .f32⟩
  | .hbm, ⟨2, _⟩ => ⟨S1x1024x768, .f32⟩
  | .hbm, ⟨3, _⟩ => ⟨S1x1024x768, .f32⟩
  | .hbm, ⟨4, _⟩ => ⟨S1024x768, .f32⟩
  | .hbm, ⟨5, _⟩ => ⟨S1024x768, .f32⟩
  | .hbm, ⟨6, _⟩ => ⟨S1024x768, .f32⟩
  | .hbm, ⟨7, _⟩ => ⟨S1024x768, .f32⟩
  | .hbm, ⟨8, _⟩ => ⟨S1024x768, .f32⟩
  | .hbm, ⟨9, _⟩ => ⟨S1024x768, .f32⟩
  | .hbm, ⟨10, _⟩ => ⟨S1024x768, .f32⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | _, _ => ⟨S1x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamAdaRefIdeal.lean ====
abbrev S1x1024x768 : Shape := ⟨3, ![1, 1024, 768]⟩
abbrev S_ : Shape := ⟨0, ![]⟩
abbrev S1024x768 : Shape := ⟨2, ![1024, 768]⟩

abbrev nBuf : Space → Nat
  | .hbm => 40
  | .vmem => 0
  | .smem => 0
  | _ => 0

abbrev bufTy : (tb : Table) → Fin (tcTables nBuf tb) → BufTy
  | .hbm, ⟨0, _⟩ => ⟨S1x1024x768, .f32⟩
  | .hbm, ⟨1, _⟩ => ⟨S1x1024x768, .f32⟩
  | .hbm, ⟨2, _⟩ => ⟨S1x1024x768, .f32⟩
  | .hbm, ⟨3, _⟩ => ⟨S1x1024x768, .f32⟩
  | .hbm, ⟨4, _⟩ => ⟨S_, .f32⟩
  | .hbm, ⟨5, _⟩ => ⟨S1x1024x768, .f32⟩
  | .hbm, ⟨6, _⟩ => ⟨S1x1024x768, .f32⟩
  | .hbm, ⟨7, _⟩ => ⟨S_, .f32⟩
  | .hbm, ⟨8, _⟩ => ⟨S1x1024x768, .f32⟩
  | .hbm, ⟨9, _⟩ => ⟨S1x1024x768, .f32⟩
  | .hbm, ⟨10, _⟩ => ⟨S1x1024x768, .f32⟩
  | .hbm, ⟨11, _⟩ => ⟨S_, .f32⟩
  | .hbm, ⟨12, _⟩ => ⟨S1x1024x768, .f32⟩
  | .hbm, ⟨13, _⟩ => ⟨S1x1024x768, .f32⟩
  | .hbm, ⟨14, _⟩ => ⟨S1x1024x768, .f32⟩
  | .hbm, ⟨15, _⟩ => ⟨S_, .f32⟩
  | .hbm, ⟨16, _⟩ => ⟨S1x1024x768, .f32⟩
  | .hbm, ⟨17, _⟩ => ⟨S1x1024x768, .f32⟩
  | .hbm, ⟨18, _⟩ => ⟨S1x1024x768, .f32⟩
  | .hbm, ⟨19, _⟩ => ⟨S_, .f32⟩
  | .hbm, ⟨20, _⟩ => ⟨S1x1024x768, .f32⟩
  | .hbm, ⟨21, _⟩ => ⟨S1x1024x768, .f32⟩
  | .hbm, ⟨22, _⟩ => ⟨S_, .f32⟩
  | .hbm, ⟨23, _⟩ => ⟨S1x1024x768, .f32⟩
  | .hbm, ⟨24, _⟩ => ⟨S1x1024x768, .f32⟩
  | .hbm, ⟨25, _⟩ => ⟨S1x1024x768, .f32⟩
  | .hbm, ⟨26, _⟩ => ⟨S_, .f32⟩
  | .hbm, ⟨27, _⟩ => ⟨S1x1024x768, .f32⟩
  | .hbm, ⟨28, _⟩ => ⟨S1x1024x768, .f32⟩
  | .hbm, ⟨29, _⟩ => ⟨S1x1024x768, .f32⟩
  | .hbm, ⟨30, _⟩ => ⟨S_, .f32⟩
  | .hbm, ⟨31, _⟩ => ⟨S1x1024x768, .f32⟩
  | .hbm, ⟨32, _⟩ => ⟨S1x1024x768, .f32⟩
  | .hbm, ⟨33, _⟩ => ⟨S1x1024x768, .f32⟩
  | .hbm, ⟨34, _⟩ => ⟨S_, .f32⟩
  | .hbm, ⟨35, _⟩ => ⟨S1x1024x768, .f32⟩
  | .hbm, ⟨36, _⟩ => ⟨S1x1024x768, .f32⟩
  | .hbm, ⟨37, _⟩ => ⟨S1024x768, .f32⟩
  | .hbm, ⟨38, _⟩ => ⟨S1024x768, .f32⟩
  | .hbm, ⟨39, _⟩ => ⟨S1024x768, .f32⟩
  | _, _ => ⟨S1x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamOut.lean ====
abbrev S1x256x1024 : Shape := ⟨3, ![1, 256, 1024]⟩
abbrev S256x1024 : Shape := ⟨2, ![256, 1024]⟩

abbrev nBuf : Space → Nat
  | .hbm => 11
  | .vmem => 7
  | .smem => 0
  | _ => 0

abbrev bufTy : (tb : Table) → Fin (tcTables nBuf tb) → BufTy
  | .hbm, ⟨0, _⟩ => ⟨S1x256x1024, .f32⟩
  | .hbm, ⟨1, _⟩ => ⟨S1x256x1024, .f32⟩
  | .hbm, ⟨2, _⟩ => ⟨S1x256x1024, .f32⟩
  | .hbm, ⟨3, _⟩ => ⟨S1x256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .hbm, ⟨9, _⟩ => ⟨S256x1024, .f32⟩
  | .hbm, ⟨10, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamOutRefIdeal.lean ====
abbrev S1x256x1024 : Shape := ⟨3, ![1, 256, 1024]⟩
abbrev S_ : Shape := ⟨0, ![]⟩
abbrev S256x1024 : Shape := ⟨2, ![256, 1024]⟩

abbrev nBuf : Space → Nat
  | .hbm => 40
  | .vmem => 0
  | .smem => 0
  | _ => 0

abbrev bufTy : (tb : Table) → Fin (tcTables nBuf tb) → BufTy
  | .hbm, ⟨0, _⟩ => ⟨S1x256x1024, .f32⟩
  | .hbm, ⟨1, _⟩ => ⟨S1x256x1024, .f32⟩
  | .hbm, ⟨2, _⟩ => ⟨S1x256x1024, .f32⟩
  | .hbm, ⟨3, _⟩ => ⟨S1x256x1024, .f32⟩
  | .hbm, ⟨4, _⟩ => ⟨S_, .f32⟩
  | .hbm, ⟨5, _⟩ => ⟨S1x256x1024, .f32⟩
  | .hbm, ⟨6, _⟩ => ⟨S1x256x1024, .f32⟩
  | .hbm, ⟨7, _⟩ => ⟨S_, .f32⟩
  | .hbm, ⟨8, _⟩ => ⟨S1x256x1024, .f32⟩
  | .hbm, ⟨9, _⟩ => ⟨S1x256x1024, .f32⟩
  | .hbm, ⟨10, _⟩ => ⟨S1x256x1024, .f32⟩
  | .hbm, ⟨11, _⟩ => ⟨S_, .f32⟩
  | .hbm, ⟨12, _⟩ => ⟨S1x256x1024, .f32⟩
  | .hbm, ⟨13, _⟩ => ⟨S1x256x1024, .f32⟩
  | .hbm, ⟨14, _⟩ => ⟨S1x256x1024, .f32⟩
  | .hbm, ⟨15, _⟩ => ⟨S_, .f32⟩
  | .hbm, ⟨16, _⟩ => ⟨S1x256x1024, .f32⟩
  | .hbm, ⟨17, _⟩ => ⟨S1x256x1024, .f32⟩
  | .hbm, ⟨18, _⟩ => ⟨S1x256x1024, .f32⟩
  | .hbm, ⟨19, _⟩ => ⟨S_, .f32⟩
  | .hbm, ⟨20, _⟩ => ⟨S1x256x1024, .f32⟩
  | .hbm, ⟨21, _⟩ => ⟨S1x256x1024, .f32⟩
  | .hbm, ⟨22, _⟩ => ⟨S_, .f32⟩
  | .hbm, ⟨23, _⟩ => ⟨S1x256x1024, .f32⟩
  | .hbm, ⟨24, _⟩ => ⟨S1x256x1024, .f32⟩
  | .hbm, ⟨25, _⟩ => ⟨S1x256x1024, .f32⟩
  | .hbm, ⟨26, _⟩ => ⟨S_, .f32⟩
  | .hbm, ⟨27, _⟩ => ⟨S1x256x1024, .f32⟩
  | .hbm, ⟨28, _⟩ => ⟨S1x256x1024, .f32⟩
  | .hbm, ⟨29, _⟩ => ⟨S1x256x1024, .f32⟩
  | .hbm, ⟨30, _⟩ => ⟨S_, .f32⟩
  | .hbm, ⟨31, _⟩ => ⟨S1x256x1024, .f32⟩
  | .hbm, ⟨32, _⟩ => ⟨S1x256x1024, .f32⟩
  | .hbm, ⟨33, _⟩ => ⟨S1x256x1024, .f32⟩
  | .hbm, ⟨34, _⟩ => ⟨S_, .f32⟩
  | .hbm, ⟨35, _⟩ => ⟨S1x256x1024, .f32⟩
  | .hbm, ⟨36, _⟩ => ⟨S1x256x1024, .f32⟩
  | .hbm, ⟨37, _⟩ => ⟨S256x1024, .f32⟩
  | .hbm, ⟨38, _⟩ => ⟨S256x1024, .f32⟩
  | .hbm, ⟨39, _⟩ => ⟨S256x1024, .f32⟩
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamSmall.lean ====
abbrev S1024 : Shape := ⟨1, ![1024]⟩
abbrev S1x3072 : Shape := ⟨2, ![1, 3072]⟩
abbrev S1x1024 : Shape := ⟨2, ![1, 1024]⟩
abbrev S1x512 : Shape := ⟨2, ![1, 512]⟩
abbrev S1x4x128x128 : Shape := ⟨4, ![1, 4, 128, 128]⟩
abbrev S1x4x128 : Shape := ⟨3, ![1, 4, 128]⟩
abbrev S1x64 : Shape := ⟨2, ![1, 64]⟩
abbrev S1x8x15x31 : Shape := ⟨4, ![1, 8, 15, 31]⟩
abbrev S512x128 : Shape := ⟨2, ![512, 128]⟩
abbrev S4x128 : Shape := ⟨2, ![4, 128]⟩
abbrev S120x31 : Shape := ⟨2, ![120, 31]⟩

abbrev nBuf : Space → Nat
  | .hbm => 79
  | .vmem => 63
  | .smem => 0
  | _ => 0

abbrev bufTy : (tb : Table) → Fin (tcTables nBuf tb) → BufTy
  | .hbm, ⟨0, _⟩ => ⟨S1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1x3072, .f32⟩
  | .hbm, ⟨5, _⟩ => ⟨S1x3072, .f32⟩
  | .hbm, ⟨6, _⟩ => ⟨S1x3072, .f32⟩
  | .hbm, ⟨7, _⟩ => ⟨S1x3072, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1x512, .f32⟩
  | .hbm, ⟨13, _⟩ => ⟨S1x512, .f32⟩
  | .hbm, ⟨14, _⟩ => ⟨S1x512, .f32⟩
  | .hbm, ⟨15, _⟩ => ⟨S1x512, .f32⟩
  | .hbm, ⟨16, _⟩ => ⟨S1x4x128x128, .f32⟩
  | .hbm, ⟨17, _⟩ => ⟨S1x4x128x128, .f32⟩
  | .hbm, ⟨18, _⟩ => ⟨S1x4x128x128, .f32⟩
  | .hbm, ⟨19, _⟩ => ⟨S1x4x128x128, .f32⟩
  | .hbm, ⟨20, _⟩ => ⟨S1x4x128, .f32⟩
  | .hbm, ⟨21, _⟩ => ⟨S1x4x128, .f32⟩
  | .hbm, ⟨22, _⟩ => ⟨S1x4x128, .f32⟩
  | .hbm, ⟨23, _⟩ => ⟨S1x4x128, .f32⟩
  | .hbm, ⟨24, _⟩ => ⟨S1x64, .f32⟩
  | .hbm, ⟨25, _⟩ => ⟨S1x64, .f32⟩
  | .hbm, ⟨26, _⟩ => ⟨S1x64, .f32⟩
  | .hbm, ⟨27, _⟩ => ⟨S1x64, .f32⟩
  | .hbm, ⟨28, _⟩ => ⟨S1x64, .f32⟩
  | .hbm, ⟨29, _⟩ => ⟨S1x64, .f32⟩
  | .hbm, ⟨30, _⟩ => ⟨S1x64, .f32⟩
  | .hbm, ⟨31, _⟩ => ⟨S1x64, .f32⟩
  | .hbm, ⟨32, _⟩ => ⟨S1x8x15x31, .f32⟩
  | .hbm, ⟨33, _⟩ => ⟨S1x8x15x31, .f32⟩
  | .hbm, ⟨34, _⟩ => ⟨S1x8x15x31, .f32⟩
  | .hbm, ⟨35, _⟩ => ⟨S1x8x15x31, .f32⟩
  | .hbm, ⟨36, _⟩ => ⟨S1x1024, .f32⟩
  | .hbm, ⟨37, _⟩ => ⟨S1x1024, .f32⟩
  | .hbm, ⟨38, _⟩ => ⟨S1x1024, .f32⟩
  | .hbm, ⟨39, _⟩ => ⟨S1x1024, .f32⟩
  | .hbm, ⟨40, _⟩ => ⟨S512x128, .f32⟩
  | .hbm, ⟨41, _⟩ => ⟨S512x128, .f32⟩
  | .hbm, ⟨42, _⟩ => ⟨S512x128, .f32⟩
  | .hbm, ⟨43, _⟩ => ⟨S512x128, .f32⟩
  | .hbm, ⟨44, _⟩ => ⟨S4x128, .f32⟩
  | .hbm, ⟨45, _⟩ => ⟨S4x128, .f32⟩
  | .hbm, ⟨46, _⟩ => ⟨S4x128, .f32⟩
  | .hbm, ⟨47, _⟩ => ⟨S4x128, .f32⟩
  | .hbm, ⟨48, _⟩ => ⟨S120x31, .f32⟩
  | .hbm, ⟨49, _⟩ => ⟨S120x31, .f32⟩
  | .hbm, ⟨50, _⟩ => ⟨S120x31, .f32⟩
  | .hbm, ⟨51, _⟩ => ⟨S120x31, .f32⟩
  | .hbm, ⟨52, _⟩ => ⟨S1x1024, .f32⟩
  | .hbm, ⟨53, _⟩ => ⟨S1x1024, .f32⟩
  | .hbm, ⟨54, _⟩ => ⟨S1x1024, .f32⟩
  | .hbm, ⟨55, _⟩ => ⟨S1x3072, .f32⟩
  | .hbm, ⟨56, _⟩ => ⟨S1x3072, .f32⟩
  | .hbm, ⟨57, _⟩ => ⟨S1x3072, .f32⟩
  | .hbm, ⟨58, _⟩ => ⟨S1x1024, .f32⟩
  | .hbm, ⟨59, _⟩ => ⟨S1x1024, .f32⟩
  | .hbm, ⟨60, _⟩ => ⟨S1x1024, .f32⟩
  | .hbm, ⟨61, _⟩ => ⟨S1x512, .f32⟩
  | .hbm, ⟨62, _⟩ => ⟨S1x512, .f32⟩
  | .hbm, ⟨63, _⟩ => ⟨S1x512, .f32⟩
  | .hbm, ⟨64, _⟩ => ⟨S512x128, .f32⟩
  | .hbm, ⟨65, _⟩ => ⟨S512x128, .f32⟩
  | .hbm, ⟨66, _⟩ => ⟨S512x128, .f32⟩
  | .hbm, ⟨67, _⟩ => ⟨S4x128, .f32⟩
  | .hbm, ⟨68, _⟩ => ⟨S4x128, .f32⟩
  | .hbm, ⟨69, _⟩ => ⟨S4x128, .f32⟩
  | .hbm, ⟨70, _⟩ => ⟨S1x64, .f32⟩
  | .hbm, ⟨71, _⟩ => ⟨S1x64, .f32⟩
  | .hbm, ⟨72, _⟩ => ⟨S1x64, .f32⟩
  | .hbm, ⟨73, _⟩ => ⟨S1x64, .f32⟩
  | .hbm, ⟨74, _⟩ => ⟨S1x64, .f32⟩
  | .hbm, ⟨75, _⟩ => ⟨S1x64, .f32⟩
  | .hbm, ⟨76, _⟩ => ⟨S120x31, .f32⟩
  | .hbm, ⟨77, _⟩ => ⟨S120x31, .f32⟩
  | .hbm, ⟨78, _⟩ => ⟨S120x31, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x3072, .f32⟩
  | .local _ .vmem, ⟨5, _⟩ => ⟨S1x3072, .f32⟩
  | .local _ .vmem, ⟨6, _⟩ => ⟨S1x3072, .f32⟩
  | .local _ .vmem, ⟨7, _⟩ => ⟨S1x3072, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S512x128, .f32⟩
  | .local _ .vmem, ⟨17, _⟩ => ⟨S512x128, .f32⟩
  | .local _ .vmem, ⟨18, _⟩ => ⟨S512x128, .f32⟩
  | .local _ .vmem, ⟨19, _⟩ => ⟨S512x128, .f32⟩
  | .local _ .vmem, ⟨20, _⟩ => ⟨S4x128, .f32⟩
  | .local _ .vmem, ⟨21, _⟩ => ⟨S4x128, .f32⟩
  | .local _ .vmem, ⟨22, _⟩ => ⟨S4x128, .f32⟩
  | .local _ .vmem, ⟨23, _⟩ => ⟨S4x128, .f32⟩
  | .local _ .vmem, ⟨24, _⟩ => ⟨S1x64, .f32⟩
  | .local _ .vmem, ⟨25, _⟩ => ⟨S1x64, .f32⟩
  | .local _ .vmem, ⟨26, _⟩ => ⟨S1x64, .f32⟩
  | .local _ .vmem, ⟨27, _⟩ => ⟨S1x64, .f32⟩
  | .local _ .vmem, ⟨28, _⟩ => ⟨S1x64, .f32⟩
  | .local _ .vmem, ⟨29, _⟩ => ⟨S1x64, .f32⟩
  | .local _ .vmem, ⟨30, _⟩ => ⟨S1x64, .f32⟩
  | .local _ .vmem, ⟨31, _⟩ => ⟨S1x64, .f32⟩
  | .local _ .vmem, ⟨32, _⟩ => ⟨S120x31, .f32⟩
  | .local _ .vmem, ⟨33, _⟩ => ⟨S120x31, .f32⟩
  | .local _ .vmem, ⟨34, _⟩ => ⟨S120x31, .f32⟩
  | .local _ .vmem, ⟨35, _⟩ => ⟨S120x31, .f32⟩
  | .local _ .vmem, ⟨36, _⟩ => ⟨S1x1024, .f32⟩
  | .local _ .vmem, ⟨37, _⟩ => ⟨S1x1024, .f32⟩
  | .local _ .vmem, ⟨38, _⟩ => ⟨S1x1024, .f32⟩
  | .local _ .vmem, ⟨39, _⟩ => ⟨S1x3072, .f32⟩
  | .local _ .vmem, ⟨40, _⟩ => ⟨S1x3072, .f32⟩
  | .local _ .vmem, ⟨41, _⟩ => ⟨S1x3072, .f32⟩
  | .local _ .vmem, ⟨42, _⟩ => ⟨S1x1024, .f32⟩
  | .local _ .vmem, ⟨43, _⟩ => ⟨S1x1024, .f32⟩
  | .local _ .vmem, ⟨44, _⟩ => ⟨S1x1024, .f32⟩
  | .local _ .vmem, ⟨45, _⟩ => ⟨S1x512, .f32⟩
  | .local _ .vmem, ⟨46, _⟩ => ⟨S1x512, .f32⟩
  | .local _ .vmem, ⟨47, _⟩ => ⟨S1x512, .f32⟩
  | .local _ .vmem, ⟨48, _⟩ => ⟨S512x128, .f32⟩
  | .local _ .vmem, ⟨49, _⟩ => ⟨S512x128, .f32⟩
  | .local _ .vmem, ⟨50, _⟩ => ⟨S512x128, .f32⟩
  | .local _ .vmem, ⟨51, _⟩ => ⟨S4x128, .f32⟩
  | .local _ .vmem, ⟨52, _⟩ => ⟨S4x128, .f32⟩
  | .local _ .vmem, ⟨53, _⟩ => ⟨S4x128, .f32⟩
  | .local _ .vmem, ⟨54, _⟩ => ⟨S1x64, .f32⟩
  | .local _ .vmem, ⟨55, _⟩ => ⟨S1x64, .f32⟩
  | .local _ .vmem, ⟨56, _⟩ => ⟨S1x64, .f32⟩
  | .local _ .vmem, ⟨57, _⟩ => ⟨S1x64, .f32⟩
  | .local _ .vmem, ⟨58, _⟩ => ⟨S1x64, .f32⟩
  | .local _ .vmem, ⟨59, _⟩ => ⟨S1x64, .f32⟩
  | .local _ .vmem, ⟨60, _⟩ => ⟨S120x31, .f32⟩
  | .local _ .vmem, ⟨61, _⟩ => ⟨S120x31, .f32⟩
  | .local _ .vmem, ⟨62, _⟩ => ⟨S120x31, .f32⟩
  | _, _ => ⟨S1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | _, _ => false

abbrev semScoped : Fin 0 → Bool
  | ⟨_, h⟩ => absurd h (Nat.not_lt_zero _)

abbrev dmaSemScoped : Fin 63 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | _ => false

abbrev sig : RefSig :=
  ofTc nBuf bufTy 0 63 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_v0 : Ref sig .tc := ⟨.hbm, 36, rfl⟩
abbrev main_v1 : Ref sig .tc := ⟨.hbm, 37, rfl⟩
abbrev main_v2 : Ref sig .tc := ⟨.hbm, 38, rfl⟩
abbrev main_v3 : Ref sig .tc := ⟨.hbm, 39, rfl⟩
abbrev main_v4 : Ref sig .tc := ⟨.hbm, 40, rfl⟩
abbrev main_v5 : Ref sig .tc := ⟨.hbm, 41, rfl⟩
abbrev main_v6 : Ref sig .tc := ⟨.hbm, 42, rfl⟩
abbrev main_v7 : Ref sig .tc := ⟨.hbm, 43, rfl⟩
abbrev main_v8 : Ref sig .tc := ⟨.hbm, 44, rfl⟩
abbrev main_v9 : Ref sig .tc := ⟨.hbm, 45, rfl⟩
abbrev main_v10 : Ref sig .tc := ⟨.hbm, 46, rfl⟩
abbrev main_v11 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_v16_0 : Ref sig .tc := ⟨.hbm, 52, rfl⟩
abbrev main_v16_1 : Ref sig .tc := ⟨.hbm, 53, rfl⟩
abbrev main_v16_2 : Ref sig .tc := ⟨.hbm, 54, rfl⟩
abbrev main_v16_3 : Ref sig .tc := ⟨.hbm, 55, rfl⟩
abbrev main_v16_4 : Ref sig .tc := ⟨.hbm, 56, rfl⟩
abbrev main_v16_5 : Ref sig .tc := ⟨.hbm, 57, rfl⟩
abbrev main_v16_6 : Ref sig .tc := ⟨.hbm, 58, rfl⟩
abbrev main_v16_7 : Ref sig .tc := ⟨.hbm, 59, rfl⟩
abbrev main_v16_8 : Ref sig .tc := ⟨.hbm, 60, rfl⟩
abbrev main_v16_9 : Ref sig .tc := ⟨.hbm, 61, rfl⟩
abbrev main_v16_10 : Ref sig .tc := ⟨.hbm, 62, rfl⟩
abbrev main_v16_11 : Ref sig .tc := ⟨.hbm, 63, rfl⟩
abbrev main_v16_12 : Ref sig .tc := ⟨.hbm, 64, rfl⟩
abbrev main_v16_13 : Ref sig .tc := ⟨.hbm, 65, rfl⟩
abbrev main_v16_14 : Ref sig .tc := ⟨.hbm, 66, rfl⟩
abbrev main_v16_15 : Ref sig .tc := ⟨.hbm, 67, rfl⟩
abbrev main_v16_16 : Ref sig .tc := ⟨.hbm, 68, rfl⟩
abbrev main_v16_17 : Ref sig .tc := ⟨.hbm, 69, rfl⟩
abbrev main_v16_18 : Ref sig .tc := ⟨.hbm, 70, rfl⟩
abbrev main_v16_19 : Ref sig .tc := ⟨.hbm, 71, rfl⟩
abbrev main_v16_20 : Ref sig .tc := ⟨.hbm, 72, rfl⟩
abbrev main_v16_21 : Ref sig .tc := ⟨.hbm, 73, rfl⟩
abbrev main_v16_22 : Ref sig .tc := ⟨.hbm, 74, rfl⟩
abbrev main_v16_23 : Ref sig .tc := ⟨.hbm, 75, rfl⟩
abbrev main_v16_24 : Ref sig .tc := ⟨.hbm, 76, rfl⟩
abbrev main_v16_25 : Ref sig .tc := ⟨.hbm, 77, rfl⟩
abbrev main_v16_26 : Ref sig .tc := ⟨.hbm, 78, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_stg28_0 : Ref sig .tc := ⟨.vmem, 28, rfl⟩
abbrev cc0_stg29_0 : Ref sig .tc := ⟨.vmem, 29, rfl⟩
abbrev cc0_stg30_0 : Ref sig .tc := ⟨.vmem, 30, rfl⟩
abbrev cc0_stg31_0 : Ref sig .tc := ⟨.vmem, 31, rfl⟩
abbrev cc0_stg32_0 : Ref sig .tc := ⟨.vmem, 32, rfl⟩
abbrev cc0_stg33_0 : Ref sig .tc := ⟨.vmem, 33, rfl⟩
abbrev cc0_stg34_0 : Ref sig .tc := ⟨.vmem, 34, rfl⟩
abbrev cc0_stg35_0 : Ref sig .tc := ⟨.vmem, 35, rfl⟩
abbrev cc0_stg36_0 : Ref sig .tc := ⟨.vmem, 36, rfl⟩
abbrev cc0_stg37_0 : Ref sig .tc := ⟨.vmem, 37, rfl⟩
abbrev cc0_stg38_0 : Ref sig .tc := ⟨.vmem, 38, rfl⟩
abbrev cc0_stg39_0 : Ref sig .tc := ⟨.vmem, 39, rfl⟩
abbrev cc0_stg40_0 : Ref sig .tc := ⟨.vmem, 40, rfl⟩
abbrev cc0_stg41_0 : Ref sig .tc := ⟨.vmem, 41, rfl⟩
abbrev cc0_stg42_0 : Ref sig .tc := ⟨.vmem, 42, rfl⟩
abbrev cc0_stg43_0 : Ref sig .tc := ⟨.vmem, 43, rfl⟩
abbrev cc0_stg44_0 : Ref sig .tc := ⟨.vmem, 44, rfl⟩
abbrev cc0_stg45_0 : Ref sig .tc := ⟨.vmem, 45, rfl⟩
abbrev cc0_stg46_0 : Ref sig .tc := ⟨.vmem, 46, rfl⟩
abbrev cc0_stg47_0 : Ref sig .tc := ⟨.vmem, 47, rfl⟩
abbrev cc0_stg48_0 : Ref sig .tc := ⟨.vmem, 48, rfl⟩
abbrev cc0_stg49_0 : Ref sig .tc := ⟨.vmem, 49, rfl⟩
abbrev cc0_stg50_0 : Ref sig .tc := ⟨.vmem, 50, rfl⟩
abbrev cc0_stg51_0 : Ref sig .tc := ⟨.vmem, 51, rfl⟩
abbrev cc0_stg52_0 : Ref sig .tc := ⟨.vmem, 52, rfl⟩
abbrev cc0_stg53_0 : Ref sig .tc := ⟨.vmem, 53, rfl⟩
abbrev cc0_stg54_0 : Ref sig .tc := ⟨.vmem, 54, rfl⟩
abbrev cc0_stg55_0 : Ref sig .tc := ⟨.vmem, 55, rfl⟩
abbrev cc0_stg56_0 : Ref sig .tc := ⟨.vmem, 56, rfl⟩
abbrev cc0_stg57_0 : Ref sig .tc := ⟨.vmem, 57, rfl⟩
abbrev cc0_stg58_0 : Ref sig .tc := ⟨.vmem, 58, rfl⟩
abbrev cc0_stg59_0 : Ref sig .tc := ⟨.vmem, 59, rfl⟩
abbrev cc0_stg60_0 : Ref sig .tc := ⟨.vmem, 60, rfl⟩
abbrev cc0_stg61_0 : Ref sig .tc := ⟨.vmem, 61, rfl⟩
abbrev cc0_stg62_0 : Ref sig .tc := ⟨.vmem, 62, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27
abbrev cc0_sem28_0 : DmaSem sig := 28
abbrev cc0_sem29_0 : DmaSem sig := 29
abbrev cc0_sem30_0 : DmaSem sig := 30
abbrev cc0_sem31_0 : DmaSem sig := 31
abbrev cc0_sem32_0 : DmaSem sig := 32
abbrev cc0_sem33_0 : DmaSem sig := 33
abbrev cc0_sem34_0 : DmaSem sig := 34
abbrev cc0_sem35_0 : DmaSem sig := 35
abbrev cc0_sem36_0 : DmaSem sig := 36
abbrev cc0_sem37_0 : DmaSem sig := 37
abbrev cc0_sem38_0 : DmaSem sig := 38
abbrev cc0_sem39_0 : DmaSem sig := 39
abbrev cc0_sem40_0 : DmaSem sig := 40
abbrev cc0_sem41_0 : DmaSem sig := 41
abbrev cc0_sem42_0 : DmaSem sig := 42
abbrev cc0_sem43_0 : DmaSem sig := 43
abbrev cc0_sem44_0 : DmaSem sig := 44
abbrev cc0_sem45_0 : DmaSem sig := 45
abbrev cc0_sem46_0 : DmaSem sig := 46
abbrev cc0_sem47_0 : DmaSem sig := 47
abbrev cc0_sem48_0 : DmaSem sig := 48
abbrev cc0_sem49_0 : DmaSem sig := 49
abbrev cc0_sem50_0 : DmaSem sig := 50
abbrev cc0_sem51_0 : DmaSem sig := 51
abbrev cc0_sem52_0 : DmaSem sig := 52
abbrev cc0_sem53_0 : DmaSem sig := 53
abbrev cc0_sem54_0 : DmaSem sig := 54
abbrev cc0_sem55_0 : DmaSem sig := 55
abbrev cc0_sem56_0 : DmaSem sig := 56
abbrev cc0_sem57_0 : DmaSem sig := 57
abbrev cc0_sem58_0 : DmaSem sig := 58
abbrev cc0_sem59_0 : DmaSem sig := 59
abbrev cc0_sem60_0 : DmaSem sig := 60
abbrev cc0_sem61_0 : DmaSem sig := 61
abbrev cc0_sem62_0 : DmaSem sig := 62

abbrev nD : Nat := 1
abbrev τ : Topo := Topo.v7x

variable {F : FTy → Type} [FloatOps F]

abbrev grid0 : Pipeline.Grid := .none

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x3072 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S512x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S512x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S512x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S512x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S4x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S4x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S4x128 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S4x128 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S1x64 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S1x64 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S1x64 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S1x64 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))

abbrev stage0_28 : Fin 1 → Memref sig .tc .vmem S1x64 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))

abbrev stage0_29 : Fin 1 → Memref sig .tc .vmem S1x64 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))

abbrev stage0_30 : Fin 1 → Memref sig .tc .vmem S1x64 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))

abbrev stage0_31 : Fin 1 → Memref sig .tc .vmem S1x64 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))

abbrev stage0_32 : Fin 1 → Memref sig .tc .vmem S120x31 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))

abbrev stage0_33 : Fin 1 → Memref sig .tc .vmem S120x31 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))

abbrev stage0_34 : Fin 1 → Memref sig .tc .vmem S120x31 .f32 := fun | 0 => Memref.whole cc0_stg34_0 | ⟨_ + 1, h⟩ => absurd h (Nat.not_lt.2 (Nat.le_add_left _ _))
abbrev sem0_34 : Fin 1 → DmaSem sig := fun | 0 => cc0_sem34_0 | ⟨_ + 1, h⟩ => absurd h (Nat.not_lt.2 (Nat.le_add_left _ _))

abbrev stage0_35 : Fin 1 → Memref sig .tc .vmem S120x31 .f32 := fun | 0 => Memref.whole cc0_stg35_0 | ⟨_ + 1, h⟩ => absurd h (Nat.not_lt.2 (Nat.le_add_left _ _))
abbrev sem0_35 : Fin 1 → DmaSem sig := fun | 0 => cc0_sem35_0 | ⟨_ + 1, h⟩ => absurd h (Nat.not_lt.2 (Nat.le_add_left _ _))

abbrev stage0_36 : Fin 1 → Memref sig .tc .vmem S1x1024 .f32 := fun | 0 => Memref.whole cc0_stg36_0 | ⟨_ + 1, h⟩ => absurd h (Nat.not_lt.2 (Nat.le_add_left _ _))
abbrev sem0_36 : Fin 1 → DmaSem sig := fun | 0 => cc0_sem36_0 | ⟨_ + 1, h⟩ => absurd h (Nat.not_lt.2 (Nat.le_add_left _ _))

abbrev stage0_37 : Fin 1 → Memref sig .tc .vmem S1x1024 .f32 := fun | 0 => Memref.whole cc0_stg37_0 | ⟨_ + 1, h⟩ => absurd h (Nat.not_lt.2 (Nat.le_add_left _ _))
abbrev sem0_37 : Fin 1 → DmaSem sig := fun | 0 => cc0_sem37_0 | ⟨_ + 1, h⟩ => absurd h (Nat.not_lt.2 (Nat.le_add_left _ _))

abbrev stage0_38 : Fin 1 → Memref sig .tc .vmem S1x1024 .f32 := fun | 0 => Memref.whole cc0_stg38_0 | ⟨_ + 1, h⟩ => absurd h (Nat.not_lt.2 (Nat.le_add_left _ _))
abbrev sem0_38 : Fin 1 → DmaSem sig := fun | 0 => cc0_sem38_0 | ⟨_ + 1, h⟩ => absurd h (Nat.not_lt.2 (Nat.le_add_left _ _))

abbrev stage0_39 : Fin 1 → Memref sig .tc .vmem S1x3072 .f32 := fun | 0 => Memref.whole cc0_stg39_0 | ⟨_ + 1, h⟩ => absurd h (Nat.not_lt.2 (Nat.le_add_left _ _))
abbrev sem0_39 : Fin 1 → DmaSem sig := fun | 0 => cc0_sem39_0 | ⟨_ + 1, h⟩ => absurd h (Nat.not_lt.2 (Nat.le_add_left _ _))

abbrev stage0_40 : Fin 1 → Memref sig .tc .vmem S1x3072 .f32 := fun | 0 => Memref.whole cc0_stg40_0 | ⟨_ + 1, h⟩ => absurd h (Nat.not_lt.2 (Nat.le_add_left _ _))
abbrev sem0_40 : Fin 1 → DmaSem sig := fun | 0 => cc0_sem40_0 | ⟨_ + 1, h⟩ => absurd h (Nat.not_lt.2 (Nat.le_add_left _ _))

abbrev stage0_41 : Fin 1 → Memref sig .tc .vmem S1x3072 .f32 := fun | 0 => Memref.whole cc0_stg41_0 | ⟨_ + 1, h⟩ => absurd h (Nat.not_lt.2 (Nat.le_add_left _ _))
abbrev sem0_41 : Fin 1 → DmaSem sig := fun | 0 => cc0_sem41_0 | ⟨_ + 1, h⟩ => absurd h (Nat.not_lt.2 (Nat.le_add_left _ _))

abbrev stage0_42 : Fin 1 → Memref sig .tc .vmem S1x1024 .f32 := fun | 0 => Memref.whole cc0_stg42_0 | ⟨_ + 1, h⟩ => absurd h (Nat.not_lt.2 (Nat.le_add_left _ _))
abbrev sem0_42 : Fin 1 → DmaSem sig := fun | 0 => cc0_sem42_0 | ⟨_ + 1, h⟩ => absurd h (Nat.not_lt.2 (Nat.le_add_left _ _))

abbrev stage0_43 : Fin 1 → Memref sig .tc .vmem S1x1024 .f32 := fun | 0 => Memref.whole cc0_stg43_0 | ⟨_ + 1, h⟩ => absurd h (Nat.not_lt.2 (Nat.le_add_left _ _))
abbrev sem0_43 : Fin 1 → DmaSem sig := fun | 0 => cc0_sem43_0 | ⟨_ + 1, h⟩ => absurd h (Nat.not_lt.2 (Nat.le_add_left _ _))

abbrev stage0_44 : Fin 1 → Memref sig .tc .vmem S1x1024 .f32 := fun | 0 => Memref.whole cc0_stg44_0 | ⟨_ + 1, h⟩ => absurd h (Nat.not_lt.2 (Nat.le_add_left _ _))
abbrev sem0_44 : Fin 1 → DmaSem sig := fun | 0 => cc0_sem44_0 | ⟨_ + 1, h⟩ => absurd h (Nat.not_lt.2 (Nat.le_add_left _ _))

abbrev stage0_45 : Fin 1 → Memref sig .tc .vmem S1x512 .f32 := fun | 0 => Memref.whole cc0_stg45_0 | ⟨_ + 1, h⟩ => absurd h (Nat.not_lt.2 (Nat.le_add_left _ _))
abbrev sem0_45 : Fin 1 → DmaSem sig := fun | 0 => cc0_sem45_0 | ⟨_ + 1, h⟩ => absurd h (Nat.not_lt.2 (Nat.le_add_left _ _))

abbrev stage0_46 : Fin 1 → Memref sig .tc .vmem S1x512 .f32 := fun | 0 => Memref.whole cc0_stg46_0 | ⟨_ + 1, h⟩ => absurd h (Nat.not_lt.2 (Nat.le_add_left _ _))
abbrev sem0_46 : Fin 1 → DmaSem sig := fun | 0 => cc0_sem46_0 | ⟨_ + 1, h⟩ => absurd h (Nat.not_lt.2 (Nat.le_add_left _ _))

abbrev stage0_47 : Fin 1 → Memref sig .tc .vmem S1x512 .f32 := fun | 0 => Memref.whole cc0_stg47_0 | ⟨_ + 1, h⟩ => absurd h (Nat.not_lt.2 (Nat.le_add_left _ _))
abbrev sem0_47 : Fin 1 → DmaSem sig := fun | 0 => cc0_sem47_0 | ⟨_ + 1, h⟩ => absurd h (Nat.not_lt.2 (Nat.le_add_left _ _))

abbrev stage0_48 : Fin 1 → Memref sig .tc .vmem S512x128 .f32 := fun | 0 => Memref.whole cc0_stg48_0 | ⟨_ + 1, h⟩ => absurd h (Nat.not_lt.2 (Nat.le_add_left _ _))
abbrev sem0_48 : Fin 1 → DmaSem sig := fun | 0 => cc0_sem48_0 | ⟨_ + 1, h⟩ => absurd h (Nat.not_lt.2 (Nat.le_add_left _ _))

abbrev stage0_49 : Fin 1 → Memref sig .tc .vmem S512x128 .f32 := fun | 0 => Memref.whole cc0_stg49_0 | ⟨_ + 1, h⟩ => absurd h (Nat.not_lt.2 (Nat.le_add_left _ _))
abbrev sem0_49 : Fin 1 → DmaSem sig := fun | 0 => cc0_sem49_0 | ⟨_ + 1, h⟩ => absurd h (Nat.not_lt.2 (Nat.le_add_left _ _))

abbrev stage0_50 : Fin 1 → Memref sig .tc .vmem S512x128 .f32 := fun | 0 => Memref.whole cc0_stg50_0 | ⟨_ + 1, h⟩ => absurd h (Nat.not_lt.2 (Nat.le_add_left _ _))
abbrev sem0_50 : Fin 1 → DmaSem sig := fun | 0 => cc0_sem50_0 | ⟨_ + 1, h⟩ => absurd h (Nat.not_lt.2 (Nat.le_add_left _ _))

abbrev stage0_51 : Fin 1 → Memref sig .tc .vmem S4x128 .f32 := fun | 0 => Memref.whole cc0_stg51_0 | ⟨_ + 1, h⟩ => absurd h (Nat.not_lt.2 (Nat.le_add_left _ _))
abbrev sem0_51 : Fin 1 → DmaSem sig := fun | 0 => cc0_sem51_0 | ⟨_ + 1, h⟩ => absurd h (Nat.not_lt.2 (Nat.le_add_left _ _))

abbrev stage0_52 : Fin 1 → Memref sig .tc .vmem S4x128 .f32 := fun | 0 => Memref.whole cc0_stg52_0 | ⟨_ + 1, h⟩ => absurd h (Nat.not_lt.2 (Nat.le_add_left _ _))
abbrev sem0_52 : Fin 1 → DmaSem sig := fun | 0 => cc0_sem52_0 | ⟨_ + 1, h⟩ => absurd h (Nat.not_lt.2 (Nat.le_add_left _ _))

abbrev stage0_53 : Fin 1 → Memref sig .tc .vmem S4x128 .f32 := fun | 0 => Memref.whole cc0_stg53_0 | ⟨_ + 1, h⟩ => absurd h (Nat.not_lt.2 (Nat.le_add_left _ _))
abbrev sem0_53 : Fin 1 → DmaSem sig := fun | 0 => cc0_sem53_0 | ⟨_ + 1, h⟩ => absurd h (Nat.not_lt.2 (Nat.le_add_left _ _))

abbrev stage0_54 : Fin 1 → Memref sig .tc .vmem S1x64 .f32 := fun | 0 => Memref.whole cc0_stg54_0 | ⟨_ + 1, h⟩ => absurd h (Nat.not_lt.2 (Nat.le_add_left _ _))
abbrev sem0_54 : Fin 1 → DmaSem sig := fun | 0 => cc0_sem54_0 | ⟨_ + 1, h⟩ => absurd h (Nat.not_lt.2 (Nat.le_add_left _ _))

abbrev stage0_55 : Fin 1 → Memref sig .tc .vmem S1x64 .f32 := fun | 0 => Memref.whole cc0_stg55_0 | ⟨_ + 1, h⟩ => absurd h (Nat.not_lt.2 (Nat.le_add_left _ _))
abbrev sem0_55 : Fin 1 → DmaSem sig := fun | 0 => cc0_sem55_0 | ⟨_ + 1, h⟩ => absurd h (Nat.not_lt.2 (Nat.le_add_left _ _))

abbrev stage0_56 : Fin 1 → Memref sig .tc .vmem S1x64 .f32 := fun | 0 => Memref.whole cc0_stg56_0 | ⟨_ + 1, h⟩ => absurd h (Nat.not_lt.2 (Nat.le_add_left _ _))
abbrev sem0_56 : Fin 1 → DmaSem sig := fun | 0 => cc0_sem56_0 | ⟨_ + 1, h⟩ => absurd h (Nat.not_lt.2 (Nat.le_add_left _ _))

abbrev stage0_57 : Fin 1 → Memref sig .tc .vmem S1x64 .f32 := fun | 0 => Memref.whole cc0_stg57_0 | ⟨_ + 1, h⟩ => absurd h (Nat.not_lt.2 (Nat.le_add_left _ _))
abbrev sem0_57 : Fin 1 → DmaSem sig := fun | 0 => cc0_sem57_0 | ⟨_ + 1, h⟩ => absurd h (Nat.not_lt.2 (Nat.le_add_left _ _))

abbrev stage0_58 : Fin 1 → Memref sig .tc .vmem S1x64 .f32 := fun | 0 => Memref.whole cc0_stg58_0 | ⟨_ + 1, h⟩ => absurd h (Nat.not_lt.2 (Nat.le_add_left _ _))
abbrev sem0_58 : Fin 1 → DmaSem sig := fun | 0 => cc0_sem58_0 | ⟨_ + 1, h⟩ => absurd h (Nat.not_lt.2 (Nat.le_add_left _ _))

abbrev stage0_59 : Fin 1 → Memref sig .tc .vmem S1x64 .f32 := fun | 0 => Memref.whole cc0_stg59_0 | ⟨_ + 1, h⟩ => absurd h (Nat.not_lt.2 (Nat.le_add_left _ _))
abbrev sem0_59 : Fin 1 → DmaSem sig := fun | 0 => cc0_sem59_0 | ⟨_ + 1, h⟩ => absurd h (Nat.not_lt.2 (Nat.le_add_left _ _))

abbrev stage0_60 : Fin 1 → Memref sig .tc .vmem S120x31 .f32 := fun | 0 => Memref.whole cc0_stg60_0 | ⟨_ + 1, h⟩ => absurd h (Nat.not_lt.2 (Nat.le_add_left _ _))
abbrev sem0_60 : Fin 1 → DmaSem sig := fun | 0 => cc0_sem60_0 | ⟨_ + 1, h⟩ => absurd h (Nat.not_lt.2 (Nat.le_add_left _ _))

abbrev stage0_61 : Fin 1 → Memref sig .tc .vmem S120x31 .f32 := fun | 0 => Memref.whole cc0_stg61_0 | ⟨_ + 1, h⟩ => absurd h (Nat.not_lt.2 (Nat.le_add_left _ _))
abbrev sem0_61 : Fin 1 → DmaSem sig := fun | 0 => cc0_sem61_0 | ⟨_ + 1, h⟩ => absurd h (Nat.not_lt.2 (Nat.le_add_left _ _))

abbrev stage0_62 : Fin 1 → Memref sig .tc .vmem S120x31 .f32 := fun | 0 => Memref.whole cc0_stg62_0 | ⟨_ + 1, h⟩ => absurd h (Nat.not_lt.2 (Nat.le_add_left _ _))
abbrev sem0_62 : Fin 1 → DmaSem sig := fun | 0 => cc0_sem62_0 | ⟨_ + 1, h⟩ => absurd h (Nat.not_lt.2 (Nat.le_add_left _ _))
-- ==== AdamSmallRefIdeal.lean ====
abbrev S1024 : Shape := ⟨1, ![1024]⟩
abbrev S1x3072 : Shape := ⟨2, ![1, 3072]⟩
abbrev S1x1024 : Shape := ⟨2, ![1, 1024]⟩
abbrev S1x512 : Shape := ⟨2, ![1, 512]⟩
abbrev S1x4x128x128 : Shape := ⟨4, ![1, 4, 128, 128]⟩
abbrev S1x4x128 : Shape := ⟨3, ![1, 4, 128]⟩
abbrev S1x64 : Shape := ⟨2, ![1, 64]⟩
abbrev S1x8x15x31 : Shape := ⟨4, ![1, 8, 15, 31]⟩
abbrev S_ : Shape := ⟨0, ![]⟩
abbrev S512x128 : Shape := ⟨2, ![512, 128]⟩
abbrev S4x128 : Shape := ⟨2, ![4, 128]⟩
abbrev S120x31 : Shape := ⟨2, ![120, 31]⟩

abbrev nBuf : Space → Nat
  | .hbm => 345
  | .vmem => 0
  | .smem => 0
  | _ => 0

abbrev hbmTy0_0 (i : Nat) : BufTy := match i % 128 with
  | 0 => ⟨S1024, .f32⟩
  | 1 => ⟨S1024, .f32⟩
  | 2 => ⟨S1024, .f32⟩
  | 3 => ⟨S1024, .f32⟩
  | 4 => ⟨S1x3072, .f32⟩
  | 5 => ⟨S1x3072, .f32⟩
  | 6 => ⟨S1x3072, .f32⟩
  | 7 => ⟨S1x3072, .f32⟩
  | 8 => ⟨S1x1024, .f32⟩
  | 9 => ⟨S1x1024, .f32⟩
  | 10 => ⟨S1x1024, .f32⟩
  | 11 => ⟨S1x1024, .f32⟩
  | 12 => ⟨S1x512, .f32⟩
  | 13 => ⟨S1x512, .f32⟩
  | 14 => ⟨S1x512, .f32⟩
  | 15 => ⟨S1x512, .f32⟩
  | 16 => ⟨S1x4x128x128, .f32⟩
  | 17 => ⟨S1x4x128x128, .f32⟩
  | 18 => ⟨S1x4x128x128, .f32⟩
  | 19 => ⟨S1x4x128x128, .f32⟩
  | 20 => ⟨S1x4x128, .f32⟩
  | 21 => ⟨S1x4x128, .f32⟩
  | 22 => ⟨S1x4x128, .f32⟩
  | 23 => ⟨S1x4x128, .f32⟩
  | 24 => ⟨S1x64, .f32⟩
  | 25 => ⟨S1x64, .f32⟩
  | 26 => ⟨S1x64, .f32⟩
  | 27 => ⟨S1x64, .f32⟩
  | 28 => ⟨S1x64, .f32⟩
  | 29 => ⟨S1x64, .f32⟩
  | 30 => ⟨S1x64, .f32⟩
  | 31 => ⟨S1x64, .f32⟩
  | 32 => ⟨S1x8x15x31, .f32⟩
  | 33 => ⟨S1x8x15x31, .f32⟩
  | 34 => ⟨S1x8x15x31, .f32⟩
  | 35 => ⟨S1x8x15x31, .f32⟩
  | 36 => ⟨S_, .f32⟩
  | 37 => ⟨S1024, .f32⟩
  | 38 => ⟨S1024, .f32⟩
  | 39 => ⟨S_, .f32⟩
  | 40 => ⟨S1024, .f32⟩
  | 41 => ⟨S1024, .f32⟩
  | 42 => ⟨S1024, .f32⟩
  | 43 => ⟨S_, .f32⟩
  | 44 => ⟨S1024, .f32⟩
  | 45 => ⟨S1024, .f32⟩
  | 46 => ⟨S1024, .f32⟩
  | 47 => ⟨S_, .f32⟩
  | 48 => ⟨S1024, .f32⟩
  | 49 => ⟨S1024, .f32⟩
  | 50 => ⟨S1024, .f32⟩
  | 51 => ⟨S_, .f32⟩
  | 52 => ⟨S1024, .f32⟩
  | 53 => ⟨S1024, .f32⟩
  | 54 => ⟨S_, .f32⟩
  | 55 => ⟨S1024, .f32⟩
  | 56 => ⟨S1024, .f32⟩
  | 57 => ⟨S1024, .f32⟩
  | 58 => ⟨S_, .f32⟩
  | 59 => ⟨S1024, .f32⟩
  | 60 => ⟨S1024, .f32⟩
  | 61 => ⟨S1024, .f32⟩
  | 62 => ⟨S_, .f32⟩
  | 63 => ⟨S1024, .f32⟩
  | 64 => ⟨S1024, .f32⟩
  | 65 => ⟨S1024, .f32⟩
  | 66 => ⟨S_, .f32⟩
  | 67 => ⟨S1024, .f32⟩
  | 68 => ⟨S1024, .f32⟩
  | 69 => ⟨S1x1024, .f32⟩
  | 70 => ⟨S1x1024, .f32⟩
  | 71 => ⟨S1x1024, .f32⟩
  | 72 => ⟨S_, .f32⟩
  | 73 => ⟨S1x3072, .f32⟩
  | 74 => ⟨S1x3072, .f32⟩
  | 75 => ⟨S_, .f32⟩
  | 76 => ⟨S1x3072, .f32⟩
  | 77 => ⟨S1x3072, .f32⟩
  | 78 => ⟨S1x3072, .f32⟩
  | 79 => ⟨S_, .f32⟩
  | 80 => ⟨S1x3072, .f32⟩
  | 81 => ⟨S1x3072, .f32⟩
  | 82 => ⟨S1x3072, .f32⟩
  | 83 => ⟨S_, .f32⟩
  | 84 => ⟨S1x3072, .f32⟩
  | 85 => ⟨S1x3072, .f32⟩
  | 86 => ⟨S1x3072, .f32⟩
  | 87 => ⟨S_, .f32⟩
  | 88 => ⟨S1x3072, .f32⟩
  | 89 => ⟨S1x3072, .f32⟩
  | 90 => ⟨S_, .f32⟩
  | 91 => ⟨S1x3072, .f32⟩
  | 92 => ⟨S1x3072, .f32⟩
  | 93 => ⟨S1x3072, .f32⟩
  | 94 => ⟨S_, .f32⟩
  | 95 => ⟨S1x3072, .f32⟩
  | 96 => ⟨S1x3072, .f32⟩
  | 97 => ⟨S1x3072, .f32⟩
  | 98 => ⟨S_, .f32⟩
  | 99 => ⟨S1x3072, .f32⟩
  | 100 => ⟨S1x3072, .f32⟩
  | 101 => ⟨S1x3072, .f32⟩
  | 102 => ⟨S_, .f32⟩
  | 103 => ⟨S1x3072, .f32⟩
  | 104 => ⟨S1x3072, .f32⟩
  | 105 => ⟨S_, .f32⟩
  | 106 => ⟨S1x1024, .f32⟩
  | 107 => ⟨S1x1024, .f32⟩
  | 108 => ⟨S_, .f32⟩
  | 109 => ⟨S1x1024, .f32⟩
  | 110 => ⟨S1x1024, .f32⟩
  | 111 => ⟨S1x1024, .f32⟩
  | 112 => ⟨S_, .f32⟩
  | 113 => ⟨S1x1024, .f32⟩
  | 114 => ⟨S1x1024, .f32⟩
  | 115 => ⟨S1x1024, .f32⟩
  | 116 => ⟨S_, .f32⟩
  | 117 => ⟨S1x1024, .f32⟩
  | 118 => ⟨S1x1024, .f32⟩
  | 119 => ⟨S1x1024, .f32⟩
  | 120 => ⟨S_, .f32⟩
  | 121 => ⟨S1x1024, .f32⟩
  | 122 => ⟨S1x1024, .f32⟩
  | 123 => ⟨S_, .f32⟩
  | 124 => ⟨S1x1024, .f32⟩
  | 125 => ⟨S1x1024, .f32⟩
  | 126 => ⟨S1x1024, .f32⟩
  | 127 => ⟨S_, .f32⟩
  | _ => ⟨S1024, .f32⟩

abbrev hbmTy0_1 (i : Nat) : BufTy := match i % 128 with
  | 0 => ⟨S1x1024, .f32⟩
  | 1 => ⟨S1x1024, .f32⟩
  | 2 => ⟨S1x1024, .f32⟩
  | 3 => ⟨S_, .f32⟩
  | 4 => ⟨S1x1024, .f32⟩
  | 5 => ⟨S1x1024, .f32⟩
  | 6 => ⟨S1x1024, .f32⟩
  | 7 => ⟨S_, .f32⟩
  | 8 => ⟨S1x1024, .f32⟩
  | 9 => ⟨S1x1024, .f32⟩
  | 10 => ⟨S_, .f32⟩
  | 11 => ⟨S1x512, .f32⟩
  | 12 => ⟨S1x512, .f32⟩
  | 13 => ⟨S_, .f32⟩
  | 14 => ⟨S1x512, .f32⟩
  | 15 => ⟨S1x512, .f32⟩
  | 16 => ⟨S1x512, .f32⟩
  | 17 => ⟨S_, .f32⟩
  | 18 => ⟨S1x512, .f32⟩
  | 19 => ⟨S1x512, .f32⟩
  | 20 => ⟨S1x512, .f32⟩
  | 21 => ⟨S_, .f32⟩
  | 22 => ⟨S1x512, .f32⟩
  | 23 => ⟨S1x512, .f32⟩
  | 24 => ⟨S1x512, .f32⟩
  | 25 => ⟨S_, .f32⟩
  | 26 => ⟨S1x512, .f32⟩
  | 27 => ⟨S1x512, .f32⟩
  | 28 => ⟨S_, .f32⟩
  | 29 => ⟨S1x512, .f32⟩
  | 30 => ⟨S1x512, .f32⟩
  | 31 => ⟨S1x512, .f32⟩
  | 32 => ⟨S_, .f32⟩
  | 33 => ⟨S1x512, .f32⟩
  | 34 => ⟨S1x512, .f32⟩
  | 35 => ⟨S1x512, .f32⟩
  | 36 => ⟨S_, .f32⟩
  | 37 => ⟨S1x512, .f32⟩
  | 38 => ⟨S1x512, .f32⟩
  | 39 => ⟨S1x512, .f32⟩
  | 40 => ⟨S_, .f32⟩
  | 41 => ⟨S1x512, .f32⟩
  | 42 => ⟨S1x512, .f32⟩
  | 43 => ⟨S_, .f32⟩
  | 44 => ⟨S1x4x128x128, .f32⟩
  | 45 => ⟨S1x4x128x128, .f32⟩
  | 46 => ⟨S_, .f32⟩
  | 47 => ⟨S1x4x128x128, .f32⟩
  | 48 => ⟨S1x4x128x128, .f32⟩
  | 49 => ⟨S1x4x128x128, .f32⟩
  | 50 => ⟨S_, .f32⟩
  | 51 => ⟨S1x4x128x128, .f32⟩
  | 52 => ⟨S1x4x128x128, .f32⟩
  | 53 => ⟨S1x4x128x128, .f32⟩
  | 54 => ⟨S_, .f32⟩
  | 55 => ⟨S1x4x128x128, .f32⟩
  | 56 => ⟨S1x4x128x128, .f32⟩
  | 57 => ⟨S1x4x128x128, .f32⟩
  | 58 => ⟨S_, .f32⟩
  | 59 => ⟨S1x4x128x128, .f32⟩
  | 60 => ⟨S1x4x128x128, .f32⟩
  | 61 => ⟨S_, .f32⟩
  | 62 => ⟨S1x4x128x128, .f32⟩
  | 63 => ⟨S1x4x128x128, .f32⟩
  | 64 => ⟨S1x4x128x128, .f32⟩
  | 65 => ⟨S_, .f32⟩
  | 66 => ⟨S1x4x128x128, .f32⟩
  | 67 => ⟨S1x4x128x128, .f32⟩
  | 68 => ⟨S1x4x128x128, .f32⟩
  | 69 => ⟨S_, .f32⟩
  | 70 => ⟨S1x4x128x128, .f32⟩
  | 71 => ⟨S1x4x128x128, .f32⟩
  | 72 => ⟨S1x4x128x128, .f32⟩
  | 73 => ⟨S_, .f32⟩
  | 74 => ⟨S1x4x128x128, .f32⟩
  | 75 => ⟨S1x4x128x128, .f32⟩
  | 76 => ⟨S512x128, .f32⟩
  | 77 => ⟨S512x128, .f32⟩
  | 78 => ⟨S512x128, .f32⟩
  | 79 => ⟨S_, .f32⟩
  | 80 => ⟨S1x4x128, .f32⟩
  | 81 => ⟨S1x4x128, .f32⟩
  | 82 => ⟨S_, .f32⟩
  | 83 => ⟨S1x4x128, .f32⟩
  | 84 => ⟨S1x4x128, .f32⟩
  | 85 => ⟨S1x4x128, .f32⟩
  | 86 => ⟨S_, .f32⟩
  | 87 => ⟨S1x4x128, .f32⟩
  | 88 => ⟨S1x4x128, .f32⟩
  | 89 => ⟨S1x4x128, .f32⟩
  | 90 => ⟨S_, .f32⟩
  | 91 => ⟨S1x4x128, .f32⟩
  | 92 => ⟨S1x4x128, .f32⟩
  | 93 => ⟨S1x4x128, .f32⟩
  | 94 => ⟨S_, .f32⟩
  | 95 => ⟨S1x4x128, .f32⟩
  | 96 => ⟨S1x4x128, .f32⟩
  | 97 => ⟨S_, .f32⟩
  | 98 => ⟨S1x4x128, .f32⟩
  | 99 => ⟨S1x4x128, .f32⟩
  | 100 => ⟨S1x4x128, .f32⟩
  | 101 => ⟨S_, .f32⟩
  | 102 => ⟨S1x4x128, .f32⟩
  | 103 => ⟨S1x4x128, .f32⟩
  | 104 => ⟨S1x4x128, .f32⟩
  | 105 => ⟨S_, .f32⟩
  | 106 => ⟨S1x4x128, .f32⟩
  | 107 => ⟨S1x4x128, .f32⟩
  | 108 => ⟨S1x4x128, .f32⟩
  | 109 => ⟨S_, .f32⟩
  | 110 => ⟨S1x4x128, .f32⟩
  | 111 => ⟨S1x4x128, .f32⟩
  | 112 => ⟨S4x128, .f32⟩
  | 113 => ⟨S4x128, .f32⟩
  | 114 => ⟨S4x128, .f32⟩
  | 115 => ⟨S_, .f32⟩
  | 116 => ⟨S1x64, .f32⟩
  | 117 => ⟨S1x64, .f32⟩
  | 118 => ⟨S_, .f32⟩
  | 119 => ⟨S1x64, .f32⟩
  | 120 => ⟨S1x64, .f32⟩
  | 121 => ⟨S1x64, .f32⟩
  | 122 => ⟨S_, .f32⟩
  | 123 => ⟨S1x64, .f32⟩
  | 124 => ⟨S1x64, .f32⟩
  | 125 => ⟨S1x64, .f32⟩
  | 126 => ⟨S_, .f32⟩
  | 127 => ⟨S1x64, .f32⟩
  | _ => ⟨S1024, .f32⟩

abbrev hbmTy0_2 (i : Nat) : BufTy := match i % 128 with
  | 0 => ⟨S1x64, .f32⟩
  | 1 => ⟨S1x64, .f32⟩
  | 2 => ⟨S_, .f32⟩
  | 3 => ⟨S1x64, .f32⟩
  | 4 => ⟨S1x64, .f32⟩
  | 5 => ⟨S_, .f32⟩
  | 6 => ⟨S1x64, .f32⟩
  | 7 => ⟨S1x64, .f32⟩
  | 8 => ⟨S1x64, .f32⟩
  | 9 => ⟨S_, .f32⟩
  | 10 => ⟨S1x64, .f32⟩
  | 11 => ⟨S1x64, .f32⟩
  | 12 => ⟨S1x64, .f32⟩
  | 13 => ⟨S_, .f32⟩
  | 14 => ⟨S1x64, .f32⟩
  | 15 => ⟨S1x64, .f32⟩
  | 16 => ⟨S1x64, .f32⟩
  | 17 => ⟨S_, .f32⟩
  | 18 => ⟨S1x64, .f32⟩
  | 19 => ⟨S1x64, .f32⟩
  | 20 => ⟨S_, .f32⟩
  | 21 => ⟨S1x64, .f32⟩
  | 22 => ⟨S1x64, .f32⟩
  | 23 => ⟨S_, .f32⟩
  | 24 => ⟨S1x64, .f32⟩
  | 25 => ⟨S1x64, .f32⟩
  | 26 => ⟨S1x64, .f32⟩
  | 27 => ⟨S_, .f32⟩
  | 28 => ⟨S1x64, .f32⟩
  | 29 => ⟨S1x64, .f32⟩
  | 30 => ⟨S1x64, .f32⟩
  | 31 => ⟨S_, .f32⟩
  | 32 => ⟨S1x64, .f32⟩
  | 33 => ⟨S1x64, .f32⟩
  | 34 => ⟨S1x64, .f32⟩
  | 35 => ⟨S_, .f32⟩
  | 36 => ⟨S1x64, .f32⟩
  | 37 => ⟨S1x64, .f32⟩
  | 38 => ⟨S_, .f32⟩
  | 39 => ⟨S1x64, .f32⟩
  | 40 => ⟨S1x64, .f32⟩
  | 41 => ⟨S1x64, .f32⟩
  | 42 => ⟨S_, .f32⟩
  | 43 => ⟨S1x64, .f32⟩
  | 44 => ⟨S1x64, .f32⟩
  | 45 => ⟨S1x64, .f32⟩
  | 46 => ⟨S_, .f32⟩
  | 47 => ⟨S1x64, .f32⟩
  | 48 => ⟨S1x64, .f32⟩
  | 49 => ⟨S1x64, .f32⟩
  | 50 => ⟨S_, .f32⟩
  | 51 => ⟨S1x64, .f32⟩
  | 52 => ⟨S1x64, .f32⟩
  | 53 => ⟨S_, .f32⟩
  | 54 => ⟨S1x8x15x31, .f32⟩
  | 55 => ⟨S1x8x15x31, .f32⟩
  | 56 => ⟨S_, .f32⟩
  | 57 => ⟨S1x8x15x31, .f32⟩
  | 58 => ⟨S1x8x15x31, .f32⟩
  | 59 => ⟨S1x8x15x31, .f32⟩
  | 60 => ⟨S_, .f32⟩
  | 61 => ⟨S1x8x15x31, .f32⟩
  | 62 => ⟨S1x8x15x31, .f32⟩
  | 63 => ⟨S1x8x15x31, .f32⟩
  | 64 => ⟨S_, .f32⟩
  | 65 => ⟨S1x8x15x31, .f32⟩
  | 66 => ⟨S1x8x15x31, .f32⟩
  | 67 => ⟨S1x8x15x31, .f32⟩
  | 68 => ⟨S_, .f32⟩
  | 69 => ⟨S1x8x15x31, .f32⟩
  | 70 => ⟨S1x8x15x31, .f32⟩
  | 71 => ⟨S_, .f32⟩
  | 72 => ⟨S1x8x15x31, .f32⟩
  | 73 => ⟨S1x8x15x31, .f32⟩
  | 74 => ⟨S1x8x15x31, .f32⟩
  | 75 => ⟨S_, .f32⟩
  | 76 => ⟨S1x8x15x31, .f32⟩
  | 77 => ⟨S1x8x15x31, .f32⟩
  | 78 => ⟨S1x8x15x31, .f32⟩
  | 79 => ⟨S_, .f32⟩
  | 80 => ⟨S1x8x15x31, .f32⟩
  | 81 => ⟨S1x8x15x31, .f32⟩
  | 82 => ⟨S1x8x15x31, .f32⟩
  | 83 => ⟨S_, .f32⟩
  | 84 => ⟨S1x8x15x31, .f32⟩
  | 85 => ⟨S1x8x15x31, .f32⟩
  | 86 => ⟨S120x31, .f32⟩
  | 87 => ⟨S120x31, .f32⟩
  | 88 => ⟨S120x31, .f32⟩
  | _ => ⟨S1024, .f32⟩

abbrev hbmTy (i : Nat) : BufTy := match i / 128 with
  | 0 => hbmTy0_0 i
  | 1 => hbmTy0_1 i
  | 2 => hbmTy0_2 i
  | _ => ⟨S1024, .f32⟩

abbrev bufTy : (tb : Table) → Fin (tcTables nBuf tb) → BufTy
  | .hbm, ⟨i, _⟩ => hbmTy i
  | _, _ => ⟨S1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_cst : Ref sig .tc := ⟨.hbm, 36, rfl⟩
abbrev main_v0 : Ref sig .tc := ⟨.hbm, 37, rfl⟩
abbrev main_v1 : Ref sig .tc := ⟨.hbm, 38, rfl⟩
abbrev main_cst_0 : Ref sig .tc := ⟨.hbm, 39, rfl⟩
abbrev main_v2 : Ref sig .tc := ⟨.hbm, 40, rfl⟩
abbrev main_v3 : Ref sig .tc := ⟨.hbm, 41, rfl⟩
abbrev main_v4 : Ref sig .tc := ⟨.hbm, 42, rfl⟩
abbrev main_cst_1 : Ref sig .tc := ⟨.hbm, 43, rfl⟩
abbrev main_v5 : Ref sig .tc := ⟨.hbm, 44, rfl⟩
abbrev main_v6 : Ref sig .tc := ⟨.hbm, 45, rfl⟩
abbrev main_v7 : Ref sig .tc := ⟨.hbm, 46, rfl⟩
abbrev main_cst_2 : Ref sig .tc := ⟨.hbm, 47, rfl⟩
abbrev main_v8 : Ref sig .tc := ⟨.hbm, 48, rfl⟩
abbrev main_v9 : Ref sig .tc := ⟨.hbm, 49, rfl⟩
abbrev main_v10 : Ref sig .tc := ⟨.hbm, 50, rfl⟩
abbrev main_cst_3 : Ref sig .tc := ⟨.hbm, 51, rfl⟩
abbrev main_v11 : Ref sig .tc := ⟨.hbm, 52, rfl⟩
abbrev main_v12 : Ref sig .tc := ⟨.hbm, 53, rfl⟩
abbrev main_cst_4 : Ref sig .tc := ⟨.hbm, 54, rfl⟩
abbrev main_v13 : Ref sig .tc := ⟨.hbm, 55, rfl⟩
abbrev main_v14 : Ref sig .tc := ⟨.hbm, 56, rfl⟩
abbrev main_v15 : Ref sig .tc := ⟨.hbm, 57, rfl⟩
abbrev main_cst_5 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_cst_6 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_cst_7 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_cst_8 : Ref sig .tc := ⟨.hbm, 72, rfl⟩
abbrev main_v27 : Ref sig .tc := ⟨.hbm, 73, rfl⟩
abbrev main_v28 : Ref sig .tc := ⟨.hbm, 74, rfl⟩
abbrev main_cst_9 : Ref sig .tc := ⟨.hbm, 75, rfl⟩
abbrev main_v29 : Ref sig .tc := ⟨.hbm, 76, rfl⟩
abbrev main_v30 : Ref sig .tc := ⟨.hbm, 77, rfl⟩
abbrev main_v31 : Ref sig .tc := ⟨.hbm, 78, rfl⟩
abbrev main_cst_10 : Ref sig .tc := ⟨.hbm, 79, rfl⟩
abbrev main_v32 : Ref sig .tc := ⟨.hbm, 80, rfl⟩
abbrev main_v33 : Ref sig .tc := ⟨.hbm, 81, rfl⟩
abbrev main_v34 : Ref sig .tc := ⟨.hbm, 82, rfl⟩
abbrev main_cst_11 : Ref sig .tc := ⟨.hbm, 83, rfl⟩
abbrev main_v35 : Ref sig .tc := ⟨.hbm, 84, rfl⟩
abbrev main_v36 : Ref sig .tc := ⟨.hbm, 85, rfl⟩
abbrev main_v37 : Ref sig .tc := ⟨.hbm, 86, rfl⟩
abbrev main_cst_12 : Ref sig .tc := ⟨.hbm, 87, rfl⟩
abbrev main_v38 : Ref sig .tc := ⟨.hbm, 88, rfl⟩
abbrev main_v39 : Ref sig .tc := ⟨.hbm, 89, rfl⟩
abbrev main_cst_13 : Ref sig .tc := ⟨.hbm, 90, rfl⟩
abbrev main_v40 : Ref sig .tc := ⟨.hbm, 91, rfl⟩
abbrev main_v41 : Ref sig .tc := ⟨.hbm, 92, rfl⟩
abbrev main_v42 : Ref sig .tc := ⟨.hbm, 93, rfl⟩
abbrev main_cst_14 : Ref sig .tc := ⟨.hbm, 94, rfl⟩
abbrev main_v43 : Ref sig .tc := ⟨.hbm, 95, rfl⟩
abbrev main_v44 : Ref sig .tc := ⟨.hbm, 96, rfl⟩
abbrev main_v45 : Ref sig .tc := ⟨.hbm, 97, rfl⟩
abbrev main_cst_15 : Ref sig .tc := ⟨.hbm, 98, rfl⟩
abbrev main_v46 : Ref sig .tc := ⟨.hbm, 99, rfl⟩
abbrev main_v47 : Ref sig .tc := ⟨.hbm, 100, rfl⟩
abbrev main_v48 : Ref sig .tc := ⟨.hbm, 101, rfl⟩
abbrev main_cst_16 : Ref sig .tc := ⟨.hbm, 102, rfl⟩
abbrev main_v49 : Ref sig .tc := ⟨.hbm, 103, rfl⟩
abbrev main_v50 : Ref sig .tc := ⟨.hbm, 104, rfl⟩
abbrev main_cst_17 : Ref sig .tc := ⟨.hbm, 105, rfl⟩
abbrev main_v51 : Ref sig .tc := ⟨.hbm, 106, rfl⟩
abbrev main_v52 : Ref sig .tc := ⟨.hbm, 107, rfl⟩
abbrev main_cst_18 : Ref sig .tc := ⟨.hbm, 108, rfl⟩
abbrev main_v53 : Ref sig .tc := ⟨.hbm, 109, rfl⟩
abbrev main_v54 : Ref sig .tc := ⟨.hbm, 110, rfl⟩
abbrev main_v55 : Ref sig .tc := ⟨.hbm, 111, rfl⟩
abbrev main_cst_19 : Ref sig .tc := ⟨.hbm, 112, rfl⟩
abbrev main_v56 : Ref sig .tc := ⟨.hbm, 113, rfl⟩
abbrev main_v57 : Ref sig .tc := ⟨.hbm, 114, rfl⟩
abbrev main_v58 : Ref sig .tc := ⟨.hbm, 115, rfl⟩
abbrev main_cst_20 : Ref sig .tc := ⟨.hbm, 116, rfl⟩
abbrev main_v59 : Ref sig .tc := ⟨.hbm, 117, rfl⟩
abbrev main_v60 : Ref sig .tc := ⟨.hbm, 118, rfl⟩
abbrev main_v61 : Ref sig .tc := ⟨.hbm, 119, rfl⟩
abbrev main_cst_21 : Ref sig .tc := ⟨.hbm, 120, rfl⟩
abbrev main_v62 : Ref sig .tc := ⟨.hbm, 121, rfl⟩
abbrev main_v63 : Ref sig .tc := ⟨.hbm, 122, rfl⟩
abbrev main_cst_22 : Ref sig .tc := ⟨.hbm, 123, rfl⟩
abbrev main_v64 : Ref sig .tc := ⟨.hbm, 124, rfl⟩
abbrev main_v65 : Ref sig .tc := ⟨.hbm, 125, rfl⟩
abbrev main_v66 : Ref sig .tc := ⟨.hbm, 126, rfl⟩
abbrev main_cst_23 : Ref sig .tc := ⟨.hbm, 127, rfl⟩
abbrev main_v67 : Ref sig .tc := ⟨.hbm, 128, rfl⟩
abbrev main_v68 : Ref sig .tc := ⟨.hbm, 129, rfl⟩
abbrev main_v69 : Ref sig .tc := ⟨.hbm, 130, rfl⟩
abbrev main_cst_24 : Ref sig .tc := ⟨.hbm, 131, rfl⟩
abbrev main_v70 : Ref sig .tc := ⟨.hbm, 132, rfl⟩
abbrev main_v71 : Ref sig .tc := ⟨.hbm, 133, rfl⟩
abbrev main_v72 : Ref sig .tc := ⟨.hbm, 134, rfl⟩
abbrev main_cst_25 : Ref sig .tc := ⟨.hbm, 135, rfl⟩
abbrev main_v73 : Ref sig .tc := ⟨.hbm, 136, rfl⟩
abbrev main_v74 : Ref sig .tc := ⟨.hbm, 137, rfl⟩
abbrev main_cst_26 : Ref sig .tc := ⟨.hbm, 138, rfl⟩
abbrev main_v75 : Ref sig .tc := ⟨.hbm, 139, rfl⟩
abbrev main_v76 : Ref sig .tc := ⟨.hbm, 140, rfl⟩
abbrev main_cst_27 : Ref sig .tc := ⟨.hbm, 141, rfl⟩
abbrev main_v77 : Ref sig .tc := ⟨.hbm, 142, rfl⟩
abbrev main_v78 : Ref sig .tc := ⟨.hbm, 143, rfl⟩
abbrev main_v79 : Ref sig .tc := ⟨.hbm, 144, rfl⟩
abbrev main_cst_28 : Ref sig .tc := ⟨.hbm, 145, rfl⟩
abbrev main_v80 : Ref sig .tc := ⟨.hbm, 146, rfl⟩
abbrev main_v81 : Ref sig .tc := ⟨.hbm, 147, rfl⟩
abbrev main_v82 : Ref sig .tc := ⟨.hbm, 148, rfl⟩
abbrev main_cst_29 : Ref sig .tc := ⟨.hbm, 149, rfl⟩
abbrev main_v83 : Ref sig .tc := ⟨.hbm, 150, rfl⟩
abbrev main_v84 : Ref sig .tc := ⟨.hbm, 151, rfl⟩
abbrev main_v85 : Ref sig .tc := ⟨.hbm, 152, rfl⟩
abbrev main_cst_30 : Ref sig .tc := ⟨.hbm, 153, rfl⟩
abbrev main_v86 : Ref sig .tc := ⟨.hbm, 154, rfl⟩
abbrev main_v87 : Ref sig .tc := ⟨.hbm, 155, rfl⟩
abbrev main_cst_31 : Ref sig .tc := ⟨.hbm, 156, rfl⟩
abbrev main_v88 : Ref sig .tc := ⟨.hbm, 157, rfl⟩
abbrev main_v89 : Ref sig .tc := ⟨.hbm, 158, rfl⟩
abbrev main_v90 : Ref sig .tc := ⟨.hbm, 159, rfl⟩
abbrev main_cst_32 : Ref sig .tc := ⟨.hbm, 160, rfl⟩
abbrev main_v91 : Ref sig .tc := ⟨.hbm, 161, rfl⟩
abbrev main_v92 : Ref sig .tc := ⟨.hbm, 162, rfl⟩
abbrev main_v93 : Ref sig .tc := ⟨.hbm, 163, rfl⟩
abbrev main_cst_33 : Ref sig .tc := ⟨.hbm, 164, rfl⟩
abbrev main_v94 : Ref sig .tc := ⟨.hbm, 165, rfl⟩
abbrev main_v95 : Ref sig .tc := ⟨.hbm, 166, rfl⟩
abbrev main_v96 : Ref sig .tc := ⟨.hbm, 167, rfl⟩
abbrev main_cst_34 : Ref sig .tc := ⟨.hbm, 168, rfl⟩
abbrev main_v97 : Ref sig .tc := ⟨.hbm, 169, rfl⟩
abbrev main_v98 : Ref sig .tc := ⟨.hbm, 170, rfl⟩
abbrev main_cst_35 : Ref sig .tc := ⟨.hbm, 171, rfl⟩
abbrev main_v99 : Ref sig .tc := ⟨.hbm, 172, rfl⟩
abbrev main_v100 : Ref sig .tc := ⟨.hbm, 173, rfl⟩
abbrev main_cst_36 : Ref sig .tc := ⟨.hbm, 174, rfl⟩
abbrev main_v101 : Ref sig .tc := ⟨.hbm, 175, rfl⟩
abbrev main_v102 : Ref sig .tc := ⟨.hbm, 176, rfl⟩
abbrev main_v103 : Ref sig .tc := ⟨.hbm, 177, rfl⟩
abbrev main_cst_37 : Ref sig .tc := ⟨.hbm, 178, rfl⟩
abbrev main_v104 : Ref sig .tc := ⟨.hbm, 179, rfl⟩
abbrev main_v105 : Ref sig .tc := ⟨.hbm, 180, rfl⟩
abbrev main_v106 : Ref sig .tc := ⟨.hbm, 181, rfl⟩
abbrev main_cst_38 : Ref sig .tc := ⟨.hbm, 182, rfl⟩
abbrev main_v107 : Ref sig .tc := ⟨.hbm, 183, rfl⟩
abbrev main_v108 : Ref sig .tc := ⟨.hbm, 184, rfl⟩
abbrev main_v109 : Ref sig .tc := ⟨.hbm, 185, rfl⟩
abbrev main_cst_39 : Ref sig .tc := ⟨.hbm, 186, rfl⟩
abbrev main_v110 : Ref sig .tc := ⟨.hbm, 187, rfl⟩
abbrev main_v111 : Ref sig .tc := ⟨.hbm, 188, rfl⟩
abbrev main_cst_40 : Ref sig .tc := ⟨.hbm, 189, rfl⟩
abbrev main_v112 : Ref sig .tc := ⟨.hbm, 190, rfl⟩
abbrev main_v113 : Ref sig .tc := ⟨.hbm, 191, rfl⟩
abbrev main_v114 : Ref sig .tc := ⟨.hbm, 192, rfl⟩
abbrev main_cst_41 : Ref sig .tc := ⟨.hbm, 193, rfl⟩
abbrev main_v115 : Ref sig .tc := ⟨.hbm, 194, rfl⟩
abbrev main_v116 : Ref sig .tc := ⟨.hbm, 195, rfl⟩
abbrev main_v117 : Ref sig .tc := ⟨.hbm, 196, rfl⟩
abbrev main_cst_42 : Ref sig .tc := ⟨.hbm, 197, rfl⟩
abbrev main_v118 : Ref sig .tc := ⟨.hbm, 198, rfl⟩
abbrev main_v119 : Ref sig .tc := ⟨.hbm, 199, rfl⟩
abbrev main_v120 : Ref sig .tc := ⟨.hbm, 200, rfl⟩
abbrev main_cst_43 : Ref sig .tc := ⟨.hbm, 201, rfl⟩
abbrev main_v121 : Ref sig .tc := ⟨.hbm, 202, rfl⟩
abbrev main_v122 : Ref sig .tc := ⟨.hbm, 203, rfl⟩
abbrev main_v123 : Ref sig .tc := ⟨.hbm, 204, rfl⟩
abbrev main_v124 : Ref sig .tc := ⟨.hbm, 205, rfl⟩
abbrev main_v125 : Ref sig .tc := ⟨.hbm, 206, rfl⟩
abbrev main_cst_44 : Ref sig .tc := ⟨.hbm, 207, rfl⟩
abbrev main_v126 : Ref sig .tc := ⟨.hbm, 208, rfl⟩
abbrev main_v127 : Ref sig .tc := ⟨.hbm, 209, rfl⟩
abbrev main_cst_45 : Ref sig .tc := ⟨.hbm, 210, rfl⟩
abbrev main_v128 : Ref sig .tc := ⟨.hbm, 211, rfl⟩
abbrev main_v129 : Ref sig .tc := ⟨.hbm, 212, rfl⟩
abbrev main_v130 : Ref sig .tc := ⟨.hbm, 213, rfl⟩
abbrev main_cst_46 : Ref sig .tc := ⟨.hbm, 214, rfl⟩
abbrev main_v131 : Ref sig .tc := ⟨.hbm, 215, rfl⟩
abbrev main_v132 : Ref sig .tc := ⟨.hbm, 216, rfl⟩
abbrev main_v133 : Ref sig .tc := ⟨.hbm, 217, rfl⟩
abbrev main_cst_47 : Ref sig .tc := ⟨.hbm, 218, rfl⟩
abbrev main_v134 : Ref sig .tc := ⟨.hbm, 219, rfl⟩
abbrev main_v135 : Ref sig .tc := ⟨.hbm, 220, rfl⟩
abbrev main_v136 : Ref sig .tc := ⟨.hbm, 221, rfl⟩
abbrev main_cst_48 : Ref sig .tc := ⟨.hbm, 222, rfl⟩
abbrev main_v137 : Ref sig .tc := ⟨.hbm, 223, rfl⟩
abbrev main_v138 : Ref sig .tc := ⟨.hbm, 224, rfl⟩
abbrev main_cst_49 : Ref sig .tc := ⟨.hbm, 225, rfl⟩
abbrev main_v139 : Ref sig .tc := ⟨.hbm, 226, rfl⟩
abbrev main_v140 : Ref sig .tc := ⟨.hbm, 227, rfl⟩
abbrev main_v141 : Ref sig .tc := ⟨.hbm, 228, rfl⟩
abbrev main_cst_50 : Ref sig .tc := ⟨.hbm, 229, rfl⟩
abbrev main_v142 : Ref sig .tc := ⟨.hbm, 230, rfl⟩
abbrev main_v143 : Ref sig .tc := ⟨.hbm, 231, rfl⟩
abbrev main_v144 : Ref sig .tc := ⟨.hbm, 232, rfl⟩
abbrev main_cst_51 : Ref sig .tc := ⟨.hbm, 233, rfl⟩
abbrev main_v145 : Ref sig .tc := ⟨.hbm, 234, rfl⟩
abbrev main_v146 : Ref sig .tc := ⟨.hbm, 235, rfl⟩
abbrev main_v147 : Ref sig .tc := ⟨.hbm, 236, rfl⟩
abbrev main_cst_52 : Ref sig .tc := ⟨.hbm, 237, rfl⟩
abbrev main_v148 : Ref sig .tc := ⟨.hbm, 238, rfl⟩
abbrev main_v149 : Ref sig .tc := ⟨.hbm, 239, rfl⟩
abbrev main_v150 : Ref sig .tc := ⟨.hbm, 240, rfl⟩
abbrev main_v151 : Ref sig .tc := ⟨.hbm, 241, rfl⟩
abbrev main_v152 : Ref sig .tc := ⟨.hbm, 242, rfl⟩
abbrev main_cst_53 : Ref sig .tc := ⟨.hbm, 243, rfl⟩
abbrev main_v153 : Ref sig .tc := ⟨.hbm, 244, rfl⟩
abbrev main_v154 : Ref sig .tc := ⟨.hbm, 245, rfl⟩
abbrev main_cst_54 : Ref sig .tc := ⟨.hbm, 246, rfl⟩
abbrev main_v155 : Ref sig .tc := ⟨.hbm, 247, rfl⟩
abbrev main_v156 : Ref sig .tc := ⟨.hbm, 248, rfl⟩
abbrev main_v157 : Ref sig .tc := ⟨.hbm, 249, rfl⟩
abbrev main_cst_55 : Ref sig .tc := ⟨.hbm, 250, rfl⟩
abbrev main_v158 : Ref sig .tc := ⟨.hbm, 251, rfl⟩
abbrev main_v159 : Ref sig .tc := ⟨.hbm, 252, rfl⟩
abbrev main_v160 : Ref sig .tc := ⟨.hbm, 253, rfl⟩
abbrev main_cst_56 : Ref sig .tc := ⟨.hbm, 254, rfl⟩
abbrev main_v161 : Ref sig .tc := ⟨.hbm, 255, rfl⟩
abbrev main_v162 : Ref sig .tc := ⟨.hbm, 256, rfl⟩
abbrev main_v163 : Ref sig .tc := ⟨.hbm, 257, rfl⟩
abbrev main_cst_57 : Ref sig .tc := ⟨.hbm, 258, rfl⟩
abbrev main_v164 : Ref sig .tc := ⟨.hbm, 259, rfl⟩
abbrev main_v165 : Ref sig .tc := ⟨.hbm, 260, rfl⟩
abbrev main_cst_58 : Ref sig .tc := ⟨.hbm, 261, rfl⟩
abbrev main_v166 : Ref sig .tc := ⟨.hbm, 262, rfl⟩
abbrev main_v167 : Ref sig .tc := ⟨.hbm, 263, rfl⟩
abbrev main_v168 : Ref sig .tc := ⟨.hbm, 264, rfl⟩
abbrev main_cst_59 : Ref sig .tc := ⟨.hbm, 265, rfl⟩
abbrev main_v169 : Ref sig .tc := ⟨.hbm, 266, rfl⟩
abbrev main_v170 : Ref sig .tc := ⟨.hbm, 267, rfl⟩
abbrev main_v171 : Ref sig .tc := ⟨.hbm, 268, rfl⟩
abbrev main_cst_60 : Ref sig .tc := ⟨.hbm, 269, rfl⟩
abbrev main_v172 : Ref sig .tc := ⟨.hbm, 270, rfl⟩
abbrev main_v173 : Ref sig .tc := ⟨.hbm, 271, rfl⟩
abbrev main_v174 : Ref sig .tc := ⟨.hbm, 272, rfl⟩
abbrev main_cst_61 : Ref sig .tc := ⟨.hbm, 273, rfl⟩
abbrev main_v175 : Ref sig .tc := ⟨.hbm, 274, rfl⟩
abbrev main_v176 : Ref sig .tc := ⟨.hbm, 275, rfl⟩
abbrev main_cst_62 : Ref sig .tc := ⟨.hbm, 276, rfl⟩
abbrev main_v177 : Ref sig .tc := ⟨.hbm, 277, rfl⟩
abbrev main_v178 : Ref sig .tc := ⟨.hbm, 278, rfl⟩
abbrev main_cst_63 : Ref sig .tc := ⟨.hbm, 279, rfl⟩
abbrev main_v179 : Ref sig .tc := ⟨.hbm, 280, rfl⟩
abbrev main_v180 : Ref sig .tc := ⟨.hbm, 281, rfl⟩
abbrev main_v181 : Ref sig .tc := ⟨.hbm, 282, rfl⟩
abbrev main_cst_64 : Ref sig .tc := ⟨.hbm, 283, rfl⟩
abbrev main_v182 : Ref sig .tc := ⟨.hbm, 284, rfl⟩
abbrev main_v183 : Ref sig .tc := ⟨.hbm, 285, rfl⟩
abbrev main_v184 : Ref sig .tc := ⟨.hbm, 286, rfl⟩
abbrev main_cst_65 : Ref sig .tc := ⟨.hbm, 287, rfl⟩
abbrev main_v185 : Ref sig .tc := ⟨.hbm, 288, rfl⟩
abbrev main_v186 : Ref sig .tc := ⟨.hbm, 289, rfl⟩
abbrev main_v187 : Ref sig .tc := ⟨.hbm, 290, rfl⟩
abbrev main_cst_66 : Ref sig .tc := ⟨.hbm, 291, rfl⟩
abbrev main_v188 : Ref sig .tc := ⟨.hbm, 292, rfl⟩
abbrev main_v189 : Ref sig .tc := ⟨.hbm, 293, rfl⟩
abbrev main_cst_67 : Ref sig .tc := ⟨.hbm, 294, rfl⟩
abbrev main_v190 : Ref sig .tc := ⟨.hbm, 295, rfl⟩
abbrev main_v191 : Ref sig .tc := ⟨.hbm, 296, rfl⟩
abbrev main_v192 : Ref sig .tc := ⟨.hbm, 297, rfl⟩
abbrev main_cst_68 : Ref sig .tc := ⟨.hbm, 298, rfl⟩
abbrev main_v193 : Ref sig .tc := ⟨.hbm, 299, rfl⟩
abbrev main_v194 : Ref sig .tc := ⟨.hbm, 300, rfl⟩
abbrev main_v195 : Ref sig .tc := ⟨.hbm, 301, rfl⟩
abbrev main_cst_69 : Ref sig .tc := ⟨.hbm, 302, rfl⟩
abbrev main_v196 : Ref sig .tc := ⟨.hbm, 303, rfl⟩
abbrev main_v197 : Ref sig .tc := ⟨.hbm, 304, rfl⟩
abbrev main_v198 : Ref sig .tc := ⟨.hbm, 305, rfl⟩
abbrev main_cst_70 : Ref sig .tc := ⟨.hbm, 306, rfl⟩
abbrev main_v199 : Ref sig .tc := ⟨.hbm, 307, rfl⟩
abbrev main_v200 : Ref sig .tc := ⟨.hbm, 308, rfl⟩
abbrev main_cst_71 : Ref sig .tc := ⟨.hbm, 309, rfl⟩
abbrev main_v201 : Ref sig .tc := ⟨.hbm, 310, rfl⟩
abbrev main_v202 : Ref sig .tc := ⟨.hbm, 311, rfl⟩
abbrev main_cst_72 : Ref sig .tc := ⟨.hbm, 312, rfl⟩
abbrev main_v203 : Ref sig .tc := ⟨.hbm, 313, rfl⟩
abbrev main_v204 : Ref sig .tc := ⟨.hbm, 314, rfl⟩
abbrev main_v205 : Ref sig .tc := ⟨.hbm, 315, rfl⟩
abbrev main_cst_73 : Ref sig .tc := ⟨.hbm, 316, rfl⟩
abbrev main_v206 : Ref sig .tc := ⟨.hbm, 317, rfl⟩
abbrev main_v207 : Ref sig .tc := ⟨.hbm, 318, rfl⟩
abbrev main_v208 : Ref sig .tc := ⟨.hbm, 319, rfl⟩
abbrev main_cst_74 : Ref sig .tc := ⟨.hbm, 320, rfl⟩
abbrev main_v209 : Ref sig .tc := ⟨.hbm, 321, rfl⟩
abbrev main_v210 : Ref sig .tc := ⟨.hbm, 322, rfl⟩
abbrev main_v211 : Ref sig .tc := ⟨.hbm, 323, rfl⟩
abbrev main_cst_75 : Ref sig .tc := ⟨.hbm, 324, rfl⟩
abbrev main_v212 : Ref sig .tc := ⟨.hbm, 325, rfl⟩
abbrev main_v213 : Ref sig .tc := ⟨.hbm, 326, rfl⟩
abbrev main_cst_76 : Ref sig .tc := ⟨.hbm, 327, rfl⟩
abbrev main_v214 : Ref sig .tc := ⟨.hbm, 328, rfl⟩
abbrev main_v215 : Ref sig .tc := ⟨.hbm, 329, rfl⟩
abbrev main_v216 : Ref sig .tc := ⟨.hbm, 330, rfl⟩
abbrev main_cst_77 : Ref sig .tc := ⟨.hbm, 331, rfl⟩
abbrev main_v217 : Ref sig .tc := ⟨.hbm, 332, rfl⟩
abbrev main_v218 : Ref sig .tc := ⟨.hbm, 333, rfl⟩
abbrev main_v219 : Ref sig .tc := ⟨.hbm, 334, rfl⟩
abbrev main_cst_78 : Ref sig .tc := ⟨.hbm, 335, rfl⟩
abbrev main_v220 : Ref sig .tc := ⟨.hbm, 336, rfl⟩
abbrev main_v221 : Ref sig .tc := ⟨.hbm, 337, rfl⟩
abbrev main_v222 : Ref sig .tc := ⟨.hbm, 338, rfl⟩
abbrev main_cst_79 : Ref sig .tc := ⟨.hbm, 339, rfl⟩
abbrev main_v223 : Ref sig .tc := ⟨.hbm, 340, rfl⟩
abbrev main_v224 : Ref sig .tc := ⟨.hbm, 341, rfl⟩
abbrev main_v225 : Ref sig .tc := ⟨.hbm, 342, rfl⟩
abbrev main_v226 : Ref sig .tc := ⟨.hbm, 343, rfl⟩
abbrev main_v227 : Ref sig .tc := ⟨.hbm, 344, rfl⟩

abbrev nD : Nat := 1
abbrev τ : Topo := Topo.v7x

variable {F : FTy → Type} [FloatOps F]
-- ==== Proof.CtxMath.lean ====
/-
  The context's backward call, element by element: each of the kernel's three payloads equals the reference's
  corresponding result. Both sides read, at a column, as a sum over the 256 rows; the gradient of the normalised rows is
  the kernel's two 512-column products and the reference's one product over the joined columns.
-/
module

public import proofs.«01_k».proof.Proof.Gen.CtxBwdIdeal.Skeleton
public import proofs.«01_k».proof.Proof.Gen.CtxRefIdeal.Read
public import Idealize.ShloMosaic.Lib.Pointwise

@[expose] public section

set_option maxRecDepth 16384

noncomputable section

namespace Cert.CtxPair

open Idealize.ShloMosaic Cert.CtxBwdIdeal.Gen Cert.CtxRefIdeal.Read

/-- `a` and `b` hold the columns 2048 … 2559 and 2560 … 3071 of the weight `w`. -/
def Halves (a b : Vec Ideal Cert.CtxBwdIdeal.S1024x512 .bf16) (w : Vec Ideal Cert.CtxBwdIdeal.S1024x3584 .f32) : Prop :=
  ∀ (r : Fin 1024) (k : Fin 512), a (ix2 r k) = w (ix2 r ⟨2048 + k.val, by omega⟩)
    ∧ b (ix2 r k) = w (ix2 r ⟨2560 + k.val, by omega⟩)

variable (x0 x1 : Vec Ideal Cert.CtxBwdIdeal.S256x512 .f32) (a b : Vec Ideal Cert.CtxBwdIdeal.S1024x512 .bf16)
  (w : Vec Ideal Cert.CtxBwdIdeal.S1024x3584 .f32) (x : Vec Ideal Cert.CtxBwdIdeal.S256x1024 .f32)
  (s g : Vec Ideal Cert.CtxBwdIdeal.S1x1024 .f32)

/-- The gradient of the modulated rows. -/
theorem pay2_eq (h : Halves a b w) (j : Cert.CtxBwdIdeal.S256x1024.Idx) :
    k0_pay2 (F := Ideal) x0 a x1 b j = val_main_v25 (F := Ideal) x0 x1 w j := by
  idx_vars j
  pointwise [k0_pay2, val_main_v25, val_main_v24, Cert.CtxRefIdeal.Value.fn_main_v24, val_main_v20]
  congr 1
  · exact Finset.sum_congr rfl fun k _ => by rw [(h j1 k).1]
  · exact Finset.sum_congr rfl fun k _ => by
      rw [(h j1 k).2]; congr 3; apply Fin.ext; show 2560 + k.val = 2048 + (512 + k.val); omega

/-- The shift's gradient. -/
theorem pay4_eq (h : Halves a b w) : k0_pay4 (F := Ideal) x0 a x1 b = val_main_v27 (F := Ideal) x0 x1 w := by
  funext j
  idx_vars j
  pointwise [k0_pay4, val_main_v27, val_main_v26, val_main_cst_3]
  simp only [pay2_eq x0 x1 a b w h, zero_add]

/-- The scale's gradient. -/
theorem pay5_eq (h : Halves a b w) :
    k0_pay5 (F := Ideal) x0 a x1 b g x = val_main_v30 (F := Ideal) x0 x1 w x g := by
  funext j
  idx_vars j
  pointwise [k0_pay5, k0_pay3, val_main_v30, val_main_v29, val_main_v28, val_main_v13, val_main_v12, val_main_v11, val_main_v0,
    val_main_v10, val_main_v9, val_main_v8, val_main_v7, val_main_v6, val_main_v5, val_main_v4, val_main_v3, val_main_v2,
    val_main_v1, val_main_cst, val_main_cst_0, val_main_cst_1, val_main_cst_4]
  simp only [pay2_eq x0 x1 a b w h, zero_add]

/-- The norm weight's gradient. -/
theorem pay1_eq (h : Halves a b w) :
    k0_pay1 (F := Ideal) (k0_pay6 x0 a x1 b s x) = val_main_v37 (F := Ideal) x0 x1 w x s := by
  funext j
  idx_vars j
  pointwise [k0_pay1, k0_pay6, k0_pay3, val_main_v37, val_main_v36, val_main_v35, val_main_v34, val_main_v33, val_main_v32,
    val_main_v31, val_main_v15, val_main_v14,
    val_main_v10, val_main_v9, val_main_v8, val_main_v7, val_main_v6, val_main_v5, val_main_v4, val_main_v3, val_main_v2,
    val_main_v1, val_main_cst, val_main_cst_0, val_main_cst_1, val_main_cst_2, val_main_cst_5, val_main_cst_6]
  simp only [pay2_eq x0 x1 a b w h, zero_add, Fin.sum_univ_one]

end Cert.CtxPair
-- ==== Proof.CtxValue.lean ====
/-
  The context's backward call after its run: the three result arrays hold the reference's three results.
-/
module

public import proofs.«01_k».proof.Proof.CtxMath
public import proofs.«01_k».proof.Proof.Gen.CtxBwdIdeal.Value

@[expose] public section

set_option maxRecDepth 16384

noncomputable section

namespace Cert.CtxBwdIdeal.Value

open Cert.CtxBwdIdeal Cert.CtxBwdIdeal.Gen Idealize.ShloMosaic Idealize.ShloMosaic.TcCoe Idealize.SL.Sem
open Idealize.ShloMosaic.Pipeline (Dat)

theorem hz : (![0, 0] : Fin 2 → Nat) = fun _ => 0 := funext fun a => by fin_cases a <;> rfl

/-- The weight block's first 512 columns and its last 512, as the body loads them. -/
abbrev lo (x2 : Vec Ideal S1024x1024 .bf16) : Vec Ideal S1024x512 .bf16 := View.ld x2 (Rect.unit (s := S1024x1024) ![0, 0] S1024x512.size inb_S1024x1024_S1024x512_0_0)
abbrev hi (x2 : Vec Ideal S1024x1024 .bf16) : Vec Ideal S1024x512 .bf16 := View.ld x2 (Rect.unit (s := S1024x1024) ![0, 512] S1024x512.size inb_S1024x1024_S1024x512_0_512)

section Body

variable (c : Dev nD) (i : grid0.Coords) (a1 : Memref sig .tc .vmem S256x512 .f32) (h1 : a1.IsWhole) (a2 : Memref sig .tc .vmem S256x512 .f32) (h2 : a2.IsWhole) (a3 : Memref sig .tc .vmem S1024x1024 .bf16) (h3 : a3.IsWhole) (a4 : Memref sig .tc .vmem S256x1024 .f32) (h4 : a4.IsWhole) (a5 : Memref sig .tc .vmem S1x1024 .f32) (h5 : a5.IsWhole) (a6 : Memref sig .tc .vmem S1x1024 .f32) (h6 : a6.IsWhole) (a7 : Memref sig .tc .vmem S1x1024 .f32) (h7 : a7.IsWhole) (a8 : Memref sig .tc .vmem S1x1024 .f32) (h8 : a8.IsWhole) (a9 : Memref sig .tc .vmem S1x1024 .f32) (h9 : a9.IsWhole) (a10 : Memref sig .tc .vmem S1x1024 .f32) (h10 : a10.IsWhole)
  (x0 : Vec Ideal S256x512 .f32) (x1 : Vec Ideal S256x512 .f32) (x2 : Vec Ideal S1024x1024 .bf16) (x3 : Vec Ideal S256x1024 .f32) (x4 : Vec Ideal S1x1024 .f32) (x5 : Vec Ideal S1x1024 .f32) (x6 : Vec Ideal S1x1024 .f32)

theorem body7 : out0_A_7 c i a1 h1 a2 h2 a3 h3 a4 h4 a5 h5 a6 h6 a7 h7 a8 h8 a9 h9 a10 h10 x0 x1 x2 x3 x4 x5 x6 = k0_pay4 x0 (lo x2) x1 (hi x2) := by
  unfold out0_A_7
  rw [View.read_writes_eq_canon _ _ _ (cover0_A_7 c i a1 h1 a2 h2 a3 h3 a4 h4 a5 h5 a6 h6 a7 h7 a8 h8 a9 h9 a10 h10 x0 x1 x2 x3 x4 x5 x6)]
  unfold kernelRun0_A
  dsimp only
  sl_unfold_words
  rw [View.canon_unit_zero hz]
  simp only [View.readAt_eq_ld, h1.read_unread, h2.read_unread, h3.read_unread, View.ld_unit_zero (S := S256x512) hz]

theorem body8 : out0_A_8 c i a1 h1 a2 h2 a3 h3 a4 h4 a5 h5 a6 h6 a7 h7 a8 h8 a9 h9 a10 h10 x0 x1 x2 x3 x4 x5 x6 = k0_pay5 x0 (lo x2) x1 (hi x2) x6 x3 := by
  unfold out0_A_8
  rw [View.read_writes_eq_canon _ _ _ (cover0_A_8 c i a1 h1 a2 h2 a3 h3 a4 h4 a5 h5 a6 h6 a7 h7 a8 h8 a9 h9 a10 h10 x0 x1 x2 x3 x4 x5 x6)]
  unfold kernelRun0_A
  dsimp only
  sl_unfold_words
  rw [View.canon_unit_zero hz]
  simp only [View.readAt_eq_ld, h1.read_unread, h2.read_unread, h3.read_unread, h4.read_unread, h7.read_unread, View.ld_unit_zero (S := S256x512) hz,
    View.ld_unit_zero (S := S256x1024) hz, View.ld_unit_zero (S := S1x1024) hz]

theorem body9 : out0_A_9 c i a1 h1 a2 h2 a3 h3 a4 h4 a5 h5 a6 h6 a7 h7 a8 h8 a9 h9 a10 h10 x0 x1 x2 x3 x4 x5 x6 = k0_pay1 (k0_pay6 x0 (lo x2) x1 (hi x2) x5 x3) := by
  unfold out0_A_9
  rw [View.read_writes_eq_canon _ _ _ (cover0_A_9 c i a1 h1 a2 h2 a3 h3 a4 h4 a5 h5 a6 h6 a7 h7 a8 h8 a9 h9 a10 h10 x0 x1 x2 x3 x4 x5 x6)]
  unfold kernelRun0_A
  dsimp only
  sl_unfold_words
  rw [View.canon_unit_zero hz]
  simp only [View.readAt_eq_ld, h1.read_unread, h2.read_unread, h3.read_unread, h4.read_unread, h6.read_unread, View.ld_unit_zero (S := S256x512) hz,
    View.ld_unit_zero (S := S256x1024) hz, View.ld_unit_zero (S := S1x1024) hz]

end Body

variable (m : (ℓ : Loc nD τ sig) → Buf (Elt Ideal) ℓ) (ρ : Dev nD → PrngReg)

/-- The one block of an operand whose block is the whole array. -/
theorem iblk0 (c : Dev nD) (t : Fin cfg0.N) : (iblk m c 0 t : Vec Ideal S256x512 .f32) = m ((c : Thread nD τ).loc main_arg0) := by
  obtain rfl := fin_N0 t
  have hz' : (fun a => win0_0.index t0_0 a * main_arg0.ty.shape.size a) = fun _ => 0 := funext fun a => by fin_cases a <;> decide
  exact (Memref.read_access_unit_zero (Elt Ideal) main_arg0 hz' (fun a => by rw [congrFun hz' a]; simp) _).trans (V_main_arg0 m c)

theorem iblk1 (c : Dev nD) (t : Fin cfg0.N) : (iblk m c 1 t : Vec Ideal S256x512 .f32) = m ((c : Thread nD τ).loc main_arg1) := by
  obtain rfl := fin_N0 t
  have hz' : (fun a => win0_1.index t0_0 a * main_arg1.ty.shape.size a) = fun _ => 0 := funext fun a => by fin_cases a <;> decide
  exact (Memref.read_access_unit_zero (Elt Ideal) main_arg1 hz' (fun a => by rw [congrFun hz' a]; simp) _).trans (V_main_arg1 m c)

theorem iblk3 (c : Dev nD) (t : Fin cfg0.N) : (iblk m c 3 t : Vec Ideal S256x1024 .f32) = m ((c : Thread nD τ).loc main_arg3) := by
  obtain rfl := fin_N0 t
  have hz' : (fun a => win0_3.index t0_0 a * main_arg3.ty.shape.size a) = fun _ => 0 := funext fun a => by fin_cases a <;> decide
  exact (Memref.read_access_unit_zero (Elt Ideal) main_arg3 hz' (fun a => by rw [congrFun hz' a]; simp) _).trans (V_main_arg3 m c)

theorem iblk5 (c : Dev nD) (t : Fin cfg0.N) : (iblk m c 5 t : Vec Ideal S1x1024 .f32) = m ((c : Thread nD τ).loc main_arg5) := by
  obtain rfl := fin_N0 t
  have hz' : (fun a => win0_5.index t0_0 a * main_arg5.ty.shape.size a) = fun _ => 0 := funext fun a => by fin_cases a <;> decide
  exact (Memref.read_access_unit_zero (Elt Ideal) main_arg5 hz' (fun a => by rw [congrFun hz' a]; simp) _).trans (V_main_arg5 m c)

theorem iblk6 (c : Dev nD) (t : Fin cfg0.N) : (iblk m c 6 t : Vec Ideal S1x1024 .f32) = m ((c : Thread nD τ).loc main_arg6) := by
  obtain rfl := fin_N0 t
  have hz' : (fun a => win0_6.index t0_0 a * main_arg6.ty.shape.size a) = fun _ => 0 := funext fun a => by fin_cases a <;> decide
  exact (Memref.read_access_unit_zero (Elt Ideal) main_arg6 hz' (fun a => by rw [congrFun hz' a]; simp) _).trans (V_main_arg6 m c)

/-- The weight's block is its columns 2048 … 3071. -/
theorem iblk2 (c : Dev nD) (t : Fin cfg0.N) (r l : Fin 1024) :
    (X0_2 m c t : Vec Ideal S1024x1024 .bf16) (ix2 r l) = m ((c : Thread nD τ).loc main_arg2) (ix2 r ⟨2048 + l.val, by omega⟩) := by
  obtain rfl := fin_N0 t
  unfold X0_2 Pipeline.Window.fill
  rw [dif_pos (moved0_2 t0_0 _)]
  unfold iblk
  rw [View.read_apply]
  show V m c main_v0 _ = _
  entry_read
  show m ((c : Thread nD τ).loc main_arg2) _ = m ((c : Thread nD τ).loc main_arg2) _
  congr 1
  funext a
  apply Fin.ext
  match a with
  | ⟨0, _⟩ => show win0_2.index t0_0 0 * 1024 + 1 * r.val = r.val; rw [show win0_2.index t0_0 0 = 0 from by decide +kernel]; omega
  | ⟨1, _⟩ => show win0_2.index t0_0 1 * 1024 + 1 * l.val = 2048 + l.val; rw [show win0_2.index t0_0 1 = 2 from by decide +kernel]; omega

theorem halves (c : Dev nD) (t : Fin cfg0.N) : Cert.CtxPair.Halves (lo (X0_2 m c t)) (hi (X0_2 m c t)) (m ((c : Thread nD τ).loc main_arg2)) := by
  intro r k
  constructor
  · have := iblk2 m c t r ⟨k.val, by omega⟩
    refine Eq.trans ?_ this
    show (X0_2 m c t : Vec Ideal S1024x1024 .bf16) _ = _
    congr 1
    funext a; apply Fin.ext
    match a with
    | ⟨0, _⟩ => show 0 + 1 * r.val = r.val; omega
    | ⟨1, _⟩ => show 0 + 1 * k.val = k.val; omega
  · have := iblk2 m c t r ⟨512 + k.val, by omega⟩
    refine (Eq.trans ?_ this).trans ?_
    · show (X0_2 m c t : Vec Ideal S1024x1024 .bf16) _ = _
      congr 1
      funext a; apply Fin.ext
      match a with
      | ⟨0, _⟩ => show 0 + 1 * r.val = r.val; omega
      | ⟨1, _⟩ => show 512 + 1 * k.val = 512 + k.val; omega
    · congr 2; apply Fin.ext; show 2048 + (512 + k.val) = 2560 + k.val; omega

open Cert.CtxRefIdeal.Read in
/-- The shift's gradient after the run. -/
theorem final7 (c : Dev nD) : (dats m 0 c).arrAt 7 cfg0.N
    = val_main_v27 (F := Ideal) (m ((c : Thread nD τ).loc main_arg0)) (m ((c : Thread nD τ).loc main_arg1)) (m ((c : Thread nD τ).loc main_arg2)) := by
  have hb := blocks7 m c t0_0 (by decide +kernel)
  rw [flushed7_A, body7, iblk0, iblk1, Cert.CtxPair.pay4_eq _ _ _ _ _ (halves m c t0_0)] at hb
  have hz' : (fun a => win0_7.index t0_0 a * main_v1_0.ty.shape.size a) = fun _ => 0 := funext fun a => by fin_cases a <;> decide
  exact ((Memref.read_access_unit_zero (Elt Ideal) main_v1_0 hz' (fun a => by rw [congrFun hz' a]; simp) _).symm).trans hb

open Cert.CtxRefIdeal.Read in
/-- The scale's gradient after the run. -/
theorem final8 (c : Dev nD) : (dats m 0 c).arrAt 8 cfg0.N
    = val_main_v30 (F := Ideal) (m ((c : Thread nD τ).loc main_arg0)) (m ((c : Thread nD τ).loc main_arg1)) (m ((c : Thread nD τ).loc main_arg2))
        (m ((c : Thread nD τ).loc main_arg3)) (m ((c : Thread nD τ).loc main_arg6)) := by
  have hb := blocks8 m c t0_0 (by decide +kernel)
  rw [flushed8_A, body8, iblk0, iblk1, iblk3, iblk6, Cert.CtxPair.pay5_eq _ _ _ _ _ _ _ (halves m c t0_0)] at hb
  have hz' : (fun a => win0_8.index t0_0 a * main_v1_1.ty.shape.size a) = fun _ => 0 := funext fun a => by fin_cases a <;> decide
  exact ((Memref.read_access_unit_zero (Elt Ideal) main_v1_1 hz' (fun a => by rw [congrFun hz' a]; simp) _).symm).trans hb

open Cert.CtxRefIdeal.Read in
/-- The norm weight's gradient after the run. -/
theorem final9 (c : Dev nD) : (dats m 0 c).arrAt 9 cfg0.N
    = val_main_v37 (F := Ideal) (m ((c : Thread nD τ).loc main_arg0)) (m ((c : Thread nD τ).loc main_arg1)) (m ((c : Thread nD τ).loc main_arg2))
        (m ((c : Thread nD τ).loc main_arg3)) (m ((c : Thread nD τ).loc main_arg5)) := by
  have hb := blocks9 m c t0_0 (by decide +kernel)
  rw [flushed9_A, body9, iblk0, iblk1, iblk3, iblk5, Cert.CtxPair.pay1_eq _ _ _ _ _ _ _ (halves m c t0_0)] at hb
  have hz' : (fun a => win0_9.index t0_0 a * main_v1_2.ty.shape.size a) = fun _ => 0 := funext fun a => by fin_cases a <;> decide
  exact ((Memref.read_access_unit_zero (Elt Ideal) main_v1_2 hz' (fun a => by rw [congrFun hz' a]; simp) _).symm).trans hb

end Cert.CtxBwdIdeal.Value

namespace Cert.CtxRefIdeal.Value

open Cert.CtxRefIdeal Cert.CtxRefIdeal.Read Idealize.ShloMosaic Idealize.ShloMosaic.TcCoe Idealize.SL.Sem

/-- The reference's run, its three results by name. -/
theorem run_val (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v27) = val_main_v27 (F := Ideal) (m ((c.tc : Thread nD τ).loc main_arg0)) (m ((c.tc : Thread nD τ).loc main_arg1)) (m ((c.tc : Thread nD τ).loc main_arg2))
      ∧ r.2.mem ((c.tc : Thread nD τ).loc main_v30) = val_main_v30 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6))
      ∧ r.2.mem ((c.tc : Thread nD τ).loc main_v37) = val_main_v37 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run _ _ _).mono (fun r h c => ⟨(h c).1.trans (val_main_v27_eq ..), (h c).2.1.trans (val_main_v30_eq ..),
    (h c).2.2.1.trans (val_main_v37_eq ..), (h c).2.2.2⟩) (run m ρ)

end Cert.CtxRefIdeal.Value
-- ==== Proof.DhMath.lean ====
/-
  The input norm's backward call, element by element: what one 256-row subtile of the kernel computes is the
  reference's rows of that subtile, and each row-sum payload is the reference's sum over those rows.
-/
module

public import proofs.«01_k».proof.Proof.Gen.DhBwdIdeal.Skeleton
public import proofs.«01_k».proof.Proof.Gen.DhRefIdeal.Read
public import Idealize.ShloMosaic.Lib.Pointwise

@[expose] public section

set_option maxRecDepth 16384

noncomputable section

namespace Cert.DhPair

open Idealize.ShloMosaic Cert.DhBwdIdeal.Gen Cert.DhRefIdeal.Read
open Cert.DhBwdIdeal (S256x1536 S256x512 S256x1024 S1024x1536 S1024x512 S1024x3584 S1x1024 S4096x1536 S4096x512 S4096x1024)

/-- The row of the whole arrays that is row `r` of the subtile beginning at row `o`. -/
abbrev row (o : Nat) (ho : o + 256 ≤ 4096) (r : Fin 256) : Fin 4096 := ⟨o + r.val, by omega⟩

/-- `w0` … `w4` hold the weight's five groups of columns. -/
structure Cols (w : Vec Ideal S1024x3584 .f32) (w0 : Vec Ideal S1024x1536 .bf16) (w1 w2 w3 w4 : Vec Ideal S1024x512 .bf16) : Prop where
  c0 : ∀ (r : Fin 1024) (k : Fin 1536), w0 (ix2 r k) = w (ix2 r ⟨k.val, by omega⟩)
  c1 : ∀ (r : Fin 1024) (k : Fin 512), w1 (ix2 r k) = w (ix2 r ⟨1536 + k.val, by omega⟩)
  c2 : ∀ (r : Fin 1024) (k : Fin 512), w2 (ix2 r k) = w (ix2 r ⟨2048 + k.val, by omega⟩)
  c3 : ∀ (r : Fin 1024) (k : Fin 512), w3 (ix2 r k) = w (ix2 r ⟨2560 + k.val, by omega⟩)
  c4 : ∀ (r : Fin 1024) (k : Fin 512), w4 (ix2 r k) = w (ix2 r ⟨3072 + k.val, by omega⟩)

/-- `a` holds the subtile's rows of `b`. -/
def Rows (o : Nat) (ho : o + 256 ≤ 4096) {n : Nat} {α : Type} (a : (⟨2, ![256, n]⟩ : Shape).Idx → α) (b : (⟨2, ![4096, n]⟩ : Shape).Idx → α) : Prop :=
  ∀ (r : Fin 256) (k : Fin n), a (ix2 r k) = b (ix2 (row o ho r) k)

variable (x0 : Vec Ideal S4096x1536 .bf16) (x1 x2 x3 x4 : Vec Ideal S4096x512 .bf16) (w : Vec Ideal S1024x3584 .f32)
  (x dy : Vec Ideal S4096x1024 .f32) (sh sc g : Vec Ideal S1x1024 .f32)
  (o : Nat) (ho : o + 256 ≤ 4096)
  (a0 : Vec Ideal S256x1536 .bf16) (a1 a2 a3 a4 : Vec Ideal S256x512 .bf16)
  (w0 : Vec Ideal S1024x1536 .bf16) (w1 w2 w3 w4 : Vec Ideal S1024x512 .bf16)
  (d : Vec Ideal S256x1024 .f32) (xs dys : Vec Ideal S256x1024 .f32)

/-- The gradient of the modulated rows, subtile 0: five products against one over the joined columns. -/
theorem pay3_eq (hw : Cols w w0 w1 w2 w3 w4) (h0 : Rows o ho a0 x0) (h1 : Rows o ho a1 x1) (h2 : Rows o ho a2 x2)
    (h3 : Rows o ho a3 x3) (h4 : Rows o ho a4 x4) :
    Rows o ho (k0_pay3 (F := Ideal) a0 w0 a1 w1 a2 w2 a3 w3 a4 w4) (val_main_v30 (F := Ideal) x0 x1 x2 x3 x4 w) := by
  intro r l
  pointwise [k0_pay3, val_main_v30, val_main_v5, Cert.DhRefIdeal.Value.fn_main_v5, val_main_v0, val_main_v1, val_main_v2, val_main_v3, val_main_v4]
  rw [Fin.sum_univ_two_halves (N := 3584) 3072 512 rfl, Fin.sum_univ_two_halves (N := 3072) 2560 512 rfl,
    Fin.sum_univ_two_halves (N := 2560) 2048 512 rfl, Fin.sum_univ_two_halves (N := 2048) 1536 512 rfl]
  refine congrArg₂ _ (congrArg₂ _ (congrArg₂ _ (congrArg₂ _ ?_ ?_) ?_) ?_) ?_ <;> refine Finset.sum_congr rfl fun k _ => ?_
  · rw [hw.c0, h0, dif_pos (by simp)]
  · rw [hw.c1, h1, dif_neg (by simp), dif_pos (by simp)]
    congr 4; apply Fin.ext; simp
  · rw [hw.c2, h2, dif_neg (by simp; omega), dif_neg (by simp; omega), dif_pos (by simp; omega)]
    congr 4; apply Fin.ext; simp; omega
  · rw [hw.c3, h3, dif_neg (by simp; omega), dif_neg (by simp; omega), dif_neg (by simp; omega), dif_pos (by simp; omega)]
    congr 4; apply Fin.ext; simp; omega
  · rw [hw.c4, h4, dif_neg (by simp; omega), dif_neg (by simp; omega), dif_neg (by simp; omega), dif_neg (by simp; omega)]
    congr 4; apply Fin.ext; simp; omega

/-- The same for subtile 1, whose five products are printed in two parts. -/
theorem pay17_eq : k0_pay17 (F := Ideal) (k0_pay16 a0 w0 a1 w1) a2 w2 a3 w3 a4 w4 = k0_pay3 a0 w0 a1 w1 a2 w2 a3 w3 a4 w4 := rfl

theorem pay23_eq (v : Vec Ideal S256x1024 .f32) : k0_pay23 (F := Ideal) v a2 w2 a3 w3 a4 w4 = k0_pay7 (k0_pay17 v a2 w2 a3 w3 a4 w4) := rfl

theorem pay28_eq (v : Vec Ideal S256x1024 .f32) (y : Vec Ideal S1x1024 .f32) :
    k0_pay28 (F := Ideal) (k0_pay24 v a2 w2 a3 w3 a4 w4 xs g) y = k0_pay14 (k0_pay8 (k0_pay17 v a2 w2 a3 w3 a4 w4) xs g) y := rfl

theorem pay27_eq (y : Vec Ideal S1x1024 .f32) :
    k0_pay27 (F := Ideal) d (k0_pay21 xs) (k0_pay22 sc) y = k0_pay13 (k0_pay10 d xs sc) y := rfl

theorem pay26_eq : k0_pay26 (F := Ideal) d xs g (k0_pay19 xs) (k0_pay20 xs) (k0_pay22 sc) dys = k0_pay12 (k0_pay11 d xs g sc) dys := rfl

variable {o ho d xs dys}

/-- The shift's gradient over one subtile. -/
theorem pay7_eq (hd : Rows o ho d (val_main_v30 (F := Ideal) x0 x1 x2 x3 x4 w)) (z : Fin 1) (l : Fin 1024) :
    k0_pay7 (F := Ideal) d (ix2 z l) = ∑ r : Fin 256, val_main_v30 (F := Ideal) x0 x1 x2 x3 x4 w (ix2 (row o ho r) l) := by
  pointwise [k0_pay7]
  exact Finset.sum_congr rfl fun r _ => hd r l

/-- The scale's gradient over one subtile. -/
theorem pay8_eq (hd : Rows o ho d (val_main_v30 (F := Ideal) x0 x1 x2 x3 x4 w)) (hx : Rows o ho xs x) (z : Fin 1) (l : Fin 1024) :
    k0_pay8 (F := Ideal) d xs g (ix2 z l) = ∑ r : Fin 256, val_main_v33 (F := Ideal) x0 x1 x2 x3 x4 w x g (ix2 (row o ho r) l) := by
  pointwise [k0_pay8, k0_pay6, k0_pay5, k0_pay4, val_main_v33, val_main_v22, val_main_v21, val_main_v20, val_main_v19, val_main_v18,
    val_main_v14, val_main_v13, val_main_v12, val_main_v11, val_main_v10, val_main_v9, val_main_v8, val_main_v7, val_main_v6,
    val_main_cst, val_main_cst_0, val_main_cst_1]
  exact Finset.sum_congr rfl fun r _ => by simp only [hd r l, hx r _, zero_add]

/-- The norm weight's gradient over one subtile. -/
theorem pay10_eq (hd : Rows o ho d (val_main_v30 (F := Ideal) x0 x1 x2 x3 x4 w)) (hx : Rows o ho xs x) (z : Fin 1) (l : Fin 1024) :
    k0_pay10 (F := Ideal) d xs sc (ix2 z l) = ∑ r : Fin 256, val_main_v38 (F := Ideal) x0 x1 x2 x3 x4 w x sc (ix2 (row o ho r) l) := by
  pointwise [k0_pay10, k0_pay9, k0_pay6, k0_pay5, k0_pay4, val_main_v38, val_main_v37, val_main_v36, val_main_v24, val_main_v23, val_main_v19, val_main_v18,
    val_main_v14, val_main_v13, val_main_v12, val_main_v11, val_main_v10, val_main_v9, val_main_v8, val_main_v7,
    val_main_cst, val_main_cst_0, val_main_cst_1, val_main_cst_3]
  exact Finset.sum_congr rfl fun r _ => by simp only [hd r l, hx r _, zero_add]

/-- The input's gradient on one subtile. -/
theorem pay12_eq (hd : Rows o ho d (val_main_v30 (F := Ideal) x0 x1 x2 x3 x4 w)) (hx : Rows o ho xs x) (hdy : Rows o ho dys dy) :
    Rows o ho (k0_pay12 (F := Ideal) (k0_pay11 d xs g sc) dys) (val_main_v58 (F := Ideal) x0 x1 x2 x3 x4 w x dy sc g) := by
  intro r l
  pointwise [k0_pay12, k0_pay11, k0_pay9, k0_pay5, k0_pay4, val_main_v58, val_main_v57, val_main_v56, val_main_v55, val_main_v54, val_main_v53,
    val_main_v52, val_main_v51, val_main_v50, val_main_v49, val_main_v48, val_main_v47, val_main_v46, val_main_v45, val_main_v44, val_main_v42, val_main_v41,
    val_main_v37, val_main_v36, val_main_v24, val_main_v23, val_main_v20, val_main_v17, val_main_v16, val_main_v15,
    val_main_v14, val_main_v13, val_main_v12, val_main_v11, val_main_v10, val_main_v9, val_main_v8, val_main_v7, val_main_v6,
    val_main_cst, val_main_cst_0, val_main_cst_1, val_main_cst_2, val_main_cst_3, val_main_cst_8, val_main_cst_9, val_main_cst_10]
  simp only [hd r _, hx r _, hdy r _, zero_add, Fin.sum_univ_one, add_assoc]

end Cert.DhPair
-- ==== Proof.DhValue.lean ====
/-
  The input norm's backward call after its run: the four result arrays hold the reference's four results. The three
  row sums are carried from point to point; after point n they hold the sums over the first 512 (n + 1) rows.
-/
module

public import proofs.«01_k».proof.Proof.DhMath
public import proofs.«01_k».proof.Proof.Gen.DhBwdIdeal.Value

@[expose] public section

set_option maxRecDepth 16384

noncomputable section

namespace Cert.DhBwdIdeal.Value

open Cert.DhBwdIdeal Cert.DhBwdIdeal.Gen Idealize.ShloMosaic Idealize.ShloMosaic.TcCoe Idealize.SL.Sem
open Idealize.ShloMosaic.Pipeline (Dat)

theorem hz : (![0, 0] : Fin 2 → Nat) = fun _ => 0 := funext fun a => by fin_cases a <;> rfl

section Body

variable (c : Dev nD) (i : grid0.Coords) (a1 : Memref sig .tc .vmem S512x1536 .bf16) (h1 : a1.IsWhole) (a2 : Memref sig .tc .vmem S512x512 .bf16) (h2 : a2.IsWhole) (a3 : Memref sig .tc .vmem S512x512 .bf16) (h3 : a3.IsWhole) (a4 : Memref sig .tc .vmem S512x512 .bf16) (h4 : a4.IsWhole) (a5 : Memref sig .tc .vmem S512x512 .bf16) (h5 : a5.IsWhole) (a6 : Memref sig .tc .vmem S1024x3584 .bf16) (h6 : a6.IsWhole) (a7 : Memref sig .tc .vmem S512x1024 .f32) (h7 : a7.IsWhole) (a8 : Memref sig .tc .vmem S512x1024 .f32) (h8 : a8.IsWhole) (a9 : Memref sig .tc .vmem S1x1024 .f32) (h9 : a9.IsWhole) (a10 : Memref sig .tc .vmem S1x1024 .f32) (h10 : a10.IsWhole) (a11 : Memref sig .tc .vmem S1x1024 .f32) (h11 : a11.IsWhole) (a12 : Memref sig .tc .vmem S1x1024 .f32) (h12 : a12.IsWhole) (a13 : Memref sig .tc .vmem S512x1024 .f32) (h13 : a13.IsWhole) (a14 : Memref sig .tc .vmem S1x1024 .f32) (h14 : a14.IsWhole) (a15 : Memref sig .tc .vmem S1x1024 .f32) (h15 : a15.IsWhole) (a16 : Memref sig .tc .vmem S1x1024 .f32) (h16 : a16.IsWhole)
  (x0 : Vec Ideal S512x1536 .bf16) (x1 x2 x3 x4 : Vec Ideal S512x512 .bf16) (x5 : Vec Ideal S1024x3584 .bf16)
  (x6 x7 : Vec Ideal S512x1024 .f32) (x8 x9 x10 x11 y13 y14 y15 : Vec Ideal S1x1024 .f32)

/-- The gradient of the modulated rows on the block's first 256 rows and on its last 256. -/
abbrev D0 : Vec Ideal S256x1024 .f32 := k0_pay3
  (View.ld x0 (Rect.unit (s := S512x1536) ![0, 0] ![256, 1536] inb_S512x1536_S256x1536_0_0)) (View.ld x5 (Rect.unit (s := S1024x3584) ![0, 0] ![1024, 1536] inb_S1024x3584_S1024x1536_0_0))
  (View.ld x1 (Rect.unit (s := S512x512) ![0, 0] ![256, 512] inb_S512x512_S256x512_0_0)) (View.ld x5 (Rect.unit (s := S1024x3584) ![0, 1536] ![1024, 512] inb_S1024x3584_S1024x512_0_1536))
  (View.ld x2 (Rect.unit (s := S512x512) ![0, 0] ![256, 512] inb_S512x512_S256x512_0_0)) (View.ld x5 (Rect.unit (s := S1024x3584) ![0, 2048] ![1024, 512] inb_S1024x3584_S1024x512_0_2048))
  (View.ld x3 (Rect.unit (s := S512x512) ![0, 0] ![256, 512] inb_S512x512_S256x512_0_0)) (View.ld x5 (Rect.unit (s := S1024x3584) ![0, 2560] ![1024, 512] inb_S1024x3584_S1024x512_0_2560))
  (View.ld x4 (Rect.unit (s := S512x512) ![0, 0] ![256, 512] inb_S512x512_S256x512_0_0)) (View.ld x5 (Rect.unit (s := S1024x3584) ![0, 3072] ![1024, 512] inb_S1024x3584_S1024x512_0_3072))
abbrev D1 : Vec Ideal S256x1024 .f32 := k0_pay3
  (View.ld x0 (Rect.unit (s := S512x1536) ![256, 0] ![256, 1536] inb_S512x1536_S256x1536_256_0)) (View.ld x5 (Rect.unit (s := S1024x3584) ![0, 0] ![1024, 1536] inb_S1024x3584_S1024x1536_0_0))
  (View.ld x1 (Rect.unit (s := S512x512) ![256, 0] ![256, 512] inb_S512x512_S256x512_256_0)) (View.ld x5 (Rect.unit (s := S1024x3584) ![0, 1536] ![1024, 512] inb_S1024x3584_S1024x512_0_1536))
  (View.ld x2 (Rect.unit (s := S512x512) ![256, 0] ![256, 512] inb_S512x512_S256x512_256_0)) (View.ld x5 (Rect.unit (s := S1024x3584) ![0, 2048] ![1024, 512] inb_S1024x3584_S1024x512_0_2048))
  (View.ld x3 (Rect.unit (s := S512x512) ![256, 0] ![256, 512] inb_S512x512_S256x512_256_0)) (View.ld x5 (Rect.unit (s := S1024x3584) ![0, 2560] ![1024, 512] inb_S1024x3584_S1024x512_0_2560))
  (View.ld x4 (Rect.unit (s := S512x512) ![256, 0] ![256, 512] inb_S512x512_S256x512_256_0)) (View.ld x5 (Rect.unit (s := S1024x3584) ![0, 3072] ![1024, 512] inb_S1024x3584_S1024x512_0_3072))

/-- A 512-row block's two halves. -/
abbrev T0 (x : Vec Ideal S512x1024 .f32) : Vec Ideal S256x1024 .f32 := View.ld x (Rect.unit (s := S512x1024) ![0, 0] ![256, 1024] inb_S512x1024_S256x1024_0_0)
abbrev T1 (x : Vec Ideal S512x1024 .f32) : Vec Ideal S256x1024 .f32 := View.ld x (Rect.unit (s := S512x1024) ![256, 0] ![256, 1024] inb_S512x1024_S256x1024_256_0)

/-- The three running row sums after the body, from what they held before it. -/
abbrev next13 : Vec Ideal S1x1024 .f32 := k0_pay15 (k0_pay7 (D1 x0 x1 x2 x3 x4 x5)) (k0_pay15 (k0_pay7 (D0 x0 x1 x2 x3 x4 x5)) y13)
abbrev next14 : Vec Ideal S1x1024 .f32 := k0_pay14 (k0_pay8 (D1 x0 x1 x2 x3 x4 x5) (T1 x6) x10) (k0_pay14 (k0_pay8 (D0 x0 x1 x2 x3 x4 x5) (T0 x6) x10) y14)
abbrev next15 : Vec Ideal S1x1024 .f32 := k0_pay13 (k0_pay10 (D1 x0 x1 x2 x3 x4 x5) (T1 x6) x9) (k0_pay13 (k0_pay10 (D0 x0 x1 x2 x3 x4 x5) (T0 x6) x9) y15)

/-- The input's gradient's two stores. -/
abbrev gx : Vec Ideal S512x1024 .f32 := View.canon (Val := Elt Ideal) (e := .f32)
  [⟨Rect.unit (s := S512x1024) ![256, 0] ![256, 1024] inb_S512x1024_S256x1024_256_0, k0_pay12 (k0_pay11 (D1 x0 x1 x2 x3 x4 x5) (T1 x6) x10 x9) (T1 x7)⟩,
   ⟨Rect.unit (s := S512x1024) ![0, 0] ![256, 1024] inb_S512x1024_S256x1024_0_0, k0_pay12 (k0_pay11 (D0 x0 x1 x2 x3 x4 x5) (T0 x6) x10 x9) (T0 x7)⟩]

theorem bodyA12 (hc : cond0_0 i) : out0_A_12 c i a1 h1 a2 h2 a3 h3 a4 h4 a5 h5 a6 h6 a7 h7 a8 h8 a9 h9 a10 h10 a11 h11 a12 h12 a13 h13 a14 h14 a15 h15 a16 h16 hc x0 x1 x2 x3 x4 x5 x6 x7 x8 x9 x10 x11 = gx x0 x1 x2 x3 x4 x5 x6 x7 x9 x10 := by
  unfold out0_A_12
  rw [View.read_writes_eq_canon _ _ _ (cover0_A_12 c i a1 h1 a2 h2 a3 h3 a4 h4 a5 h5 a6 h6 a7 h7 a8 h8 a9 h9 a10 h10 a11 h11 a12 h12 a13 h13 a14 h14 a15 h15 a16 h16 hc x0 x1 x2 x3 x4 x5 x6 x7 x8 x9 x10 x11)]
  unfold kernelRun0_A
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, View.readCov_cons_toLoadRect, View.ld_unit_zero (S := S1x1024) hz]
  rfl

theorem bodyA13 (hc : cond0_0 i) : out0_A_13 c i a1 h1 a2 h2 a3 h3 a4 h4 a5 h5 a6 h6 a7 h7 a8 h8 a9 h9 a10 h10 a11 h11 a12 h12 a13 h13 a14 h14 a15 h15 a16 h16 hc x0 x1 x2 x3 x4 x5 x6 x7 x8 x9 x10 x11 = next13 x0 x1 x2 x3 x4 x5 (k0_pay1 (F := Ideal)) := by
  unfold out0_A_13
  rw [View.read_writes_eq_canon _ _ _ (cover0_A_13 c i a1 h1 a2 h2 a3 h3 a4 h4 a5 h5 a6 h6 a7 h7 a8 h8 a9 h9 a10 h10 a11 h11 a12 h12 a13 h13 a14 h14 a15 h15 a16 h16 hc x0 x1 x2 x3 x4 x5 x6 x7 x8 x9 x10 x11)]
  unfold kernelRun0_A
  dsimp only
  sl_unfold_words
  rw [View.canon_cons_unit_zero (S := S1x1024) hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, View.readCov_cons_toLoadRect, View.ld_unit_zero (S := S1x1024) hz]
  rfl

theorem bodyA14 (hc : cond0_0 i) : out0_A_14 c i a1 h1 a2 h2 a3 h3 a4 h4 a5 h5 a6 h6 a7 h7 a8 h8 a9 h9 a10 h10 a11 h11 a12 h12 a13 h13 a14 h14 a15 h15 a16 h16 hc x0 x1 x2 x3 x4 x5 x6 x7 x8 x9 x10 x11 = next14 x0 x1 x2 x3 x4 x5 x6 x10 (k0_pay2 (F := Ideal)) := by
  unfold out0_A_14
  rw [View.read_writes_eq_canon _ _ _ (cover0_A_14 c i a1 h1 a2 h2 a3 h3 a4 h4 a5 h5 a6 h6 a7 h7 a8 h8 a9 h9 a10 h10 a11 h11 a12 h12 a13 h13 a14 h14 a15 h15 a16 h16 hc x0 x1 x2 x3 x4 x5 x6 x7 x8 x9 x10 x11)]
  unfold kernelRun0_A
  dsimp only
  sl_unfold_words
  rw [View.canon_cons_unit_zero (S := S1x1024) hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, View.readCov_cons_toLoadRect, View.ld_unit_zero (S := S1x1024) hz]
  rfl

theorem bodyA15 (hc : cond0_0 i) : out0_A_15 c i a1 h1 a2 h2 a3 h3 a4 h4 a5 h5 a6 h6 a7 h7 a8 h8 a9 h9 a10 h10 a11 h11 a12 h12 a13 h13 a14 h14 a15 h15 a16 h16 hc x0 x1 x2 x3 x4 x5 x6 x7 x8 x9 x10 x11 = next15 x0 x1 x2 x3 x4 x5 x6 x9 x11 := by
  unfold out0_A_15
  rw [View.read_writes_eq_canon _ _ _ (cover0_A_15 c i a1 h1 a2 h2 a3 h3 a4 h4 a5 h5 a6 h6 a7 h7 a8 h8 a9 h9 a10 h10 a11 h11 a12 h12 a13 h13 a14 h14 a15 h15 a16 h16 hc x0 x1 x2 x3 x4 x5 x6 x7 x8 x9 x10 x11)]
  unfold kernelRun0_A
  dsimp only
  sl_unfold_words
  rw [View.canon_cons_unit_zero (S := S1x1024) hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, View.readCov_cons_toLoadRect, View.ld_unit_zero (S := S1x1024) hz]
  rfl

theorem bodyB12 (hc : ¬cond0_0 i) : out0_B_12 c i a1 h1 a2 h2 a3 h3 a4 h4 a5 h5 a6 h6 a7 h7 a8 h8 a9 h9 a10 h10 a11 h11 a12 h12 a13 h13 a14 h14 a15 h15 a16 h16 hc x0 x1 x2 x3 x4 x5 x6 x7 x8 x9 x10 x11 y13 y14 y15 = gx x0 x1 x2 x3 x4 x5 x6 x7 x9 x10 := by
  unfold out0_B_12
  rw [View.read_writes_eq_canon _ _ _ (cover0_B_12 c i a1 h1 a2 h2 a3 h3 a4 h4 a5 h5 a6 h6 a7 h7 a8 h8 a9 h9 a10 h10 a11 h11 a12 h12 a13 h13 a14 h14 a15 h15 a16 h16 hc x0 x1 x2 x3 x4 x5 x6 x7 x8 x9 x10 x11 y13 y14 y15)]
  unfold kernelRun0_B
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, View.readCov_cons_toLoadRect, View.ld_unit_zero (S := S1x1024) hz]
  rfl

theorem bodyB13 (hc : ¬cond0_0 i) : out0_B_13 c i a1 h1 a2 h2 a3 h3 a4 h4 a5 h5 a6 h6 a7 h7 a8 h8 a9 h9 a10 h10 a11 h11 a12 h12 a13 h13 a14 h14 a15 h15 a16 h16 hc x0 x1 x2 x3 x4 x5 x6 x7 x8 x9 x10 x11 y13 y14 y15 = next13 x0 x1 x2 x3 x4 x5 y13 := by
  unfold out0_B_13
  rw [View.read_writes_eq_canon _ _ _ (cover0_B_13 c i a1 h1 a2 h2 a3 h3 a4 h4 a5 h5 a6 h6 a7 h7 a8 h8 a9 h9 a10 h10 a11 h11 a12 h12 a13 h13 a14 h14 a15 h15 a16 h16 hc x0 x1 x2 x3 x4 x5 x6 x7 x8 x9 x10 x11 y13 y14 y15)]
  unfold kernelRun0_B
  dsimp only
  sl_unfold_words
  rw [View.canon_cons_unit_zero (S := S1x1024) hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, View.readCov_cons_toLoadRect, View.ld_unit_zero (S := S1x1024) hz]
  rfl

theorem bodyB14 (hc : ¬cond0_0 i) : out0_B_14 c i a1 h1 a2 h2 a3 h3 a4 h4 a5 h5 a6 h6 a7 h7 a8 h8 a9 h9 a10 h10 a11 h11 a12 h12 a13 h13 a14 h14 a15 h15 a16 h16 hc x0 x1 x2 x3 x4 x5 x6 x7 x8 x9 x10 x11 y13 y14 y15 = next14 x0 x1 x2 x3 x4 x5 x6 x10 y14 := by
  unfold out0_B_14
  rw [View.read_writes_eq_canon _ _ _ (cover0_B_14 c i a1 h1 a2 h2 a3 h3 a4 h4 a5 h5 a6 h6 a7 h7 a8 h8 a9 h9 a10 h10 a11 h11 a12 h12 a13 h13 a14 h14 a15 h15 a16 h16 hc x0 x1 x2 x3 x4 x5 x6 x7 x8 x9 x10 x11 y13 y14 y15)]
  unfold kernelRun0_B
  dsimp only
  sl_unfold_words
  rw [View.canon_cons_unit_zero (S := S1x1024) hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, View.readCov_cons_toLoadRect, View.ld_unit_zero (S := S1x1024) hz]
  rfl

theorem bodyB15 (hc : ¬cond0_0 i) : out0_B_15 c i a1 h1 a2 h2 a3 h3 a4 h4 a5 h5 a6 h6 a7 h7 a8 h8 a9 h9 a10 h10 a11 h11 a12 h12 a13 h13 a14 h14 a15 h15 a16 h16 hc x0 x1 x2 x3 x4 x5 x6 x7 x8 x9 x10 x11 y13 y14 y15 = next15 x0 x1 x2 x3 x4 x5 x6 x9 y15 := by
  unfold out0_B_15
  rw [View.read_writes_eq_canon _ _ _ (cover0_B_15 c i a1 h1 a2 h2 a3 h3 a4 h4 a5 h5 a6 h6 a7 h7 a8 h8 a9 h9 a10 h10 a11 h11 a12 h12 a13 h13 a14 h14 a15 h15 a16 h16 hc x0 x1 x2 x3 x4 x5 x6 x7 x8 x9 x10 x11 y13 y14 y15)]
  unfold kernelRun0_B
  dsimp only
  sl_unfold_words
  rw [View.canon_cons_unit_zero (S := S1x1024) hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, View.readCov_cons_toLoadRect, View.ld_unit_zero (S := S1x1024) hz]
  rfl

end Body

variable (m : (ℓ : Loc nD τ sig) → Buf (Elt Ideal) ℓ) (ρ : Dev nD → PrngReg)

/-- The arrays the call takes. -/
abbrev A (c : Dev nD) (b : Ref sig .tc) : Buf (Elt Ideal) ((c : Thread nD τ).loc b) := m ((c : Thread nD τ).loc b)

/-- The one block of an operand whose block is the whole array. -/
theorem iblk5 (c : Dev nD) (t : Fin cfg0.N) (r : Fin 1024) (k : Fin 3584) : (iblk m c 5 t : Vec Ideal S1024x3584 .bf16) (ix2 r k) = m ((c : Thread nD τ).loc main_arg5) (ix2 r k) := by
  have hz' : (fun a => win0_5.index t a * main_v0.ty.shape.size a) = fun _ => 0 := by
    rcases fin_N0 t with rfl | rfl | rfl | rfl | rfl | rfl | rfl | rfl <;> exact funext fun a => by fin_cases a <;> decide +kernel
  rw [show (iblk m c 5 t : Vec Ideal S1024x3584 .bf16) = V m c main_v0 from Memref.read_access_unit_zero (Elt Ideal) main_v0 hz' (fun a => by rw [congrFun hz' a]; simp) _]
  entry_read
  rfl

theorem iblk8 (c : Dev nD) (t : Fin cfg0.N) : (iblk m c 8 t : Vec Ideal S1x1024 .f32) = m ((c : Thread nD τ).loc main_arg8) := by
  have hz' : (fun a => win0_8.index t a * main_arg8.ty.shape.size a) = fun _ => 0 := by
    rcases fin_N0 t with rfl | rfl | rfl | rfl | rfl | rfl | rfl | rfl <;> exact funext fun a => by fin_cases a <;> decide +kernel
  exact (Memref.read_access_unit_zero (Elt Ideal) main_arg8 hz' (fun a => by rw [congrFun hz' a]; simp) _).trans (V_main_arg8 m c)

theorem iblk9 (c : Dev nD) (t : Fin cfg0.N) : (iblk m c 9 t : Vec Ideal S1x1024 .f32) = m ((c : Thread nD τ).loc main_arg9) := by
  have hz' : (fun a => win0_9.index t a * main_arg9.ty.shape.size a) = fun _ => 0 := by
    rcases fin_N0 t with rfl | rfl | rfl | rfl | rfl | rfl | rfl | rfl <;> exact funext fun a => by fin_cases a <;> decide +kernel
  exact (Memref.read_access_unit_zero (Elt Ideal) main_arg9 hz' (fun a => by rw [congrFun hz' a]; simp) _).trans (V_main_arg9 m c)

theorem iblk10 (c : Dev nD) (t : Fin cfg0.N) : (iblk m c 10 t : Vec Ideal S1x1024 .f32) = m ((c : Thread nD τ).loc main_arg10) := by
  have hz' : (fun a => win0_10.index t a * main_arg10.ty.shape.size a) = fun _ => 0 := by
    rcases fin_N0 t with rfl | rfl | rfl | rfl | rfl | rfl | rfl | rfl <;> exact funext fun a => by fin_cases a <;> decide +kernel
  exact (Memref.read_access_unit_zero (Elt Ideal) main_arg10 hz' (fun a => by rw [congrFun hz' a]; simp) _).trans (V_main_arg10 m c)

theorem iblk11 (c : Dev nD) (t : Fin cfg0.N) : (iblk m c 11 t : Vec Ideal S1x1024 .f32) = m ((c : Thread nD τ).loc main_arg11) := by
  have hz' : (fun a => win0_11.index t a * main_arg11.ty.shape.size a) = fun _ => 0 := by
    rcases fin_N0 t with rfl | rfl | rfl | rfl | rfl | rfl | rfl | rfl <;> exact funext fun a => by fin_cases a <;> decide +kernel
  exact (Memref.read_access_unit_zero (Elt Ideal) main_arg11 hz' (fun a => by rw [congrFun hz' a]; simp) _).trans (V_main_arg11 m c)

/-- Row `r` of the block at point `t` is row `512 t + r` of the array. -/
theorem iblk0 (c : Dev nD) (t : Fin cfg0.N) (r : Fin 512) (l : Fin 1536) (q : Fin 4096) (hq : q.val = 512 * t.val + r.val) :
    (iblk m c 0 t : Vec Ideal S512x1536 .bf16) (ix2 r l) = m ((c : Thread nD τ).loc main_arg0) (ix2 q l) := by
  have hi : win0_0.index t 0 = t.val ∧ win0_0.index t 1 = 0 := by
    rcases fin_N0 t with rfl | rfl | rfl | rfl | rfl | rfl | rfl | rfl <;> decide +kernel
  unfold iblk
  rw [View.read_apply]
  show V m c main_arg0 _ = _
  rw [V_main_arg0 m c]
  congr 1
  funext a
  apply Fin.ext
  match a with
  | ⟨0, _⟩ => show win0_0.index t 0 * 512 + 1 * r.val = q.val; rw [hi.1]; omega
  | ⟨1, _⟩ => show win0_0.index t 1 * 1536 + 1 * l.val = l.val; rw [hi.2]; omega

theorem iblk1 (c : Dev nD) (t : Fin cfg0.N) (r : Fin 512) (l : Fin 512) (q : Fin 4096) (hq : q.val = 512 * t.val + r.val) :
    (iblk m c 1 t : Vec Ideal S512x512 .bf16) (ix2 r l) = m ((c : Thread nD τ).loc main_arg1) (ix2 q l) := by
  have hi : win0_1.index t 0 = t.val ∧ win0_1.index t 1 = 0 := by
    rcases fin_N0 t with rfl | rfl | rfl | rfl | rfl | rfl | rfl | rfl <;> decide +kernel
  unfold iblk
  rw [View.read_apply]
  show V m c main_arg1 _ = _
  rw [V_main_arg1 m c]
  congr 1
  funext a
  apply Fin.ext
  match a with
  | ⟨0, _⟩ => show win0_1.index t 0 * 512 + 1 * r.val = q.val; rw [hi.1]; omega
  | ⟨1, _⟩ => show win0_1.index t 1 * 512 + 1 * l.val = l.val; rw [hi.2]; omega

theorem iblk2 (c : Dev nD) (t : Fin cfg0.N) (r : Fin 512) (l : Fin 512) (q : Fin 4096) (hq : q.val = 512 * t.val + r.val) :
    (iblk m c 2 t : Vec Ideal S512x512 .bf16) (ix2 r l) = m ((c : Thread nD τ).loc main_arg2) (ix2 q l) := by
  have hi : win0_2.index t 0 = t.val ∧ win0_2.index t 1 = 0 := by
    rcases fin_N0 t with rfl | rfl | rfl | rfl | rfl | rfl | rfl | rfl <;> decide +kernel
  unfold iblk
  rw [View.read_apply]
  show V m c main_arg2 _ = _
  rw [V_main_arg2 m c]
  congr 1
  funext a
  apply Fin.ext
  match a with
  | ⟨0, _⟩ => show win0_2.index t 0 * 512 + 1 * r.val = q.val; rw [hi.1]; omega
  | ⟨1, _⟩ => show win0_2.index t 1 * 512 + 1 * l.val = l.val; rw [hi.2]; omega

theorem iblk3 (c : Dev nD) (t : Fin cfg0.N) (r : Fin 512) (l : Fin 512) (q : Fin 4096) (hq : q.val = 512 * t.val + r.val) :
    (iblk m c 3 t : Vec Ideal S512x512 .bf16) (ix2 r l) = m ((c : Thread nD τ).loc main_arg3) (ix2 q l) := by
  have hi : win0_3.index t 0 = t.val ∧ win0_3.index t 1 = 0 := by
    rcases fin_N0 t with rfl | rfl | rfl | rfl | rfl | rfl | rfl | rfl <;> decide +kernel
  unfold iblk
  rw [View.read_apply]
  show V m c main_arg3 _ = _
  rw [V_main_arg3 m c]
  congr 1
  funext a
  apply Fin.ext
  match a with
  | ⟨0, _⟩ => show win0_3.index t 0 * 512 + 1 * r.val = q.val; rw [hi.1]; omega
  | ⟨1, _⟩ => show win0_3.index t 1 * 512 + 1 * l.val = l.val; rw [hi.2]; omega

theorem iblk4 (c : Dev nD) (t : Fin cfg0.N) (r : Fin 512) (l : Fin 512) (q : Fin 4096) (hq : q.val = 512 * t.val + r.val) :
    (iblk m c 4 t : Vec Ideal S512x512 .bf16) (ix2 r l) = m ((c : Thread nD τ).loc main_arg4) (ix2 q l) := by
  have hi : win0_4.index t 0 = t.val ∧ win0_4.index t 1 = 0 := by
    rcases fin_N0 t with rfl | rfl | rfl | rfl | rfl | rfl | rfl | rfl <;> decide +kernel
  unfold iblk
  rw [View.read_apply]
  show V m c main_arg4 _ = _
  rw [V_main_arg4 m c]
  congr 1
  funext a
  apply Fin.ext
  match a with
  | ⟨0, _⟩ => show win0_4.index t 0 * 512 + 1 * r.val = q.val; rw [hi.1]; omega
  | ⟨1, _⟩ => show win0_4.index t 1 * 512 + 1 * l.val = l.val; rw [hi.2]; omega

theorem iblk6 (c : Dev nD) (t : Fin cfg0.N) (r : Fin 512) (l : Fin 1024) (q : Fin 4096) (hq : q.val = 512 * t.val + r.val) :
    (iblk m c 6 t : Vec Ideal S512x1024 .f32) (ix2 r l) = m ((c : Thread nD τ).loc main_arg6) (ix2 q l) := by
  have hi : win0_6.index t 0 = t.val ∧ win0_6.index t 1 = 0 := by
    rcases fin_N0 t with rfl | rfl | rfl | rfl | rfl | rfl | rfl | rfl <;> decide +kernel
  unfold iblk
  rw [View.read_apply]
  show V m c main_arg6 _ = _
  rw [V_main_arg6 m c]
  congr 1
  funext a
  apply Fin.ext
  match a with
  | ⟨0, _⟩ => show win0_6.index t 0 * 512 + 1 * r.val = q.val; rw [hi.1]; omega
  | ⟨1, _⟩ => show win0_6.index t 1 * 1024 + 1 * l.val = l.val; rw [hi.2]; omega

theorem iblk7 (c : Dev nD) (t : Fin cfg0.N) (r : Fin 512) (l : Fin 1024) (q : Fin 4096) (hq : q.val = 512 * t.val + r.val) :
    (iblk m c 7 t : Vec Ideal S512x1024 .f32) (ix2 r l) = m ((c : Thread nD τ).loc main_arg7) (ix2 q l) := by
  have hi : win0_7.index t 0 = t.val ∧ win0_7.index t 1 = 0 := by
    rcases fin_N0 t with rfl | rfl | rfl | rfl | rfl | rfl | rfl | rfl <;> decide +kernel
  unfold iblk
  rw [View.read_apply]
  show V m c main_arg7 _ = _
  rw [V_main_arg7 m c]
  congr 1
  funext a
  apply Fin.ext
  match a with
  | ⟨0, _⟩ => show win0_7.index t 0 * 512 + 1 * r.val = q.val; rw [hi.1]; omega
  | ⟨1, _⟩ => show win0_7.index t 1 * 1024 + 1 * l.val = l.val; rw [hi.2]; omega

open Cert.DhPair (Rows Cols row)

theorem hoff0 (t : Fin cfg0.N) : 512 * t.val + 256 ≤ 4096 := by have h : t.val < 8 := t.isLt; omega
theorem hoff1 (t : Fin cfg0.N) : (512 * t.val + 256) + 256 ≤ 4096 := by have h : t.val < 8 := t.isLt; omega

/-- A load of `K` columns of the weight's block, from column `q` on. -/
theorem w_cols (c : Dev nD) (t : Fin cfg0.N) {K : Nat} (q : Nat) (hq : q + K ≤ 3584) (inb) (r : Fin 1024) (k : Fin K) :
    (iblk m c 5 t : Vec Ideal S1024x3584 .bf16) ((Rect.unit (s := S1024x3584) ![0, q] ![1024, K] inb).emb (ix2 r k))
      = m ((c : Thread nD τ).loc main_arg5) (ix2 r ⟨q + k.val, by omega⟩) := by
  refine Eq.trans (congrArg (iblk m c 5 t : Vec Ideal S1024x3584 .bf16) (funext fun a => Fin.ext ?_)) (iblk5 m c t r _)
  match a with
  | ⟨0, _⟩ => show 0 + 1 * r.val = r.val; omega
  | ⟨1, _⟩ => show q + 1 * k.val = q + k.val; omega

theorem cols (c : Dev nD) (t : Fin cfg0.N) : Cols (m ((c : Thread nD τ).loc main_arg5))
    (View.ld (iblk m c 5 t : Vec Ideal S1024x3584 .bf16) (Rect.unit (s := S1024x3584) ![0, 0] ![1024, 1536] inb_S1024x3584_S1024x1536_0_0))
    (View.ld (iblk m c 5 t : Vec Ideal S1024x3584 .bf16) (Rect.unit (s := S1024x3584) ![0, 1536] ![1024, 512] inb_S1024x3584_S1024x512_0_1536))
    (View.ld (iblk m c 5 t : Vec Ideal S1024x3584 .bf16) (Rect.unit (s := S1024x3584) ![0, 2048] ![1024, 512] inb_S1024x3584_S1024x512_0_2048))
    (View.ld (iblk m c 5 t : Vec Ideal S1024x3584 .bf16) (Rect.unit (s := S1024x3584) ![0, 2560] ![1024, 512] inb_S1024x3584_S1024x512_0_2560))
    (View.ld (iblk m c 5 t : Vec Ideal S1024x3584 .bf16) (Rect.unit (s := S1024x3584) ![0, 3072] ![1024, 512] inb_S1024x3584_S1024x512_0_3072)) := by
  constructor <;> intro r k
  · refine (w_cols m c t 0 (by decide) _ r k).trans ?_
    congr 2; apply Fin.ext; show 0 + k.val = k.val; omega
  · exact w_cols m c t 1536 (by decide) _ r k
  · exact w_cols m c t 2048 (by decide) _ r k
  · exact w_cols m c t 2560 (by decide) _ r k
  · exact w_cols m c t 3072 (by decide) _ r k

/-- If a block's row `r` is row `512 t + r` of an array, its two halves are the array's rows from `512 t` and from `512 t + 256`. -/
theorem rows0 {n : Nat} {α : Type} (t : Fin cfg0.N) (x : (⟨2, ![512, n]⟩ : Shape).Idx → α) (b : (⟨2, ![4096, n]⟩ : Shape).Idx → α)
    (h : ∀ (r : Fin 512) (l : Fin n) (q : Fin 4096), q.val = 512 * t.val + r.val → x (ix2 r l) = b (ix2 q l)) (inb) :
    Rows (512 * t.val) (hoff0 t) (fun j : (⟨2, ![256, n]⟩ : Shape).Idx => x ((Rect.unit (s := ⟨2, ![512, n]⟩) ![0, 0] ![256, n] inb).emb j)) b := by
  intro r l
  refine Eq.trans (congrArg x (funext fun a => Fin.ext ?_)) (h ⟨r.val, by omega⟩ l _ rfl)
  match a with
  | ⟨0, _⟩ => show 0 + 1 * r.val = r.val; omega
  | ⟨1, _⟩ => show 0 + 1 * l.val = l.val; omega
theorem rows1 {n : Nat} {α : Type} (t : Fin cfg0.N) (x : (⟨2, ![512, n]⟩ : Shape).Idx → α) (b : (⟨2, ![4096, n]⟩ : Shape).Idx → α)
    (h : ∀ (r : Fin 512) (l : Fin n) (q : Fin 4096), q.val = 512 * t.val + r.val → x (ix2 r l) = b (ix2 q l)) (inb) :
    Rows (512 * t.val + 256) (hoff1 t) (fun j : (⟨2, ![256, n]⟩ : Shape).Idx => x ((Rect.unit (s := ⟨2, ![512, n]⟩) ![256, 0] ![256, n] inb).emb j)) b := by
  intro r l
  refine Eq.trans (congrArg x (funext fun a => Fin.ext ?_)) (h ⟨256 + r.val, by omega⟩ l _ (by show 512 * t.val + 256 + r.val = 512 * t.val + (256 + r.val); omega))
  match a with
  | ⟨0, _⟩ => show 256 + 1 * r.val = 256 + r.val; omega
  | ⟨1, _⟩ => show 0 + 1 * l.val = l.val; omega

section Tile
variable (c : Dev nD) (t : Fin cfg0.N)

/-- The reference's named results, of the arrays the call takes. -/
abbrev rdh := Cert.DhRefIdeal.Read.val_main_v30 (F := Ideal) (A m c main_arg0) (A m c main_arg1) (A m c main_arg2) (A m c main_arg3) (A m c main_arg4) (A m c main_arg5)
abbrev rsc := Cert.DhRefIdeal.Read.val_main_v33 (F := Ideal) (A m c main_arg0) (A m c main_arg1) (A m c main_arg2) (A m c main_arg3) (A m c main_arg4) (A m c main_arg5) (A m c main_arg6) (A m c main_arg10)
abbrev rg := Cert.DhRefIdeal.Read.val_main_v38 (F := Ideal) (A m c main_arg0) (A m c main_arg1) (A m c main_arg2) (A m c main_arg3) (A m c main_arg4) (A m c main_arg5) (A m c main_arg6) (A m c main_arg9)
abbrev rgx := Cert.DhRefIdeal.Read.val_main_v58 (F := Ideal) (A m c main_arg0) (A m c main_arg1) (A m c main_arg2) (A m c main_arg3) (A m c main_arg4) (A m c main_arg5) (A m c main_arg6) (A m c main_arg7) (A m c main_arg9) (A m c main_arg10)

theorem dh0 : Rows (512 * t.val) (hoff0 t) (D0 (iblk m c 0 t) (iblk m c 1 t) (iblk m c 2 t) (iblk m c 3 t) (iblk m c 4 t) (iblk m c 5 t)) (rdh m c) :=
  Cert.DhPair.pay3_eq _ _ _ _ _ _ _ _ _ _ _ _ _ _ _ _ _ _ (cols m c t) (rows0 t _ _ (iblk0 m c t) _) (rows0 t _ _ (iblk1 m c t) _)
    (rows0 t _ _ (iblk2 m c t) _) (rows0 t _ _ (iblk3 m c t) _) (rows0 t _ _ (iblk4 m c t) _)
theorem dh1 : Rows (512 * t.val + 256) (hoff1 t) (D1 (iblk m c 0 t) (iblk m c 1 t) (iblk m c 2 t) (iblk m c 3 t) (iblk m c 4 t) (iblk m c 5 t)) (rdh m c) :=
  Cert.DhPair.pay3_eq _ _ _ _ _ _ _ _ _ _ _ _ _ _ _ _ _ _ (cols m c t) (rows1 t _ _ (iblk0 m c t) _) (rows1 t _ _ (iblk1 m c t) _)
    (rows1 t _ _ (iblk2 m c t) _) (rows1 t _ _ (iblk3 m c t) _) (rows1 t _ _ (iblk4 m c t) _)
theorem x0 : Rows (512 * t.val) (hoff0 t) (T0 (iblk m c 6 t)) (A m c main_arg6) := rows0 t _ _ (iblk6 m c t) _
theorem x1 : Rows (512 * t.val + 256) (hoff1 t) (T1 (iblk m c 6 t)) (A m c main_arg6) := rows1 t _ _ (iblk6 m c t) _
theorem dy0 : Rows (512 * t.val) (hoff0 t) (T0 (iblk m c 7 t)) (A m c main_arg7) := rows0 t _ _ (iblk7 m c t) _
theorem dy1 : Rows (512 * t.val + 256) (hoff1 t) (T1 (iblk m c 7 t)) (A m c main_arg7) := rows1 t _ _ (iblk7 m c t) _

end Tile

/-- Column `l` of an array of 4096 rows, as a function of the row's number. -/
def col (f : Vec Ideal S4096x1024 .f32) (l : Fin 1024) (k : Nat) : EReal := if h : k < 4096 then f (ix2 ⟨k, h⟩ l) else 0

theorem col_sub (f : Vec Ideal S4096x1024 .f32) (l : Fin 1024) (o : Nat) (ho : o + 256 ≤ 4096) :
    ∑ r : Fin 256, f (ix2 (row o ho r) l) = ∑ k ∈ Finset.range 256, col f l (o + k) := by
  rw [Finset.sum_range]
  exact Finset.sum_congr rfl fun r _ => by unfold col; rw [dif_pos (by omega)]

/-- Two subtiles' sums added to the sum over the rows before them. -/
theorem col_step (f : Vec Ideal S4096x1024 .f32) (l : Fin 1024) (n : Nat) (ho : 512 * n + 256 ≤ 4096) (ho' : (512 * n + 256) + 256 ≤ 4096) :
    ∑ k ∈ Finset.range (512 * n), col f l k + ∑ r : Fin 256, f (ix2 (row _ ho r) l) + ∑ r : Fin 256, f (ix2 (row _ ho' r) l)
      = ∑ k ∈ Finset.range (512 * (n + 1)), col f l k := by
  rw [col_sub, col_sub, show 512 * (n + 1) = 512 * n + 256 + 256 by omega, Finset.sum_range_add, Finset.sum_range_add]

theorem col_all (f : Vec Ideal S4096x1024 .f32) (l : Fin 1024) : ∑ k ∈ Finset.range 4096, col f l k = ∑ k : Fin 4096, f (ix2 k l) := by
  rw [Finset.sum_range]
  exact Finset.sum_congr rfl fun r _ => by unfold col; rw [dif_pos r.isLt]

/-- The three running sums after point `n`. -/
def acc (z : Vec Ideal S1x1024 .f32) (f : Vec Ideal S4096x1024 .f32) (n : Nat) : Vec Ideal S1x1024 .f32 :=
  fun j => z j + ∑ k ∈ Finset.range (512 * n), col f (show Fin 1024 from j 1) k

theorem acc_at (z : Vec Ideal S1x1024 .f32) (f : Vec Ideal S4096x1024 .f32) (n : Nat) (r : Fin 1) (l : Fin 1024) :
    acc z f n (ix2 r l) = z (ix2 r l) + ∑ k ∈ Finset.range (512 * n), col f l k := rfl

theorem acc_zero (z : Vec Ideal S1x1024 .f32) (f : Vec Ideal S4096x1024 .f32) : acc z f 0 = z := by
  funext j; simp [acc]

theorem next13_acc (c : Dev nD) (t : Fin cfg0.N) (z : Vec Ideal S1x1024 .f32) :
    next13 (iblk m c 0 t) (iblk m c 1 t) (iblk m c 2 t) (iblk m c 3 t) (iblk m c 4 t) (iblk m c 5 t) (acc z (rdh m c) t.val) = acc z (rdh m c) (t.val + 1) := by
  funext j
  idx_vars j
  rw [acc_at, ← col_step _ _ _ (hoff0 t) (hoff1 t)]
  pointwise [k0_pay15]
  simp only [Cert.DhPair.pay7_eq _ _ _ _ _ _ (dh0 m c t), Cert.DhPair.pay7_eq _ _ _ _ _ _ (dh1 m c t), acc_at, add_assoc]

theorem next14_acc (c : Dev nD) (t : Fin cfg0.N) (z : Vec Ideal S1x1024 .f32) :
    next14 (iblk m c 0 t) (iblk m c 1 t) (iblk m c 2 t) (iblk m c 3 t) (iblk m c 4 t) (iblk m c 5 t) (iblk m c 6 t) (iblk m c 10 t) (acc z (rsc m c) t.val) = acc z (rsc m c) (t.val + 1) := by
  funext j
  idx_vars j
  rw [acc_at, ← col_step _ _ _ (hoff0 t) (hoff1 t), iblk10]
  pointwise [k0_pay14]
  simp only [Cert.DhPair.pay8_eq _ _ _ _ _ _ _ _ (dh0 m c t) (x0 m c t), Cert.DhPair.pay8_eq _ _ _ _ _ _ _ _ (dh1 m c t) (x1 m c t), acc_at, add_assoc]

theorem next15_acc (c : Dev nD) (t : Fin cfg0.N) (z : Vec Ideal S1x1024 .f32) :
    next15 (iblk m c 0 t) (iblk m c 1 t) (iblk m c 2 t) (iblk m c 3 t) (iblk m c 4 t) (iblk m c 5 t) (iblk m c 6 t) (iblk m c 9 t) (acc z (rg m c) t.val) = acc z (rg m c) (t.val + 1) := by
  funext j
  idx_vars j
  rw [acc_at, ← col_step _ _ _ (hoff0 t) (hoff1 t), iblk9]
  pointwise [k0_pay13]
  simp only [Cert.DhPair.pay10_eq _ _ _ _ _ _ _ _ (dh0 m c t) (x0 m c t), Cert.DhPair.pay10_eq _ _ _ _ _ _ _ _ (dh1 m c t) (x1 m c t), acc_at, add_assoc]

/-- What the four output buffers hold after point `n`. -/
theorem outsAt_eq (c : Dev nD) : ∀ (n : ℕ) (h : n < cfg0.N), outsAt0 m c n h
    = (gx (iblk m c 0 ⟨n, h⟩) (iblk m c 1 ⟨n, h⟩) (iblk m c 2 ⟨n, h⟩) (iblk m c 3 ⟨n, h⟩) (iblk m c 4 ⟨n, h⟩) (iblk m c 5 ⟨n, h⟩) (iblk m c 6 ⟨n, h⟩) (iblk m c 7 ⟨n, h⟩) (iblk m c 9 ⟨n, h⟩) (iblk m c 10 ⟨n, h⟩),
       acc (k0_pay1 (F := Ideal)) (rdh m c) (n + 1), acc (k0_pay2 (F := Ideal)) (rsc m c) (n + 1), acc (A m c main_arg11) (rg m c) (n + 1))
  | 0, h => by
    refine (outsAt0_A m c ⟨0, h⟩ rfl).trans ?_
    rw [bodyA12, bodyA13, bodyA14, bodyA15, ← next13_acc m c ⟨0, h⟩, ← next14_acc m c ⟨0, h⟩, ← next15_acc m c ⟨0, h⟩, acc_zero, acc_zero, acc_zero, iblk11]
  | n + 1, h => by
    have hN : cfg0.N = 8 := N_0
    have hB : ¬(⟨n + 1, h⟩ : Fin cfg0.N).val % 8 = 0 := by dsimp only; omega
    refine (outsAt0_B m c ⟨n + 1, h⟩ hB).trans ?_
    rw [bodyB12, bodyB13, bodyB14, bodyB15, ← next13_acc m c ⟨n + 1, h⟩, ← next14_acc m c ⟨n + 1, h⟩, ← next15_acc m c ⟨n + 1, h⟩]
    simp only [Nat.add_sub_cancel, outsAt_eq c n]

open Cert.DhRefIdeal.Read in
theorem acc13_all (c : Dev nD) : acc (k0_pay1 (F := Ideal)) (rdh m c) 8
    = val_main_v32 (F := Ideal) (A m c main_arg0) (A m c main_arg1) (A m c main_arg2) (A m c main_arg3) (A m c main_arg4) (A m c main_arg5) := by
  funext j
  idx_vars j
  rw [acc_at, show 512 * 8 = 4096 from rfl, col_all]
  pointwise [k0_pay1, val_main_v32, val_main_v31, val_main_cst_4]

open Cert.DhRefIdeal.Read in
theorem acc14_all (c : Dev nD) : acc (k0_pay2 (F := Ideal)) (rsc m c) 8
    = val_main_v35 (F := Ideal) (A m c main_arg0) (A m c main_arg1) (A m c main_arg2) (A m c main_arg3) (A m c main_arg4) (A m c main_arg5) (A m c main_arg6) (A m c main_arg10) := by
  funext j
  idx_vars j
  rw [acc_at, show 512 * 8 = 4096 from rfl, col_all]
  pointwise [k0_pay2, val_main_v35, val_main_v34, val_main_cst_5]

open Cert.DhRefIdeal.Read in
theorem acc15_all (c : Dev nD) : acc (A m c main_arg11) (rg m c) 8
    = val_main_v60 (F := Ideal) (A m c main_arg0) (A m c main_arg1) (A m c main_arg2) (A m c main_arg3) (A m c main_arg4) (A m c main_arg5) (A m c main_arg6) (A m c main_arg9) (A m c main_arg11) := by
  funext j
  idx_vars j
  rw [acc_at, show 512 * 8 = 4096 from rfl, col_all]
  pointwise [val_main_v60, val_main_v59, val_main_v43, val_main_v40, val_main_v39, val_main_cst_6, val_main_cst_7]
  simp only [Fin.sum_univ_one, zero_add]

/-- A running sum is written back once, after the last point, and its block is the whole array. -/
theorem final13 (c : Dev nD) : (dats m 0 c).arrAt 13 cfg0.N = acc (k0_pay1 (F := Ideal)) (rdh m c) 8 :=
  (dats m 0 c).arrAt_eq_of_cover 13 (acc (k0_pay1 (F := Ideal)) (rdh m c) 8) (fun t hf => by
      have h7 : t.val = 7 := by have := (flush0_13 t).mp hf; have h : t.val < 8 := t.isLt; omega
      obtain rfl : t = t0_7 := Fin.ext h7
      show (cfg0.win 13).cut (grid0.coords t0_7) ((dats m 0 c).after 13 t0_7) = _
      rw [after0_13, outsAt_eq]
      have hz' : (fun a => win0_13.index t0_7 a * main_v1_1.ty.shape.size a) = fun _ => 0 := funext fun a => by fin_cases a <;> decide
      exact (Memref.read_access_unit_zero (Elt Ideal) main_v1_1 hz' (fun a => by rw [congrFun hz' a]; simp) _).symm)
    fun i => ⟨t0_7, (flush0_13 t0_7).mpr rfl, by
      have hz' : (fun a => win0_13.index t0_7 a * win0_13.size a) = fun _ => 0 := funext fun a => by fin_cases a <;> decide +kernel
      show i ∈ ((View.whole main_v1_1).slice (win0_13.rect t0_7)).set
      rw [View.set_slice_whole]
      exact View.mem_set_unit_zero (S := S1x1024) hz' _ i⟩

theorem final14 (c : Dev nD) : (dats m 0 c).arrAt 14 cfg0.N = acc (k0_pay2 (F := Ideal)) (rsc m c) 8 :=
  (dats m 0 c).arrAt_eq_of_cover 14 (acc (k0_pay2 (F := Ideal)) (rsc m c) 8) (fun t hf => by
      have h7 : t.val = 7 := by have := (flush0_14 t).mp hf; have h : t.val < 8 := t.isLt; omega
      obtain rfl : t = t0_7 := Fin.ext h7
      show (cfg0.win 14).cut (grid0.coords t0_7) ((dats m 0 c).after 14 t0_7) = _
      rw [after0_14, outsAt_eq]
      have hz' : (fun a => win0_14.index t0_7 a * main_v1_2.ty.shape.size a) = fun _ => 0 := funext fun a => by fin_cases a <;> decide
      exact (Memref.read_access_unit_zero (Elt Ideal) main_v1_2 hz' (fun a => by rw [congrFun hz' a]; simp) _).symm)
    fun i => ⟨t0_7, (flush0_14 t0_7).mpr rfl, by
      have hz' : (fun a => win0_14.index t0_7 a * win0_14.size a) = fun _ => 0 := funext fun a => by fin_cases a <;> decide +kernel
      show i ∈ ((View.whole main_v1_2).slice (win0_14.rect t0_7)).set
      rw [View.set_slice_whole]
      exact View.mem_set_unit_zero (S := S1x1024) hz' _ i⟩

theorem final15 (c : Dev nD) : (dats m 0 c).arrAt 15 cfg0.N = acc (A m c main_arg11) (rg m c) 8 :=
  (dats m 0 c).arrAt_eq_of_cover 15 (acc (A m c main_arg11) (rg m c) 8) (fun t hf => by
      have h7 : t.val = 7 := by have := (flush0_15 t).mp hf; have h : t.val < 8 := t.isLt; omega
      obtain rfl : t = t0_7 := Fin.ext h7
      show (cfg0.win 15).cut (grid0.coords t0_7) ((dats m 0 c).after 15 t0_7) = _
      rw [after0_15, outsAt_eq]
      have hz' : (fun a => win0_15.index t0_7 a * main_v1_3.ty.shape.size a) = fun _ => 0 := funext fun a => by fin_cases a <;> decide
      exact (Memref.read_access_unit_zero (Elt Ideal) main_v1_3 hz' (fun a => by rw [congrFun hz' a]; simp) _).symm)
    fun i => ⟨t0_7, (flush0_15 t0_7).mpr rfl, by
      have hz' : (fun a => win0_15.index t0_7 a * win0_15.size a) = fun _ => 0 := funext fun a => by fin_cases a <;> decide +kernel
      show i ∈ ((View.whole main_v1_3).slice (win0_15.rect t0_7)).set
      rw [View.set_slice_whole]
      exact View.mem_set_unit_zero (S := S1x1024) hz' _ i⟩

/-- The input's gradient's block at point `t`, at an index. -/
theorem gx_at (c : Dev nD) (t : Fin cfg0.N) (r : Fin 512) (l : Fin 1024) (q : Fin 4096) (hq : q.val = 512 * t.val + r.val) :
    gx (iblk m c 0 t) (iblk m c 1 t) (iblk m c 2 t) (iblk m c 3 t) (iblk m c 4 t) (iblk m c 5 t) (iblk m c 6 t) (iblk m c 7 t) (iblk m c 9 t) (iblk m c 10 t) (ix2 r l)
      = rgx m c (ix2 q l) := by
  have ht : t.val < 8 := t.isLt
  have e0 := Cert.DhPair.pay12_eq _ _ _ _ _ _ _ _ (A m c main_arg9) (A m c main_arg10) (dh0 m c t) (x0 m c t) (dy0 m c t)
  have e1 := Cert.DhPair.pay12_eq _ _ _ _ _ _ _ _ (A m c main_arg9) (A m c main_arg10) (dh1 m c t) (x1 m c t) (dy1 m c t)
  rw [iblk9, iblk10]
  unfold gx
  by_cases h : r.val < 256
  · rw [View.canon_cons_of_not_mem]
    · have hx : (ix2 r l : S512x1024.Idx) = (Rect.unit (s := S512x1024) ![0, 0] ![256, 1024] inb_S512x1024_S256x1024_0_0).emb (ix2 ⟨r.val, h⟩ l) := by
        funext a; apply Fin.ext
        match a with
        | ⟨0, _⟩ => show r.val = 0 + 1 * r.val; omega
        | ⟨1, _⟩ => show l.val = 0 + 1 * l.val; omega
      rw [hx, View.canon_cons_emb]
      refine (e0 ⟨r.val, h⟩ l).trans ?_
      congr 2; exact Fin.ext hq.symm
    · intro hm
      have hm' : (ix2 r l : S512x1024.Idx) ∈ (Rect.unit (s := S512x1024) ![256, 0] ![256, 1024] inb_S512x1024_S256x1024_256_0).set := hm
      rw [Rect.mem_set_unit] at hm'
      have : 256 ≤ r.val := (hm' 0).1
      omega
  · have hx : (ix2 r l : S512x1024.Idx) = (Rect.unit (s := S512x1024) ![256, 0] ![256, 1024] inb_S512x1024_S256x1024_256_0).emb (ix2 ⟨r.val - 256, by omega⟩ l) := by
      funext a; apply Fin.ext
      match a with
      | ⟨0, _⟩ => show r.val = 256 + 1 * (r.val - 256); omega
      | ⟨1, _⟩ => show l.val = 0 + 1 * l.val; omega
    rw [hx, View.canon_cons_emb]
    refine (e1 ⟨r.val - 256, by omega⟩ l).trans ?_
    congr 2; apply Fin.ext; show 512 * t.val + 256 + (r.val - 256) = q.val; omega

theorem hi12 (t : Fin cfg0.N) : win0_12.index t 0 = t.val ∧ win0_12.index t 1 = 0 := by
  rcases fin_N0 t with rfl | rfl | rfl | rfl | rfl | rfl | rfl | rfl <;> decide +kernel

/-- A block whose row `r` is row `512 t + r` of an array is that array's block at point `t`. -/
theorem tile_read (t : Fin cfg0.N) (X : Vec Ideal S512x1024 .f32) (G : Vec Ideal S4096x1024 .f32)
    (h : ∀ (r : Fin 512) (l : Fin 1024) (q : Fin 4096), q.val = 512 * t.val + r.val → X (ix2 r l) = G (ix2 q l)) :
    (cfg0.win 12).cut (grid0.coords t) X = ((cfg0.win 12).blk t).view.read (Elt Ideal) G := by
  funext j
  rw [View.read_apply]
  have ht : t.val < 8 := t.isLt
  have h0 : (j 0).val < 512 := (j 0).isLt
  have h1 : (j 1).val < 1024 := (j 1).isLt
  refine Eq.trans ?_ ((h ⟨(j 0).val, h0⟩ ⟨(j 1).val, h1⟩ ⟨512 * t.val + (j 0).val, by omega⟩ rfl).trans ?_)
  · show X _ = X _
    refine congrArg X (funext fun a => ?_)
    match a with
    | ⟨0, _⟩ => rfl
    | ⟨1, _⟩ => rfl
  · show G _ = G _
    refine congrArg G (funext fun a => Fin.ext ?_)
    match a with
    | ⟨0, _⟩ => show 512 * t.val + (j 0).val = win0_12.index t 0 * 512 + 1 * (j 0).val; rw [(hi12 t).1]; omega
    | ⟨1, _⟩ => show (j 1).val = win0_12.index t 1 * 1024 + 1 * (j 1).val; rw [(hi12 t).2]; omega

/-- The input's gradient after the run. -/
theorem final12 (c : Dev nD) : (dats m 0 c).arrAt 12 cfg0.N = rgx m c := by
  refine (dats m 0 c).arrAt_eq_of_cover 12 (rgx m c) (fun t _ => ?_) fun i => ?_
  · have e : (dats m 0 c).after 12 t = gx (iblk m c 0 t) (iblk m c 1 t) (iblk m c 2 t) (iblk m c 3 t) (iblk m c 4 t) (iblk m c 5 t) (iblk m c 6 t) (iblk m c 7 t) (iblk m c 9 t) (iblk m c 10 t) := by
      rw [after0_12, outsAt_eq]
    exact (congrArg ((cfg0.win 12).cut (grid0.coords t)) e).trans (tile_read t _ _ (gx_at m c t))
  · have h0 : (i 0 : Nat) < 4096 := (i 0).isLt
    have h1 : (i 1 : Nat) < 1024 := (i 1).isLt
    have hN : cfg0.N = 8 := N_0
    let t : Fin cfg0.N := ⟨(i 0).val / 512, by omega⟩
    refine ⟨t, (show (cfg0.win 12).flush t = true by rcases fin_N0 t with h | h | h | h | h | h | h | h <;> rw [h] <;> decide +kernel), ?_⟩
    show i ∈ ((View.whole main_v1_0).slice (win0_12.rect t)).set
    rw [View.set_slice_whole, Rect.mem_set_unit]
    intro a
    match a with
    | ⟨0, _⟩ => show win0_12.index t 0 * 512 ≤ (i 0 : Nat) ∧ (i 0 : Nat) < win0_12.index t 0 * 512 + 512
                rw [(hi12 t).1]; show (i 0 : Nat) / 512 * 512 ≤ (i 0 : Nat) ∧ (i 0 : Nat) < (i 0 : Nat) / 512 * 512 + 512; omega
    | ⟨1, _⟩ => show win0_12.index t 1 * 1024 ≤ (i 1 : Nat) ∧ (i 1 : Nat) < win0_12.index t 1 * 1024 + 1024
                rw [(hi12 t).2]; omega

end Cert.DhBwdIdeal.Value

namespace Cert.DhRefIdeal.Value

open Cert.DhRefIdeal Cert.DhRefIdeal.Read Idealize.ShloMosaic Idealize.ShloMosaic.TcCoe Idealize.SL.Sem

/-- The reference's run, its four results by name. -/
theorem run_val (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v58) = val_main_v58 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg9)) (m ((c.tc : Thread nD τ).loc main_arg10))
      ∧ r.2.mem ((c.tc : Thread nD τ).loc main_v32) = val_main_v32 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v35) = val_main_v35 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg10))
      ∧ r.2.mem ((c.tc : Thread nD τ).loc main_v60) = val_main_v60 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg9)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run _ _ _).mono (fun r h c => ⟨(h c).1.trans (val_main_v58_eq ..), (h c).2.1.trans (val_main_v32_eq ..),
    (h c).2.2.1.trans (val_main_v35_eq ..), (h c).2.2.2.1.trans (val_main_v60_eq ..), (h c).2.2.2.2⟩) (run m ρ)

end Cert.DhRefIdeal.Value
-- ==== Proof.OutRun.lean ====
module

public import proofs.«01_k».proof.Proof.Gen.OutProjIdeal.Frame
public import proofs.«01_k».proof.Proof.Gen.OutProjIdeal.Skeleton

@[expose] public section

set_option maxRecDepth 16384

noncomputable section

namespace Cert.OutProjIdeal.Out

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.OutProjIdeal.Gen

variable {F : FTy → Type} [FloatOps F]

/-- The blocks of one point: the first tile's and the next tile's gating columns, the gating weights, and the tile's
    rows of the other operands. -/
structure Ins (F : FTy → Type) where
  au0 : Vec F S512x512 .f32
  av0 : Vec F S512x512 .f32
  ag0 : Vec F S512x512 .f32
  au1 : Vec F S512x512 .f32
  av1 : Vec F S512x512 .f32
  ag1 : Vec F S512x512 .f32
  sg : Vec F S1x512 .f32
  ws : Vec F S4x128x128 .f32
  bs : Vec F S4x128x128 .f32
  b : Vec F S512x512 .f32
  x : Vec F S512x1024 .f32
  tgt : Vec F S512x1024 .f32
  gate : Vec F S1x1024 .f32
  w : Vec F S1024x1024 .bf16

/-- What the body writes into each result and into the scratch buffer, as rectangles with their values, last first. -/
structure Wr (F : FTy → Type) where
  loss : List (View.Piece (Elt F) S8x128 .f32)
  dy : List (View.Piece (Elt F) S512x1024 .f32)
  dcat : List (View.Piece (Elt F) S512x1024 .f32)
  dg : List (View.Piece (Elt F) S1x1024 .f32)
  dw : List (View.Piece (Elt F) S1024x1024 .f32)
  scr : List (View.Piece (Elt F) S2x512x512 .bf16)

variable (c : Dev nD) (i : grid0.Coords)
  {arg1 : Memref sig .tc .vmem S512x512 .f32} (harg1 : arg1.IsWhole)
  {arg2 : Memref sig .tc .vmem S512x512 .f32} (harg2 : arg2.IsWhole)
  {arg3 : Memref sig .tc .vmem S512x512 .f32} (harg3 : arg3.IsWhole)
  {arg4 : Memref sig .tc .vmem S512x512 .f32} (harg4 : arg4.IsWhole)
  {arg5 : Memref sig .tc .vmem S512x512 .f32} (harg5 : arg5.IsWhole)
  {arg6 : Memref sig .tc .vmem S512x512 .f32} (harg6 : arg6.IsWhole)
  {arg7 : Memref sig .tc .vmem S1x512 .f32} (harg7 : arg7.IsWhole)
  {arg8 : Memref sig .tc .vmem S4x128x128 .f32} (harg8 : arg8.IsWhole)
  {arg9 : Memref sig .tc .vmem S4x128x128 .f32} (harg9 : arg9.IsWhole)
  {arg10 : Memref sig .tc .vmem S512x512 .f32} (harg10 : arg10.IsWhole)
  {arg11 : Memref sig .tc .vmem S512x1024 .f32} (harg11 : arg11.IsWhole)
  {arg12 : Memref sig .tc .vmem S512x1024 .f32} (harg12 : arg12.IsWhole)
  {arg13 : Memref sig .tc .vmem S1x1024 .f32} (harg13 : arg13.IsWhole)
  {arg14 : Memref sig .tc .vmem S1024x1024 .bf16} (harg14 : arg14.IsWhole)
  {arg15 : Memref sig .tc .vmem S8x128 .f32} (harg15 : arg15.IsWhole)
  {arg16 : Memref sig .tc .vmem S512x1024 .f32} (harg16 : arg16.IsWhole)
  {arg17 : Memref sig .tc .vmem S512x1024 .f32} (harg17 : arg17.IsWhole)
  {arg18 : Memref sig .tc .vmem S1x1024 .f32} (harg18 : arg18.IsWhole)
  {arg19 : Memref sig .tc .vmem S1024x1024 .f32} (harg19 : arg19.IsWhole)
  {arg20 : Memref sig .tc .vmem S2x512x512 .bf16} (harg20 : arg20.IsWhole)

set_option maxHeartbeats 4000000 in
noncomputable def runB (hc : ¬Scalar.cmpi .ne (Scalar.extui (Scalar.cmpi .eq (BitVec.ofNat 32 (i 0).val) 0#32)) 0#32 = 1#1)
    (X : Ins F) (l : Vec F S8x128 .f32) (g : Vec F S1x1024 .f32) (r : Vec F S1024x1024 .f32) (d : Vec F S2x512x512 .bf16) :
    { L : Wr F // ∀ (E : Set ℕ) (K : PUnit → sProp (MT nD τ sig Unit (Elt F) ℕ (UR sig nD τ) ℕ)),
      iprop(owns (c : Thread nD τ) arg1 fullShare X.au0 ∗ owns (c : Thread nD τ) arg2 fullShare X.av0 ∗ owns (c : Thread nD τ) arg3 fullShare X.ag0 ∗ owns (c : Thread nD τ) arg4 fullShare X.au1 ∗ owns (c : Thread nD τ) arg5 fullShare X.av1 ∗ owns (c : Thread nD τ) arg6 fullShare X.ag1 ∗ owns (c : Thread nD τ) arg7 fullShare X.sg ∗ owns (c : Thread nD τ) arg8 fullShare X.ws ∗ owns (c : Thread nD τ) arg9 fullShare X.bs ∗ owns (c : Thread nD τ) arg10 fullShare X.b ∗ owns (c : Thread nD τ) arg11 fullShare X.x ∗ owns (c : Thread nD τ) arg12 fullShare X.tgt ∗ owns (c : Thread nD τ) arg13 fullShare X.gate ∗ owns (c : Thread nD τ) arg14 fullShare X.w
          ∗ owns (c : Thread nD τ) arg15 fullShare l ∗ (∃ d, owns (c : Thread nD τ) arg16 fullShare d) ∗ (∃ d, owns (c : Thread nD τ) arg17 fullShare d) ∗ owns (c : Thread nD τ) arg18 fullShare g ∗ owns (c : Thread nD τ) arg19 fullShare r ∗ owns (c : Thread nD τ) arg20 fullShare d
          ∗ (iprop(owns (c : Thread nD τ) arg1 fullShare X.au0 ∗ owns (c : Thread nD τ) arg2 fullShare X.av0 ∗ owns (c : Thread nD τ) arg3 fullShare X.ag0 ∗ owns (c : Thread nD τ) arg4 fullShare X.au1 ∗ owns (c : Thread nD τ) arg5 fullShare X.av1 ∗ owns (c : Thread nD τ) arg6 fullShare X.ag1 ∗ owns (c : Thread nD τ) arg7 fullShare X.sg ∗ owns (c : Thread nD τ) arg8 fullShare X.ws ∗ owns (c : Thread nD τ) arg9 fullShare X.bs ∗ owns (c : Thread nD τ) arg10 fullShare X.b ∗ owns (c : Thread nD τ) arg11 fullShare X.x ∗ owns (c : Thread nD τ) arg12 fullShare X.tgt ∗ owns (c : Thread nD τ) arg13 fullShare X.gate ∗ owns (c : Thread nD τ) arg14 fullShare X.w
            ∗ (∃ f, arg15.view.loc (c : Thread nD τ) ↦[arg15.view.set]{fullShare} arg15.view.writes (Elt F) f L.loss) ∗ (∃ f, arg16.view.loc (c : Thread nD τ) ↦[arg16.view.set]{fullShare} arg16.view.writes (Elt F) f L.dy) ∗ (∃ f, arg17.view.loc (c : Thread nD τ) ↦[arg17.view.set]{fullShare} arg17.view.writes (Elt F) f L.dcat) ∗ (∃ f, arg18.view.loc (c : Thread nD τ) ↦[arg18.view.set]{fullShare} arg18.view.writes (Elt F) f L.dg) ∗ (∃ f, arg19.view.loc (c : Thread nD τ) ↦[arg19.view.set]{fullShare} arg19.view.writes (Elt F) f L.dw) ∗ arg20.view.loc (c : Thread nD τ) ↦[arg20.view.set]{fullShare} arg20.view.writes (Elt F) (harg20.unread d) L.scr) -∗ K ⟨⟩))
        ⊢ wp frame (wpE (defs₀ (F := F)) Variants.none c none) E (cc0_outproj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨⟨?_, ?_, ?_, ?_, ?_, ?_⟩, fun E K => ?run⟩
  case run =>
    simp only [cc0_outproj_eq_skeleton]; unfold cc0_outproj_skel
    simp only [k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%f18, %hf18, H18⟩, ⟨%f19, %hf19, H19⟩, ⟨%f20, %hf20, H20⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg18.eq_unread hf18; obtain rfl := harg19.eq_unread hf19; obtain rfl := harg20.eq_unread hf20
    sl_exec (disch := first | sl_exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]; · iexists _; iexact H15
    isplitl [H16]; · iexists _; iexact H16
    isplitl [H17]; · iexists _; iexact H17
    isplitl [H18]; · iexists _; iexact H18
    isplitl [H19]; · iexists _; iexact H19
    iexact H20

set_option maxHeartbeats 4000000 in
noncomputable def runA (hc : Scalar.cmpi .ne (Scalar.extui (Scalar.cmpi .eq (BitVec.ofNat 32 (i 0).val) 0#32)) 0#32 = 1#1)
    (X : Ins F) (d : Vec F S2x512x512 .bf16) :
    { L : Wr F // ∀ (E : Set ℕ) (K : PUnit → sProp (MT nD τ sig Unit (Elt F) ℕ (UR sig nD τ) ℕ)),
      iprop(owns (c : Thread nD τ) arg1 fullShare X.au0 ∗ owns (c : Thread nD τ) arg2 fullShare X.av0 ∗ owns (c : Thread nD τ) arg3 fullShare X.ag0 ∗ owns (c : Thread nD τ) arg4 fullShare X.au1 ∗ owns (c : Thread nD τ) arg5 fullShare X.av1 ∗ owns (c : Thread nD τ) arg6 fullShare X.ag1 ∗ owns (c : Thread nD τ) arg7 fullShare X.sg ∗ owns (c : Thread nD τ) arg8 fullShare X.ws ∗ owns (c : Thread nD τ) arg9 fullShare X.bs ∗ owns (c : Thread nD τ) arg10 fullShare X.b ∗ owns (c : Thread nD τ) arg11 fullShare X.x ∗ owns (c : Thread nD τ) arg12 fullShare X.tgt ∗ owns (c : Thread nD τ) arg13 fullShare X.gate ∗ owns (c : Thread nD τ) arg14 fullShare X.w
          ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ owns (c : Thread nD τ) arg20 fullShare d
          ∗ (iprop(owns (c : Thread nD τ) arg1 fullShare X.au0 ∗ owns (c : Thread nD τ) arg2 fullShare X.av0 ∗ owns (c : Thread nD τ) arg3 fullShare X.ag0 ∗ owns (c : Thread nD τ) arg4 fullShare X.au1 ∗ owns (c : Thread nD τ) arg5 fullShare X.av1 ∗ owns (c : Thread nD τ) arg6 fullShare X.ag1 ∗ owns (c : Thread nD τ) arg7 fullShare X.sg ∗ owns (c : Thread nD τ) arg8 fullShare X.ws ∗ owns (c : Thread nD τ) arg9 fullShare X.bs ∗ owns (c : Thread nD τ) arg10 fullShare X.b ∗ owns (c : Thread nD τ) arg11 fullShare X.x ∗ owns (c : Thread nD τ) arg12 fullShare X.tgt ∗ owns (c : Thread nD τ) arg13 fullShare X.gate ∗ owns (c : Thread nD τ) arg14 fullShare X.w
            ∗ (∃ f, arg15.view.loc (c : Thread nD τ) ↦[arg15.view.set]{fullShare} arg15.view.writes (Elt F) f L.loss) ∗ (∃ f, arg16.view.loc (c : Thread nD τ) ↦[arg16.view.set]{fullShare} arg16.view.writes (Elt F) f L.dy) ∗ (∃ f, arg17.view.loc (c : Thread nD τ) ↦[arg17.view.set]{fullShare} arg17.view.writes (Elt F) f L.dcat) ∗ (∃ f, arg18.view.loc (c : Thread nD τ) ↦[arg18.view.set]{fullShare} arg18.view.writes (Elt F) f L.dg) ∗ (∃ f, arg19.view.loc (c : Thread nD τ) ↦[arg19.view.set]{fullShare} arg19.view.writes (Elt F) f L.dw) ∗ arg20.view.loc (c : Thread nD τ) ↦[arg20.view.set]{fullShare} arg20.view.writes (Elt F) (harg20.unread d) L.scr) -∗ K ⟨⟩))
        ⊢ wp frame (wpE (defs₀ (F := F)) Variants.none c none) E (cc0_outproj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨⟨?_, ?_, ?_, ?_, ?_, ?_⟩, fun E K => ?run⟩
  case run =>
    simp only [cc0_outproj_eq_skeleton]; unfold cc0_outproj_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%d17, %f17, -, H17⟩, ⟨%d18, %f18, -, H18⟩, ⟨%d19, %f19, -, H19⟩, ⟨%f20, %hf20, H20⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg20.eq_unread hf20
    sl_exec (disch := first | sl_exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]; · iexists _; iexact H15
    isplitl [H16]; · iexists _; iexact H16
    isplitl [H17]; · iexists _; iexact H17
    isplitl [H18]; · iexists _; iexact H18
    isplitl [H19]; · iexists _; iexact H19
    iexact H20

end Cert.OutProjIdeal.Out

end
-- ==== Proof.OutStep.lean ====
/-
  What one point of the output projection's call leaves, over any float values: the gating of one 128-row chunk, the
  four chunks of a 512-row tile, the step every result and accumulator takes from the tile, and the two cases of the
  body written through these.
-/
module

public import proofs.«01_k».proof.Proof.OutRun
public import Idealize.ShloMosaic.Lib.Pipeline.Value
public import Idealize.ShloMosaic.Lib.Pipeline.RowLoads

@[expose] public section

set_option maxRecDepth 16384

noncomputable section

namespace Cert.OutProjIdeal.Out

open Idealize.ShloMosaic Idealize.ShloMosaic.TcCoe Idealize.ShloMosaic.Tactic
open Cert.OutProjIdeal.Gen

variable {F : FTy → Type} [FloatOps F]

/-- The gating of one group of 128 columns (columns `o …`, weights `k`) in one chunk of 128 rows. -/
def group (o k : Nat) (h1 : S128x512.Slices ![0, o] S128x128) (h2 : S1x512.Slices ![0, o] S1x128)
    (h3 : S4x128x128.Slices ![k, 0, 0] S1x128x128) (u v g : FVec F S128x512 .f32) (s : FVec F S1x512 .f32)
    (w b : FVec F S4x128x128 .f32) : FVec F S128x128 .f32 :=
  have z : FVec F S128x128 .f32 := extractStridedSlice S128x128 ![0, o] v h1
  have m : FVec F S128x1 .f32 := divf (shapeCast S128x1 (multiReduction .add [1] S128 (mulf z z) 0x00000000#32 reduces_S128x128_S128 (.inl rfl) rfl) shapeCasts_S128_S128x1) (broadcast S128x1 (Scalar.ofBits .f32 0x43000000#32))
  have n : FVec F S128x128 .f32 := mulf z (broadcastTo S128x128 (rsqrt (addf m (broadcast S128x1 (Scalar.ofBits .f32 0x358637BD#32)))) broadcasts_S128x1_S128x128)
  have q : FVec F S128x128 .f32 := mulf n (broadcastTo S128x128 (extractStridedSlice S1x128 ![0, o] s h2) broadcasts_S1x128_S128x128)
  have y : FVec F S128x128 .f32 := matmul dot_S128x128_S128x128_S128x128_1_0_0_1_n_n none (truncf .bf16 (shapeCast S128x128 (extractStridedSlice S1x128x128 ![k, 0, 0] w h3) shapeCasts_S1x128x128_S128x128) bitsLt_bf16_f32) (truncf .bf16 q bitsLt_bf16_f32) (constant S128x128 .f32 0x00000000#32)
  have p : FVec F S128x128 .f32 := mulf (extractStridedSlice S128x128 ![0, o] u h1) (addf y (shapeCast S128x128 (extractStridedSlice S1x128x128 ![k, 0, 0] b h3) shapeCasts_S1x128x128_S128x128))
  have a : FVec F S128x128 .f32 := extractStridedSlice S128x128 ![0, o] g h1
  mulf p (mulf a (logistic a))

/-- The gating of one chunk of 128 rows. -/
def chunk (u v g : Vec F S128x512 .f32) (s : Vec F S1x512 .f32) (w b : Vec F S4x128x128 .f32) : FVec F S1x128x512 .bf16 :=
  have b' : FVec F S4x128x128 .f32 := k0_pay6 b
  have u' : FVec F S128x512 .f32 := k0_pay7 u
  have v' : FVec F S128x512 .f32 := k0_pay10 (k0_pay8 v) (k0_pay9 v)
  shapeCast S1x128x512 (truncf .bf16 (concatenate S128x512 1
    [⟨S128x128, group 0 0 slices_S128x512_o0_0_S128x128 slices_S1x512_o0_0_S1x128 slices_S4x128x128_o0_0_0_S1x128x128 u' v' g s w b'⟩,
     ⟨S128x128, group 128 1 slices_S128x512_o0_128_S128x128 slices_S1x512_o0_128_S1x128 slices_S4x128x128_o1_0_0_S1x128x128 u' v' g s w b'⟩,
     ⟨S128x128, group 256 2 slices_S128x512_o0_256_S128x128 slices_S1x512_o0_256_S1x128 slices_S4x128x128_o2_0_0_S1x128x128 u' v' g s w b'⟩,
     ⟨S128x128, group 384 3 slices_S128x512_o0_384_S128x128 slices_S1x512_o0_384_S1x128 slices_S4x128x128_o3_0_0_S1x128x128 u' v' g s w b'⟩]
    concatenates_S128x128_S128x128_S128x128_S128x128_S128x512_d1) bitsLt_bf16_f32) shapeCasts_S128x512_S1x128x512

variable (u v g : Vec F S128x512 .f32) (s : Vec F S1x512 .f32) (w b : Vec F S4x128x128 .f32)

/-! The body writes the same chunk out eight times, cut at different lines. -/

theorem chunk_first0 : k0_pay17 g (k0_pay6 b) (k0_pay7 u) (k0_pay11 g s w (k0_pay6 b) (k0_pay7 u) (k0_pay8 v) (k0_pay9 v))
    (k0_pay14 g (k0_pay12 s w (k0_pay6 b) (k0_pay8 v) (k0_pay9 v)) (k0_pay13 (k0_pay7 u)))
    (k0_pay15 g s w (k0_pay6 b) (k0_pay7 u) (k0_pay10 (k0_pay8 v) (k0_pay9 v)))
    (k0_pay16 s w (k0_pay10 (k0_pay8 v) (k0_pay9 v))) = chunk u v g s w b := rfl

theorem chunk_first1 : k0_pay29 g (k0_pay18 b) (k0_pay19 u) (k0_pay23 g s w (k0_pay18 b) (k0_pay19 u) (k0_pay20 v) (k0_pay21 v))
    (k0_pay26 g (k0_pay24 s w (k0_pay18 b) (k0_pay20 v) (k0_pay21 v)) (k0_pay25 (k0_pay19 u)))
    (k0_pay27 g s w (k0_pay18 b) (k0_pay19 u) (k0_pay22 (k0_pay20 v) (k0_pay21 v)))
    (k0_pay28 s w (k0_pay22 (k0_pay20 v) (k0_pay21 v))) = chunk u v g s w b := rfl

theorem chunk_first2 : k0_pay41 g (k0_pay30 b) (k0_pay31 u) (k0_pay35 g s w (k0_pay30 b) (k0_pay31 u) (k0_pay32 v) (k0_pay33 v))
    (k0_pay38 g (k0_pay36 s w (k0_pay30 b) (k0_pay32 v) (k0_pay33 v)) (k0_pay37 (k0_pay31 u)))
    (k0_pay39 g s w (k0_pay30 b) (k0_pay31 u) (k0_pay34 (k0_pay32 v) (k0_pay33 v)))
    (k0_pay40 s w (k0_pay34 (k0_pay32 v) (k0_pay33 v))) = chunk u v g s w b := rfl

theorem chunk_first3 : k0_pay53 g (k0_pay42 b) (k0_pay43 u) (k0_pay47 g s w (k0_pay42 b) (k0_pay43 u) (k0_pay44 v) (k0_pay45 v))
    (k0_pay50 g (k0_pay48 s w (k0_pay42 b) (k0_pay44 v) (k0_pay45 v)) (k0_pay49 (k0_pay43 u)))
    (k0_pay51 g s w (k0_pay42 b) (k0_pay43 u) (k0_pay46 (k0_pay44 v) (k0_pay45 v)))
    (k0_pay52 s w (k0_pay46 (k0_pay44 v) (k0_pay45 v))) = chunk u v g s w b := rfl

theorem chunk_next0 : k0_pay78 g (k0_pay64 b) (k0_pay66 u k0_pay65) (k0_pay68 u v g s w (k0_pay64 b) k0_pay65)
    (k0_pay73 g (k0_pay64 b) (k0_pay66 u k0_pay65) (k0_pay69 w) (k0_pay70 v) (k0_pay71 s) (k0_pay72 v))
    (k0_pay74 g s w (k0_pay64 b) (k0_pay66 u k0_pay65) (k0_pay67 v)) (k0_pay75 w) (k0_pay76 (k0_pay67 v)) (k0_pay77 s)
    = chunk u v g s w b := rfl

theorem chunk_next1 : k0_pay89 g s w (k0_pay80 b) (k0_pay81 u) (k0_pay82 v)
    (k0_pay86 (k0_pay83 u v s w b) (k0_pay84 g) (k0_pay85 g))
    (k0_pay87 g s w (k0_pay80 b) (k0_pay81 u) (k0_pay82 v)) (k0_pay88 s w (k0_pay80 b) (k0_pay82 v))
    = chunk u v g s w b := rfl

theorem chunk_next2 : k0_pay102 g s w (k0_pay91 b) (k0_pay92 u) (k0_pay93 v)
    (k0_pay96 g (k0_pay91 b) (k0_pay92 u) (k0_pay94 v s) (k0_pay95 w))
    (k0_pay97 g s w (k0_pay91 b) (k0_pay92 u) (k0_pay93 v)) (k0_pay98 w) (k0_pay99 (k0_pay93 v)) (k0_pay100 s) (k0_pay101 (k0_pay93 v))
    = chunk u v g s w b := rfl

theorem chunk_next3 : k0_pay1 (k0_pay117 g s w (k0_pay104 b) (k0_pay105 u) (k0_pay106 v)
    (k0_pay111 g (k0_pay104 b) (k0_pay105 u) (k0_pay107 w) (k0_pay108 v) (k0_pay109 s) (k0_pay110 v) (FloatOps.ofBits FTy.f32 1124073472#32))
    (k0_pay112 g s w (k0_pay104 b) (k0_pay105 u) (k0_pay106 v)) (k0_pay113 w) (k0_pay114 (k0_pay106 v)) (k0_pay115 s) (k0_pay116 (k0_pay106 v)))
    = chunk u v g s w b := rfl

/-- The rows of one 128-row chunk. -/
abbrev rows (o : Nat) (h : ∀ a, (![o, 0] : Fin 2 → Nat) a + S128x512.size a ≤ S512x512.size a) (x : Vec F S512x512 .f32) :
    Vec F S128x512 .f32 := View.ld (Val := Elt F) x (Rect.unit (s := S512x512) ![o, 0] S128x512.size h)

/-- The chunk of a tile at row `o`. -/
abbrev part (o : Nat) (h : ∀ a, (![o, 0] : Fin 2 → Nat) a + S128x512.size a ≤ S512x512.size a) (u v g : Vec F S512x512 .f32)
    (s : Vec F S1x512 .f32) (w b : Vec F S4x128x128 .f32) : FVec F S1x128x512 .bf16 :=
  chunk (rows o h u) (rows o h v) (rows o h g) s w b

/-- What a point writes, from the gated tile `a` it reads and the accumulators it finds. -/
def wr (i : grid0.Coords) (X : Ins F) (a : Vec F S1x512x512 .bf16) (l : Vec F S8x128 .f32) (g : Vec F S1x1024 .f32)
    (r0 r1 : Vec F S512x1024 .f32) : Wr F :=
  have w0 : Vec F S512x1024 .bf16 := View.ld (Val := Elt F) X.w (Rect.unit (s := S1024x1024) ![0, 0] S512x1024.size inb_S1024x1024_S512x1024_0_0)
  have w1 : Vec F S512x1024 .bf16 := View.ld (Val := Elt F) X.w (Rect.unit (s := S1024x1024) ![512, 0] S512x1024.size inb_S1024x1024_S512x1024_512_0)
  have e : FVec F S512x1024 .f32 := k0_pay57 a X.b w0 w1 X.x X.gate X.tgt
  have q : FVec F S512x1024 .bf16 := k0_pay63 e X.gate
  { loss := [⟨Rect.unit (s := S8x128) ![0, 0] S8x128.size inb_S8x128_S8x128_0_0, k0_pay60 (k0_pay58 l) (k0_pay59 a X.b w0 w1 X.x X.gate X.tgt)⟩]
    dy := [⟨Rect.unit (s := S512x1024) ![0, 0] S512x1024.size inb_S512x1024_S512x1024_0_0, k0_pay61 e⟩]
    dcat := [⟨Rect.unit (s := S512x1024) ![0, 512] S512x512.size inb_S512x1024_S512x512_0_512, k0_pay90 q w1⟩,
      ⟨Rect.unit (s := S512x1024) ![0, 0] S512x512.size inb_S512x1024_S512x512_0_0, k0_pay79 q w0⟩]
    dg := [⟨Rect.unit (s := S1x1024) ![0, 0] S1x1024.size inb_S1x1024_S1x1024_0_0, k0_pay62 (k0_pay56 a X.b w0 w1) e g⟩]
    dw := [⟨Rect.unit (s := S1024x1024) ![512, 0] S512x1024.size inb_S1024x1024_S512x1024_512_0, k0_pay2 (k0_pay55 X.b) q r1⟩,
      ⟨Rect.unit (s := S1024x1024) ![0, 0] S512x1024.size inb_S1024x1024_S512x1024_0_0, k0_pay103 (k0_pay54 a) q r0⟩]
    scr := [⟨Rect.unit (s := S2x512x512) (k0_off5 i) S1x128x512.size (k0_off5_inb i), part 384 inb_S512x512_S128x512_384_0 X.au1 X.av1 X.ag1 X.sg X.ws X.bs⟩,
      ⟨Rect.unit (s := S2x512x512) (k0_off4 i) S1x128x512.size (k0_off4_inb i), part 256 inb_S512x512_S128x512_256_0 X.au1 X.av1 X.ag1 X.sg X.ws X.bs⟩,
      ⟨Rect.unit (s := S2x512x512) (k0_off3 i) S1x128x512.size (k0_off3_inb i), part 128 inb_S512x512_S128x512_128_0 X.au1 X.av1 X.ag1 X.sg X.ws X.bs⟩,
      ⟨Rect.unit (s := S2x512x512) (k0_off2 i) S1x128x512.size (k0_off2_inb i), part 0 inb_S512x512_S128x512_0_0 X.au1 X.av1 X.ag1 X.sg X.ws X.bs⟩] }

/-- What the first point writes into the scratch buffer before it reads its tile. -/
def wr0 (X : Ins F) : List (View.Piece (Elt F) S2x512x512 .bf16) :=
  [⟨Rect.unit (s := S2x512x512) ![0, 384, 0] S1x128x512.size inb_S2x512x512_S1x128x512_0_384_0, part 384 inb_S512x512_S128x512_384_0 X.au0 X.av0 X.ag0 X.sg X.ws X.bs⟩,
   ⟨Rect.unit (s := S2x512x512) ![0, 256, 0] S1x128x512.size inb_S2x512x512_S1x128x512_0_256_0, part 256 inb_S512x512_S128x512_256_0 X.au0 X.av0 X.ag0 X.sg X.ws X.bs⟩,
   ⟨Rect.unit (s := S2x512x512) ![0, 128, 0] S1x128x512.size inb_S2x512x512_S1x128x512_0_128_0, part 128 inb_S512x512_S128x512_128_0 X.au0 X.av0 X.ag0 X.sg X.ws X.bs⟩,
   ⟨Rect.unit (s := S2x512x512) ![0, 0, 0] S1x128x512.size inb_S2x512x512_S1x128x512_0_0_0, part 0 inb_S512x512_S128x512_0_0 X.au0 X.av0 X.ag0 X.sg X.ws X.bs⟩]

variable (c : Dev nD) (i : grid0.Coords)
  {arg1 : Memref sig .tc .vmem S512x512 .f32} (harg1 : arg1.IsWhole)
  {arg2 : Memref sig .tc .vmem S512x512 .f32} (harg2 : arg2.IsWhole)
  {arg3 : Memref sig .tc .vmem S512x512 .f32} (harg3 : arg3.IsWhole)
  {arg4 : Memref sig .tc .vmem S512x512 .f32} (harg4 : arg4.IsWhole)
  {arg5 : Memref sig .tc .vmem S512x512 .f32} (harg5 : arg5.IsWhole)
  {arg6 : Memref sig .tc .vmem S512x512 .f32} (harg6 : arg6.IsWhole)
  {arg7 : Memref sig .tc .vmem S1x512 .f32} (harg7 : arg7.IsWhole)
  {arg8 : Memref sig .tc .vmem S4x128x128 .f32} (harg8 : arg8.IsWhole)
  {arg9 : Memref sig .tc .vmem S4x128x128 .f32} (harg9 : arg9.IsWhole)
  {arg10 : Memref sig .tc .vmem S512x512 .f32} (harg10 : arg10.IsWhole)
  {arg11 : Memref sig .tc .vmem S512x1024 .f32} (harg11 : arg11.IsWhole)
  {arg12 : Memref sig .tc .vmem S512x1024 .f32} (harg12 : arg12.IsWhole)
  {arg13 : Memref sig .tc .vmem S1x1024 .f32} (harg13 : arg13.IsWhole)
  {arg14 : Memref sig .tc .vmem S1024x1024 .bf16} (harg14 : arg14.IsWhole)
  {arg15 : Memref sig .tc .vmem S8x128 .f32} (harg15 : arg15.IsWhole)
  {arg16 : Memref sig .tc .vmem S512x1024 .f32} (harg16 : arg16.IsWhole)
  {arg17 : Memref sig .tc .vmem S512x1024 .f32} (harg17 : arg17.IsWhole)
  {arg18 : Memref sig .tc .vmem S1x1024 .f32} (harg18 : arg18.IsWhole)
  {arg19 : Memref sig .tc .vmem S1024x1024 .f32} (harg19 : arg19.IsWhole)
  {arg20 : Memref sig .tc .vmem S2x512x512 .bf16} (harg20 : arg20.IsWhole)

set_option maxHeartbeats 4000000 in
theorem runB_eq (hc : ¬Scalar.cmpi .ne (Scalar.extui (Scalar.cmpi .eq (BitVec.ofNat 32 (i 0).val) 0#32)) 0#32 = 1#1) (X : Ins F) (l : Vec F S8x128 .f32) (g : Vec F S1x1024 .f32) (r : Vec F S1024x1024 .f32) (d : Vec F S2x512x512 .bf16) :
    (runB c i harg1 harg2 harg3 harg4 harg5 harg6 harg7 harg8 harg9 harg10 harg11 harg12 harg13 harg14 harg15 harg16 harg17 harg18 harg19 harg20 hc X l g r d).1 =
      wr i X (View.ld (Val := Elt F) d (Rect.unit (s := S2x512x512) (k0_off1 i) S1x512x512.size (k0_off1_inb i))) l g
        (View.ld (Val := Elt F) r (Rect.unit (s := S1024x1024) ![0, 0] S512x1024.size inb_S1024x1024_S512x1024_0_0))
        (View.ld (Val := Elt F) r (Rect.unit (s := S1024x1024) ![512, 0] S512x1024.size inb_S1024x1024_S512x1024_512_0)) := by
  have hz : (![0,0] : Fin 2 → Nat) = fun _ => 0 := by funext a; fin_cases a <;> rfl
  have hz3 : (![0,0,0] : Fin 3 → Nat) = fun _ => 0 := by funext a; fin_cases a <;> rfl
  unfold runB
  dsimp only
  sl_unfold_run_names
  simp only [View.readAt_eq_ld, View.readCov_cons_toLoadRect, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread]
  simp only [View.ld_unit_zero (S := S1x512) hz, View.ld_unit_zero (S := S8x128) hz, View.ld_unit_zero (S := S1x1024) hz,
    View.ld_unit_zero (S := S512x512) hz, View.ld_unit_zero (S := S512x1024) hz, View.ld_unit_zero (S := S4x128x128) hz3]
  simp only [chunk_next0, chunk_next1, chunk_next2, chunk_next3]
  rfl

set_option maxHeartbeats 4000000 in
theorem runA_eq (hc : Scalar.cmpi .ne (Scalar.extui (Scalar.cmpi .eq (BitVec.ofNat 32 (i 0).val) 0#32)) 0#32 = 1#1) (X : Ins F) (d : Vec F S2x512x512 .bf16) :
    (runA c i harg1 harg2 harg3 harg4 harg5 harg6 harg7 harg8 harg9 harg10 harg11 harg12 harg13 harg14 harg15 harg16 harg17 harg18 harg19 harg20 hc X d).1 =
      have L : Wr F := wr i X (View.ld (Val := Elt F) (arg20.view.read (Elt F) (arg20.view.writes (Elt F) (harg20.unread d) (wr0 X)))
          (Rect.unit (s := S2x512x512) (k0_off1 i) S1x512x512.size (k0_off1_inb i))) k0_pay3 k0_pay4
        (View.ld (Val := Elt F) (k0_pay5 : FVec F S1024x1024 .f32) (Rect.unit (s := S1024x1024) ![0, 0] S512x1024.size inb_S1024x1024_S512x1024_0_0))
        (View.ld (Val := Elt F) (k0_pay5 : FVec F S1024x1024 .f32) (Rect.unit (s := S1024x1024) ![512, 0] S512x1024.size inb_S1024x1024_S512x1024_512_0))
      { L with
        loss := L.loss ++ [⟨Rect.unit (s := S8x128) ![0, 0] S8x128.size inb_S8x128_S8x128_0_0, k0_pay3⟩]
        dg := L.dg ++ [⟨Rect.unit (s := S1x1024) ![0, 0] S1x1024.size inb_S1x1024_S1x1024_0_0, k0_pay4⟩]
        dw := L.dw ++ [⟨Rect.unit (s := S1024x1024) ![0, 0] S1024x1024.size inb_S1024x1024_S1024x1024_0_0, k0_pay5⟩]
        scr := L.scr ++ wr0 X } := by
  have hz : (![0,0] : Fin 2 → Nat) = fun _ => 0 := by funext a; fin_cases a <;> rfl
  have hz3 : (![0,0,0] : Fin 3 → Nat) = fun _ => 0 := by funext a; fin_cases a <;> rfl
  have h0 : arg19.view.readCov [⟨Rect.unit (s := S1024x1024) ![0, 0] S1024x1024.size inb_S1024x1024_S1024x1024_0_0, (k0_pay5 : FVec F S1024x1024 .f32)⟩]
      (Rect.unit (s := S1024x1024) ![0, 0] S512x1024.size inb_S1024x1024_S512x1024_0_0).toLoadRect
      = View.ld (Val := Elt F) (k0_pay5 : FVec F S1024x1024 .f32) (Rect.unit (s := S1024x1024) ![0, 0] S512x1024.size inb_S1024x1024_S512x1024_0_0) := by
    rw [View.readCov_eq_canon', View.canon_cons_unit_zero (S := S1024x1024) hz]
  have h1 : ∀ w : FVec F S512x1024 .f32, arg19.view.readCov
      [⟨Rect.unit (s := S1024x1024) ![0, 0] S512x1024.size inb_S1024x1024_S512x1024_0_0, w⟩,
        ⟨Rect.unit (s := S1024x1024) ![0, 0] S1024x1024.size inb_S1024x1024_S1024x1024_0_0, (k0_pay5 : FVec F S1024x1024 .f32)⟩]
      (Rect.unit (s := S1024x1024) ![512, 0] S512x1024.size inb_S1024x1024_S512x1024_512_0).toLoadRect
      = View.ld (Val := Elt F) (k0_pay5 : FVec F S1024x1024 .f32) (Rect.unit (s := S1024x1024) ![512, 0] S512x1024.size inb_S1024x1024_S512x1024_512_0) := by
    intro w
    refine (View.readCov_cons_of_rows_disjoint (Val := Elt F) (e := .f32) (m := 1024) (n := 1024) (k := 512) (k' := 512) arg19.view 0 512 (.inl (by decide)) w _ _ _).trans ?_
    rw [View.readCov_eq_canon', View.canon_cons_unit_zero (S := S1024x1024) hz]
  unfold runA
  dsimp only
  sl_unfold_run_names
  simp only [View.readAt_eq_ld, View.readCov_cons_toLoadRect, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread]
  simp only [View.ld_unit_zero (S := S1x512) hz, View.ld_unit_zero (S := S8x128) hz, View.ld_unit_zero (S := S1x1024) hz,
    View.ld_unit_zero (S := S512x512) hz, View.ld_unit_zero (S := S512x1024) hz, View.ld_unit_zero (S := S4x128x128) hz3]
  simp only [chunk_first0, chunk_first1, chunk_first2, chunk_first3, chunk_next0, chunk_next1, chunk_next2, chunk_next3, h0, h1]
  rfl

end Cert.OutProjIdeal.Out
end
-- ==== Proof.OutTile.lean ====
/-
  The scratch buffer's two halves and the results as a point leaves them: a half that holds the four chunks of a tile
  reads as that tile, and each result's block is the rectangles written into it.
-/
module

public import proofs.«01_k».proof.Proof.OutStep
public import Idealize.ShloMosaic.Lib.Pointwise

@[expose] public section

set_option maxRecDepth 16384

noncomputable section

namespace Cert.OutProjIdeal.Out

open Idealize.ShloMosaic Idealize.ShloMosaic.TcCoe Idealize.ShloMosaic.Tactic
open Cert.OutProjIdeal.Gen

variable {F : FTy → Type} [FloatOps F]

/-- The four chunks of a tile. -/
def parts (u v g : Vec F S512x512 .f32) (s : Vec F S1x512 .f32) (w b : Vec F S4x128x128 .f32) : Fin 4 → FVec F S1x128x512 .bf16 :=
  ![part 0 inb_S512x512_S128x512_0_0 u v g s w b, part 128 inb_S512x512_S128x512_128_0 u v g s w b,
    part 256 inb_S512x512_S128x512_256_0 u v g s w b, part 384 inb_S512x512_S128x512_384_0 u v g s w b]

/-- Four chunks one under the other. -/
def stack (c : Fin 4 → Vec F S1x128x512 .bf16) : Vec F S1x512x512 .bf16 := fun j =>
  have h : (j 1).val < 512 := (j 1).isLt
  c ⟨(j 1).val / 128, by omega⟩ (ix3 (0 : Fin 1) (⟨(j 1).val % 128, by omega⟩ : Fin 128) (show Fin 512 from j 2))

/-- A gated tile. -/
def tile (u v g : Vec F S512x512 .f32) (s : Vec F S1x512 .f32) (w b : Vec F S4x128x128 .f32) : Vec F S1x512x512 .bf16 :=
  stack (parts u v g s w b)

/-- Half `k % 2` of the scratch buffer. -/
def slotOf (k : Nat) (d : Vec F S2x512x512 .bf16) : Vec F S1x512x512 .bf16 := fun j =>
  d (ix3 (⟨k % 2, Nat.mod_lt _ (by decide)⟩ : Fin 2) (show Fin 512 from j 1) (show Fin 512 from j 2))

theorem ld_half (o : Fin 3 → Nat) (k : Nat) (h : o = ![k % 2, 0, 0]) (hb : ∀ a, o a + S1x512x512.size a ≤ S2x512x512.size a) (d : Vec F S2x512x512 .bf16) :
    View.ld (Val := Elt F) d (Rect.unit (s := S2x512x512) o S1x512x512.size hb) = slotOf k d := by
  subst h
  funext (j : S1x512x512.Idx)
  refine congrArg d ?_
  have h0 : (j 0).val < 1 := (j 0).isLt
  funext a
  apply Fin.ext
  fin_cases a
  · show k % 2 + 1 * (j 0).val = k % 2
    omega
  · show 0 + 1 * (j 1).val = (j 1).val
    omega
  · show 0 + 1 * (j 2).val = (j 2).val
    omega

theorem ld_slot (i : grid0.Coords) (d : Vec F S2x512x512 .bf16) :
    View.ld (Val := Elt F) d (Rect.unit (s := S2x512x512) (k0_off1 i) S1x512x512.size (k0_off1_inb i)) = slotOf (i 0).val d :=
  ld_half _ _ (k0_off1_eq i) _ d

/-- Four chunks written at the rows of one half make that half read as the tile, whatever was written before. -/
theorem slot_read (V : View sig .tc .vmem S2x512x512 .bf16) (f : V.ty.Contents (Elt F)) (k : Nat)
    (c : Fin 4 → Vec F S1x128x512 .bf16)
    (o3 o2 o1 o0 : Fin 3 → Nat) (h3 : o3 = ![k % 2, 384, 0]) (h2 : o2 = ![k % 2, 256, 0]) (h1 : o1 = ![k % 2, 128, 0])
    (h0 : o0 = ![k % 2, 0, 0])
    (b3 : ∀ a, o3 a + S1x128x512.size a ≤ S2x512x512.size a) (b2 : ∀ a, o2 a + S1x128x512.size a ≤ S2x512x512.size a)
    (b1 : ∀ a, o1 a + S1x128x512.size a ≤ S2x512x512.size a) (b0 : ∀ a, o0 a + S1x128x512.size a ≤ S2x512x512.size a)
    (R : List (View.Piece (Elt F) S2x512x512 .bf16)) :
    slotOf k (V.read (Elt F) (V.writes (Elt F) f
      ([⟨Rect.unit (s := S2x512x512) o3 S1x128x512.size b3, c 3⟩,
        ⟨Rect.unit (s := S2x512x512) o2 S1x128x512.size b2, c 2⟩,
        ⟨Rect.unit (s := S2x512x512) o1 S1x128x512.size b1, c 1⟩,
        ⟨Rect.unit (s := S2x512x512) o0 S1x128x512.size b0, c 0⟩] ++ R))) = stack c := by
  subst h3 h2 h1 h0
  generalize hW : V.writes (Elt F) f _ = W
  have hk : k % 2 < 2 := Nat.mod_lt _ (by decide)
  have key : ∀ (q : Fin 4) (r : Fin 128) (l : Fin 512) (h : 128 * q.val + r.val < 512),
      ∀ x : S1x512x512.Idx, x = ix3 (0 : Fin 1) (⟨128 * q.val + r.val, h⟩ : Fin 512) l →
        stack c x = c q (ix3 (0 : Fin 1) r l) := by
    intro q r l h x hx
    subst hx
    show c ⟨(128 * q.val + r.val) / 128, _⟩ (ix3 (0 : Fin 1) (⟨(128 * q.val + r.val) % 128, _⟩ : Fin 128) l) = _
    have e1 : (⟨(128 * q.val + r.val) / 128, by omega⟩ : Fin 4) = q := Fin.ext (by show (128 * q.val + r.val) / 128 = q.val; omega)
    have e2 : (⟨(128 * q.val + r.val) % 128, by omega⟩ : Fin 128) = r := Fin.ext (by show (128 * q.val + r.val) % 128 = r.val; omega)
    rw [e1, e2]
  have emb : ∀ (o : Nat) (hb : ∀ a, (![k % 2, o, 0] : Fin 3 → Nat) a + S1x128x512.size a ≤ S2x512x512.size a) (r : Fin 128) (l : Fin 512) (h : o + r.val < 512),
      (ix3 (⟨k % 2, hk⟩ : Fin 2) (⟨o + r.val, h⟩ : Fin 512) l : S2x512x512.Idx) = (Rect.unit (s := S2x512x512) ![k % 2, o, 0] S1x128x512.size hb).emb (ix3 (0 : Fin 1) r l) := by
    intro o hb r l h
    funext a
    apply Fin.ext
    fin_cases a
    · show k % 2 = k % 2 + 1 * 0
      omega
    · show o + r.val = o + 1 * r.val
      omega
    · show l.val = 0 + 1 * l.val
      omega
  have off : ∀ (o : Nat) (hb : ∀ a, (![k % 2, o, 0] : Fin 3 → Nat) a + S1x128x512.size a ≤ S2x512x512.size a) (r : Fin 512) (l : Fin 512) (h : r.val < o),
      (ix3 (⟨k % 2, hk⟩ : Fin 2) r l : S2x512x512.Idx) ∉ (Rect.unit (s := S2x512x512) ![k % 2, o, 0] S1x128x512.size hb).set := by
    intro o hb r l h hm
    rw [Rect.mem_set_unit] at hm
    have := (hm 1).1
    change o ≤ r.val at this
    omega
  have skip : ∀ (p : View.Piece (Elt F) S2x512x512 .bf16) (L : List (View.Piece (Elt F) S2x512x512 .bf16)) (y : S2x512x512.Idx), y ∉ p.1.set →
      V.read (Elt F) (V.writes (Elt F) f (p :: L)) y = V.read (Elt F) (V.writes (Elt F) f L) y := by
    intro p L y hy
    exact View.read_writes_apply_of_forall_not_mem V (V.writes (Elt F) f L) y [p] (fun q hq => by rwa [List.mem_singleton.mp hq])
  funext j
  have hj : (j 1).val < 512 := (j 1).isLt
  obtain ⟨q, r, l, h, rfl⟩ : ∃ (q : Fin 4) (r : Fin 128) (l : Fin 512) (h : 128 * q.val + r.val < 512), j = ix3 (0 : Fin 1) (⟨128 * q.val + r.val, h⟩ : Fin 512) l := by
    refine ⟨⟨(j 1).val / 128, by omega⟩, ⟨(j 1).val % 128, by omega⟩, j 2, by show 128 * ((j 1).val / 128) + (j 1).val % 128 < 512; omega, ?_⟩
    have h0 : (j 0).val < 1 := (j 0).isLt
    funext a
    apply Fin.ext
    fin_cases a
    · show (j 0).val = 0
      omega
    · show (j 1).val = 128 * ((j 1).val / 128) + (j 1).val % 128
      omega
    · rfl
  rw [key q r l h _ rfl]
  have glue : ∀ (o : Nat) (h' : o + r.val < 512), 128 * q.val = o →
      V.read (Elt F) W (ix3 (⟨k % 2, hk⟩ : Fin 2) (⟨o + r.val, h'⟩ : Fin 512) l) = c q (ix3 (0 : Fin 1) r l) →
      V.read (Elt F) W (ix3 (⟨k % 2, hk⟩ : Fin 2) (⟨128 * q.val + r.val, h⟩ : Fin 512) l) = c q (ix3 (0 : Fin 1) r l) := by
    intro o h' ho hv
    subst ho
    exact hv
  refine Eq.trans (show _ = V.read (Elt F) W (ix3 (⟨k % 2, hk⟩ : Fin 2) (⟨128 * q.val + r.val, h⟩ : Fin 512) l) from rfl) ?_
  have hq : q = 0 ∨ q = 1 ∨ q = 2 ∨ q = 3 := by omega
  have hr : r.val < 128 := r.isLt
  subst hW
  simp only [List.cons_append, List.nil_append] at glue ⊢
  rcases hq with rfl | rfl | rfl | rfl
  · refine glue 0 (by omega) rfl ?_
    refine (skip ⟨Rect.unit (s := S2x512x512) ![k % 2, 384, 0] S1x128x512.size b3, c 3⟩ _ _ (off 384 b3 _ l (by show 0 + r.val < 384; omega))).trans ?_
    refine (skip ⟨Rect.unit (s := S2x512x512) ![k % 2, 256, 0] S1x128x512.size b2, c 2⟩ _ _ (off 256 b2 _ l (by show 0 + r.val < 256; omega))).trans ?_
    refine (skip ⟨Rect.unit (s := S2x512x512) ![k % 2, 128, 0] S1x128x512.size b1, c 1⟩ _ _ (off 128 b1 _ l (by show 0 + r.val < 128; omega))).trans ?_
    rw [emb 0 b0 r l (by omega)]
    exact View.read_writes_cons_emb V f _ _ _ _
  · refine glue 128 (by omega) rfl ?_
    refine (skip ⟨Rect.unit (s := S2x512x512) ![k % 2, 384, 0] S1x128x512.size b3, c 3⟩ _ _ (off 384 b3 _ l (by show 128 + r.val < 384; omega))).trans ?_
    refine (skip ⟨Rect.unit (s := S2x512x512) ![k % 2, 256, 0] S1x128x512.size b2, c 2⟩ _ _ (off 256 b2 _ l (by show 128 + r.val < 256; omega))).trans ?_
    rw [emb 128 b1 r l (by omega)]
    exact View.read_writes_cons_emb V f _ _ _ _
  · refine glue 256 (by omega) rfl ?_
    refine (skip ⟨Rect.unit (s := S2x512x512) ![k % 2, 384, 0] S1x128x512.size b3, c 3⟩ _ _ (off 384 b3 _ l (by show 256 + r.val < 384; omega))).trans ?_
    rw [emb 256 b2 r l (by omega)]
    exact View.read_writes_cons_emb V f _ _ _ _
  · refine glue 384 (by omega) rfl ?_
    rw [emb 384 b3 r l (by omega)]
    exact View.read_writes_cons_emb V f _ _ _ _

/-- The results' blocks after a point. -/
structure Res (F : FTy → Type) where
  loss : Vec F S8x128 .f32
  dy : Vec F S512x1024 .f32
  dcat : Vec F S512x1024 .f32
  dg : Vec F S1x1024 .f32
  dw : Vec F S1024x1024 .f32

/-- What a point leaves of what it writes. -/
def Wr.res (L : Wr F) : Res F := ⟨View.canon L.loss, View.canon L.dy, View.canon L.dcat, View.canon L.dg, View.canon L.dw⟩

/-- One point: from the gated tile and the accumulators it finds. -/
def step (i : grid0.Coords) (X : Ins F) (a : Vec F S1x512x512 .bf16) (l : Vec F S8x128 .f32) (g : Vec F S1x1024 .f32)
    (r : Vec F S1024x1024 .f32) : Wr F :=
  wr i X a l g (View.ld (Val := Elt F) r (Rect.unit (s := S1024x1024) ![0, 0] S512x1024.size inb_S1024x1024_S512x1024_0_0))
    (View.ld (Val := Elt F) r (Rect.unit (s := S1024x1024) ![512, 0] S512x1024.size inb_S1024x1024_S512x1024_512_0))

/-- Writes that cover a block decide what it reads as; earlier ones do not matter. -/
theorem read_append {s : Shape} {e : EltTy} (V : View sig .tc .vmem s e) (f : V.ty.Contents (Elt F)) (L R : List (View.Piece (Elt F) s e))
    (h : ∀ y : s.Idx, ∃ p ∈ L, y ∈ p.1.set) : V.read (Elt F) (V.writes (Elt F) f (L ++ R)) = View.canon L := by
  have hc : ∀ (y : s.Idx) (L : List (View.Piece (Elt F) s e)), (∃ p ∈ L, y ∈ p.1.set) → View.canon (L ++ R) y = View.canon L y := by
    intro y L
    induction L with
    | nil => rintro ⟨p, hp, _⟩; simp at hp
    | cons p L ih =>
      intro hy
      by_cases hm : y ∈ p.1.set
      · obtain ⟨x, rfl⟩ := p.1.exists_idx_of_mem hm
        exact (View.canon_cons_emb p.1 p.2 (L ++ R) x).trans (View.canon_cons_emb p.1 p.2 L x).symm
      · rw [List.cons_append, View.canon_cons_of_not_mem p (L ++ R) hm, View.canon_cons_of_not_mem p L hm]
        apply ih
        obtain ⟨p', hp', hy'⟩ := hy
        rcases List.mem_cons.mp hp' with rfl | h'
        · exact absurd hy' hm
        · exact ⟨p', h', hy'⟩
  funext y
  obtain ⟨p, hp, hy⟩ := h y
  rw [View.read_writes_apply_eq_canon V f y _ ⟨p, List.mem_append_left _ hp, hy⟩, hc y L ⟨p, hp, hy⟩]

variable (i : grid0.Coords) (X : Ins F) (a : Vec F S1x512x512 .bf16) (l : Vec F S8x128 .f32) (g : Vec F S1x1024 .f32) (r : Vec F S1024x1024 .f32)

theorem cover_loss (y : S8x128.Idx) : ∃ p ∈ (step i X a l g r).loss, y ∈ p.1.set := View.cover_of_tiledL (step i X a l g r).loss S8x128.size (by sl_kernel_rfl) y
theorem cover_dy (y : S512x1024.Idx) : ∃ p ∈ (step i X a l g r).dy, y ∈ p.1.set := View.cover_of_tiledL (step i X a l g r).dy S512x1024.size (by sl_kernel_rfl) y
theorem cover_dcat (y : S512x1024.Idx) : ∃ p ∈ (step i X a l g r).dcat, y ∈ p.1.set := View.cover_of_tiledL (step i X a l g r).dcat S512x512.size (by sl_kernel_rfl) y
theorem cover_dg (y : S1x1024.Idx) : ∃ p ∈ (step i X a l g r).dg, y ∈ p.1.set := View.cover_of_tiledL (step i X a l g r).dg S1x1024.size (by sl_kernel_rfl) y
theorem cover_dw (y : S1024x1024.Idx) : ∃ p ∈ (step i X a l g r).dw, y ∈ p.1.set := View.cover_of_tiledL (step i X a l g r).dw S512x1024.size (by sl_kernel_rfl) y

/-- The half a point fills for the next one holds that tile. -/
theorem slot_next (V : View sig .tc .vmem S2x512x512 .bf16) (f : V.ty.Contents (Elt F)) (R : List (View.Piece (Elt F) S2x512x512 .bf16)) :
    slotOf ((i 0).val + 1) (V.read (Elt F) (V.writes (Elt F) f ((step i X a l g r).scr ++ R))) = tile X.au1 X.av1 X.ag1 X.sg X.ws X.bs :=
  slot_read V f _ (parts X.au1 X.av1 X.ag1 X.sg X.ws X.bs) _ _ _ _ (k0_off5_eq i) (k0_off4_eq i) (k0_off3_eq i) (k0_off2_eq i) _ _ _ _ R

/-- The half the first point fills before it reads holds its own tile. -/
theorem slot_first (V : View sig .tc .vmem S2x512x512 .bf16) (f : V.ty.Contents (Elt F)) :
    slotOf 0 (V.read (Elt F) (V.writes (Elt F) f (wr0 X))) = tile X.au0 X.av0 X.ag0 X.sg X.ws X.bs :=
  slot_read V f 0 (parts X.au0 X.av0 X.ag0 X.sg X.ws X.bs) _ _ _ _ rfl rfl rfl rfl _ _ _ _ []

end Cert.OutProjIdeal.Out
end
-- ==== Proof.OutFrame.lean ====
/-
  The output projection's call over any float values: its run, point by point, and that it leaves its arguments alone.
  A point gates the next point's tile into one half of a scratch buffer while it uses the tile the point before left in
  the other half, so the scratch buffer's contents are carried along: before point `n + 1` the half `(n + 1) % 2` holds
  the tile gated at point `n`.
-/
module

public import proofs.«01_k».proof.Proof.OutTile
public import Idealize.ShloMosaic.Lib.Claim

@[expose] public section

set_option maxRecDepth 16384

noncomputable section

namespace Cert.OutProjIdeal.Out

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.OutProjIdeal.Gen

variable {F : FTy → Type} [FloatOps F]

variable (m : (ℓ : Loc nD τ sig) → Buf (Elt F) ℓ) (ρ : Dev nD → PrngReg)

/-! The windows' memrefs at a point. -/

abbrev ms0 (t : Fin cfg0.N) : Memref sig .tc .vmem S512x512 .f32 := win0_0.stage (cfg0.slots t 0)
abbrev ms1 (t : Fin cfg0.N) : Memref sig .tc .vmem S512x512 .f32 := win0_1.stage (cfg0.slots t 1)
abbrev ms2 (t : Fin cfg0.N) : Memref sig .tc .vmem S512x512 .f32 := win0_2.stage (cfg0.slots t 2)
abbrev ms3 (t : Fin cfg0.N) : Memref sig .tc .vmem S512x512 .f32 := win0_3.stage (cfg0.slots t 3)
abbrev ms4 (t : Fin cfg0.N) : Memref sig .tc .vmem S512x512 .f32 := win0_4.stage (cfg0.slots t 4)
abbrev ms5 (t : Fin cfg0.N) : Memref sig .tc .vmem S512x512 .f32 := win0_5.stage (cfg0.slots t 5)
abbrev ms6 (t : Fin cfg0.N) : Memref sig .tc .vmem S1x512 .f32 := win0_6.stage (cfg0.slots t 6)
abbrev ms7 (t : Fin cfg0.N) : Memref sig .tc .vmem S4x128x128 .f32 := win0_7.stage (cfg0.slots t 7)
abbrev ms8 (t : Fin cfg0.N) : Memref sig .tc .vmem S4x128x128 .f32 := win0_8.stage (cfg0.slots t 8)
abbrev ms9 (t : Fin cfg0.N) : Memref sig .tc .vmem S512x512 .f32 := win0_9.stage (cfg0.slots t 9)
abbrev ms10 (t : Fin cfg0.N) : Memref sig .tc .vmem S512x1024 .f32 := win0_10.stage (cfg0.slots t 10)
abbrev ms11 (t : Fin cfg0.N) : Memref sig .tc .vmem S512x1024 .f32 := win0_11.stage (cfg0.slots t 11)
abbrev ms12 (t : Fin cfg0.N) : Memref sig .tc .vmem S1x1024 .f32 := win0_12.stage (cfg0.slots t 12)
abbrev ms13 (t : Fin cfg0.N) : Memref sig .tc .vmem S1024x1024 .bf16 := win0_13.stage (cfg0.slots t 13)
abbrev ms14 (t : Fin cfg0.N) : Memref sig .tc .vmem S8x128 .f32 := win0_14.stage (cfg0.slots t 14)
abbrev ms15 (t : Fin cfg0.N) : Memref sig .tc .vmem S512x1024 .f32 := win0_15.stage (cfg0.slots t 15)
abbrev ms16 (t : Fin cfg0.N) : Memref sig .tc .vmem S512x1024 .f32 := win0_16.stage (cfg0.slots t 16)
abbrev ms17 (t : Fin cfg0.N) : Memref sig .tc .vmem S1x1024 .f32 := win0_17.stage (cfg0.slots t 17)
abbrev ms18 (t : Fin cfg0.N) : Memref sig .tc .vmem S1024x1024 .f32 := win0_18.stage (cfg0.slots t 18)
abbrev hs0 (t : Fin cfg0.N) : (ms0 t).IsWhole := hstage0_0 ((cfg0.slots t 0).cast nbuf0_0)
abbrev hs1 (t : Fin cfg0.N) : (ms1 t).IsWhole := hstage0_1 ((cfg0.slots t 1).cast nbuf0_1)
abbrev hs2 (t : Fin cfg0.N) : (ms2 t).IsWhole := hstage0_2 ((cfg0.slots t 2).cast nbuf0_2)
abbrev hs3 (t : Fin cfg0.N) : (ms3 t).IsWhole := hstage0_3 ((cfg0.slots t 3).cast nbuf0_3)
abbrev hs4 (t : Fin cfg0.N) : (ms4 t).IsWhole := hstage0_4 ((cfg0.slots t 4).cast nbuf0_4)
abbrev hs5 (t : Fin cfg0.N) : (ms5 t).IsWhole := hstage0_5 ((cfg0.slots t 5).cast nbuf0_5)
abbrev hs6 (t : Fin cfg0.N) : (ms6 t).IsWhole := hstage0_6 ((cfg0.slots t 6).cast nbuf0_6)
abbrev hs7 (t : Fin cfg0.N) : (ms7 t).IsWhole := hstage0_7 ((cfg0.slots t 7).cast nbuf0_7)
abbrev hs8 (t : Fin cfg0.N) : (ms8 t).IsWhole := hstage0_8 ((cfg0.slots t 8).cast nbuf0_8)
abbrev hs9 (t : Fin cfg0.N) : (ms9 t).IsWhole := hstage0_9 ((cfg0.slots t 9).cast nbuf0_9)
abbrev hs10 (t : Fin cfg0.N) : (ms10 t).IsWhole := hstage0_10 ((cfg0.slots t 10).cast nbuf0_10)
abbrev hs11 (t : Fin cfg0.N) : (ms11 t).IsWhole := hstage0_11 ((cfg0.slots t 11).cast nbuf0_11)
abbrev hs12 (t : Fin cfg0.N) : (ms12 t).IsWhole := hstage0_12 ((cfg0.slots t 12).cast nbuf0_12)
abbrev hs13 (t : Fin cfg0.N) : (ms13 t).IsWhole := hstage0_13 ((cfg0.slots t 13).cast nbuf0_13)
abbrev hs14 (t : Fin cfg0.N) : (ms14 t).IsWhole := hstage0_14 ((cfg0.slots t 14).cast nbuf0_14)
abbrev hs15 (t : Fin cfg0.N) : (ms15 t).IsWhole := hstage0_15 ((cfg0.slots t 15).cast nbuf0_15)
abbrev hs16 (t : Fin cfg0.N) : (ms16 t).IsWhole := hstage0_16 ((cfg0.slots t 16).cast nbuf0_16)
abbrev hs17 (t : Fin cfg0.N) : (ms17 t).IsWhole := hstage0_17 ((cfg0.slots t 17).cast nbuf0_17)
abbrev hs18 (t : Fin cfg0.N) : (ms18 t).IsWhole := hstage0_18 ((cfg0.slots t 18).cast nbuf0_18)

/-- The blocks of point `t`. -/
def insAt (c : Dev nD) (t : Fin cfg0.N) : Ins F :=
  ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t⟩

/-- The gated tile that point `n` reads. -/
def gatedAt (c : Dev nD) : (n : ℕ) → n < cfg0.N → Vec F S1x512x512 .bf16
  | 0, h => have X := insAt m c ⟨0, h⟩; tile X.au0 X.av0 X.ag0 X.sg X.ws X.bs
  | n + 1, h => have X := insAt m c ⟨n, Nat.lt_of_succ_lt h⟩; tile X.au1 X.av1 X.ag1 X.sg X.ws X.bs

/-- What the results' buffers hold after point `n`. -/
def outsAt (c : Dev nD) : (n : ℕ) → n < cfg0.N → Res F
  | 0, h => (step (grid0.coords ⟨0, h⟩) (insAt m c ⟨0, h⟩) (gatedAt m c 0 h) k0_pay3 k0_pay4 k0_pay5).res
  | n + 1, h => have p := outsAt c n (Nat.lt_of_succ_lt h)
    (step (grid0.coords ⟨n + 1, h⟩) (insAt m c ⟨n + 1, h⟩) (gatedAt m c (n + 1) h) p.loss p.dg p.dw).res

/-- What holds of the scratch buffer before point `n`. -/
def Inv (c : Dev nD) : ℕ → sProp (MT nD τ sig Unit (Elt F) ℕ (UR sig nD τ) ℕ)
  | 0 => Pipeline.ΦA spec0 c
  | n + 1 => iprop(∃ d : Vec F S2x512x512 .bf16, ⌜∀ h : n + 1 < cfg0.N, slotOf (n + 1) d = gatedAt m c (n + 1) h⌝
      ∗ owns (c : Thread nD τ) (Memref.whole cc0_scratch0) fullShare d ∗ ∃ r, prngReg c r)

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => (outsAt m c t.val t.isLt).loss
    | ⟨15, _⟩ => (outsAt m c t.val t.isLt).dy
    | ⟨16, _⟩ => (outsAt m c t.val t.isLt).dcat
    | ⟨17, _⟩ => (outsAt m c t.val t.isLt).dg
    | ⟨18, _⟩ => (outsAt m c t.val t.isLt).dw
    | ⟨_ + 19, h⟩ => absurd h (Nat.not_lt.2 (Nat.le_add_left _ _))
  Φ t := Inv m c t.val
  q := Pipeline.shareOf spec0
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = iblk m c 13 t := by dsimp only [dats]
theorem after14 (c : Dev nD) (t : Fin cfg0.N) : (dats m 0 c).after 14 t = (outsAt m c t.val t.isLt).loss := by dsimp only [dats]
theorem after15 (c : Dev nD) (t : Fin cfg0.N) : (dats m 0 c).after 15 t = (outsAt m c t.val t.isLt).dy := by dsimp only [dats]
theorem after16 (c : Dev nD) (t : Fin cfg0.N) : (dats m 0 c).after 16 t = (outsAt m c t.val t.isLt).dcat := by dsimp only [dats]
theorem after17 (c : Dev nD) (t : Fin cfg0.N) : (dats m 0 c).after 17 t = (outsAt m c t.val t.isLt).dg := by dsimp only [dats]
theorem after18 (c : Dev nD) (t : Fin cfg0.N) : (dats m 0 c).after 18 t = (outsAt m c t.val t.isLt).dw := by dsimp only [dats]

theorem before0 (c : Dev nD) (t : Fin cfg0.N) (d) : (dats m 0 c).before 0 t d = iblk m c 0 t := before0_0_of m (dats m 0 c) (A_eq m c 0) (after0 m c) t d
theorem before1 (c : Dev nD) (t : Fin cfg0.N) (d) : (dats m 0 c).before 1 t d = iblk m c 1 t := before0_1_of m (dats m 0 c) (A_eq m c 1) (after1 m c) t d
theorem before2 (c : Dev nD) (t : Fin cfg0.N) (d) : (dats m 0 c).before 2 t d = iblk m c 2 t := before0_2_of m (dats m 0 c) (A_eq m c 2) (after2 m c) t d
theorem before3 (c : Dev nD) (t : Fin cfg0.N) (d) : (dats m 0 c).before 3 t d = iblk m c 3 t := before0_3_of m (dats m 0 c) (A_eq m c 3) (after3 m c) t d
theorem before4 (c : Dev nD) (t : Fin cfg0.N) (d) : (dats m 0 c).before 4 t d = iblk m c 4 t := before0_4_of m (dats m 0 c) (A_eq m c 4) (after4 m c) t d
theorem before5 (c : Dev nD) (t : Fin cfg0.N) (d) : (dats m 0 c).before 5 t d = iblk m c 5 t := before0_5_of m (dats m 0 c) (A_eq m c 5) (after5 m c) t d
theorem before6 (c : Dev nD) (t : Fin cfg0.N) (d) : (dats m 0 c).before 6 t d = iblk m c 6 t := before0_6_of m (dats m 0 c) (A_eq m c 6) (after6 m c) t d
theorem before7 (c : Dev nD) (t : Fin cfg0.N) (d) : (dats m 0 c).before 7 t d = iblk m c 7 t := before0_7_of m (dats m 0 c) (A_eq m c 7) (after7 m c) t d
theorem before8 (c : Dev nD) (t : Fin cfg0.N) (d) : (dats m 0 c).before 8 t d = iblk m c 8 t := before0_8_of m (dats m 0 c) (A_eq m c 8) (after8 m c) t d
theorem before9 (c : Dev nD) (t : Fin cfg0.N) (d) : (dats m 0 c).before 9 t d = iblk m c 9 t := before0_9_of m (dats m 0 c) (A_eq m c 9) (after9 m c) t d
theorem before10 (c : Dev nD) (t : Fin cfg0.N) (d) : (dats m 0 c).before 10 t d = iblk m c 10 t := before0_10_of m (dats m 0 c) (A_eq m c 10) (after10 m c) t d
theorem before11 (c : Dev nD) (t : Fin cfg0.N) (d) : (dats m 0 c).before 11 t d = iblk m c 11 t := before0_11_of m (dats m 0 c) (A_eq m c 11) (after11 m c) t d
theorem before12 (c : Dev nD) (t : Fin cfg0.N) (d) : (dats m 0 c).before 12 t d = iblk m c 12 t := before0_12_of m (dats m 0 c) (A_eq m c 12) (after12 m c) t d
theorem before13 (c : Dev nD) (t : Fin cfg0.N) (d) : (dats m 0 c).before 13 t d = iblk m c 13 t := before0_13_of m (dats m 0 c) (A_eq m c 13) (after13 m c) t d

theorem before14 (c : Dev nD) (n : Nat) (hn : n + 1 < cfg0.N) (d) :
    (dats m 0 c).before 14 ⟨n + 1, hn⟩ d = (outsAt m c n (Nat.lt_of_succ_lt hn)).loss := by
  have hN : n + 1 < 8 := lt_of_lt_of_eq hn (show cfg0.N = 8 from N_0)
  rw [Dat.before_out_kept _ 14 rfl ⟨n + 1, hn⟩ (by show n + 1 ≠ 0; omega)
    (Bool.eq_false_iff.mpr fun h => by have := (flush0_14 _).mp h; dsimp only at this; omega) (fun _ => rfl) (fun _ _ => rfl)]
  dsimp only [dats]
  rfl
theorem before17 (c : Dev nD) (n : Nat) (hn : n + 1 < cfg0.N) (d) :
    (dats m 0 c).before 17 ⟨n + 1, hn⟩ d = (outsAt m c n (Nat.lt_of_succ_lt hn)).dg := by
  have hN : n + 1 < 8 := lt_of_lt_of_eq hn (show cfg0.N = 8 from N_0)
  rw [Dat.before_out_kept _ 17 rfl ⟨n + 1, hn⟩ (by show n + 1 ≠ 0; omega)
    (Bool.eq_false_iff.mpr fun h => by have := (flush0_17 _).mp h; dsimp only at this; omega) (fun _ => rfl) (fun _ _ => rfl)]
  dsimp only [dats]
  rfl
theorem before18 (c : Dev nD) (n : Nat) (hn : n + 1 < cfg0.N) (d) :
    (dats m 0 c).before 18 ⟨n + 1, hn⟩ d = (outsAt m c n (Nat.lt_of_succ_lt hn)).dw := by
  have hN : n + 1 < 8 := lt_of_lt_of_eq hn (show cfg0.N = 8 from N_0)
  rw [Dat.before_out_kept _ 18 rfl ⟨n + 1, hn⟩ (by show n + 1 ≠ 0; omega)
    (Bool.eq_false_iff.mpr fun h => by have := (flush0_18 _).mp h; dsimp only at this; omega) (fun _ => rfl) (fun _ _ => rfl)]
  dsimp only [dats]
  rfl

/-- What the body is called with at point `t`. -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d))
    ∗ (∃ d, owns (c : Thread nD τ) (ms14 t) fullShare ((dats m 0 c).before 14 t d))
    ∗ (∃ d, owns (c : Thread nD τ) (ms15 t) fullShare ((dats m 0 c).before 15 t d))
    ∗ (∃ d, owns (c : Thread nD τ) (ms16 t) fullShare ((dats m 0 c).before 16 t d))
    ∗ (∃ d, owns (c : Thread nD τ) (ms17 t) fullShare ((dats m 0 c).before 17 t d))
    ∗ (∃ d, owns (c : Thread nD τ) (ms18 t) fullShare ((dats m 0 c).before 18 t d)))

/-- What it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t)
    ∗ owns (c : Thread nD τ) (ms10 t) fullShare ((dats m 0 c).after 10 t)
    ∗ owns (c : Thread nD τ) (ms11 t) fullShare ((dats m 0 c).after 11 t)
    ∗ owns (c : Thread nD τ) (ms12 t) fullShare ((dats m 0 c).after 12 t)
    ∗ owns (c : Thread nD τ) (ms13 t) fullShare ((dats m 0 c).after 13 t)
    ∗ owns (c : Thread nD τ) (ms14 t) fullShare ((dats m 0 c).after 14 t)
    ∗ owns (c : Thread nD τ) (ms15 t) fullShare ((dats m 0 c).after 15 t)
    ∗ owns (c : Thread nD τ) (ms16 t) fullShare ((dats m 0 c).after 16 t)
    ∗ owns (c : Thread nD τ) (ms17 t) fullShare ((dats m 0 c).after 17 t)
    ∗ owns (c : Thread nD τ) (ms18 t) fullShare ((dats m 0 c).after 18 t))

theorem hcond (t : Fin cfg0.N) : Scalar.cmpi .ne (Scalar.extui (Scalar.cmpi .eq (BitVec.ofNat 32 (grid0.coords t 0).val) 0#32)) 0#32 = 1#1 ↔ t.val % 8 = 0 := by
  have ht : t.val < 8 := Nat.lt_of_lt_of_eq t.isLt N_0
  have e0 : (grid0.coords t 0).val = t.val / 1 % 8 := Pipeline.Grid.coords_val t 0 (by decide) rfl
  simp only [e0]
  word_cmp

theorem coord (t : Fin cfg0.N) : (grid0.coords t 0).val = t.val := by
  have ht : t.val < 8 := Nat.lt_of_lt_of_eq t.isLt N_0
  have e0 : (grid0.coords t 0).val = t.val / 1 % 8 := Pipeline.Grid.coords_val t 0 (by decide) rfl
  omega

/-- A point after the first writes what a step from the carried tile and accumulators says. -/
theorem runB_step (c : Dev nD) (t : Fin cfg0.N) (hc) (X : Ins F) (l g r d) :
    (runB c (grid0.coords t) (hs0 t) (hs1 t) (hs2 t) (hs3 t) (hs4 t) (hs5 t) (hs6 t) (hs7 t) (hs8 t) (hs9 t) (hs10 t) (hs11 t) (hs12 t) (hs13 t) (hs14 t) (hs15 t) (hs16 t) (hs17 t) (hs18 t) (Memref.isWhole_whole cc0_scratch0) hc X l g r d).1 = step (grid0.coords t) X (slotOf t.val d) l g r := by
  rw [runB_eq, ld_slot, coord]
  rfl

/-- The first point, from its own tile and zeros, over what it writes first. -/
theorem runA_step (c : Dev nD) (t : Fin cfg0.N) (hc) (X : Ins F) (d) (h0 : t.val = 0) :
    ∃ (R1 : List (View.Piece (Elt F) S8x128 .f32)) (R2 : List (View.Piece (Elt F) S1x1024 .f32)) (R3 : List (View.Piece (Elt F) S1024x1024 .f32)) (R4 : List (View.Piece (Elt F) S2x512x512 .bf16)),
    (runA c (grid0.coords t) (hs0 t) (hs1 t) (hs2 t) (hs3 t) (hs4 t) (hs5 t) (hs6 t) (hs7 t) (hs8 t) (hs9 t) (hs10 t) (hs11 t) (hs12 t) (hs13 t) (hs14 t) (hs15 t) (hs16 t) (hs17 t) (hs18 t) (Memref.isWhole_whole cc0_scratch0) hc X d).1 =
      have L : Wr F := step (grid0.coords t) X (tile X.au0 X.av0 X.ag0 X.sg X.ws X.bs) k0_pay3 k0_pay4 k0_pay5
      { L with loss := L.loss ++ R1, dg := L.dg ++ R2, dw := L.dw ++ R3, scr := L.scr ++ R4 } := by
  refine ⟨[⟨Rect.unit ![0, 0] S8x128.size inb_S8x128_S8x128_0_0, k0_pay3⟩],
    [⟨Rect.unit ![0, 0] S1x1024.size inb_S1x1024_S1x1024_0_0, k0_pay4⟩],
    [⟨Rect.unit ![0, 0] S1024x1024.size inb_S1024x1024_S1024x1024_0_0, k0_pay5⟩], wr0 X, (runA_eq c (grid0.coords t) (hs0 t) (hs1 t) (hs2 t) (hs3 t) (hs4 t) (hs5 t) (hs6 t) (hs7 t) (hs8 t) (hs9 t) (hs10 t) (hs11 t) (hs12 t) (hs13 t) (hs14 t) (hs15 t) (hs16 t) (hs17 t) (hs18 t) (Memref.isWhole_whole cc0_scratch0) hc X d).trans ?_⟩
  rw [ld_slot, coord, h0, slot_first]
  rfl

set_option maxHeartbeats 3200000 in
theorem sound_next (c : Dev nD) (n : Nat) (hn : n + 1 < cfg0.N) :
    bodyPre m c ⟨n + 1, hn⟩ ⊢ wp frame (wpE (defs₀ (F := F)) Variants.none c none) Set.univ (bodyAt0 ⟨n + 1, hn⟩) (fun _ => bodyPost m c ⟨n + 1, hn⟩) := by
  have hN : n + 1 < 8 := lt_of_lt_of_eq hn (show cfg0.N = 8 from N_0)
  unfold bodyPre bodyPost bodyAt0
  simp only [before0, before1, before2, before3, before4, before5, before6, before7, before8, before9, before10, before11, before12, before13, before14, before17, before18]
  rw [show (dats m 0 c).Φ (⟨n + 1, hn⟩ : Fin cfg0.N).castSucc = Inv m c (n + 1) from rfl, show (dats m 0 c).Φ (⟨n + 1, hn⟩ : Fin cfg0.N).succ = Inv m c (n + 2) from rfl,
    show (dats m 0 c).owesAt () (⟨n + 1, hn⟩ : Fin cfg0.N).succ = (dats m 0 c).owesAt () (⟨n + 1, hn⟩ : Fin cfg0.N).castSucc from rfl,
    after0, after1, after2, after3, after4, after5, after6, after7, after8, after9, after10, after11, after12, after13, after14, after15, after16, after17, after18]
  generalize ht : (⟨n + 1, hn⟩ : Fin cfg0.N) = t
  have hv : t.val = n + 1 := by rw [← ht]
  have hc : ¬_ := fun h => (by have := (hcond t).mp h; omega : False)
  unfold Inv
  iintro ⟨⟨%d, %hd, HS, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  have hs : slotOf t.val d = gatedAt m c t.val t.isLt := by subst ht; exact hd hn
  have hrun := (runB c (grid0.coords t) (hs0 t) (hs1 t) (hs2 t) (hs3 t) (hs4 t) (hs5 t) (hs6 t) (hs7 t) (hs8 t) (hs9 t) (hs10 t) (hs11 t) (hs12 t) (hs13 t) (hs14 t) (hs15 t) (hs16 t) (hs17 t) (hs18 t) (Memref.isWhole_whole cc0_scratch0) hc (insAt m c t) (outsAt m c n (Nat.lt_of_succ_lt hn)).loss (outsAt m c n (Nat.lt_of_succ_lt hn)).dg (outsAt m c n (Nat.lt_of_succ_lt hn)).dw d).2 Set.univ
  rw [runB_step c t hc, hs] at hrun
  have ho : (step (grid0.coords t) (insAt m c t) (gatedAt m c t.val t.isLt) (outsAt m c n (Nat.lt_of_succ_lt hn)).loss (outsAt m c n (Nat.lt_of_succ_lt hn)).dg (outsAt m c n (Nat.lt_of_succ_lt hn)).dw).res = outsAt m c t.val t.isLt := by
    subst ht; rfl
  obtain ⟨L, hL⟩ : ∃ L : Wr F, L = step (grid0.coords t) (insAt m c t) (gatedAt m c t.val t.isLt) (outsAt m c n (Nat.lt_of_succ_lt hn)).loss (outsAt m c n (Nat.lt_of_succ_lt hn)).dg (outsAt m c n (Nat.lt_of_succ_lt hn)).dw := ⟨_, rfl⟩
  rw [← hL] at hrun
  have hS := slot_next (grid0.coords t) (insAt m c t) (gatedAt m c t.val t.isLt) (outsAt m c n (Nat.lt_of_succ_lt hn)).loss (outsAt m c n (Nat.lt_of_succ_lt hn)).dg (outsAt m c n (Nat.lt_of_succ_lt hn)).dw (Memref.whole cc0_scratch0).view ((Memref.isWhole_whole cc0_scratch0).unread d) []
  have k_loss := cover_loss (grid0.coords t) (insAt m c t) (gatedAt m c t.val t.isLt) (outsAt m c n (Nat.lt_of_succ_lt hn)).loss (outsAt m c n (Nat.lt_of_succ_lt hn)).dg (outsAt m c n (Nat.lt_of_succ_lt hn)).dw
  have k_dy := cover_dy (grid0.coords t) (insAt m c t) (gatedAt m c t.val t.isLt) (outsAt m c n (Nat.lt_of_succ_lt hn)).loss (outsAt m c n (Nat.lt_of_succ_lt hn)).dg (outsAt m c n (Nat.lt_of_succ_lt hn)).dw
  have k_dcat := cover_dcat (grid0.coords t) (insAt m c t) (gatedAt m c t.val t.isLt) (outsAt m c n (Nat.lt_of_succ_lt hn)).loss (outsAt m c n (Nat.lt_of_succ_lt hn)).dg (outsAt m c n (Nat.lt_of_succ_lt hn)).dw
  have k_dg := cover_dg (grid0.coords t) (insAt m c t) (gatedAt m c t.val t.isLt) (outsAt m c n (Nat.lt_of_succ_lt hn)).loss (outsAt m c n (Nat.lt_of_succ_lt hn)).dg (outsAt m c n (Nat.lt_of_succ_lt hn)).dw
  have k_dw := cover_dw (grid0.coords t) (insAt m c t) (gatedAt m c t.val t.isLt) (outsAt m c n (Nat.lt_of_succ_lt hn)).loss (outsAt m c n (Nat.lt_of_succ_lt hn)).dg (outsAt m c n (Nat.lt_of_succ_lt hn)).dw
  rw [← hL] at ho hS k_loss k_dy k_dcat k_dg k_dw
  clear hL
  iapply (hrun _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  isplitl [H16]; · iexists _; iexact H16
  isplitl [H17]; · iexact H17
  isplitl [H18]; · iexact H18
  isplitl [HS]; · iexact HS
  iintro ⟨H0, H1, H2, H3, H4, H5, H6, H7, H8, H9, H10, H11, H12, H13, ⟨%e14, H14⟩, ⟨%e15, H15⟩, ⟨%e16, H16⟩, ⟨%e17, H17⟩, ⟨%e18, H18⟩, H19⟩
  isplitl [H19 HP]
  · iexists _
    isplitr
    swap
    · isplitl [H19]
      · unfold owns; iexists _; isplitr
        swap; · iexact H19
        ipureintro; rfl
      · iexact HP
    ipureintro
    intro h
    rw [List.append_nil, coord] at hS
    refine (congrArg (slotOf · _) (congrArg (· + 1) hv.symm)).trans (hS.trans ?_)
    subst ht; rfl
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]
  · unfold owns; iexists _; isplitr
    swap; · iexact H14
    ipureintro; exact (View.read_writes_eq_canon _ _ _ k_loss).trans (congrArg Res.loss ho)
  isplitl [H15]
  · unfold owns; iexists _; isplitr
    swap; · iexact H15
    ipureintro; exact (View.read_writes_eq_canon _ _ _ k_dy).trans (congrArg Res.dy ho)
  isplitl [H16]
  · unfold owns; iexists _; isplitr
    swap; · iexact H16
    ipureintro; exact (View.read_writes_eq_canon _ _ _ k_dcat).trans (congrArg Res.dcat ho)
  isplitl [H17]
  · unfold owns; iexists _; isplitr
    swap; · iexact H17
    ipureintro; exact (View.read_writes_eq_canon _ _ _ k_dg).trans (congrArg Res.dg ho)
  unfold owns; iexists _; isplitr
  swap; · iexact H18
  ipureintro; exact (View.read_writes_eq_canon _ _ _ k_dw).trans (congrArg Res.dw ho)

set_option maxHeartbeats 3200000 in
theorem sound_first (c : Dev nD) (t : Fin cfg0.N) (h0 : t.val = 0) :
    bodyPre m c t ⊢ wp frame (wpE (defs₀ (F := F)) Variants.none c none) Set.univ (bodyAt0 t) (fun _ => bodyPost m c t) := by
  have hN : t.val < 8 := lt_of_lt_of_eq t.isLt (show cfg0.N = 8 from N_0)
  obtain ⟨n, h1⟩ := t
  obtain rfl : n = 0 := h0
  unfold bodyPre bodyPost bodyAt0
  simp only [before0, before1, before2, before3, before4, before5, before6, before7, before8, before9, before10, before11, before12, before13]
  rw [show (dats m 0 c).Φ (⟨0, h1⟩ : Fin cfg0.N).castSucc = Pipeline.ΦA spec0 c from rfl, show (dats m 0 c).Φ (⟨0, h1⟩ : Fin cfg0.N).succ = Inv m c 1 from rfl,
    show (dats m 0 c).owesAt () (⟨0, h1⟩ : Fin cfg0.N).succ = (dats m 0 c).owesAt () (⟨0, h1⟩ : Fin cfg0.N).castSucc from rfl,
    after0, after1, after2, after3, after4, after5, after6, after7, after8, after9, after10, after11, after12, after13, after14, after15, after16, after17, after18]
  unfold Pipeline.ΦA
  rw [scopedRest0_eq]
  generalize ht : (⟨0, h1⟩ : Fin cfg0.N) = t
  have hv : t.val = 0 := by rw [← ht]
  have hc := (hcond t).mpr (by omega)
  unfold Inv
  iintro ⟨⟨⟨%d, HS⟩, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  obtain ⟨R1, R2, R3, R4, hA⟩ := runA_step c t hc (insAt m c t) d hv
  have hrun := (runA c (grid0.coords t) (hs0 t) (hs1 t) (hs2 t) (hs3 t) (hs4 t) (hs5 t) (hs6 t) (hs7 t) (hs8 t) (hs9 t) (hs10 t) (hs11 t) (hs12 t) (hs13 t) (hs14 t) (hs15 t) (hs16 t) (hs17 t) (hs18 t) (Memref.isWhole_whole cc0_scratch0) hc (insAt m c t) d).2 Set.univ
  rw [hA, owns_whole] at hrun
  have hg : tile (insAt m c t).au0 (insAt m c t).av0 (insAt m c t).ag0 (insAt m c t).sg (insAt m c t).ws (insAt m c t).bs = gatedAt m c t.val t.isLt := by subst ht; rfl
  rw [hg] at hrun
  dsimp only at hrun
  have ho : (step (grid0.coords t) (insAt m c t) (gatedAt m c t.val t.isLt) k0_pay3 k0_pay4 k0_pay5).res = outsAt m c t.val t.isLt := by
    subst ht; rfl
  obtain ⟨L, hL⟩ : ∃ L : Wr F, L = step (grid0.coords t) (insAt m c t) (gatedAt m c t.val t.isLt) k0_pay3 k0_pay4 k0_pay5 := ⟨_, rfl⟩
  rw [← hL] at hrun
  have hS := slot_next (grid0.coords t) (insAt m c t) (gatedAt m c t.val t.isLt) k0_pay3 k0_pay4 k0_pay5 (Memref.whole cc0_scratch0).view ((Memref.isWhole_whole cc0_scratch0).unread d) R4
  have k_loss := cover_loss (grid0.coords t) (insAt m c t) (gatedAt m c t.val t.isLt) k0_pay3 k0_pay4 k0_pay5
  have k_dy := cover_dy (grid0.coords t) (insAt m c t) (gatedAt m c t.val t.isLt) k0_pay3 k0_pay4 k0_pay5
  have k_dcat := cover_dcat (grid0.coords t) (insAt m c t) (gatedAt m c t.val t.isLt) k0_pay3 k0_pay4 k0_pay5
  have k_dg := cover_dg (grid0.coords t) (insAt m c t) (gatedAt m c t.val t.isLt) k0_pay3 k0_pay4 k0_pay5
  have k_dw := cover_dw (grid0.coords t) (insAt m c t) (gatedAt m c t.val t.isLt) k0_pay3 k0_pay4 k0_pay5
  rw [← hL] at ho hS k_loss k_dy k_dcat k_dg k_dw
  clear hL
  iapply (hrun _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexists _; iexact H15
  isplitl [H16]; · iexists _; iexact H16
  isplitl [H17]; · iexists _; iexact H17
  isplitl [H18]; · iexists _; iexact H18
  isplitl [HS]; · iexact HS
  iintro ⟨H0, H1, H2, H3, H4, H5, H6, H7, H8, H9, H10, H11, H12, H13, ⟨%e14, H14⟩, ⟨%e15, H15⟩, ⟨%e16, H16⟩, ⟨%e17, H17⟩, ⟨%e18, H18⟩, H19⟩
  isplitl [H19 HP]
  · iexists _
    isplitr
    swap
    · isplitl [H19]
      · unfold owns; iexists _; isplitr
        swap; · iexact H19
        ipureintro; rfl
      · iexact HP
    ipureintro
    intro h
    rw [coord] at hS
    refine (congrArg (slotOf · _) (congrArg (· + 1) hv.symm)).trans (hS.trans ?_)
    subst ht; rfl
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]
  · unfold owns; iexists _; isplitr
    swap; · iexact H14
    ipureintro; exact (read_append _ _ _ _ k_loss).trans (congrArg Res.loss ho)
  isplitl [H15]
  · unfold owns; iexists _; isplitr
    swap; · iexact H15
    ipureintro; exact (View.read_writes_eq_canon _ _ _ k_dy).trans (congrArg Res.dy ho)
  isplitl [H16]
  · unfold owns; iexists _; isplitr
    swap; · iexact H16
    ipureintro; exact (View.read_writes_eq_canon _ _ _ k_dcat).trans (congrArg Res.dcat ho)
  isplitl [H17]
  · unfold owns; iexists _; isplitr
    swap; · iexact H17
    ipureintro; exact (read_append _ _ _ _ k_dg).trans (congrArg Res.dg ho)
  unfold owns; iexists _; isplitr
  swap; · iexact H18
  ipureintro; exact (read_append _ _ _ _ k_dw).trans (congrArg Res.dw ho)

theorem sound_body (c : Dev nD) (t : Fin cfg0.N) :
    bodyPre m c t ⊢ wp frame (wpE (defs₀ (F := F)) Variants.none c none) Set.univ (bodyAt0 t) (fun _ => bodyPost m c t) := by
  obtain ⟨n, hn⟩ := t
  cases n with
  | zero => exact sound_first m c ⟨0, hn⟩ rfl
  | succ n => exact sound_next m c n hn

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem inv_in (c : Dev nD) : Pipeline.ΦA spec0 c ⊢ (dats m 0 c).Φ 0 := .rfl

theorem inv_out (c : Dev nD) : (dats m 0 c).Φ (Fin.last cfg0.N) ⊢ Pipeline.ΦA spec0 c := by
  rw [show (dats m 0 c).Φ (Fin.last cfg0.N) = Inv m c 8 from rfl]
  unfold Inv Pipeline.ΦA
  rw [scopedRest0_eq]
  simp only [owns_whole]
  iintro ⟨%d, %hd, HS, HP⟩
  isplitl [HS]
  · iexists _; iexact HS
  · iexact HP

set_option backward.isDefEq.respectTransparency.types false in
/-- Every execution ends, with every array at what the points wrote back and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl) (howed := fun _ _ => rfl) (V := V m)
    (hmain := hmain m Variants.none) (hA := A_eq m) (hin := inv_in m) (hout := inv_out m)

theorem run_main : θ_run defs (onTc (τ := τ) (main (F := F))) (s₀ m ρ) (Pipeline.FramePost cfgs (dats m) 0 (V m)) :=
  (θ_run defs _ _).mono (fun _ h => h.1) (run_main_quiescent m ρ)

/-- The call leaves its arguments as they were and every counter at zero. -/
theorem frame : θ_run defs (onTc (τ := τ) (main (F := F))) ⟨m, fun _ => 0, ρ⟩ (fun r => (∀ c : Dev nD,
r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8))
      ∧ r.2.sem = fun _ => 0) :=
  θ_run_and (frame_of m ρ (dats m) (A_eq m) (run_main m ρ)) ((θ_run defs _ _).mono (fun _ h => h.2) (run_main_quiescent m ρ))

end Cert.OutProjIdeal.Out
end
-- ==== Proof.OutBits.lean ====
/-
  The output projection's call over words: its program is the text of the one over extended reals, so its frame is that one's.
-/
module

public import proofs.«01_k».proof.Proof.OutFrame
public import proofs.«01_k».proof.Proof.Gen.OutProj.Frame

@[expose] public section

set_option maxRecDepth 16384

noncomputable section

namespace Cert.OutProj.Out

open Idealize.ShloMosaic Idealize.ShloMosaic.TcCoe Idealize.ShloMosaic.Tactic Idealize.SL.Sem

variable {F : FTy → Type} [FloatOps F]

theorem same :
    (∀ (m : (ℓ : Loc Cert.OutProjIdeal.nD Cert.OutProjIdeal.τ Cert.OutProjIdeal.sig) → Buf (Elt F) ℓ) (ρ : Dev Cert.OutProjIdeal.nD → PrngReg),
    θ_run (Cert.OutProjIdeal.defs (F := F)) (onTc (τ := Cert.OutProjIdeal.τ) (Cert.OutProjIdeal.main (F := F))) ⟨m, fun _ => 0, ρ⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0) ∧
      r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1) ∧
      r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2) ∧
      r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3) ∧
      r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4) ∧
      r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5) ∧
      r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6) ∧
      r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7) ∧
      r.2.mem ((c.tc : Thread Cert.OutProjIdeal.nD Cert.OutProjIdeal.τ).loc Cert.OutProjIdeal.main_arg8) = m ((c.tc : Thread Cert.OutProjIdeal.nD Cert.OutProjIdeal.τ).loc Cert.OutProjIdeal.main_arg8)) ∧ r.2.sem = fun _ => 0)) =
    (∀ (m : (ℓ : Loc Cert.OutProj.nD Cert.OutProj.τ Cert.OutProj.sig) → Buf (Elt F) ℓ) (ρ : Dev Cert.OutProj.nD → PrngReg),
    θ_run (Cert.OutProj.defs (F := F)) (onTc (τ := Cert.OutProj.τ) (Cert.OutProj.main (F := F))) ⟨m, fun _ => 0, ρ⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0) ∧
      r.2.mem ((c.tc : Thread Cert.OutProj.nD Cert.OutProj.τ).loc Cert.OutProj.main_arg1) = m ((c.tc : Thread Cert.OutProj.nD Cert.OutProj.τ).loc Cert.OutProj.main_arg1) ∧
      r.2.mem ((c.tc : Thread Cert.OutProj.nD Cert.OutProj.τ).loc Cert.OutProj.main_arg2) = m ((c.tc : Thread Cert.OutProj.nD Cert.OutProj.τ).loc Cert.OutProj.main_arg2) ∧
      r.2.mem ((c.tc : Thread Cert.OutProj.nD Cert.OutProj.τ).loc Cert.OutProj.main_arg3) = m ((c.tc : Thread Cert.OutProj.nD Cert.OutProj.τ).loc Cert.OutProj.main_arg3) ∧
      r.2.mem ((c.tc : Thread Cert.OutProj.nD Cert.OutProj.τ).loc Cert.OutProj.main_arg4) = m ((c.tc : Thread Cert.OutProj.nD Cert.OutProj.τ).loc Cert.OutProj.main_arg4) ∧
      r.2.mem ((c.tc : Thread Cert.OutProj.nD Cert.OutProj.τ).loc Cert.OutProj.main_arg5) = m ((c.tc : Thread Cert.OutProj.nD Cert.OutProj.τ).loc Cert.OutProj.main_arg5) ∧
      r.2.mem ((c.tc : Thread Cert.OutProj.nD Cert.OutProj.τ).loc Cert.OutProj.main_arg6) = m ((c.tc : Thread Cert.OutProj.nD Cert.OutProj.τ).loc Cert.OutProj.main_arg6) ∧
      r.2.mem ((c.tc : Thread Cert.OutProj.nD Cert.OutProj.τ).loc Cert.OutProj.main_arg7) = m ((c.tc : Thread Cert.OutProj.nD Cert.OutProj.τ).loc Cert.OutProj.main_arg7) ∧
      r.2.mem ((c.tc : Thread Cert.OutProj.nD Cert.OutProj.τ).loc Cert.OutProj.main_arg8) = m ((c.tc : Thread Cert.OutProj.nD Cert.OutProj.τ).loc Cert.OutProj.main_arg8)) ∧ r.2.sem = fun _ => 0)) := by
  sl_kernel_rfl

theorem frame : ∀ (m : (ℓ : Loc Cert.OutProj.nD Cert.OutProj.τ Cert.OutProj.sig) → Buf (Elt F) ℓ) (ρ : Dev Cert.OutProj.nD → PrngReg),
    θ_run (Cert.OutProj.defs (F := F)) (onTc (τ := Cert.OutProj.τ) (Cert.OutProj.main (F := F))) ⟨m, fun _ => 0, ρ⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0) ∧
      r.2.mem ((c.tc : Thread Cert.OutProj.nD Cert.OutProj.τ).loc Cert.OutProj.main_arg1) = m ((c.tc : Thread Cert.OutProj.nD Cert.OutProj.τ).loc Cert.OutProj.main_arg1) ∧
      r.2.mem ((c.tc : Thread Cert.OutProj.nD Cert.OutProj.τ).loc Cert.OutProj.main_arg2) = m ((c.tc : Thread Cert.OutProj.nD Cert.OutProj.τ).loc Cert.OutProj.main_arg2) ∧
      r.2.mem ((c.tc : Thread Cert.OutProj.nD Cert.OutProj.τ).loc Cert.OutProj.main_arg3) = m ((c.tc : Thread Cert.OutProj.nD Cert.OutProj.τ).loc Cert.OutProj.main_arg3) ∧
      r.2.mem ((c.tc : Thread Cert.OutProj.nD Cert.OutProj.τ).loc Cert.OutProj.main_arg4) = m ((c.tc : Thread Cert.OutProj.nD Cert.OutProj.τ).loc Cert.OutProj.main_arg4) ∧
      r.2.mem ((c.tc : Thread Cert.OutProj.nD Cert.OutProj.τ).loc Cert.OutProj.main_arg5) = m ((c.tc : Thread Cert.OutProj.nD Cert.OutProj.τ).loc Cert.OutProj.main_arg5) ∧
      r.2.mem ((c.tc : Thread Cert.OutProj.nD Cert.OutProj.τ).loc Cert.OutProj.main_arg6) = m ((c.tc : Thread Cert.OutProj.nD Cert.OutProj.τ).loc Cert.OutProj.main_arg6) ∧
      r.2.mem ((c.tc : Thread Cert.OutProj.nD Cert.OutProj.τ).loc Cert.OutProj.main_arg7) = m ((c.tc : Thread Cert.OutProj.nD Cert.OutProj.τ).loc Cert.OutProj.main_arg7) ∧
      r.2.mem ((c.tc : Thread Cert.OutProj.nD Cert.OutProj.τ).loc Cert.OutProj.main_arg8) = m ((c.tc : Thread Cert.OutProj.nD Cert.OutProj.τ).loc Cert.OutProj.main_arg8)) ∧ r.2.sem = fun _ => 0) :=
  same.mp fun m ρ => Cert.OutProjIdeal.Out.frame m ρ

end Cert.OutProj.Out
end
-- ==== Proof.OutMath.lean ====
/-
  The output projection's call, element by element.
-/
module

public import proofs.«01_k».proof.Proof.OutTile
public import proofs.«01_k».proof.Proof.Gen.OutRefIdeal.Read
public import Idealize.ShloMosaic.Lib.Pointwise

@[expose] public section

set_option maxRecDepth 16384

noncomputable section

namespace Cert.OutPair

open Idealize.ShloMosaic Cert.OutProjIdeal.Gen Cert.OutProjIdeal.Out Cert.OutRefIdeal.Read
open Cert.OutProjIdeal (S128x512 S1x512 S4x128x128 S512x512 S128x128 S1x128 S1x128x128 S4096x3584)
open Cert.OutRefIdeal (S4x128)

variable (x0 : Vec Ideal S4096x3584 .f32) (x1 : Vec Ideal S1x512 .f32) (x2 : Vec Ideal S4x128x128 .f32) (x3 : Vec Ideal S4x128 .f32)

/-- The gelu as the kernel writes it. -/
def gel (y : EReal) : EReal :=
  Ideal.ofBits FTy.f32 1056964608#32 * y * (1 + Ideal.erf (y * Ideal.ofBits FTy.f32 1060439283#32))

/-- The reference writes it with the complementary error function of the negated argument. -/
theorem gel_eq (y : EReal) : Ideal.ofBits FTy.f32 1056964608#32 * y * Ideal.erfc (-y * Ideal.ofBits FTy.f32 1060439283#32) = gel y := by
  rw [EReal.neg_mul, Ideal.erfc_neg, gel]

/-- The mixed rows of one group of one chunk. -/
theorem ref_mixed (k : Fin 4) (n : Fin 32) (r c : Fin 128) : val_main_v36 (F := Ideal) x0 x1 x2 (ix5 k 0 n c r) =
    ∑ x : Fin 128, gel (x0 (ix2 ⟨n.val * 128 + x.val, by omega⟩ ⟨512 + (k.val * 128 + c.val), by omega⟩)) *
      Ideal.rsqrt (Ideal.div (∑ y : Fin 128, gel (x0 (ix2 ⟨n.val * 128 + x.val, by omega⟩ ⟨512 + (k.val * 128 + y.val), by omega⟩)) *
          gel (x0 (ix2 ⟨n.val * 128 + x.val, by omega⟩ ⟨512 + (k.val * 128 + y.val), by omega⟩)))
        (Ideal.ofBits FTy.f32 1124073472#32) + Ideal.ofBits FTy.f32 897988541#32) *
      x1 (ix2 0 ⟨k.val * 128 + c.val, by omega⟩) * x2 (ix3 k r x) := by
  pointwise [val_main_v36, val_main_v35, val_main_v34, val_main_v33, val_main_v32, val_main_v31, val_main_v30, val_main_v29, val_main_v28,
    val_main_v27, val_main_v26, val_main_v25, val_main_v24, val_main_v23, val_main_v22, val_main_v21, val_main_v20, val_main_v19, val_main_v18,
    val_main_v17, val_main_v16, val_main_v15, val_main_v14, val_main_v6, val_main_v3, val_main_v2, val_main_cst_1, val_main_cst_2, val_main_cst_3,
    val_main_cst_4, val_main_cst_5]
  simp only [gel_eq]

/-- The gated rows. -/
theorem ref_gated (k : Fin 4) (n : Fin 32) (r c : Fin 128) :
    val_main_v47 (F := Ideal) x0 x1 x2 x3 (ix2 ⟨n.val * 128 + r.val, by omega⟩ ⟨k.val * 128 + c.val, by omega⟩) =
      gel (x0 (ix2 ⟨n.val * 128 + r.val, by omega⟩ ⟨k.val * 128 + c.val, by omega⟩)) *
        (val_main_v36 (F := Ideal) x0 x1 x2 (ix5 k 0 n c r) + x3 (ix2 k r)) *
        (x0 (ix2 ⟨n.val * 128 + r.val, by omega⟩ ⟨1024 + (k.val * 128 + c.val), by omega⟩) *
          Ideal.logistic (x0 (ix2 ⟨n.val * 128 + r.val, by omega⟩ ⟨1024 + (k.val * 128 + c.val), by omega⟩))) := by
  have e1 : (⟨(k.val * 128 + c.val) / 128, by omega⟩ : Fin 4) = k := Fin.ext (by dsimp only; omega)
  have e2 : (⟨(k.val * 128 + c.val) % 128, by omega⟩ : Fin 128) = c := Fin.ext (by dsimp only; omega)
  have e3 : (⟨(n.val * 128 + r.val) / 128, by omega⟩ : Fin 32) = n := Fin.ext (by dsimp only; omega)
  have e4 : (⟨(n.val * 128 + r.val) % 128, by omega⟩ : Fin 128) = r := Fin.ext (by dsimp only; omega)
  pointwise [val_main_v47, val_main_v46, val_main_v44, val_main_v43, val_main_v42, val_main_v41, val_main_v40, val_main_v39, val_main_v38,
    val_main_v37, val_main_v13, val_main_v12, val_main_v11, val_main_v10, val_main_v9, val_main_v8, val_main_v7, val_main_v1, val_main_v0,
    val_main_cst, val_main_cst_0, val_main_v45, val_main_v5, val_main_v4, val_main_call0_v5, val_main_call0_v4, val_main_call0_v3,
    val_main_call0_v2, val_main_call0_v1, val_main_call0_v0, val_main_call0_cst, val_main_call0_cst_0]
  simp only [e1, e2, e3, e4, gel_eq]
  rfl

/-- One group of one chunk. -/
theorem group_eq (k : Fin 4) (n : Fin 32) (o kk : Nat) (ho : o = k.val * 128) (hk : kk = k.val) (h1 h2 h3) (u v g : Vec Ideal S128x512 .f32) (b : Vec Ideal S4x128x128 .f32)
    (hu : ∀ (r : Fin 128) (l : Fin 512), u (ix2 r l) = gel (x0 (ix2 ⟨n.val * 128 + r.val, by omega⟩ ⟨l.val, by omega⟩)))
    (hv : ∀ (r : Fin 128) (l : Fin 512), v (ix2 r l) = gel (x0 (ix2 ⟨n.val * 128 + r.val, by omega⟩ ⟨512 + l.val, by omega⟩)))
    (hg : ∀ (r : Fin 128) (l : Fin 512), g (ix2 r l) = x0 (ix2 ⟨n.val * 128 + r.val, by omega⟩ ⟨1024 + l.val, by omega⟩))
    (hb : ∀ (k : Fin 4) (r c : Fin 128), b (ix3 k r c) = x3 (ix2 k r)) (r c : Fin 128) :
    group (F := Ideal) o kk h1 h2 h3 u v g x1 x2 b (ix2 r c) =
      val_main_v47 (F := Ideal) x0 x1 x2 x3 (ix2 ⟨n.val * 128 + r.val, by omega⟩ ⟨k.val * 128 + c.val, by omega⟩) := by
  subst ho hk
  rw [ref_gated, ref_mixed]
  pointwise [group]
  simp only [hu, hv, hg, hb]
  refine congrArg (· * _) (congrArg (_ * ·) (congrArg (· + _) (Finset.sum_congr rfl fun x _ => mul_comm _ _)))

/-- One chunk. -/
theorem chunk_eq (n : Fin 32) (u v g : Vec Ideal S128x512 .f32) (b : Vec Ideal S4x128x128 .f32)
    (hu : ∀ (r : Fin 128) (l : Fin 512), u (ix2 r l) = x0 (ix2 ⟨n.val * 128 + r.val, by omega⟩ ⟨l.val, by omega⟩))
    (hv : ∀ (r : Fin 128) (l : Fin 512), v (ix2 r l) = x0 (ix2 ⟨n.val * 128 + r.val, by omega⟩ ⟨512 + l.val, by omega⟩))
    (hg : ∀ (r : Fin 128) (l : Fin 512), g (ix2 r l) = x0 (ix2 ⟨n.val * 128 + r.val, by omega⟩ ⟨1024 + l.val, by omega⟩))
    (hb : ∀ (k : Fin 4) (r c : Fin 128), b (ix3 k r c) = x3 (ix2 k r)) (r : Fin 128) (l : Fin 512) :
    chunk (F := Ideal) u v g x1 x2 b (ix3 0 r l) = val_main_v47 (F := Ideal) x0 x1 x2 x3 (ix2 ⟨n.val * 128 + r.val, by omega⟩ l) := by
  have hu' : ∀ (r : Fin 128) (l : Fin 512), k0_pay7 (F := Ideal) u (ix2 r l) = gel (x0 (ix2 ⟨n.val * 128 + r.val, by omega⟩ ⟨l.val, by omega⟩)) := by
    intro r l; pointwise [k0_pay7]; simp only [hu]; rfl
  have hv' : ∀ (r : Fin 128) (l : Fin 512), k0_pay10 (F := Ideal) (k0_pay8 v) (k0_pay9 v) (ix2 r l) = gel (x0 (ix2 ⟨n.val * 128 + r.val, by omega⟩ ⟨512 + l.val, by omega⟩)) := by
    intro r l; pointwise [k0_pay10, k0_pay8, k0_pay9]; simp only [hv]; rfl
  have hb' : ∀ (k : Fin 4) (r c : Fin 128), k0_pay6 (F := Ideal) b (ix3 k r c) = x3 (ix2 k r) := by
    intro k r c; pointwise [k0_pay6]; exact hb k r c
  have hG := fun k o kk ho hk h1 h2 h3 => group_eq x0 x1 x2 x3 k n o kk ho hk h1 h2 h3 _ _ g _ hu' hv' hg hb'
  pointwise [chunk]
  generalize val_main_v47 (F := Ideal) x0 x1 x2 x3 = Y at hG ⊢
  by_cases h0 : l.val < 128
  · rw [dif_pos h0, hG 0 0 0 rfl rfl]; exact congrArg Y (congrArg _ (Fin.ext (by show 0 * 128 + l.val = _; omega)))
  by_cases h1 : l.val - 128 < 128
  · rw [dif_neg h0, dif_pos h1, hG 1 128 1 rfl rfl]; exact congrArg Y (congrArg _ (Fin.ext (by show 1 * 128 + (l.val - 128) = _; omega)))
  by_cases h2 : l.val - 128 - 128 < 128
  · rw [dif_neg h0, dif_neg h1, dif_pos h2, hG 2 256 2 rfl rfl]
    exact congrArg Y (congrArg _ (Fin.ext (by show 2 * 128 + (l.val - 128 - 128) = _; omega)))
  · rw [dif_neg h0, dif_neg h1, dif_neg h2, hG 3 384 3 rfl rfl]
    exact congrArg Y (congrArg _ (Fin.ext (by show 3 * 128 + (l.val - 128 - 128 - 128) = _; omega)))

/-- The row of the whole arrays that is row `r` of tile `t`. -/
abbrev row (t : Fin 8) (r : Fin 512) : Fin 4096 := ⟨t.val * 512 + r.val, by omega⟩

/-- One gated tile, four chunks of it. -/
theorem tile_eq (t : Fin 8) (u v g : Vec Ideal S512x512 .f32) (b : Vec Ideal S4x128x128 .f32)
    (hu : ∀ r l : Fin 512, u (ix2 r l) = x0 (ix2 (row t r) ⟨l.val, by omega⟩))
    (hv : ∀ r l : Fin 512, v (ix2 r l) = x0 (ix2 (row t r) ⟨512 + l.val, by omega⟩))
    (hg : ∀ r l : Fin 512, g (ix2 r l) = x0 (ix2 (row t r) ⟨1024 + l.val, by omega⟩))
    (hb : ∀ (k : Fin 4) (r c : Fin 128), b (ix3 k r c) = x3 (ix2 k r)) (r l : Fin 512) :
    tile (F := Ideal) u v g x1 x2 b (ix3 0 r l) = val_main_v47 (F := Ideal) x0 x1 x2 x3 (ix2 (row t r) l) := by
  have key : ∀ (j : Fin 4) (o : Nat) (ho : o = j.val * 128) (h) (r' : Fin 128) (hr : j.val * 128 + r'.val = r.val),
      part (F := Ideal) o h u v g x1 x2 b (ix3 0 r' l) = val_main_v47 (F := Ideal) x0 x1 x2 x3 (ix2 (row t r) l) := by
    intro j o ho h r' hr
    subst ho
    have hi : ∀ (r : Fin 128) (l : Fin 512), (Rect.unit (s := S512x512) ![j.val * 128, 0] S128x512.size h).emb (ix2 r l) = ix2 ⟨j.val * 128 + r.val, by omega⟩ l := by
      intro r l; funext a; apply Fin.ext
      match a with
      | ⟨0, _⟩ => show j.val * 128 + 1 * r.val = _; rw [one_mul]; rfl
      | ⟨1, _⟩ => show 0 + 1 * l.val = _; rw [one_mul, zero_add]; rfl
    have hrow : ∀ r : Fin 128, row t ⟨j.val * 128 + r.val, by omega⟩ = ⟨(t.val * 4 + j.val) * 128 + r.val, by omega⟩ := fun r => Fin.ext (by dsimp only; omega)
    have e := chunk_eq x0 x1 x2 x3 ⟨t.val * 4 + j.val, by omega⟩ (rows _ h u) (rows _ h v) (rows _ h g) b
      (fun r l => (congrArg u (hi r l)).trans ((hu _ l).trans (by rw [hrow])))
      (fun r l => (congrArg v (hi r l)).trans ((hv _ l).trans (by rw [hrow])))
      (fun r l => (congrArg g (hi r l)).trans ((hg _ l).trans (by rw [hrow]))) hb r' l
    exact e.trans (congrArg (fun R => val_main_v47 (F := Ideal) x0 x1 x2 x3 (ix2 R l)) (Fin.ext (by dsimp only; omega)))
  show parts (F := Ideal) u v g x1 x2 b ⟨r.val / 128, by omega⟩ (ix3 0 ⟨r.val % 128, by omega⟩ l) = _
  have hd : r.val / 128 = 0 ∨ r.val / 128 = 1 ∨ r.val / 128 = 2 ∨ r.val / 128 = 3 := by omega
  obtain h | h | h | h := hd
  · rw [show (⟨r.val / 128, by omega⟩ : Fin 4) = 0 from Fin.ext h]; exact key 0 0 rfl _ _ (by show 0 * 128 + r.val % 128 = _; omega)
  · rw [show (⟨r.val / 128, by omega⟩ : Fin 4) = 1 from Fin.ext h]; exact key 1 128 rfl _ _ (by show 1 * 128 + r.val % 128 = _; omega)
  · rw [show (⟨r.val / 128, by omega⟩ : Fin 4) = 2 from Fin.ext h]; exact key 2 256 rfl _ _ (by show 2 * 128 + r.val % 128 = _; omega)
  · rw [show (⟨r.val / 128, by omega⟩ : Fin 4) = 3 from Fin.ext h]; exact key 3 384 rfl _ _ (by show 3 * 128 + r.val % 128 = _; omega)

end Cert.OutPair
end
-- ==== Proof.OutSum.lean ====
/-
  The output projection's call, element by element: one point's products, error and row sums are the reference's on
  the point's rows.
-/
module

public import proofs.«01_k».proof.Proof.OutMath

@[expose] public section

set_option maxRecDepth 16384

noncomputable section

namespace Cert.OutPair

open Idealize.ShloMosaic Cert.OutProjIdeal.Gen Cert.OutProjIdeal.Out Cert.OutRefIdeal.Read
open Cert.OutProjIdeal (S1x512 S4x128x128 S512x512 S1x512x512 S512x1024 S1024x1024 S1x1024 S8x128 S4096x512 S4096x1024 S4096x3584)
open Cert.OutRefIdeal (S4x128)

variable (x0 : Vec Ideal S4096x3584 .f32) (x1 : Vec Ideal S1x512 .f32) (x2 : Vec Ideal S4x128x128 .f32) (x3 : Vec Ideal S4x128 .f32)
  (x4 : Vec Ideal S4096x512 .f32) (x5 x6 : Vec Ideal S4096x1024 .f32) (x7 : Vec Ideal S1x1024 .f32) (x8 : Vec Ideal S1024x1024 .f32)

/-- `a` holds tile `t`'s rows of `b`. -/
def Rows (t : Fin 8) {n : Nat} (a : (⟨2, ![512, n]⟩ : Shape).Idx → EReal) (b : (⟨2, ![4096, n]⟩ : Shape).Idx → EReal) : Prop :=
  ∀ (r : Fin 512) (l : Fin n), a (ix2 r l) = b (ix2 (row t r) l)

/-- `w0` and `w1` are the weight's two halves of rows. -/
structure Halves (w : Vec Ideal S1024x1024 .f32) (w0 w1 : Vec Ideal S512x1024 .bf16) : Prop where
  c0 : ∀ (k : Fin 512) (l : Fin 1024), w0 (ix2 k l) = w (ix2 ⟨k.val, by omega⟩ l)
  c1 : ∀ (k : Fin 512) (l : Fin 1024), w1 (ix2 k l) = w (ix2 ⟨512 + k.val, by omega⟩ l)

variable {x0 x1 x2 x3 x4 x5 x6 x7 x8} {t : Fin 8} {a : Vec Ideal S1x512x512 .bf16} {b : Vec Ideal S512x512 .f32}
  {x y e p : Vec Ideal S512x1024 .f32} {q : Vec Ideal S512x1024 .bf16} {w0 w1 : Vec Ideal S512x1024 .bf16}

/-- The mix: two products against one over the joined columns. -/
theorem mix_eq (ha : ∀ r l : Fin 512, a (ix3 0 r l) = val_main_v47 (F := Ideal) x0 x1 x2 x3 (ix2 (row t r) l)) (hb : Rows t b x4)
    (hw : Halves x8 w0 w1) : Rows t (k0_pay56 (F := Ideal) a b w0 w1) (val_main_v49 (F := Ideal) x0 x1 x2 x3 x4 x8) := by
  intro r l
  pointwise [k0_pay56, k0_pay54, k0_pay55, val_main_v49, val_main_v48]
  refine congrArg₂ _ ?_ ?_ <;> refine Finset.sum_congr rfl fun k _ => ?_
  · rw [hw.c0, ha]
  · rw [hw.c1, hb]

/-- One part in 1024 is half of twice that. -/
theorem part_eq (y : EReal) : y * Ideal.ofBits .f32 0x3A800000#32 =
    Ideal.div (Ideal.ofBits .f32 0x3F000000#32) (Ideal.ofBits .f32 0x44800000#32) * (Ideal.ofBits .f32 0x40000000#32 * y) := by
  have h1 : Ideal.ofBits .f32 0x3A800000#32 = (((1 : ℝ) / 1024 : ℝ) : EReal) := by simp [Ideal.ofBits, Ideal.ieee, -EReal.coe_mul]; norm_num
  have h2 : Ideal.ofBits .f32 0x3F000000#32 = (((1 : ℝ) / 2 : ℝ) : EReal) := by simp [Ideal.ofBits, Ideal.ieee, -EReal.coe_mul]; norm_num
  have h3 : Ideal.ofBits .f32 0x44800000#32 = ((1024 : ℝ) : EReal) := by simp [Ideal.ofBits, Ideal.ieee, -EReal.coe_mul]; norm_num
  have h4 : Ideal.ofBits .f32 0x40000000#32 = ((2 : ℝ) : EReal) := by simp [Ideal.ofBits, Ideal.ieee, -EReal.coe_mul]; norm_num
  rw [h1, h2, h3, h4, ← mul_assoc, mul_comm y]
  congr 1
  rw [Ideal.div, if_neg (by norm_num), ← EReal.coe_inv, ← EReal.coe_mul, ← EReal.coe_mul]
  norm_num

/-- The error. -/
theorem err_eq (hm : Rows t (k0_pay56 (F := Ideal) a b w0 w1) (val_main_v49 (F := Ideal) x0 x1 x2 x3 x4 x8)) (hx : Rows t x x5) (hy : Rows t y x6) :
    Rows t (k0_pay57 (F := Ideal) a b w0 w1 x x7 y) (val_main_v53 (F := Ideal) x0 x1 x2 x3 x4 x5 x6 x7 x8) := by
  intro r l
  pointwise [k0_pay57, val_main_v53, val_main_v52, val_main_v51, val_main_v50]
  rw [hm, hx, hy]

/-- The loss of the tile's rows. -/
theorem loss_eq (he : Rows t (k0_pay57 (F := Ideal) a b w0 w1 x x7 y) (val_main_v53 (F := Ideal) x0 x1 x2 x3 x4 x5 x6 x7 x8))
    (g : Vec Ideal S8x128 .f32) (i : Fin 8) (j : Fin 128) :
    k0_pay60 (F := Ideal) (k0_pay58 g) (k0_pay59 a b w0 w1 x x7 y) (ix2 i j) = g (ix2 i j) + Ideal.ofBits .f32 0x3F000000#32 *
      ∑ r : Fin 512, val_main_v59 (F := Ideal) x0 x1 x2 x3 x4 x5 x6 x7 x8 (ix1 (row t r)) := by
  pointwise [k0_pay60, k0_pay58, k0_pay59, val_main_v59, val_main_v58, val_main_v57, val_main_v54, val_main_cst_7, val_main_cst_8]
  simp only [he _ _]

/-- The gradient of the input. -/
theorem dy_eq (he : Rows t e (val_main_v53 (F := Ideal) x0 x1 x2 x3 x4 x5 x6 x7 x8)) :
    Rows t (k0_pay61 (F := Ideal) e) (val_main_v67 (F := Ideal) x0 x1 x2 x3 x4 x5 x6 x7 x8) := by
  intro r l
  pointwise [k0_pay61, val_main_v67, val_main_v66, val_main_v65, val_main_v64, val_main_v63, val_main_v62, val_main_v56, val_main_v55,
    val_main_cst_6, val_main_cst_11, val_main_cst_12, val_main_cst_13]
  rw [part_eq, he]

/-- The gate's gradient over the tile's rows. -/
theorem dg_eq (hd : Rows t (k0_pay61 (F := Ideal) e) (val_main_v67 (F := Ideal) x0 x1 x2 x3 x4 x5 x6 x7 x8))
    (hm : Rows t p (val_main_v49 (F := Ideal) x0 x1 x2 x3 x4 x8)) (g : Vec Ideal S1x1024 .f32) (z : Fin 1) (l : Fin 1024) :
    k0_pay62 (F := Ideal) p e g (ix2 z l) = g (ix2 z l) +
      ∑ r : Fin 512, val_main_v70 (F := Ideal) x0 x1 x2 x3 x4 x5 x6 x7 x8 (ix2 (row t r) l) := by
  pointwise [k0_pay62, val_main_v70]
  simp only [hd _ _, hm _ _]

/-- The mix's gradient. -/
theorem dmix_eq (hd : Rows t (k0_pay61 (F := Ideal) e) (val_main_v67 (F := Ideal) x0 x1 x2 x3 x4 x5 x6 x7 x8)) :
    Rows t (k0_pay63 (F := Ideal) e x7) (val_main_v69 (F := Ideal) x0 x1 x2 x3 x4 x5 x6 x7 x8) := by
  intro r l
  pointwise [k0_pay63, val_main_v69, val_main_v68]
  rw [hd]

theorem dcat0_eq (hq : Rows t q (val_main_v69 (F := Ideal) x0 x1 x2 x3 x4 x5 x6 x7 x8)) (hw : Halves x8 w0 w1) (r l : Fin 512) :
    k0_pay79 (F := Ideal) q w0 (ix2 r l) = val_main_v75 (F := Ideal) x0 x1 x2 x3 x4 x5 x6 x7 x8 (ix2 (row t r) ⟨l.val, by omega⟩) := by
  pointwise [k0_pay79, val_main_v75]
  simp only [hq _ _, hw.c0]

theorem dcat1_eq (hq : Rows t q (val_main_v69 (F := Ideal) x0 x1 x2 x3 x4 x5 x6 x7 x8)) (hw : Halves x8 w0 w1) (r l : Fin 512) :
    k0_pay90 (F := Ideal) q w1 (ix2 r l) = val_main_v75 (F := Ideal) x0 x1 x2 x3 x4 x5 x6 x7 x8 (ix2 (row t r) ⟨512 + l.val, by omega⟩) := by
  pointwise [k0_pay90, val_main_v75]
  simp only [hq _ _, hw.c1]

/-- The weight's gradient over the tile's rows, first half. -/
theorem dw0_eq (hq : Rows t q (val_main_v69 (F := Ideal) x0 x1 x2 x3 x4 x5 x6 x7 x8))
    (ha : ∀ r l : Fin 512, a (ix3 0 r l) = val_main_v47 (F := Ideal) x0 x1 x2 x3 (ix2 (row t r) l)) (g : Vec Ideal S512x1024 .f32) (k : Fin 512) (l : Fin 1024) :
    k0_pay103 (F := Ideal) (k0_pay54 a) q g (ix2 k l) = g (ix2 k l) +
      ∑ r : Fin 512, val_main_v69 (F := Ideal) x0 x1 x2 x3 x4 x5 x6 x7 x8 (ix2 (row t r) l) * val_main_v48 (F := Ideal) x0 x1 x2 x3 x4 (ix2 (row t r) ⟨k.val, by omega⟩) := by
  pointwise [k0_pay103, k0_pay54, val_main_v48]
  exact congrArg _ (Finset.sum_congr rfl fun x _ => by rw [ha, hq, mul_comm])

/-- The second half, whose rows the other operand gives. -/
theorem dw1_eq (hq : Rows t q (val_main_v69 (F := Ideal) x0 x1 x2 x3 x4 x5 x6 x7 x8)) (hb : Rows t b x4) (g : Vec Ideal S512x1024 .f32) (k : Fin 512) (l : Fin 1024) :
    k0_pay2 (F := Ideal) (k0_pay55 b) q g (ix2 k l) = g (ix2 k l) +
      ∑ r : Fin 512, val_main_v69 (F := Ideal) x0 x1 x2 x3 x4 x5 x6 x7 x8 (ix2 (row t r) l) * val_main_v48 (F := Ideal) x0 x1 x2 x3 x4 (ix2 (row t r) ⟨512 + k.val, by omega⟩) := by
  pointwise [k0_pay2, k0_pay55, val_main_v48]
  exact congrArg _ (Finset.sum_congr rfl fun x _ => by rw [hb, hq, mul_comm])

end Cert.OutPair
end
-- ==== Proof.OutBlocks.lean ====
/-
  The output projection's operands at a grid point: which rows of which array each block holds, and the gated tile
  that a point reads.
-/
module

public import proofs.«01_k».proof.Proof.OutFrame
public import proofs.«01_k».proof.Proof.OutSum
public import Idealize.ShloMosaic.Lib.Pipeline.Value

@[expose] public section

set_option maxRecDepth 16384

noncomputable section

namespace Cert.OutProjIdeal.Out

open Cert.OutProjIdeal Cert.OutProjIdeal.Gen Idealize.ShloMosaic Idealize.ShloMosaic.TcCoe Idealize.SL.Sem
open Cert.OutPair (row Rows Halves)

variable (m : (ℓ : Loc nD τ sig) → Buf (Elt Ideal) ℓ)

/-- The array behind a name at the start. -/
abbrev A (c : Dev nD) (b : Ref sig .tc) : Buf (Elt Ideal) ((c : Thread nD τ).loc b) := m ((c : Thread nD τ).loc b)

theorem N8 (t : Fin cfg0.N) : t.val < 8 := lt_of_lt_of_eq t.isLt N_0

/-- A grid point as a tile's number. -/
abbrev pt (t : Fin cfg0.N) : Fin 8 := ⟨t.val, N8 t⟩

theorem ix2_of {M N : Nat} (i : (⟨2, ![M, N]⟩ : Shape).Idx) (p : Fin M) (q : Fin N) (h0 : (i 0).val = p.val) (h1 : (i 1).val = q.val) : i = ix2 p q := by
  funext a
  match a with
  | ⟨0, _⟩ => exact Fin.ext h0
  | ⟨1, _⟩ => exact Fin.ext h1

theorem blk6 (c : Dev nD) (t : Fin cfg0.N) : (iblk m c 6 t : Vec Ideal S1x512 .f32) = A m c main_arg1 := by
  have hz' : (fun a => win0_6.index t a * main_arg1.ty.shape.size a) = fun _ => 0 := by
    rcases fin_N0 t with rfl | rfl | rfl | rfl | rfl | rfl | rfl | rfl <;> exact funext fun a => by fin_cases a <;> decide +kernel
  exact (Memref.read_access_unit_zero (Elt Ideal) main_arg1 hz' (fun a => by rw [congrFun hz' a]; simp) _).trans (V_main_arg1 m c)

theorem blk7 (c : Dev nD) (t : Fin cfg0.N) : (iblk m c 7 t : Vec Ideal S4x128x128 .f32) = A m c main_arg2 := by
  have hz' : (fun a => win0_7.index t a * main_arg2.ty.shape.size a) = fun _ => 0 := by
    rcases fin_N0 t with rfl | rfl | rfl | rfl | rfl | rfl | rfl | rfl <;> exact funext fun a => by fin_cases a <;> decide +kernel
  exact (Memref.read_access_unit_zero (Elt Ideal) main_arg2 hz' (fun a => by rw [congrFun hz' a]; simp) _).trans (V_main_arg2 m c)

theorem blk12 (c : Dev nD) (t : Fin cfg0.N) : (iblk m c 12 t : Vec Ideal S1x1024 .f32) = A m c main_arg7 := by
  have hz' : (fun a => win0_12.index t a * main_arg7.ty.shape.size a) = fun _ => 0 := by
    rcases fin_N0 t with rfl | rfl | rfl | rfl | rfl | rfl | rfl | rfl <;> exact funext fun a => by fin_cases a <;> decide +kernel
  exact (Memref.read_access_unit_zero (Elt Ideal) main_arg7 hz' (fun a => by rw [congrFun hz' a]; simp) _).trans (V_main_arg7 m c)

/-- The bias, spread over a group's columns by the host. -/
theorem blk8 (c : Dev nD) (t : Fin cfg0.N) (k : Fin 4) (r l : Fin 128) :
    (iblk m c 8 t : Vec Ideal S4x128x128 .f32) (ix3 k r l) = (A m c main_arg3 : Vec Ideal S4x128 .f32) (ix2 k r) := by
  have hz' : (fun a => win0_8.index t a * main_v1.ty.shape.size a) = fun _ => 0 := by
    rcases fin_N0 t with rfl | rfl | rfl | rfl | rfl | rfl | rfl | rfl <;> exact funext fun a => by fin_cases a <;> decide +kernel
  rw [show (iblk m c 8 t : Vec Ideal S4x128x128 .f32) = V m c main_v1 from Memref.read_access_unit_zero (Elt Ideal) main_v1 hz' (fun a => by rw [congrFun hz' a]; simp) _]
  entry_read
  refine congrArg (A m c main_arg3 : Vec Ideal S4x128 .f32) (ix2_of _ _ _ rfl rfl)

/-- The weight, cast by the host. -/
theorem blk13 (c : Dev nD) (t : Fin cfg0.N) (k l : Fin 1024) :
    (iblk m c 13 t : Vec Ideal S1024x1024 .bf16) (ix2 k l) = (A m c main_arg8 : Vec Ideal S1024x1024 .f32) (ix2 k l) := by
  have hz' : (fun a => win0_13.index t a * main_v2.ty.shape.size a) = fun _ => 0 := by
    rcases fin_N0 t with rfl | rfl | rfl | rfl | rfl | rfl | rfl | rfl <;> exact funext fun a => by fin_cases a <;> decide +kernel
  rw [show (iblk m c 13 t : Vec Ideal S1024x1024 .bf16) = V m c main_v2 from Memref.read_access_unit_zero (Elt Ideal) main_v2 hz' (fun a => by rw [congrFun hz' a]; simp) _]
  entry_read
  rfl

/-- Two index facts at once, for every point. -/
theorem idx (t : Fin cfg0.N) : (win0_9.index t 0 = t.val ∧ win0_9.index t 1 = 0) ∧ (win0_10.index t 0 = t.val ∧ win0_10.index t 1 = 0)
    ∧ (win0_11.index t 0 = t.val ∧ win0_11.index t 1 = 0) ∧ (win0_15.index t 0 = t.val ∧ win0_15.index t 1 = 0)
    ∧ (win0_16.index t 0 = t.val ∧ win0_16.index t 1 = 0) := by
  rcases fin_N0 t with rfl | rfl | rfl | rfl | rfl | rfl | rfl | rfl <;> decide +kernel

theorem idx_first (t : Fin cfg0.N) : (win0_0.index t 0 = 0 ∧ win0_0.index t 1 = 0) ∧ (win0_1.index t 0 = 0 ∧ win0_1.index t 1 = 1)
    ∧ (win0_2.index t 0 = 0 ∧ win0_2.index t 1 = 2) := by
  rcases fin_N0 t with rfl | rfl | rfl | rfl | rfl | rfl | rfl | rfl <;> decide +kernel

theorem idx_next (t : Fin cfg0.N) : (win0_3.index t 0 = min (t.val + 1) 7 ∧ win0_3.index t 1 = 0) ∧ (win0_4.index t 0 = min (t.val + 1) 7 ∧ win0_4.index t 1 = 1)
    ∧ (win0_5.index t 0 = min (t.val + 1) 7 ∧ win0_5.index t 1 = 2) := by
  rcases fin_N0 t with rfl | rfl | rfl | rfl | rfl | rfl | rfl | rfl <;> decide +kernel

theorem blk9 (c : Dev nD) (t : Fin cfg0.N) : Rows (pt t) (iblk m c 9 t : Vec Ideal S512x512 .f32) (A m c main_arg4) := by
  intro r l
  unfold iblk
  rw [View.read_apply]
  show V m c main_arg4 _ = _
  rw [V_main_arg4 m c]
  refine congrArg (A m c main_arg4) (ix2_of _ _ _ ?_ ?_)
  · show win0_9.index t 0 * 512 + 1 * r.val = t.val * 512 + r.val; rw [(idx t).1.1]; omega
  · show win0_9.index t 1 * 512 + 1 * l.val = l.val; rw [(idx t).1.2]; omega

theorem blk10 (c : Dev nD) (t : Fin cfg0.N) : Rows (pt t) (iblk m c 10 t : Vec Ideal S512x1024 .f32) (A m c main_arg5) := by
  intro r l
  unfold iblk
  rw [View.read_apply]
  show V m c main_arg5 _ = _
  rw [V_main_arg5 m c]
  refine congrArg (A m c main_arg5) (ix2_of _ _ _ ?_ ?_)
  · show win0_10.index t 0 * 512 + 1 * r.val = t.val * 512 + r.val; rw [(idx t).2.1.1]; omega
  · show win0_10.index t 1 * 1024 + 1 * l.val = l.val; rw [(idx t).2.1.2]; omega

theorem blk11 (c : Dev nD) (t : Fin cfg0.N) : Rows (pt t) (iblk m c 11 t : Vec Ideal S512x1024 .f32) (A m c main_arg6) := by
  intro r l
  unfold iblk
  rw [View.read_apply]
  show V m c main_arg6 _ = _
  rw [V_main_arg6 m c]
  refine congrArg (A m c main_arg6) (ix2_of _ _ _ ?_ ?_)
  · show win0_11.index t 0 * 512 + 1 * r.val = t.val * 512 + r.val; rw [(idx t).2.2.1.1]; omega
  · show win0_11.index t 1 * 1024 + 1 * l.val = l.val; rw [(idx t).2.2.1.2]; omega

/-- A block of the projected input: 512 rows of tile `p` and the 512 columns from `512 q`. -/
theorem z_at (c : Dev nD) (p : Fin 8) (r l : Fin 512) (q : Nat) (hq : q < 3) (i : S4096x3584.Idx) (h0 : (i 0).val = p.val * 512 + 1 * r.val)
    (h1 : (i 1).val = q * 512 + 1 * l.val) : V m c main_arg0 i = (A m c main_arg0 : Vec Ideal S4096x3584 .f32) (ix2 (row p r) ⟨512 * q + l.val, by omega⟩) := by
  rw [V_main_arg0 m c]
  exact congrArg (A m c main_arg0) (ix2_of _ _ _ (h0.trans (by show _ = p.val * 512 + r.val; omega)) (h1.trans (by show _ = 512 * q + l.val; omega)))

/-- The gated tile a point reads is the reference's gated array on the point's rows. -/
theorem gated_eq (c : Dev nD) (n : Nat) (hn : n < cfg0.N) (r l : Fin 512) :
    gatedAt m c n hn (ix3 0 r l) = Cert.OutRefIdeal.Read.val_main_v47 (F := Ideal) (A m c main_arg0) (A m c main_arg1) (A m c main_arg2) (A m c main_arg3)
      (ix2 (row (pt ⟨n, hn⟩) r) l) := by
  have key : ∀ (t : Fin cfg0.N) (p : Fin 8) (u v g : Vec Ideal S512x512 .f32)
      (hu : ∀ r l : Fin 512, u (ix2 r l) = (A m c main_arg0 : Vec Ideal S4096x3584 .f32) (ix2 (row p r) ⟨512 * 0 + l.val, by omega⟩))
      (hv : ∀ r l : Fin 512, v (ix2 r l) = (A m c main_arg0 : Vec Ideal S4096x3584 .f32) (ix2 (row p r) ⟨512 * 1 + l.val, by omega⟩))
      (hg : ∀ r l : Fin 512, g (ix2 r l) = (A m c main_arg0 : Vec Ideal S4096x3584 .f32) (ix2 (row p r) ⟨512 * 2 + l.val, by omega⟩)),
      tile u v g (iblk m c 6 t) (iblk m c 7 t) (iblk m c 8 t) (ix3 0 r l)
        = Cert.OutRefIdeal.Read.val_main_v47 (F := Ideal) (A m c main_arg0) (A m c main_arg1) (A m c main_arg2) (A m c main_arg3) (ix2 (row p r) l) := by
    intro t p u v g hu hv hg
    rw [blk6, blk7]
    refine Cert.OutPair.tile_eq (A m c main_arg0) (A m c main_arg1) (A m c main_arg2) (A m c main_arg3) p u v g _ (fun r l => ?_) (fun r l => ?_) (fun r l => ?_) (blk8 m c t) r l
    · exact (hu r l).trans (congrArg _ (ix2_of _ _ _ rfl (by show 512 * 0 + l.val = l.val; omega)))
    · exact hv r l
    · exact hg r l
  cases n with
  | zero =>
    have hp : pt ⟨0, hn⟩ = 0 := rfl
    refine key ⟨0, hn⟩ (pt ⟨0, hn⟩) _ _ _ (fun r l => ?_) (fun r l => ?_) (fun r l => ?_)
    all_goals (dsimp only [insAt]; unfold iblk; rw [View.read_apply])
    · refine z_at m c _ r l 0 (by omega) _ ?_ ?_
      · show win0_0.index ⟨0, hn⟩ 0 * 512 + 1 * r.val = _; rw [(idx_first _).1.1]
      · show win0_0.index ⟨0, hn⟩ 1 * 512 + 1 * l.val = _; rw [(idx_first _).1.2]
    · refine z_at m c _ r l 1 (by omega) _ ?_ ?_
      · show win0_1.index ⟨0, hn⟩ 0 * 512 + 1 * r.val = _; rw [(idx_first _).2.1.1]
      · show win0_1.index ⟨0, hn⟩ 1 * 512 + 1 * l.val = _; rw [(idx_first _).2.1.2]
    · refine z_at m c _ r l 2 (by omega) _ ?_ ?_
      · show win0_2.index ⟨0, hn⟩ 0 * 512 + 1 * r.val = _; rw [(idx_first _).2.2.1]
      · show win0_2.index ⟨0, hn⟩ 1 * 512 + 1 * l.val = _; rw [(idx_first _).2.2.2]
  | succ n =>
    have h8 := N8 ⟨n + 1, hn⟩
    have hm : min (n + 1) 7 = n + 1 := by dsimp only at h8; omega
    refine key ⟨n, Nat.lt_of_succ_lt hn⟩ (pt ⟨n + 1, hn⟩) _ _ _ (fun r l => ?_) (fun r l => ?_) (fun r l => ?_)
    all_goals (dsimp only [insAt]; unfold iblk; rw [View.read_apply])
    · refine z_at m c _ r l 0 (by omega) _ ?_ ?_
      · show win0_3.index ⟨n, _⟩ 0 * 512 + 1 * r.val = _; rw [(idx_next _).1.1, hm]
      · show win0_3.index ⟨n, _⟩ 1 * 512 + 1 * l.val = _; rw [(idx_next _).1.2]
    · refine z_at m c _ r l 1 (by omega) _ ?_ ?_
      · show win0_4.index ⟨n, _⟩ 0 * 512 + 1 * r.val = _; rw [(idx_next _).2.1.1, hm]
      · show win0_4.index ⟨n, _⟩ 1 * 512 + 1 * l.val = _; rw [(idx_next _).2.1.2]
    · refine z_at m c _ r l 2 (by omega) _ ?_ ?_
      · show win0_5.index ⟨n, _⟩ 0 * 512 + 1 * r.val = _; rw [(idx_next _).2.2.1, hm]
      · show win0_5.index ⟨n, _⟩ 1 * 512 + 1 * l.val = _; rw [(idx_next _).2.2.2]

end Cert.OutProjIdeal.Out
end
-- ==== Proof.OutValue.lean ====
/-
  The output projection's call after its run: its five result arrays hold the reference's five results. The loss, the
  gate's gradient and the weight's gradient are carried from point to point; after point n they hold the sums over the
  first 512 (n + 1) rows.
-/
module

public import proofs.«01_k».proof.Proof.OutBlocks
public import proofs.«01_k».proof.Proof.Gen.OutRefIdeal.Run
public import proofs.«01_k».proof.Proof.Gen.OutRefIdeal.Read
public import Idealize.ShloMosaic.Lib.Claim

@[expose] public section

set_option maxRecDepth 16384

noncomputable section

namespace Cert.OutProjIdeal.Out

open Cert.OutProjIdeal Cert.OutProjIdeal.Gen Idealize.ShloMosaic Idealize.ShloMosaic.TcCoe Idealize.SL.Sem
open Idealize.ShloMosaic.Pipeline (Dat)
open Cert.OutPair (row Rows Halves)
open Cert.OutRefIdeal.Read

/-! Sums over the first rows. -/

/-- Entry `k`, zero past the end. -/
def entry (f : Fin 4096 → EReal) (k : Nat) : EReal := if h : k < 4096 then f ⟨k, h⟩ else 0

/-- The sum over the first `n` tiles' rows. -/
def upto (f : Fin 4096 → EReal) (n : Nat) : EReal := ∑ k ∈ Finset.range (n * 512), entry f k

theorem upto_zero (f : Fin 4096 → EReal) : upto f 0 = 0 := by simp [upto]

theorem upto_step (f : Fin 4096 → EReal) (t : Fin 8) : upto f t.val + ∑ r : Fin 512, f (row t r) = upto f (t.val + 1) := by
  unfold upto
  rw [Nat.add_mul, Nat.one_mul, Finset.sum_range_add, Finset.sum_range (fun k => entry f (t.val * 512 + k))]
  refine congrArg _ (Finset.sum_congr rfl fun r _ => ?_)
  unfold entry
  rw [dif_pos (by omega)]

theorem upto_all (f : Fin 4096 → EReal) : upto f 8 = ∑ k : Fin 4096, f k := by
  unfold upto
  rw [show 8 * 512 = 4096 from rfl, Finset.sum_range]
  exact Finset.sum_congr rfl fun r _ => by unfold entry; rw [dif_pos r.isLt]

variable (m : (ℓ : Loc nD τ sig) → Buf (Elt Ideal) ℓ) (ρ : Dev nD → PrngReg)

/-! The reference's values on the same arrays. -/

abbrev rRow (c : Dev nD) : Vec Ideal ⟨1, ![4096]⟩ .f32 := val_main_v59 (F := Ideal) (A m c main_arg0) (A m c main_arg1) (A m c main_arg2) (A m c main_arg3) (A m c main_arg4) (A m c main_arg5) (A m c main_arg6) (A m c main_arg7) (A m c main_arg8)
abbrev rDy (c : Dev nD) : Vec Ideal S4096x1024 .f32 := val_main_v67 (F := Ideal) (A m c main_arg0) (A m c main_arg1) (A m c main_arg2) (A m c main_arg3) (A m c main_arg4) (A m c main_arg5) (A m c main_arg6) (A m c main_arg7) (A m c main_arg8)
abbrev rCat (c : Dev nD) : Vec Ideal S4096x1024 .f32 := val_main_v75 (F := Ideal) (A m c main_arg0) (A m c main_arg1) (A m c main_arg2) (A m c main_arg3) (A m c main_arg4) (A m c main_arg5) (A m c main_arg6) (A m c main_arg7) (A m c main_arg8)
abbrev rGate (c : Dev nD) : Vec Ideal S4096x1024 .f32 := val_main_v70 (F := Ideal) (A m c main_arg0) (A m c main_arg1) (A m c main_arg2) (A m c main_arg3) (A m c main_arg4) (A m c main_arg5) (A m c main_arg6) (A m c main_arg7) (A m c main_arg8)
abbrev rMix (c : Dev nD) : Vec Ideal S4096x1024 .f32 := val_main_v69 (F := Ideal) (A m c main_arg0) (A m c main_arg1) (A m c main_arg2) (A m c main_arg3) (A m c main_arg4) (A m c main_arg5) (A m c main_arg6) (A m c main_arg7) (A m c main_arg8)
abbrev rIn (c : Dev nD) : Vec Ideal S4096x1024 .f32 := val_main_v48 (F := Ideal) (A m c main_arg0) (A m c main_arg1) (A m c main_arg2) (A m c main_arg3) (A m c main_arg4)

/-- Half. -/
abbrev half : EReal := Ideal.ofBits .f32 0x3F000000#32

theorem half_add (y z : EReal) : half * y + half * z = half * (y + z) := by
  have h : half = (((1 : ℝ) / 2 : ℝ) : EReal) := by simp [half, Ideal.ofBits, Ideal.ieee, -EReal.coe_mul]; norm_num
  rw [h]
  exact (EReal.left_distrib_of_nonneg_of_ne_top (by exact_mod_cast (by norm_num : (0:ℝ) ≤ 1 / 2)) (EReal.coe_ne_top _) y z).symm

section point
variable (c : Dev nD) (t : Fin cfg0.N) (L : Vec Ideal S8x128 .f32) (G : Vec Ideal S1x1024 .f32) (D : Vec Ideal S1024x1024 .f32)

/-- What point `t` leaves, from the accumulators it finds. -/
abbrev left : Res Ideal := (step (grid0.coords t) (insAt m c t) (gatedAt m c t.val t.isLt) L G D).res

theorem hz : (![0, 0] : Fin 2 → Nat) = fun _ => 0 := by funext a; fin_cases a <;> rfl

/-- The weight's halves as the point reads them, and its error. -/
abbrev W0 : Vec Ideal S512x1024 .bf16 := View.ld (Val := Elt Ideal) (insAt m c t).w (Rect.unit (s := S1024x1024) ![0, 0] S512x1024.size inb_S1024x1024_S512x1024_0_0)
abbrev W1 : Vec Ideal S512x1024 .bf16 := View.ld (Val := Elt Ideal) (insAt m c t).w (Rect.unit (s := S1024x1024) ![512, 0] S512x1024.size inb_S1024x1024_S512x1024_512_0)
abbrev E : FVec Ideal S512x1024 .f32 := k0_pay57 (gatedAt m c t.val t.isLt) (insAt m c t).b (W0 m c t) (W1 m c t) (insAt m c t).x (A m c main_arg7) (insAt m c t).tgt

theorem halves : Halves (A m c main_arg8) (W0 m c t) (W1 m c t) where
  c0 k l := by
    refine Eq.trans ?_ (blk13 m c t ⟨k.val, by omega⟩ l)
    refine congrArg (iblk m c 13 t : Vec Ideal S1024x1024 .bf16) (ix2_of _ _ _ ?_ ?_)
    · show 0 + 1 * k.val = k.val; omega
    · show 0 + 1 * l.val = l.val; omega
  c1 k l := by
    refine Eq.trans ?_ (blk13 m c t ⟨512 + k.val, by omega⟩ l)
    refine congrArg (iblk m c 13 t : Vec Ideal S1024x1024 .bf16) (ix2_of _ _ _ ?_ ?_)
    · show 512 + 1 * k.val = 512 + k.val; omega
    · show 0 + 1 * l.val = l.val; omega

theorem mix_at : Rows (pt t) (k0_pay56 (F := Ideal) (gatedAt m c t.val t.isLt) (insAt m c t).b (W0 m c t) (W1 m c t))
    (val_main_v49 (F := Ideal) (A m c main_arg0) (A m c main_arg1) (A m c main_arg2) (A m c main_arg3) (A m c main_arg4) (A m c main_arg8)) := Cert.OutPair.mix_eq (gated_eq m c t.val t.isLt) (blk9 m c t) (halves m c t)

theorem err_at : Rows (pt t) (E m c t) (val_main_v53 (F := Ideal) (A m c main_arg0) (A m c main_arg1) (A m c main_arg2) (A m c main_arg3) (A m c main_arg4) (A m c main_arg5) (A m c main_arg6) (A m c main_arg7) (A m c main_arg8)) := Cert.OutPair.err_eq (x7 := A m c main_arg7) (mix_at m c t) (blk10 m c t) (blk11 m c t)

theorem dy_at : Rows (pt t) (k0_pay61 (F := Ideal) (E m c t)) (rDy m c) := Cert.OutPair.dy_eq (err_at m c t)

theorem dmix_at : Rows (pt t) (k0_pay63 (F := Ideal) (E m c t) (A m c main_arg7)) (rMix m c) := Cert.OutPair.dmix_eq (dy_at m c t)

theorem gate_at : (insAt m c t).gate = A m c main_arg7 := blk12 m c t

theorem left_dy : Rows (pt t) (left m c t L G D).dy (rDy m c) := by
  intro r l
  dsimp only [left, step, wr, Wr.res]
  rw [View.canon_cons_unit_zero (S := S512x1024) hz, gate_at]
  exact dy_at m c t r l

theorem left_loss (i : Fin 8) (j : Fin 128) : (left m c t L G D).loss (ix2 i j) = L (ix2 i j) + half * ∑ r : Fin 512, rRow m c (ix1 (row (pt t) r)) := by
  dsimp only [left, step, wr, Wr.res]
  rw [View.canon_cons_unit_zero (S := S8x128) hz, gate_at]
  exact Cert.OutPair.loss_eq (err_at m c t) L i j

theorem left_dg (z : Fin 1) (l : Fin 1024) : (left m c t L G D).dg (ix2 z l) = G (ix2 z l) + ∑ r : Fin 512, rGate m c (ix2 (row (pt t) r) l) := by
  dsimp only [left, step, wr, Wr.res]
  rw [View.canon_cons_unit_zero (S := S1x1024) hz, gate_at]
  exact Cert.OutPair.dg_eq (dy_at m c t) (mix_at m c t) G z l

theorem left_dcat : Rows (pt t) (left m c t L G D).dcat (rCat m c) := by
  intro r l
  dsimp only [left, step, wr, Wr.res]
  rw [gate_at]
  by_cases h : l.val < 512
  · have hx : (ix2 r l : S512x1024.Idx) = (Rect.unit (s := S512x1024) ![0, 0] S512x512.size inb_S512x1024_S512x512_0_0).emb (ix2 r ⟨l.val, h⟩) :=
      (ix2_of _ _ _ (by show 0 + 1 * r.val = r.val; omega) (by show 0 + 1 * l.val = l.val; omega)).symm
    rw [View.canon_cons_of_not_mem]
    · rw [hx, View.canon_cons_emb]
      exact Cert.OutPair.dcat0_eq (dmix_at m c t) (halves m c t) r ⟨l.val, h⟩
    · intro hm
      have hm' : (ix2 r l : S512x1024.Idx) ∈ (Rect.unit (s := S512x1024) ![0, 512] S512x512.size inb_S512x1024_S512x512_0_512).set := hm
      rw [Rect.mem_set_unit] at hm'
      have : 512 ≤ l.val := (hm' 1).1
      omega
  · have hx : (ix2 r l : S512x1024.Idx) = (Rect.unit (s := S512x1024) ![0, 512] S512x512.size inb_S512x1024_S512x512_0_512).emb (ix2 r ⟨l.val - 512, by omega⟩) :=
      (ix2_of _ _ _ (by show 0 + 1 * r.val = r.val; omega) (by show 512 + 1 * (l.val - 512) = l.val; omega)).symm
    rw [hx, View.canon_cons_emb]
    refine (Cert.OutPair.dcat1_eq (dmix_at m c t) (halves m c t) r ⟨l.val - 512, by omega⟩).trans ?_
    refine congrArg (rCat m c) (ix2_of _ _ _ ?_ ?_)
    · rfl
    · show 512 + (l.val - 512) = l.val; omega

theorem left_dw (k l : Fin 1024) : (left m c t L G D).dw (ix2 k l)
    = D (ix2 k l) + ∑ r : Fin 512, rMix m c (ix2 (row (pt t) r) l) * rIn m c (ix2 (row (pt t) r) k) := by
  dsimp only [left, step, wr, Wr.res]
  rw [gate_at]
  by_cases h : k.val < 512
  · have hx : (ix2 k l : S1024x1024.Idx) = (Rect.unit (s := S1024x1024) ![0, 0] S512x1024.size inb_S1024x1024_S512x1024_0_0).emb (ix2 ⟨k.val, h⟩ l) :=
      (ix2_of _ _ _ (by show 0 + 1 * k.val = k.val; omega) (by show 0 + 1 * l.val = l.val; omega)).symm
    rw [View.canon_cons_of_not_mem]
    · rw [hx, View.canon_cons_emb]
      exact Cert.OutPair.dw0_eq (dmix_at m c t) (gated_eq m c t.val t.isLt) _ ⟨k.val, h⟩ l
    · intro hm
      have hm' : (ix2 k l : S1024x1024.Idx) ∈ (Rect.unit (s := S1024x1024) ![512, 0] S512x1024.size inb_S1024x1024_S512x1024_512_0).set := hm
      rw [Rect.mem_set_unit] at hm'
      have : 512 ≤ k.val := (hm' 0).1
      omega
  · have hk : ∃ k' : Fin 512, k = ⟨512 + k'.val, Nat.add_lt_add_left k'.isLt 512⟩ := ⟨⟨k.val - 512, by omega⟩, Fin.ext (by show k.val = 512 + (k.val - 512); omega)⟩
    obtain ⟨k', rfl⟩ := hk
    have hx : (ix2 (⟨512 + k'.val, by omega⟩ : Fin 1024) l : S1024x1024.Idx) = (Rect.unit (s := S1024x1024) ![512, 0] S512x1024.size inb_S1024x1024_S512x1024_512_0).emb (ix2 k' l) :=
      (ix2_of _ _ _ (by show 512 + 1 * k'.val = 512 + k'.val; omega) (by show 0 + 1 * l.val = l.val; omega)).symm
    rw [hx, View.canon_cons_emb]
    exact Cert.OutPair.dw1_eq (dmix_at m c t) (blk9 m c t) _ k' l

end point

/-- The three accumulators after point `n`. -/
theorem acc_eq (c : Dev nD) (n : Nat) (hn : n < cfg0.N) :
    (∀ (i : Fin 8) (j : Fin 128), (outsAt m c n hn).loss (ix2 i j) = half * upto (fun k => rRow m c (ix1 k)) (n + 1))
    ∧ (∀ (z : Fin 1) (l : Fin 1024), (outsAt m c n hn).dg (ix2 z l) = upto (fun k => rGate m c (ix2 k l)) (n + 1))
    ∧ (∀ k l : Fin 1024, (outsAt m c n hn).dw (ix2 k l) = upto (fun r => rMix m c (ix2 r l) * rIn m c (ix2 r k)) (n + 1)) := by
  have z0 : Ideal.ofBits .f32 0x00000000#32 = (0 : EReal) := by simp [Ideal.ofBits, Ideal.ieee]
  induction n with
  | zero =>
    have e : outsAt m c 0 hn = left m c ⟨0, hn⟩ (k0_pay3 (F := Ideal)) (k0_pay4 (F := Ideal)) (k0_pay5 (F := Ideal)) := rfl
    rw [e]
    refine ⟨fun i j => ?_, fun z l => ?_, fun k l => ?_⟩
    · rw [left_loss, ← upto_step _ (pt ⟨0, hn⟩)]
      show Ideal.ofBits .f32 0x00000000#32 + _ = half * (upto _ 0 + _)
      rw [z0, upto_zero, zero_add, zero_add]
    · rw [left_dg, ← upto_step _ (pt ⟨0, hn⟩)]
      show Ideal.ofBits .f32 0x00000000#32 + _ = upto _ 0 + _
      rw [z0, upto_zero]
    · rw [left_dw, ← upto_step _ (pt ⟨0, hn⟩)]
      show Ideal.ofBits .f32 0x00000000#32 + _ = upto _ 0 + _
      rw [z0, upto_zero]
  | succ n ih =>
    obtain ⟨h0, h1, h2⟩ := ih (Nat.lt_of_succ_lt hn)
    have e : outsAt m c (n + 1) hn = left m c ⟨n + 1, hn⟩ (outsAt m c n (Nat.lt_of_succ_lt hn)).loss (outsAt m c n (Nat.lt_of_succ_lt hn)).dg (outsAt m c n (Nat.lt_of_succ_lt hn)).dw := rfl
    rw [e]
    refine ⟨fun i j => ?_, fun z l => ?_, fun k l => ?_⟩
    · rw [left_loss, h0, half_add]; exact congrArg _ (upto_step _ (pt ⟨n + 1, hn⟩))
    · rw [left_dg, h1]; exact upto_step _ (pt ⟨n + 1, hn⟩)
    · rw [left_dw, h2]; exact upto_step _ (pt ⟨n + 1, hn⟩)

theorem rows_eq (c : Dev nD) (t : Fin cfg0.N) : Rows (pt t) (outsAt m c t.val t.isLt).dy (rDy m c) ∧ Rows (pt t) (outsAt m c t.val t.isLt).dcat (rCat m c) := by
  obtain ⟨n, hn⟩ := t
  cases n with
  | zero => exact ⟨left_dy m c ⟨0, hn⟩ _ _ _, left_dcat m c ⟨0, hn⟩ _ _ _⟩
  | succ n => exact ⟨left_dy m c ⟨n + 1, hn⟩ _ _ _, left_dcat m c ⟨n + 1, hn⟩ _ _ _⟩

/-! The five arrays after the run. -/

theorem final15 (c : Dev nD) : (dats m 0 c).arrAt 15 cfg0.N = rDy m c := by
  refine (dats m 0 c).arrAt_eq_of_cover 15 (rDy m c) (fun t _ => ?_) fun i => ?_
  · refine (congrArg ((cfg0.win 15).cut (grid0.coords t)) (after15 m c t)).trans (funext fun j => ?_)
    rw [View.read_apply]
    refine Eq.trans ?_ (((rows_eq m c t).1 ⟨(j 0).val, (j 0).isLt⟩ ⟨(j 1).val, (j 1).isLt⟩).trans ?_)
    · exact congrArg (outsAt m c t.val t.isLt).dy (ix2_of _ _ _ rfl rfl)
    · refine congrArg (rDy m c) (ix2_of _ _ _ ?_ ?_).symm
      · show win0_15.index t 0 * 512 + 1 * (j 0).val = t.val * 512 + (j 0).val; rw [(idx t).2.2.2.1.1]; omega
      · show win0_15.index t 1 * 1024 + 1 * (j 1).val = (j 1).val; rw [(idx t).2.2.2.1.2]; omega
  · have h0 : (i 0 : Nat) < 4096 := (i 0).isLt
    have h1 : (i 1 : Nat) < 1024 := (i 1).isLt
    have hN : cfg0.N = 8 := N_0
    let t : Fin cfg0.N := ⟨(i 0).val / 512, by omega⟩
    refine ⟨t, flush0_15 t, ?_⟩
    show i ∈ ((View.whole main_v3_1).slice (win0_15.rect t)).set
    rw [View.set_slice_whole, Rect.mem_set_unit]
    intro a
    match a with
    | ⟨0, _⟩ => show win0_15.index t 0 * 512 ≤ (i 0 : Nat) ∧ (i 0 : Nat) < win0_15.index t 0 * 512 + 512
                rw [(idx t).2.2.2.1.1]; show (i 0 : Nat) / 512 * 512 ≤ (i 0 : Nat) ∧ (i 0 : Nat) < (i 0 : Nat) / 512 * 512 + 512; omega
    | ⟨1, _⟩ => show win0_15.index t 1 * 1024 ≤ (i 1 : Nat) ∧ (i 1 : Nat) < win0_15.index t 1 * 1024 + 1024
                rw [(idx t).2.2.2.1.2]; omega

theorem final16 (c : Dev nD) : (dats m 0 c).arrAt 16 cfg0.N = rCat m c := by
  refine (dats m 0 c).arrAt_eq_of_cover 16 (rCat m c) (fun t _ => ?_) fun i => ?_
  · refine (congrArg ((cfg0.win 16).cut (grid0.coords t)) (after16 m c t)).trans (funext fun j => ?_)
    rw [View.read_apply]
    refine Eq.trans ?_ (((rows_eq m c t).2 ⟨(j 0).val, (j 0).isLt⟩ ⟨(j 1).val, (j 1).isLt⟩).trans ?_)
    · exact congrArg (outsAt m c t.val t.isLt).dcat (ix2_of _ _ _ rfl rfl)
    · refine congrArg (rCat m c) (ix2_of _ _ _ ?_ ?_).symm
      · show win0_16.index t 0 * 512 + 1 * (j 0).val = t.val * 512 + (j 0).val; rw [(idx t).2.2.2.2.1]; omega
      · show win0_16.index t 1 * 1024 + 1 * (j 1).val = (j 1).val; rw [(idx t).2.2.2.2.2]; omega
  · have h0 : (i 0 : Nat) < 4096 := (i 0).isLt
    have h1 : (i 1 : Nat) < 1024 := (i 1).isLt
    have hN : cfg0.N = 8 := N_0
    let t : Fin cfg0.N := ⟨(i 0).val / 512, by omega⟩
    refine ⟨t, flush0_16 t, ?_⟩
    show i ∈ ((View.whole main_v3_2).slice (win0_16.rect t)).set
    rw [View.set_slice_whole, Rect.mem_set_unit]
    intro a
    match a with
    | ⟨0, _⟩ => show win0_16.index t 0 * 512 ≤ (i 0 : Nat) ∧ (i 0 : Nat) < win0_16.index t 0 * 512 + 512
                rw [(idx t).2.2.2.2.1]; show (i 0 : Nat) / 512 * 512 ≤ (i 0 : Nat) ∧ (i 0 : Nat) < (i 0 : Nat) / 512 * 512 + 512; omega
    | ⟨1, _⟩ => show win0_16.index t 1 * 1024 ≤ (i 1 : Nat) ∧ (i 1 : Nat) < win0_16.index t 1 * 1024 + 1024
                rw [(idx t).2.2.2.2.2]; omega

/-- The last point. -/
theorem last_pt (t : Fin cfg0.N) (h : t.val % 8 = 7) : t = t0_7 := Fin.ext (by have := N8 t; show t.val = 7; omega)

theorem final14 (c : Dev nD) : (dats m 0 c).arrAt 14 cfg0.N = (outsAt m c 7 t0_7.isLt).loss :=
  (dats m 0 c).arrAt_eq_of_cover 14 (outsAt m c 7 t0_7.isLt).loss (fun t hf => by
      obtain rfl := last_pt t ((flush0_14 t).mp hf)
      refine (congrArg ((cfg0.win 14).cut (grid0.coords t0_7)) (after14 m c t0_7)).trans ?_
      have hz' : (fun a => win0_14.index t0_7 a * main_v3_0.ty.shape.size a) = fun _ => 0 := funext fun a => by fin_cases a <;> decide
      exact (Memref.read_access_unit_zero (Elt Ideal) main_v3_0 hz' (fun a => by rw [congrFun hz' a]; simp) _).symm)
    fun i => ⟨t0_7, (flush0_14 t0_7).mpr rfl, by
      have hz' : (fun a => win0_14.index t0_7 a * win0_14.size a) = fun _ => 0 := funext fun a => by fin_cases a <;> decide +kernel
      show i ∈ ((View.whole main_v3_0).slice (win0_14.rect t0_7)).set
      rw [View.set_slice_whole]
      exact View.mem_set_unit_zero (S := S8x128) hz' _ i⟩

theorem final17 (c : Dev nD) : (dats m 0 c).arrAt 17 cfg0.N = (outsAt m c 7 t0_7.isLt).dg :=
  (dats m 0 c).arrAt_eq_of_cover 17 (outsAt m c 7 t0_7.isLt).dg (fun t hf => by
      obtain rfl := last_pt t ((flush0_17 t).mp hf)
      refine (congrArg ((cfg0.win 17).cut (grid0.coords t0_7)) (after17 m c t0_7)).trans ?_
      have hz' : (fun a => win0_17.index t0_7 a * main_v3_3.ty.shape.size a) = fun _ => 0 := funext fun a => by fin_cases a <;> decide
      exact (Memref.read_access_unit_zero (Elt Ideal) main_v3_3 hz' (fun a => by rw [congrFun hz' a]; simp) _).symm)
    fun i => ⟨t0_7, (flush0_17 t0_7).mpr rfl, by
      have hz' : (fun a => win0_17.index t0_7 a * win0_17.size a) = fun _ => 0 := funext fun a => by fin_cases a <;> decide +kernel
      show i ∈ ((View.whole main_v3_3).slice (win0_17.rect t0_7)).set
      rw [View.set_slice_whole]
      exact View.mem_set_unit_zero (S := S1x1024) hz' _ i⟩

theorem final18 (c : Dev nD) : (dats m 0 c).arrAt 18 cfg0.N = (outsAt m c 7 t0_7.isLt).dw :=
  (dats m 0 c).arrAt_eq_of_cover 18 (outsAt m c 7 t0_7.isLt).dw (fun t hf => by
      obtain rfl := last_pt t ((flush0_18 t).mp hf)
      refine (congrArg ((cfg0.win 18).cut (grid0.coords t0_7)) (after18 m c t0_7)).trans ?_
      have hz' : (fun a => win0_18.index t0_7 a * main_v3_4.ty.shape.size a) = fun _ => 0 := funext fun a => by fin_cases a <;> decide
      exact (Memref.read_access_unit_zero (Elt Ideal) main_v3_4 hz' (fun a => by rw [congrFun hz' a]; simp) _).symm)
    fun i => ⟨t0_7, (flush0_18 t0_7).mpr rfl, by
      have hz' : (fun a => win0_18.index t0_7 a * win0_18.size a) = fun _ => 0 := funext fun a => by fin_cases a <;> decide +kernel
      show i ∈ ((View.whole main_v3_4).slice (win0_18.rect t0_7)).set
      rw [View.set_slice_whole]
      exact View.mem_set_unit_zero (S := S1024x1024) hz' _ i⟩

/-- The loss, in every entry of its block. -/
theorem loss_all (c : Dev nD) : (dats m 0 c).arrAt 14 cfg0.N = val_main_v76 (F := Ideal) (A m c main_arg0) (A m c main_arg1) (A m c main_arg2) (A m c main_arg3) (A m c main_arg4) (A m c main_arg5) (A m c main_arg6) (A m c main_arg7) (A m c main_arg8) := by
  rw [final14]
  funext j
  idx_vars j
  rw [(acc_eq m c 7 t0_7.isLt).1, show 7 + 1 = 8 from rfl, upto_all]
  pointwise [val_main_v76, val_main_v61, val_main_v60, val_main_cst_9, val_main_cst_10]

theorem dg_all (c : Dev nD) : (dats m 0 c).arrAt 17 cfg0.N = val_main_v72 (F := Ideal) (A m c main_arg0) (A m c main_arg1) (A m c main_arg2) (A m c main_arg3) (A m c main_arg4) (A m c main_arg5) (A m c main_arg6) (A m c main_arg7) (A m c main_arg8) := by
  rw [final17]
  funext j
  idx_vars j
  rw [(acc_eq m c 7 t0_7.isLt).2.1, show 7 + 1 = 8 from rfl, upto_all]
  pointwise [val_main_v72, val_main_v71, val_main_cst_14]

theorem dw_all (c : Dev nD) : (dats m 0 c).arrAt 18 cfg0.N = val_main_v74 (F := Ideal) (A m c main_arg0) (A m c main_arg1) (A m c main_arg2) (A m c main_arg3) (A m c main_arg4) (A m c main_arg5) (A m c main_arg6) (A m c main_arg7) (A m c main_arg8) := by
  rw [final18]
  funext j
  idx_vars j
  rw [(acc_eq m c 7 t0_7.isLt).2.2, show 7 + 1 = 8 from rfl, upto_all]
  pointwise [val_main_v74, val_main_v73]

/-- The run, its five result arrays named. -/
theorem run_blocks : θ_run defs (onTc (τ := τ) (main (F := Ideal))) ⟨m, fun _ => 0, ρ⟩ fun r => ∀ c : Dev nD,
      r.2.mem ((c.tc : Thread nD τ).loc main_v3_0) = (dats m 0 c).arrAt 14 cfg0.N
      ∧ r.2.mem ((c.tc : Thread nD τ).loc main_v3_1) = (dats m 0 c).arrAt 15 cfg0.N
      ∧ r.2.mem ((c.tc : Thread nD τ).loc main_v3_2) = (dats m 0 c).arrAt 16 cfg0.N
      ∧ r.2.mem ((c.tc : Thread nD τ).loc main_v3_3) = (dats m 0 c).arrAt 17 cfg0.N
      ∧ r.2.mem ((c.tc : Thread nD τ).loc main_v3_4) = (dats m 0 c).arrAt 18 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c => ⟨(h.1 c).1 14, (h.1 c).1 15, (h.1 c).1 16, (h.1 c).1 17, (h.1 c).1 18, h.2.1 c⟩)
    (θ_run_and (run_main m ρ) (frame m ρ))

end Cert.OutProjIdeal.Out

namespace Cert.OutRefIdeal.Value

open Cert.OutRefIdeal Cert.OutRefIdeal.Read Idealize.ShloMosaic Idealize.ShloMosaic.TcCoe Idealize.SL.Sem

/-- The reference's run, its five results by name. -/
theorem run_val (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v76) = val_main_v76 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_v67) = val_main_v67 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_v75) = val_main_v75 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_v72) = val_main_v72 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_v74) = val_main_v74 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run _ _ _).mono (fun r h c => ⟨(h c).1.trans (val_main_v76_eq ..), (h c).2.1.trans (val_main_v67_eq ..), (h c).2.2.1.trans (val_main_v75_eq ..),
    (h c).2.2.2.1.trans (val_main_v72_eq ..), (h c).2.2.2.2.1.trans (val_main_v74_eq ..), (h c).2.2.2.2.2⟩) (run m ρ)

end Cert.OutRefIdeal.Value
end
-- ==== Proof.DwSum.lean ====
/-
  The sums over several axes that the gating's gradient takes, read at an index.
-/
module

public import proofs.«01_k».proof.Proof.Gen.DwRefIdeal.Read
public import Idealize.ShloMosaic.Lib.Pointwise

@[expose] public section

set_option maxRecDepth 16384

noncomputable section

namespace Cert.DwPair

open Idealize.ShloMosaic Cert.DwRefIdeal.Read Cert.DwRefIdeal.Gen
open Cert.DwRefIdeal (S4x128 S1x512 S4x128x128 S4096x3584 S4096x1024)

variable (x7 : Vec Ideal S4096x3584 .f32) (x8 : Vec Ideal S1x512 .f32) (x9 : Vec Ideal S4x128x128 .f32) (x11 : Vec Ideal S4096x1024 .f32)

/-- A host sum whose contributing elements are enumerated by `G`. -/
theorem sum_of_fiber {s t : Shape} {axes : List (Fin s.rank)} (h : s.ReducesTo axes t) (v : s.Idx → EReal) (z : EReal) (j : t.Idx) {κ : Type} [Fintype κ] (G : κ → s.Idx)
    (hG : Function.Injective G) (hp : ∀ i, h.drop i = j ↔ ∃ k, G k = i) : Ideal.hostReduceAdd h v z j = z + ∑ k, v (G k) :=
  congrArg (z + ·) (Finset.sum_filter_eq_sum_of_fiber _ G hG hp v)

theorem v64_eq (r : Fin 128) (g : Fin 4) : val_main_v64 (F := Ideal) x7 x11 (ix3 0 r g) = ∑ k : Fin 32 × Fin 128, val_main_v63 (F := Ideal) x7 x11 (ix5 0 k.1 r g k.2) := by
  refine (sum_of_fiber reducesTo_S1x32x128x4x128_S1x128x4_d1_4 _ _ _ (fun k : Fin 32 × Fin 128 => ix5 0 k.1 r g k.2) (fun _ _ e => Prod.ext (congrFun e 1) (congrFun e 4)) ?_).trans ?_
  · intro i
    constructor
    · intro e
      refine ⟨(i 1, i 4), funext fun a => Fin.ext ?_⟩
      match a with
      | ⟨0, _⟩ => exact (congrArg Fin.val (congrFun e 0)).symm
      | ⟨1, _⟩ => rfl
      | ⟨2, _⟩ => exact (congrArg Fin.val (congrFun e 1)).symm
      | ⟨3, _⟩ => exact (congrArg Fin.val (congrFun e 2)).symm
      | ⟨4, _⟩ => rfl
    · rintro ⟨k, rfl⟩
      funext b
      match b with
      | ⟨0, _⟩ => rfl
      | ⟨1, _⟩ => rfl
      | ⟨2, _⟩ => rfl
  · show Ideal.ofBits .f32 0x00000000#32 + _ = _
    rw [Ideal.ofBits_zero_f32, zero_add]

theorem v66_eq (r : Fin 128) (g : Fin 4) : val_main_v66 (F := Ideal) x7 x11 (ix2 r g) = val_main_v65 (F := Ideal) x7 x11 (ix5 0 0 r g 0) := by
  refine (sum_of_fiber reducesTo_S1x1x128x4x1_S128x4_d0_1_4 _ _ _ (fun _ : Unit => ix5 0 0 r g 0) (fun _ _ _ => rfl) ?_).trans ?_
  · intro i
    constructor
    · intro e
      refine ⟨(), funext fun a => Fin.ext ?_⟩
      match a with
      | ⟨0, _⟩ => exact (Nat.lt_one_iff.mp (i 0).isLt).symm
      | ⟨1, _⟩ => exact (Nat.lt_one_iff.mp (i 1).isLt).symm
      | ⟨2, _⟩ => exact (congrArg Fin.val (congrFun e 0)).symm
      | ⟨3, _⟩ => exact (congrArg Fin.val (congrFun e 1)).symm
      | ⟨4, _⟩ => exact (Nat.lt_one_iff.mp (i 4).isLt).symm
    · rintro ⟨k, rfl⟩
      funext b
      match b with
      | ⟨0, _⟩ => rfl
      | ⟨1, _⟩ => rfl
  · show Ideal.ofBits .f32 0x00000000#32 + _ = _
    rw [Ideal.ofBits_zero_f32, zero_add, Fintype.sum_unique]

theorem v75_eq (g : Fin 4) (c : Fin 128) : val_main_v75 (F := Ideal) x7 x9 x11 (ix3 0 g c) = ∑ k : Fin 32 × Fin 128, val_main_v74 (F := Ideal) x7 x9 x11 (ix5 0 k.1 k.2 g c) := by
  refine (sum_of_fiber reducesTo_S1x32x128x4x128_S1x4x128_d1_2 _ _ _ (fun k : Fin 32 × Fin 128 => ix5 0 k.1 k.2 g c) (fun _ _ e => Prod.ext (congrFun e 1) (congrFun e 2)) ?_).trans ?_
  · intro i
    constructor
    · intro e
      refine ⟨(i 1, i 2), funext fun a => Fin.ext ?_⟩
      match a with
      | ⟨0, _⟩ => exact (congrArg Fin.val (congrFun e 0)).symm
      | ⟨1, _⟩ => rfl
      | ⟨2, _⟩ => rfl
      | ⟨3, _⟩ => exact (congrArg Fin.val (congrFun e 1)).symm
      | ⟨4, _⟩ => exact (congrArg Fin.val (congrFun e 2)).symm
    · rintro ⟨k, rfl⟩
      funext b
      match b with
      | ⟨0, _⟩ => rfl
      | ⟨1, _⟩ => rfl
      | ⟨2, _⟩ => rfl
  · show Ideal.ofBits .f32 0x00000000#32 + _ = _
    rw [Ideal.ofBits_zero_f32, zero_add]

theorem v79_eq (g : Fin 4) (c : Fin 128) : val_main_v79 (F := Ideal) x7 x9 x11 (ix2 g c) = val_main_v76 (F := Ideal) x7 x9 x11 (ix5 0 0 0 g c) := by
  refine (sum_of_fiber reducesTo_S1x1x1x4x128_S4x128_d0_1_2 _ _ _ (fun _ : Unit => ix5 0 0 0 g c) (fun _ _ _ => rfl) ?_).trans ?_
  · intro i
    constructor
    · intro e
      refine ⟨(), funext fun a => Fin.ext ?_⟩
      match a with
      | ⟨0, _⟩ => exact (Nat.lt_one_iff.mp (i 0).isLt).symm
      | ⟨1, _⟩ => exact (Nat.lt_one_iff.mp (i 1).isLt).symm
      | ⟨2, _⟩ => exact (Nat.lt_one_iff.mp (i 2).isLt).symm
      | ⟨3, _⟩ => exact (congrArg Fin.val (congrFun e 0)).symm
      | ⟨4, _⟩ => exact (congrArg Fin.val (congrFun e 1)).symm
    · rintro ⟨k, rfl⟩
      funext b
      match b with
      | ⟨0, _⟩ => rfl
      | ⟨1, _⟩ => rfl
  · show Ideal.ofBits .f32 0x00000000#32 + _ = _
    rw [Ideal.ofBits_zero_f32, zero_add, Fintype.sum_unique]

theorem v88_eq (n : Fin 32) (r : Fin 128) (g : Fin 4) : val_main_v88 (F := Ideal) x7 x8 x9 x11 (ix3 n r g) = val_main_v87 (F := Ideal) x7 x8 x9 x11 (ix5 0 n r g 0) := by
  refine (sum_of_fiber reducesTo_S1x32x128x4x1_S32x128x4_d0_4 _ _ _ (fun _ : Unit => ix5 0 n r g 0) (fun _ _ _ => rfl) ?_).trans ?_
  · intro i
    constructor
    · intro e
      refine ⟨(), funext fun a => Fin.ext ?_⟩
      match a with
      | ⟨0, _⟩ => exact (Nat.lt_one_iff.mp (i 0).isLt).symm
      | ⟨1, _⟩ => exact (congrArg Fin.val (congrFun e 0)).symm
      | ⟨2, _⟩ => exact (congrArg Fin.val (congrFun e 1)).symm
      | ⟨3, _⟩ => exact (congrArg Fin.val (congrFun e 2)).symm
      | ⟨4, _⟩ => exact (Nat.lt_one_iff.mp (i 4).isLt).symm
    · rintro ⟨k, rfl⟩
      funext b
      match b with
      | ⟨0, _⟩ => rfl
      | ⟨1, _⟩ => rfl
      | ⟨2, _⟩ => rfl
  · show Ideal.ofBits .f32 0x00000000#32 + _ = _
    rw [Ideal.ofBits_zero_f32, zero_add, Fintype.sum_unique]

/-- The bias's gradient. -/
theorem ref_dbs (g : Fin 4) (r c : Fin 128) : val_main_v182 (F := Ideal) x7 x11 (ix3 g r c) = ∑ k : Fin 32 × Fin 128, val_main_v63 (F := Ideal) x7 x11 (ix5 0 k.1 r g k.2) := by
  pointwise [val_main_v182, val_main_v181, val_main_v69, val_main_v68, val_main_v67, val_main_cst_9]
  rw [v66_eq]
  pointwise [val_main_v65]
  rw [Fin.sum_univ_one, v64_eq]

/-- The norm weight's gradient. -/
theorem ref_dsg (g : Fin 4) (c : Fin 128) : val_main_v119 (F := Ideal) x7 x9 x11 (ix2 0 ⟨g.val * 128 + c.val, by omega⟩) =
    ∑ k : Fin 32 × Fin 128, val_main_v74 (F := Ideal) x7 x9 x11 (ix5 0 k.1 k.2 g c) := by
  have e1 : (⟨(g.val * 128 + c.val) / 128, by omega⟩ : Fin 4) = g := Fin.ext (by dsimp only; omega)
  have e2 : (⟨(g.val * 128 + c.val) % 128, by omega⟩ : Fin 128) = c := Fin.ext (by dsimp only; omega)
  pointwise [val_main_v119, val_main_v95]
  rw [v79_eq]
  pointwise [val_main_v76]
  exact v75_eq x7 x9 x11 g c

/-- The mixing weight's gradient. -/
theorem ref_dws (g : Fin 4) (r c : Fin 128) : val_main_v71 (F := Ideal) x7 x8 x11 (ix3 g r c) =
    ∑ k : Fin 32 × Fin 128, val_main_v63 (F := Ideal) x7 x11 (ix5 0 k.1 r g k.2) * val_main_v43 (F := Ideal) x7 x8 (ix5 0 k.1 c g k.2) := by
  let d := Cert.DwRefIdeal.dot_S4x1x32x128x128_S1x32x128x4x128_S4x128x128_123_014_4_2_0_3
  have key : ∀ j, val_main_v71 (F := Ideal) x7 x8 x11 j = ∑ k : d.contr.Idx, val_main_v70 (F := Ideal) x7 x11 (d.lhsIdx j k) * val_main_v43 (F := Ideal) x7 x8 (d.rhsIdx j k) :=
    fun j => Ideal.dotGeneral_apply d none _ _ _ j
  rw [key]
  refine Fintype.sum_bijective (fun k : d.contr.Idx => ((k (1 : Fin 3), k (2 : Fin 3)) : Fin 32 × Fin 128)) ⟨?_, ?_⟩ _ _ ?_
  · intro a b e
    funext p
    match p with
    | ⟨0, _⟩ => exact Fin.ext ((Nat.lt_one_iff.mp (a (0 : Fin 3)).isLt).trans (Nat.lt_one_iff.mp (b (0 : Fin 3)).isLt).symm)
    | ⟨1, _⟩ => exact congrArg Prod.fst e
    | ⟨2, _⟩ => exact congrArg Prod.snd e
  · intro k
    exact ⟨fun p => match p with
      | ⟨0, _⟩ => (0 : Fin 1)
      | ⟨1, _⟩ => k.1
      | ⟨2, _⟩ => k.2, rfl⟩
  · intro k
    have hl : d.lhsIdx (ix3 g r c) k = ix5 g 0 (k (1 : Fin 3)) (k (2 : Fin 3)) r := by
      funext a
      match a with
      | ⟨0, _⟩ => rfl
      | ⟨1, _⟩ => exact Fin.ext (Nat.lt_one_iff.mp (k (0 : Fin 3)).isLt)
      | ⟨2, _⟩ => rfl
      | ⟨3, _⟩ => rfl
      | ⟨4, _⟩ => rfl
    have hr : d.rhsIdx (ix3 g r c) k = ix5 0 (k (1 : Fin 3)) c g (k (2 : Fin 3)) := by
      funext a
      match a with
      | ⟨0, _⟩ => exact Fin.ext (Nat.lt_one_iff.mp (k (0 : Fin 3)).isLt)
      | ⟨1, _⟩ => rfl
      | ⟨2, _⟩ => rfl
      | ⟨3, _⟩ => rfl
      | ⟨4, _⟩ => rfl
    rw [hl, hr]
    refine congrArg (· * _) ?_
    pointwise [val_main_v70]

end Cert.DwPair
end
-- ==== Proof.DwMath.lean ====
/-
  The gating's backward call, element by element: what the kernel computes for one group of one chunk is the reference's
  block of that chunk and group.
-/
module

public import proofs.«01_k».proof.Proof.Gen.DwBwdIdeal.Skeleton
public import proofs.«01_k».proof.Proof.DwSum
public import Idealize.ShloMosaic.Lib.Pointwise

@[expose] public section

set_option maxRecDepth 16384

noncomputable section

namespace Cert.DwPair

open Idealize.ShloMosaic Cert.DwBwdIdeal.Gen Cert.DwRefIdeal.Read
open Cert.DwBwdIdeal (S1x512 S4x128x128 S512x512 S128x128 S1x128 S1x128x128 S4096x3584 S4096x1024)
open Cert.DwRefIdeal (S4x128)

/-- Row `r` of chunk `n`, column `c` of group `g`. -/
abbrev row (n : Fin 32) (r : Fin 128) : Fin 4096 := ⟨n.val * 128 + r.val, by omega⟩
abbrev col (g : Fin 4) (c : Fin 128) : Fin 512 := ⟨g.val * 128 + c.val, by omega⟩

section Group

variable (au av ag dout : Vec Ideal S128x128 .f32) (sg : Vec Ideal S1x128 .f32) (ws bs : Vec Ideal S1x128x128 .f32)

/-- The gated rows' factor `gelu au`, and the gradient of what it multiplies. -/
abbrev gate : Vec Ideal S128x128 .f32 := k0_pay21 (k0_pay16 au) (k0_pay18 au)
abbrev pull : Vec Ideal S128x128 .f32 := k0_pay34 ag dout

/-- The six gradients of one group of one chunk. -/
abbrev dau : Vec Ideal S128x128 .f32 := k0_pay41 (k0_pay16 au) (k0_pay19 au) (k0_pay20 (k0_pay18 au)) (k0_pay32 av sg (k0_pay14 ws) (k0_pay15 bs)) (pull ag dout)
abbrev dav : Vec Ideal S128x128 .f32 :=
  k0_pay40 sg (k0_pay14 ws) (gate au) (k0_pay22 av) (k0_pay24 av) (k0_pay25 av) (k0_pay26 av) (k0_pay28 av) (k0_pay29 av) (pull ag dout)
abbrev dag : Vec Ideal S128x128 .f32 := k0_pay35 av ag sg (k0_pay14 ws) (k0_pay15 bs) (k0_pay16 au) (k0_pay18 au) dout
abbrev dsg : Vec Ideal S1x128 .f32 := k0_pay39 (k0_pay14 ws) (gate au) (k0_pay30 av) (pull ag dout)
abbrev dws : Vec Ideal S128x128 .f32 := k0_pay37 (gate au) (k0_pay31 av sg) (pull ag dout)
abbrev dbs : Vec Ideal S128x128 .f32 := k0_pay36 (F := Ideal) (gate au) (pull ag dout)

end Group

/-- The complementary error function of a negated argument. -/
theorem erfc_eq (y k : EReal) : Ideal.erfc (-y * k) = 1 + Ideal.erf (y * k) := by
  rw [EReal.neg_mul, Ideal.erfc_neg]

/-- The error function's derivative carries the same constant with the other sign. -/
theorem slope_eq : Ideal.ofBits FTy.f32 3213913787#32 = -Ideal.ofBits FTy.f32 1066430139#32 := by
  simp [Ideal.ofBits, Ideal.ieee, -EReal.coe_mul]

theorem square_eq (y k : EReal) : -y * k * (-y * k) = y * k * (y * k) := by
  rw [EReal.neg_mul, neg_mul_neg]

/-- What one group of one chunk reads. -/
structure Block (x7 : Vec Ideal S4096x3584 .f32) (x8 : Vec Ideal S1x512 .f32) (x9 : Vec Ideal S4x128x128 .f32) (x10 : Vec Ideal S4x128 .f32) (x11 : Vec Ideal S4096x1024 .f32)
    (n : Fin 32) (g : Fin 4) (au av ag dout : Vec Ideal S128x128 .f32) (sg : Vec Ideal S1x128 .f32) (ws bs : Vec Ideal S1x128x128 .f32) : Prop where
  hu : ∀ r c : Fin 128, au (ix2 r c) = x7 (ix2 (row n r) ⟨g.val * 128 + c.val, by omega⟩)
  hv : ∀ r c : Fin 128, av (ix2 r c) = x7 (ix2 (row n r) ⟨512 + (g.val * 128 + c.val), by omega⟩)
  hg : ∀ r c : Fin 128, ag (ix2 r c) = x7 (ix2 (row n r) ⟨1024 + (g.val * 128 + c.val), by omega⟩)
  ho : ∀ r c : Fin 128, dout (ix2 r c) = x11 (ix2 (row n r) ⟨g.val * 128 + c.val, by omega⟩)
  hs : ∀ c : Fin 128, sg (ix2 0 c) = x8 (ix2 0 (col g c))
  hw : ∀ r c : Fin 128, ws (ix3 0 r c) = x9 (ix3 g r c)
  hb : ∀ r c : Fin 128, bs (ix3 0 r c) = x10 (ix2 g r)

variable {x7 : Vec Ideal S4096x3584 .f32} {x8 : Vec Ideal S1x512 .f32} {x9 : Vec Ideal S4x128x128 .f32} {x10 : Vec Ideal S4x128 .f32} {x11 : Vec Ideal S4096x1024 .f32}
  {n : Fin 32} {g : Fin 4} {au av ag dout : Vec Ideal S128x128 .f32} {sg : Vec Ideal S1x128 .f32} {ws bs : Vec Ideal S1x128x128 .f32}
  (B : Block x7 x8 x9 x10 x11 n g au av ag dout sg ws bs)

include B

/-- The gelu of the value rows. -/
theorem val_eq (r c : Fin 128) : k0_pay26 (F := Ideal) av (ix2 r c) = val_main_v26 (F := Ideal) x7 (ix5 0 n r g c) := by
  pointwise [k0_pay26, k0_pay22, k0_pay25, k0_pay23, val_main_v26, val_main_v25, val_main_v21, val_main_v20, val_main_v19, val_main_v18, val_main_v17, val_main_v16,
    val_main_v3, val_main_v1, val_main_v0, val_main_cst_1, val_main_cst_2]
  simp only [B.hv, erfc_eq]
  rfl

/-- The reciprocal root of a group's mean square, its slope, the rows it scales, and the rows after the group's weight. -/
theorem inv_eq (r : Fin 128) : k0_pay28 (F := Ideal) av (ix2 r 0) = val_main_v35 (F := Ideal) x7 (ix5 0 n r g 0) := by
  pointwise [k0_pay28, k0_pay27, val_main_v35, val_main_v34, val_main_v33, val_main_v32, val_main_v31, val_main_v30, val_main_v29, val_main_v28,
    val_main_cst_3, val_main_cst_4, val_main_cst_5]
  simp only [val_eq B, zero_add]

theorem slp_eq (r : Fin 128) : k0_pay29 (F := Ideal) av (ix2 r 0) = val_main_v38 (F := Ideal) x7 (ix5 0 n r g 0) := by
  pointwise [k0_pay29, k0_pay27, val_main_v38, val_main_v37, val_main_v36, val_main_v34, val_main_v33, val_main_v32, val_main_v31, val_main_v30, val_main_v29, val_main_v28,
    val_main_cst_3, val_main_cst_4, val_main_cst_5, val_main_cst_6]
  simp only [inv_eq B, val_eq B, zero_add]

theorem hat_eq (r c : Fin 128) : k0_pay30 (F := Ideal) av (ix2 r c) = val_main_v40 (F := Ideal) x7 (ix5 0 n r g c) := by
  pointwise [k0_pay30, val_main_v40, val_main_v39]
  rw [val_eq B, inv_eq B]

theorem nrm_eq (r c : Fin 128) : k0_pay31 (F := Ideal) av sg (ix2 r c) = val_main_v43 (F := Ideal) x7 x8 (ix5 0 n r g c) := by
  pointwise [k0_pay31, val_main_v43, val_main_v42, val_main_v41, val_main_v27, val_main_v5]
  rw [hat_eq B, B.hs]

/-- The mixed rows. -/
theorem mix_eq (r c : Fin 128) : k0_pay32 (F := Ideal) av sg (k0_pay14 ws) (k0_pay15 bs) (ix2 r c) = val_main_v51 (F := Ideal) x7 x8 x9 x10 (ix3 0 (row n r) (col g c)) := by
  have e1 : (⟨(g.val * 128 + c.val) / 128, by omega⟩ : Fin 4) = g := Fin.ext (by dsimp only; omega)
  have e2 : (⟨(g.val * 128 + c.val) % 128, by omega⟩ : Fin 128) = c := Fin.ext (by dsimp only; omega)
  have e3 : (⟨(n.val * 128 + r.val) / 128, by omega⟩ : Fin 32) = n := Fin.ext (by dsimp only; omega)
  have e4 : (⟨(n.val * 128 + r.val) % 128, by omega⟩ : Fin 128) = r := Fin.ext (by dsimp only; omega)
  pointwise [k0_pay32, k0_pay14, k0_pay15, val_main_v51, val_main_v50, val_main_v49, val_main_v48, val_main_v47, val_main_v46, val_main_v45, val_main_v44]
  simp only [e1, e2, e3, e4, nrm_eq B, B.hw, B.hb, mul_comm]

theorem gate_eq (r c : Fin 128) : gate au (ix2 r c) = val_main_v15 (F := Ideal) x7 (ix3 0 (row n r) (col g c)) := by
  pointwise [k0_pay21, k0_pay16, k0_pay20, k0_pay18, k0_pay17, val_main_v15, val_main_v11, val_main_v10, val_main_v9, val_main_v8, val_main_v7, val_main_v6,
    val_main_v2, val_main_v1, val_main_v0, val_main_cst, val_main_cst_0]
  simp only [B.hu, erfc_eq]
  rfl

theorem pull_eq (r c : Fin 128) : pull ag dout (ix2 r c) = val_main_v59 (F := Ideal) x7 x11 (ix3 0 (row n r) (col g c)) := by
  pointwise [k0_pay34, k0_pay33, val_main_v59, val_main_v57, val_main_v56, val_main_v4, val_main_v1, val_main_v0, val_main_v53_0, val_main_v53_2, val_main_call0_v4,
    val_main_call0_v3, val_main_call0_v2, val_main_call0_v1, val_main_call0_v0, val_main_call0_cst, val_main_call0_cst_0]
  simp only [B.hg, B.ho]
  rfl

/-- The gradient of the gate's rows. -/
theorem dag_eq (r c : Fin 128) : dag au av ag dout sg ws bs (ix2 r c) = val_main_v60 (F := Ideal) x7 x8 x9 x10 x11 (ix3 0 (row n r) (col g c)) := by
  pointwise [k0_pay35, k0_pay33, val_main_v60, val_main_call1_v0, val_main_call1_v1, val_main_call1_v2, val_main_v58, val_main_v57, val_main_v56, val_main_v52,
    val_main_v4, val_main_v1, val_main_v0, val_main_v53_1, val_main_v53_2, val_main_call0_v7, val_main_call0_v6, val_main_call0_cst_1, val_main_call0_v4,
    val_main_call0_v3, val_main_call0_v2, val_main_call0_v1, val_main_call0_v0, val_main_call0_cst, val_main_call0_cst_0]
  simp only [gate_eq B, mix_eq B, B.hg, B.ho]
  rfl

/-- The gradient of the mixed rows. -/
theorem dbs_eq (r c : Fin 128) : dbs au ag dout (ix2 r c) = val_main_v63 (F := Ideal) x7 x11 (ix5 0 n r g c) := by
  pointwise [k0_pay36, val_main_v63, val_main_v61]
  rw [gate_eq B, pull_eq B]

theorem dws_eq (r c : Fin 128) : dws au av ag dout sg (ix2 r c) =
    ∑ k : Fin 128, val_main_v63 (F := Ideal) x7 x11 (ix5 0 n r g k) * val_main_v43 (F := Ideal) x7 x8 (ix5 0 n c g k) := by
  pointwise [k0_pay37]
  exact Finset.sum_congr rfl fun k _ => congrArg₂ (· * ·) (dbs_eq B r k) (nrm_eq B c k)

theorem back_eq (r c : Fin 128) : k0_pay38 (F := Ideal) (k0_pay14 ws) (gate au) (pull ag dout) (ix2 r c) = val_main_v73 (F := Ideal) x7 x9 x11 (ix5 0 n r g c) := by
  pointwise [k0_pay38, k0_pay14, val_main_v73, val_main_v72, val_main_v70]
  exact Finset.sum_congr rfl fun k _ => (mul_comm _ _).trans (congrArg₂ (· * ·) (dbs_eq B k c) (B.hw k r))

theorem dsg_eq (z : Fin 1) (c : Fin 128) : dsg au av ag dout ws (ix2 z c) = ∑ r : Fin 128, val_main_v74 (F := Ideal) x7 x9 x11 (ix5 0 n r g c) := by
  pointwise [k0_pay39, val_main_v74]
  exact Finset.sum_congr rfl fun k _ => by rw [back_eq B, hat_eq B]

/-- The gradient of the gated rows. -/
theorem dau_eq (r c : Fin 128) : dau au av ag dout sg ws bs (ix2 r c) = val_main_v118 (F := Ideal) x7 x8 x9 x10 x11 (ix3 0 (row n r) (col g c)) := by
  pointwise [k0_pay41, k0_pay16, k0_pay17, k0_pay18, k0_pay19, k0_pay20, val_main_v118, val_main_v117, val_main_v116, val_main_v115, val_main_v114, val_main_v113, val_main_v112,
    val_main_v111, val_main_v110, val_main_v109, val_main_v108, val_main_v62, val_main_v14, val_main_v13, val_main_v12, val_main_v11, val_main_v10, val_main_v9, val_main_v8,
    val_main_v7, val_main_v6, val_main_v2, val_main_v1, val_main_v0, val_main_cst, val_main_cst_0, val_main_cst_18, val_main_cst_19, val_main_cst_20]
  simp only [mix_eq B, pull_eq B, B.hu, erfc_eq, slope_eq, square_eq, zero_sub]
  simp only [EReal.neg_mul, neg_neg]
  rfl

/-- The gradient of the value rows. -/
theorem dav_eq (r c : Fin 128) : dav au av ag dout sg ws (ix2 r c) = val_main_v107 (F := Ideal) x7 x8 x9 x11 (ix3 0 (row n r) (col g c)) := by
  have e1 : (⟨(g.val * 128 + c.val) / 128, by omega⟩ : Fin 4) = g := Fin.ext (by dsimp only; omega)
  have e2 : (⟨(g.val * 128 + c.val) % 128, by omega⟩ : Fin 128) = c := Fin.ext (by dsimp only; omega)
  have e3 : (⟨(n.val * 128 + r.val) / 128, by omega⟩ : Fin 32) = n := Fin.ext (by dsimp only; omega)
  have e4 : (⟨(n.val * 128 + r.val) % 128, by omega⟩ : Fin 128) = r := Fin.ext (by dsimp only; omega)
  pointwise [k0_pay40, k0_pay22, k0_pay23, k0_pay24, k0_pay25, val_main_v107, val_main_v106, val_main_v105, val_main_v104, val_main_v103, val_main_v102, val_main_v101, val_main_v100,
    val_main_v99, val_main_v98, val_main_v97, val_main_v96, val_main_v94, val_main_v93, val_main_v92, val_main_v91, val_main_v90, val_main_v89, val_main_v78, val_main_v77, val_main_v41, val_main_v27, val_main_v5,
    val_main_v24, val_main_v23, val_main_v22, val_main_v21, val_main_v20, val_main_v19, val_main_v18, val_main_v17, val_main_v16,
    val_main_v3, val_main_v1, val_main_v0, val_main_cst_1, val_main_cst_2, val_main_cst_12, val_main_cst_13, val_main_cst_14, val_main_cst_15, val_main_cst_16, val_main_cst_17]
  simp only [e1, e2, e3, e4, v88_eq]
  pointwise [val_main_v87, val_main_v86, val_main_v85, val_main_v84, val_main_v83, val_main_v82, val_main_v81, val_main_v80, val_main_v78, val_main_v77, val_main_v41, val_main_v27, val_main_v5,
    val_main_cst_12, val_main_cst_13]
  simp only [e1, e2, e3, e4, Fin.sum_univ_one, zero_add, back_eq B, val_eq B, inv_eq B, slp_eq B, B.hv, B.hs, erfc_eq, slope_eq, square_eq, zero_sub]
  simp only [EReal.neg_mul, neg_neg]
  rfl

end Cert.DwPair
end
-- ==== Proof.DwBody.lean ====
/-
  The gating's backward call at one grid point: what the body leaves in each result's block.
-/
module

public import proofs.«01_k».proof.Proof.DwMath
public import proofs.«01_k».proof.Proof.Gen.DwBwdIdeal.Value

@[expose] public section

set_option maxRecDepth 16384

noncomputable section

namespace Cert.DwBwdIdeal.Value

open Cert.DwBwdIdeal Cert.DwBwdIdeal.Gen Cert.DwPair Idealize.ShloMosaic Idealize.ShloMosaic.TcCoe Idealize.SL.Sem

/-! ## Four boxes, each read, changed and written back in turn -/

section Sweep

variable {sg : RefSig} {κ : Kind} {sp : Space} {s : Shape} {e : EltTy} (v : View sg κ sp s e) (off : Fin 4 → Fin s.rank → Nat) (size : Fin s.rank → Nat)
  (inb : ∀ g a, off g a + size a ≤ s.size a) (f : Fin 4 → ((⟨s.rank, size⟩ : Shape).Idx → Elt Ideal e) → ((⟨s.rank, size⟩ : Shape).Idx → Elt Ideal e))
  (L : List (View.Piece (Elt Ideal) s e))

abbrev touch (g : Fin 4) (L : List (View.Piece (Elt Ideal) s e)) : List (View.Piece (Elt Ideal) s e) :=
  ⟨Rect.unit (off g) size (inb g), f g (v.readCov L (Rect.unit (off g) size (inb g)).toLoadRect)⟩ :: L

abbrev sweep : List (View.Piece (Elt Ideal) s e) := touch v off size inb f 3 (touch v off size inb f 2 (touch v off size inb f 1 (touch v off size inb f 0 L)))

theorem touch_same (g : Fin 4) (x : (⟨s.rank, size⟩ : Shape).Idx) :
    View.canon (touch v off size inb f g L) ((Rect.unit (off g) size (inb g)).emb x) = f g (fun j => View.canon L ((Rect.unit (off g) size (inb g)).emb j)) x := by
  rw [View.canon_cons_emb, View.readCov_eq_canon']
  rfl

variable (hd : ∀ g k : Fin 4, g ≠ k → ∀ x : (⟨s.rank, size⟩ : Shape).Idx, (Rect.unit (off g) size (inb g)).emb x ∉ (Rect.unit (off k) size (inb k)).set)

include hd in
theorem touch_other (g k : Fin 4) (h : g ≠ k) (x : (⟨s.rank, size⟩ : Shape).Idx) :
    View.canon (touch v off size inb f k L) ((Rect.unit (off g) size (inb g)).emb x) = View.canon L ((Rect.unit (off g) size (inb g)).emb x) :=
  View.canon_cons_of_not_mem _ _ (hd g k h x)

include hd in
theorem sweep_eq (g : Fin 4) (x : (⟨s.rank, size⟩ : Shape).Idx) :
    View.canon (sweep v off size inb f L) ((Rect.unit (off g) size (inb g)).emb x) = f g (fun j => View.canon L ((Rect.unit (off g) size (inb g)).emb j)) x := by
  have o := touch_other v off size inb f
  match g with
  | 0 => rw [o _ hd 0 3 (by decide), o _ hd 0 2 (by decide), o _ hd 0 1 (by decide), touch_same]
  | 1 =>
    rw [o _ hd 1 3 (by decide), o _ hd 1 2 (by decide), touch_same]
    simp only [o _ hd 1 0 (by decide)]
  | 2 =>
    rw [o _ hd 2 3 (by decide), touch_same]
    simp only [o _ hd 2 1 (by decide), o _ hd 2 0 (by decide)]
  | 3 =>
    rw [touch_same]
    simp only [o _ hd 3 2 (by decide), o _ hd 3 1 (by decide), o _ hd 3 0 (by decide)]

abbrev lay (w : Fin 4 → (⟨s.rank, size⟩ : Shape).Idx → Elt Ideal e) (g : Fin 4) (L : List (View.Piece (Elt Ideal) s e)) : List (View.Piece (Elt Ideal) s e) :=
  ⟨Rect.unit (off g) size (inb g), w g⟩ :: L

abbrev begins (y : s.Idx → Elt Ideal e) : List (View.Piece (Elt Ideal) s e) :=
  let w := fun g => f g (View.ld y (Rect.unit (off g) size (inb g)))
  lay off size inb w 3 (lay off size inb w 2 (lay off size inb w 1 (lay off size inb w 0 [])))

theorem lay_same (w : Fin 4 → (⟨s.rank, size⟩ : Shape).Idx → Elt Ideal e) (g : Fin 4) (x : (⟨s.rank, size⟩ : Shape).Idx) :
    View.canon (lay off size inb w g L) ((Rect.unit (off g) size (inb g)).emb x) = w g x := View.canon_cons_emb _ _ _ _

include hd in
theorem lay_other (w : Fin 4 → (⟨s.rank, size⟩ : Shape).Idx → Elt Ideal e) (g k : Fin 4) (h : g ≠ k) (x : (⟨s.rank, size⟩ : Shape).Idx) :
    View.canon (lay off size inb w k L) ((Rect.unit (off g) size (inb g)).emb x) = View.canon L ((Rect.unit (off g) size (inb g)).emb x) :=
  View.canon_cons_of_not_mem _ _ (hd g k h x)

include hd in
theorem begins_eq (y : s.Idx → Elt Ideal e) (g : Fin 4) (x : (⟨s.rank, size⟩ : Shape).Idx) :
    View.canon (begins off size inb f y) ((Rect.unit (off g) size (inb g)).emb x) = f g (View.ld y (Rect.unit (off g) size (inb g))) x := by
  have o := lay_other (e := e) off size inb
  have key : ∀ w : Fin 4 → (⟨s.rank, size⟩ : Shape).Idx → Elt Ideal e,
      View.canon (lay off size inb w 3 (lay off size inb w 2 (lay off size inb w 1 (lay off size inb w 0 [])))) ((Rect.unit (off g) size (inb g)).emb x) = w g x := by
    intro w
    match g with
    | 0 => exact (o _ hd w 0 3 (by decide) x).trans ((o _ hd w 0 2 (by decide) x).trans ((o _ hd w 0 1 (by decide) x).trans (lay_same off size inb _ w 0 x)))
    | 1 => exact (o _ hd w 1 3 (by decide) x).trans ((o _ hd w 1 2 (by decide) x).trans (lay_same off size inb _ w 1 x))
    | 2 => exact (o _ hd w 2 3 (by decide) x).trans (lay_same off size inb _ w 2 x)
    | 3 => exact lay_same off size inb _ w 3 x
  exact key _

theorem sweep_off (y : s.Idx) (h : ∀ k : Fin 4, y ∉ (Rect.unit (off k) size (inb k)).set) : View.canon (sweep v off size inb f L) y = View.canon L y := by
  exact (View.canon_cons_of_not_mem _ _ (h 3)).trans ((View.canon_cons_of_not_mem _ _ (h 2)).trans ((View.canon_cons_of_not_mem _ _ (h 1)).trans (View.canon_cons_of_not_mem _ _ (h 0))))

variable (F4 : Fin 4 → Fin 4 → ((⟨s.rank, size⟩ : Shape).Idx → Elt Ideal e) → ((⟨s.rank, size⟩ : Shape).Idx → Elt Ideal e))

/-- Three more sweeps over what the first left. -/
abbrev over (L : List (View.Piece (Elt Ideal) s e)) : List (View.Piece (Elt Ideal) s e) :=
  sweep v off size inb (F4 3) (sweep v off size inb (F4 2) (sweep v off size inb (F4 1) L))

include hd in
theorem over_eq (g : Fin 4) (x : (⟨s.rank, size⟩ : Shape).Idx) :
    View.canon (over v off size inb F4 L) ((Rect.unit (off g) size (inb g)).emb x) = F4 3 g (F4 2 g (F4 1 g (fun j => View.canon L ((Rect.unit (off g) size (inb g)).emb j)))) x := by
  rw [sweep_eq _ _ _ _ _ _ hd]
  simp only [sweep_eq _ _ _ _ _ _ hd]

end Sweep

/-! ## The blocks the body reads -/

theorem inb_tile (a g : Fin 4) : ∀ k, (![a.val * 128, g.val * 128] : Fin 2 → Nat) k + S128x128.size k ≤ S512x512.size k := by
  intro k; match k with
  | ⟨0, _⟩ => show a.val * 128 + 128 ≤ 512; omega
  | ⟨1, _⟩ => show g.val * 128 + 128 ≤ 512; omega
theorem inb_lane (g : Fin 4) : ∀ k, (![0, g.val * 128] : Fin 2 → Nat) k + S1x128.size k ≤ S1x512.size k := by
  intro k; match k with
  | ⟨0, _⟩ => exact le_refl 1
  | ⟨1, _⟩ => show g.val * 128 + 128 ≤ 512; omega
theorem inb_slab (g : Fin 4) : ∀ k, (![g.val, 0, 0] : Fin 3 → Nat) k + S1x128x128.size k ≤ S4x128x128.size k := by
  intro k; match k with
  | ⟨0, _⟩ => show g.val + 1 ≤ 4; omega
  | ⟨1, _⟩ => exact le_refl 128
  | ⟨2, _⟩ => exact le_refl 128
theorem inb_part (p : Fin 3) (a g : Fin 4) : ∀ k, (![a.val * 128, p.val * 512 + g.val * 128] : Fin 2 → Nat) k + S128x128.size k ≤ S512x1536.size k := by
  intro k; match k with
  | ⟨0, _⟩ => show a.val * 128 + 128 ≤ 512; omega
  | ⟨1, _⟩ => show p.val * 512 + g.val * 128 + 128 ≤ 1536; omega
theorem inb_cols (g : Fin 4) : ∀ k, (![0, 1536 + g.val * 512] : Fin 2 → Nat) k + S1024x512.size k ≤ S1024x3584.size k := by
  intro k; match k with
  | ⟨0, _⟩ => exact le_refl 1024
  | ⟨1, _⟩ => show 1536 + g.val * 512 + 512 ≤ 3584; omega

/-- Chunk `a`, group `g` of a block; group `g` of the norm weight, of the mixing weight and of the bias. -/
abbrev tile (x : Vec Ideal S512x512 .f32) (a g : Fin 4) : Vec Ideal S128x128 .f32 := View.ld x (Rect.unit (s := S512x512) ![a.val * 128, g.val * 128] S128x128.size (inb_tile a g))
abbrev lane (x : Vec Ideal S1x512 .f32) (g : Fin 4) : Vec Ideal S1x128 .f32 := View.ld x (Rect.unit (s := S1x512) ![0, g.val * 128] S1x128.size (inb_lane g))
abbrev slab (x : Vec Ideal S4x128x128 .f32) (g : Fin 4) : Vec Ideal S1x128x128 .f32 := View.ld x (Rect.unit (s := S4x128x128) ![g.val, 0, 0] S1x128x128.size (inb_slab g))

/-- One grid point's blocks. -/
structure Ins where
  h : Vec Ideal S512x1024 .bf16
  u : Vec Ideal S512x512 .f32
  v : Vec Ideal S512x512 .f32
  g : Vec Ideal S512x512 .f32
  s : Vec Ideal S1x512 .f32
  w : Vec Ideal S4x128x128 .f32
  b : Vec Ideal S4x128x128 .f32
  o : Vec Ideal S512x512 .f32
  d : Fin 4 → Vec Ideal S512x512 .bf16
  hc : Vec Ideal S256x1024 .bf16
  ck : Vec Ideal S256x512 .f32
  cv : Vec Ideal S256x512 .f32

namespace Ins

variable (X : Ins)

/-- The norm weight's, the mixing weight's and the bias's gradients gain one term per chunk. -/
abbrev more17 (a g : Fin 4) (y : Vec Ideal S1x128 .f32) : Vec Ideal S1x128 .f32 := k0_pay45 (dsg (tile X.u a g) (tile X.v a g) (tile X.g a g) (tile X.o a g) (slab X.w g)) y
abbrev more18 (a g : Fin 4) (y : Vec Ideal S1x128x128 .f32) : Vec Ideal S1x128x128 .f32 := k0_pay46 (dws (tile X.u a g) (tile X.v a g) (tile X.g a g) (tile X.o a g) (lane X.s g)) y
abbrev more19 (a g : Fin 4) (y : Vec Ideal S1x128x128 .f32) : Vec Ideal S1x128x128 .f32 := k0_pay47 (dbs (tile X.u a g) (tile X.g a g) (tile X.o a g)) y

/-- The gradients of the three gated parts of the projected rows. -/
abbrev part (p : Fin 3) (a g : Fin 4) : Vec Ideal S128x128 .f32 := match p with
  | 0 => dau (tile X.u a g) (tile X.v a g) (tile X.g a g) (tile X.o a g) (lane X.s g) (slab X.w g) (slab X.b g)
  | 1 => dav (tile X.u a g) (tile X.v a g) (tile X.g a g) (tile X.o a g) (lane X.s g) (slab X.w g)
  | 2 => dag (tile X.u a g) (tile X.v a g) (tile X.g a g) (tile X.o a g) (lane X.s g) (slab X.w g) (slab X.b g)
abbrev put16 (p : Fin 3) (a g : Fin 4) : View.Piece (Elt Ideal) S512x1536 .bf16 :=
  ⟨Rect.unit (s := S512x1536) ![a.val * 128, p.val * 512 + g.val * 128] S128x128.size (inb_part p a g), (k0_pay42 (F := Ideal) (X.part p a g) : Vec Ideal S128x128 .bf16)⟩
abbrev list16 : List (View.Piece (Elt Ideal) S512x1536 .bf16) :=
  ([3, 2, 1, 0] : List (Fin 4)).flatMap fun a => ([3, 2, 1, 0] : List (Fin 4)).flatMap fun g => ([2, 1, 0] : List (Fin 3)).map fun p => X.put16 p a g

/-- The weight's gradient gains one product per column range. -/
abbrev hw : Vec Ideal S512x1024 .bf16 := View.ld X.h (Rect.unit (s := S512x1024) ![0, 0] S512x1024.size inb_S512x1024_S512x1024_0_0)
abbrev hcw : Vec Ideal S256x1024 .bf16 := View.ld X.hc (Rect.unit (s := S256x1024) ![0, 0] S256x1024.size inb_S256x1024_S256x1024_0_0)
abbrev more15 (g : Fin 4) (y : Vec Ideal S1024x512 .f32) : Vec Ideal S1024x512 .f32 :=
  k0_pay13 X.hw y (View.ld (X.d g) (Rect.unit (s := S512x512) ![0, 0] S512x512.size inb_S512x512_S512x512_0_0))
abbrev left15 (M : Memref sig .tc .vmem S512x1536 .bf16) (y : Vec Ideal S1024x1536 .f32) : Vec Ideal S1024x1536 .f32 :=
  k0_pay3 (k0_pay12 X.hw) y (M.view.readCov X.list16 (Rect.unit (s := S512x1536) ![0, 0] ![512, 1536] inb_S512x1536_S512x1536_0_0).toLoadRect)
abbrev put15 (w : Vec Ideal S1024x1536 .f32) : View.Piece (Elt Ideal) S1024x3584 .f32 := ⟨Rect.unit (s := S1024x3584) ![0, 0] ![1024, 1536] inb_S1024x3584_S1024x1536_0_0, w⟩

/-- The context rows' two products come first. -/
abbrev ctxk (g : Fin 4) (y : Vec Ideal S1024x512 .f32) : Vec Ideal S1024x512 .f32 := k0_pay10 X.hcw y (View.ld X.ck (Rect.unit (s := S256x512) ![0, 0] S256x512.size inb_S256x512_S256x512_0_0))
abbrev ctxv (g : Fin 4) (y : Vec Ideal S1024x512 .f32) : Vec Ideal S1024x512 .f32 := k0_pay11 X.hcw y (View.ld X.cv (Rect.unit (s := S256x512) ![0, 0] S256x512.size inb_S256x512_S256x512_0_0))

abbrev init15 (M : Memref sig .tc .vmem S1024x3584 .f32) : List (View.Piece (Elt Ideal) S1024x3584 .f32) :=
  touch M.view (fun g => ![0, 1536 + g.val * 512]) S1024x512.size inb_cols X.ctxv 2 (touch M.view (fun g => ![0, 1536 + g.val * 512]) S1024x512.size inb_cols X.ctxk 1
    [⟨Rect.unit (s := S1024x3584) ![0, 0] S1024x3584.size inb_S1024x3584_S1024x3584_0_0, (k0_pay5 (F := Ideal))⟩])

abbrev over17 (M : Memref sig .tc .vmem S1x512 .f32) (L : List (View.Piece (Elt Ideal) S1x512 .f32)) : List (View.Piece (Elt Ideal) S1x512 .f32) :=
  over M.view (fun g => ![0, g.val * 128]) S1x128.size inb_lane X.more17 L
abbrev over18 (M : Memref sig .tc .vmem S4x128x128 .f32) (L : List (View.Piece (Elt Ideal) S4x128x128 .f32)) : List (View.Piece (Elt Ideal) S4x128x128 .f32) :=
  over M.view (fun g => ![g.val, 0, 0]) S1x128x128.size inb_slab X.more18 L
abbrev over19 (M : Memref sig .tc .vmem S4x128x128 .f32) (L : List (View.Piece (Elt Ideal) S4x128x128 .f32)) : List (View.Piece (Elt Ideal) S4x128x128 .f32) :=
  over M.view (fun g => ![g.val, 0, 0]) S1x128x128.size inb_slab X.more19 L

/-- The five lists of stores at the first point, and at a later one. -/
abbrev pre15 (M : Memref sig .tc .vmem S1024x3584 .f32) : List (View.Piece (Elt Ideal) S1024x3584 .f32) :=
  sweep M.view (fun g => ![0, 1536 + g.val * 512]) S1024x512.size inb_cols X.more15 (X.init15 M)
abbrev first15 (M : Memref sig .tc .vmem S1024x3584 .f32) (D : Memref sig .tc .vmem S512x1536 .bf16) : List (View.Piece (Elt Ideal) S1024x3584 .f32) :=
  put15 (X.left15 D (M.view.readCov (X.pre15 M) (Rect.unit (s := S1024x3584) ![0, 0] ![1024, 1536] inb_S1024x3584_S1024x1536_0_0).toLoadRect)) :: X.pre15 M
abbrev first17 (M : Memref sig .tc .vmem S1x512 .f32) : List (View.Piece (Elt Ideal) S1x512 .f32) :=
  X.over17 M (sweep M.view (fun g => ![0, g.val * 128]) S1x128.size inb_lane (X.more17 0) [⟨Rect.unit (s := S1x512) ![0, 0] S1x512.size inb_S1x512_S1x512_0_0, (k0_pay6 (F := Ideal))⟩])
abbrev first18 (M : Memref sig .tc .vmem S4x128x128 .f32) : List (View.Piece (Elt Ideal) S4x128x128 .f32) :=
  X.over18 M (sweep M.view (fun g => ![g.val, 0, 0]) S1x128x128.size inb_slab (X.more18 0) [⟨Rect.unit (s := S4x128x128) ![0, 0, 0] S4x128x128.size inb_S4x128x128_S4x128x128_0_0_0, (k0_pay7 (F := Ideal))⟩])
abbrev first19 (M : Memref sig .tc .vmem S4x128x128 .f32) : List (View.Piece (Elt Ideal) S4x128x128 .f32) :=
  X.over19 M (sweep M.view (fun g => ![g.val, 0, 0]) S1x128x128.size inb_slab (X.more19 0) [⟨Rect.unit (s := S4x128x128) ![0, 0, 0] S4x128x128.size inb_S4x128x128_S4x128x128_0_0_0, (k0_pay8 (F := Ideal))⟩])
abbrev next15 (D : Memref sig .tc .vmem S512x1536 .bf16) (y : Vec Ideal S1024x3584 .f32) : List (View.Piece (Elt Ideal) S1024x3584 .f32) :=
  put15 (X.left15 D (View.ld y (Rect.unit (s := S1024x3584) ![0, 0] ![1024, 1536] inb_S1024x3584_S1024x1536_0_0))) :: begins (fun g => ![0, 1536 + g.val * 512]) S1024x512.size inb_cols X.more15 y
abbrev next17 (M : Memref sig .tc .vmem S1x512 .f32) (y : Vec Ideal S1x512 .f32) : List (View.Piece (Elt Ideal) S1x512 .f32) :=
  X.over17 M (begins (fun g => ![0, g.val * 128]) S1x128.size inb_lane (X.more17 0) y)
abbrev next18 (M : Memref sig .tc .vmem S4x128x128 .f32) (y : Vec Ideal S4x128x128 .f32) : List (View.Piece (Elt Ideal) S4x128x128 .f32) :=
  X.over18 M (begins (fun g => ![g.val, 0, 0]) S1x128x128.size inb_slab (X.more18 0) y)
abbrev next19 (M : Memref sig .tc .vmem S4x128x128 .f32) (y : Vec Ideal S4x128x128 .f32) : List (View.Piece (Elt Ideal) S4x128x128 .f32) :=
  X.over19 M (begins (fun g => ![g.val, 0, 0]) S1x128x128.size inb_slab (X.more19 0) y)
/-- At the last point the bias's gradient is summed over a chunk's positions. -/
abbrev last19 (M : Memref sig .tc .vmem S4x128x128 .f32) (y : Vec Ideal S4x128x128 .f32) : List (View.Piece (Elt Ideal) S4x128x128 .f32) :=
  ⟨Rect.unit (s := S4x128x128) ![0, 0, 0] ![4, 128, 128] inb_S4x128x128_S4x128x128_0_0_0,
    k0_pay4 (F := Ideal) (M.view.readCov (X.next19 M y) (Rect.unit (s := S4x128x128) ![0, 0, 0] ![4, 128, 128] inb_S4x128x128_S4x128x128_0_0_0).toLoadRect)⟩ :: X.next19 M y

end Ins

/-! ## What each case leaves -/

section Body

variable (c : Dev nD) (i : grid0.Coords) (a1 : Memref sig .tc .vmem S512x1024 .bf16) (h1 : a1.IsWhole) (a2 : Memref sig .tc .vmem S512x512 .f32) (h2 : a2.IsWhole) (a3 : Memref sig .tc .vmem S512x512 .f32) (h3 : a3.IsWhole) (a4 : Memref sig .tc .vmem S512x512 .f32) (h4 : a4.IsWhole) (a5 : Memref sig .tc .vmem S1x512 .f32) (h5 : a5.IsWhole) (a6 : Memref sig .tc .vmem S4x128x128 .f32) (h6 : a6.IsWhole) (a7 : Memref sig .tc .vmem S4x128x128 .f32) (h7 : a7.IsWhole) (a8 : Memref sig .tc .vmem S512x512 .f32) (h8 : a8.IsWhole) (a9 : Memref sig .tc .vmem S512x512 .bf16) (h9 : a9.IsWhole) (a10 : Memref sig .tc .vmem S512x512 .bf16) (h10 : a10.IsWhole) (a11 : Memref sig .tc .vmem S512x512 .bf16) (h11 : a11.IsWhole) (a12 : Memref sig .tc .vmem S512x512 .bf16) (h12 : a12.IsWhole) (a13 : Memref sig .tc .vmem S256x1024 .bf16) (h13 : a13.IsWhole) (a14 : Memref sig .tc .vmem S256x512 .f32) (h14 : a14.IsWhole) (a15 : Memref sig .tc .vmem S256x512 .f32) (h15 : a15.IsWhole) (a16 : Memref sig .tc .vmem S1024x3584 .f32) (h16 : a16.IsWhole) (a17 : Memref sig .tc .vmem S512x1536 .bf16) (h17 : a17.IsWhole) (a18 : Memref sig .tc .vmem S1x512 .f32) (h18 : a18.IsWhole) (a19 : Memref sig .tc .vmem S4x128x128 .f32) (h19 : a19.IsWhole) (a20 : Memref sig .tc .vmem S4x128x128 .f32) (h20 : a20.IsWhole)
  (x0 : Vec Ideal S512x1024 .bf16) (x1 x2 x3 : Vec Ideal S512x512 .f32) (x4 : Vec Ideal S1x512 .f32) (x5 x6 : Vec Ideal S4x128x128 .f32) (x7 : Vec Ideal S512x512 .f32)
  (x8 x9 x10 x11 : Vec Ideal S512x512 .bf16) (x12 : Vec Ideal S256x1024 .bf16) (x13 x14 : Vec Ideal S256x512 .f32)
  (y15 : Vec Ideal S1024x3584 .f32) (y17 : Vec Ideal S1x512 .f32) (y18 y19 : Vec Ideal S4x128x128 .f32)

abbrev ins : Ins := ⟨x0, x1, x2, x3, x4, x5, x6, x7, ![x8, x9, x10, x11], x12, x13, x14⟩
abbrev got : Ins := ins (a1.view.read (Elt Ideal) (h1.unread x0)) (a2.view.read (Elt Ideal) (h2.unread x1)) (a3.view.read (Elt Ideal) (h3.unread x2)) (a4.view.read (Elt Ideal) (h4.unread x3)) (a5.view.read (Elt Ideal) (h5.unread x4)) (a6.view.read (Elt Ideal) (h6.unread x5)) (a7.view.read (Elt Ideal) (h7.unread x6)) (a8.view.read (Elt Ideal) (h8.unread x7)) (a9.view.read (Elt Ideal) (h9.unread x8)) (a10.view.read (Elt Ideal) (h10.unread x9)) (a11.view.read (Elt Ideal) (h11.unread x10)) (a12.view.read (Elt Ideal) (h12.unread x11)) (a13.view.read (Elt Ideal) (h13.unread x12)) (a14.view.read (Elt Ideal) (h14.unread x13)) (a15.view.read (Elt Ideal) (h15.unread x14))

theorem got_eq : got a1 h1 a2 h2 a3 h3 a4 h4 a5 h5 a6 h6 a7 h7 a8 h8 a9 h9 a10 h10 a11 h11 a12 h12 a13 h13 a14 h14 a15 h15 x0 x1 x2 x3 x4 x5 x6 x7 x8 x9 x10 x11 x12 x13 x14 = ins x0 x1 x2 x3 x4 x5 x6 x7 x8 x9 x10 x11 x12 x13 x14 := by
  unfold got
  rw [h1.read_unread, h2.read_unread, h3.read_unread, h4.read_unread, h5.read_unread, h6.read_unread, h7.read_unread, h8.read_unread, h9.read_unread, h10.read_unread, h11.read_unread, h12.read_unread, h13.read_unread, h14.read_unread, h15.read_unread]

theorem bodyA15 (hc0 : cond0_0 i) (hc1 : ¬cond0_1 i) : out0_A_15 c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 hc1 x0 x1 x2 x3 x4 x5 x6 x7 x8 x9 x10 x11 x12 x13 x14 = View.canon ((ins x0 x1 x2 x3 x4 x5 x6 x7 x8 x9 x10 x11 x12 x13 x14).first15 a16 a17) :=
  (View.read_writes_eq_canon _ _ _ (cover0_A_15 c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 hc1 x0 x1 x2 x3 x4 x5 x6 x7 x8 x9 x10 x11 x12 x13 x14)).trans (congrArg View.canon (Eq.trans
    (show (kernelRun0_A c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 hc1 x0 x1 x2 x3 x4 x5 x6 x7 x8 x9 x10 x11 x12 x13 x14).1 = (got a1 h1 a2 h2 a3 h3 a4 h4 a5 h5 a6 h6 a7 h7 a8 h8 a9 h9 a10 h10 a11 h11 a12 h12 a13 h13 a14 h14 a15 h15 x0 x1 x2 x3 x4 x5 x6 x7 x8 x9 x10 x11 x12 x13 x14).first15 a16 a17 from by sl_kernel_rfl) (by rw [got_eq])))

theorem bodyA16 (hc0 : cond0_0 i) (hc1 : ¬cond0_1 i) : out0_A_16 c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 hc1 x0 x1 x2 x3 x4 x5 x6 x7 x8 x9 x10 x11 x12 x13 x14 = View.canon ((ins x0 x1 x2 x3 x4 x5 x6 x7 x8 x9 x10 x11 x12 x13 x14).list16) :=
  (View.read_writes_eq_canon _ _ _ (cover0_A_16 c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 hc1 x0 x1 x2 x3 x4 x5 x6 x7 x8 x9 x10 x11 x12 x13 x14)).trans (congrArg View.canon (Eq.trans
    (show (kernelRun0_A c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 hc1 x0 x1 x2 x3 x4 x5 x6 x7 x8 x9 x10 x11 x12 x13 x14).2.1 = (got a1 h1 a2 h2 a3 h3 a4 h4 a5 h5 a6 h6 a7 h7 a8 h8 a9 h9 a10 h10 a11 h11 a12 h12 a13 h13 a14 h14 a15 h15 x0 x1 x2 x3 x4 x5 x6 x7 x8 x9 x10 x11 x12 x13 x14).list16 from by sl_kernel_rfl) (by rw [got_eq])))

theorem bodyA17 (hc0 : cond0_0 i) (hc1 : ¬cond0_1 i) : out0_A_17 c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 hc1 x0 x1 x2 x3 x4 x5 x6 x7 x8 x9 x10 x11 x12 x13 x14 = View.canon ((ins x0 x1 x2 x3 x4 x5 x6 x7 x8 x9 x10 x11 x12 x13 x14).first17 a18) :=
  (View.read_writes_eq_canon _ _ _ (cover0_A_17 c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 hc1 x0 x1 x2 x3 x4 x5 x6 x7 x8 x9 x10 x11 x12 x13 x14)).trans (congrArg View.canon (Eq.trans
    (show (kernelRun0_A c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 hc1 x0 x1 x2 x3 x4 x5 x6 x7 x8 x9 x10 x11 x12 x13 x14).2.2.1 = (got a1 h1 a2 h2 a3 h3 a4 h4 a5 h5 a6 h6 a7 h7 a8 h8 a9 h9 a10 h10 a11 h11 a12 h12 a13 h13 a14 h14 a15 h15 x0 x1 x2 x3 x4 x5 x6 x7 x8 x9 x10 x11 x12 x13 x14).first17 a18 from by sl_kernel_rfl) (by rw [got_eq])))

theorem bodyA18 (hc0 : cond0_0 i) (hc1 : ¬cond0_1 i) : out0_A_18 c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 hc1 x0 x1 x2 x3 x4 x5 x6 x7 x8 x9 x10 x11 x12 x13 x14 = View.canon ((ins x0 x1 x2 x3 x4 x5 x6 x7 x8 x9 x10 x11 x12 x13 x14).first18 a19) :=
  (View.read_writes_eq_canon _ _ _ (cover0_A_18 c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 hc1 x0 x1 x2 x3 x4 x5 x6 x7 x8 x9 x10 x11 x12 x13 x14)).trans (congrArg View.canon (Eq.trans
    (show (kernelRun0_A c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 hc1 x0 x1 x2 x3 x4 x5 x6 x7 x8 x9 x10 x11 x12 x13 x14).2.2.2.1 = (got a1 h1 a2 h2 a3 h3 a4 h4 a5 h5 a6 h6 a7 h7 a8 h8 a9 h9 a10 h10 a11 h11 a12 h12 a13 h13 a14 h14 a15 h15 x0 x1 x2 x3 x4 x5 x6 x7 x8 x9 x10 x11 x12 x13 x14).first18 a19 from by sl_kernel_rfl) (by rw [got_eq])))

theorem bodyA19 (hc0 : cond0_0 i) (hc1 : ¬cond0_1 i) : out0_A_19 c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 hc1 x0 x1 x2 x3 x4 x5 x6 x7 x8 x9 x10 x11 x12 x13 x14 = View.canon ((ins x0 x1 x2 x3 x4 x5 x6 x7 x8 x9 x10 x11 x12 x13 x14).first19 a20) :=
  (View.read_writes_eq_canon _ _ _ (cover0_A_19 c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 hc1 x0 x1 x2 x3 x4 x5 x6 x7 x8 x9 x10 x11 x12 x13 x14)).trans (congrArg View.canon (Eq.trans
    (show (kernelRun0_A c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 hc1 x0 x1 x2 x3 x4 x5 x6 x7 x8 x9 x10 x11 x12 x13 x14).2.2.2.2.1 = (got a1 h1 a2 h2 a3 h3 a4 h4 a5 h5 a6 h6 a7 h7 a8 h8 a9 h9 a10 h10 a11 h11 a12 h12 a13 h13 a14 h14 a15 h15 x0 x1 x2 x3 x4 x5 x6 x7 x8 x9 x10 x11 x12 x13 x14).first19 a20 from by sl_kernel_rfl) (by rw [got_eq])))

theorem bodyB15 (hc0 : ¬cond0_0 i) (hc1 : ¬cond0_1 i) : out0_B_15 c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 hc1 x0 x1 x2 x3 x4 x5 x6 x7 x8 x9 x10 x11 x12 x13 x14 y15 y17 y18 y19 = View.canon ((ins x0 x1 x2 x3 x4 x5 x6 x7 x8 x9 x10 x11 x12 x13 x14).next15 a17 y15) :=
  (View.read_writes_eq_canon _ _ _ (cover0_B_15 c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 hc1 x0 x1 x2 x3 x4 x5 x6 x7 x8 x9 x10 x11 x12 x13 x14 y15 y17 y18 y19)).trans (congrArg View.canon (Eq.trans
    (show (kernelRun0_B c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 hc1 x0 x1 x2 x3 x4 x5 x6 x7 x8 x9 x10 x11 x12 x13 x14 y15 y17 y18 y19).1 = (got a1 h1 a2 h2 a3 h3 a4 h4 a5 h5 a6 h6 a7 h7 a8 h8 a9 h9 a10 h10 a11 h11 a12 h12 a13 h13 a14 h14 a15 h15 x0 x1 x2 x3 x4 x5 x6 x7 x8 x9 x10 x11 x12 x13 x14).next15 a17 (a16.view.read (Elt Ideal) (h16.unread y15)) from by sl_kernel_rfl) (by rw [got_eq, h16.read_unread])))

theorem bodyB16 (hc0 : ¬cond0_0 i) (hc1 : ¬cond0_1 i) : out0_B_16 c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 hc1 x0 x1 x2 x3 x4 x5 x6 x7 x8 x9 x10 x11 x12 x13 x14 y15 y17 y18 y19 = View.canon ((ins x0 x1 x2 x3 x4 x5 x6 x7 x8 x9 x10 x11 x12 x13 x14).list16) :=
  (View.read_writes_eq_canon _ _ _ (cover0_B_16 c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 hc1 x0 x1 x2 x3 x4 x5 x6 x7 x8 x9 x10 x11 x12 x13 x14 y15 y17 y18 y19)).trans (congrArg View.canon (Eq.trans
    (show (kernelRun0_B c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 hc1 x0 x1 x2 x3 x4 x5 x6 x7 x8 x9 x10 x11 x12 x13 x14 y15 y17 y18 y19).2.1 = (got a1 h1 a2 h2 a3 h3 a4 h4 a5 h5 a6 h6 a7 h7 a8 h8 a9 h9 a10 h10 a11 h11 a12 h12 a13 h13 a14 h14 a15 h15 x0 x1 x2 x3 x4 x5 x6 x7 x8 x9 x10 x11 x12 x13 x14).list16 from by sl_kernel_rfl) (by rw [got_eq])))

theorem bodyB17 (hc0 : ¬cond0_0 i) (hc1 : ¬cond0_1 i) : out0_B_17 c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 hc1 x0 x1 x2 x3 x4 x5 x6 x7 x8 x9 x10 x11 x12 x13 x14 y15 y17 y18 y19 = View.canon ((ins x0 x1 x2 x3 x4 x5 x6 x7 x8 x9 x10 x11 x12 x13 x14).next17 a18 y17) :=
  (View.read_writes_eq_canon _ _ _ (cover0_B_17 c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 hc1 x0 x1 x2 x3 x4 x5 x6 x7 x8 x9 x10 x11 x12 x13 x14 y15 y17 y18 y19)).trans (congrArg View.canon (Eq.trans
    (show (kernelRun0_B c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 hc1 x0 x1 x2 x3 x4 x5 x6 x7 x8 x9 x10 x11 x12 x13 x14 y15 y17 y18 y19).2.2.1 = (got a1 h1 a2 h2 a3 h3 a4 h4 a5 h5 a6 h6 a7 h7 a8 h8 a9 h9 a10 h10 a11 h11 a12 h12 a13 h13 a14 h14 a15 h15 x0 x1 x2 x3 x4 x5 x6 x7 x8 x9 x10 x11 x12 x13 x14).next17 a18 (a18.view.read (Elt Ideal) (h18.unread y17)) from by sl_kernel_rfl) (by rw [got_eq, h18.read_unread])))

theorem bodyB18 (hc0 : ¬cond0_0 i) (hc1 : ¬cond0_1 i) : out0_B_18 c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 hc1 x0 x1 x2 x3 x4 x5 x6 x7 x8 x9 x10 x11 x12 x13 x14 y15 y17 y18 y19 = View.canon ((ins x0 x1 x2 x3 x4 x5 x6 x7 x8 x9 x10 x11 x12 x13 x14).next18 a19 y18) :=
  (View.read_writes_eq_canon _ _ _ (cover0_B_18 c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 hc1 x0 x1 x2 x3 x4 x5 x6 x7 x8 x9 x10 x11 x12 x13 x14 y15 y17 y18 y19)).trans (congrArg View.canon (Eq.trans
    (show (kernelRun0_B c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 hc1 x0 x1 x2 x3 x4 x5 x6 x7 x8 x9 x10 x11 x12 x13 x14 y15 y17 y18 y19).2.2.2.1 = (got a1 h1 a2 h2 a3 h3 a4 h4 a5 h5 a6 h6 a7 h7 a8 h8 a9 h9 a10 h10 a11 h11 a12 h12 a13 h13 a14 h14 a15 h15 x0 x1 x2 x3 x4 x5 x6 x7 x8 x9 x10 x11 x12 x13 x14).next18 a19 (a19.view.read (Elt Ideal) (h19.unread y18)) from by sl_kernel_rfl) (by rw [got_eq, h19.read_unread])))

theorem bodyB19 (hc0 : ¬cond0_0 i) (hc1 : ¬cond0_1 i) : out0_B_19 c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 hc1 x0 x1 x2 x3 x4 x5 x6 x7 x8 x9 x10 x11 x12 x13 x14 y15 y17 y18 y19 = View.canon ((ins x0 x1 x2 x3 x4 x5 x6 x7 x8 x9 x10 x11 x12 x13 x14).next19 a20 y19) :=
  (View.read_writes_eq_canon _ _ _ (cover0_B_19 c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 hc1 x0 x1 x2 x3 x4 x5 x6 x7 x8 x9 x10 x11 x12 x13 x14 y15 y17 y18 y19)).trans (congrArg View.canon (Eq.trans
    (show (kernelRun0_B c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 hc1 x0 x1 x2 x3 x4 x5 x6 x7 x8 x9 x10 x11 x12 x13 x14 y15 y17 y18 y19).2.2.2.2.1 = (got a1 h1 a2 h2 a3 h3 a4 h4 a5 h5 a6 h6 a7 h7 a8 h8 a9 h9 a10 h10 a11 h11 a12 h12 a13 h13 a14 h14 a15 h15 x0 x1 x2 x3 x4 x5 x6 x7 x8 x9 x10 x11 x12 x13 x14).next19 a20 (a20.view.read (Elt Ideal) (h20.unread y19)) from by sl_kernel_rfl) (by rw [got_eq, h20.read_unread])))

theorem bodyC15 (hc0 : ¬cond0_0 i) (hc1 : cond0_1 i) : out0_C_15 c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 hc1 x0 x1 x2 x3 x4 x5 x6 x7 x8 x9 x10 x11 x12 x13 x14 y15 y17 y18 y19 = View.canon ((ins x0 x1 x2 x3 x4 x5 x6 x7 x8 x9 x10 x11 x12 x13 x14).next15 a17 y15) :=
  (View.read_writes_eq_canon _ _ _ (cover0_C_15 c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 hc1 x0 x1 x2 x3 x4 x5 x6 x7 x8 x9 x10 x11 x12 x13 x14 y15 y17 y18 y19)).trans (congrArg View.canon (Eq.trans
    (show (kernelRun0_C c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 hc1 x0 x1 x2 x3 x4 x5 x6 x7 x8 x9 x10 x11 x12 x13 x14 y15 y17 y18 y19).1 = (got a1 h1 a2 h2 a3 h3 a4 h4 a5 h5 a6 h6 a7 h7 a8 h8 a9 h9 a10 h10 a11 h11 a12 h12 a13 h13 a14 h14 a15 h15 x0 x1 x2 x3 x4 x5 x6 x7 x8 x9 x10 x11 x12 x13 x14).next15 a17 (a16.view.read (Elt Ideal) (h16.unread y15)) from by sl_kernel_rfl) (by rw [got_eq, h16.read_unread])))

theorem bodyC16 (hc0 : ¬cond0_0 i) (hc1 : cond0_1 i) : out0_C_16 c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 hc1 x0 x1 x2 x3 x4 x5 x6 x7 x8 x9 x10 x11 x12 x13 x14 y15 y17 y18 y19 = View.canon ((ins x0 x1 x2 x3 x4 x5 x6 x7 x8 x9 x10 x11 x12 x13 x14).list16) :=
  (View.read_writes_eq_canon _ _ _ (cover0_C_16 c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 hc1 x0 x1 x2 x3 x4 x5 x6 x7 x8 x9 x10 x11 x12 x13 x14 y15 y17 y18 y19)).trans (congrArg View.canon (Eq.trans
    (show (kernelRun0_C c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 hc1 x0 x1 x2 x3 x4 x5 x6 x7 x8 x9 x10 x11 x12 x13 x14 y15 y17 y18 y19).2.1 = (got a1 h1 a2 h2 a3 h3 a4 h4 a5 h5 a6 h6 a7 h7 a8 h8 a9 h9 a10 h10 a11 h11 a12 h12 a13 h13 a14 h14 a15 h15 x0 x1 x2 x3 x4 x5 x6 x7 x8 x9 x10 x11 x12 x13 x14).list16 from by sl_kernel_rfl) (by rw [got_eq])))

theorem bodyC17 (hc0 : ¬cond0_0 i) (hc1 : cond0_1 i) : out0_C_17 c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 hc1 x0 x1 x2 x3 x4 x5 x6 x7 x8 x9 x10 x11 x12 x13 x14 y15 y17 y18 y19 = View.canon ((ins x0 x1 x2 x3 x4 x5 x6 x7 x8 x9 x10 x11 x12 x13 x14).next17 a18 y17) :=
  (View.read_writes_eq_canon _ _ _ (cover0_C_17 c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 hc1 x0 x1 x2 x3 x4 x5 x6 x7 x8 x9 x10 x11 x12 x13 x14 y15 y17 y18 y19)).trans (congrArg View.canon (Eq.trans
    (show (kernelRun0_C c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 hc1 x0 x1 x2 x3 x4 x5 x6 x7 x8 x9 x10 x11 x12 x13 x14 y15 y17 y18 y19).2.2.1 = (got a1 h1 a2 h2 a3 h3 a4 h4 a5 h5 a6 h6 a7 h7 a8 h8 a9 h9 a10 h10 a11 h11 a12 h12 a13 h13 a14 h14 a15 h15 x0 x1 x2 x3 x4 x5 x6 x7 x8 x9 x10 x11 x12 x13 x14).next17 a18 (a18.view.read (Elt Ideal) (h18.unread y17)) from by sl_kernel_rfl) (by rw [got_eq, h18.read_unread])))

theorem bodyC18 (hc0 : ¬cond0_0 i) (hc1 : cond0_1 i) : out0_C_18 c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 hc1 x0 x1 x2 x3 x4 x5 x6 x7 x8 x9 x10 x11 x12 x13 x14 y15 y17 y18 y19 = View.canon ((ins x0 x1 x2 x3 x4 x5 x6 x7 x8 x9 x10 x11 x12 x13 x14).next18 a19 y18) :=
  (View.read_writes_eq_canon _ _ _ (cover0_C_18 c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 hc1 x0 x1 x2 x3 x4 x5 x6 x7 x8 x9 x10 x11 x12 x13 x14 y15 y17 y18 y19)).trans (congrArg View.canon (Eq.trans
    (show (kernelRun0_C c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 hc1 x0 x1 x2 x3 x4 x5 x6 x7 x8 x9 x10 x11 x12 x13 x14 y15 y17 y18 y19).2.2.2.1 = (got a1 h1 a2 h2 a3 h3 a4 h4 a5 h5 a6 h6 a7 h7 a8 h8 a9 h9 a10 h10 a11 h11 a12 h12 a13 h13 a14 h14 a15 h15 x0 x1 x2 x3 x4 x5 x6 x7 x8 x9 x10 x11 x12 x13 x14).next18 a19 (a19.view.read (Elt Ideal) (h19.unread y18)) from by sl_kernel_rfl) (by rw [got_eq, h19.read_unread])))

theorem bodyC19 (hc0 : ¬cond0_0 i) (hc1 : cond0_1 i) : out0_C_19 c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 hc1 x0 x1 x2 x3 x4 x5 x6 x7 x8 x9 x10 x11 x12 x13 x14 y15 y17 y18 y19 = View.canon ((ins x0 x1 x2 x3 x4 x5 x6 x7 x8 x9 x10 x11 x12 x13 x14).last19 a20 y19) :=
  (View.read_writes_eq_canon _ _ _ (cover0_C_19 c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 hc1 x0 x1 x2 x3 x4 x5 x6 x7 x8 x9 x10 x11 x12 x13 x14 y15 y17 y18 y19)).trans (congrArg View.canon (Eq.trans
    (show (kernelRun0_C c i a1 h1 a2 h2 a3 h3 a4 h4 a5 h5 a6 h6 a7 h7 a8 h8 a9 h9 a10 h10 a11 h11 a12 h12 a13 h13 a14 h14 a15 h15 a16 h16 a17 h17 a18 h18 a19 h19 a20 h20 hc0 hc1 x0 x1 x2 x3 x4 x5 x6 x7 x8 x9 x10 x11 x12 x13 x14 y15 y17 y18 y19).2.2.2.2.1 = (got a1 h1 a2 h2 a3 h3 a4 h4 a5 h5 a6 h6 a7 h7 a8 h8 a9 h9 a10 h10 a11 h11 a12 h12 a13 h13 a14 h14 a15 h15 x0 x1 x2 x3 x4 x5 x6 x7 x8 x9 x10 x11 x12 x13 x14).last19 a20 (a20.view.read (Elt Ideal) (h20.unread y19)) from by sl_kernel_rfl) (by rw [got_eq, h20.read_unread])))

end Body

end Cert.DwBwdIdeal.Value
end
-- ==== Proof.DwPoint.lean ====
/-
  The gating's backward call at one grid point, against the reference: what the point adds to the four carried results,
  and the rows it writes of the fifth.
-/
module

public import proofs.«01_k».proof.Proof.DwBody
public import Idealize.ShloMosaic.Lib.Pipeline.ValueKit.Tiles

@[expose] public section

set_option maxRecDepth 16384

noncomputable section

namespace Cert.DwBwdIdeal.Value

open Cert.DwBwdIdeal Cert.DwBwdIdeal.Gen Cert.DwPair Cert.DwRefIdeal.Read Idealize.ShloMosaic Idealize.ShloMosaic.TcCoe Idealize.SL.Sem

theorem at2 {M N : Nat} (i : (⟨2, ![M, N]⟩ : Shape).Idx) (p : Fin M) (q : Fin N) (h0 : (i 0).val = p.val) (h1 : (i 1).val = q.val) : i = ix2 p q := by
  funext a
  match a with
  | ⟨0, _⟩ => exact Fin.ext h0
  | ⟨1, _⟩ => exact Fin.ext h1

theorem at3 {L M N : Nat} (i : (⟨3, ![L, M, N]⟩ : Shape).Idx) (o : Fin L) (p : Fin M) (q : Fin N) (h0 : (i 0).val = o.val) (h1 : (i 1).val = p.val) (h2 : (i 2).val = q.val) :
    i = ix3 o p q := by
  funext a
  match a with
  | ⟨0, _⟩ => exact Fin.ext h0
  | ⟨1, _⟩ => exact Fin.ext h1
  | ⟨2, _⟩ => exact Fin.ext h2

theorem hz2 : (![0, 0] : Fin 2 → Nat) = fun _ => 0 := by funext a; fin_cases a <;> rfl
theorem hz3 : (![0, 0, 0] : Fin 3 → Nat) = fun _ => 0 := by funext a; fin_cases a <;> rfl

theorem lane_idx (g : Fin 4) (c : Fin 128) : (ix2 0 (col g c) : S1x512.Idx) = (Rect.unit (s := S1x512) ![0, g.val * 128] S1x128.size (inb_lane g)).emb (ix2 0 c) :=
  (at2 _ _ _ rfl (by show g.val * 128 + 1 * c.val = g.val * 128 + c.val; omega)).symm

theorem slab_idx (g : Fin 4) (r c : Fin 128) : (ix3 g r c : S4x128x128.Idx) = (Rect.unit (s := S4x128x128) ![g.val, 0, 0] S1x128x128.size (inb_slab g)).emb (ix3 0 r c) :=
  (at3 _ _ _ _ (by show g.val + 1 * 0 = g.val; omega) (by show 0 + 1 * r.val = r.val; omega) (by show 0 + 1 * c.val = c.val; omega)).symm

/-! ## The boxes of the carried results do not meet -/

theorem apart_lane (g k : Fin 4) (h : g ≠ k) (x : S1x128.Idx) :
    (Rect.unit (s := S1x512) ![0, g.val * 128] S1x128.size (inb_lane g)).emb x ∉ (Rect.unit (s := S1x512) ![0, k.val * 128] S1x128.size (inb_lane k)).set := by
  intro hm
  rw [Rect.mem_set_unit] at hm
  have h1 : k.val * 128 ≤ g.val * 128 + 1 * (x 1).val ∧ g.val * 128 + 1 * (x 1).val < k.val * 128 + 128 := hm 1
  have hx : (x 1).val < 128 := (x 1).isLt
  exact h (Fin.ext (by omega))

theorem apart_slab (g k : Fin 4) (h : g ≠ k) (x : S1x128x128.Idx) :
    (Rect.unit (s := S4x128x128) ![g.val, 0, 0] S1x128x128.size (inb_slab g)).emb x ∉ (Rect.unit (s := S4x128x128) ![k.val, 0, 0] S1x128x128.size (inb_slab k)).set := by
  intro hm
  rw [Rect.mem_set_unit] at hm
  have h1 : k.val ≤ g.val + 1 * (x 0).val ∧ g.val + 1 * (x 0).val < k.val + 1 := hm 0
  have hx : (x 0).val < 1 := (x 0).isLt
  exact h (Fin.ext (by omega))

theorem apart_cols (g k : Fin 4) (h : g ≠ k) (x : S1024x512.Idx) :
    (Rect.unit (s := S1024x3584) ![0, 1536 + g.val * 512] S1024x512.size (inb_cols g)).emb x
      ∉ (Rect.unit (s := S1024x3584) ![0, 1536 + k.val * 512] S1024x512.size (inb_cols k)).set := by
  intro hm
  rw [Rect.mem_set_unit] at hm
  have h1 : 1536 + k.val * 512 ≤ 1536 + g.val * 512 + 1 * (x 1).val ∧ 1536 + g.val * 512 + 1 * (x 1).val < 1536 + k.val * 512 + 512 := hm 1
  have hx : (x 1).val < 512 := (x 1).isLt
  exact h (Fin.ext (by omega))

/-- The first 1536 columns lie in none of the four column boxes. -/
theorem apart_left (k : Fin 1024) (l : Fin 3584) (h : l.val < 1536) (q : Fin 4) :
    (ix2 k l : S1024x3584.Idx) ∉ (Rect.unit (s := S1024x3584) ![0, 1536 + q.val * 512] S1024x512.size (inb_cols q)).set := by
  intro hm
  rw [Rect.mem_set_unit] at hm
  have h1 : 1536 + q.val * 512 ≤ l.val := (hm 1).1
  omega

/-! ## Four changes in turn, each adding one term -/

theorem gains {ι : Type} (F : Fin 4 → (ι → EReal) → (ι → EReal)) (s : Fin 4 → ι → EReal) (h : ∀ a y x, F a y x = y x + s a x) (y : ι → EReal) (x : ι) :
    F 3 (F 2 (F 1 (F 0 y))) x = y x + ∑ a : Fin 4, s a x := by
  rw [h, h, h, h, Fin.sum_univ_four]
  simp only [add_assoc]

section Chain

variable {s : Shape} (v : View sig .tc .vmem s .f32) (off : Fin 4 → Fin s.rank → Nat) (size : Fin s.rank → Nat) (inb : ∀ g a, off g a + size a ≤ s.size a)
  (hd : ∀ g k : Fin 4, g ≠ k → ∀ x : (⟨s.rank, size⟩ : Shape).Idx, (Rect.unit (off g) size (inb g)).emb x ∉ (Rect.unit (off k) size (inb k)).set)
  (F : Fin 4 → Fin 4 → ((⟨s.rank, size⟩ : Shape).Idx → EReal) → ((⟨s.rank, size⟩ : Shape).Idx → EReal))
  (q : Fin 4 → Fin 4 → (⟨s.rank, size⟩ : Shape).Idx → EReal) (h : ∀ g a y x, F a g y x = y x + q g a x)

include hd h in
/-- Four sweeps over what the point before left add four terms. -/
theorem over_begins (y : s.Idx → EReal) (g : Fin 4) (x : (⟨s.rank, size⟩ : Shape).Idx) :
    View.canon (over (e := .f32) v off size inb F (begins off size inb (F 0) y)) ((Rect.unit (off g) size (inb g)).emb x)
      = (y ((Rect.unit (off g) size (inb g)).emb x) + ∑ a : Fin 4, q g a x : EReal) := by
  refine (over_eq (e := .f32) v off size inb _ hd F g x).trans ?_
  refine (congrArg (fun w => F 3 g (F 2 g (F 1 g w)) x) (funext fun j => begins_eq (e := .f32) off size inb (F 0) hd y g j)).trans ?_
  exact gains (fun a => F a g) (q g) (h g) _ x

include hd h in
/-- Four sweeps over a list of stores add four terms. -/
theorem over_sweep (L : List (View.Piece (Elt Ideal) s .f32)) (g : Fin 4) (x : (⟨s.rank, size⟩ : Shape).Idx) :
    View.canon (over (e := .f32) v off size inb F (sweep v off size inb (F 0) L)) ((Rect.unit (off g) size (inb g)).emb x)
      = (View.canon L ((Rect.unit (off g) size (inb g)).emb x) + ∑ a : Fin 4, q g a x : EReal) := by
  refine (over_eq (e := .f32) v off size inb _ hd F g x).trans ?_
  refine (congrArg (fun w => F 3 g (F 2 g (F 1 g w)) x) (funext fun j => sweep_eq (e := .f32) v off size inb (F 0) L hd g j)).trans ?_
  exact gains (fun a => F a g) (q g) (h g) _ x

theorem touch_off (f : Fin 4 → ((⟨s.rank, size⟩ : Shape).Idx → EReal) → ((⟨s.rank, size⟩ : Shape).Idx → EReal)) (L : List (View.Piece (Elt Ideal) s .f32)) (g : Fin 4) (y : s.Idx)
    (h : y ∉ (Rect.unit (off g) size (inb g)).set) : View.canon (touch (e := .f32) v off size inb f g L) y = View.canon L y :=
  View.canon_cons_of_not_mem _ _ h

end Chain

section Terms

variable {x7 : Vec Ideal S4096x3584 .f32} {x8 : Vec Ideal S1x512 .f32} {x9 : Vec Ideal S4x128x128 .f32} {x10 : Vec Ideal Cert.DwRefIdeal.S4x128 .f32} {x11 : Vec Ideal S4096x1024 .f32}

/-- Row `r` of tile `t`. -/
abbrev trow (t : Fin 8) (r : Fin 512) : Fin 4096 := ⟨t.val * 512 + r.val, by omega⟩

/-- Chunk `a` of tile `t`. -/
abbrev chunk (t : Fin 8) (a : Fin 4) : Fin 32 := ⟨t.val * 4 + a.val, by omega⟩

variable (x7 x8 x9 x10 x11) in
/-- The blocks of tile `t` are the arrays' blocks. -/
def Reads (X : Ins) (t : Fin 8) : Prop :=
  ∀ a g : Fin 4, Block x7 x8 x9 x10 x11 (chunk t a) g (tile X.u a g) (tile X.v a g) (tile X.g a g) (tile X.o a g) (lane X.s g) (slab X.w g) (slab X.b g)

variable {X : Ins} {t : Fin 8} (B : Reads x7 x8 x9 x10 x11 X t)

variable (x7 x8 x9 x11 t) in
abbrev term17 (g a : Fin 4) (c : Fin 128) : EReal := ∑ r : Fin 128, val_main_v74 (F := Ideal) x7 x9 x11 (ix5 0 (chunk t a) r g c)
variable (x7 x8 x11 t) in
abbrev term18 (g a : Fin 4) (r c : Fin 128) : EReal :=
  ∑ k : Fin 128, val_main_v63 (F := Ideal) x7 x11 (ix5 0 (chunk t a) r g k) * val_main_v43 (F := Ideal) x7 x8 (ix5 0 (chunk t a) c g k)
variable (x7 x11 t) in
abbrev term19 (g a : Fin 4) (r c : Fin 128) : EReal := val_main_v63 (F := Ideal) x7 x11 (ix5 0 (chunk t a) r g c)

include B

theorem more17_at (a g : Fin 4) (y : Vec Ideal S1x128 .f32) (x : S1x128.Idx) : X.more17 a g y x = y x + term17 x7 x9 x11 t g a (x 1) := by
  idx_vars x
  obtain rfl : x0 = 0 := Subsingleton.elim _ _
  refine Eq.trans ?_ (congrArg (_ + ·) (dsg_eq (B a g) 0 _))
  pointwise [k0_pay45]

theorem more18_at (a g : Fin 4) (y : Vec Ideal S1x128x128 .f32) (x : S1x128x128.Idx) : X.more18 a g y x = y x + term18 x7 x8 x11 t g a (x 1) (x 2) := by
  idx_vars x
  obtain rfl : x0 = 0 := Subsingleton.elim _ _
  refine Eq.trans ?_ (congrArg (_ + ·) (dws_eq (B a g) _ _))
  pointwise [k0_pay46]

theorem more19_at (a g : Fin 4) (y : Vec Ideal S1x128x128 .f32) (x : S1x128x128.Idx) : X.more19 a g y x = y x + term19 x7 x11 t g a (x 1) (x 2) := by
  idx_vars x
  obtain rfl : x0 = 0 := Subsingleton.elim _ _
  refine Eq.trans ?_ (congrArg (_ + ·) (dbs_eq (B a g) _ _))
  pointwise [k0_pay47]

theorem next17_at (M : Memref sig .tc .vmem S1x512 .f32) (y : Vec Ideal S1x512 .f32) (g : Fin 4) (c : Fin 128) :
    View.canon (X.next17 M y) (ix2 0 (col g c)) = y (ix2 0 (col g c)) + ∑ a : Fin 4, term17 x7 x9 x11 t g a c := by
  rw [lane_idx g c]
  exact over_begins M.view (fun g => ![0, g.val * 128]) S1x128.size inb_lane apart_lane X.more17 (fun g a x => term17 x7 x9 x11 t g a (x 1)) (fun g a y x => more17_at B a g y x) y g (ix2 0 c)

theorem first17_at (M : Memref sig .tc .vmem S1x512 .f32) (g : Fin 4) (c : Fin 128) :
    View.canon (X.first17 M) (ix2 0 (col g c)) = ∑ a : Fin 4, term17 x7 x9 x11 t g a c := by
  rw [lane_idx g c]
  refine (over_sweep M.view (fun g => ![0, g.val * 128]) S1x128.size inb_lane apart_lane X.more17 (fun g a x => term17 x7 x9 x11 t g a (x 1)) (fun g a y x => more17_at B a g y x) _ g (ix2 0 c)).trans ?_
  rw [View.canon_cons_unit_zero (S := S1x512) hz2]
  exact (congrArg (· + _) Ideal.ofBits_zero_f32).trans (zero_add _)

theorem next18_at (M : Memref sig .tc .vmem S4x128x128 .f32) (y : Vec Ideal S4x128x128 .f32) (g : Fin 4) (r c : Fin 128) :
    View.canon (X.next18 M y) (ix3 g r c) = y (ix3 g r c) + ∑ a : Fin 4, term18 x7 x8 x11 t g a r c := by
  rw [slab_idx g r c]
  exact over_begins M.view (fun g => ![g.val, 0, 0]) S1x128x128.size inb_slab apart_slab X.more18 (fun g a x => term18 x7 x8 x11 t g a (x 1) (x 2)) (fun g a y x => more18_at B a g y x) y g (ix3 0 r c)

theorem first18_at (M : Memref sig .tc .vmem S4x128x128 .f32) (g : Fin 4) (r c : Fin 128) :
    View.canon (X.first18 M) (ix3 g r c) = ∑ a : Fin 4, term18 x7 x8 x11 t g a r c := by
  rw [slab_idx g r c]
  refine (over_sweep M.view (fun g => ![g.val, 0, 0]) S1x128x128.size inb_slab apart_slab X.more18 (fun g a x => term18 x7 x8 x11 t g a (x 1) (x 2)) (fun g a y x => more18_at B a g y x) _ g (ix3 0 r c)).trans ?_
  rw [View.canon_cons_unit_zero (S := S4x128x128) hz3]
  exact (congrArg (· + _) Ideal.ofBits_zero_f32).trans (zero_add _)

theorem next19_at (M : Memref sig .tc .vmem S4x128x128 .f32) (y : Vec Ideal S4x128x128 .f32) (g : Fin 4) (r c : Fin 128) :
    View.canon (X.next19 M y) (ix3 g r c) = y (ix3 g r c) + ∑ a : Fin 4, term19 x7 x11 t g a r c := by
  rw [slab_idx g r c]
  exact over_begins M.view (fun g => ![g.val, 0, 0]) S1x128x128.size inb_slab apart_slab X.more19 (fun g a x => term19 x7 x11 t g a (x 1) (x 2)) (fun g a y x => more19_at B a g y x) y g (ix3 0 r c)

theorem first19_at (M : Memref sig .tc .vmem S4x128x128 .f32) (g : Fin 4) (r c : Fin 128) :
    View.canon (X.first19 M) (ix3 g r c) = ∑ a : Fin 4, term19 x7 x11 t g a r c := by
  rw [slab_idx g r c]
  refine (over_sweep M.view (fun g => ![g.val, 0, 0]) S1x128x128.size inb_slab apart_slab X.more19 (fun g a x => term19 x7 x11 t g a (x 1) (x 2)) (fun g a y x => more19_at B a g y x) _ g (ix3 0 r c)).trans ?_
  rw [View.canon_cons_unit_zero (S := S4x128x128) hz3]
  exact (congrArg (· + _) Ideal.ofBits_zero_f32).trans (zero_add _)

theorem last19_at (M : Memref sig .tc .vmem S4x128x128 .f32) (y : Vec Ideal S4x128x128 .f32) (g : Fin 4) (r c : Fin 128) :
    View.canon (X.last19 M y) (ix3 g r c) = ∑ k : Fin 128, (y (ix3 g r k) + ∑ a : Fin 4, term19 x7 x11 t g a r k) := by
  rw [View.canon_cons_unit_zero (S := S4x128x128) hz3, View.readCov_eq_canon']
  pointwise [k0_pay4]
  refine Finset.sum_congr rfl fun k _ => ?_
  refine Eq.trans (congrArg (View.canon (X.next19 M y)) (at3 _ _ _ _ ?_ ?_ ?_)) (next19_at B M y g r k)
  · rfl
  · rfl
  · rfl

omit B in
/-- The reference's gradient of the three gated parts, one column range each. -/
theorem ref_part (n : Fin 32) (g : Fin 4) (r c : Fin 128) :
    val_main_v180 (F := Ideal) x7 x8 x9 x10 x11 (ix2 (row n r) ⟨0 * 512 + g.val * 128 + c.val, by omega⟩) = val_main_v118 (F := Ideal) x7 x8 x9 x10 x11 (ix3 0 (row n r) (col g c))
    ∧ val_main_v180 (F := Ideal) x7 x8 x9 x10 x11 (ix2 (row n r) ⟨1 * 512 + g.val * 128 + c.val, by omega⟩) = val_main_v107 (F := Ideal) x7 x8 x9 x11 (ix3 0 (row n r) (col g c))
    ∧ val_main_v180 (F := Ideal) x7 x8 x9 x10 x11 (ix2 (row n r) ⟨2 * 512 + g.val * 128 + c.val, by omega⟩) = val_main_v60 (F := Ideal) x7 x8 x9 x10 x11 (ix3 0 (row n r) (col g c)) := by
  refine ⟨?_, ?_, ?_⟩ <;> pointwise [val_main_v180, val_main_v121, val_main_v120, val_main_cst_21] <;> rw [Fin.sum_univ_one]
  · rw [dif_pos (by omega)]
  · rw [dif_neg (by omega), dif_pos (by omega)]
    exact congrArg _ (at3 _ _ _ _ rfl rfl (by show 512 + g.val * 128 + c.val - 512 = g.val * 128 + c.val; omega))
  · rw [dif_neg (by omega), dif_neg (by omega)]
    exact congrArg _ (at3 _ _ _ _ rfl rfl (by show 1024 + g.val * 128 + c.val - 512 - 512 = g.val * 128 + c.val; omega))

theorem part_at (p : Fin 3) (a g : Fin 4) (r c : Fin 128) : X.part p a g (ix2 r c)
    = val_main_v180 (F := Ideal) x7 x8 x9 x10 x11 (ix2 (row (chunk t a) r) ⟨p.val * 512 + g.val * 128 + c.val, by omega⟩) := by
  match p with
  | 0 => exact (dau_eq (B a g) r c).trans (ref_part (chunk t a) g r c).1.symm
  | 1 => exact (dav_eq (B a g) r c).trans (ref_part (chunk t a) g r c).2.1.symm
  | 2 => exact (dag_eq (B a g) r c).trans (ref_part (chunk t a) g r c).2.2.symm

/-- The tile's rows of the gated parts' gradient. -/
theorem list16_at (R : Fin 512) (C : Fin 1536) : View.canon X.list16 (ix2 R C)
    = val_main_v180 (F := Ideal) x7 x8 x9 x10 x11 (ix2 (trow t R) C) := by
  have four : ∀ a : Fin 4, a ∈ ([3, 2, 1, 0] : List (Fin 4)) := by decide
  have three : ∀ a : Fin 3, a ∈ ([2, 1, 0] : List (Fin 3)) := by decide
  refine View.canon_eq_of_allAt _ _ _ ?_ ?_
  · refine ⟨X.put16 ⟨C.val / 512, by omega⟩ ⟨R.val / 128, by omega⟩ ⟨C.val % 512 / 128, by omega⟩,
      List.mem_flatMap.mpr ⟨_, four _, List.mem_flatMap.mpr ⟨_, four _, List.mem_map.mpr ⟨_, three _, rfl⟩⟩⟩, ?_⟩
    rw [Rect.mem_set_unit]
    intro k
    match k with
    | ⟨0, _⟩ => show R.val / 128 * 128 ≤ R.val ∧ R.val < R.val / 128 * 128 + 128; omega
    | ⟨1, _⟩ => show C.val / 512 * 512 + C.val % 512 / 128 * 128 ≤ C.val ∧ C.val < C.val / 512 * 512 + C.val % 512 / 128 * 128 + 128; omega
  · intro q hq x hx
    obtain ⟨a, _, hq⟩ := List.mem_flatMap.mp hq
    obtain ⟨g, _, hq⟩ := List.mem_flatMap.mp hq
    obtain ⟨p, _, rfl⟩ := List.mem_map.mp hq
    have h0 : a.val * 128 + 1 * (x 0).val = R.val := congrArg Fin.val (congrFun hx 0)
    have h1 : p.val * 512 + g.val * 128 + 1 * (x 1).val = C.val := congrArg Fin.val (congrFun hx 1)
    refine Eq.trans ?_ ((part_at B p a g ⟨(x 0).val, (x 0).isLt⟩ ⟨(x 1).val, (x 1).isLt⟩).trans ?_)
    · exact congrArg (X.part p a g) (at2 _ _ _ rfl rfl)
    · refine congrArg _ (at2 _ _ _ ?_ ?_)
      · show (t.val * 4 + a.val) * 128 + (x 0).val = t.val * 512 + R.val; omega
      · show p.val * 512 + g.val * 128 + (x 1).val = C.val; omega

section Weight

variable {x0 : Vec Ideal S4096x1024 .f32} {x1 x2 x3 : Vec Ideal S1x1024 .f32} {x4 : Vec Ideal Cert.DwRefIdeal.S256x1024 .f32} {x5 x6 : Vec Ideal S1x1024 .f32}
  {x12 x13 x14 x15 : Vec Ideal S4096x512 .bf16} {x16 x17 : Vec Ideal S256x512 .f32}

variable (x0 x1 x2 x3 x4 x5 x6 x12 x13 x14 x15 x16 x17) in
/-- The other blocks of tile `t`: the input rows, the four gradients' rows, and the context's three blocks whole. -/
structure Others (X : Ins) (t : Fin 8) : Prop where
  hh : ∀ (r : Fin 512) (k : Fin 1024), X.h (ix2 r k) = val_main_v147 (F := Ideal) x0 x1 x2 x3 (ix2 (trow t r) k)
  h0 : ∀ r c : Fin 512, X.d 0 (ix2 r c) = x12 (ix2 (trow t r) c)
  h1 : ∀ r c : Fin 512, X.d 1 (ix2 r c) = x13 (ix2 (trow t r) c)
  h2 : ∀ r c : Fin 512, X.d 2 (ix2 r c) = x14 (ix2 (trow t r) c)
  h3 : ∀ r c : Fin 512, X.d 3 (ix2 r c) = x15 (ix2 (trow t r) c)
  hc : ∀ (r : Fin 256) (k : Fin 1024), X.hc (ix2 r k) = val_main_v167 (F := Ideal) x3 x4 x5 x6 (ix2 r k)
  hk : X.ck = x16
  hv : X.cv = x17

variable (x0 x1 x2 x3 x7 x8 x9 x10 x11 x12 x13 x14 x15 t) in
/-- What a tile adds to an entry of the weight's gradient. -/
abbrev prod (k : Fin 1024) (l : Fin 3584) : EReal :=
  ∑ r : Fin 512, val_main_v147 (F := Ideal) x0 x1 x2 x3 (ix2 (trow t r) k) * val_main_v126 (F := Ideal) x7 x8 x9 x10 x11 x12 x13 x14 x15 (ix2 (trow t r) l)

variable (O : Others x0 x1 x2 x3 x4 x5 x6 x12 x13 x14 x15 x16 x17 X t)

omit B

/-- The reference's whole gradient at its columns. -/
theorem ref_cols (R : Fin 4096) (c : Fin 512) :
    val_main_v126 (F := Ideal) x7 x8 x9 x10 x11 x12 x13 x14 x15 (ix2 R ⟨1536 + 0 * 512 + c.val, by omega⟩) = x12 (ix2 R c)
    ∧ val_main_v126 (F := Ideal) x7 x8 x9 x10 x11 x12 x13 x14 x15 (ix2 R ⟨1536 + 1 * 512 + c.val, by omega⟩) = x13 (ix2 R c)
    ∧ val_main_v126 (F := Ideal) x7 x8 x9 x10 x11 x12 x13 x14 x15 (ix2 R ⟨1536 + 2 * 512 + c.val, by omega⟩) = x14 (ix2 R c)
    ∧ val_main_v126 (F := Ideal) x7 x8 x9 x10 x11 x12 x13 x14 x15 (ix2 R ⟨1536 + 3 * 512 + c.val, by omega⟩) = x15 (ix2 R c) := by
  refine ⟨?_, ?_, ?_, ?_⟩ <;> pointwise [val_main_v126, val_main_v122, val_main_v123, val_main_v124, val_main_v125]
  · rw [dif_neg (by omega), dif_neg (by omega), dif_pos (by omega)]
    exact congrArg x13 (at2 _ _ _ rfl (by show 2048 + c.val - 1536 - 512 = c.val; omega))
  · rw [dif_neg (by omega), dif_neg (by omega), dif_neg (by omega), dif_pos (by omega)]
    exact congrArg x14 (at2 _ _ _ rfl (by show 2560 + c.val - 1536 - 512 - 512 = c.val; omega))
  · rw [dif_neg (by omega), dif_neg (by omega), dif_neg (by omega), dif_neg (by omega)]
    exact congrArg x15 (at2 _ _ _ rfl (by show 3072 + c.val - 1536 - 512 - 512 - 512 = c.val; omega))

theorem ref_left (R : Fin 4096) (l : Fin 1536) :
    val_main_v126 (F := Ideal) x7 x8 x9 x10 x11 x12 x13 x14 x15 (ix2 R ⟨l.val, by omega⟩) = val_main_v180 (F := Ideal) x7 x8 x9 x10 x11 (ix2 R l) := by
  pointwise [val_main_v126, val_main_v180]

theorem ref_ctx (k : Fin 1024) (c : Fin 512) :
    val_main_v176 (F := Ideal) x3 x4 x5 x6 x16 x17 (ix2 k ⟨1536 + 1 * 512 + c.val, by omega⟩) = ∑ r : Fin 256, val_main_v167 (F := Ideal) x3 x4 x5 x6 (ix2 r k) * x16 (ix2 r c)
    ∧ val_main_v176 (F := Ideal) x3 x4 x5 x6 x16 x17 (ix2 k ⟨1536 + 2 * 512 + c.val, by omega⟩) = ∑ r : Fin 256, val_main_v167 (F := Ideal) x3 x4 x5 x6 (ix2 r k) * x17 (ix2 r c) := by
  refine ⟨?_, ?_⟩ <;> pointwise [val_main_v176, val_main_v175, val_main_v174, val_main_v173, val_main_cst_31]
  · rw [dif_pos (by omega)]
    exact Finset.sum_congr rfl fun r _ => mul_comm _ _
  · rw [dif_pos (by omega)]
    refine Finset.sum_congr rfl fun r _ => ?_
    rw [dif_neg (by omega), mul_comm]
    exact congrArg (_ * x17 ·) (at2 _ _ _ rfl (by show 2560 + c.val - 2048 - 512 = c.val; omega))

theorem ref_off (k : Fin 1024) (l : Fin 3584) (h : l.val < 2048 ∨ 3072 ≤ l.val) : val_main_v176 (F := Ideal) x3 x4 x5 x6 x16 x17 (ix2 k l) = 0 := by
  pointwise [val_main_v176, val_main_cst_31]
  rw [dif_neg (by omega)]

theorem more15_at (g : Fin 4) (y : Vec Ideal S1024x512 .f32) (k : Fin 1024) (c : Fin 512) :
    X.more15 g y (ix2 k c) = y (ix2 k c) + ∑ r : Fin 512, X.h (ix2 r k) * X.d g (ix2 r c) := by
  dsimp only [Ins.more15, Ins.hw]
  rw [View.ld_unit_zero (S := S512x1024) hz2, View.ld_unit_zero (S := S512x512) hz2]
  pointwise [k0_pay13, k0_pay12]

theorem ctxk_at (g : Fin 4) (y : Vec Ideal S1024x512 .f32) (k : Fin 1024) (c : Fin 512) :
    X.ctxk g y (ix2 k c) = y (ix2 k c) + ∑ r : Fin 256, X.hc (ix2 r k) * X.ck (ix2 r c) := by
  dsimp only [Ins.ctxk, Ins.hcw]
  rw [View.ld_unit_zero (S := S256x1024) hz2, View.ld_unit_zero (S := S256x512) hz2]
  pointwise [k0_pay10, k0_pay9]

theorem ctxv_at (g : Fin 4) (y : Vec Ideal S1024x512 .f32) (k : Fin 1024) (c : Fin 512) :
    X.ctxv g y (ix2 k c) = y (ix2 k c) + ∑ r : Fin 256, X.hc (ix2 r k) * X.cv (ix2 r c) := by
  dsimp only [Ins.ctxv, Ins.hcw]
  rw [View.ld_unit_zero (S := S256x1024) hz2, View.ld_unit_zero (S := S256x512) hz2]
  pointwise [k0_pay11, k0_pay9]

theorem left15_at (D : Memref sig .tc .vmem S512x1536 .bf16) (y : Vec Ideal S1024x1536 .f32) (k : Fin 1024) (l : Fin 1536) :
    X.left15 D y (ix2 k l) = y (ix2 k l) + ∑ r : Fin 512, X.h (ix2 r k) * View.canon X.list16 (ix2 r l) := by
  dsimp only [Ins.left15, Ins.hw]
  rw [View.ld_unit_zero (S := S512x1024) hz2, View.readCov_eq_canon']
  pointwise [k0_pay3, k0_pay12]

/-- A column index past the gated parts is one of four ranges. -/
theorem range_idx (k : Fin 1024) (g : Fin 4) (c : Fin 512) : (ix2 k ⟨1536 + g.val * 512 + c.val, by omega⟩ : S1024x3584.Idx)
    = (Rect.unit (s := S1024x3584) ![0, 1536 + g.val * 512] S1024x512.size (inb_cols g)).emb (ix2 k c) :=
  (at2 _ _ _ (by show 0 + 1 * k.val = k.val; omega) (by show 1536 + g.val * 512 + 1 * c.val = 1536 + g.val * 512 + c.val; omega)).symm

theorem left_idx (k : Fin 1024) (l : Fin 1536) : (ix2 k ⟨l.val, by omega⟩ : S1024x3584.Idx)
    = (Rect.unit (s := S1024x3584) ![0, 0] ![1024, 1536] inb_S1024x3584_S1024x1536_0_0).emb (ix2 k l) :=
  (at2 _ _ _ (by show 0 + 1 * k.val = k.val; omega) (by show 0 + 1 * l.val = l.val; omega)).symm

theorem right_off (k : Fin 1024) (g : Fin 4) (c : Fin 512) : (ix2 k ⟨1536 + g.val * 512 + c.val, by omega⟩ : S1024x3584.Idx)
    ∉ (Rect.unit (s := S1024x3584) ![0, 0] ![1024, 1536] inb_S1024x3584_S1024x1536_0_0).set := by
  intro hm
  rw [Rect.mem_set_unit] at hm
  have h1 : 1536 + g.val * 512 + c.val < 0 + 1536 := (hm 1).2
  omega

/-- A store over the gated parts' columns, read in the four ranges and read there. -/
theorem put_off (w : Vec Ideal S1024x1536 .f32) (L : List (View.Piece (Elt Ideal) S1024x3584 .f32)) (k : Fin 1024) (g : Fin 4) (c : Fin 512) :
    View.canon (Ins.put15 w :: L) (ix2 k ⟨1536 + g.val * 512 + c.val, by omega⟩) = View.canon L ((Rect.unit (s := S1024x3584) ![0, 1536 + g.val * 512] S1024x512.size (inb_cols g)).emb (ix2 k c)) :=
  (View.canon_cons_of_not_mem (Ins.put15 w) L (right_off k g c)).trans (congrArg (View.canon L) (range_idx k g c))

theorem put_on (w : Vec Ideal S1024x1536 .f32) (L : List (View.Piece (Elt Ideal) S1024x3584 .f32)) (k : Fin 1024) (l : Fin 1536) :
    View.canon (Ins.put15 w :: L) (ix2 k ⟨l.val, by omega⟩) = w (ix2 k l) := by
  rw [left_idx, View.canon_cons_emb]

/-- Every column is one of the gated parts' or one of the four ranges'. -/
theorem split_col {P : Fin 3584 → Prop} (hl : ∀ l : Fin 1536, P ⟨l.val, by omega⟩) (hr : ∀ (g : Fin 4) (c : Fin 512), P ⟨1536 + g.val * 512 + c.val, by omega⟩) (l : Fin 3584) : P l := by
  by_cases h : l.val < 1536
  · exact hl ⟨l.val, h⟩
  · have e : l = ⟨1536 + (⟨(l.val - 1536) / 512, by omega⟩ : Fin 4).val * 512 + (⟨(l.val - 1536) % 512, by omega⟩ : Fin 512).val, by dsimp only; omega⟩ := Fin.ext (by dsimp only; omega)
    rw [e]
    exact hr _ _

include O

theorem prod_right (g : Fin 4) (k : Fin 1024) (c : Fin 512) :
    ∑ r : Fin 512, X.h (ix2 r k) * X.d g (ix2 r c) = prod x7 x8 x9 x10 x11 t x0 x1 x2 x3 x12 x13 x14 x15 k ⟨1536 + g.val * 512 + c.val, by omega⟩ := by
  refine Finset.sum_congr rfl fun r _ => ?_
  rw [O.hh]
  refine congrArg (val_main_v147 (F := Ideal) x0 x1 x2 x3 (ix2 (trow t r) k) * ·) ?_
  match g with
  | 0 => exact (O.h0 r c).trans (ref_cols _ c).1.symm
  | 1 => exact (O.h1 r c).trans (ref_cols _ c).2.1.symm
  | 2 => exact (O.h2 r c).trans (ref_cols _ c).2.2.1.symm
  | 3 => exact (O.h3 r c).trans (ref_cols _ c).2.2.2.symm

include B in
theorem prod_left (k : Fin 1024) (l : Fin 1536) :
    ∑ r : Fin 512, X.h (ix2 r k) * View.canon X.list16 (ix2 r l) = prod x7 x8 x9 x10 x11 t x0 x1 x2 x3 x12 x13 x14 x15 k ⟨l.val, by omega⟩ := by
  refine Finset.sum_congr rfl fun r _ => ?_
  rw [O.hh, list16_at B]
  exact congrArg (_ * ·) (ref_left _ l).symm

include B in
theorem next15_at (D : Memref sig .tc .vmem S512x1536 .bf16) (y : Vec Ideal S1024x3584 .f32) (k : Fin 1024) (l : Fin 3584) :
    View.canon (X.next15 D y) (ix2 k l) = y (ix2 k l) + prod x7 x8 x9 x10 x11 t x0 x1 x2 x3 x12 x13 x14 x15 k l := by
  refine split_col (P := fun l => View.canon (X.next15 D y) (ix2 k l) = y (ix2 k l) + prod x7 x8 x9 x10 x11 t x0 x1 x2 x3 x12 x13 x14 x15 k l) (fun l => ?_) (fun g c => ?_) l
  · refine (put_on (X.left15 D (View.ld y (Rect.unit (s := S1024x3584) ![0, 0] ![1024, 1536] inb_S1024x3584_S1024x1536_0_0)))
      (begins (fun g => ![0, 1536 + g.val * 512]) S1024x512.size inb_cols X.more15 y) k l).trans ?_
    rw [left15_at, prod_left B O]
    exact congrArg (y · + _) (left_idx k l).symm
  · refine (put_off (X.left15 D (View.ld y (Rect.unit (s := S1024x3584) ![0, 0] ![1024, 1536] inb_S1024x3584_S1024x1536_0_0)))
      (begins (fun g => ![0, 1536 + g.val * 512]) S1024x512.size inb_cols X.more15 y) k g c).trans ?_
    refine (begins_eq (s := S1024x3584) (e := .f32) (fun g : Fin 4 => ![0, 1536 + g.val * 512]) S1024x512.size inb_cols X.more15 apart_cols y g (ix2 k c)).trans ?_
    rw [more15_at, prod_right (x7 := x7) (x8 := x8) (x9 := x9) (x10 := x10) (x11 := x11) O]
    exact congrArg (y · + _) (range_idx k g c).symm

theorem init_at (M : Memref sig .tc .vmem S1024x3584 .f32) (k : Fin 1024) (l : Fin 3584) :
    View.canon (X.init15 M) (ix2 k l) = val_main_v176 (F := Ideal) x3 x4 x5 x6 x16 x17 (ix2 k l) := by
  let off : Fin 4 → Fin S1024x3584.rank → Nat := fun g => ![0, 1536 + g.val * 512]
  let L0 : List (View.Piece (Elt Ideal) S1024x3584 .f32) := [⟨Rect.unit (s := S1024x3584) ![0, 0] S1024x3584.size inb_S1024x3584_S1024x3584_0_0, (k0_pay5 (F := Ideal))⟩]
  let L1 : List (View.Piece (Elt Ideal) S1024x3584 .f32) := touch M.view off S1024x512.size inb_cols X.ctxk 1 L0
  have z : ∀ i, View.canon L0 i = (0 : EReal) := fun i => by
    show View.canon ([⟨Rect.unit (s := S1024x3584) ![0, 0] S1024x3584.size inb_S1024x3584_S1024x3584_0_0, (k0_pay5 (F := Ideal))⟩] : List (View.Piece (Elt Ideal) S1024x3584 .f32)) i = _
    rw [View.canon_cons_unit_zero (S := S1024x3584) hz2]
    exact Ideal.ofBits_zero_f32
  have o1 := fun g h x => touch_other (s := S1024x3584) (e := .f32) M.view off S1024x512.size inb_cols X.ctxk L0 apart_cols g 1 h x
  have o2 := fun g h x => touch_other (s := S1024x3584) (e := .f32) M.view off S1024x512.size inb_cols X.ctxv L1 apart_cols g 2 h x
  have s1 := fun x => touch_same (s := S1024x3584) (e := .f32) M.view off S1024x512.size inb_cols X.ctxk L0 1 x
  have s2 := fun x => touch_same (s := S1024x3584) (e := .f32) M.view off S1024x512.size inb_cols X.ctxv L1 2 x
  show View.canon (touch M.view off S1024x512.size inb_cols X.ctxv 2 L1) (ix2 k l) = _
  generalize hL : touch M.view off S1024x512.size inb_cols X.ctxv 2 L1 = L2 at *
  refine split_col (P := fun l => View.canon L2 (ix2 k l) = val_main_v176 (F := Ideal) x3 x4 x5 x6 x16 x17 (ix2 k l)) (fun l => ?_) (fun g c => ?_) l
  · rw [← hL]
    refine (touch_off (s := S1024x3584) M.view off S1024x512.size inb_cols X.ctxv L1 2 _ (apart_left k ⟨l.val, by omega⟩ l.isLt 2)).trans ?_
    refine (touch_off (s := S1024x3584) M.view off S1024x512.size inb_cols X.ctxk L0 1 _ (apart_left k ⟨l.val, by omega⟩ l.isLt 1)).trans ((z _).trans ?_)
    exact (ref_off _ _ (Or.inl (by show l.val < 2048; omega))).symm
  · revert g
    have h0 : View.canon L2 (ix2 k ⟨1536 + 0 * 512 + c.val, by omega⟩) = val_main_v176 (F := Ideal) x3 x4 x5 x6 x16 x17 (ix2 k ⟨1536 + 0 * 512 + c.val, by omega⟩) :=
      (congrArg (View.canon L2) (range_idx k 0 c)).trans ((o2 0 (by decide) _).trans ((o1 0 (by decide) _).trans ((z _).trans
        (ref_off _ _ (Or.inl (by show 1536 + 0 * 512 + c.val < 2048; omega))).symm)))
    have h1 : View.canon L2 (ix2 k ⟨1536 + 1 * 512 + c.val, by omega⟩) = val_main_v176 (F := Ideal) x3 x4 x5 x6 x16 x17 (ix2 k ⟨1536 + 1 * 512 + c.val, by omega⟩) := by
      refine Eq.trans (congrArg (View.canon L2) (range_idx k 1 c)) (Eq.trans ?_ (ref_ctx k c).1.symm)
      refine (o2 1 (by decide) _).trans ((s1 _).trans ((ctxk_at 1 _ k c).trans ?_))
      rw [z, zero_add, O.hk]
      exact Finset.sum_congr rfl fun r _ => by rw [O.hc]
    have h2 : View.canon L2 (ix2 k ⟨1536 + 2 * 512 + c.val, by omega⟩) = val_main_v176 (F := Ideal) x3 x4 x5 x6 x16 x17 (ix2 k ⟨1536 + 2 * 512 + c.val, by omega⟩) := by
      refine Eq.trans (congrArg (View.canon L2) (range_idx k 2 c)) (Eq.trans ?_ (ref_ctx k c).2.symm)
      refine (s2 _).trans ((ctxv_at 2 _ k c).trans ?_)
      rw [O.hv, o1 2 (by decide), z, zero_add]
      exact Finset.sum_congr rfl fun r _ => by rw [O.hc]
    have h3 : View.canon L2 (ix2 k ⟨1536 + 3 * 512 + c.val, by omega⟩) = val_main_v176 (F := Ideal) x3 x4 x5 x6 x16 x17 (ix2 k ⟨1536 + 3 * 512 + c.val, by omega⟩) :=
      (congrArg (View.canon L2) (range_idx k 3 c)).trans ((o2 3 (by decide) _).trans ((o1 3 (by decide) _).trans ((z _).trans
        (ref_off _ _ (Or.inr (by show 3072 ≤ 1536 + 3 * 512 + c.val; omega))).symm)))
    intro g
    match g with
    | 0 => exact h0
    | 1 => exact h1
    | 2 => exact h2
    | 3 => exact h3

include B in
theorem first15_at (M : Memref sig .tc .vmem S1024x3584 .f32) (D : Memref sig .tc .vmem S512x1536 .bf16) (k : Fin 1024) (l : Fin 3584) :
    View.canon (X.first15 M D) (ix2 k l) = val_main_v176 (F := Ideal) x3 x4 x5 x6 x16 x17 (ix2 k l) + prod x7 x8 x9 x10 x11 t x0 x1 x2 x3 x12 x13 x14 x15 k l := by
  refine split_col (P := fun l => View.canon (X.first15 M D) (ix2 k l) = val_main_v176 (F := Ideal) x3 x4 x5 x6 x16 x17 (ix2 k l) + prod x7 x8 x9 x10 x11 t x0 x1 x2 x3 x12 x13 x14 x15 k l) (fun l => ?_) (fun g c => ?_) l
  · refine (put_on (X.left15 D (M.view.readCov (X.pre15 M) (Rect.unit (s := S1024x3584) ![0, 0] ![1024, 1536] inb_S1024x3584_S1024x1536_0_0).toLoadRect)) (X.pre15 M) k l).trans ?_
    rw [left15_at, prod_left B O, View.readCov_eq_canon']
    have e : View.canon (X.pre15 M) ((Rect.unit (s := S1024x3584) ![0, 0] ![1024, 1536] inb_S1024x3584_S1024x1536_0_0).emb (ix2 k l))
        = val_main_v176 (F := Ideal) x3 x4 x5 x6 x16 x17 (ix2 k ⟨l.val, by omega⟩) := by
      rw [← left_idx k l]
      exact (sweep_off (s := S1024x3584) (e := .f32) M.view (fun g : Fin 4 => ![0, 1536 + g.val * 512]) S1024x512.size inb_cols X.more15 (X.init15 M) _ (apart_left k ⟨l.val, by omega⟩ l.isLt)).trans (init_at O M k _)
    rw [← e]
    rfl
  · refine (put_off (X.left15 D (M.view.readCov (X.pre15 M) (Rect.unit (s := S1024x3584) ![0, 0] ![1024, 1536] inb_S1024x3584_S1024x1536_0_0).toLoadRect)) (X.pre15 M) k g c).trans ?_
    refine (sweep_eq (s := S1024x3584) (e := .f32) M.view (fun g : Fin 4 => ![0, 1536 + g.val * 512]) S1024x512.size inb_cols X.more15 (X.init15 M) apart_cols g (ix2 k c)).trans ?_
    rw [more15_at, prod_right (x7 := x7) (x8 := x8) (x9 := x9) (x10 := x10) (x11 := x11) O]
    rw [← range_idx k g c, init_at O M k _]

end Weight

end Terms

end Cert.DwBwdIdeal.Value
end
-- ==== Proof.DwBlocks.lean ====
/-
  The gating's backward call: which rows and columns of which array each block of a grid point holds.
-/
module

public import proofs.«01_k».proof.Proof.DwPoint
public import Idealize.ShloMosaic.Lib.Pipeline.Value

@[expose] public section

set_option maxRecDepth 16384

noncomputable section

namespace Cert.DwBwdIdeal.Value

open Cert.DwBwdIdeal Cert.DwBwdIdeal.Gen Cert.DwPair Idealize.ShloMosaic Idealize.ShloMosaic.TcCoe Idealize.SL.Sem
open Cert.DwRefIdeal.Read

variable (m : (ℓ : Loc nD τ sig) → Buf (Elt Ideal) ℓ)

/-- The array behind a name at the start. -/
abbrev A (c : Dev nD) (b : Ref sig .tc) : Buf (Elt Ideal) ((c : Thread nD τ).loc b) := m ((c : Thread nD τ).loc b)

theorem N8 (t : Fin cfg0.N) : t.val < 8 := lt_of_lt_of_eq t.isLt N_0

/-- A grid point as a tile's number. -/
abbrev pt (t : Fin cfg0.N) : Fin 8 := ⟨t.val, N8 t⟩

/-! The input rows before the projection, prepared by the host with the forward lines. -/

theorem host_h (c : Dev nD) (r : Fin 4096) (k : Fin 1024) : (V m c main_v18 : Vec Ideal S4096x1024 .bf16) (ix2 r k)
    = val_main_v147 (F := Ideal) (A m c main_arg0) (A m c main_arg1) (A m c main_arg2) (A m c main_arg3) (ix2 r k) := by
  entry_read
  pointwise [val_main_v147, val_main_v146, val_main_v145, val_main_v144, val_main_v143, val_main_v142, val_main_v141, val_main_v140, val_main_v139, val_main_v138,
    val_main_v137, val_main_v136, val_main_v135, val_main_v134, val_main_v133, val_main_v132, val_main_v131, val_main_v130, val_main_v129, val_main_v128,
    val_main_cst_23, val_main_cst_24, val_main_cst_25, val_main_cst_26]

theorem host_hc (c : Dev nD) (r : Fin 256) (k : Fin 1024) : (V m c main_v37 : Vec Ideal S256x1024 .bf16) (ix2 r k)
    = val_main_v167 (F := Ideal) (A m c main_arg3) (A m c main_arg4) (A m c main_arg5) (A m c main_arg6) (ix2 r k) := by
  entry_read
  pointwise [val_main_v167, val_main_v166, val_main_v165, val_main_v164, val_main_v163, val_main_v162, val_main_v161, val_main_v160, val_main_v159, val_main_v158,
    val_main_v157, val_main_v156, val_main_v155, val_main_v154, val_main_v153, val_main_v152, val_main_v151, val_main_v150, val_main_v149, val_main_v148,
    val_main_cst_27, val_main_cst_28, val_main_cst_29, val_main_cst_30]

theorem blk4 (c : Dev nD) (t : Fin cfg0.N) : (iblk m c 4 t : Vec Ideal S1x512 .f32) = A m c main_arg8 := by
  have hz' : (fun a => win0_4.index t a * main_arg8.ty.shape.size a) = fun _ => 0 := by
    rcases fin_N0 t with rfl | rfl | rfl | rfl | rfl | rfl | rfl | rfl <;> exact funext fun a => by fin_cases a <;> decide +kernel
  exact (Memref.read_access_unit_zero (Elt Ideal) main_arg8 hz' (fun a => by rw [congrFun hz' a]; simp) _).trans (V_main_arg8 m c)

theorem blk5 (c : Dev nD) (t : Fin cfg0.N) : (iblk m c 5 t : Vec Ideal S4x128x128 .f32) = A m c main_arg9 := by
  have hz' : (fun a => win0_5.index t a * main_arg9.ty.shape.size a) = fun _ => 0 := by
    rcases fin_N0 t with rfl | rfl | rfl | rfl | rfl | rfl | rfl | rfl <;> exact funext fun a => by fin_cases a <;> decide +kernel
  exact (Memref.read_access_unit_zero (Elt Ideal) main_arg9 hz' (fun a => by rw [congrFun hz' a]; simp) _).trans (V_main_arg9 m c)

theorem blk13 (c : Dev nD) (t : Fin cfg0.N) : (iblk m c 13 t : Vec Ideal S256x512 .f32) = A m c main_arg16 := by
  have hz' : (fun a => win0_13.index t a * main_arg16.ty.shape.size a) = fun _ => 0 := by
    rcases fin_N0 t with rfl | rfl | rfl | rfl | rfl | rfl | rfl | rfl <;> exact funext fun a => by fin_cases a <;> decide +kernel
  exact (Memref.read_access_unit_zero (Elt Ideal) main_arg16 hz' (fun a => by rw [congrFun hz' a]; simp) _).trans (V_main_arg16 m c)

theorem blk14 (c : Dev nD) (t : Fin cfg0.N) : (iblk m c 14 t : Vec Ideal S256x512 .f32) = A m c main_arg17 := by
  have hz' : (fun a => win0_14.index t a * main_arg17.ty.shape.size a) = fun _ => 0 := by
    rcases fin_N0 t with rfl | rfl | rfl | rfl | rfl | rfl | rfl | rfl <;> exact funext fun a => by fin_cases a <;> decide +kernel
  exact (Memref.read_access_unit_zero (Elt Ideal) main_arg17 hz' (fun a => by rw [congrFun hz' a]; simp) _).trans (V_main_arg17 m c)

/-- The bias, spread over a group's columns by the host. -/
theorem blk6 (c : Dev nD) (t : Fin cfg0.N) (k : Fin 4) (r l : Fin 128) :
    (iblk m c 6 t : Vec Ideal S4x128x128 .f32) (ix3 k r l) = (A m c main_arg10 : Vec Ideal S4x128 .f32) (ix2 k r) := by
  have hz' : (fun a => win0_6.index t a * main_v39.ty.shape.size a) = fun _ => 0 := by
    rcases fin_N0 t with rfl | rfl | rfl | rfl | rfl | rfl | rfl | rfl <;> exact funext fun a => by fin_cases a <;> decide +kernel
  rw [show (iblk m c 6 t : Vec Ideal S4x128x128 .f32) = V m c main_v39 from Memref.read_access_unit_zero (Elt Ideal) main_v39 hz' (fun a => by rw [congrFun hz' a]; simp) _]
  entry_read
  refine congrArg (A m c main_arg10 : Vec Ideal S4x128 .f32) (at2 _ _ _ rfl rfl)

theorem blk12 (c : Dev nD) (t : Fin cfg0.N) (r : Fin 256) (k : Fin 1024) :
    (iblk m c 12 t : Vec Ideal S256x1024 .bf16) (ix2 r k) = val_main_v167 (F := Ideal) (A m c main_arg3) (A m c main_arg4) (A m c main_arg5) (A m c main_arg6) (ix2 r k) := by
  have hz' : (fun a => win0_12.index t a * main_v37.ty.shape.size a) = fun _ => 0 := by
    rcases fin_N0 t with rfl | rfl | rfl | rfl | rfl | rfl | rfl | rfl <;> exact funext fun a => by fin_cases a <;> decide +kernel
  rw [show (iblk m c 12 t : Vec Ideal S256x1024 .bf16) = V m c main_v37 from Memref.read_access_unit_zero (Elt Ideal) main_v37 hz' (fun a => by rw [congrFun hz' a]; simp) _]
  exact host_hc m c r k

/-- Which tile a point reads of the arrays cut by rows, and which of their columns. -/
theorem idx_in (t : Fin cfg0.N) : (win0_0.index t 0 = t.val ∧ win0_0.index t 1 = 0) ∧ (win0_1.index t 0 = t.val ∧ win0_1.index t 1 = 0)
    ∧ (win0_2.index t 0 = t.val ∧ win0_2.index t 1 = 1) ∧ (win0_3.index t 0 = t.val ∧ win0_3.index t 1 = 2) ∧ (win0_7.index t 0 = t.val ∧ win0_7.index t 1 = 0) := by
  rcases fin_N0 t with rfl | rfl | rfl | rfl | rfl | rfl | rfl | rfl <;> decide +kernel

theorem idx_more (t : Fin cfg0.N) : (win0_8.index t 0 = t.val ∧ win0_8.index t 1 = 0) ∧ (win0_9.index t 0 = t.val ∧ win0_9.index t 1 = 0)
    ∧ (win0_10.index t 0 = t.val ∧ win0_10.index t 1 = 0) ∧ (win0_11.index t 0 = t.val ∧ win0_11.index t 1 = 0)
    ∧ (win0_16.index t 0 = t.val ∧ win0_16.index t 1 = 0) := by
  rcases fin_N0 t with rfl | rfl | rfl | rfl | rfl | rfl | rfl | rfl <;> decide +kernel

theorem blk0 (c : Dev nD) (t : Fin cfg0.N) (r : Fin 512) (k : Fin 1024) :
    (iblk m c 0 t : Vec Ideal S512x1024 .bf16) (ix2 r k) = val_main_v147 (F := Ideal) (A m c main_arg0) (A m c main_arg1) (A m c main_arg2) (A m c main_arg3) (ix2 (trow (pt t) r) k) := by
  unfold iblk
  rw [View.read_apply]
  refine Eq.trans ?_ (host_h m c (trow (pt t) r) k)
  refine congrArg (V m c main_v18 : Vec Ideal S4096x1024 .bf16) (at2 _ _ _ ?_ ?_)
  · show win0_0.index t 0 * 512 + 1 * r.val = t.val * 512 + r.val; rw [(idx_in t).1.1]; omega
  · show win0_0.index t 1 * 1024 + 1 * k.val = k.val; rw [(idx_in t).1.2]; omega

theorem blk1 (c : Dev nD) (t : Fin cfg0.N) (r l : Fin 512) :
    (iblk m c 1 t : Vec Ideal S512x512 .f32) (ix2 r l) = (A m c main_arg7 : Vec Ideal S4096x3584 .f32) (ix2 (trow (pt t) r) ⟨l.val, by omega⟩) := by
  unfold iblk
  rw [View.read_apply]
  show V m c main_arg7 _ = _
  rw [V_main_arg7 m c]
  refine congrArg (A m c main_arg7) (at2 _ _ _ ?_ ?_)
  · show win0_1.index t 0 * 512 + 1 * r.val = t.val * 512 + r.val; rw [(idx_in t).2.1.1]; omega
  · show win0_1.index t 1 * 512 + 1 * l.val = l.val; rw [(idx_in t).2.1.2]; omega

theorem blk2 (c : Dev nD) (t : Fin cfg0.N) (r l : Fin 512) :
    (iblk m c 2 t : Vec Ideal S512x512 .f32) (ix2 r l) = (A m c main_arg7 : Vec Ideal S4096x3584 .f32) (ix2 (trow (pt t) r) ⟨512 + l.val, by omega⟩) := by
  unfold iblk
  rw [View.read_apply]
  show V m c main_arg7 _ = _
  rw [V_main_arg7 m c]
  refine congrArg (A m c main_arg7) (at2 _ _ _ ?_ ?_)
  · show win0_2.index t 0 * 512 + 1 * r.val = t.val * 512 + r.val; rw [(idx_in t).2.2.1.1]; omega
  · show win0_2.index t 1 * 512 + 1 * l.val = 512 + l.val; rw [(idx_in t).2.2.1.2]; omega

theorem blk3 (c : Dev nD) (t : Fin cfg0.N) (r l : Fin 512) :
    (iblk m c 3 t : Vec Ideal S512x512 .f32) (ix2 r l) = (A m c main_arg7 : Vec Ideal S4096x3584 .f32) (ix2 (trow (pt t) r) ⟨1024 + l.val, by omega⟩) := by
  unfold iblk
  rw [View.read_apply]
  show V m c main_arg7 _ = _
  rw [V_main_arg7 m c]
  refine congrArg (A m c main_arg7) (at2 _ _ _ ?_ ?_)
  · show win0_3.index t 0 * 512 + 1 * r.val = t.val * 512 + r.val; rw [(idx_in t).2.2.2.1.1]; omega
  · show win0_3.index t 1 * 512 + 1 * l.val = 1024 + l.val; rw [(idx_in t).2.2.2.1.2]; omega

theorem blk7 (c : Dev nD) (t : Fin cfg0.N) (r l : Fin 512) :
    (iblk m c 7 t : Vec Ideal S512x512 .f32) (ix2 r l) = (A m c main_arg11 : Vec Ideal S4096x1024 .f32) (ix2 (trow (pt t) r) ⟨l.val, by omega⟩) := by
  unfold iblk
  rw [View.read_apply]
  show V m c main_arg11 _ = _
  rw [V_main_arg11 m c]
  refine congrArg (A m c main_arg11) (at2 _ _ _ ?_ ?_)
  · show win0_7.index t 0 * 512 + 1 * r.val = t.val * 512 + r.val; rw [(idx_in t).2.2.2.2.1]; omega
  · show win0_7.index t 1 * 512 + 1 * l.val = l.val; rw [(idx_in t).2.2.2.2.2]; omega

theorem blk8 (c : Dev nD) (t : Fin cfg0.N) (r l : Fin 512) :
    (iblk m c 8 t : Vec Ideal S512x512 .bf16) (ix2 r l) = (A m c main_arg12 : Vec Ideal S4096x512 .bf16) (ix2 (trow (pt t) r) l) := by
  unfold iblk
  rw [View.read_apply]
  show V m c main_arg12 _ = _
  rw [V_main_arg12 m c]
  refine congrArg (A m c main_arg12) (at2 _ _ _ ?_ ?_)
  · show win0_8.index t 0 * 512 + 1 * r.val = t.val * 512 + r.val; rw [(idx_more t).1.1]; omega
  · show win0_8.index t 1 * 512 + 1 * l.val = l.val; rw [(idx_more t).1.2]; omega

theorem blk9 (c : Dev nD) (t : Fin cfg0.N) (r l : Fin 512) :
    (iblk m c 9 t : Vec Ideal S512x512 .bf16) (ix2 r l) = (A m c main_arg13 : Vec Ideal S4096x512 .bf16) (ix2 (trow (pt t) r) l) := by
  unfold iblk
  rw [View.read_apply]
  show V m c main_arg13 _ = _
  rw [V_main_arg13 m c]
  refine congrArg (A m c main_arg13) (at2 _ _ _ ?_ ?_)
  · show win0_9.index t 0 * 512 + 1 * r.val = t.val * 512 + r.val; rw [(idx_more t).2.1.1]; omega
  · show win0_9.index t 1 * 512 + 1 * l.val = l.val; rw [(idx_more t).2.1.2]; omega

theorem blk10 (c : Dev nD) (t : Fin cfg0.N) (r l : Fin 512) :
    (iblk m c 10 t : Vec Ideal S512x512 .bf16) (ix2 r l) = (A m c main_arg14 : Vec Ideal S4096x512 .bf16) (ix2 (trow (pt t) r) l) := by
  unfold iblk
  rw [View.read_apply]
  show V m c main_arg14 _ = _
  rw [V_main_arg14 m c]
  refine congrArg (A m c main_arg14) (at2 _ _ _ ?_ ?_)
  · show win0_10.index t 0 * 512 + 1 * r.val = t.val * 512 + r.val; rw [(idx_more t).2.2.1.1]; omega
  · show win0_10.index t 1 * 512 + 1 * l.val = l.val; rw [(idx_more t).2.2.1.2]; omega

theorem blk11 (c : Dev nD) (t : Fin cfg0.N) (r l : Fin 512) :
    (iblk m c 11 t : Vec Ideal S512x512 .bf16) (ix2 r l) = (A m c main_arg15 : Vec Ideal S4096x512 .bf16) (ix2 (trow (pt t) r) l) := by
  unfold iblk
  rw [View.read_apply]
  show V m c main_arg15 _ = _
  rw [V_main_arg15 m c]
  refine congrArg (A m c main_arg15) (at2 _ _ _ ?_ ?_)
  · show win0_11.index t 0 * 512 + 1 * r.val = t.val * 512 + r.val; rw [(idx_more t).2.2.2.1.1]; omega
  · show win0_11.index t 1 * 512 + 1 * l.val = l.val; rw [(idx_more t).2.2.2.1.2]; omega

/-- A point's blocks together. -/
def blocks (c : Dev nD) (t : Fin cfg0.N) : Ins :=
  ins (iblk m c 0 t) (iblk m c 1 t) (iblk m c 2 t) (iblk m c 3 t) (iblk m c 4 t) (iblk m c 5 t) (iblk m c 6 t) (iblk m c 7 t) (iblk m c 8 t) (iblk m c 9 t) (iblk m c 10 t)
    (iblk m c 11 t) (iblk m c 12 t) (iblk m c 13 t) (iblk m c 14 t)

theorem tile_at (x : Vec Ideal S512x512 .f32) (a g : Fin 4) (r c : Fin 128) :
    tile x a g (ix2 r c) = x (ix2 ⟨a.val * 128 + r.val, by omega⟩ ⟨g.val * 128 + c.val, by omega⟩) :=
  congrArg x (at2 _ _ _ (by show a.val * 128 + 1 * r.val = a.val * 128 + r.val; omega) (by show g.val * 128 + 1 * c.val = g.val * 128 + c.val; omega))

theorem slab_at (x : Vec Ideal S4x128x128 .f32) (g : Fin 4) (r c : Fin 128) : slab x g (ix3 0 r c) = x (ix3 g r c) :=
  congrArg x (slab_idx g r c).symm

theorem lane_at (x : Vec Ideal S1x512 .f32) (g : Fin 4) (c : Fin 128) : lane x g (ix2 0 c) = x (ix2 0 (col g c)) :=
  congrArg x (lane_idx g c).symm

theorem row_at (t : Fin 8) (a : Fin 4) (r : Fin 128) : trow t ⟨a.val * 128 + r.val, by omega⟩ = row (chunk t a) r :=
  Fin.ext (by show t.val * 512 + (a.val * 128 + r.val) = (t.val * 4 + a.val) * 128 + r.val; omega)

section Given

variable {x7 : Vec Ideal S4096x3584 .f32} {x8 : Vec Ideal S1x512 .f32} {x9 : Vec Ideal S4x128x128 .f32} {x10 : Vec Ideal S4x128 .f32} {x11 : Vec Ideal S4096x1024 .f32} {t : Fin 8}
  {X : Ins} (hu : ∀ r l : Fin 512, X.u (ix2 r l) = x7 (ix2 (trow t r) ⟨l.val, by omega⟩)) (hv : ∀ r l : Fin 512, X.v (ix2 r l) = x7 (ix2 (trow t r) ⟨512 + l.val, by omega⟩))
  (hg : ∀ r l : Fin 512, X.g (ix2 r l) = x7 (ix2 (trow t r) ⟨1024 + l.val, by omega⟩)) (ho : ∀ r l : Fin 512, X.o (ix2 r l) = x11 (ix2 (trow t r) ⟨l.val, by omega⟩))
  (hs : X.s = x8) (hw : X.w = x9) (hb : ∀ (g : Fin 4) (r l : Fin 128), X.b (ix3 g r l) = x10 (ix2 g r))

include hu hv hg ho hs hw hb in
theorem reads_of : Reads x7 x8 x9 x10 x11 X t := fun a g =>
  { hu := fun r l => (tile_at _ a g r l).trans ((hu _ _).trans (by rw [row_at]))
    hv := fun r l => (tile_at _ a g r l).trans ((hv _ _).trans (by rw [row_at]))
    hg := fun r l => (tile_at _ a g r l).trans ((hg _ _).trans (by rw [row_at]))
    ho := fun r l => (tile_at _ a g r l).trans ((ho _ _).trans (by rw [row_at]))
    hs := fun l => (lane_at _ g l).trans (congrFun hs _)
    hw := fun r l => (slab_at _ g r l).trans (congrFun hw _)
    hb := fun r l => (slab_at _ g r l).trans (hb g r l) }

end Given

set_option maxHeartbeats 2000000 in
theorem reads (c : Dev nD) (t : Fin cfg0.N) :
    Reads (A m c main_arg7) (A m c main_arg8) (A m c main_arg9) (A m c main_arg10) (A m c main_arg11) (blocks m c t) (pt t) :=
  reads_of (X := blocks m c t) (blk1 m c t) (blk2 m c t) (blk3 m c t) (blk7 m c t) (blk4 m c t) (blk5 m c t) (blk6 m c t)

set_option maxHeartbeats 2000000 in
theorem others (c : Dev nD) (t : Fin cfg0.N) :
    Others (A m c main_arg0) (A m c main_arg1) (A m c main_arg2) (A m c main_arg3) (A m c main_arg4) (A m c main_arg5) (A m c main_arg6) (A m c main_arg12) (A m c main_arg13)
      (A m c main_arg14) (A m c main_arg15) (A m c main_arg16) (A m c main_arg17) (blocks m c t) (pt t) :=
  Others.mk (X := blocks m c t) (blk0 m c t) (blk8 m c t) (blk9 m c t) (blk10 m c t) (blk11 m c t) (blk12 m c t) (blk13 m c t) (blk14 m c t)

end Cert.DwBwdIdeal.Value
end
-- ==== Proof.DwValue.lean ====
/-
  The gating's backward call after its run: its five result arrays hold the reference's five results. Four of them are
  carried from point to point; after point n they hold the terms of the first n + 1 tiles.
-/
module

public import proofs.«01_k».proof.Proof.DwBlocks
public import proofs.«01_k».proof.Proof.Gen.DwRefIdeal.Run
public import Idealize.ShloMosaic.Lib.Claim

@[expose] public section

set_option maxRecDepth 16384

noncomputable section

namespace Cert.DwBwdIdeal.Value

open Cert.DwBwdIdeal Cert.DwBwdIdeal.Gen Cert.DwPair Idealize.ShloMosaic Idealize.ShloMosaic.TcCoe Idealize.SL.Sem
open Idealize.ShloMosaic.Pipeline (Dat)
open Cert.DwRefIdeal.Read

/-! ## Sums over the first tiles -/

/-- The sum over the first `n` tiles. -/
def tiles (f : Fin 8 → EReal) (n : Nat) : EReal := ∑ k ∈ Finset.range n, if h : k < 8 then f ⟨k, h⟩ else 0

theorem tiles_zero (f : Fin 8 → EReal) : tiles f 0 = 0 := by simp [tiles]

theorem tiles_step (f : Fin 8 → EReal) (t : Fin 8) : tiles f t.val + f t = tiles f (t.val + 1) := by
  unfold tiles
  rw [Finset.sum_range_succ, dif_pos t.isLt]

theorem tiles_all (f : Fin 8 → EReal) : tiles f 8 = ∑ t : Fin 8, f t := by
  unfold tiles
  rw [Finset.sum_range]
  exact Finset.sum_congr rfl fun t _ => by rw [dif_pos t.isLt]

/-- The chunks are the tiles' chunks, the rows the tiles' rows. -/
theorem sum_chunks (f : Fin 32 → EReal) : ∑ t : Fin 8, ∑ a : Fin 4, f (chunk t a) = ∑ n : Fin 32, f n := by
  rw [← Fintype.sum_prod_type' (f := fun t a => f (chunk t a))]
  exact Fintype.sum_equiv (finProdFinEquiv (m := 8) (n := 4)) _ _ fun x => congrArg f (Fin.ext (by show x.1.val * 4 + x.2.val = x.2.val + 4 * x.1.val; omega))

theorem sum_rows (f : Fin 4096 → EReal) : ∑ t : Fin 8, ∑ r : Fin 512, f (trow t r) = ∑ n : Fin 4096, f n := by
  rw [← Fintype.sum_prod_type' (f := fun t r => f (trow t r))]
  exact Fintype.sum_equiv (finProdFinEquiv (m := 8) (n := 512)) _ _ fun x => congrArg f (Fin.ext (by show x.1.val * 512 + x.2.val = x.2.val + 512 * x.1.val; omega))

variable (m : (ℓ : Loc nD τ sig) → Buf (Elt Ideal) ℓ) (ρ : Dev nD → PrngReg)

/-! ## The reference's values on the same arrays -/

/-- The context's share of the weight's gradient, and what one tile adds to each carried result. -/
def rCtx (c : Dev nD) (k : Fin 1024) (l : Fin 3584) : EReal := val_main_v176 (F := Ideal) (A m c main_arg3) (A m c main_arg4) (A m c main_arg5) (A m c main_arg6) (A m c main_arg16) (A m c main_arg17) (ix2 k l)
def r15 (c : Dev nD) (k : Fin 1024) (l : Fin 3584) (t : Fin 8) : EReal :=
  prod (A m c main_arg7) (A m c main_arg8) (A m c main_arg9) (A m c main_arg10) (A m c main_arg11) t (A m c main_arg0) (A m c main_arg1) (A m c main_arg2) (A m c main_arg3) (A m c main_arg12) (A m c main_arg13) (A m c main_arg14) (A m c main_arg15) k l
def r17 (c : Dev nD) (g : Fin 4) (l : Fin 128) (t : Fin 8) : EReal := ∑ a : Fin 4, term17 (A m c main_arg7) (A m c main_arg9) (A m c main_arg11) t g a l
def r18 (c : Dev nD) (g : Fin 4) (r l : Fin 128) (t : Fin 8) : EReal := ∑ a : Fin 4, term18 (A m c main_arg7) (A m c main_arg8) (A m c main_arg11) t g a r l
def r19 (c : Dev nD) (g : Fin 4) (r l : Fin 128) (t : Fin 8) : EReal := ∑ a : Fin 4, term19 (A m c main_arg7) (A m c main_arg11) t g a r l

section point

variable (c : Dev nD) (t : Fin cfg0.N)

theorem next15 (D : Memref sig .tc .vmem S512x1536 .bf16) (y : Vec Ideal S1024x3584 .f32) (k : Fin 1024) (l : Fin 3584) :
    View.canon ((blocks m c t).next15 D y) (ix2 k l) = y (ix2 k l) + r15 m c k l (pt t) := next15_at (reads m c t) (others m c t) D y k l

theorem first15 (M : Memref sig .tc .vmem S1024x3584 .f32) (D : Memref sig .tc .vmem S512x1536 .bf16) (k : Fin 1024) (l : Fin 3584) :
    View.canon ((blocks m c t).first15 M D) (ix2 k l) = rCtx m c k l + r15 m c k l (pt t) := first15_at (reads m c t) (others m c t) M D k l

theorem next17 (M : Memref sig .tc .vmem S1x512 .f32) (y : Vec Ideal S1x512 .f32) (g : Fin 4) (l : Fin 128) :
    View.canon ((blocks m c t).next17 M y) (ix2 0 (col g l)) = y (ix2 0 (col g l)) + r17 m c g l (pt t) := next17_at (reads m c t) M y g l

theorem first17 (M : Memref sig .tc .vmem S1x512 .f32) (g : Fin 4) (l : Fin 128) :
    View.canon ((blocks m c t).first17 M) (ix2 0 (col g l)) = r17 m c g l (pt t) := first17_at (reads m c t) M g l

theorem next18 (M : Memref sig .tc .vmem S4x128x128 .f32) (y : Vec Ideal S4x128x128 .f32) (g : Fin 4) (r l : Fin 128) :
    View.canon ((blocks m c t).next18 M y) (ix3 g r l) = y (ix3 g r l) + r18 m c g r l (pt t) := next18_at (reads m c t) M y g r l

theorem first18 (M : Memref sig .tc .vmem S4x128x128 .f32) (g : Fin 4) (r l : Fin 128) :
    View.canon ((blocks m c t).first18 M) (ix3 g r l) = r18 m c g r l (pt t) := first18_at (reads m c t) M g r l

theorem next19 (M : Memref sig .tc .vmem S4x128x128 .f32) (y : Vec Ideal S4x128x128 .f32) (g : Fin 4) (r l : Fin 128) :
    View.canon ((blocks m c t).next19 M y) (ix3 g r l) = y (ix3 g r l) + r19 m c g r l (pt t) := next19_at (reads m c t) M y g r l

theorem first19 (M : Memref sig .tc .vmem S4x128x128 .f32) (g : Fin 4) (r l : Fin 128) :
    View.canon ((blocks m c t).first19 M) (ix3 g r l) = r19 m c g r l (pt t) := first19_at (reads m c t) M g r l

theorem last19 (M : Memref sig .tc .vmem S4x128x128 .f32) (y : Vec Ideal S4x128x128 .f32) (g : Fin 4) (r l : Fin 128) :
    View.canon ((blocks m c t).last19 M y) (ix3 g r l) = ∑ k : Fin 128, (y (ix3 g r k) + r19 m c g r k (pt t)) := last19_at (reads m c t) M y g r l

/-! What a point leaves, from what the point before it left. -/

theorem left_A (h0 : t.val % 8 = 0) (h1 : ¬t.val % 8 = 7) : outsAt0 m c t.val t.isLt
    = (View.canon ((blocks m c t).first15 (ms0_15 t) (ms0_16 t)), View.canon (blocks m c t).list16, View.canon ((blocks m c t).first17 (ms0_17 t)),
      View.canon ((blocks m c t).first18 (ms0_18 t)), View.canon ((blocks m c t).first19 (ms0_19 t))) := by
  rw [outsAt0_A m c t h0 h1, bodyA15, bodyA16, bodyA17, bodyA18, bodyA19]
  rfl

/-- The tuple the previous point left. -/
abbrev before : Vec Ideal S1024x3584 .f32 × Vec Ideal S512x1536 .bf16 × Vec Ideal S1x512 .f32 × Vec Ideal S4x128x128 .f32 × Vec Ideal S4x128x128 .f32 :=
  outsAt0 m c (t.val - 1) (Nat.lt_of_le_of_lt (Nat.sub_le _ _) t.isLt)

theorem left_B (h0 : ¬t.val % 8 = 0) (h1 : ¬t.val % 8 = 7) : outsAt0 m c t.val t.isLt
    = (View.canon ((blocks m c t).next15 (ms0_16 t) (before m c t).1), View.canon (blocks m c t).list16, View.canon ((blocks m c t).next17 (ms0_17 t) (before m c t).2.2.1),
      View.canon ((blocks m c t).next18 (ms0_18 t) (before m c t).2.2.2.1), View.canon ((blocks m c t).next19 (ms0_19 t) (before m c t).2.2.2.2)) := by
  rw [outsAt0_B m c t h0 h1, bodyB15, bodyB16, bodyB17, bodyB18, bodyB19]
  rfl

theorem left_C (h0 : ¬t.val % 8 = 0) (h1 : t.val % 8 = 7) : outsAt0 m c t.val t.isLt
    = (View.canon ((blocks m c t).next15 (ms0_16 t) (before m c t).1), View.canon (blocks m c t).list16, View.canon ((blocks m c t).next17 (ms0_17 t) (before m c t).2.2.1),
      View.canon ((blocks m c t).next18 (ms0_18 t) (before m c t).2.2.2.1), View.canon ((blocks m c t).last19 (ms0_19 t) (before m c t).2.2.2.2)) := by
  rw [outsAt0_C m c t h0 h1, bodyC15, bodyC16, bodyC17, bodyC18, bodyC19]
  rfl

section Parts

variable {α β γ δ ε : Type} {p : α × β × γ × δ × ε} {a : α} {b : β} {d : γ} {e : δ} {f : ε}

theorem part0 (h : p = (a, b, d, e, f)) : p.1 = a := by rw [h]
theorem part2 (h : p = (a, b, d, e, f)) : p.2.2.1 = d := by rw [h]
theorem part3 (h : p = (a, b, d, e, f)) : p.2.2.2.1 = e := by rw [h]
theorem part4 (h : p = (a, b, d, e, f)) : p.2.2.2.2 = f := by rw [h]

end Parts

theorem rows16 : (outsAt0 m c t.val t.isLt).2.1 = View.canon (blocks m c t).list16 := by
  by_cases h0 : t.val % 8 = 0
  · rw [left_A m c t h0 (by omega)]
  · by_cases h1 : t.val % 8 = 7
    · rw [left_C m c t h0 h1]
    · rw [left_B m c t h0 h1]

theorem one15 (h0 : t.val % 8 = 0) (k : Fin 1024) (l : Fin 3584) : (outsAt0 m c t.val t.isLt).1 (ix2 k l) = rCtx m c k l + r15 m c k l (pt t) := by
  exact (congrFun (part0 (left_A m c t h0 (by omega))) (ix2 k l)).trans (first15 m c t (ms0_15 t) (ms0_16 t) k l)

theorem one17 (h0 : t.val % 8 = 0) (g : Fin 4) (l : Fin 128) : (outsAt0 m c t.val t.isLt).2.2.1 (ix2 0 (col g l)) = r17 m c g l (pt t) := by
  exact (congrFun (part2 (left_A m c t h0 (by omega))) (ix2 0 (col g l))).trans (first17 m c t (ms0_17 t) g l)

theorem one18 (h0 : t.val % 8 = 0) (g : Fin 4) (r l : Fin 128) : (outsAt0 m c t.val t.isLt).2.2.2.1 (ix3 g r l) = r18 m c g r l (pt t) := by
  exact (congrFun (part3 (left_A m c t h0 (by omega))) (ix3 g r l)).trans (first18 m c t (ms0_18 t) g r l)

theorem one19 (h0 : t.val % 8 = 0) (g : Fin 4) (r l : Fin 128) : (outsAt0 m c t.val t.isLt).2.2.2.2 (ix3 g r l) = r19 m c g r l (pt t) := by
  exact (congrFun (part4 (left_A m c t h0 (by omega))) (ix3 g r l)).trans (first19 m c t (ms0_19 t) g r l)

theorem more15 (h0 : ¬t.val % 8 = 0) (k : Fin 1024) (l : Fin 3584) : (outsAt0 m c t.val t.isLt).1 (ix2 k l) = (before m c t).1 (ix2 k l) + r15 m c k l (pt t) := by
  by_cases h1 : t.val % 8 = 7
  · exact (congrFun (part0 (left_C m c t h0 h1)) (ix2 k l)).trans (next15 m c t (ms0_16 t) (before m c t).1 k l)
  · exact (congrFun (part0 (left_B m c t h0 h1)) (ix2 k l)).trans (next15 m c t (ms0_16 t) (before m c t).1 k l)

theorem more17 (h0 : ¬t.val % 8 = 0) (g : Fin 4) (l : Fin 128) :
    (outsAt0 m c t.val t.isLt).2.2.1 (ix2 0 (col g l)) = (before m c t).2.2.1 (ix2 0 (col g l)) + r17 m c g l (pt t) := by
  by_cases h1 : t.val % 8 = 7
  · exact (congrFun (part2 (left_C m c t h0 h1)) (ix2 0 (col g l))).trans (next17 m c t (ms0_17 t) (before m c t).2.2.1 g l)
  · exact (congrFun (part2 (left_B m c t h0 h1)) (ix2 0 (col g l))).trans (next17 m c t (ms0_17 t) (before m c t).2.2.1 g l)

theorem more18 (h0 : ¬t.val % 8 = 0) (g : Fin 4) (r l : Fin 128) :
    (outsAt0 m c t.val t.isLt).2.2.2.1 (ix3 g r l) = (before m c t).2.2.2.1 (ix3 g r l) + r18 m c g r l (pt t) := by
  by_cases h1 : t.val % 8 = 7
  · exact (congrFun (part3 (left_C m c t h0 h1)) (ix3 g r l)).trans (next18 m c t (ms0_18 t) (before m c t).2.2.2.1 g r l)
  · exact (congrFun (part3 (left_B m c t h0 h1)) (ix3 g r l)).trans (next18 m c t (ms0_18 t) (before m c t).2.2.2.1 g r l)

theorem more19 (h0 : ¬t.val % 8 = 0) (h1 : ¬t.val % 8 = 7) (g : Fin 4) (r l : Fin 128) :
    (outsAt0 m c t.val t.isLt).2.2.2.2 (ix3 g r l) = (before m c t).2.2.2.2 (ix3 g r l) + r19 m c g r l (pt t) := by
  exact (congrFun (part4 (left_B m c t h0 h1)) (ix3 g r l)).trans (next19 m c t (ms0_19 t) (before m c t).2.2.2.2 g r l)

theorem end19 (h0 : ¬t.val % 8 = 0) (h1 : t.val % 8 = 7) (g : Fin 4) (r l : Fin 128) :
    (outsAt0 m c t.val t.isLt).2.2.2.2 (ix3 g r l) = ∑ k : Fin 128, ((before m c t).2.2.2.2 (ix3 g r k) + r19 m c g r k (pt t)) := by
  exact (congrFun (part4 (left_C m c t h0 h1)) (ix3 g r l)).trans (last19 m c t (ms0_19 t) (before m c t).2.2.2.2 g r l)

end point

/-- The four carried results after point `n`; the bias's is summed over its columns at the last point only. -/
theorem acc_eq (c : Dev nD) (n : Nat) (hn : n < cfg0.N) :
    (∀ (k : Fin 1024) (l : Fin 3584), (outsAt0 m c n hn).1 (ix2 k l) = rCtx m c k l + tiles (r15 m c k l) (n + 1))
    ∧ (∀ (g : Fin 4) (l : Fin 128), (outsAt0 m c n hn).2.2.1 (ix2 0 (col g l)) = tiles (r17 m c g l) (n + 1))
    ∧ (∀ (g : Fin 4) (r l : Fin 128), (outsAt0 m c n hn).2.2.2.1 (ix3 g r l) = tiles (r18 m c g r l) (n + 1))
    ∧ (∀ (g : Fin 4) (r l : Fin 128), (outsAt0 m c n hn).2.2.2.2 (ix3 g r l) = if n = 7 then ∑ k : Fin 128, tiles (r19 m c g r k) (n + 1) else tiles (r19 m c g r l) (n + 1)) := by
  induction n with
  | zero =>
    have one : ∀ f : Fin 8 → EReal, f (pt ⟨0, hn⟩) = tiles f (0 + 1) := fun f => by
      rw [← tiles_step f (pt ⟨0, hn⟩), tiles_zero, zero_add]
    refine ⟨fun k l => ?_, fun g l => ?_, fun g r l => ?_, fun g r l => ?_⟩
    · exact (one15 m c ⟨0, hn⟩ rfl k l).trans (congrArg _ (one _))
    · exact (one17 m c ⟨0, hn⟩ rfl g l).trans (one _)
    · exact (one18 m c ⟨0, hn⟩ rfl g r l).trans (one _)
    · rw [if_neg (by decide)]
      exact (one19 m c ⟨0, hn⟩ rfl g r l).trans (one _)
  | succ n ih =>
    obtain ⟨e15, e17, e18, e19⟩ := ih (Nat.lt_of_succ_lt hn)
    have h8 : n + 1 < 8 := N8 ⟨n + 1, hn⟩
    have h0 : ¬(n + 1) % 8 = 0 := by omega
    have step : ∀ (f : Fin 8 → EReal), tiles f (n + 1) + f (pt ⟨n + 1, hn⟩) = tiles f (n + 1 + 1) := fun f => tiles_step f (pt ⟨n + 1, hn⟩)
    have e19' : ∀ (g : Fin 4) (r l : Fin 128), (before m c ⟨n + 1, hn⟩).2.2.2.2 (ix3 g r l) = tiles (r19 m c g r l) (n + 1) := fun g r l =>
      (e19 g r l).trans (if_neg (by omega))
    refine ⟨fun k l => ?_, fun g l => ?_, fun g r l => ?_, fun g r l => ?_⟩
    · refine (more15 m c ⟨n + 1, hn⟩ h0 k l).trans ?_
      rw [show (before m c ⟨n + 1, hn⟩).1 (ix2 k l) = _ from e15 k l, add_assoc, step]
    · refine (more17 m c ⟨n + 1, hn⟩ h0 g l).trans ?_
      rw [show (before m c ⟨n + 1, hn⟩).2.2.1 (ix2 0 (col g l)) = _ from e17 g l, step]
    · refine (more18 m c ⟨n + 1, hn⟩ h0 g r l).trans ?_
      rw [show (before m c ⟨n + 1, hn⟩).2.2.2.1 (ix3 g r l) = _ from e18 g r l, step]
    · by_cases h1 : n + 1 = 7
      · rw [if_pos h1]
        refine (end19 m c ⟨n + 1, hn⟩ h0 (by show (n + 1) % 8 = 7; omega) g r l).trans (Finset.sum_congr rfl fun k _ => ?_)
        rw [e19', step]
      · rw [if_neg h1]
        refine (more19 m c ⟨n + 1, hn⟩ h0 (by show ¬(n + 1) % 8 = 7; omega) g r l).trans ?_
        rw [e19', step]

/-! ## The reference's results -/

abbrev refDw (c : Dev nD) : Vec Ideal S1024x3584 .f32 := val_main_v179 (F := Ideal) (A m c main_arg0) (A m c main_arg1) (A m c main_arg2) (A m c main_arg3) (A m c main_arg4) (A m c main_arg5) (A m c main_arg6) (A m c main_arg7) (A m c main_arg8) (A m c main_arg9) (A m c main_arg10) (A m c main_arg11) (A m c main_arg12) (A m c main_arg13) (A m c main_arg14) (A m c main_arg15) (A m c main_arg16) (A m c main_arg17)
abbrev refDz (c : Dev nD) : Vec Ideal S4096x1536 .bf16 := val_main_v180 (F := Ideal) (A m c main_arg7) (A m c main_arg8) (A m c main_arg9) (A m c main_arg10) (A m c main_arg11)
abbrev refDsg (c : Dev nD) : Vec Ideal S1x512 .f32 := val_main_v119 (F := Ideal) (A m c main_arg7) (A m c main_arg9) (A m c main_arg11)
abbrev refDws (c : Dev nD) : Vec Ideal S4x128x128 .f32 := val_main_v71 (F := Ideal) (A m c main_arg7) (A m c main_arg8) (A m c main_arg11)
abbrev refDbs (c : Dev nD) : Vec Ideal S4x128x128 .f32 := val_main_v182 (F := Ideal) (A m c main_arg7) (A m c main_arg11)

theorem dw_all (c : Dev nD) (k : Fin 1024) (l : Fin 3584) : (outsAt0 m c 7 t0_7.isLt).1 (ix2 k l) = refDw m c (ix2 k l) := by
  rw [(acc_eq m c 7 t0_7.isLt).1, show 7 + 1 = 8 from rfl, tiles_all]
  unfold r15 rCtx
  rw [sum_rows (fun n => val_main_v147 (F := Ideal) (A m c main_arg0) (A m c main_arg1) (A m c main_arg2) (A m c main_arg3) (ix2 n k) * val_main_v126 (F := Ideal) (A m c main_arg7) (A m c main_arg8) (A m c main_arg9) (A m c main_arg10) (A m c main_arg11) (A m c main_arg12) (A m c main_arg13) (A m c main_arg14) (A m c main_arg15) (ix2 n l))]
  pointwise [val_main_v179, val_main_v178, val_main_v177]
  exact congrArg _ (Finset.sum_congr rfl fun n _ => mul_comm _ _)

theorem dsg_all (c : Dev nD) (g : Fin 4) (l : Fin 128) : (outsAt0 m c 7 t0_7.isLt).2.2.1 (ix2 0 (col g l)) = refDsg m c (ix2 0 (col g l)) := by
  rw [(acc_eq m c 7 t0_7.isLt).2.1, show 7 + 1 = 8 from rfl, tiles_all]
  unfold r17
  refine Eq.trans ?_ (ref_dsg _ _ _ g l).symm
  rw [Fintype.sum_prod_type]
  exact sum_chunks (fun n => ∑ r : Fin 128, val_main_v74 (F := Ideal) (A m c main_arg7) (A m c main_arg9) (A m c main_arg11) (ix5 0 n r g l))

theorem dws_all (c : Dev nD) (g : Fin 4) (r l : Fin 128) : (outsAt0 m c 7 t0_7.isLt).2.2.2.1 (ix3 g r l) = refDws m c (ix3 g r l) := by
  rw [(acc_eq m c 7 t0_7.isLt).2.2.1, show 7 + 1 = 8 from rfl, tiles_all]
  unfold r18
  refine Eq.trans ?_ (ref_dws _ _ _ g r l).symm
  rw [Fintype.sum_prod_type]
  exact sum_chunks (fun n => ∑ k : Fin 128, val_main_v63 (F := Ideal) (A m c main_arg7) (A m c main_arg11) (ix5 0 n r g k) * val_main_v43 (F := Ideal) (A m c main_arg7) (A m c main_arg8) (ix5 0 n l g k))

theorem dbs_all (c : Dev nD) (g : Fin 4) (r l : Fin 128) : (outsAt0 m c 7 t0_7.isLt).2.2.2.2 (ix3 g r l) = refDbs m c (ix3 g r l) := by
  rw [(acc_eq m c 7 t0_7.isLt).2.2.2, if_pos rfl, show 7 + 1 = 8 from rfl]
  refine Eq.trans ?_ (ref_dbs _ _ g r l).symm
  rw [Fintype.sum_prod_type, Finset.sum_comm]
  refine Finset.sum_congr rfl fun k _ => ?_
  rw [tiles_all]
  unfold r19
  exact sum_chunks (fun n => val_main_v63 (F := Ideal) (A m c main_arg7) (A m c main_arg11) (ix5 0 n r g k))

/-! ## The five arrays after the run -/

/-- The last point. -/
theorem last_pt (t : Fin cfg0.N) (h : t.val % 8 = 7) : t = t0_7 := Fin.ext (by have := N8 t; show t.val = 7; omega)

theorem final16 (c : Dev nD) : (dats m 0 c).arrAt 16 cfg0.N = refDz m c := by
  refine (dats m 0 c).arrAt_eq_of_cover 16 (refDz m c) (fun t _ => ?_) fun i => ?_
  · refine (congrArg ((cfg0.win 16).cut (grid0.coords t)) ((after0_16 m c t).trans (rows16 m c t))).trans (funext fun j => ?_)
    rw [View.read_apply]
    refine Eq.trans ?_ ((list16_at (reads m c t) ⟨(j 0).val, (j 0).isLt⟩ ⟨(j 1).val, (j 1).isLt⟩).trans ?_)
    · exact congrArg (View.canon (blocks m c t).list16) (at2 _ _ _ rfl rfl)
    · refine congrArg (refDz m c) (at2 _ _ _ ?_ ?_).symm
      · show win0_16.index t 0 * 512 + 1 * (j 0).val = t.val * 512 + (j 0).val; rw [(idx_more t).2.2.2.2.1]; omega
      · show win0_16.index t 1 * 1536 + 1 * (j 1).val = (j 1).val; rw [(idx_more t).2.2.2.2.2]; omega
  · have h0 : (i 0 : Nat) < 4096 := (i 0).isLt
    have h1 : (i 1 : Nat) < 1536 := (i 1).isLt
    have hN : cfg0.N = 8 := N_0
    let t : Fin cfg0.N := ⟨(i 0).val / 512, by omega⟩
    refine ⟨t, flush0_16 t, ?_⟩
    show i ∈ ((View.whole main_v40_1).slice (win0_16.rect t)).set
    rw [View.set_slice_whole, Rect.mem_set_unit]
    intro a
    match a with
    | ⟨0, _⟩ => show win0_16.index t 0 * 512 ≤ (i 0 : Nat) ∧ (i 0 : Nat) < win0_16.index t 0 * 512 + 512
                rw [(idx_more t).2.2.2.2.1]; show (i 0 : Nat) / 512 * 512 ≤ (i 0 : Nat) ∧ (i 0 : Nat) < (i 0 : Nat) / 512 * 512 + 512; omega
    | ⟨1, _⟩ => show win0_16.index t 1 * 1536 ≤ (i 1 : Nat) ∧ (i 1 : Nat) < win0_16.index t 1 * 1536 + 1536
                rw [(idx_more t).2.2.2.2.2]; omega

theorem final15 (c : Dev nD) : (dats m 0 c).arrAt 15 cfg0.N = refDw m c := by
  refine Eq.trans ((dats m 0 c).arrAt_eq_of_cover 15 (outsAt0 m c 7 t0_7.isLt).1 (fun t hf => ?_) fun i => ⟨t0_7, (flush0_15 t0_7).mpr rfl, ?_⟩) (funext fun j => ?_)
  · obtain rfl := last_pt t ((flush0_15 t).mp hf)
    refine (congrArg ((cfg0.win 15).cut (grid0.coords t0_7)) (after0_15 m c t0_7)).trans ?_
    have hz' : (fun a => win0_15.index t0_7 a * main_v40_0.ty.shape.size a) = fun _ => 0 := funext fun a => by fin_cases a <;> decide
    exact (Memref.read_access_unit_zero (Elt Ideal) main_v40_0 hz' (fun a => by rw [congrFun hz' a]; simp) _).symm
  · have hz' : (fun a => win0_15.index t0_7 a * win0_15.size a) = fun _ => 0 := funext fun a => by fin_cases a <;> decide +kernel
    show i ∈ ((View.whole main_v40_0).slice (win0_15.rect t0_7)).set
    rw [View.set_slice_whole]
    exact View.mem_set_unit_zero (S := S1024x3584) hz' _ i
  · idx_vars j
    exact dw_all m c _ _

theorem final17 (c : Dev nD) : (dats m 0 c).arrAt 17 cfg0.N = refDsg m c := by
  refine Eq.trans ((dats m 0 c).arrAt_eq_of_cover 17 (outsAt0 m c 7 t0_7.isLt).2.2.1 (fun t hf => ?_) fun i => ⟨t0_7, (flush0_17 t0_7).mpr rfl, ?_⟩) (funext fun j => ?_)
  · obtain rfl := last_pt t ((flush0_17 t).mp hf)
    refine (congrArg ((cfg0.win 17).cut (grid0.coords t0_7)) (after0_17 m c t0_7)).trans ?_
    have hz' : (fun a => win0_17.index t0_7 a * main_v40_2.ty.shape.size a) = fun _ => 0 := funext fun a => by fin_cases a <;> decide
    exact (Memref.read_access_unit_zero (Elt Ideal) main_v40_2 hz' (fun a => by rw [congrFun hz' a]; simp) _).symm
  · have hz' : (fun a => win0_17.index t0_7 a * win0_17.size a) = fun _ => 0 := funext fun a => by fin_cases a <;> decide +kernel
    show i ∈ ((View.whole main_v40_2).slice (win0_17.rect t0_7)).set
    rw [View.set_slice_whole]
    exact View.mem_set_unit_zero (S := S1x512) hz' _ i
  · idx_vars j
    obtain rfl : j0 = 0 := Subsingleton.elim _ _
    have hj : j1 = col ⟨j1.val / 128, by omega⟩ ⟨j1.val % 128, by omega⟩ := Fin.ext (by show j1.val = j1.val / 128 * 128 + j1.val % 128; omega)
    rw [hj]
    exact dsg_all m c _ _

theorem final18 (c : Dev nD) : (dats m 0 c).arrAt 18 cfg0.N = refDws m c := by
  refine Eq.trans ((dats m 0 c).arrAt_eq_of_cover 18 (outsAt0 m c 7 t0_7.isLt).2.2.2.1 (fun t hf => ?_) fun i => ⟨t0_7, (flush0_18 t0_7).mpr rfl, ?_⟩) (funext fun j => ?_)
  · obtain rfl := last_pt t ((flush0_18 t).mp hf)
    refine (congrArg ((cfg0.win 18).cut (grid0.coords t0_7)) (after0_18 m c t0_7)).trans ?_
    have hz' : (fun a => win0_18.index t0_7 a * main_v40_3.ty.shape.size a) = fun _ => 0 := funext fun a => by fin_cases a <;> decide
    exact (Memref.read_access_unit_zero (Elt Ideal) main_v40_3 hz' (fun a => by rw [congrFun hz' a]; simp) _).symm
  · have hz' : (fun a => win0_18.index t0_7 a * win0_18.size a) = fun _ => 0 := funext fun a => by fin_cases a <;> decide +kernel
    show i ∈ ((View.whole main_v40_3).slice (win0_18.rect t0_7)).set
    rw [View.set_slice_whole]
    exact View.mem_set_unit_zero (S := S4x128x128) hz' _ i
  · idx_vars j
    exact dws_all m c _ _ _

theorem final19 (c : Dev nD) : (dats m 0 c).arrAt 19 cfg0.N = refDbs m c := by
  refine Eq.trans ((dats m 0 c).arrAt_eq_of_cover 19 (outsAt0 m c 7 t0_7.isLt).2.2.2.2 (fun t hf => ?_) fun i => ⟨t0_7, (flush0_19 t0_7).mpr rfl, ?_⟩) (funext fun j => ?_)
  · obtain rfl := last_pt t ((flush0_19 t).mp hf)
    refine (congrArg ((cfg0.win 19).cut (grid0.coords t0_7)) (after0_19 m c t0_7)).trans ?_
    have hz' : (fun a => win0_19.index t0_7 a * main_v40_4.ty.shape.size a) = fun _ => 0 := funext fun a => by fin_cases a <;> decide
    exact (Memref.read_access_unit_zero (Elt Ideal) main_v40_4 hz' (fun a => by rw [congrFun hz' a]; simp) _).symm
  · have hz' : (fun a => win0_19.index t0_7 a * win0_19.size a) = fun _ => 0 := funext fun a => by fin_cases a <;> decide +kernel
    show i ∈ ((View.whole main_v40_4).slice (win0_19.rect t0_7)).set
    rw [View.set_slice_whole]
    exact View.mem_set_unit_zero (S := S4x128x128) hz' _ i
  · idx_vars j
    exact dbs_all m c _ _ _

end Cert.DwBwdIdeal.Value

namespace Cert.DwRefIdeal.Value

open Cert.DwRefIdeal Cert.DwRefIdeal.Read Idealize.ShloMosaic Idealize.ShloMosaic.TcCoe Idealize.SL.Sem

/-- The reference's run, its five results by name. -/
theorem run_val (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v179) = val_main_v179 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17))
      ∧ r.2.mem ((c.tc : Thread nD τ).loc main_v180) = val_main_v180 (F := Ideal) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_v119) = val_main_v119 (F := Ideal) (m ((c.tc : Thread nD τ).loc main_arg7)) (m ((c.tc : Thread nD τ).loc main_arg9)) (m ((c.tc : Thread nD τ).loc main_arg11))
      ∧ r.2.mem ((c.tc : Thread nD τ).loc main_v71) = val_main_v71 (F := Ideal) (m ((c.tc : Thread nD τ).loc main_arg7)) (m ((c.tc : Thread nD τ).loc main_arg8)) (m ((c.tc : Thread nD τ).loc main_arg11))
      ∧ r.2.mem ((c.tc : Thread nD τ).loc main_v182) = val_main_v182 (F := Ideal) (m ((c.tc : Thread nD τ).loc main_arg7)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  (θ_run _ _ _).mono (fun r h c => ⟨(h c).1.trans (val_main_v179_eq ..), (h c).2.1.trans (val_main_v180_eq ..), (h c).2.2.1.trans (val_main_v119_eq ..),
    (h c).2.2.2.1.trans (val_main_v71_eq ..), (h c).2.2.2.2.1.trans (val_main_v182_eq ..), (h c).2.2.2.2.2⟩) (run m ρ)

end Cert.DwRefIdeal.Value
end
-- ==== Proof.CtxFwd.lean ====
/-
  The context's forward call: the modulated rows and their product with the weight's last 1792 columns. After its run the
  two result arrays hold the reference's two results.
-/
module

public import proofs.«01_k».proof.Proof.Gen.CtxFwdIdeal.Value
public import proofs.«01_k».proof.Proof.Gen.CtxFwdRefIdeal.Run
public import proofs.«01_k».proof.Proof.Gen.CtxFwdRefIdeal.Read
public import Idealize.ShloMosaic.Lib.Pointwise

@[expose] public section

set_option maxRecDepth 16384

noncomputable section

namespace Cert.CtxFwdIdeal.Value

open Cert.CtxFwdIdeal Cert.CtxFwdIdeal.Gen Idealize.ShloMosaic Idealize.ShloMosaic.TcCoe Idealize.SL.Sem
open Idealize.ShloMosaic.Pipeline (Dat)

theorem hz : (![0, 0] : Fin 2 → Nat) = fun _ => 0 := funext fun a => by fin_cases a <;> rfl

variable (x : Vec Ideal S256x1024 .f32) (sh sc g : Vec Ideal S1x1024 .f32) (b : Vec Ideal S1024x1792 .bf16)
  (w : Vec Ideal S1024x3584 .f32)

theorem body5 : out0_5 x sh sc g b = k0_pay2 x g sc sh b := by
  unfold out0_5
  rw [View.canon_unit_zero hz]
  simp only [View.ld_unit_zero (S := S256x1024) hz, View.ld_unit_zero (S := S1x1024) hz, View.ld_unit_zero (S := S1024x1792) hz]

theorem body6 : out0_6 x sh sc g b = k0_pay1 x g sc sh := by
  unfold out0_6
  rw [View.canon_unit_zero hz]
  simp only [View.ld_unit_zero (S := S256x1024) hz, View.ld_unit_zero (S := S1x1024) hz]

open Cert.CtxFwdRefIdeal.Read in
/-- The modulated rows. -/
theorem pay1_eq : k0_pay1 x g sc sh = val_main_v22 (F := Ideal) x sh sc g := by
  funext j
  idx_vars j
  pointwise [k0_pay1, val_main_v22, val_main_v19, val_main_v18, val_main_v17, val_main_v16, val_main_v15, val_main_v14,
    val_main_v13, val_main_v12, val_main_v11, val_main_v0,
    val_main_v10, val_main_v9, val_main_v8, val_main_v7, val_main_v6, val_main_v5, val_main_v4, val_main_v3, val_main_v2,
    val_main_v1, val_main_cst, val_main_cst_0, val_main_cst_1, val_main_cst_2]

open Cert.CtxFwdRefIdeal.Read in
/-- Their product with the weight's columns from 1792 on. -/
theorem pay2_eq (h : ∀ (r : Fin 1024) (l : Fin 1792), b (ix2 r l) = w (ix2 r ⟨1792 + l.val, by omega⟩)) :
    k0_pay2 x g sc sh b = val_main_v21 (F := Ideal) x sh sc g w := by
  funext j
  idx_vars j
  have e : k0_pay1 x g sc sh = val_main_v19 (F := Ideal) x sh sc g := pay1_eq x sh sc g
  unfold k0_pay2
  rw [e]
  pointwise [val_main_v21, val_main_v20]
  exact Finset.sum_congr rfl fun k _ => by rw [h k j1]

variable (m : (ℓ : Loc nD τ sig) → Buf (Elt Ideal) ℓ) (ρ : Dev nD → PrngReg)

theorem iblk0 (c : Dev nD) (t : Fin cfg0.N) : (iblk m c 0 t : Vec Ideal S256x1024 .f32) = m ((c : Thread nD τ).loc main_arg0) := by
  obtain rfl := fin_N0 t
  have hz' : (fun a => win0_0.index t0_0 a * main_arg0.ty.shape.size a) = fun _ => 0 := funext fun a => by fin_cases a <;> decide
  exact (Memref.read_access_unit_zero (Elt Ideal) main_arg0 hz' (fun a => by rw [congrFun hz' a]; simp) _).trans (V_main_arg0 m c)

theorem iblk1 (c : Dev nD) (t : Fin cfg0.N) : (iblk m c 1 t : Vec Ideal S1x1024 .f32) = m ((c : Thread nD τ).loc main_arg1) := by
  obtain rfl := fin_N0 t
  have hz' : (fun a => win0_1.index t0_0 a * main_arg1.ty.shape.size a) = fun _ => 0 := funext fun a => by fin_cases a <;> decide
  exact (Memref.read_access_unit_zero (Elt Ideal) main_arg1 hz' (fun a => by rw [congrFun hz' a]; simp) _).trans (V_main_arg1 m c)

theorem iblk2 (c : Dev nD) (t : Fin cfg0.N) : (iblk m c 2 t : Vec Ideal S1x1024 .f32) = m ((c : Thread nD τ).loc main_arg2) := by
  obtain rfl := fin_N0 t
  have hz' : (fun a => win0_2.index t0_0 a * main_arg2.ty.shape.size a) = fun _ => 0 := funext fun a => by fin_cases a <;> decide
  exact (Memref.read_access_unit_zero (Elt Ideal) main_arg2 hz' (fun a => by rw [congrFun hz' a]; simp) _).trans (V_main_arg2 m c)

theorem iblk3 (c : Dev nD) (t : Fin cfg0.N) : (iblk m c 3 t : Vec Ideal S1x1024 .f32) = m ((c : Thread nD τ).loc main_arg3) := by
  obtain rfl := fin_N0 t
  have hz' : (fun a => win0_3.index t0_0 a * main_arg3.ty.shape.size a) = fun _ => 0 := funext fun a => by fin_cases a <;> decide
  exact (Memref.read_access_unit_zero (Elt Ideal) main_arg3 hz' (fun a => by rw [congrFun hz' a]; simp) _).trans (V_main_arg3 m c)

/-- The weight's block is its last 1792 columns. -/
theorem iblk4 (c : Dev nD) (t : Fin cfg0.N) (r : Fin 1024) (l : Fin 1792) :
    (iblk m c 4 t : Vec Ideal S1024x1792 .bf16) (ix2 r l) = m ((c : Thread nD τ).loc main_arg4) (ix2 r ⟨1792 + l.val, by omega⟩) := by
  obtain rfl := fin_N0 t
  unfold iblk
  rw [View.read_apply]
  show V m c main_v0 _ = _
  entry_read
  show m ((c : Thread nD τ).loc main_arg4) _ = m ((c : Thread nD τ).loc main_arg4) _
  congr 1
  funext a
  apply Fin.ext
  match a with
  | ⟨0, _⟩ => show win0_4.index t0_0 0 * 1024 + 1 * r.val = r.val; rw [show win0_4.index t0_0 0 = 0 from by decide +kernel]; omega
  | ⟨1, _⟩ => show win0_4.index t0_0 1 * 1792 + 1 * l.val = 1792 + l.val; rw [show win0_4.index t0_0 1 = 1 from by decide +kernel]; omega

open Cert.CtxFwdRefIdeal.Read in
/-- The product after the run. -/
theorem final5 (c : Dev nD) : (dats m 0 c).arrAt 5 cfg0.N
    = val_main_v21 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) := by
  have hb := blocks5 m c t0_0 (by decide +kernel)
  rw [flushed5, body5, iblk0, iblk1, iblk2, iblk3, pay2_eq _ _ _ _ _ _ (iblk4 m c t0_0)] at hb
  have hz' : (fun a => win0_5.index t0_0 a * main_v1_0.ty.shape.size a) = fun _ => 0 := funext fun a => by fin_cases a <;> decide
  exact ((Memref.read_access_unit_zero (Elt Ideal) main_v1_0 hz' (fun a => by rw [congrFun hz' a]; simp) _).symm).trans hb

open Cert.CtxFwdRefIdeal.Read in
/-- The modulated rows after the run. -/
theorem final6 (c : Dev nD) : (dats m 0 c).arrAt 6 cfg0.N
    = val_main_v22 (F := Ideal) (m ((c : Thread nD τ).loc main_arg0)) (m ((c : Thread nD τ).loc main_arg1)) (m ((c : Thread nD τ).loc main_arg2))
        (m ((c : Thread nD τ).loc main_arg3)) := by
  have hb := blocks6 m c t0_0 (by decide +kernel)
  rw [flushed6, body6, iblk0, iblk1, iblk2, iblk3, pay1_eq] at hb
  have hz' : (fun a => win0_6.index t0_0 a * main_v1_1.ty.shape.size a) = fun _ => 0 := funext fun a => by fin_cases a <;> decide
  exact ((Memref.read_access_unit_zero (Elt Ideal) main_v1_1 hz' (fun a => by rw [congrFun hz' a]; simp) _).symm).trans hb

end Cert.CtxFwdIdeal.Value

namespace Cert.CtxFwdRefIdeal.Value

open Cert.CtxFwdRefIdeal Cert.CtxFwdRefIdeal.Read Idealize.ShloMosaic Idealize.ShloMosaic.TcCoe Idealize.SL.Sem

/-- The reference's run, its two results by name. -/
theorem run_val (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v21) = val_main_v21 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v22) = val_main_v22 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run _ _ _).mono (fun r h c => ⟨(h c).1.trans (val_main_v21_eq ..), (h c).2.1.trans (val_main_v22_eq ..), (h c).2.2⟩) (run m ρ)

end Cert.CtxFwdRefIdeal.Value
-- ==== Proof.Reduce.lean ====
/-
  The reduction's call: the two shards' sums, the slabs' sum, the modulation weight's gradient on the chip, its bias's
  gradient and the gradient of the context's condition. After its run the six result arrays hold the reference's results.
-/
module

public import proofs.«01_k».proof.Proof.Gen.ReduceIdeal.Value
public import proofs.«01_k».proof.Proof.Gen.ReduceRefIdeal.Run
public import proofs.«01_k».proof.Proof.Gen.ReduceRefIdeal.Read
public import Idealize.ShloMosaic.Lib.Pipeline.ValueKit.Point

@[expose] public section

set_option maxRecDepth 16384

noncomputable section

namespace Cert.ReduceIdeal.Value

open Cert.ReduceIdeal Cert.ReduceIdeal.Gen Idealize.ShloMosaic Idealize.ShloMosaic.TcCoe Idealize.SL.Sem
open Idealize.ShloMosaic.Pipeline (Dat)

theorem hz : (![0, 0] : Fin 2 → Nat) = fun _ => 0 := funext fun a => by fin_cases a <;> rfl

open Cert.ReduceRefIdeal.Read

theorem hz3 : (![0, 0, 0] : Fin 3 → Nat) = fun _ => 0 := funext fun a => by fin_cases a <;> rfl

/-! ## What the body makes of the slabs -/

section Slabs

variable (x0 : Vec Ideal S8x80x1024 .f32)

/-- One device's slab, and one row of it. -/
abbrev slab (d : Nat) (h : ∀ a, ![d, 0, 0] a + ![1, 80, 1024] a ≤ S8x80x1024.size a) : Vec Ideal S1x80x1024 .f32 :=
  View.ld x0 (Rect.unit ![d, 0, 0] ![1, 80, 1024] h)
abbrev row (d j : Nat) (h : ∀ a, ![d, j, 0] a + ![1, 1, 1024] a ≤ S8x80x1024.size a) : Vec Ideal S1x1x1024 .f32 :=
  View.ld x0 (Rect.unit ![d, j, 0] ![1, 1, 1024] h)

/-- The slabs' sum. -/
def tot : Vec Ideal S80x1024 .f32 :=
  k0_pay7 (k0_pay5 (slab x0 0 (by decide)) (slab x0 1 (by decide)) (slab x0 2 (by decide)) (slab x0 3 (by decide))) (k0_pay6 (slab x0 4 (by decide)))
    (slab x0 5 (by decide)) (slab x0 6 (by decide)) (slab x0 7 (by decide))

/-- The three thirds of the modulation's gradient, a device a row, the sum's row behind them and seven rows of zeros. -/
def third0 : Vec Ideal S16x1024 .f32 :=
  k0_pay16 (tot x0) k0_pay8 (k0_pay9 (row x0 0 12 (by decide))) (k0_pay10 (row x0 1 12 (by decide))) (k0_pay11 (row x0 2 12 (by decide)))
    (k0_pay12 (row x0 3 12 (by decide))) (k0_pay13 (row x0 4 12 (by decide))) (k0_pay14 (row x0 5 12 (by decide))) (k0_pay15 (row x0 6 12 (by decide)))
    (row x0 7 12 (by decide))
def third1 : Vec Ideal S16x1024 .f32 :=
  k0_pay17 (tot x0) k0_pay8 (row x0 0 13 (by decide)) (row x0 1 13 (by decide)) (row x0 2 13 (by decide))
    (row x0 3 13 (by decide)) (row x0 4 13 (by decide)) (row x0 5 13 (by decide)) (row x0 6 13 (by decide)) (row x0 7 13 (by decide))
def third2 : Vec Ideal S16x1024 .f32 :=
  k0_pay20 (tot x0) k0_pay8 (k0_pay18 (row x0 0 14 (by decide))) (k0_pay19 (row x0 1 14 (by decide))) (row x0 2 14 (by decide))
    (row x0 3 14 (by decide)) (row x0 4 14 (by decide)) (row x0 5 14 (by decide)) (row x0 6 14 (by decide)) (row x0 7 14 (by decide))

variable {x0} in
theorem slab_at {d : Nat} (h : ∀ a, ![d, 0, 0] a + ![1, 80, 1024] a ≤ S8x80x1024.size a) (a : Fin 1) (r : Fin 80) (l : Fin 1024) (q : Fin 8)
    (hq : q.val = d) : slab x0 d h (ix3 a r l) = x0 (ix3 q r l) := by
  show x0 _ = x0 _
  congr 1
  funext e
  apply Fin.ext
  match e with
  | ⟨0, _⟩ => show d + 1 * a.val = q.val; omega
  | ⟨1, _⟩ => show 0 + 1 * r.val = r.val; omega
  | ⟨2, _⟩ => show 0 + 1 * l.val = l.val; omega

variable {x0} in
theorem row_at {d j : Nat} (h : ∀ a, ![d, j, 0] a + ![1, 1, 1024] a ≤ S8x80x1024.size a) (a b : Fin 1) (l : Fin 1024) (q : Fin 8) (p : Fin 80)
    (hq : q.val = d) (hp : p.val = j) : row x0 d j h (ix3 a b l) = x0 (ix3 q p l) := by
  show x0 _ = x0 _
  congr 1
  funext e
  apply Fin.ext
  match e with
  | ⟨0, _⟩ => show d + 1 * a.val = q.val; omega
  | ⟨1, _⟩ => show j + 1 * b.val = p.val; omega
  | ⟨2, _⟩ => show 0 + 1 * l.val = l.val; omega

theorem tot_at (r : Fin 80) (l : Fin 1024) : tot x0 (ix2 r l) = ∑ d : Fin 8, x0 (ix3 d r l) := by
  unfold tot
  pointwise [k0_pay7, k0_pay5, k0_pay6]
  rw [Fin.sum_univ_eight, slab_at (d := 0) _ 0 r l 0 rfl, slab_at (d := 1) _ 0 r l 1 rfl, slab_at (d := 2) _ 0 r l 2 rfl, slab_at (d := 3) _ 0 r l 3 rfl, slab_at (d := 4) _ 0 r l 4 rfl,
    slab_at (d := 5) _ 0 r l 5 rfl, slab_at (d := 6) _ 0 r l 6 rfl, slab_at (d := 7) _ 0 r l 7 rfl]

theorem tot_eq : tot x0 = val_main_v1 (F := Ideal) x0 := by
  funext j
  idx_vars j
  rw [tot_at]
  pointwise [val_main_v1, val_main_cst_0]

/-- Row `r` of a third. -/
def entry (j : Fin 3) (r : Fin 16) (l : Fin 1024) : EReal :=
  if h : r.val < 8 then x0 (ix3 ⟨r.val, h⟩ ⟨12 + j.val, by omega⟩ l) else if r.val = 8 then tot x0 (ix2 ⟨9 + j.val, by omega⟩ l) else 0

/-- A ladder of the eight devices' rows, the sum's row and zeros is the third's row. -/
theorem ladder (j : Fin 3) (r : Fin 16) (l : Fin 1024) (f : Fin 8 → EReal) (g : ∀ h : r.val - 1 - 1 - 1 - 1 - 1 - 1 - 1 - 1 < 1, EReal)
    (hf : ∀ d, f d = x0 (ix3 d ⟨12 + j.val, by omega⟩ l)) (hg : ∀ h, g h = tot x0 (ix2 ⟨9 + j.val, by omega⟩ l)) :
    (if h : r.val < 1 then f 0 else if h : r.val - 1 < 1 then f 1 else if h : r.val - 1 - 1 < 1 then f 2 else
      if h : r.val - 1 - 1 - 1 < 1 then f 3 else if h : r.val - 1 - 1 - 1 - 1 < 1 then f 4 else if h : r.val - 1 - 1 - 1 - 1 - 1 < 1 then f 5 else
      if h : r.val - 1 - 1 - 1 - 1 - 1 - 1 < 1 then f 6 else if h : r.val - 1 - 1 - 1 - 1 - 1 - 1 - 1 < 1 then f 7 else
      if h : r.val - 1 - 1 - 1 - 1 - 1 - 1 - 1 - 1 < 1 then g h else 0) = entry x0 j r l := by
  obtain ⟨r, hr⟩ := r
  unfold entry
  interval_cases r <;> first | exact hf _ | exact hg _ | rfl

theorem third0_at (r : Fin 16) (l : Fin 1024) : third0 x0 (ix2 r l) = entry x0 0 r l := by
  unfold third0
  pointwise [k0_pay16, k0_pay9, k0_pay10, k0_pay11, k0_pay12, k0_pay13, k0_pay14, k0_pay15, k0_pay8]
  refine ladder x0 0 r l (fun d => row x0 d.val 12 (by decide +revert) (ix3 0 0 l)) _ (fun d => row_at _ 0 0 l d 12 rfl rfl) fun h => ?_
  congr 2; apply Fin.ext; simp; omega

theorem third1_at (r : Fin 16) (l : Fin 1024) : third1 x0 (ix2 r l) = entry x0 1 r l := by
  unfold third1
  pointwise [k0_pay17, k0_pay8]
  refine ladder x0 1 r l (fun d => row x0 d.val 13 (by decide +revert) (ix3 0 0 l)) _ (fun d => row_at _ 0 0 l d 13 rfl rfl) fun h => ?_
  congr 2; apply Fin.ext; simp; omega

theorem third2_at (r : Fin 16) (l : Fin 1024) : third2 x0 (ix2 r l) = entry x0 2 r l := by
  unfold third2
  pointwise [k0_pay20, k0_pay18, k0_pay19, k0_pay8]
  refine ladder x0 2 r l (fun d => row x0 d.val 14 (by decide +revert) (ix3 0 0 l)) _ (fun d => row_at _ 0 0 l d 14 rfl rfl) fun h => ?_
  congr 2; apply Fin.ext; simp; omega

/-- The modulation's gradient summed over the devices, and its columns on the chip. -/
def dbias : Vec Ideal S3x1024 .f32 :=
  k0_pay21 (tot x0) k0_pay8 (third0 x0) (third1 x0) (k0_pay18 (row x0 0 14 (by decide))) (k0_pay19 (row x0 1 14 (by decide))) (row x0 2 14 (by decide))
    (row x0 3 14 (by decide)) (row x0 4 14 (by decide)) (row x0 5 14 (by decide)) (row x0 6 14 (by decide)) (row x0 7 14 (by decide))
def mine : Vec Ideal S16x768 .bf16 :=
  k0_pay22 (tot x0) k0_pay8 (third0 x0) (third1 x0) (k0_pay18 (row x0 0 14 (by decide))) (k0_pay19 (row x0 1 14 (by decide))) (row x0 2 14 (by decide))
    (row x0 3 14 (by decide)) (row x0 4 14 (by decide)) (row x0 5 14 (by decide)) (row x0 6 14 (by decide)) (row x0 7 14 (by decide))

theorem entry_pad (j : Fin 3) (r : Fin 16) (l : Fin 1024) (h : 9 ≤ r.val) : entry x0 j r l = 0 := by
  unfold entry
  rw [dif_neg (by omega), if_neg (by omega)]

/-- The reference's array of the same rows. -/
theorem v8_at (r : Fin 9) (j : Fin 3) (l : Fin 1024) : val_main_v8 (F := Ideal) x0 (ix3 r j l) = entry x0 j ⟨r.val, by omega⟩ l := by
  unfold entry
  rw [tot_eq]
  pointwise [val_main_v8, val_main_v7, val_main_v6, val_main_v5]
  by_cases h : r.val < 8
  · rw [dif_pos h, dif_pos h]
  · rw [dif_neg h, dif_neg h, if_pos (by omega)]

/-- A sum over the sixteen rows is one over the first nine where the others are zero. -/
theorem sum_nine (f : Fin 16 → EReal) (g : Fin 9 → EReal) (h : ∀ r : Fin 9, f ⟨r.val, by omega⟩ = g r) (h0 : ∀ r : Fin 16, 9 ≤ r.val → f r = 0) :
    ∑ r, f r = ∑ r, g r := by
  rw [show (∑ r, f r) = ∑ r : Fin (9 + 7), f r from rfl, Fin.sum_univ_add]
  rw [Finset.sum_eq_zero (s := Finset.univ) (f := fun i : Fin 7 => f (Fin.natAdd 9 i)) fun i _ => h0 _ (by simp), add_zero]
  exact Finset.sum_congr rfl fun r _ => h r

theorem mine_at (r : Fin 16) (n : Fin 768) : mine x0 (ix2 r n) = entry x0 0 r ⟨n.val, by omega⟩ := by
  unfold mine
  pointwise [k0_pay22]
  rw [dif_pos (by omega)]
  exact third0_at x0 _ _

theorem v10_at (r : Fin 9) (n : Fin 768) : val_main_v10 (F := Ideal) x0 (ix2 r n) = entry x0 0 ⟨r.val, by omega⟩ ⟨n.val, by omega⟩ := by
  rw [← v8_at]
  pointwise [val_main_v10, val_main_v9]
  have h1 : n.val / 1024 = 0 := by omega
  have h2 : n.val % 1024 = n.val := by omega
  congr 2 <;> apply Fin.ext <;> simp [h1, h2]

theorem dbias_eq : dbias x0 = val_main_v34 (F := Ideal) x0 := by
  have e2 : ∀ r l, third2 x0 (ix2 r l) = entry x0 2 r l := third2_at x0
  unfold third2 at e2
  funext j
  idx_vars j
  unfold dbias
  pointwise [k0_pay21, val_main_v34, val_main_cst_4]
  rw [← sum_nine (fun x => entry x0 j0 x j1) _ (fun r => (v8_at x0 r j0 j1).symm) fun r h => entry_pad x0 j0 r j1 h]
  match j0 with
  | 0 => rw [dif_pos (by decide)]; exact Finset.sum_congr rfl fun x _ => third0_at x0 x j1
  | 1 => rw [dif_neg (by decide), dif_pos (by decide)]; exact Finset.sum_congr rfl fun x _ => third1_at x0 x j1
  | 2 => rw [dif_neg (by decide), dif_neg (by decide)]; exact Finset.sum_congr rfl fun x _ => e2 x j1

end Slabs

/-! ## The conditioning's rows and the modulation weight's gradient -/

section Cond

variable (x0 : Vec Ideal S8x80x1024 .f32) (x2 : Vec Ideal S72x1024 .f32)

/-- One row of the conditioning. -/
abbrev crow (d : Nat) (h : ∀ a, ![d, 0] a + ![1, 1024] a ≤ S72x1024.size a) : Vec Ideal S1x1024 .f32 :=
  View.ld x2 (Rect.unit ![d, 0] ![1, 1024] h)

variable {x2} in
theorem crow_at {d : Nat} (h : ∀ a, ![d, 0] a + ![1, 1024] a ≤ S72x1024.size a) (a : Fin 1) (l : Fin 1024) (q : Fin 72) (hq : q.val = d) :
    crow x2 d h (ix2 a l) = x2 (ix2 q l) := by
  show x2 _ = x2 _
  congr 1
  funext e
  apply Fin.ext
  match e with
  | ⟨0, _⟩ => show d + 1 * a.val = q.val; omega
  | ⟨1, _⟩ => show 0 + 1 * l.val = l.val; omega

/-- The weight's gradient as the body makes it. -/
def dweight : Vec Ideal S1024x768 .f32 :=
  k0_pay23 k0_pay8 (crow x2 0 (by decide)) (crow x2 8 (by decide)) (crow x2 16 (by decide)) (crow x2 24 (by decide)) (crow x2 32 (by decide))
    (crow x2 40 (by decide)) (crow x2 48 (by decide)) (crow x2 56 (by decide)) (crow x2 64 (by decide)) (mine x0)

/-- The reference's nine rows of the conditioning. -/
theorem v4_at (r : Fin 9) (l : Fin 1024) : val_main_v4 (F := Ideal) x2 (ix2 r l) = x2 (ix2 ⟨8 * r.val, by omega⟩ l) := by
  pointwise [val_main_v4, val_main_v3, val_main_v2]
  split
  · rfl
  · congr 2; apply Fin.ext; show 64 + (r.val - 8) = 8 * r.val; omega

theorem silu_mul {a b c d : EReal} (h : a = b) (hc : c = d) : a * Ideal.logistic a * c = d * (b * Ideal.div 1 (1 + Ideal.exp (-b))) := by
  rw [h, hc, mul_comm]
  rfl

theorem dweight_eq : dweight x0 x2 = val_main_v16 (F := Ideal) x0 x2 := by
  funext j
  idx_vars j
  unfold dweight
  pointwise [k0_pay23, k0_pay8, val_main_v16, val_main_v15, val_main_v11, val_main_call0_v5, val_main_call0_v4, val_main_call0_v3,
    val_main_call0_v2, val_main_call0_v1, val_main_call0_v0, val_main_call0_cst, val_main_call0_cst_0]
  refine sum_nine _ _ (fun r => ?_) fun r h => ?_
  · refine silu_mul ?_ ((mine_at x0 _ _).trans (v10_at x0 _ _).symm)
    rw [v4_at]
    obtain ⟨r, hr⟩ := r
    interval_cases r <;> exact crow_at _ _ _ _ rfl
  · rw [mine_at, entry_pad _ _ _ _ h, mul_zero]

end Cond

/-! ## The gradient of the context's condition, and the two shards' sums -/

section Sums

variable (x0 : Vec Ideal S8x80x1024 .f32) (x1 : Vec Ideal S4x16x1024 .f32) (x3 : Vec Ideal S1x1024 .f32) (w : Vec Ideal S1024x768 .f32)

/-- Another chip's product. -/
abbrev part (k : Nat) (h : ∀ a, ![k, 0, 0] a + ![1, 16, 1024] a ≤ S4x16x1024.size a) : Vec Ideal S1x16x1024 .f32 :=
  View.ld x1 (Rect.unit ![k, 0, 0] ![1, 16, 1024] h)

variable {x1} in
theorem part_at {k : Nat} (h : ∀ a, ![k, 0, 0] a + ![1, 16, 1024] a ≤ S4x16x1024.size a) (a : Fin 1) (r : Fin 16) (l : Fin 1024) (q : Fin 4)
    (hq : q.val = k) : part x1 k h (ix3 a r l) = x1 (ix3 q r l) := by
  show x1 _ = x1 _
  congr 1
  funext e
  apply Fin.ext
  match e with
  | ⟨0, _⟩ => show k + 1 * a.val = q.val; omega
  | ⟨1, _⟩ => show 0 + 1 * r.val = r.val; omega
  | ⟨2, _⟩ => show 0 + 1 * l.val = l.val; omega

def dcond : Vec Ideal S1x1024 .f32 :=
  k0_pay2 (k0_pay1 (k0_pay25 (mine x0) w)) (part x1 1 (by decide)) (part x1 2 (by decide)) (part x1 3 (by decide)) x3

theorem dact_at (l : Fin 1024) :
    ∑ x, mine x0 (ix2 8 x) * w (ix2 l x) + part x1 1 (by decide) (ix3 0 8 l) + part x1 2 (by decide) (ix3 0 8 l) + part x1 3 (by decide) (ix3 0 8 l)
      = ∑ x : Fin 3, x1 (ix3 ⟨1 + x.val, by omega⟩ 8 l) + ∑ x, val_main_v10 (F := Ideal) x0 (ix2 8 x) * w (ix2 l x) := by
  have e : ∀ x, mine x0 (ix2 8 x) = val_main_v10 (F := Ideal) x0 (ix2 8 x) := fun x => (mine_at x0 8 x).trans (v10_at x0 8 x).symm
  rw [part_at (k := 1) _ 0 8 l 1 rfl, part_at (k := 2) _ 0 8 l 2 rfl, part_at (k := 3) _ 0 8 l 3 rfl, Fin.sum_univ_three,
    Finset.sum_congr rfl fun x _ => by rw [e x]]
  have k : ∀ a b c d : EReal, a + b + c + d = b + c + d + a := fun a b c d => by ac_rfl
  rw [k]
  rfl

theorem dcond_eq : dcond x0 x1 x3 w = val_main_v27 (F := Ideal) x0 x1 w x3 := by
  funext j
  idx_vars j
  unfold dcond
  pointwise [k0_pay2, k0_pay1, k0_pay25, val_main_v27, val_main_call2_v2, val_main_call2_v1, val_main_call2_v0, val_main_v26, val_main_v25, val_main_v24,
    val_main_v20, val_main_v19, val_main_v18, val_main_v17, val_main_cst_1, val_main_v21_1, val_main_v21_2, val_main_call1_v7, val_main_call1_v6, val_main_call1_cst_1,
    val_main_call1_v4, val_main_call1_v3, val_main_call1_v2, val_main_call1_v1, val_main_call1_v0, val_main_call1_cst, val_main_call1_cst_0]
  rw [dact_at]
  rfl

/-- The chip's own shard with what the three other chips sent. -/
theorem shard_eq (y : Vec Ideal S512x896 .f32) (g : Vec Ideal S3x512x896 .bf16) (h0 h1 h2) :
    k0_pay3 y (View.ld g (Rect.unit ![0, 0, 0] ![1, 512, 896] h0)) (View.ld g (Rect.unit ![1, 0, 0] ![1, 512, 896] h1))
      (View.ld g (Rect.unit ![2, 0, 0] ![1, 512, 896] h2)) = val_main_v30 (F := Ideal) y g := by
  funext j
  idx_vars j
  pointwise [k0_pay3, val_main_v30, val_main_v29, val_main_v28, val_main_cst_2]
  rw [Fin.sum_univ_three, ← add_assoc, ← add_assoc]

theorem shard_eq' (y : Vec Ideal S128x1024 .f32) (g : Vec Ideal S3x128x1024 .bf16) (h0 h1 h2) :
    k0_pay4 y (View.ld g (Rect.unit ![0, 0, 0] ![1, 128, 1024] h0)) (View.ld g (Rect.unit ![1, 0, 0] ![1, 128, 1024] h1))
      (View.ld g (Rect.unit ![2, 0, 0] ![1, 128, 1024] h2)) = val_main_v33 (F := Ideal) y g := by
  funext j
  idx_vars j
  pointwise [k0_pay4, val_main_v33, val_main_v32, val_main_v31, val_main_cst_3]
  rw [Fin.sum_univ_three, ← add_assoc, ← add_assoc]

end Sums

/-! ## The run's stored blocks -/

/-- A box read back from a buffer one whole copy has filled. -/
theorem readCov_whole {sg : RefSig} {κ : Kind} {sp : Space} {s : Shape} {e : EltTy} (v : View sg κ sp s e) (f : s.Idx → Elt Ideal e)
    (r : Rect s) : v.readCov [(⟨Rect.whole s, f⟩ : View.Piece (Elt Ideal) s e)] r.toLoadRect = View.ld f r := by
  rw [View.readCov_eq_canon']
  funext j
  have e : View.canon [(⟨Rect.whole s, f⟩ : View.Piece (Elt Ideal) s e)] ((Rect.whole s).emb (r.idx j)) = f (r.idx j) := View.canon_cons_emb _ _ _ _
  rw [Rect.emb_whole_apply] at e
  exact e

section Body

variable (c : Dev nD) (a4 : Memref sig .tc .vmem S8x80x1024 .f32) (h4 : a4.IsWhole) (a5 : Memref sig .tc .vmem S4x16x1024 .f32) (h5 : a5.IsWhole) (a6 : Memref sig .tc .vmem S72x1024 .f32) (h6 : a6.IsWhole) (a8 : Memref sig .tc .vmem S1x1024 .f32) (h8 : a8.IsWhole) (a9 : Memref sig .tc .vmem S512x896 .f32) (h9 : a9.IsWhole) (a10 : Memref sig .tc .vmem S128x1024 .f32) (h10 : a10.IsWhole) (a11 : Memref sig .tc .vmem S80x1024 .f32) (h11 : a11.IsWhole) (a12 : Memref sig .tc .vmem S1024x768 .f32) (h12 : a12.IsWhole) (a13 : Memref sig .tc .vmem S3x1024 .f32) (h13 : a13.IsWhole) (a14 : Memref sig .tc .vmem S1x1024 .f32) (h14 : a14.IsWhole) (a15 : Memref sig .tc .vmem S512x896 .f32) (h15 : a15.IsWhole) (a16 : Memref sig .tc .vmem S3x512x896 .bf16) (h16 : a16.IsWhole) (a17 : Memref sig .tc .vmem S128x1024 .f32) (h17 : a17.IsWhole) (a18 : Memref sig .tc .vmem S3x128x1024 .bf16) (h18 : a18.IsWhole) (a19 : Memref sig .tc .vmem S1024x768 .f32) (h19 : a19.IsWhole) (a20 : Memref sig .tc .vmem S16x768 .bf16) (h20 : a20.IsWhole) (a21 : Memref sig .tc .vmem S4x16x1024 .f32) (h21 : a21.IsWhole)
  (x0 : Vec Ideal S8x80x1024 .f32) (x1 : Vec Ideal S4x16x1024 .f32) (x2 : Vec Ideal S72x1024 .f32) (x3 : Vec Ideal S1x1024 .f32) (fh0 : HbBuf0 (F := Ideal) c hbM0_0) (fh1 : HbBuf0 (F := Ideal) c hbM0_1) (fh2 : HbBuf0 (F := Ideal) c hbM0_2) (fh3 : HbBuf0 (F := Ideal) c hbM0_3) (fh4 : HbBuf0 (F := Ideal) c hbM0_4)

theorem pay24_eq : k0_pay24 (F := Ideal) x1 = x1 := by
  funext j
  idx_vars j
  pointwise [k0_pay24]

theorem parts_own (v : View sig .tc .vmem S4x16x1024 .f32) (p : Vec Ideal S16x1024 .f32) (h0 hw h0') :
    v.readCov [(⟨Rect.unit ![0, 0, 0] ![1, 16, 1024] h0, k0_pay1 (F := Ideal) p⟩ : View.Piece (Elt Ideal) S4x16x1024 .f32),
      ⟨Rect.unit ![0, 0, 0] ![4, 16, 1024] hw, k0_pay24 (F := Ideal) x1⟩] (Rect.unit ![0, 0, 0] ![1, 16, 1024] h0').toLoadRect = k0_pay1 (F := Ideal) p := by
  rw [View.readCov_eq_canon']
  funext j
  exact View.canon_cons_emb _ _ _ j

theorem parts_other (v : View sig .tc .vmem S4x16x1024 .f32) (p : Vec Ideal S16x1024 .f32) (k : Nat) (hk : 1 ≤ k) (h0 hw) (hkb) :
    v.readCov [(⟨Rect.unit ![0, 0, 0] ![1, 16, 1024] h0, k0_pay1 (F := Ideal) p⟩ : View.Piece (Elt Ideal) S4x16x1024 .f32),
      ⟨Rect.unit ![0, 0, 0] ![4, 16, 1024] hw, k0_pay24 (F := Ideal) x1⟩] (Rect.unit ![k, 0, 0] ![1, 16, 1024] hkb).toLoadRect = part x1 k hkb := by
  rw [View.readCov_eq_canon']
  funext j
  refine (View.canon_cons_of_not_mem _ _ ?_).trans ?_
  · rw [Rect.mem_set_unit]
    intro h
    have h2 : k + 1 * (j 0).val < 0 + 1 := (h 0).2
    omega
  · rw [View.canon_unit_zero (S := S4x16x1024) hz3, pay24_eq]

theorem body4 : out0_A_4 c a4 h4 a5 h5 a6 h6 a8 h8 a9 h9 a10 h10 a11 h11 a12 h12 a13 h13 a14 h14 a15 h15 a16 h16 a17 h17 a18 h18 a19 h19 a20 h20 a21 h21 x0 x1 x2 x3 fh0 fh1 fh2 fh3 fh4
    = val_main_v30 (F := Ideal) fh0 fh1 := by
  unfold out0_A_4
  rw [View.read_writes_eq_canon _ _ _ (cover0_A_4 c a4 h4 a5 h5 a6 h6 a8 h8 a9 h9 a10 h10 a11 h11 a12 h12 a13 h13 a14 h14 a15 h15 a16 h16 a17 h17 a18 h18 a19 h19 a20 h20 a21 h21 x0 x1 x2 x3 fh0 fh1 fh2 fh3 fh4)]
  unfold kernelRun0_A
  dsimp only
  sl_unfold_words
  rw [View.canon_unit_zero hz]
  simp only [View.readAt_eq_ld, h4.read_unread, h5.read_unread, h6.read_unread, h8.read_unread, readCov_whole]
  simp only [View.ld_unit_zero (S := S512x896) hz]
  exact shard_eq fh0 fh1 _ _ _

theorem body5 : out0_A_5 c a4 h4 a5 h5 a6 h6 a8 h8 a9 h9 a10 h10 a11 h11 a12 h12 a13 h13 a14 h14 a15 h15 a16 h16 a17 h17 a18 h18 a19 h19 a20 h20 a21 h21 x0 x1 x2 x3 fh0 fh1 fh2 fh3 fh4
    = val_main_v33 (F := Ideal) fh2 fh3 := by
  unfold out0_A_5
  rw [View.read_writes_eq_canon _ _ _ (cover0_A_5 c a4 h4 a5 h5 a6 h6 a8 h8 a9 h9 a10 h10 a11 h11 a12 h12 a13 h13 a14 h14 a15 h15 a16 h16 a17 h17 a18 h18 a19 h19 a20 h20 a21 h21 x0 x1 x2 x3 fh0 fh1 fh2 fh3 fh4)]
  unfold kernelRun0_A
  dsimp only
  sl_unfold_words
  rw [View.canon_unit_zero hz]
  simp only [View.readAt_eq_ld, h4.read_unread, h5.read_unread, h6.read_unread, h8.read_unread, readCov_whole]
  simp only [View.ld_unit_zero (S := S128x1024) hz]
  exact shard_eq' fh2 fh3 _ _ _

theorem body6 : out0_A_6 c a4 h4 a5 h5 a6 h6 a8 h8 a9 h9 a10 h10 a11 h11 a12 h12 a13 h13 a14 h14 a15 h15 a16 h16 a17 h17 a18 h18 a19 h19 a20 h20 a21 h21 x0 x1 x2 x3 fh0 fh1 fh2 fh3 fh4
    = val_main_v1 (F := Ideal) x0 := by
  unfold out0_A_6
  rw [View.read_writes_eq_canon _ _ _ (cover0_A_6 c a4 h4 a5 h5 a6 h6 a8 h8 a9 h9 a10 h10 a11 h11 a12 h12 a13 h13 a14 h14 a15 h15 a16 h16 a17 h17 a18 h18 a19 h19 a20 h20 a21 h21 x0 x1 x2 x3 fh0 fh1 fh2 fh3 fh4)]
  unfold kernelRun0_A
  dsimp only
  sl_unfold_words
  rw [View.canon_unit_zero hz]
  simp only [View.readAt_eq_ld, h4.read_unread, h5.read_unread, h6.read_unread, h8.read_unread, readCov_whole]
  exact tot_eq x0

theorem body8 : out0_A_8 c a4 h4 a5 h5 a6 h6 a8 h8 a9 h9 a10 h10 a11 h11 a12 h12 a13 h13 a14 h14 a15 h15 a16 h16 a17 h17 a18 h18 a19 h19 a20 h20 a21 h21 x0 x1 x2 x3 fh0 fh1 fh2 fh3 fh4
    = val_main_v34 (F := Ideal) x0 := by
  unfold out0_A_8
  rw [View.read_writes_eq_canon _ _ _ (cover0_A_8 c a4 h4 a5 h5 a6 h6 a8 h8 a9 h9 a10 h10 a11 h11 a12 h12 a13 h13 a14 h14 a15 h15 a16 h16 a17 h17 a18 h18 a19 h19 a20 h20 a21 h21 x0 x1 x2 x3 fh0 fh1 fh2 fh3 fh4)]
  unfold kernelRun0_A
  dsimp only
  sl_unfold_words
  rw [View.canon_unit_zero hz]
  simp only [View.readAt_eq_ld, h4.read_unread, h5.read_unread, h6.read_unread, h8.read_unread, readCov_whole]
  exact dbias_eq x0

theorem body7 : out0_A_7 c a4 h4 a5 h5 a6 h6 a8 h8 a9 h9 a10 h10 a11 h11 a12 h12 a13 h13 a14 h14 a15 h15 a16 h16 a17 h17 a18 h18 a19 h19 a20 h20 a21 h21 x0 x1 x2 x3 fh0 fh1 fh2 fh3 fh4
    = val_main_v16 (F := Ideal) x0 x2 := by
  unfold out0_A_7
  rw [View.read_writes_eq_canon _ _ _ (cover0_A_7 c a4 h4 a5 h5 a6 h6 a8 h8 a9 h9 a10 h10 a11 h11 a12 h12 a13 h13 a14 h14 a15 h15 a16 h16 a17 h17 a18 h18 a19 h19 a20 h20 a21 h21 x0 x1 x2 x3 fh0 fh1 fh2 fh3 fh4)]
  unfold kernelRun0_A
  dsimp only
  sl_unfold_words
  rw [View.canon_unit_zero hz]
  simp only [View.readAt_eq_ld, h4.read_unread, h5.read_unread, h6.read_unread, h8.read_unread, readCov_whole]
  simp only [View.readCov_unit_zero (S := S16x768) _ hz]
  exact dweight_eq x0 x2

theorem body9 : out0_A_9 c a4 h4 a5 h5 a6 h6 a8 h8 a9 h9 a10 h10 a11 h11 a12 h12 a13 h13 a14 h14 a15 h15 a16 h16 a17 h17 a18 h18 a19 h19 a20 h20 a21 h21 x0 x1 x2 x3 fh0 fh1 fh2 fh3 fh4
    = val_main_v27 (F := Ideal) x0 x1 fh4 x3 := by
  unfold out0_A_9
  rw [View.read_writes_eq_canon _ _ _ (cover0_A_9 c a4 h4 a5 h5 a6 h6 a8 h8 a9 h9 a10 h10 a11 h11 a12 h12 a13 h13 a14 h14 a15 h15 a16 h16 a17 h17 a18 h18 a19 h19 a20 h20 a21 h21 x0 x1 x2 x3 fh0 fh1 fh2 fh3 fh4)]
  unfold kernelRun0_A
  dsimp only
  sl_unfold_words
  rw [View.canon_unit_zero hz]
  simp only [View.readAt_eq_ld, h4.read_unread, h5.read_unread, h6.read_unread, h8.read_unread, readCov_whole]
  simp only [View.readCov_unit_zero (S := S16x768) _ hz, View.ld_unit_zero (S := S4x16x1024) hz3, View.ld_unit_zero (S := S1024x768) hz,
    View.ld_unit_zero (S := S1x1024) hz]
  refine Eq.trans ?_ (dcond_eq x0 x1 x3 fh4)
  unfold dcond
  congr 1
  · exact parts_own x1 _ _ _ _ _
  · exact parts_other x1 _ _ 1 (by decide) _ _ _
  · exact parts_other x1 _ _ 2 (by decide) _ _ _
  · exact parts_other x1 _ _ 3 (by decide) _ _ _

end Body

variable (m : (ℓ : Loc nD τ sig) → Buf (Elt Ideal) ℓ)

/-- A vector operand's block is the whole array. -/
theorem iblk0 (c : Dev nD) (t : Fin cfg0.N) : (iblk m c 0 t : Vec Ideal S8x80x1024 .f32) = m ((c : Thread nD τ).loc main_arg4) := by
  obtain rfl := fin_N0 t
  have hz' : (fun a => win0_0.index t0_0 a * main_arg4.ty.shape.size a) = fun _ => 0 := funext fun a => by fin_cases a <;> decide
  exact (Memref.read_access_unit_zero (Elt Ideal) main_arg4 hz' (fun a => by rw [congrFun hz' a]; simp) _).trans (V_main_arg4 m c)

theorem iblk1 (c : Dev nD) (t : Fin cfg0.N) : (iblk m c 1 t : Vec Ideal S4x16x1024 .f32) = m ((c : Thread nD τ).loc main_arg5) := by
  obtain rfl := fin_N0 t
  have hz' : (fun a => win0_1.index t0_0 a * main_arg5.ty.shape.size a) = fun _ => 0 := funext fun a => by fin_cases a <;> decide
  exact (Memref.read_access_unit_zero (Elt Ideal) main_arg5 hz' (fun a => by rw [congrFun hz' a]; simp) _).trans (V_main_arg5 m c)

theorem iblk2 (c : Dev nD) (t : Fin cfg0.N) : (iblk m c 2 t : Vec Ideal S72x1024 .f32) = m ((c : Thread nD τ).loc main_arg6) := by
  obtain rfl := fin_N0 t
  have hz' : (fun a => win0_2.index t0_0 a * main_arg6.ty.shape.size a) = fun _ => 0 := funext fun a => by fin_cases a <;> decide
  exact (Memref.read_access_unit_zero (Elt Ideal) main_arg6 hz' (fun a => by rw [congrFun hz' a]; simp) _).trans (V_main_arg6 m c)

theorem iblk3 (c : Dev nD) (t : Fin cfg0.N) : (iblk m c 3 t : Vec Ideal S1x1024 .f32) = m ((c : Thread nD τ).loc main_arg8) := by
  obtain rfl := fin_N0 t
  have hz' : (fun a => win0_3.index t0_0 a * main_arg8.ty.shape.size a) = fun _ => 0 := funext fun a => by fin_cases a <;> decide
  exact (Memref.read_access_unit_zero (Elt Ideal) main_arg8 hz' (fun a => by rw [congrFun hz' a]; simp) _).trans (V_main_arg8 m c)

/-- The six results after the run. -/
theorem final4 (c : Dev nD) : (dats m 0 c).arrAt 4 cfg0.N = val_main_v30 (F := Ideal) (m ((c : Thread nD τ).loc main_arg0)) (m ((c : Thread nD τ).loc main_arg1)) := by
  have hb := blocks4 m c t0_0 (by decide +kernel)
  rw [flushed4_A, body4] at hb
  have hz' : (fun a => win0_4.index t0_0 a * main_v0_0.ty.shape.size a) = fun _ => 0 := funext fun a => by fin_cases a <;> decide
  exact ((Memref.read_access_unit_zero (Elt Ideal) main_v0_0 hz' (fun a => by rw [congrFun hz' a]; simp) _).symm).trans hb

theorem final5 (c : Dev nD) : (dats m 0 c).arrAt 5 cfg0.N = val_main_v33 (F := Ideal) (m ((c : Thread nD τ).loc main_arg2)) (m ((c : Thread nD τ).loc main_arg3)) := by
  have hb := blocks5 m c t0_0 (by decide +kernel)
  rw [flushed5_A, body5] at hb
  have hz' : (fun a => win0_5.index t0_0 a * main_v0_1.ty.shape.size a) = fun _ => 0 := funext fun a => by fin_cases a <;> decide
  exact ((Memref.read_access_unit_zero (Elt Ideal) main_v0_1 hz' (fun a => by rw [congrFun hz' a]; simp) _).symm).trans hb

theorem final6 (c : Dev nD) : (dats m 0 c).arrAt 6 cfg0.N = val_main_v1 (F := Ideal) (m ((c : Thread nD τ).loc main_arg4)) := by
  have hb := blocks6 m c t0_0 (by decide +kernel)
  rw [flushed6_A, body6, iblk0] at hb
  have hz' : (fun a => win0_6.index t0_0 a * main_v0_2.ty.shape.size a) = fun _ => 0 := funext fun a => by fin_cases a <;> decide
  exact ((Memref.read_access_unit_zero (Elt Ideal) main_v0_2 hz' (fun a => by rw [congrFun hz' a]; simp) _).symm).trans hb

theorem final7 (c : Dev nD) : (dats m 0 c).arrAt 7 cfg0.N = val_main_v16 (F := Ideal) (m ((c : Thread nD τ).loc main_arg4)) (m ((c : Thread nD τ).loc main_arg6)) := by
  have hb := blocks7 m c t0_0 (by decide +kernel)
  rw [flushed7_A, body7, iblk0, iblk2] at hb
  have hz' : (fun a => win0_7.index t0_0 a * main_v0_3.ty.shape.size a) = fun _ => 0 := funext fun a => by fin_cases a <;> decide
  exact ((Memref.read_access_unit_zero (Elt Ideal) main_v0_3 hz' (fun a => by rw [congrFun hz' a]; simp) _).symm).trans hb

theorem final8 (c : Dev nD) : (dats m 0 c).arrAt 8 cfg0.N = val_main_v34 (F := Ideal) (m ((c : Thread nD τ).loc main_arg4)) := by
  have hb := blocks8 m c t0_0 (by decide +kernel)
  rw [flushed8_A, body8, iblk0] at hb
  have hz' : (fun a => win0_8.index t0_0 a * main_v0_4.ty.shape.size a) = fun _ => 0 := funext fun a => by fin_cases a <;> decide
  exact ((Memref.read_access_unit_zero (Elt Ideal) main_v0_4 hz' (fun a => by rw [congrFun hz' a]; simp) _).symm).trans hb

theorem final9 (c : Dev nD) : (dats m 0 c).arrAt 9 cfg0.N = val_main_v27 (F := Ideal) (m ((c : Thread nD τ).loc main_arg4)) (m ((c : Thread nD τ).loc main_arg5)) (m ((c : Thread nD τ).loc main_arg7)) (m ((c : Thread nD τ).loc main_arg8)) := by
  have hb := blocks9 m c t0_0 (by decide +kernel)
  rw [flushed9_A, body9, iblk0, iblk1, iblk3] at hb
  have hz' : (fun a => win0_9.index t0_0 a * main_v0_5.ty.shape.size a) = fun _ => 0 := funext fun a => by fin_cases a <;> decide
  exact ((Memref.read_access_unit_zero (Elt Ideal) main_v0_5 hz' (fun a => by rw [congrFun hz' a]; simp) _).symm).trans hb

end Cert.ReduceIdeal.Value

namespace Cert.ReduceRefIdeal.Value

open Cert.ReduceRefIdeal Cert.ReduceRefIdeal.Read Idealize.ShloMosaic Idealize.ShloMosaic.TcCoe Idealize.SL.Sem

/-- The reference's run, its six results by name. -/
theorem run_val (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v30) = val_main_v30 (F := Ideal) (m ((c.tc : Thread nD τ).loc main_arg0)) (m ((c.tc : Thread nD τ).loc main_arg1))
      ∧ r.2.mem ((c.tc : Thread nD τ).loc main_v33) = val_main_v33 (F := Ideal) (m ((c.tc : Thread nD τ).loc main_arg2)) (m ((c.tc : Thread nD τ).loc main_arg3))
      ∧ r.2.mem ((c.tc : Thread nD τ).loc main_v1) = val_main_v1 (F := Ideal) (m ((c.tc : Thread nD τ).loc main_arg4))
      ∧ r.2.mem ((c.tc : Thread nD τ).loc main_v16) = val_main_v16 (F := Ideal) (m ((c.tc : Thread nD τ).loc main_arg4)) (m ((c.tc : Thread nD τ).loc main_arg6))
      ∧ r.2.mem ((c.tc : Thread nD τ).loc main_v34) = val_main_v34 (F := Ideal) (m ((c.tc : Thread nD τ).loc main_arg4))
      ∧ r.2.mem ((c.tc : Thread nD τ).loc main_v27) = val_main_v27 (F := Ideal) (m ((c.tc : Thread nD τ).loc main_arg4)) (m ((c.tc : Thread nD τ).loc main_arg5)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run _ _ _).mono (fun r h c => ⟨(h c).1.trans (val_main_v30_eq ..), (h c).2.1.trans (val_main_v33_eq ..), (h c).2.2.1.trans (val_main_v1_eq ..), (h c).2.2.2.1.trans (val_main_v16_eq ..), (h c).2.2.2.2.1.trans (val_main_v34_eq ..), (h c).2.2.2.2.2.1.trans (val_main_v27_eq ..), (h c).2.2.2.2.2.2⟩) (run m ρ)

end Cert.ReduceRefIdeal.Value
-- ==== Proof.Adam.lean ====
/-
  The optimiser's step as arithmetic on whole arrays of any shape. An entry of its results depends on the same entry of its
  operands alone, so a step on a block is the block of the step on the array.
-/
module

public import Idealize.ShloMosaic.Lib.Pipeline.Value
public import Idealize.ShloMosaic.Lib.Pipeline.ValueKit.Point

@[expose] public section

noncomputable section

namespace Cert.Adam

open Idealize.ShloMosaic

variable {S T : Shape}

/-- The first moment after the step. -/
def mean (g mo : FVec Ideal S .f32) : FVec Ideal S .f32 :=
  addf (F := Ideal) (mulf (broadcast S (Scalar.ofBits .f32 0x3F666666#32)) mo) (mulf (broadcast S (Scalar.ofBits .f32 0x3DCCCCCD#32)) g)

/-- The second moment after the step. -/
def square (g ve : FVec Ideal S .f32) : FVec Ideal S .f32 :=
  addf (F := Ideal) (mulf (broadcast S (Scalar.ofBits .f32 0x3F7FBE77#32)) ve) (mulf (broadcast S (Scalar.ofBits .f32 0x3A83126F#32)) (mulf g g))

/-- The step's update. -/
def update (w g mo ve : FVec Ideal S .f32) : FVec Ideal S .f32 :=
  mulf (F := Ideal) (broadcast S (Scalar.ofBits .f32 0xBA83126F#32))
    (addf (F := Ideal) (divf (divf (mean g mo) (broadcast S (Scalar.ofBits .f32 0x3F26BD02#32)))
      (addf (sqrt (divf (square g ve) (broadcast S (Scalar.ofBits .f32 0x3C231ACC#32)))) (broadcast S (Scalar.ofBits .f32 0x322BCC77#32))))
      (mulf (broadcast S (Scalar.ofBits .f32 0x3C23D70A#32)) w))

/-- Equal operands at two entries give equal results there. -/
theorem step_at {w g mo ve : FVec Ideal S .f32} {W G M E : FVec Ideal T .f32} {i : S.Idx} {j : T.Idx}
    (h : w i = W j ∧ g i = G j ∧ mo i = M j ∧ ve i = E j) :
    update w g mo ve i = update W G M E j ∧ mean g mo i = mean G M j ∧ square g ve i = square G E j := by
  obtain ⟨hw, hg, hm, hv⟩ := h
  have e1 : mean g mo i = mean G M j := by simp only [mean, addf, mulf, broadcast, hg, hm]
  have e2 : square g ve i = square G E j := by simp only [square, addf, mulf, broadcast, hg, hv]
  refine ⟨?_, e1, e2⟩
  simp only [update, addf, mulf, divf, sqrt, broadcast, e1, e2, hw]

/-- An entry of an array lies in the block of 256 whole rows that its row is in. -/
theorem row_mem {C : ℕ} {i : Fin 2 → ℕ} (ind : Fin 2 → ℕ) (h : ind 0 = i 0 / 256 ∧ ind 1 = 0) (hC : i 1 < C) (size : Fin 2 → ℕ)
    (hs : size 0 = 256 ∧ size 1 = C) (a : Fin 2) : ind a * size a ≤ i a ∧ i a < ind a * size a + size a := by
  match a with
  | ⟨0, _⟩ => show ind 0 * size 0 ≤ i 0 ∧ i 0 < ind 0 * size 0 + size 0; rw [h.1, hs.1]; omega
  | ⟨1, _⟩ => show ind 1 * size 1 ≤ i 1 ∧ i 1 < ind 1 * size 1 + size 1; rw [h.2, hs.2]; omega

end Cert.Adam
-- ==== Proof.AdamIn.lean ====
/-
  The optimiser's step on the chip's rows of the input weight: after the run the three result arrays hold the reference's
  update, first moment and second moment.
-/
module

public import proofs.«01_k».proof.Proof.Gen.AdamInIdeal.Value
public import proofs.«01_k».proof.Proof.Gen.AdamInRefIdeal.Run
public import proofs.«01_k».proof.Proof.Gen.AdamInRefIdeal.Read
public import proofs.«01_k».proof.Proof.Adam

@[expose] public section

set_option maxRecDepth 16384

noncomputable section

namespace Cert.AdamInIdeal.Value

open Cert.AdamInIdeal Cert.AdamInIdeal.Gen Idealize.ShloMosaic Idealize.ShloMosaic.TcCoe Idealize.SL.Sem
open Idealize.ShloMosaic.Pipeline (Dat)
open Cert.AdamInRefIdeal.Read

theorem hz : (![0, 0] : Fin 2 → Nat) = fun _ => 0 := funext fun a => by fin_cases a <;> rfl

variable (m : (ℓ : Loc nD τ sig) → Buf (Elt Ideal) ℓ)

/-- Every window's block at point `t` is block row `t`. -/
theorem hi (t : Fin cfg0.N) :
    (win0_0.index t 0 = t.val ∧ win0_0.index t 1 = 0) ∧ (win0_1.index t 0 = t.val ∧ win0_1.index t 1 = 0) ∧
    (win0_2.index t 0 = t.val ∧ win0_2.index t 1 = 0) ∧ (win0_3.index t 0 = t.val ∧ win0_3.index t 1 = 0) ∧
    (win0_4.index t 0 = t.val ∧ win0_4.index t 1 = 0) ∧ (win0_5.index t 0 = t.val ∧ win0_5.index t 1 = 0) ∧
    (win0_6.index t 0 = t.val ∧ win0_6.index t 1 = 0) := by
  rcases fin_N0 t with rfl | rfl | rfl | rfl <;> decide +kernel

/-- The stored blocks are the step on the whole blocks. -/
theorem body (w g mo ve : Vec Ideal S256x896 .f32) :
    out0_4 w g mo ve = Adam.update w g mo ve ∧ out0_5 w g mo ve = Adam.mean g mo ∧ out0_6 w g mo ve = Adam.square g ve := by
  unfold out0_4 out0_5 out0_6
  refine ⟨?_, ?_, ?_⟩ <;> rw [View.canon_unit_zero hz] <;>
    simp only [View.ld_unit_zero (S := S256x896) hz, k0_pay4, k0_pay3, k0_pay2, k0_pay1, shapeCast_self] <;> rfl

/-- The array that window `0`, `1`, `2` or `3` brings in, as rows. -/
abbrev flat (a : Vec Ideal S1x1024x896 .f32) : Vec Ideal S1024x896 .f32 := shapeCast S1024x896 a shapeCasts_S1x1024x896_S1024x896

/-- The reference's results are the step on the whole arrays. -/
theorem whole (w g mo ve : Vec Ideal S1x1024x896 .f32) :
    val_main_v24 (F := Ideal) w g mo ve = Adam.update (flat w) (flat g) (flat mo) (flat ve) ∧
    val_main_v25 (F := Ideal) g mo = Adam.mean (flat g) (flat mo) ∧ val_main_v26 (F := Ideal) g ve = Adam.square (flat g) (flat ve) :=
  ⟨rfl, rfl, rfl⟩

abbrev arg (c : Dev nD) (b : Ref sig .tc) := m ((c.tc : Thread nD τ).loc b)

/-- The three stored blocks at point `t`, at the array entry under each of their entries. -/
theorem block_at (c : Dev nD) (t : Fin cfg0.N) (r : Fin 256) (l : Fin 896) (q : Fin 1024) (hq : q.val = 256 * t.val + r.val) :
    out0_4 (iblk m c 0 t) (iblk m c 1 t) (iblk m c 2 t) (iblk m c 3 t) (ix2 r l)
      = val_main_v24 (F := Ideal) (arg m c main_arg0) (arg m c main_arg1) (arg m c main_arg2) (arg m c main_arg3) (ix2 q l) ∧
    out0_5 (iblk m c 0 t) (iblk m c 1 t) (iblk m c 2 t) (iblk m c 3 t) (ix2 r l)
      = val_main_v25 (F := Ideal) (arg m c main_arg1) (arg m c main_arg2) (ix2 q l) ∧
    out0_6 (iblk m c 0 t) (iblk m c 1 t) (iblk m c 2 t) (iblk m c 3 t) (ix2 r l)
      = val_main_v26 (F := Ideal) (arg m c main_arg1) (arg m c main_arg3) (ix2 q l) := by
  have e := hi t
  have hf (a : Vec Ideal S1x1024x896 .f32) : flat a (ix2 q l) = a (ix3 0 q l) := by pointwise [flat]
  rw [(body ..).1, (body ..).2.1, (body ..).2.2, (whole ..).1, (whole (arg m c main_arg0) _ _ (arg m c main_arg3)).2.1,
    (whole (arg m c main_arg0) _ (arg m c main_arg2) _).2.2]
  refine Adam.step_at ⟨?_, ?_, ?_, ?_⟩ <;> rw [hf] <;> blk_ext! [iblk, V, e, hq]

/-- The three result arrays after the run: the update, the first moment and the second moment. -/
theorem final (c : Dev nD) :
    (dats m 0 c).arrAt 4 cfg0.N = val_main_v24 (F := Ideal) (arg m c main_arg0) (arg m c main_arg1) (arg m c main_arg2) (arg m c main_arg3) ∧
    (dats m 0 c).arrAt 5 cfg0.N = val_main_v25 (F := Ideal) (arg m c main_arg1) (arg m c main_arg2) ∧
    (dats m 0 c).arrAt 6 cfg0.N = val_main_v26 (F := Ideal) (arg m c main_arg1) (arg m c main_arg3) := by
  have hN : cfg0.N = 4 := N_0
  have hq (t : Fin cfg0.N) (r : Fin 256) : 256 * t.val + r.val < 1024 := by have := t.isLt; omega
  have hc (i : S1024x896.Idx) : (i 0).val / 256 < cfg0.N := by
    have h0 : (i 0).val < 1024 := (i 0).isLt
    omega
  have hm (i : S1024x896.Idx) (ind : Fin 2 → ℕ) (h : ind 0 = (i 0).val / 256 ∧ ind 1 = 0) :=
    Adam.row_mem (i := fun a => (i a).val) ind h (i 1).isLt S256x896.size ⟨rfl, rfl⟩
  refine ⟨(dats m 0 c).arrAt_eq_of_cover 4 _ (fun t _ => funext fun j => ?_) fun i => ⟨⟨_, hc i⟩, (by decide +kernel : ∀ t, (cfg0.win 4).flush t = true) _, ?_⟩,
    (dats m 0 c).arrAt_eq_of_cover 5 _ (fun t _ => funext fun j => ?_) fun i => ⟨⟨_, hc i⟩, (by decide +kernel : ∀ t, (cfg0.win 5).flush t = true) _, ?_⟩,
    (dats m 0 c).arrAt_eq_of_cover 6 _ (fun t _ => funext fun j => ?_) fun i => ⟨⟨_, hc i⟩, (by decide +kernel : ∀ t, (cfg0.win 6).flush t = true) _, ?_⟩⟩
  · have e := hi t
    rw [flushed4, View.read_apply]
    exact Eq.trans (by blk_ext! [e]) ((block_at m c t (j 0) (j 1) ⟨_, hq t (j 0)⟩ rfl).1.trans (by blk_ext! [e]))
  · exact (View.set_slice_whole .. ▸ Rect.mem_set_unit.mpr (hm i _ (hi ⟨_, hc i⟩).2.2.2.2.1))
  · have e := hi t
    rw [flushed5, View.read_apply]
    exact Eq.trans (by blk_ext! [e]) ((block_at m c t (j 0) (j 1) ⟨_, hq t (j 0)⟩ rfl).2.1.trans (by blk_ext! [e]))
  · exact (View.set_slice_whole .. ▸ Rect.mem_set_unit.mpr (hm i _ (hi ⟨_, hc i⟩).2.2.2.2.2.1))
  · have e := hi t
    rw [flushed6, View.read_apply]
    exact Eq.trans (by blk_ext! [e]) ((block_at m c t (j 0) (j 1) ⟨_, hq t (j 0)⟩ rfl).2.2.trans (by blk_ext! [e]))
  · exact (View.set_slice_whole .. ▸ Rect.mem_set_unit.mpr (hm i _ (hi ⟨_, hc i⟩).2.2.2.2.2.2))

end Cert.AdamInIdeal.Value

namespace Cert.AdamInRefIdeal.Value

open Cert.AdamInRefIdeal Cert.AdamInRefIdeal.Read Idealize.ShloMosaic Idealize.ShloMosaic.TcCoe Idealize.SL.Sem

/-- The reference's run, its three results by name. -/
theorem run_val (m : (ℓ : Loc nD τ sig) → Buf (Elt Ideal) ℓ) (ρ : Dev nD → PrngReg) :
    θ_run defs (onTc (τ := τ) (main (F := Ideal))) ⟨m, fun _ => 0, ρ⟩ fun r => ∀ c : Dev nD, let a b := m ((c.tc : Thread nD τ).loc b)
      let r b := r.2.mem ((c.tc : Thread nD τ).loc b)
      r main_v24 = val_main_v24 (F := Ideal) (a main_arg0) (a main_arg1) (a main_arg2) (a main_arg3)
      ∧ r main_v25 = val_main_v25 (F := Ideal) (a main_arg1) (a main_arg2) ∧ r main_v26 = val_main_v26 (F := Ideal) (a main_arg1) (a main_arg3)
      ∧ r main_arg0 = a main_arg0 ∧ r main_arg1 = a main_arg1 ∧ r main_arg2 = a main_arg2 ∧ r main_arg3 = a main_arg3 :=
  (θ_run _ _ _).mono (fun r h c => ⟨(h c).1.trans (val_main_v24_eq ..), (h c).2.1.trans (val_main_v25_eq ..), (h c).2.2.1.trans (val_main_v26_eq ..), (h c).2.2.2⟩) (run m ρ)

end Cert.AdamInRefIdeal.Value
-- ==== Proof.AdamAda.lean ====
/-
  The optimiser's step on the chip's rows of the modulation weight: after the run the three result arrays hold the reference's
  update, first moment and second moment.
-/
module

public import proofs.«01_k».proof.Proof.Gen.AdamAdaIdeal.Value
public import proofs.«01_k».proof.Proof.Gen.AdamAdaRefIdeal.Run
public import proofs.«01_k».proof.Proof.Gen.AdamAdaRefIdeal.Read
public import proofs.«01_k».proof.Proof.Adam

@[expose] public section

set_option maxRecDepth 16384

noncomputable section

namespace Cert.AdamAdaIdeal.Value

open Cert.AdamAdaIdeal Cert.AdamAdaIdeal.Gen Idealize.ShloMosaic Idealize.ShloMosaic.TcCoe Idealize.SL.Sem
open Idealize.ShloMosaic.Pipeline (Dat)
open Cert.AdamAdaRefIdeal.Read

theorem hz : (![0, 0] : Fin 2 → Nat) = fun _ => 0 := funext fun a => by fin_cases a <;> rfl

variable (m : (ℓ : Loc nD τ sig) → Buf (Elt Ideal) ℓ)

/-- Every window's block at point `t` is block row `t`. -/
theorem hi (t : Fin cfg0.N) :
    (win0_0.index t 0 = t.val ∧ win0_0.index t 1 = 0) ∧ (win0_1.index t 0 = t.val ∧ win0_1.index t 1 = 0) ∧
    (win0_2.index t 0 = t.val ∧ win0_2.index t 1 = 0) ∧ (win0_3.index t 0 = t.val ∧ win0_3.index t 1 = 0) ∧
    (win0_4.index t 0 = t.val ∧ win0_4.index t 1 = 0) ∧ (win0_5.index t 0 = t.val ∧ win0_5.index t 1 = 0) ∧
    (win0_6.index t 0 = t.val ∧ win0_6.index t 1 = 0) := by
  rcases fin_N0 t with rfl | rfl | rfl | rfl <;> decide +kernel

/-- The stored blocks are the step on the whole blocks. -/
theorem body (w g mo ve : Vec Ideal S256x768 .f32) :
    out0_4 w g mo ve = Adam.update w g mo ve ∧ out0_5 w g mo ve = Adam.mean g mo ∧ out0_6 w g mo ve = Adam.square g ve := by
  unfold out0_4 out0_5 out0_6
  refine ⟨?_, ?_, ?_⟩ <;> rw [View.canon_unit_zero hz] <;>
    simp only [View.ld_unit_zero (S := S256x768) hz, k0_pay4, k0_pay3, k0_pay2, k0_pay1, shapeCast_self] <;> rfl

/-- The array that window `0`, `1`, `2` or `3` brings in, as rows. -/
abbrev flat (a : Vec Ideal S1x1024x768 .f32) : Vec Ideal S1024x768 .f32 := shapeCast S1024x768 a shapeCasts_S1x1024x768_S1024x768

/-- The reference's results are the step on the whole arrays. -/
theorem whole (w g mo ve : Vec Ideal S1x1024x768 .f32) :
    val_main_v24 (F := Ideal) w g mo ve = Adam.update (flat w) (flat g) (flat mo) (flat ve) ∧
    val_main_v25 (F := Ideal) g mo = Adam.mean (flat g) (flat mo) ∧ val_main_v26 (F := Ideal) g ve = Adam.square (flat g) (flat ve) :=
  ⟨rfl, rfl, rfl⟩

abbrev arg (c : Dev nD) (b : Ref sig .tc) := m ((c.tc : Thread nD τ).loc b)

/-- The three stored blocks at point `t`, at the array entry under each of their entries. -/
theorem block_at (c : Dev nD) (t : Fin cfg0.N) (r : Fin 256) (l : Fin 768) (q : Fin 1024) (hq : q.val = 256 * t.val + r.val) :
    out0_4 (iblk m c 0 t) (iblk m c 1 t) (iblk m c 2 t) (iblk m c 3 t) (ix2 r l)
      = val_main_v24 (F := Ideal) (arg m c main_arg0) (arg m c main_arg1) (arg m c main_arg2) (arg m c main_arg3) (ix2 q l) ∧
    out0_5 (iblk m c 0 t) (iblk m c 1 t) (iblk m c 2 t) (iblk m c 3 t) (ix2 r l)
      = val_main_v25 (F := Ideal) (arg m c main_arg1) (arg m c main_arg2) (ix2 q l) ∧
    out0_6 (iblk m c 0 t) (iblk m c 1 t) (iblk m c 2 t) (iblk m c 3 t) (ix2 r l)
      = val_main_v26 (F := Ideal) (arg m c main_arg1) (arg m c main_arg3) (ix2 q l) := by
  have e := hi t
  have hf (a : Vec Ideal S1x1024x768 .f32) : flat a (ix2 q l) = a (ix3 0 q l) := by pointwise [flat]
  rw [(body ..).1, (body ..).2.1, (body ..).2.2, (whole ..).1, (whole (arg m c main_arg0) _ _ (arg m c main_arg3)).2.1,
    (whole (arg m c main_arg0) _ (arg m c main_arg2) _).2.2]
  refine Adam.step_at ⟨?_, ?_, ?_, ?_⟩ <;> rw [hf] <;> blk_ext! [iblk, V, e, hq]

/-- The three result arrays after the run: the update, the first moment and the second moment. -/
theorem final (c : Dev nD) :
    (dats m 0 c).arrAt 4 cfg0.N = val_main_v24 (F := Ideal) (arg m c main_arg0) (arg m c main_arg1) (arg m c main_arg2) (arg m c main_arg3) ∧
    (dats m 0 c).arrAt 5 cfg0.N = val_main_v25 (F := Ideal) (arg m c main_arg1) (arg m c main_arg2) ∧
    (dats m 0 c).arrAt 6 cfg0.N = val_main_v26 (F := Ideal) (arg m c main_arg1) (arg m c main_arg3) := by
  have hN : cfg0.N = 4 := N_0
  have hq (t : Fin cfg0.N) (r : Fin 256) : 256 * t.val + r.val < 1024 := by have := t.isLt; omega
  have hc (i : S1024x768.Idx) : (i 0).val / 256 < cfg0.N := by
    have h0 : (i 0).val < 1024 := (i 0).isLt
    omega
  have hm (i : S1024x768.Idx) (ind : Fin 2 → ℕ) (h : ind 0 = (i 0).val / 256 ∧ ind 1 = 0) :=
    Adam.row_mem (i := fun a => (i a).val) ind h (i 1).isLt S256x768.size ⟨rfl, rfl⟩
  refine ⟨(dats m 0 c).arrAt_eq_of_cover 4 _ (fun t _ => funext fun j => ?_) fun i => ⟨⟨_, hc i⟩, (by decide +kernel : ∀ t, (cfg0.win 4).flush t = true) _, ?_⟩,
    (dats m 0 c).arrAt_eq_of_cover 5 _ (fun t _ => funext fun j => ?_) fun i => ⟨⟨_, hc i⟩, (by decide +kernel : ∀ t, (cfg0.win 5).flush t = true) _, ?_⟩,
    (dats m 0 c).arrAt_eq_of_cover 6 _ (fun t _ => funext fun j => ?_) fun i => ⟨⟨_, hc i⟩, (by decide +kernel : ∀ t, (cfg0.win 6).flush t = true) _, ?_⟩⟩
  · have e := hi t
    rw [flushed4, View.read_apply]
    exact Eq.trans (by blk_ext! [e]) ((block_at m c t (j 0) (j 1) ⟨_, hq t (j 0)⟩ rfl).1.trans (by blk_ext! [e]))
  · exact (View.set_slice_whole .. ▸ Rect.mem_set_unit.mpr (hm i _ (hi ⟨_, hc i⟩).2.2.2.2.1))
  · have e := hi t
    rw [flushed5, View.read_apply]
    exact Eq.trans (by blk_ext! [e]) ((block_at m c t (j 0) (j 1) ⟨_, hq t (j 0)⟩ rfl).2.1.trans (by blk_ext! [e]))
  · exact (View.set_slice_whole .. ▸ Rect.mem_set_unit.mpr (hm i _ (hi ⟨_, hc i⟩).2.2.2.2.2.1))
  · have e := hi t
    rw [flushed6, View.read_apply]
    exact Eq.trans (by blk_ext! [e]) ((block_at m c t (j 0) (j 1) ⟨_, hq t (j 0)⟩ rfl).2.2.trans (by blk_ext! [e]))
  · exact (View.set_slice_whole .. ▸ Rect.mem_set_unit.mpr (hm i _ (hi ⟨_, hc i⟩).2.2.2.2.2.2))

end Cert.AdamAdaIdeal.Value

namespace Cert.AdamAdaRefIdeal.Value

open Cert.AdamAdaRefIdeal Cert.AdamAdaRefIdeal.Read Idealize.ShloMosaic Idealize.ShloMosaic.TcCoe Idealize.SL.Sem

/-- The reference's run, its three results by name. -/
theorem run_val (m : (ℓ : Loc nD τ sig) → Buf (Elt Ideal) ℓ) (ρ : Dev nD → PrngReg) :
    θ_run defs (onTc (τ := τ) (main (F := Ideal))) ⟨m, fun _ => 0, ρ⟩ fun r => ∀ c : Dev nD, let a b := m ((c.tc : Thread nD τ).loc b)
      let r b := r.2.mem ((c.tc : Thread nD τ).loc b)
      r main_v24 = val_main_v24 (F := Ideal) (a main_arg0) (a main_arg1) (a main_arg2) (a main_arg3)
      ∧ r main_v25 = val_main_v25 (F := Ideal) (a main_arg1) (a main_arg2) ∧ r main_v26 = val_main_v26 (F := Ideal) (a main_arg1) (a main_arg3)
      ∧ r main_arg0 = a main_arg0 ∧ r main_arg1 = a main_arg1 ∧ r main_arg2 = a main_arg2 ∧ r main_arg3 = a main_arg3 :=
  (θ_run _ _ _).mono (fun r h c => ⟨(h c).1.trans (val_main_v24_eq ..), (h c).2.1.trans (val_main_v25_eq ..), (h c).2.2.1.trans (val_main_v26_eq ..), (h c).2.2.2⟩) (run m ρ)

end Cert.AdamAdaRefIdeal.Value
-- ==== Proof.AdamOut.lean ====
/-
  The optimiser's step on the chip's rows of the output weight: after the run the three result arrays hold the reference's
  update, first moment and second moment.
-/
module

public import proofs.«01_k».proof.Proof.Gen.AdamOutIdeal.Value
public import proofs.«01_k».proof.Proof.Gen.AdamOutRefIdeal.Run
public import proofs.«01_k».proof.Proof.Gen.AdamOutRefIdeal.Read
public import proofs.«01_k».proof.Proof.Adam

@[expose] public section

set_option maxRecDepth 16384

noncomputable section

namespace Cert.AdamOutIdeal.Value

open Cert.AdamOutIdeal Cert.AdamOutIdeal.Gen Idealize.ShloMosaic Idealize.ShloMosaic.TcCoe Idealize.SL.Sem
open Idealize.ShloMosaic.Pipeline (Dat)
open Cert.AdamOutRefIdeal.Read

theorem hz : (![0, 0] : Fin 2 → Nat) = fun _ => 0 := funext fun a => by fin_cases a <;> rfl

variable (m : (ℓ : Loc nD τ sig) → Buf (Elt Ideal) ℓ)

/-- Every window's block at point `t` is block row `t`. -/
theorem hi (t : Fin cfg0.N) :
    (win0_0.index t 0 = t.val ∧ win0_0.index t 1 = 0) ∧ (win0_1.index t 0 = t.val ∧ win0_1.index t 1 = 0) ∧
    (win0_2.index t 0 = t.val ∧ win0_2.index t 1 = 0) ∧ (win0_3.index t 0 = t.val ∧ win0_3.index t 1 = 0) ∧
    (win0_4.index t 0 = t.val ∧ win0_4.index t 1 = 0) ∧ (win0_5.index t 0 = t.val ∧ win0_5.index t 1 = 0) ∧
    (win0_6.index t 0 = t.val ∧ win0_6.index t 1 = 0) := by
  obtain rfl := fin_N0 t
  decide +kernel

/-- The stored blocks are the step on the whole blocks. -/
theorem body (w g mo ve : Vec Ideal S256x1024 .f32) :
    out0_4 w g mo ve = Adam.update w g mo ve ∧ out0_5 w g mo ve = Adam.mean g mo ∧ out0_6 w g mo ve = Adam.square g ve := by
  unfold out0_4 out0_5 out0_6
  refine ⟨?_, ?_, ?_⟩ <;> rw [View.canon_unit_zero hz] <;>
    simp only [View.ld_unit_zero (S := S256x1024) hz, k0_pay4, k0_pay3, k0_pay2, k0_pay1, shapeCast_self] <;> rfl

/-- The array that window `0`, `1`, `2` or `3` brings in, as rows. -/
abbrev flat (a : Vec Ideal S1x256x1024 .f32) : Vec Ideal S256x1024 .f32 := shapeCast S256x1024 a shapeCasts_S1x256x1024_S256x1024

/-- The reference's results are the step on the whole arrays. -/
theorem whole (w g mo ve : Vec Ideal S1x256x1024 .f32) :
    val_main_v24 (F := Ideal) w g mo ve = Adam.update (flat w) (flat g) (flat mo) (flat ve) ∧
    val_main_v25 (F := Ideal) g mo = Adam.mean (flat g) (flat mo) ∧ val_main_v26 (F := Ideal) g ve = Adam.square (flat g) (flat ve) :=
  ⟨rfl, rfl, rfl⟩

abbrev arg (c : Dev nD) (b : Ref sig .tc) := m ((c.tc : Thread nD τ).loc b)

/-- The three stored blocks at point `t`, at the array entry under each of their entries. -/
theorem block_at (c : Dev nD) (t : Fin cfg0.N) (r : Fin 256) (l : Fin 1024) (q : Fin 256) (hq : q.val = 256 * t.val + r.val) :
    out0_4 (iblk m c 0 t) (iblk m c 1 t) (iblk m c 2 t) (iblk m c 3 t) (ix2 r l)
      = val_main_v24 (F := Ideal) (arg m c main_arg0) (arg m c main_arg1) (arg m c main_arg2) (arg m c main_arg3) (ix2 q l) ∧
    out0_5 (iblk m c 0 t) (iblk m c 1 t) (iblk m c 2 t) (iblk m c 3 t) (ix2 r l)
      = val_main_v25 (F := Ideal) (arg m c main_arg1) (arg m c main_arg2) (ix2 q l) ∧
    out0_6 (iblk m c 0 t) (iblk m c 1 t) (iblk m c 2 t) (iblk m c 3 t) (ix2 r l)
      = val_main_v26 (F := Ideal) (arg m c main_arg1) (arg m c main_arg3) (ix2 q l) := by
  have e := hi t
  have hf (a : Vec Ideal S1x256x1024 .f32) : flat a (ix2 q l) = a (ix3 0 q l) := by pointwise [flat]
  rw [(body ..).1, (body ..).2.1, (body ..).2.2, (whole ..).1, (whole (arg m c main_arg0) _ _ (arg m c main_arg3)).2.1,
    (whole (arg m c main_arg0) _ (arg m c main_arg2) _).2.2]
  refine Adam.step_at ⟨?_, ?_, ?_, ?_⟩ <;> rw [hf] <;> blk_ext! [iblk, V, e, hq]

/-- The three result arrays after the run: the update, the first moment and the second moment. -/
theorem final (c : Dev nD) :
    (dats m 0 c).arrAt 4 cfg0.N = val_main_v24 (F := Ideal) (arg m c main_arg0) (arg m c main_arg1) (arg m c main_arg2) (arg m c main_arg3) ∧
    (dats m 0 c).arrAt 5 cfg0.N = val_main_v25 (F := Ideal) (arg m c main_arg1) (arg m c main_arg2) ∧
    (dats m 0 c).arrAt 6 cfg0.N = val_main_v26 (F := Ideal) (arg m c main_arg1) (arg m c main_arg3) := by
  have hN : cfg0.N = 1 := N_0
  have hq (t : Fin cfg0.N) (r : Fin 256) : 256 * t.val + r.val < 256 := by have := t.isLt; omega
  have hc (i : S256x1024.Idx) : (i 0).val / 256 < cfg0.N := by
    have h0 : (i 0).val < 256 := (i 0).isLt
    omega
  have hm (i : S256x1024.Idx) (ind : Fin 2 → ℕ) (h : ind 0 = (i 0).val / 256 ∧ ind 1 = 0) :=
    Adam.row_mem (i := fun a => (i a).val) ind h (i 1).isLt S256x1024.size ⟨rfl, rfl⟩
  refine ⟨(dats m 0 c).arrAt_eq_of_cover 4 _ (fun t _ => funext fun j => ?_) fun i => ⟨⟨_, hc i⟩, (by decide +kernel : ∀ t, (cfg0.win 4).flush t = true) _, ?_⟩,
    (dats m 0 c).arrAt_eq_of_cover 5 _ (fun t _ => funext fun j => ?_) fun i => ⟨⟨_, hc i⟩, (by decide +kernel : ∀ t, (cfg0.win 5).flush t = true) _, ?_⟩,
    (dats m 0 c).arrAt_eq_of_cover 6 _ (fun t _ => funext fun j => ?_) fun i => ⟨⟨_, hc i⟩, (by decide +kernel : ∀ t, (cfg0.win 6).flush t = true) _, ?_⟩⟩
  · have e := hi t
    rw [flushed4, View.read_apply]
    exact Eq.trans (by blk_ext! [e]) ((block_at m c t (j 0) (j 1) ⟨_, hq t (j 0)⟩ rfl).1.trans (by blk_ext! [e]))
  · exact (View.set_slice_whole .. ▸ Rect.mem_set_unit.mpr (hm i _ (hi ⟨_, hc i⟩).2.2.2.2.1))
  · have e := hi t
    rw [flushed5, View.read_apply]
    exact Eq.trans (by blk_ext! [e]) ((block_at m c t (j 0) (j 1) ⟨_, hq t (j 0)⟩ rfl).2.1.trans (by blk_ext! [e]))
  · exact (View.set_slice_whole .. ▸ Rect.mem_set_unit.mpr (hm i _ (hi ⟨_, hc i⟩).2.2.2.2.2.1))
  · have e := hi t
    rw [flushed6, View.read_apply]
    exact Eq.trans (by blk_ext! [e]) ((block_at m c t (j 0) (j 1) ⟨_, hq t (j 0)⟩ rfl).2.2.trans (by blk_ext! [e]))
  · exact (View.set_slice_whole .. ▸ Rect.mem_set_unit.mpr (hm i _ (hi ⟨_, hc i⟩).2.2.2.2.2.2))

end Cert.AdamOutIdeal.Value

namespace Cert.AdamOutRefIdeal.Value

open Cert.AdamOutRefIdeal Cert.AdamOutRefIdeal.Read Idealize.ShloMosaic Idealize.ShloMosaic.TcCoe Idealize.SL.Sem

/-- The reference's run, its three results by name. -/
theorem run_val (m : (ℓ : Loc nD τ sig) → Buf (Elt Ideal) ℓ) (ρ : Dev nD → PrngReg) :
    θ_run defs (onTc (τ := τ) (main (F := Ideal))) ⟨m, fun _ => 0, ρ⟩ fun r => ∀ c : Dev nD, let a b := m ((c.tc : Thread nD τ).loc b)
      let r b := r.2.mem ((c.tc : Thread nD τ).loc b)
      r main_v24 = val_main_v24 (F := Ideal) (a main_arg0) (a main_arg1) (a main_arg2) (a main_arg3)
      ∧ r main_v25 = val_main_v25 (F := Ideal) (a main_arg1) (a main_arg2) ∧ r main_v26 = val_main_v26 (F := Ideal) (a main_arg1) (a main_arg3)
      ∧ r main_arg0 = a main_arg0 ∧ r main_arg1 = a main_arg1 ∧ r main_arg2 = a main_arg2 ∧ r main_arg3 = a main_arg3 :=
  (θ_run _ _ _).mono (fun r h c => ⟨(h c).1.trans (val_main_v24_eq ..), (h c).2.1.trans (val_main_v25_eq ..), (h c).2.2.1.trans (val_main_v26_eq ..), (h c).2.2.2⟩) (run m ρ)

end Cert.AdamOutRefIdeal.Value
-- ==== Proof.SmallRun.lean ====
/-
  The optimiser's step of the small weights, over any float values: one call without a grid that takes nine weights in turn,
  four operands and three results each. Its windows `0 … 35` are the operands and `36 … 62` the results.
-/
module

public import proofs.«01_k».proof.Proof.Gen.AdamSmallIdeal.Launch
public import proofs.«01_k».proof.Proof.Gen.AdamSmallIdeal.Skeleton
public import proofs.«01_k».proof.Proof.Gen.AdamSmallIdeal.Points
public import Idealize.ShloMosaic.Lib.Pipeline.FrameBody
public import Idealize.ShloMosaic.Lib.Pipeline.Value
public import Idealize.ShloMosaic.Lib.Claim
public import Idealize.ShloMosaic.Lib.Ring
public import Idealize.ShloMosaic.Lib.Tactic

@[expose] public section

set_option maxRecDepth 16384

noncomputable section

namespace Cert.AdamSmallIdeal.Small

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AdamSmallIdeal.Gen

variable {F : FTy → Type} [FloatOps F]

variable (m : (ℓ : Loc nD τ sig) → Buf (Elt F) ℓ) (ρ : Dev nD → PrngReg)

/-- The arrays when the call begins, after the host's reshapes. -/
abbrev V (c : Dev nD) (b : Ref sig .tc) : Buf (Elt F) ((c : Thread nD τ).loc b) := StableHlo.after hostOps0 (fun b => m (c, b)) b

theorem fresh : (hostOps0 : List (HloOp τ sig (Elt F))).Forall fun op => op.fresh = ∅ := by
  simp only [List.Forall]; repeat' constructor

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub fresh main_chain

/-- Window `w`'s block: its whole array. -/
def blk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem xblock_eq (w : Fin cfg0.W) (t : Fin cfg0.N) : (cfg0.win w).block = (cfg0.win w).xblock (cfg0.grid.coords t) :=
  (by intro w; fin_cases w <;> rfl : ∀ w : Fin 63, (cfg0.win w).block = (cfg0.win w).xblock (cfg0.grid.coords t)) w

/-- What the body leaves in each window: the operands as they are, and per weight the update and the two moments. -/
def left (c : Dev nD) (w : Fin cfg0.W) (t : Fin cfg0.N) : (cfg0.win w).block.Idx → Elt F (cfg0.win w).elt :=
  let x w := blk m c w t
  match w with
  | 36 => k0_pay7 (x 0) (x 1) (x 2) (x 3)
  | 37 => k0_pay5 (x 1) (x 2)
  | 38 => k0_pay6 (x 1) (x 3)
  | 39 => k0_pay10 (x 4) (x 5) (x 6) (x 7)
  | 40 => k0_pay8 (x 5) (x 6)
  | 41 => k0_pay9 (x 5) (x 7)
  | 42 => k0_pay13 (x 8) (x 9) (x 10) (x 11)
  | 43 => k0_pay11 (x 9) (x 10)
  | 44 => k0_pay12 (x 9) (x 11)
  | 45 => k0_pay16 (x 12) (x 13) (x 14) (x 15)
  | 46 => k0_pay14 (x 13) (x 14)
  | 47 => k0_pay15 (x 13) (x 15)
  | 48 => k0_pay21 (k0_pay17 (x 16)) (k0_pay18 (x 17)) (x 18) (x 19)
  | 49 => k0_pay19 (k0_pay18 (x 17)) (x 18)
  | 50 => k0_pay20 (k0_pay18 (x 17)) (x 19)
  | 51 => k0_pay26 (k0_pay22 (x 20)) (x 21) (x 22) (x 23)
  | 52 => k0_pay24 (x 21) (x 22)
  | 53 => k0_pay25 (x 21) (x 23)
  | 54 => k0_pay29 (x 24) (x 25) (x 26) (x 27)
  | 55 => k0_pay27 (x 25) (x 26)
  | 56 => k0_pay28 (x 25) (x 27)
  | 57 => k0_pay32 (x 28) (x 29) (x 30) (x 31)
  | 58 => k0_pay30 (x 29) (x 30)
  | 59 => k0_pay31 (x 29) (x 31)
  | 60 => k0_pay3 (k0_pay33 (x 32)) (k0_pay34 (x 33)) (k0_pay35 (x 34)) (x 35)
  | 61 => k0_pay1 (k0_pay34 (x 33)) (k0_pay35 (x 34))
  | 62 => k0_pay2 (k0_pay34 (x 33)) (x 35)
  | w => fun i => x w (xblock_eq w t ▸ i)

def dats (_ : Fin 1) (c : Dev nD) : Dat τ (Elt F) Unit ℕ (UR sig nD τ) ℕ cfg0 c where
  A w := V m c (Pipeline.arrRef spec0 w)
  after := left m c
  Φ _ := Pipeline.ΦA spec0 c
  q _ := fullShare
  owed _ := 0

theorem A_eq (c : Dev nD) (w : Fin cfg0.W) : (dats m 0 c).A w = V m c (Pipeline.arrRef spec0 w) := by
  dsimp only [dats]

set_option maxHeartbeats 4000000 in
/-- An operand's buffer holds its array before the body. -/
theorem before_in (c : Dev nD) (t : Fin cfg0.N) : ∀ (w : Fin 63) (_ : w.val < 36) (d), (dats m 0 c).before w t d = left m c w t := by
  intro w
  fin_cases w <;> intro hw d <;> first
    | exact absurd hw (by decide)
    | exact ((dats m 0 c).before_in_eq_fetched _ rfl (fun _ => rfl) (fun _ _ _ => rfl)
        (fun t => by unfold Dat.blockOf; rw [A_eq]; rfl) t d).trans (by unfold Dat.fetched Dat.blockOf; rw [A_eq]; rfl)

/-- The windows' buffers before and after the body. -/
def pre (c : Dev nD) (t : Fin cfg0.N) (w : Fin cfg0.W) : sProp (MT nD τ sig Unit (Elt F) ℕ (UR sig nD τ) ℕ) :=
  iprop(∃ d, owns (c : Thread nD τ) ((cfg0.win w).stage (cfg0.slots t w)) fullShare ((dats m 0 c).before w t d))

def post (c : Dev nD) (t : Fin cfg0.N) (w : Fin cfg0.W) : sProp (MT nD τ sig Unit (Elt F) ℕ (UR sig nD τ) ℕ) :=
  owns (c : Thread nD τ) ((cfg0.win w).stage (cfg0.slots t w)) fullShare (left m c w t)

/-- A window's buffer with the right contents is what the body leaves. -/
theorem give (c : Dev nD) (t : Fin cfg0.N) (w : Fin cfg0.W) (f)
    (h : ((cfg0.win w).stage (cfg0.slots t w)).view.read (Elt F) f = left m c w t) :
    iprop((View.loc (c : Thread nD τ) ((cfg0.win w).stage (cfg0.slots t w)).view) ↦[((cfg0.win w).stage (cfg0.slots t w)).view.set]{fullShare} f) ⊢ post m c t w := by
  unfold post owns
  iintro H
  iexists f; isplitr; · ipureintro; exact h
  iexact H

/-- An operand's buffer is left as it was. -/
theorem keep (c : Dev nD) (t : Fin cfg0.N) (w : Fin 63) (hw : w.val < 36) {d} {f}
    (hf : ((cfg0.win w).stage (cfg0.slots t w)).view.read (Elt F) f = (dats m 0 c).before w t d) :
    iprop((View.loc (c : Thread nD τ) ((cfg0.win w).stage (cfg0.slots t w)).view) ↦[((cfg0.win w).stage (cfg0.slots t w)).view.set]{fullShare} f) ⊢ post m c t w :=
  give m c t w f (hf.trans (before_in m c t w hw d))

theorem hz : (![0, 0] : Fin 2 → Nat) = fun _ => 0 := funext fun a => by fin_cases a <;> rfl

/-- A load of a whole operand reads its array. -/
theorem load (c : Dev nD) (t : Fin cfg0.N) (w : Fin 63) (hw : w.val < 36) {d} {f}
    (hf : ((cfg0.win w).stage (cfg0.slots t w)).view.read (Elt F) f = (dats m 0 c).before w t d)
    {off} (h : off = fun _ => 0) (inb : ∀ a, off a + (cfg0.win w).block.size a ≤ (cfg0.win w).block.size a) :
    View.ld (((cfg0.win w).stage (cfg0.slots t w)).view.read (Elt F) f) (Rect.unit off (cfg0.win w).block.size inb) = left m c w t :=
  (View.ld_unit_zero h inb _).trans (hf.trans (before_in m c t w hw d))

theorem read_store {κ sp} {S : Shape} {e : EltTy} (v : View sig κ sp S e) (f : v.ty.Contents (Elt F))
    {off : Fin S.rank → ℕ} (h : off = fun _ => 0) (inb : ∀ a, off a + S.size a ≤ S.size a) (p : S.Idx → Elt F e) :
    v.read (Elt F) (v.writes (Elt F) f [⟨Rect.unit off S.size inb, p⟩]) = p :=
  (View.read_writes_eq_canon _ _ _ fun y => ⟨_, List.mem_singleton.mpr rfl, View.mem_set_unit_zero h inb y⟩).trans (View.canon_unit_zero h inb p)

/-- A result's buffer after a store of the whole of it. -/
theorem store (c : Dev nD) (t : Fin cfg0.N) (w : Fin 63) {f}
    {off} (h : off = fun _ => 0) (inb : ∀ a, off a + (cfg0.win w).block.size a ≤ (cfg0.win w).block.size a)
    {p : (cfg0.win w).block.Idx → Elt F (cfg0.win w).elt} (hp : p = left m c w t) :
    iprop((View.loc (c : Thread nD τ) ((cfg0.win w).stage (cfg0.slots t w)).view) ↦[((cfg0.win w).stage (cfg0.slots t w)).view.set]{fullShare}
      (((cfg0.win w).stage (cfg0.slots t w)).view.writes (Elt F) f [⟨Rect.unit off (cfg0.win w).block.size inb, p⟩])) ⊢ post m c t w :=
  give m c t w _ ((read_store _ f h inb p).trans hp)

theorem two {α β γ : Type} (f : α → β → γ) {a a' b b'} (ha : a = a') (hb : b = b') : f a b = f a' b' := by rw [ha, hb]

theorem four {α β γ δ ε : Type} (f : α → β → γ → δ → ε) {a a' b b' c c' d d'} (ha : a = a') (hb : b = b') (hc : c = c') (hd : d = d') :
    f a b c d = f a' b' c' d' := by rw [ha, hb, hc, hd]

end Cert.AdamSmallIdeal.Small

end
-- ==== Proof.SmallBody.lean ====
/-
  The optimiser's step of the small weights over any float values: the body's run, from the operands' arrays to the results.
-/
module

public import proofs.«01_k».proof.Proof.SmallRun

@[expose] public section

set_option maxRecDepth 16384

noncomputable section

namespace Cert.AdamSmallIdeal.Small

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AdamSmallIdeal.Gen

variable {F : FTy → Type} [FloatOps F]

variable (m : (ℓ : Loc nD τ sig) → Buf (Elt F) ℓ) (ρ : Dev nD → PrngReg)

set_option maxHeartbeats 8000000 in
theorem body (c : Dev nD) (t : Fin cfg0.N) (K : sProp (MT nD τ sig Unit (Elt F) ℕ (UR sig nD τ) ℕ)) :
    iprop(K ∗ bigSep Finset.univ (pre m c t)) ⊢ wp frame (wpE (defs₀ (F := F)) Variants.none c none) Set.univ (bodyAt0 t) (fun _ => iprop(K ∗ bigSep Finset.univ (post m c t))) := by
  rw [bigSep_W0, bigSep_W0]
  unfold bodyAt0
  simp only [cc0_adamw_small_eq_skeleton]; unfold cc0_adamw_small_skel
  simp only [k0_part1_eq_skeleton, k0_part2_eq_skeleton, k0_part3_eq_skeleton, k0_part4_eq_skeleton, k0_part5_eq_skeleton,
    k0_part6_eq_skeleton, k0_part7_eq_skeleton, k0_part8_eq_skeleton]
  unfold pre owns
  iintro ⟨HK, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, %hf7, H7⟩, ⟨%d8, %f8, %hf8, H8⟩, ⟨%d9, %f9, %hf9, H9⟩, ⟨%d10, %f10, %hf10, H10⟩, ⟨%d11, %f11, %hf11, H11⟩, ⟨%d12, %f12, %hf12, H12⟩, ⟨%d13, %f13, %hf13, H13⟩, ⟨%d14, %f14, %hf14, H14⟩, ⟨%d15, %f15, %hf15, H15⟩, ⟨%d16, %f16, %hf16, H16⟩, ⟨%d17, %f17, %hf17, H17⟩, ⟨%d18, %f18, %hf18, H18⟩, ⟨%d19, %f19, %hf19, H19⟩, ⟨%d20, %f20, %hf20, H20⟩, ⟨%d21, %f21, %hf21, H21⟩, ⟨%d22, %f22, %hf22, H22⟩, ⟨%d23, %f23, %hf23, H23⟩, ⟨%d24, %f24, %hf24, H24⟩, ⟨%d25, %f25, %hf25, H25⟩, ⟨%d26, %f26, %hf26, H26⟩, ⟨%d27, %f27, %hf27, H27⟩, ⟨%d28, %f28, %hf28, H28⟩, ⟨%d29, %f29, %hf29, H29⟩, ⟨%d30, %f30, %hf30, H30⟩, ⟨%d31, %f31, %hf31, H31⟩, ⟨%d32, %f32, %hf32, H32⟩, ⟨%d33, %f33, %hf33, H33⟩, ⟨%d34, %f34, %hf34, H34⟩, ⟨%d35, %f35, %hf35, H35⟩, ⟨%d36, %f36, %hf36, H36⟩, ⟨%d37, %f37, %hf37, H37⟩, ⟨%d38, %f38, %hf38, H38⟩, ⟨%d39, %f39, %hf39, H39⟩, ⟨%d40, %f40, %hf40, H40⟩, ⟨%d41, %f41, %hf41, H41⟩, ⟨%d42, %f42, %hf42, H42⟩, ⟨%d43, %f43, %hf43, H43⟩, ⟨%d44, %f44, %hf44, H44⟩, ⟨%d45, %f45, %hf45, H45⟩, ⟨%d46, %f46, %hf46, H46⟩, ⟨%d47, %f47, %hf47, H47⟩, ⟨%d48, %f48, %hf48, H48⟩, ⟨%d49, %f49, %hf49, H49⟩, ⟨%d50, %f50, %hf50, H50⟩, ⟨%d51, %f51, %hf51, H51⟩, ⟨%d52, %f52, %hf52, H52⟩, ⟨%d53, %f53, %hf53, H53⟩, ⟨%d54, %f54, %hf54, H54⟩, ⟨%d55, %f55, %hf55, H55⟩, ⟨%d56, %f56, %hf56, H56⟩, ⟨%d57, %f57, %hf57, H57⟩, ⟨%d58, %f58, %hf58, H58⟩, ⟨%d59, %f59, %hf59, H59⟩, ⟨%d60, %f60, %hf60, H60⟩, ⟨%d61, %f61, %hf61, H61⟩, ⟨%d62, %f62, %hf62, H62⟩⟩
  sl_exec
  sl_step
  isplitl [HK]; · iexact HK
  have e0 := load m c t 0 (by decide) hf0 hz
  have e1 := load m c t 1 (by decide) hf1 hz
  have e2 := load m c t 2 (by decide) hf2 hz
  have e3 := load m c t 3 (by decide) hf3 hz
  have e4 := load m c t 4 (by decide) hf4 hz
  have e5 := load m c t 5 (by decide) hf5 hz
  have e6 := load m c t 6 (by decide) hf6 hz
  have e7 := load m c t 7 (by decide) hf7 hz
  have e8 := load m c t 8 (by decide) hf8 hz
  have e9 := load m c t 9 (by decide) hf9 hz
  have e10 := load m c t 10 (by decide) hf10 hz
  have e11 := load m c t 11 (by decide) hf11 hz
  have e12 := load m c t 12 (by decide) hf12 hz
  have e13 := load m c t 13 (by decide) hf13 hz
  have e14 := load m c t 14 (by decide) hf14 hz
  have e15 := load m c t 15 (by decide) hf15 hz
  have e16 := load m c t 16 (by decide) hf16 hz
  have e17 := load m c t 17 (by decide) hf17 hz
  have e18 := load m c t 18 (by decide) hf18 hz
  have e19 := load m c t 19 (by decide) hf19 hz
  have e20 := load m c t 20 (by decide) hf20 hz
  have e21 := load m c t 21 (by decide) hf21 hz
  have e22 := load m c t 22 (by decide) hf22 hz
  have e23 := load m c t 23 (by decide) hf23 hz
  have e24 := load m c t 24 (by decide) hf24 hz
  have e25 := load m c t 25 (by decide) hf25 hz
  have e26 := load m c t 26 (by decide) hf26 hz
  have e27 := load m c t 27 (by decide) hf27 hz
  have e28 := load m c t 28 (by decide) hf28 hz
  have e29 := load m c t 29 (by decide) hf29 hz
  have e30 := load m c t 30 (by decide) hf30 hz
  have e31 := load m c t 31 (by decide) hf31 hz
  have e32 := load m c t 32 (by decide) hf32 hz
  have e33 := load m c t 33 (by decide) hf33 hz
  have e34 := load m c t 34 (by decide) hf34 hz
  have e35 := load m c t 35 (by decide) hf35 hz
  isplitl [H0]; · iapply (keep m c t 0 (by decide) hf0); iexact H0
  isplitl [H1]; · iapply (keep m c t 1 (by decide) hf1); iexact H1
  isplitl [H2]; · iapply (keep m c t 2 (by decide) hf2); iexact H2
  isplitl [H3]; · iapply (keep m c t 3 (by decide) hf3); iexact H3
  isplitl [H4]; · iapply (keep m c t 4 (by decide) hf4); iexact H4
  isplitl [H5]; · iapply (keep m c t 5 (by decide) hf5); iexact H5
  isplitl [H6]; · iapply (keep m c t 6 (by decide) hf6); iexact H6
  isplitl [H7]; · iapply (keep m c t 7 (by decide) hf7); iexact H7
  isplitl [H8]; · iapply (keep m c t 8 (by decide) hf8); iexact H8
  isplitl [H9]; · iapply (keep m c t 9 (by decide) hf9); iexact H9
  isplitl [H10]; · iapply (keep m c t 10 (by decide) hf10); iexact H10
  isplitl [H11]; · iapply (keep m c t 11 (by decide) hf11); iexact H11
  isplitl [H12]; · iapply (keep m c t 12 (by decide) hf12); iexact H12
  isplitl [H13]; · iapply (keep m c t 13 (by decide) hf13); iexact H13
  isplitl [H14]; · iapply (keep m c t 14 (by decide) hf14); iexact H14
  isplitl [H15]; · iapply (keep m c t 15 (by decide) hf15); iexact H15
  isplitl [H16]; · iapply (keep m c t 16 (by decide) hf16); iexact H16
  isplitl [H17]; · iapply (keep m c t 17 (by decide) hf17); iexact H17
  isplitl [H18]; · iapply (keep m c t 18 (by decide) hf18); iexact H18
  isplitl [H19]; · iapply (keep m c t 19 (by decide) hf19); iexact H19
  isplitl [H20]; · iapply (keep m c t 20 (by decide) hf20); iexact H20
  isplitl [H21]; · iapply (keep m c t 21 (by decide) hf21); iexact H21
  isplitl [H22]; · iapply (keep m c t 22 (by decide) hf22); iexact H22
  isplitl [H23]; · iapply (keep m c t 23 (by decide) hf23); iexact H23
  isplitl [H24]; · iapply (keep m c t 24 (by decide) hf24); iexact H24
  isplitl [H25]; · iapply (keep m c t 25 (by decide) hf25); iexact H25
  isplitl [H26]; · iapply (keep m c t 26 (by decide) hf26); iexact H26
  isplitl [H27]; · iapply (keep m c t 27 (by decide) hf27); iexact H27
  isplitl [H28]; · iapply (keep m c t 28 (by decide) hf28); iexact H28
  isplitl [H29]; · iapply (keep m c t 29 (by decide) hf29); iexact H29
  isplitl [H30]; · iapply (keep m c t 30 (by decide) hf30); iexact H30
  isplitl [H31]; · iapply (keep m c t 31 (by decide) hf31); iexact H31
  isplitl [H32]; · iapply (keep m c t 32 (by decide) hf32); iexact H32
  isplitl [H33]; · iapply (keep m c t 33 (by decide) hf33); iexact H33
  isplitl [H34]; · iapply (keep m c t 34 (by decide) hf34); iexact H34
  isplitl [H35]; · iapply (keep m c t 35 (by decide) hf35); iexact H35
  isplitl [H36]; · iapply (store m c t 36 hz _ (four k0_pay7 (e0 _) (e1 _) (e2 _) (e3 _))); iexact H36
  isplitl [H37]; · iapply (store m c t 37 hz _ (two k0_pay5 (e1 _) (e2 _))); iexact H37
  isplitl [H38]; · iapply (store m c t 38 hz _ (two k0_pay6 (e1 _) (e3 _))); iexact H38
  isplitl [H39]; · iapply (store m c t 39 hz _ (four k0_pay10 (e4 _) (e5 _) (e6 _) (e7 _))); iexact H39
  isplitl [H40]; · iapply (store m c t 40 hz _ (two k0_pay8 (e5 _) (e6 _))); iexact H40
  isplitl [H41]; · iapply (store m c t 41 hz _ (two k0_pay9 (e5 _) (e7 _))); iexact H41
  isplitl [H42]; · iapply (store m c t 42 hz _ (four k0_pay13 (e8 _) (e9 _) (e10 _) (e11 _))); iexact H42
  isplitl [H43]; · iapply (store m c t 43 hz _ (two k0_pay11 (e9 _) (e10 _))); iexact H43
  isplitl [H44]; · iapply (store m c t 44 hz _ (two k0_pay12 (e9 _) (e11 _))); iexact H44
  isplitl [H45]; · iapply (store m c t 45 hz _ (four k0_pay16 (e12 _) (e13 _) (e14 _) (e15 _))); iexact H45
  isplitl [H46]; · iapply (store m c t 46 hz _ (two k0_pay14 (e13 _) (e14 _))); iexact H46
  isplitl [H47]; · iapply (store m c t 47 hz _ (two k0_pay15 (e13 _) (e15 _))); iexact H47
  isplitl [H48]; · iapply (store m c t 48 hz _ (four k0_pay21 (congrArg k0_pay17 (e16 _)) (congrArg k0_pay18 (e17 _)) (e18 _) (e19 _))); iexact H48
  isplitl [H49]; · iapply (store m c t 49 hz _ (two k0_pay19 (congrArg k0_pay18 (e17 _)) (e18 _))); iexact H49
  isplitl [H50]; · iapply (store m c t 50 hz _ (two k0_pay20 (congrArg k0_pay18 (e17 _)) (e19 _))); iexact H50
  isplitl [H51]; · iapply (store m c t 51 hz _ (four k0_pay26 (congrArg k0_pay22 (e20 _)) (e21 _) (e22 _) (e23 _))); iexact H51
  isplitl [H52]; · iapply (store m c t 52 hz _ (two k0_pay24 (e21 _) (e22 _))); iexact H52
  isplitl [H53]; · iapply (store m c t 53 hz _ (two k0_pay25 (e21 _) (e23 _))); iexact H53
  isplitl [H54]; · iapply (store m c t 54 hz _ (four k0_pay29 (e24 _) (e25 _) (e26 _) (e27 _))); iexact H54
  isplitl [H55]; · iapply (store m c t 55 hz _ (two k0_pay27 (e25 _) (e26 _))); iexact H55
  isplitl [H56]; · iapply (store m c t 56 hz _ (two k0_pay28 (e25 _) (e27 _))); iexact H56
  isplitl [H57]; · iapply (store m c t 57 hz _ (four k0_pay32 (e28 _) (e29 _) (e30 _) (e31 _))); iexact H57
  isplitl [H58]; · iapply (store m c t 58 hz _ (two k0_pay30 (e29 _) (e30 _))); iexact H58
  isplitl [H59]; · iapply (store m c t 59 hz _ (two k0_pay31 (e29 _) (e31 _))); iexact H59
  isplitl [H60]; · iapply (store m c t 60 hz _ (four k0_pay3 (congrArg k0_pay33 (e32 _)) (congrArg k0_pay34 (e33 _)) (congrArg k0_pay35 (e34 _)) (e35 _))); iexact H60
  isplitl [H61]; · iapply (store m c t 61 hz _ (two k0_pay1 (congrArg k0_pay34 (e33 _)) (congrArg k0_pay35 (e34 _)))); iexact H61
  iapply (store m c t 62 hz _ (two k0_pay2 (congrArg k0_pay34 (e33 _)) (e35 _))); iexact H62

end Cert.AdamSmallIdeal.Small
-- ==== Proof.SmallFrame.lean ====
/-
  The optimiser's step of the small weights over any float values: every execution of the call ends, with its arguments as
  they were, every counter at zero, and each result's array at what the body leaves in its window.
-/
module

public import proofs.«01_k».proof.Proof.SmallBody

@[expose] public section

set_option maxRecDepth 16384

noncomputable section

namespace Cert.AdamSmallIdeal.Small

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AdamSmallIdeal.Gen

variable {F : FTy → Type} [FloatOps F]

variable (m : (ℓ : Loc nD τ sig) → Buf (Elt F) ℓ) (ρ : Dev nD → PrngReg)

theorem defs₀_row (t : Fin cfg0.N) : defs₀ (F := F) .tc cfg0.body (cfg0.bodyArgs t (cfg0.slots t)) = bodyAt0 t := by
  unfold defs₀; rw [Defs.onTc_tc]

theorem apart {X Y Z : sProp (MT nD τ sig Unit (Elt F) ℕ (UR sig nD τ) ℕ)} : iprop((X ∗ Y) ∗ Z) ⊢ iprop(X ∗ Y ∗ Z) := by
  iintro ⟨⟨HX, HY⟩, HZ⟩
  isplitl [HX]; · iexact HX
  isplitl [HY]; · iexact HY
  iexact HZ

theorem together {X Y Z : sProp (MT nD τ sig Unit (Elt F) ℕ (UR sig nD τ) ℕ)} : iprop(X ∗ Y ∗ Z) ⊢ iprop((X ∗ Y) ∗ Z) := by
  iintro ⟨HX, HY, HZ⟩
  isplitr [HZ]
  · isplitl [HX]; · iexact HX
    iexact HY
  iexact HZ

theorem body_obligation (c : Dev nD) : BodyObligation (dats (F := F) m 0 c) (defs₀ (F := F)) Variants.none () Set.univ := fun t => by
  rw [defs₀_row]
  exact triple_restated (body m c t iprop((dats m 0 c).Φ t.castSucc ∗ (dats m 0 c).owesAt () t.castSucc)) rfl together fun _ => apart

set_option backward.isDefEq.respectTransparency.types false in
set_option maxHeartbeats 800000 in
theorem run_main : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The call's arguments. -/
def args : List (Ref sig .tc) := [main_arg0, main_arg1, main_arg2, main_arg3, main_arg4, main_arg5, main_arg6, main_arg7, main_arg8,
  main_arg9, main_arg10, main_arg11, main_arg12, main_arg13, main_arg14, main_arg15, main_arg16, main_arg17, main_arg18, main_arg19,
  main_arg20, main_arg21, main_arg22, main_arg23, main_arg24, main_arg25, main_arg26, main_arg27, main_arg28, main_arg29, main_arg30,
  main_arg31, main_arg32, main_arg33, main_arg34, main_arg35]

/-- What the host's reshapes write. -/
def shaped : List (Ref sig .tc) := [main_v0, main_v1, main_v2, main_v3, main_v4, main_v5, main_v6, main_v7, main_v8, main_v9, main_v10,
  main_v11, main_v12, main_v13, main_v14, main_v15]

/-- The host's reshapes write none of the arguments. -/
theorem V_arg (c : Dev nD) (b : Ref sig .tc) (hb : b ∉ shaped) : V m c b = m ((c : Thread nD τ).loc b) :=
  StableHlo.after_of_forall_not_mem (b := Proc.devRef .tc b) _ _ (List.forall_iff_forall_mem.mp (by
    simp only [shaped, List.mem_cons, List.mem_nil_iff, not_or] at hb
    obtain ⟨h0, h1, h2, h3, h4, h5, h6, h7, h8, h9, h10, h11, h12, h13, h14, h15, -⟩ := hb
    simp only [hostOps0, List.Forall, StableHlo.reshape_writes, Finset.mem_singleton]
    and_intros <;> exact StableHlo.devRef_ne_of_ne (by assumption)))

/-- An argument is not scoped, and no result's array. -/
theorem arg_ref : ∀ b ∈ args, b ∉ shaped ∧ b.isScoped = false ∧ ∀ w : Fin 63, Pipeline.arrRef spec0 w = b → w.val < 36 := by
  decide +kernel

theorem operand : ∀ w : Fin 63, w.val < 36 → (cfg0.win w).isOut = false := by decide +kernel

theorem flushes (t : Fin cfg0.N) : ∀ w : Fin 63, 36 ≤ w.val → (cfg0.win w).flush t = true := by
  obtain rfl := fin_N0 t
  decide +kernel

variable {m ρ}

/-- After the run an argument is as it was. -/
theorem kept {r : PUnit × MemSt nD τ sig (Elt F)} (h : Pipeline.FramePost cfgs (dats m) 0 (V m) r) (c : Dev nD) (b : Ref sig .tc) (hb : b ∈ args) :
    r.2.mem ((c : Thread nD τ).loc b) = m ((c : Thread nD τ).loc b) := by
  obtain ⟨hs, hsc, hw⟩ := arg_ref b hb
  refine Eq.trans ?_ (V_arg m c b hs)
  by_cases hx : ∃ w : Fin 63, Pipeline.arrRef spec0 w = b
  · obtain ⟨w, rfl⟩ := hx
    exact ((h c).1 w).trans (((dats m 0 c).arrAt_in w (operand w (hw w rfl)) _).trans (A_eq m c w))
  · exact (h c).2 b (Pipeline.mem_restRefs_of b hsc (not_exists.mp hx))

/-- After the run a result's array, read back through its window, is what the body left there. -/
theorem result (c : Dev nD) (t : Fin cfg0.N) (w : Fin 63) (hw : 36 ≤ w.val) :
    ((cfg0.win w).blk t).view.read (Elt F) ((dats m 0 c).arrAt w cfg0.N) = (dats m 0 c).flushed w t :=
  (dats m 0 c).read_blk_arrAt_eq_flushed w (fun t t' _ _ hne => absurd ((fin_N0 t).trans (fin_N0 t').symm) hne) cfg0.N t t.isLt (flushes t w hw)

variable (m ρ)

/-- The call leaves its arguments as they were and every counter at zero. -/
theorem frame : θ_run defs (onTc (τ := τ) (main (F := F))) ⟨m, fun _ => 0, ρ⟩ (fun r => (∀ c : Dev nD, ∀ b ∈ args,
    r.2.mem ((c.tc : Thread nD τ).loc b) = m ((c.tc : Thread nD τ).loc b)) ∧ r.2.sem = fun _ => 0) :=
  (θ_run defs _ _).mono (fun _ h => ⟨fun c b hb => kept h.1 c b hb, h.2⟩) (run_main m ρ)

end Cert.AdamSmallIdeal.Small

end
-- ==== Proof.SmallBits.lean ====
/-
  The optimiser's step of the small weights over words: its program is the text of the one over extended reals, so its frame
  is that one's.
-/
module

public import proofs.«01_k».proof.Proof.SmallFrame
public import proofs.«01_k».proof.Proof.Gen.AdamSmall.Launch

@[expose] public section

set_option maxRecDepth 16384

noncomputable section

namespace Cert.AdamSmall.Small

open Cert.AdamSmall Cert.AdamSmall.Gen Idealize.ShloMosaic Idealize.ShloMosaic.TcCoe Idealize.ShloMosaic.Tactic Idealize.SL.Sem

variable {F : FTy → Type} [FloatOps F]

/-- The call's arguments. -/
def args : List (Ref sig .tc) := [main_arg0, main_arg1, main_arg2, main_arg3, main_arg4, main_arg5, main_arg6, main_arg7, main_arg8,
  main_arg9, main_arg10, main_arg11, main_arg12, main_arg13, main_arg14, main_arg15, main_arg16, main_arg17, main_arg18, main_arg19,
  main_arg20, main_arg21, main_arg22, main_arg23, main_arg24, main_arg25, main_arg26, main_arg27, main_arg28, main_arg29, main_arg30,
  main_arg31, main_arg32, main_arg33, main_arg34, main_arg35]

theorem same :
    (∀ (m : (ℓ : Loc Cert.AdamSmallIdeal.nD Cert.AdamSmallIdeal.τ Cert.AdamSmallIdeal.sig) → Buf (Elt F) ℓ) (ρ : Dev Cert.AdamSmallIdeal.nD → PrngReg),
    θ_run (Cert.AdamSmallIdeal.defs (F := F)) (onTc (τ := Cert.AdamSmallIdeal.τ) (Cert.AdamSmallIdeal.main (F := F))) ⟨m, fun _ => 0, ρ⟩ (fun r =>
      (∀ c : Dev Cert.AdamSmallIdeal.nD, ∀ b ∈ Cert.AdamSmallIdeal.Small.args,
        r.2.mem ((c.tc : Thread Cert.AdamSmallIdeal.nD Cert.AdamSmallIdeal.τ).loc b) = m ((c.tc : Thread Cert.AdamSmallIdeal.nD Cert.AdamSmallIdeal.τ).loc b)) ∧
      r.2.sem = fun _ => 0)) =
    (∀ (m : (ℓ : Loc Cert.AdamSmall.nD Cert.AdamSmall.τ Cert.AdamSmall.sig) → Buf (Elt F) ℓ) (ρ : Dev Cert.AdamSmall.nD → PrngReg),
    θ_run (Cert.AdamSmall.defs (F := F)) (onTc (τ := Cert.AdamSmall.τ) (Cert.AdamSmall.main (F := F))) ⟨m, fun _ => 0, ρ⟩ (fun r =>
      (∀ c : Dev Cert.AdamSmall.nD, ∀ b ∈ args,
        r.2.mem ((c.tc : Thread Cert.AdamSmall.nD Cert.AdamSmall.τ).loc b) = m ((c.tc : Thread Cert.AdamSmall.nD Cert.AdamSmall.τ).loc b)) ∧
      r.2.sem = fun _ => 0)) := by
  sl_kernel_rfl

theorem frame (m : (ℓ : Loc Cert.AdamSmall.nD Cert.AdamSmall.τ Cert.AdamSmall.sig) → Buf (Elt F) ℓ) (ρ : Dev Cert.AdamSmall.nD → PrngReg) :
    θ_run (Cert.AdamSmall.defs (F := F)) (onTc (τ := Cert.AdamSmall.τ) (Cert.AdamSmall.main (F := F))) ⟨m, fun _ => 0, ρ⟩ (fun r =>
      (∀ c : Dev Cert.AdamSmall.nD, ∀ b ∈ args,
        r.2.mem ((c.tc : Thread Cert.AdamSmall.nD Cert.AdamSmall.τ).loc b) = m ((c.tc : Thread Cert.AdamSmall.nD Cert.AdamSmall.τ).loc b)) ∧
      r.2.sem = fun _ => 0) :=
  same.mp (fun m ρ => Cert.AdamSmallIdeal.Small.frame m ρ) m ρ

end Cert.AdamSmall.Small

end
-- ==== Proof.SmallValue.lean ====
/-
  The optimiser's step of the small weights over extended reals: the 27 result arrays hold the reference's updates, first
  moments and second moments.
-/
module

public import proofs.«01_k».proof.Proof.SmallFrame
public import proofs.«01_k».proof.Proof.Gen.AdamSmallRefIdeal.Read
public import proofs.«01_k».proof.Proof.Adam

@[expose] public section

set_option maxRecDepth 16384

noncomputable section

namespace Cert.AdamSmallIdeal.Small

open Idealize.ShloMosaic Idealize.ShloMosaic.TcCoe Idealize.SL.Sem
open Idealize.ShloMosaic.Pipeline (Dat Window)
open Cert.AdamSmallIdeal.Gen Cert.AdamSmallRefIdeal.Read

/-- A memref's slice that is all of it reads what the memref does. -/
theorem read_all {s : Shape} {e : EltTy} (arr : Memref sig .tc .hbm s e) {off : Fin s.rank → ℕ} (h : off = fun _ => 0)
    (inb : ∀ a, off a + s.size a ≤ s.size a) (hr) (X : arr.view.ty.Contents (Elt Ideal)) :
    (arr.slice (Rect.unit off s.size inb) hr).view.read (Elt Ideal) X = arr.view.read (Elt Ideal) X :=
  View.ld_unit_zero h inb (arr.view.read (Elt Ideal) X)

variable {S T : Shape}

/-- One weight's results, each the step on the four operands; the reference's, the step on the operands before reshaping. -/
theorem weight (h) {w g mo ve u n q u' n' q' : FVec Ideal T .f32} {W G M E : FVec Ideal S .f32}
    (out : u = Adam.update w g mo ve ∧ n = Adam.mean g mo ∧ q = Adam.square g ve)
    (ops : w = shapeCast T W h ∧ g = shapeCast T G h ∧ mo = shapeCast T M h ∧ ve = shapeCast T E h)
    (ref : u' = shapeCast T (Adam.update W G M E) h ∧ n' = shapeCast T (Adam.mean G M) h ∧ q' = shapeCast T (Adam.square G E) h) :
    u = u' ∧ n = n' ∧ q = q' := by
  obtain ⟨rfl, rfl, rfl⟩ := out
  obtain ⟨rfl, rfl, rfl, rfl⟩ := ops
  obtain ⟨rfl, rfl, rfl⟩ := ref
  exact ⟨rfl, rfl, rfl⟩

/-- The same of a weight taken as it comes. -/
theorem weight_as {w g mo ve u n q u' n' q' W G M E : FVec Ideal T .f32}
    (out : u = Adam.update w g mo ve ∧ n = Adam.mean g mo ∧ q = Adam.square g ve)
    (ops : w = W ∧ g = G ∧ mo = M ∧ ve = E)
    (ref : u' = Adam.update W G M E ∧ n' = Adam.mean G M ∧ q' = Adam.square G E) : u = u' ∧ n = n' ∧ q = q' := by
  obtain ⟨rfl, rfl, rfl⟩ := out
  obtain ⟨rfl, rfl, rfl, rfl⟩ := ops
  obtain ⟨rfl, rfl, rfl⟩ := ref
  exact ⟨rfl, rfl, rfl⟩

variable (m : (ℓ : Loc nD τ sig) → Buf (Elt Ideal) ℓ)

abbrev arg (c : Dev nD) (b : Ref sig .tc) := m ((c.tc : Thread nD τ).loc b)

/-- The host's reshapes. -/
theorem V_shaped (c : Dev nD) :
    V m c main_v0 = shapeCast S1x1024 (arg m c main_arg0) shapeCasts_S1024_S1x1024 ∧
    V m c main_v1 = shapeCast S1x1024 (arg m c main_arg1) shapeCasts_S1024_S1x1024 ∧
    V m c main_v2 = shapeCast S1x1024 (arg m c main_arg2) shapeCasts_S1024_S1x1024 ∧
    V m c main_v3 = shapeCast S1x1024 (arg m c main_arg3) shapeCasts_S1024_S1x1024 ∧
    V m c main_v4 = shapeCast S512x128 (arg m c main_arg16) shapeCasts_S1x4x128x128_S512x128 ∧
    V m c main_v5 = shapeCast S512x128 (arg m c main_arg17) shapeCasts_S1x4x128x128_S512x128 ∧
    V m c main_v6 = shapeCast S512x128 (arg m c main_arg18) shapeCasts_S1x4x128x128_S512x128 ∧
    V m c main_v7 = shapeCast S512x128 (arg m c main_arg19) shapeCasts_S1x4x128x128_S512x128 ∧
    V m c main_v8 = shapeCast S4x128 (arg m c main_arg20) shapeCasts_S1x4x128_S4x128 ∧
    V m c main_v9 = shapeCast S4x128 (arg m c main_arg21) shapeCasts_S1x4x128_S4x128 ∧
    V m c main_v10 = shapeCast S4x128 (arg m c main_arg22) shapeCasts_S1x4x128_S4x128 ∧
    V m c main_v11 = shapeCast S4x128 (arg m c main_arg23) shapeCasts_S1x4x128_S4x128 ∧
    V m c main_v12 = shapeCast S120x31 (arg m c main_arg32) shapeCasts_S1x8x15x31_S120x31 ∧
    V m c main_v13 = shapeCast S120x31 (arg m c main_arg33) shapeCasts_S1x8x15x31_S120x31 ∧
    V m c main_v14 = shapeCast S120x31 (arg m c main_arg34) shapeCasts_S1x8x15x31_S120x31 ∧
    V m c main_v15 = shapeCast S120x31 (arg m c main_arg35) shapeCasts_S1x8x15x31_S120x31 := by
  and_intros <;> (entry_read; rfl)

/-- The results of `c_ctx`. -/
theorem left0 (c : Dev nD) (t : Fin cfg0.N) :
    left m c 36 t = val_main_v24 (F := Ideal) (arg m c main_arg0) (arg m c main_arg1) (arg m c main_arg2) (arg m c main_arg3) ∧
    left m c 37 t = val_main_v25 (F := Ideal) (arg m c main_arg1) (arg m c main_arg2) ∧
    left m c 38 t = val_main_v26 (F := Ideal) (arg m c main_arg1) (arg m c main_arg3) := by
  have out (w g mo ve : Vec Ideal S1x1024 .f32) : k0_pay7 w g mo ve = Adam.update w g mo ve ∧ k0_pay5 g mo = Adam.mean g mo ∧ k0_pay6 g ve = Adam.square g ve := by
    simp only [k0_pay4, k0_pay5, k0_pay6, k0_pay7, shapeCast_self]; exact ⟨rfl, rfl, rfl⟩
  obtain ⟨e0, e1, e2, e3, -⟩ := V_shaped m c
  refine weight shapeCasts_S1024_S1x1024 (out (blk m c 0 t) (blk m c 1 t) (blk m c 2 t) (blk m c 3 t)) ⟨Eq.trans ?_ e0, Eq.trans ?_ e1, Eq.trans ?_ e2, Eq.trans ?_ e3⟩ ⟨rfl, rfl, rfl⟩ <;>
    exact read_all _ (funext fun a => Nat.zero_mul _) _ _ _

/-- The results of `b_ada`. -/
theorem left1 (c : Dev nD) (t : Fin cfg0.N) :
    left m c 39 t = val_main_v50 (F := Ideal) (arg m c main_arg4) (arg m c main_arg5) (arg m c main_arg6) (arg m c main_arg7) ∧
    left m c 40 t = val_main_v31 (F := Ideal) (arg m c main_arg5) (arg m c main_arg6) ∧
    left m c 41 t = val_main_v37 (F := Ideal) (arg m c main_arg5) (arg m c main_arg7) := by
  have out (w g mo ve : Vec Ideal S1x3072 .f32) : k0_pay10 w g mo ve = Adam.update w g mo ve ∧ k0_pay8 g mo = Adam.mean g mo ∧ k0_pay9 g ve = Adam.square g ve := by
    simp only [k0_pay8, k0_pay9, k0_pay10, shapeCast_self]; exact ⟨rfl, rfl, rfl⟩
  refine weight_as (out (blk m c 4 t) (blk m c 5 t) (blk m c 6 t) (blk m c 7 t)) ⟨Eq.trans ?_ (V_arg m c main_arg4 (by decide)), Eq.trans ?_ (V_arg m c main_arg5 (by decide)), Eq.trans ?_ (V_arg m c main_arg6 (by decide)), Eq.trans ?_ (V_arg m c main_arg7 (by decide))⟩ ⟨rfl, rfl, rfl⟩ <;>
    exact read_all _ (funext fun a => Nat.zero_mul _) _ _ _

/-- The results of `norm_g`. -/
theorem left2 (c : Dev nD) (t : Fin cfg0.N) :
    left m c 42 t = val_main_v74 (F := Ideal) (arg m c main_arg8) (arg m c main_arg9) (arg m c main_arg10) (arg m c main_arg11) ∧
    left m c 43 t = val_main_v55 (F := Ideal) (arg m c main_arg9) (arg m c main_arg10) ∧
    left m c 44 t = val_main_v61 (F := Ideal) (arg m c main_arg9) (arg m c main_arg11) := by
  have out (w g mo ve : Vec Ideal S1x1024 .f32) : k0_pay13 w g mo ve = Adam.update w g mo ve ∧ k0_pay11 g mo = Adam.mean g mo ∧ k0_pay12 g ve = Adam.square g ve := by
    simp only [k0_pay11, k0_pay12, k0_pay13, shapeCast_self]; exact ⟨rfl, rfl, rfl⟩
  refine weight_as (out (blk m c 8 t) (blk m c 9 t) (blk m c 10 t) (blk m c 11 t)) ⟨Eq.trans ?_ (V_arg m c main_arg8 (by decide)), Eq.trans ?_ (V_arg m c main_arg9 (by decide)), Eq.trans ?_ (V_arg m c main_arg10 (by decide)), Eq.trans ?_ (V_arg m c main_arg11 (by decide))⟩ ⟨rfl, rfl, rfl⟩ <;>
    exact read_all _ (funext fun a => Nat.zero_mul _) _ _ _

/-- The results of `sgu_norm_g`. -/
theorem left3 (c : Dev nD) (t : Fin cfg0.N) :
    left m c 45 t = val_main_v98 (F := Ideal) (arg m c main_arg12) (arg m c main_arg13) (arg m c main_arg14) (arg m c main_arg15) ∧
    left m c 46 t = val_main_v79 (F := Ideal) (arg m c main_arg13) (arg m c main_arg14) ∧
    left m c 47 t = val_main_v85 (F := Ideal) (arg m c main_arg13) (arg m c main_arg15) := by
  have out (w g mo ve : Vec Ideal S1x512 .f32) : k0_pay16 w g mo ve = Adam.update w g mo ve ∧ k0_pay14 g mo = Adam.mean g mo ∧ k0_pay15 g ve = Adam.square g ve := by
    simp only [k0_pay14, k0_pay15, k0_pay16, shapeCast_self]; exact ⟨rfl, rfl, rfl⟩
  refine weight_as (out (blk m c 12 t) (blk m c 13 t) (blk m c 14 t) (blk m c 15 t)) ⟨Eq.trans ?_ (V_arg m c main_arg12 (by decide)), Eq.trans ?_ (V_arg m c main_arg13 (by decide)), Eq.trans ?_ (V_arg m c main_arg14 (by decide)), Eq.trans ?_ (V_arg m c main_arg15 (by decide))⟩ ⟨rfl, rfl, rfl⟩ <;>
    exact read_all _ (funext fun a => Nat.zero_mul _) _ _ _

/-- The results of `w_spatial`. -/
theorem left4 (c : Dev nD) (t : Fin cfg0.N) :
    left m c 48 t = val_main_v123 (F := Ideal) (arg m c main_arg16) (arg m c main_arg17) (arg m c main_arg18) (arg m c main_arg19) ∧
    left m c 49 t = val_main_v124 (F := Ideal) (arg m c main_arg17) (arg m c main_arg18) ∧
    left m c 50 t = val_main_v125 (F := Ideal) (arg m c main_arg17) (arg m c main_arg19) := by
  have out (w g mo ve : Vec Ideal S512x128 .f32) : k0_pay21 (k0_pay17 w) (k0_pay18 g) mo ve = Adam.update w g mo ve ∧ k0_pay19 (k0_pay18 g) mo = Adam.mean g mo ∧ k0_pay20 (k0_pay18 g) ve = Adam.square g ve := by
    simp only [k0_pay17, k0_pay18, k0_pay19, k0_pay20, k0_pay21, shapeCast_self]; exact ⟨rfl, rfl, rfl⟩
  obtain ⟨-, -, -, -, e0, e1, e2, e3, -⟩ := V_shaped m c
  refine weight shapeCasts_S1x4x128x128_S512x128 (out (blk m c 16 t) (blk m c 17 t) (blk m c 18 t) (blk m c 19 t)) ⟨Eq.trans ?_ e0, Eq.trans ?_ e1, Eq.trans ?_ e2, Eq.trans ?_ e3⟩ ⟨rfl, rfl, rfl⟩ <;>
    exact read_all _ (funext fun a => Nat.zero_mul _) _ _ _

/-- The results of `b_spatial`. -/
theorem left5 (c : Dev nD) (t : Fin cfg0.N) :
    left m c 51 t = val_main_v150 (F := Ideal) (arg m c main_arg20) (arg m c main_arg21) (arg m c main_arg22) (arg m c main_arg23) ∧
    left m c 52 t = val_main_v151 (F := Ideal) (arg m c main_arg21) (arg m c main_arg22) ∧
    left m c 53 t = val_main_v152 (F := Ideal) (arg m c main_arg21) (arg m c main_arg23) := by
  have out (w g mo ve : Vec Ideal S4x128 .f32) : k0_pay26 (k0_pay22 w) g mo ve = Adam.update w g mo ve ∧ k0_pay24 g mo = Adam.mean g mo ∧ k0_pay25 g ve = Adam.square g ve := by
    simp only [k0_pay22, k0_pay23, k0_pay24, k0_pay25, k0_pay26, shapeCast_self]; exact ⟨rfl, rfl, rfl⟩
  obtain ⟨-, -, -, -, -, -, -, -, e0, e1, e2, e3, -⟩ := V_shaped m c
  refine weight shapeCasts_S1x4x128_S4x128 (out (blk m c 20 t) (blk m c 21 t) (blk m c 22 t) (blk m c 23 t)) ⟨Eq.trans ?_ e0, Eq.trans ?_ e1, Eq.trans ?_ e2, Eq.trans ?_ e3⟩ ⟨rfl, rfl, rfl⟩ <;>
    exact read_all _ (funext fun a => Nat.zero_mul _) _ _ _

/-- The results of `q_norm_g`. -/
theorem left6 (c : Dev nD) (t : Fin cfg0.N) :
    left m c 54 t = val_main_v176 (F := Ideal) (arg m c main_arg24) (arg m c main_arg25) (arg m c main_arg26) (arg m c main_arg27) ∧
    left m c 55 t = val_main_v157 (F := Ideal) (arg m c main_arg25) (arg m c main_arg26) ∧
    left m c 56 t = val_main_v163 (F := Ideal) (arg m c main_arg25) (arg m c main_arg27) := by
  have out (w g mo ve : Vec Ideal S1x64 .f32) : k0_pay29 w g mo ve = Adam.update w g mo ve ∧ k0_pay27 g mo = Adam.mean g mo ∧ k0_pay28 g ve = Adam.square g ve := by
    simp only [k0_pay27, k0_pay28, k0_pay29, shapeCast_self]; exact ⟨rfl, rfl, rfl⟩
  refine weight_as (out (blk m c 24 t) (blk m c 25 t) (blk m c 26 t) (blk m c 27 t)) ⟨Eq.trans ?_ (V_arg m c main_arg24 (by decide)), Eq.trans ?_ (V_arg m c main_arg25 (by decide)), Eq.trans ?_ (V_arg m c main_arg26 (by decide)), Eq.trans ?_ (V_arg m c main_arg27 (by decide))⟩ ⟨rfl, rfl, rfl⟩ <;>
    exact read_all _ (funext fun a => Nat.zero_mul _) _ _ _

/-- The results of `k_norm_g`. -/
theorem left7 (c : Dev nD) (t : Fin cfg0.N) :
    left m c 57 t = val_main_v200 (F := Ideal) (arg m c main_arg28) (arg m c main_arg29) (arg m c main_arg30) (arg m c main_arg31) ∧
    left m c 58 t = val_main_v181 (F := Ideal) (arg m c main_arg29) (arg m c main_arg30) ∧
    left m c 59 t = val_main_v187 (F := Ideal) (arg m c main_arg29) (arg m c main_arg31) := by
  have out (w g mo ve : Vec Ideal S1x64 .f32) : k0_pay32 w g mo ve = Adam.update w g mo ve ∧ k0_pay30 g mo = Adam.mean g mo ∧ k0_pay31 g ve = Adam.square g ve := by
    simp only [k0_pay30, k0_pay31, k0_pay32, shapeCast_self]; exact ⟨rfl, rfl, rfl⟩
  refine weight_as (out (blk m c 28 t) (blk m c 29 t) (blk m c 30 t) (blk m c 31 t)) ⟨Eq.trans ?_ (V_arg m c main_arg28 (by decide)), Eq.trans ?_ (V_arg m c main_arg29 (by decide)), Eq.trans ?_ (V_arg m c main_arg30 (by decide)), Eq.trans ?_ (V_arg m c main_arg31 (by decide))⟩ ⟨rfl, rfl, rfl⟩ <;>
    exact read_all _ (funext fun a => Nat.zero_mul _) _ _ _

/-- The results of `rpb`. -/
theorem left8 (c : Dev nD) (t : Fin cfg0.N) :
    left m c 60 t = val_main_v225 (F := Ideal) (arg m c main_arg32) (arg m c main_arg33) (arg m c main_arg34) (arg m c main_arg35) ∧
    left m c 61 t = val_main_v226 (F := Ideal) (arg m c main_arg33) (arg m c main_arg34) ∧
    left m c 62 t = val_main_v227 (F := Ideal) (arg m c main_arg33) (arg m c main_arg35) := by
  have out (w g mo ve : Vec Ideal S120x31 .f32) : k0_pay3 (k0_pay33 w) (k0_pay34 g) (k0_pay35 mo) ve = Adam.update w g mo ve ∧ k0_pay1 (k0_pay34 g) (k0_pay35 mo) = Adam.mean g mo ∧ k0_pay2 (k0_pay34 g) ve = Adam.square g ve := by
    simp only [k0_pay33, k0_pay34, k0_pay35, k0_pay1, k0_pay2, k0_pay3, shapeCast_self]; exact ⟨rfl, rfl, rfl⟩
  obtain ⟨-, -, -, -, -, -, -, -, -, -, -, -, e0, e1, e2, e3⟩ := V_shaped m c
  refine weight shapeCasts_S1x8x15x31_S120x31 (out (blk m c 32 t) (blk m c 33 t) (blk m c 34 t) (blk m c 35 t)) ⟨Eq.trans ?_ e0, Eq.trans ?_ e1, Eq.trans ?_ e2, Eq.trans ?_ e3⟩ ⟨rfl, rfl, rfl⟩ <;>
    exact read_all _ (funext fun a => Nat.zero_mul _) _ _ _

set_option maxHeartbeats 4000000 in
/-- The result arrays after the run are what the body left in their windows. -/
theorem final (c : Dev nD) (t : Fin cfg0.N) :
    (dats m 0 c).arrAt 36 cfg0.N = left m c 36 t ∧
    (dats m 0 c).arrAt 37 cfg0.N = left m c 37 t ∧
    (dats m 0 c).arrAt 38 cfg0.N = left m c 38 t ∧
    (dats m 0 c).arrAt 39 cfg0.N = left m c 39 t ∧
    (dats m 0 c).arrAt 40 cfg0.N = left m c 40 t ∧
    (dats m 0 c).arrAt 41 cfg0.N = left m c 41 t ∧
    (dats m 0 c).arrAt 42 cfg0.N = left m c 42 t ∧
    (dats m 0 c).arrAt 43 cfg0.N = left m c 43 t ∧
    (dats m 0 c).arrAt 44 cfg0.N = left m c 44 t ∧
    (dats m 0 c).arrAt 45 cfg0.N = left m c 45 t ∧
    (dats m 0 c).arrAt 46 cfg0.N = left m c 46 t ∧
    (dats m 0 c).arrAt 47 cfg0.N = left m c 47 t ∧
    (dats m 0 c).arrAt 48 cfg0.N = left m c 48 t ∧
    (dats m 0 c).arrAt 49 cfg0.N = left m c 49 t ∧
    (dats m 0 c).arrAt 50 cfg0.N = left m c 50 t ∧
    (dats m 0 c).arrAt 51 cfg0.N = left m c 51 t ∧
    (dats m 0 c).arrAt 52 cfg0.N = left m c 52 t ∧
    (dats m 0 c).arrAt 53 cfg0.N = left m c 53 t ∧
    (dats m 0 c).arrAt 54 cfg0.N = left m c 54 t ∧
    (dats m 0 c).arrAt 55 cfg0.N = left m c 55 t ∧
    (dats m 0 c).arrAt 56 cfg0.N = left m c 56 t ∧
    (dats m 0 c).arrAt 57 cfg0.N = left m c 57 t ∧
    (dats m 0 c).arrAt 58 cfg0.N = left m c 58 t ∧
    (dats m 0 c).arrAt 59 cfg0.N = left m c 59 t ∧
    (dats m 0 c).arrAt 60 cfg0.N = left m c 60 t ∧
    (dats m 0 c).arrAt 61 cfg0.N = left m c 61 t ∧
    (dats m 0 c).arrAt 62 cfg0.N = left m c 62 t := by
  refine ⟨Eq.trans ?_ (result c t 36 (by decide)), Eq.trans ?_ (result c t 37 (by decide)), Eq.trans ?_ (result c t 38 (by decide)), Eq.trans ?_ (result c t 39 (by decide)), Eq.trans ?_ (result c t 40 (by decide)), Eq.trans ?_ (result c t 41 (by decide)), Eq.trans ?_ (result c t 42 (by decide)), Eq.trans ?_ (result c t 43 (by decide)), Eq.trans ?_ (result c t 44 (by decide)), Eq.trans ?_ (result c t 45 (by decide)), Eq.trans ?_ (result c t 46 (by decide)), Eq.trans ?_ (result c t 47 (by decide)), Eq.trans ?_ (result c t 48 (by decide)), Eq.trans ?_ (result c t 49 (by decide)), Eq.trans ?_ (result c t 50 (by decide)), Eq.trans ?_ (result c t 51 (by decide)), Eq.trans ?_ (result c t 52 (by decide)), Eq.trans ?_ (result c t 53 (by decide)), Eq.trans ?_ (result c t 54 (by decide)), Eq.trans ?_ (result c t 55 (by decide)), Eq.trans ?_ (result c t 56 (by decide)), Eq.trans ?_ (result c t 57 (by decide)), Eq.trans ?_ (result c t 58 (by decide)), Eq.trans ?_ (result c t 59 (by decide)), Eq.trans ?_ (result c t 60 (by decide)), Eq.trans ?_ (result c t 61 (by decide)), Eq.trans ?_ (result c t 62 (by decide))⟩ <;>
    (symm; exact read_all _ (funext fun a => Nat.zero_mul _) _ _ _)

end Cert.AdamSmallIdeal.Small

end
-- ==== Proof.SmallPair.lean ====
/-
  The optimiser's step of the small weights: the call's results are the reference's.
-/
module

public import proofs.«01_k».proof.Defs
public import proofs.«01_k».proof.Proof.SmallBits
public import proofs.«01_k».proof.Proof.SmallValue

@[expose] public section

set_option maxRecDepth 16384

noncomputable section

namespace Cert.AdamSmallIdeal.Small

open Idealize.ShloMosaic Idealize.SL.Sem
open Cert.AdamSmallRefIdeal.Read

theorem frame_bits : Cert.quiescent_AdamSmall := fun m g _ =>
  (θ_run _ _ _).mono (fun r h => ⟨fun c => by and_intros <;> exact h.1 c _ (by decide), h.2⟩) (Cert.AdamSmall.Small.frame m g)

theorem frame_ideal : Cert.quiescent_AdamSmallIdeal := fun m g _ =>
  (θ_run _ _ _).mono (fun r h => ⟨fun c => by and_intros <;> exact h.1 c _ (by decide), h.2⟩) (frame m g)

set_option maxHeartbeats 8000000 in
theorem equal : Cert.algebraic_AdamSmallIdeal_AdamSmallRefIdeal := by
  intro m g m' g' _ hagree
  refine ⟨fun c => (dats m 0 c).arrAt 36 cfg0.N, fun c => (dats m 0 c).arrAt 37 cfg0.N, fun c => (dats m 0 c).arrAt 38 cfg0.N, fun c => (dats m 0 c).arrAt 39 cfg0.N, fun c => (dats m 0 c).arrAt 40 cfg0.N, fun c => (dats m 0 c).arrAt 41 cfg0.N, fun c => (dats m 0 c).arrAt 42 cfg0.N, fun c => (dats m 0 c).arrAt 43 cfg0.N, fun c => (dats m 0 c).arrAt 44 cfg0.N, fun c => (dats m 0 c).arrAt 45 cfg0.N, fun c => (dats m 0 c).arrAt 46 cfg0.N, fun c => (dats m 0 c).arrAt 47 cfg0.N, fun c => (dats m 0 c).arrAt 48 cfg0.N, fun c => (dats m 0 c).arrAt 49 cfg0.N, fun c => (dats m 0 c).arrAt 50 cfg0.N, fun c => (dats m 0 c).arrAt 51 cfg0.N, fun c => (dats m 0 c).arrAt 52 cfg0.N, fun c => (dats m 0 c).arrAt 53 cfg0.N, fun c => (dats m 0 c).arrAt 54 cfg0.N, fun c => (dats m 0 c).arrAt 55 cfg0.N, fun c => (dats m 0 c).arrAt 56 cfg0.N, fun c => (dats m 0 c).arrAt 57 cfg0.N, fun c => (dats m 0 c).arrAt 58 cfg0.N, fun c => (dats m 0 c).arrAt 59 cfg0.N, fun c => (dats m 0 c).arrAt 60 cfg0.N, fun c => (dats m 0 c).arrAt 61 cfg0.N, fun c => (dats m 0 c).arrAt 62 cfg0.N,
    (θ_run _ _ _).mono (fun r h c => ?_) (run_main m g), (θ_run _ _ _).mono (fun r h c => ?_) (Cert.AdamSmallRefIdeal.Value.run m' g')⟩
  · refine ⟨(h.1 c).1 36, (h.1 c).1 37, (h.1 c).1 38, (h.1 c).1 39, (h.1 c).1 40, (h.1 c).1 41, (h.1 c).1 42, (h.1 c).1 43, (h.1 c).1 44, (h.1 c).1 45, (h.1 c).1 46, (h.1 c).1 47, (h.1 c).1 48, (h.1 c).1 49, (h.1 c).1 50, (h.1 c).1 51, (h.1 c).1 52, (h.1 c).1 53, (h.1 c).1 54, (h.1 c).1 55, (h.1 c).1 56, (h.1 c).1 57, (h.1 c).1 58, (h.1 c).1 59, (h.1 c).1 60, (h.1 c).1 61, (h.1 c).1 62, ?_⟩
    and_intros <;> exact kept h.1 c _ (by decide)
  · obtain ⟨h0, h1, h2, h3, h4, h5, h6, h7, h8, h9, h10, h11, h12, h13, h14, h15, h16, h17, h18, h19, h20, h21, h22, h23, h24, h25, h26, hargs⟩ := h c
    obtain ⟨e0, e1, e2, e3, e4, e5, e6, e7, e8, e9, e10, e11, e12, e13, e14, e15, e16, e17, e18, e19, e20, e21, e22, e23, e24, e25, e26, e27, e28, e29, e30, e31, e32, e33, e34, e35⟩ := hagree c
    have t : Fin cfg0.N := ⟨0, by decide⟩
    obtain ⟨f0, f1, f2, f3, f4, f5, f6, f7, f8, f9, f10, f11, f12, f13, f14, f15, f16, f17, f18, f19, f20, f21, f22, f23, f24, f25, f26⟩ := final m c t
    have l0 := left0 m c t
    have l1 := left1 m c t
    have l2 := left2 m c t
    have l3 := left3 m c t
    have l4 := left4 m c t
    have l5 := left5 m c t
    have l6 := left6 m c t
    have l7 := left7 m c t
    have l8 := left8 m c t
    refine ⟨(h0.trans (val_main_v24_eq ..)).trans ?_, (h1.trans (val_main_v25_eq ..)).trans ?_, (h2.trans (val_main_v26_eq ..)).trans ?_, (h3.trans (val_main_v50_eq ..)).trans ?_, (h4.trans (val_main_v31_eq ..)).trans ?_, (h5.trans (val_main_v37_eq ..)).trans ?_, (h6.trans (val_main_v74_eq ..)).trans ?_, (h7.trans (val_main_v55_eq ..)).trans ?_, (h8.trans (val_main_v61_eq ..)).trans ?_, (h9.trans (val_main_v98_eq ..)).trans ?_, (h10.trans (val_main_v79_eq ..)).trans ?_, (h11.trans (val_main_v85_eq ..)).trans ?_, (h12.trans (val_main_v123_eq ..)).trans ?_, (h13.trans (val_main_v124_eq ..)).trans ?_, (h14.trans (val_main_v125_eq ..)).trans ?_, (h15.trans (val_main_v150_eq ..)).trans ?_, (h16.trans (val_main_v151_eq ..)).trans ?_, (h17.trans (val_main_v152_eq ..)).trans ?_, (h18.trans (val_main_v176_eq ..)).trans ?_, (h19.trans (val_main_v157_eq ..)).trans ?_, (h20.trans (val_main_v163_eq ..)).trans ?_, (h21.trans (val_main_v200_eq ..)).trans ?_, (h22.trans (val_main_v181_eq ..)).trans ?_, (h23.trans (val_main_v187_eq ..)).trans ?_, (h24.trans (val_main_v225_eq ..)).trans ?_, (h25.trans (val_main_v226_eq ..)).trans ?_, (h26.trans (val_main_v227_eq ..)).trans ?_, hargs⟩
    · exact (four (val_main_v24 (F := Ideal)) e0 e1 e2 e3).trans (f0.trans l0.1).symm
    · exact (two (val_main_v25 (F := Ideal)) e1 e2).trans (f1.trans l0.2.1).symm
    · exact (two (val_main_v26 (F := Ideal)) e1 e3).trans (f2.trans l0.2.2).symm
    · exact (four (val_main_v50 (F := Ideal)) e4 e5 e6 e7).trans (f3.trans l1.1).symm
    · exact (two (val_main_v31 (F := Ideal)) e5 e6).trans (f4.trans l1.2.1).symm
    · exact (two (val_main_v37 (F := Ideal)) e5 e7).trans (f5.trans l1.2.2).symm
    · exact (four (val_main_v74 (F := Ideal)) e8 e9 e10 e11).trans (f6.trans l2.1).symm
    · exact (two (val_main_v55 (F := Ideal)) e9 e10).trans (f7.trans l2.2.1).symm
    · exact (two (val_main_v61 (F := Ideal)) e9 e11).trans (f8.trans l2.2.2).symm
    · exact (four (val_main_v98 (F := Ideal)) e12 e13 e14 e15).trans (f9.trans l3.1).symm
    · exact (two (val_main_v79 (F := Ideal)) e13 e14).trans (f10.trans l3.2.1).symm
    · exact (two (val_main_v85 (F := Ideal)) e13 e15).trans (f11.trans l3.2.2).symm
    · exact (four (val_main_v123 (F := Ideal)) e16 e17 e18 e19).trans (f12.trans l4.1).symm
    · exact (two (val_main_v124 (F := Ideal)) e17 e18).trans (f13.trans l4.2.1).symm
    · exact (two (val_main_v125 (F := Ideal)) e17 e19).trans (f14.trans l4.2.2).symm
    · exact (four (val_main_v150 (F := Ideal)) e20 e21 e22 e23).trans (f15.trans l5.1).symm
    · exact (two (val_main_v151 (F := Ideal)) e21 e22).trans (f16.trans l5.2.1).symm
    · exact (two (val_main_v152 (F := Ideal)) e21 e23).trans (f17.trans l5.2.2).symm
    · exact (four (val_main_v176 (F := Ideal)) e24 e25 e26 e27).trans (f18.trans l6.1).symm
    · exact (two (val_main_v157 (F := Ideal)) e25 e26).trans (f19.trans l6.2.1).symm
    · exact (two (val_main_v163 (F := Ideal)) e25 e27).trans (f20.trans l6.2.2).symm
    · exact (four (val_main_v200 (F := Ideal)) e28 e29 e30 e31).trans (f21.trans l7.1).symm
    · exact (two (val_main_v181 (F := Ideal)) e29 e30).trans (f22.trans l7.2.1).symm
    · exact (two (val_main_v187 (F := Ideal)) e29 e31).trans (f23.trans l7.2.2).symm
    · exact (four (val_main_v225 (F := Ideal)) e32 e33 e34 e35).trans (f24.trans l8.1).symm
    · exact (two (val_main_v226 (F := Ideal)) e33 e34).trans (f25.trans l8.2.1).symm
    · exact (two (val_main_v227 (F := Ideal)) e33 e35).trans (f26.trans l8.2.2).symm

end Cert.AdamSmallIdeal.Small

end
-- ==== Proof.lean ====
module

public import proofs.«01_k».proof.Defs
public import proofs.«01_k».proof.Proof.Gen.CtxBwd
public import proofs.«01_k».proof.Proof.Gen.CtxBwd.Skeleton
public import proofs.«01_k».proof.Proof.Gen.CtxBwd.Launch
public import proofs.«01_k».proof.Proof.Gen.CtxBwd.Points
public import proofs.«01_k».proof.Proof.Gen.CtxBwd.Frame
public import proofs.«01_k».proof.Proof.Gen.CtxBwdIdeal
public import proofs.«01_k».proof.Proof.Gen.CtxBwdIdeal.Skeleton
public import proofs.«01_k».proof.Proof.Gen.CtxBwdIdeal.Launch
public import proofs.«01_k».proof.Proof.Gen.CtxBwdIdeal.Points
public import proofs.«01_k».proof.Proof.Gen.CtxBwdIdeal.Frame
public import proofs.«01_k».proof.Proof.Gen.CtxRefIdeal
public import proofs.«01_k».proof.Proof.Gen.CtxRefIdeal.Run
public import proofs.«01_k».proof.Proof.Gen.CtxRefIdeal.Read
public import proofs.«01_k».proof.Proof.Gen.CtxBwdIdeal.Value
public import proofs.«01_k».proof.Proof.Gen.DhBwd.Frame
public import proofs.«01_k».proof.Proof.Gen.DhBwdIdeal.Frame
public import proofs.«01_k».proof.Proof.Gen.DhBwdIdeal.Value
public import proofs.«01_k».proof.Proof.Gen.DhRefIdeal.Run
public import proofs.«01_k».proof.Proof.Gen.DhRefIdeal.Read
public import proofs.«01_k».proof.Proof.Gen.OutProj.Frame
public import proofs.«01_k».proof.Proof.Gen.OutProjIdeal.Frame
public import proofs.«01_k».proof.Proof.Gen.OutProjIdeal.Skeleton
public import proofs.«01_k».proof.Proof.Gen.OutRefIdeal.Run
public import proofs.«01_k».proof.Proof.Gen.OutRefIdeal.Read
public import proofs.«01_k».proof.Proof.Gen.DwBwdIdeal.Value
public import proofs.«01_k».proof.Proof.Gen.DwBwd.Frame
public import proofs.«01_k».proof.Proof.Gen.DwRefIdeal.Run
public import proofs.«01_k».proof.Proof.Gen.DwRefIdeal.Read
public import proofs.«01_k».proof.Proof.Gen.CtxFwdIdeal.Value
public import proofs.«01_k».proof.Proof.Gen.CtxFwd.Frame
public import proofs.«01_k».proof.Proof.Gen.CtxFwdRefIdeal.Run
public import proofs.«01_k».proof.Proof.Gen.CtxFwdRefIdeal.Read
public import proofs.«01_k».proof.Proof.Gen.ReduceIdeal.Value
public import proofs.«01_k».proof.Proof.Gen.Reduce.Frame
public import proofs.«01_k».proof.Proof.Gen.ReduceRefIdeal.Run
public import proofs.«01_k».proof.Proof.Gen.ReduceRefIdeal.Read
public import proofs.«01_k».proof.Proof.Gen.AdamInIdeal.Value
public import proofs.«01_k».proof.Proof.Gen.AdamIn.Frame
public import proofs.«01_k».proof.Proof.Gen.AdamInRefIdeal.Run
public import proofs.«01_k».proof.Proof.Gen.AdamInRefIdeal.Read
public import proofs.«01_k».proof.Proof.Gen.AdamAdaIdeal.Value
public import proofs.«01_k».proof.Proof.Gen.AdamAda.Frame
public import proofs.«01_k».proof.Proof.Gen.AdamAdaRefIdeal.Run
public import proofs.«01_k».proof.Proof.Gen.AdamAdaRefIdeal.Read
public import proofs.«01_k».proof.Proof.Gen.AdamSmall
public import proofs.«01_k».proof.Proof.Gen.AdamSmallIdeal
public import proofs.«01_k».proof.Proof.Gen.AdamSmallRefIdeal.Run
public import proofs.«01_k».proof.Proof.Gen.AdamSmallRefIdeal.Read
public import proofs.«01_k».proof.Proof.Gen.AdamOutIdeal.Value
public import proofs.«01_k».proof.Proof.Gen.AdamOut.Frame
public import proofs.«01_k».proof.Proof.Gen.AdamOutRefIdeal.Run
public import proofs.«01_k».proof.Proof.Gen.AdamOutRefIdeal.Read
public import Idealize.ShloMosaic.Adequacy
public import proofs.«01_k».proof.Proof.CtxValue
public import proofs.«01_k».proof.Proof.DhValue
public import proofs.«01_k».proof.Proof.OutBits
public import proofs.«01_k».proof.Proof.OutValue
public import proofs.«01_k».proof.Proof.DwValue
public import proofs.«01_k».proof.Proof.CtxFwd
public import proofs.«01_k».proof.Proof.Reduce
public import proofs.«01_k».proof.Proof.AdamIn
public import proofs.«01_k».proof.Proof.AdamAda
public import proofs.«01_k».proof.Proof.AdamOut
public import proofs.«01_k».proof.Proof.SmallPair
public import Idealize.ShloMosaic.Lib.Claim
public import Idealize.ShloMosaic.Lib.Quiescent
public import Idealize.ShloMosaic.Init

@[expose] public section

noncomputable section

namespace Cert.Proof

open Idealize.ShloMosaic Idealize.SL.Sem

/-- The context's backward call and its reference end with equal results. -/
theorem ctx : Cert.algebraic_CtxBwdIdeal_CtxRefIdeal := by
  pair_intro
  · run_from Cert.CtxBwdIdeal.Value.run_blocks m g
  · refine (θ_run _ _ _).mono (fun r h c => ?_) (Cert.CtxRefIdeal.Value.run_val m' g')
    obtain ⟨h0, h1, h2, hargs⟩ := h c
    obtain ⟨e0, e1, e2, e3, e4, e5, e6⟩ := hagree c
    refine ⟨h0.trans ?_, h1.trans ?_, h2.trans ?_, hargs⟩
    · rw [e0, e1, e2]; exact (Cert.CtxBwdIdeal.Value.final7 m c).symm
    · rw [e0, e1, e2, e3, e6]; exact (Cert.CtxBwdIdeal.Value.final8 m c).symm
    · rw [e0, e1, e2, e3, e5]; exact (Cert.CtxBwdIdeal.Value.final9 m c).symm

/-- The input norm's backward call and its reference end with equal results. -/
theorem dh : Cert.algebraic_DhBwdIdeal_DhRefIdeal := by
  pair_intro
  · run_from Cert.DhBwdIdeal.Value.run_blocks m g
  · refine (θ_run _ _ _).mono (fun r h c => ?_) (Cert.DhRefIdeal.Value.run_val m' g')
    obtain ⟨h0, h1, h2, h3, hargs⟩ := h c
    obtain ⟨e0, e1, e2, e3, e4, e5, e6, e7, e8, e9, e10, e11⟩ := hagree c
    refine ⟨h0.trans ?_, h1.trans ?_, h2.trans ?_, h3.trans ?_, hargs⟩
    · rw [e0, e1, e2, e3, e4, e5, e6, e7, e9, e10]; exact (Cert.DhBwdIdeal.Value.final12 m c).symm
    · rw [e0, e1, e2, e3, e4, e5]; exact ((Cert.DhBwdIdeal.Value.final13 m c).trans (Cert.DhBwdIdeal.Value.acc13_all m c)).symm
    · rw [e0, e1, e2, e3, e4, e5, e6, e10]; exact ((Cert.DhBwdIdeal.Value.final14 m c).trans (Cert.DhBwdIdeal.Value.acc14_all m c)).symm
    · rw [e0, e1, e2, e3, e4, e5, e6, e9, e11]; exact ((Cert.DhBwdIdeal.Value.final15 m c).trans (Cert.DhBwdIdeal.Value.acc15_all m c)).symm

set_option maxHeartbeats 2000000 in
/-- The output projection's call and its reference end with equal results. -/
theorem out : Cert.algebraic_OutProjIdeal_OutRefIdeal := by
  pair_intro
  · run_from Cert.OutProjIdeal.Out.run_blocks m g
  · refine (θ_run _ _ _).mono (fun r h c => ?_) (Cert.OutRefIdeal.Value.run_val m' g')
    obtain ⟨h0, h1, h2, h3, h4, hargs⟩ := h c
    obtain ⟨e0, e1, e2, e3, e4, e5, e6, e7, e8⟩ := hagree c
    refine ⟨h0.trans ?_, h1.trans ?_, h2.trans ?_, h3.trans ?_, h4.trans ?_, hargs⟩ <;> rewrite [e0, e1, e2, e3, e4, e5, e6, e7, e8]
    · exact (Cert.OutProjIdeal.Out.loss_all m c).symm
    · exact (Cert.OutProjIdeal.Out.final15 m c).symm
    · exact (Cert.OutProjIdeal.Out.final16 m c).symm
    · exact (Cert.OutProjIdeal.Out.dg_all m c).symm
    · exact (Cert.OutProjIdeal.Out.dw_all m c).symm

set_option maxHeartbeats 4000000 in
/-- The gating's backward call and its reference end with equal results. -/
theorem dw : Cert.algebraic_DwBwdIdeal_DwRefIdeal := by
  pair_intro
  · run_from Cert.DwBwdIdeal.Value.run_blocks m g
  · refine (θ_run _ _ _).mono (fun r h c => ?_) (Cert.DwRefIdeal.Value.run_val m' g')
    obtain ⟨h0, h1, h2, h3, h4, hargs⟩ := h c
    obtain ⟨e0, e1, e2, e3, e4, e5, e6, e7, e8, e9, e10, e11, e12, e13, e14, e15, e16, e17⟩ := hagree c
    refine ⟨h0.trans ?_, h1.trans ?_, h2.trans ?_, h3.trans ?_, h4.trans ?_, hargs⟩
    · rewrite [e0, e1, e2, e3, e4, e5, e6, e7, e8, e9, e10, e11, e12, e13, e14, e15, e16, e17]; exact (Cert.DwBwdIdeal.Value.final15 m c).symm
    · rewrite [e7, e8, e9, e10, e11]; exact (Cert.DwBwdIdeal.Value.final16 m c).symm
    · rewrite [e7, e9, e11]; exact (Cert.DwBwdIdeal.Value.final17 m c).symm
    · rewrite [e7, e8, e11]; exact (Cert.DwBwdIdeal.Value.final18 m c).symm
    · rewrite [e7, e11]; exact (Cert.DwBwdIdeal.Value.final19 m c).symm

/-- The context's forward call and its reference end with equal results. -/
theorem ctxFwd : Cert.algebraic_CtxFwdIdeal_CtxFwdRefIdeal := by
  pair_intro
  · run_from Cert.CtxFwdIdeal.Value.run_blocks m g
  · refine (θ_run _ _ _).mono (fun r h c => ?_) (Cert.CtxFwdRefIdeal.Value.run_val m' g')
    obtain ⟨h0, h1, hargs⟩ := h c
    obtain ⟨e0, e1, e2, e3, e4⟩ := hagree c
    refine ⟨h0.trans ?_, h1.trans ?_, hargs⟩
    · rewrite [e0, e1, e2, e3, e4]; exact (Cert.CtxFwdIdeal.Value.final5 m c).symm
    · rewrite [e0, e1, e2, e3]; exact (Cert.CtxFwdIdeal.Value.final6 m c).symm

set_option maxHeartbeats 4000000 in
/-- The reduction's call and its reference end with equal results. -/
theorem reduce : Cert.algebraic_ReduceIdeal_ReduceRefIdeal := by
  pair_intro
  · run_from Cert.ReduceIdeal.Value.run_blocks m g
  · refine (θ_run _ _ _).mono (fun r h c => ?_) (Cert.ReduceRefIdeal.Value.run_val m' g')
    obtain ⟨h0, h1, h2, h3, h4, h5, hargs⟩ := h c
    obtain ⟨e0, e1, e2, e3, e4, e5, e6, e7, e8⟩ := hagree c
    refine ⟨h0.trans ?_, h1.trans ?_, h2.trans ?_, h3.trans ?_, h4.trans ?_, h5.trans ?_, hargs⟩
    · rewrite [e0, e1]; exact (Cert.ReduceIdeal.Value.final4 m c).symm
    · rewrite [e2, e3]; exact (Cert.ReduceIdeal.Value.final5 m c).symm
    · rewrite [e4]; exact (Cert.ReduceIdeal.Value.final6 m c).symm
    · rewrite [e4, e6]; exact (Cert.ReduceIdeal.Value.final7 m c).symm
    · rewrite [e4]; exact (Cert.ReduceIdeal.Value.final8 m c).symm
    · rewrite [e4, e5, e7, e8]; exact (Cert.ReduceIdeal.Value.final9 m c).symm

/-- The optimiser's call and its reference end with equal results. -/
theorem adamIn : Cert.algebraic_AdamInIdeal_AdamInRefIdeal := by
  pair_intro
  · run_from Cert.AdamInIdeal.Value.run_blocks m g
  · refine (θ_run _ _ _).mono (fun r h c => ?_) (Cert.AdamInRefIdeal.Value.run_val m' g')
    obtain ⟨h0, h1, h2, hargs⟩ := h c
    obtain ⟨e0, e1, e2, e3⟩ := hagree c
    obtain ⟨f0, f1, f2⟩ := Cert.AdamInIdeal.Value.final m c
    refine ⟨h0.trans ?_, h1.trans ?_, h2.trans ?_, hargs⟩
    · beta_reduce; rewrite [e0, e1, e2, e3]; exact f0.symm
    · beta_reduce; rewrite [e1, e2]; exact f1.symm
    · beta_reduce; rewrite [e1, e3]; exact f2.symm

theorem adamAda : Cert.algebraic_AdamAdaIdeal_AdamAdaRefIdeal := by
  pair_intro
  · run_from Cert.AdamAdaIdeal.Value.run_blocks m g
  · refine (θ_run _ _ _).mono (fun r h c => ?_) (Cert.AdamAdaRefIdeal.Value.run_val m' g')
    obtain ⟨h0, h1, h2, hargs⟩ := h c
    obtain ⟨e0, e1, e2, e3⟩ := hagree c
    obtain ⟨f0, f1, f2⟩ := Cert.AdamAdaIdeal.Value.final m c
    refine ⟨h0.trans ?_, h1.trans ?_, h2.trans ?_, hargs⟩
    · beta_reduce; rewrite [e0, e1, e2, e3]; exact f0.symm
    · beta_reduce; rewrite [e1, e2]; exact f1.symm
    · beta_reduce; rewrite [e1, e3]; exact f2.symm

theorem adamOut : Cert.algebraic_AdamOutIdeal_AdamOutRefIdeal := by
  pair_intro
  · run_from Cert.AdamOutIdeal.Value.run_blocks m g
  · refine (θ_run _ _ _).mono (fun r h c => ?_) (Cert.AdamOutRefIdeal.Value.run_val m' g')
    obtain ⟨h0, h1, h2, hargs⟩ := h c
    obtain ⟨e0, e1, e2, e3⟩ := hagree c
    obtain ⟨f0, f1, f2⟩ := Cert.AdamOutIdeal.Value.final m c
    refine ⟨h0.trans ?_, h1.trans ?_, h2.trans ?_, hargs⟩
    · beta_reduce; rewrite [e0, e1, e2, e3]; exact f0.symm
    · beta_reduce; rewrite [e1, e2]; exact f1.symm
    · beta_reduce; rewrite [e1, e3]; exact f2.symm

theorem claim : Cert.Claim := ⟨Cert.CtxBwd.Gen.facts, Cert.CtxBwdIdeal.Gen.facts, Cert.CtxRefIdeal.Gen.facts,
  Cert.DhBwd.Gen.facts, Cert.DhBwdIdeal.Gen.facts, Cert.DhRefIdeal.Gen.facts,
  Cert.OutProj.Gen.facts, Cert.OutProjIdeal.Gen.facts, Cert.OutRefIdeal.Gen.facts,
  Cert.DwBwd.Gen.facts, Cert.DwBwdIdeal.Gen.facts, Cert.DwRefIdeal.Gen.facts,
  Cert.CtxFwd.Gen.facts, Cert.CtxFwdIdeal.Gen.facts, Cert.CtxFwdRefIdeal.Gen.facts,
  Cert.Reduce.Gen.facts, Cert.ReduceIdeal.Gen.facts, Cert.ReduceRefIdeal.Gen.facts,
  Cert.AdamIn.Gen.facts, Cert.AdamInIdeal.Gen.facts, Cert.AdamInRefIdeal.Gen.facts,
  Cert.AdamAda.Gen.facts, Cert.AdamAdaIdeal.Gen.facts, Cert.AdamAdaRefIdeal.Gen.facts,
  Cert.AdamOut.Gen.facts, Cert.AdamOutIdeal.Gen.facts, Cert.AdamOutRefIdeal.Gen.facts,
  Cert.AdamSmall.Gen.facts, Cert.AdamSmallIdeal.Gen.facts, Cert.AdamSmallRefIdeal.Gen.facts,
  fun m ρ _ => Cert.CtxBwd.Gen.frame m ρ,
  fun m ρ _ => Cert.CtxBwdIdeal.Gen.frame m ρ,
  fun m ρ _ => (θ_run _ _ _).mono (fun r h => ⟨fun c => (h c).2.2.2, sem_eq_zero_of_no_sems (by decide) r.2⟩)
    (Cert.CtxRefIdeal.Value.run m ρ),
  fun m ρ _ => Cert.DhBwd.Gen.frame m ρ,
  fun m ρ _ => Cert.DhBwdIdeal.Gen.frame m ρ,
  fun m ρ _ => (θ_run _ _ _).mono (fun r h => ⟨fun c => (h c).2.2.2.2, sem_eq_zero_of_no_sems (by decide) r.2⟩)
    (Cert.DhRefIdeal.Value.run m ρ),
  fun m ρ _ => Cert.OutProj.Out.frame m ρ,
  fun m ρ _ => Cert.OutProjIdeal.Out.frame m ρ,
  fun m ρ _ => (θ_run _ _ _).mono (fun r h => ⟨fun c => (h c).2.2.2.2.2, sem_eq_zero_of_no_sems (by decide) r.2⟩)
    (Cert.OutRefIdeal.Value.run m ρ),
  fun m ρ _ => Cert.DwBwd.Gen.frame m ρ,
  fun m ρ _ => Cert.DwBwdIdeal.Gen.frame m ρ,
  fun m ρ _ => (θ_run _ _ _).mono (fun r h => ⟨fun c => (h c).2.2.2.2.2, sem_eq_zero_of_no_sems (by decide) r.2⟩)
    (Cert.DwRefIdeal.Value.run m ρ),
  fun m ρ _ => Cert.CtxFwd.Gen.frame m ρ,
  fun m ρ _ => Cert.CtxFwdIdeal.Gen.frame m ρ,
  fun m ρ _ => (θ_run _ _ _).mono (fun r h => ⟨fun c => (h c).2.2, sem_eq_zero_of_no_sems (by decide) r.2⟩)
    (Cert.CtxFwdRefIdeal.Value.run m ρ),
  fun m ρ _ => Cert.Reduce.Gen.frame m ρ,
  fun m ρ _ => Cert.ReduceIdeal.Gen.frame m ρ,
  fun m ρ _ => (θ_run _ _ _).mono (fun r h => ⟨fun c => (h c).2.2.2.2.2.2, sem_eq_zero_of_no_sems (by decide) r.2⟩)
    (Cert.ReduceRefIdeal.Value.run m ρ),
  fun m ρ _ => Cert.AdamIn.Gen.frame m ρ,
  fun m ρ _ => Cert.AdamInIdeal.Gen.frame m ρ,
  fun m ρ _ => (θ_run _ _ _).mono (fun r h => ⟨fun c => (h c).2.2.2, sem_eq_zero_of_no_sems (by decide) r.2⟩)
    (Cert.AdamInRefIdeal.Value.run m ρ),
  fun m ρ _ => Cert.AdamAda.Gen.frame m ρ,
  fun m ρ _ => Cert.AdamAdaIdeal.Gen.frame m ρ,
  fun m ρ _ => (θ_run _ _ _).mono (fun r h => ⟨fun c => (h c).2.2.2, sem_eq_zero_of_no_sems (by decide) r.2⟩)
    (Cert.AdamAdaRefIdeal.Value.run m ρ),
  fun m ρ _ => Cert.AdamOut.Gen.frame m ρ,
  fun m ρ _ => Cert.AdamOutIdeal.Gen.frame m ρ,
  fun m ρ _ => (θ_run _ _ _).mono (fun r h => ⟨fun c => (h c).2.2.2, sem_eq_zero_of_no_sems (by decide) r.2⟩)
    (Cert.AdamOutRefIdeal.Value.run m ρ),
  Cert.AdamSmallIdeal.Small.frame_bits, Cert.AdamSmallIdeal.Small.frame_ideal,
  fun m ρ _ => (θ_run _ _ _).mono (fun r h => ⟨fun c => (h c).2.2.2.2.2.2.2.2.2.2.2.2.2.2.2.2.2.2.2.2.2.2.2.2.2.2.2, sem_eq_zero_of_no_sems (by decide) r.2⟩)
    (Cert.AdamSmallRefIdeal.Value.run m ρ),
  trivial, ctx,
  trivial, dh,
  trivial, out,
  trivial, dw,
  trivial, ctxFwd,
  trivial, reduce,
  trivial, adamIn,
  trivial, adamAda,
  trivial, adamOut,
  trivial, Cert.AdamSmallIdeal.Small.equal⟩

end Cert.Proof

end
